-- ==== Defs.lean ====
def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_BKernel (m : (ℓ : Loc Cert.BKernel.nD Cert.BKernel.τ Cert.BKernel.sig) → Buf (Elt Bits) ℓ) : Prop :=
  True

def Pre_BKernelIdeal (m : (ℓ : Loc Cert.BKernelIdeal.nD Cert.BKernelIdeal.τ Cert.BKernelIdeal.sig) → Buf (Elt Ideal) ℓ) : Prop :=
  True

def Pre_BKernelIdeal_b_finite [hPre_b_finite : Cert.Pre_b_finite.Facts] (m : (ℓ : Loc Cert.BKernelIdeal.nD Cert.BKernelIdeal.τ Cert.BKernelIdeal.sig) → Buf (Elt Ideal) ℓ) : Prop :=
  ∀ c : Dev Cert.BKernelIdeal.nD,
    (Cert.Pre_b_finite.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3)) (m ((c.tc : Thread Cert.BKernelIdeal.nD Cert.BKernelIdeal.τ).loc Cert.BKernelIdeal.main_arg4)) (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6))).1 = (fun _ => 1#1)
    ∧ (Cert.Pre_b_finite.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3)) (m ((c.tc : Thread Cert.BKernelIdeal.nD Cert.BKernelIdeal.τ).loc Cert.BKernelIdeal.main_arg4)) (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6))).2.1 = (fun _ => 1#1)
    ∧ (Cert.Pre_b_finite.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3)) (m ((c.tc : Thread Cert.BKernelIdeal.nD Cert.BKernelIdeal.τ).loc Cert.BKernelIdeal.main_arg4)) (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6))).2.2.1 = (fun _ => 1#1)
    ∧ (Cert.Pre_b_finite.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3)) (m ((c.tc : Thread Cert.BKernelIdeal.nD Cert.BKernelIdeal.τ).loc Cert.BKernelIdeal.main_arg4)) (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6))).2.2.2.1 = (fun _ => 1#1)
    ∧ (Cert.Pre_b_finite.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3)) (m ((c.tc : Thread Cert.BKernelIdeal.nD Cert.BKernelIdeal.τ).loc Cert.BKernelIdeal.main_arg4)) (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6))).2.2.2.2.1 = (fun _ => 1#1)
    ∧ (Cert.Pre_b_finite.fn (F := Ideal) (m ((c.tc : Thread Cert.BKernelIdeal.nD Cert.BKernelIdeal.τ).loc Cert.BKernelIdeal.main_arg0)) (m ((c.tc : Thread Cert.BKernelIdeal.nD Cert.BKernelIdeal.τ).loc Cert.BKernelIdeal.main_arg1)) (m ((c.tc : Thread Cert.BKernelIdeal.nD Cert.BKernelIdeal.τ).loc Cert.BKernelIdeal.main_arg2)) (m ((c.tc : Thread Cert.BKernelIdeal.nD Cert.BKernelIdeal.τ).loc Cert.BKernelIdeal.main_arg3)) (m ((c.tc : Thread Cert.BKernelIdeal.nD Cert.BKernelIdeal.τ).loc Cert.BKernelIdeal.main_arg4)) (m ((c.tc : Thread Cert.BKernelIdeal.nD Cert.BKernelIdeal.τ).loc Cert.BKernelIdeal.main_arg5)) (m ((c.tc : Thread Cert.BKernelIdeal.nD Cert.BKernelIdeal.τ).loc Cert.BKernelIdeal.main_arg6))).2.2.2.2.2 = (fun _ => 1#1)

def Pre_BReferenceIdeal (m : (ℓ : Loc Cert.BReferenceIdeal.nD Cert.BReferenceIdeal.τ Cert.BReferenceIdeal.sig) → Buf (Elt Ideal) ℓ) : Prop :=
  True

def Pre_BReferenceIdeal_b_finite [hPre_b_finite : Cert.Pre_b_finite.Facts] (m : (ℓ : Loc Cert.BReferenceIdeal.nD Cert.BReferenceIdeal.τ Cert.BReferenceIdeal.sig) → Buf (Elt Ideal) ℓ) : Prop :=
  ∀ c : Dev Cert.BReferenceIdeal.nD,
    (Cert.Pre_b_finite.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3)) (m ((c.tc : Thread Cert.BReferenceIdeal.nD Cert.BReferenceIdeal.τ).loc Cert.BReferenceIdeal.main_arg4)) (m ((c.tc : Thread Cert.BReferenceIdeal.nD Cert.BReferenceIdeal.τ).loc Cert.BReferenceIdeal.main_arg5)) (m ((c.tc : Thread Cert.BReferenceIdeal.nD Cert.BReferenceIdeal.τ).loc Cert.BReferenceIdeal.main_arg6))).1 = (fun _ => 1#1)
    ∧ (Cert.Pre_b_finite.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3)) (m ((c.tc : Thread Cert.BReferenceIdeal.nD Cert.BReferenceIdeal.τ).loc Cert.BReferenceIdeal.main_arg4)) (m ((c.tc : Thread Cert.BReferenceIdeal.nD Cert.BReferenceIdeal.τ).loc Cert.BReferenceIdeal.main_arg5)) (m ((c.tc : Thread Cert.BReferenceIdeal.nD Cert.BReferenceIdeal.τ).loc Cert.BReferenceIdeal.main_arg6))).2.1 = (fun _ => 1#1)
    ∧ (Cert.Pre_b_finite.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3)) (m ((c.tc : Thread Cert.BReferenceIdeal.nD Cert.BReferenceIdeal.τ).loc Cert.BReferenceIdeal.main_arg4)) (m ((c.tc : Thread Cert.BReferenceIdeal.nD Cert.BReferenceIdeal.τ).loc Cert.BReferenceIdeal.main_arg5)) (m ((c.tc : Thread Cert.BReferenceIdeal.nD Cert.BReferenceIdeal.τ).loc Cert.BReferenceIdeal.main_arg6))).2.2.1 = (fun _ => 1#1)
    ∧ (Cert.Pre_b_finite.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3)) (m ((c.tc : Thread Cert.BReferenceIdeal.nD Cert.BReferenceIdeal.τ).loc Cert.BReferenceIdeal.main_arg4)) (m ((c.tc : Thread Cert.BReferenceIdeal.nD Cert.BReferenceIdeal.τ).loc Cert.BReferenceIdeal.main_arg5)) (m ((c.tc : Thread Cert.BReferenceIdeal.nD Cert.BReferenceIdeal.τ).loc Cert.BReferenceIdeal.main_arg6))).2.2.2.1 = (fun _ => 1#1)
    ∧ (Cert.Pre_b_finite.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3)) (m ((c.tc : Thread Cert.BReferenceIdeal.nD Cert.BReferenceIdeal.τ).loc Cert.BReferenceIdeal.main_arg4)) (m ((c.tc : Thread Cert.BReferenceIdeal.nD Cert.BReferenceIdeal.τ).loc Cert.BReferenceIdeal.main_arg5)) (m ((c.tc : Thread Cert.BReferenceIdeal.nD Cert.BReferenceIdeal.τ).loc Cert.BReferenceIdeal.main_arg6))).2.2.2.2.1 = (fun _ => 1#1)
    ∧ (Cert.Pre_b_finite.fn (F := Ideal) (m ((c.tc : Thread Cert.BReferenceIdeal.nD Cert.BReferenceIdeal.τ).loc Cert.BReferenceIdeal.main_arg0)) (m ((c.tc : Thread Cert.BReferenceIdeal.nD Cert.BReferenceIdeal.τ).loc Cert.BReferenceIdeal.main_arg1)) (m ((c.tc : Thread Cert.BReferenceIdeal.nD Cert.BReferenceIdeal.τ).loc Cert.BReferenceIdeal.main_arg2)) (m ((c.tc : Thread Cert.BReferenceIdeal.nD Cert.BReferenceIdeal.τ).loc Cert.BReferenceIdeal.main_arg3)) (m ((c.tc : Thread Cert.BReferenceIdeal.nD Cert.BReferenceIdeal.τ).loc Cert.BReferenceIdeal.main_arg4)) (m ((c.tc : Thread Cert.BReferenceIdeal.nD Cert.BReferenceIdeal.τ).loc Cert.BReferenceIdeal.main_arg5)) (m ((c.tc : Thread Cert.BReferenceIdeal.nD Cert.BReferenceIdeal.τ).loc Cert.BReferenceIdeal.main_arg6))).2.2.2.2.2 = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_BfKernel (m : (ℓ : Loc Cert.BfKernel.nD Cert.BfKernel.τ Cert.BfKernel.sig) → Buf (Elt Bits) ℓ) : Prop :=
  True

def Pre_BfKernelIdeal (m : (ℓ : Loc Cert.BfKernelIdeal.nD Cert.BfKernelIdeal.τ Cert.BfKernelIdeal.sig) → Buf (Elt Ideal) ℓ) : Prop :=
  True

def Pre_BfReferenceIdeal (m : (ℓ : Loc Cert.BfReferenceIdeal.nD Cert.BfReferenceIdeal.τ Cert.BfReferenceIdeal.sig) → Buf (Elt Ideal) ℓ) : Prop :=
  True

def Pre_AbKernel (m : (ℓ : Loc Cert.AbKernel.nD Cert.AbKernel.τ Cert.AbKernel.sig) → Buf (Elt Bits) ℓ) : Prop :=
  True

def Pre_AbKernelIdeal (m : (ℓ : Loc Cert.AbKernelIdeal.nD Cert.AbKernelIdeal.τ Cert.AbKernelIdeal.sig) → Buf (Elt Ideal) ℓ) : Prop :=
  True

def Pre_AbKernelIdeal_a_finite [hPre_a_finite : Cert.Pre_a_finite.Facts] (m : (ℓ : Loc Cert.AbKernelIdeal.nD Cert.AbKernelIdeal.τ Cert.AbKernelIdeal.sig) → Buf (Elt Ideal) ℓ) : Prop :=
  ∀ c : Dev Cert.AbKernelIdeal.nD,
    (Cert.Pre_a_finite.fn (F := Ideal) (m ((c.tc : Thread Cert.AbKernelIdeal.nD Cert.AbKernelIdeal.τ).loc Cert.AbKernelIdeal.main_arg0)) (m ((c.tc : Thread Cert.AbKernelIdeal.nD Cert.AbKernelIdeal.τ).loc Cert.AbKernelIdeal.main_arg1)) (m ((c.tc : Thread Cert.AbKernelIdeal.nD Cert.AbKernelIdeal.τ).loc Cert.AbKernelIdeal.main_arg2)) (m ((c.tc : Thread Cert.AbKernelIdeal.nD Cert.AbKernelIdeal.τ).loc Cert.AbKernelIdeal.main_arg3)) (m ((c.tc : Thread Cert.AbKernelIdeal.nD Cert.AbKernelIdeal.τ).loc Cert.AbKernelIdeal.main_arg4)) (m ((c.tc : Thread Cert.AbKernelIdeal.nD Cert.AbKernelIdeal.τ).loc Cert.AbKernelIdeal.main_arg5)) (m ((c.tc : Thread Cert.AbKernelIdeal.nD Cert.AbKernelIdeal.τ).loc Cert.AbKernelIdeal.main_arg6))).1 = (fun _ => 1#1)
    ∧ (Cert.Pre_a_finite.fn (F := Ideal) (m ((c.tc : Thread Cert.AbKernelIdeal.nD Cert.AbKernelIdeal.τ).loc Cert.AbKernelIdeal.main_arg0)) (m ((c.tc : Thread Cert.AbKernelIdeal.nD Cert.AbKernelIdeal.τ).loc Cert.AbKernelIdeal.main_arg1)) (m ((c.tc : Thread Cert.AbKernelIdeal.nD Cert.AbKernelIdeal.τ).loc Cert.AbKernelIdeal.main_arg2)) (m ((c.tc : Thread Cert.AbKernelIdeal.nD Cert.AbKernelIdeal.τ).loc Cert.AbKernelIdeal.main_arg3)) (m ((c.tc : Thread Cert.AbKernelIdeal.nD Cert.AbKernelIdeal.τ).loc Cert.AbKernelIdeal.main_arg4)) (m ((c.tc : Thread Cert.AbKernelIdeal.nD Cert.AbKernelIdeal.τ).loc Cert.AbKernelIdeal.main_arg5)) (m ((c.tc : Thread Cert.AbKernelIdeal.nD Cert.AbKernelIdeal.τ).loc Cert.AbKernelIdeal.main_arg6))).2.1 = (fun _ => 1#1)
    ∧ (Cert.Pre_a_finite.fn (F := Ideal) (m ((c.tc : Thread Cert.AbKernelIdeal.nD Cert.AbKernelIdeal.τ).loc Cert.AbKernelIdeal.main_arg0)) (m ((c.tc : Thread Cert.AbKernelIdeal.nD Cert.AbKernelIdeal.τ).loc Cert.AbKernelIdeal.main_arg1)) (m ((c.tc : Thread Cert.AbKernelIdeal.nD Cert.AbKernelIdeal.τ).loc Cert.AbKernelIdeal.main_arg2)) (m ((c.tc : Thread Cert.AbKernelIdeal.nD Cert.AbKernelIdeal.τ).loc Cert.AbKernelIdeal.main_arg3)) (m ((c.tc : Thread Cert.AbKernelIdeal.nD Cert.AbKernelIdeal.τ).loc Cert.AbKernelIdeal.main_arg4)) (m ((c.tc : Thread Cert.AbKernelIdeal.nD Cert.AbKernelIdeal.τ).loc Cert.AbKernelIdeal.main_arg5)) (m ((c.tc : Thread Cert.AbKernelIdeal.nD Cert.AbKernelIdeal.τ).loc Cert.AbKernelIdeal.main_arg6))).2.2.1 = (fun _ => 1#1)
    ∧ (Cert.Pre_a_finite.fn (F := Ideal) (m ((c.tc : Thread Cert.AbKernelIdeal.nD Cert.AbKernelIdeal.τ).loc Cert.AbKernelIdeal.main_arg0)) (m ((c.tc : Thread Cert.AbKernelIdeal.nD Cert.AbKernelIdeal.τ).loc Cert.AbKernelIdeal.main_arg1)) (m ((c.tc : Thread Cert.AbKernelIdeal.nD Cert.AbKernelIdeal.τ).loc Cert.AbKernelIdeal.main_arg2)) (m ((c.tc : Thread Cert.AbKernelIdeal.nD Cert.AbKernelIdeal.τ).loc Cert.AbKernelIdeal.main_arg3)) (m ((c.tc : Thread Cert.AbKernelIdeal.nD Cert.AbKernelIdeal.τ).loc Cert.AbKernelIdeal.main_arg4)) (m ((c.tc : Thread Cert.AbKernelIdeal.nD Cert.AbKernelIdeal.τ).loc Cert.AbKernelIdeal.main_arg5)) (m ((c.tc : Thread Cert.AbKernelIdeal.nD Cert.AbKernelIdeal.τ).loc Cert.AbKernelIdeal.main_arg6))).2.2.2.1 = (fun _ => 1#1)
    ∧ (Cert.Pre_a_finite.fn (F := Ideal) (m ((c.tc : Thread Cert.AbKernelIdeal.nD Cert.AbKernelIdeal.τ).loc Cert.AbKernelIdeal.main_arg0)) (m ((c.tc : Thread Cert.AbKernelIdeal.nD Cert.AbKernelIdeal.τ).loc Cert.AbKernelIdeal.main_arg1)) (m ((c.tc : Thread Cert.AbKernelIdeal.nD Cert.AbKernelIdeal.τ).loc Cert.AbKernelIdeal.main_arg2)) (m ((c.tc : Thread Cert.AbKernelIdeal.nD Cert.AbKernelIdeal.τ).loc Cert.AbKernelIdeal.main_arg3)) (m ((c.tc : Thread Cert.AbKernelIdeal.nD Cert.AbKernelIdeal.τ).loc Cert.AbKernelIdeal.main_arg4)) (m ((c.tc : Thread Cert.AbKernelIdeal.nD Cert.AbKernelIdeal.τ).loc Cert.AbKernelIdeal.main_arg5)) (m ((c.tc : Thread Cert.AbKernelIdeal.nD Cert.AbKernelIdeal.τ).loc Cert.AbKernelIdeal.main_arg6))).2.2.2.2.1 = (fun _ => 1#1)
    ∧ (Cert.Pre_a_finite.fn (F := Ideal) (m ((c.tc : Thread Cert.AbKernelIdeal.nD Cert.AbKernelIdeal.τ).loc Cert.AbKernelIdeal.main_arg0)) (m ((c.tc : Thread Cert.AbKernelIdeal.nD Cert.AbKernelIdeal.τ).loc Cert.AbKernelIdeal.main_arg1)) (m ((c.tc : Thread Cert.AbKernelIdeal.nD Cert.AbKernelIdeal.τ).loc Cert.AbKernelIdeal.main_arg2)) (m ((c.tc : Thread Cert.AbKernelIdeal.nD Cert.AbKernelIdeal.τ).loc Cert.AbKernelIdeal.main_arg3)) (m ((c.tc : Thread Cert.AbKernelIdeal.nD Cert.AbKernelIdeal.τ).loc Cert.AbKernelIdeal.main_arg4)) (m ((c.tc : Thread Cert.AbKernelIdeal.nD Cert.AbKernelIdeal.τ).loc Cert.AbKernelIdeal.main_arg5)) (m ((c.tc : Thread Cert.AbKernelIdeal.nD Cert.AbKernelIdeal.τ).loc Cert.AbKernelIdeal.main_arg6))).2.2.2.2.2 = (fun _ => 1#1)

def Pre_AbReferenceIdeal (m : (ℓ : Loc Cert.AbReferenceIdeal.nD Cert.AbReferenceIdeal.τ Cert.AbReferenceIdeal.sig) → Buf (Elt Ideal) ℓ) : Prop :=
  True

def Pre_AbReferenceIdeal_a_finite [hPre_a_finite : Cert.Pre_a_finite.Facts] (m : (ℓ : Loc Cert.AbReferenceIdeal.nD Cert.AbReferenceIdeal.τ Cert.AbReferenceIdeal.sig) → Buf (Elt Ideal) ℓ) : Prop :=
  ∀ c : Dev Cert.AbReferenceIdeal.nD,
    (Cert.Pre_a_finite.fn (F := Ideal) (m ((c.tc : Thread Cert.AbReferenceIdeal.nD Cert.AbReferenceIdeal.τ).loc Cert.AbReferenceIdeal.main_arg0)) (m ((c.tc : Thread Cert.AbReferenceIdeal.nD Cert.AbReferenceIdeal.τ).loc Cert.AbReferenceIdeal.main_arg1)) (m ((c.tc : Thread Cert.AbReferenceIdeal.nD Cert.AbReferenceIdeal.τ).loc Cert.AbReferenceIdeal.main_arg2)) (m ((c.tc : Thread Cert.AbReferenceIdeal.nD Cert.AbReferenceIdeal.τ).loc Cert.AbReferenceIdeal.main_arg3)) (m ((c.tc : Thread Cert.AbReferenceIdeal.nD Cert.AbReferenceIdeal.τ).loc Cert.AbReferenceIdeal.main_arg4)) (m ((c.tc : Thread Cert.AbReferenceIdeal.nD Cert.AbReferenceIdeal.τ).loc Cert.AbReferenceIdeal.main_arg5)) (m ((c.tc : Thread Cert.AbReferenceIdeal.nD Cert.AbReferenceIdeal.τ).loc Cert.AbReferenceIdeal.main_arg6))).1 = (fun _ => 1#1)
    ∧ (Cert.Pre_a_finite.fn (F := Ideal) (m ((c.tc : Thread Cert.AbReferenceIdeal.nD Cert.AbReferenceIdeal.τ).loc Cert.AbReferenceIdeal.main_arg0)) (m ((c.tc : Thread Cert.AbReferenceIdeal.nD Cert.AbReferenceIdeal.τ).loc Cert.AbReferenceIdeal.main_arg1)) (m ((c.tc : Thread Cert.AbReferenceIdeal.nD Cert.AbReferenceIdeal.τ).loc Cert.AbReferenceIdeal.main_arg2)) (m ((c.tc : Thread Cert.AbReferenceIdeal.nD Cert.AbReferenceIdeal.τ).loc Cert.AbReferenceIdeal.main_arg3)) (m ((c.tc : Thread Cert.AbReferenceIdeal.nD Cert.AbReferenceIdeal.τ).loc Cert.AbReferenceIdeal.main_arg4)) (m ((c.tc : Thread Cert.AbReferenceIdeal.nD Cert.AbReferenceIdeal.τ).loc Cert.AbReferenceIdeal.main_arg5)) (m ((c.tc : Thread Cert.AbReferenceIdeal.nD Cert.AbReferenceIdeal.τ).loc Cert.AbReferenceIdeal.main_arg6))).2.1 = (fun _ => 1#1)
    ∧ (Cert.Pre_a_finite.fn (F := Ideal) (m ((c.tc : Thread Cert.AbReferenceIdeal.nD Cert.AbReferenceIdeal.τ).loc Cert.AbReferenceIdeal.main_arg0)) (m ((c.tc : Thread Cert.AbReferenceIdeal.nD Cert.AbReferenceIdeal.τ).loc Cert.AbReferenceIdeal.main_arg1)) (m ((c.tc : Thread Cert.AbReferenceIdeal.nD Cert.AbReferenceIdeal.τ).loc Cert.AbReferenceIdeal.main_arg2)) (m ((c.tc : Thread Cert.AbReferenceIdeal.nD Cert.AbReferenceIdeal.τ).loc Cert.AbReferenceIdeal.main_arg3)) (m ((c.tc : Thread Cert.AbReferenceIdeal.nD Cert.AbReferenceIdeal.τ).loc Cert.AbReferenceIdeal.main_arg4)) (m ((c.tc : Thread Cert.AbReferenceIdeal.nD Cert.AbReferenceIdeal.τ).loc Cert.AbReferenceIdeal.main_arg5)) (m ((c.tc : Thread Cert.AbReferenceIdeal.nD Cert.AbReferenceIdeal.τ).loc Cert.AbReferenceIdeal.main_arg6))).2.2.1 = (fun _ => 1#1)
    ∧ (Cert.Pre_a_finite.fn (F := Ideal) (m ((c.tc : Thread Cert.AbReferenceIdeal.nD Cert.AbReferenceIdeal.τ).loc Cert.AbReferenceIdeal.main_arg0)) (m ((c.tc : Thread Cert.AbReferenceIdeal.nD Cert.AbReferenceIdeal.τ).loc Cert.AbReferenceIdeal.main_arg1)) (m ((c.tc : Thread Cert.AbReferenceIdeal.nD Cert.AbReferenceIdeal.τ).loc Cert.AbReferenceIdeal.main_arg2)) (m ((c.tc : Thread Cert.AbReferenceIdeal.nD Cert.AbReferenceIdeal.τ).loc Cert.AbReferenceIdeal.main_arg3)) (m ((c.tc : Thread Cert.AbReferenceIdeal.nD Cert.AbReferenceIdeal.τ).loc Cert.AbReferenceIdeal.main_arg4)) (m ((c.tc : Thread Cert.AbReferenceIdeal.nD Cert.AbReferenceIdeal.τ).loc Cert.AbReferenceIdeal.main_arg5)) (m ((c.tc : Thread Cert.AbReferenceIdeal.nD Cert.AbReferenceIdeal.τ).loc Cert.AbReferenceIdeal.main_arg6))).2.2.2.1 = (fun _ => 1#1)
    ∧ (Cert.Pre_a_finite.fn (F := Ideal) (m ((c.tc : Thread Cert.AbReferenceIdeal.nD Cert.AbReferenceIdeal.τ).loc Cert.AbReferenceIdeal.main_arg0)) (m ((c.tc : Thread Cert.AbReferenceIdeal.nD Cert.AbReferenceIdeal.τ).loc Cert.AbReferenceIdeal.main_arg1)) (m ((c.tc : Thread Cert.AbReferenceIdeal.nD Cert.AbReferenceIdeal.τ).loc Cert.AbReferenceIdeal.main_arg2)) (m ((c.tc : Thread Cert.AbReferenceIdeal.nD Cert.AbReferenceIdeal.τ).loc Cert.AbReferenceIdeal.main_arg3)) (m ((c.tc : Thread Cert.AbReferenceIdeal.nD Cert.AbReferenceIdeal.τ).loc Cert.AbReferenceIdeal.main_arg4)) (m ((c.tc : Thread Cert.AbReferenceIdeal.nD Cert.AbReferenceIdeal.τ).loc Cert.AbReferenceIdeal.main_arg5)) (m ((c.tc : Thread Cert.AbReferenceIdeal.nD Cert.AbReferenceIdeal.τ).loc Cert.AbReferenceIdeal.main_arg6))).2.2.2.2.1 = (fun _ => 1#1)
    ∧ (Cert.Pre_a_finite.fn (F := Ideal) (m ((c.tc : Thread Cert.AbReferenceIdeal.nD Cert.AbReferenceIdeal.τ).loc Cert.AbReferenceIdeal.main_arg0)) (m ((c.tc : Thread Cert.AbReferenceIdeal.nD Cert.AbReferenceIdeal.τ).loc Cert.AbReferenceIdeal.main_arg1)) (m ((c.tc : Thread Cert.AbReferenceIdeal.nD Cert.AbReferenceIdeal.τ).loc Cert.AbReferenceIdeal.main_arg2)) (m ((c.tc : Thread Cert.AbReferenceIdeal.nD Cert.AbReferenceIdeal.τ).loc Cert.AbReferenceIdeal.main_arg3)) (m ((c.tc : Thread Cert.AbReferenceIdeal.nD Cert.AbReferenceIdeal.τ).loc Cert.AbReferenceIdeal.main_arg4)) (m ((c.tc : Thread Cert.AbReferenceIdeal.nD Cert.AbReferenceIdeal.τ).loc Cert.AbReferenceIdeal.main_arg5)) (m ((c.tc : Thread Cert.AbReferenceIdeal.nD Cert.AbReferenceIdeal.τ).loc Cert.AbReferenceIdeal.main_arg6))).2.2.2.2.2 = (fun _ => 1#1)

def Pre_AfKernel (m : (ℓ : Loc Cert.AfKernel.nD Cert.AfKernel.τ Cert.AfKernel.sig) → Buf (Elt Bits) ℓ) : Prop :=
  True

def Pre_AfKernelIdeal (m : (ℓ : Loc Cert.AfKernelIdeal.nD Cert.AfKernelIdeal.τ Cert.AfKernelIdeal.sig) → Buf (Elt Ideal) ℓ) : Prop :=
  True

def Pre_AfReferenceIdeal (m : (ℓ : Loc Cert.AfReferenceIdeal.nD Cert.AfReferenceIdeal.τ Cert.AfReferenceIdeal.sig) → Buf (Elt Ideal) ℓ) : Prop :=
  True

def Pre_IfKernel (m : (ℓ : Loc Cert.IfKernel.nD Cert.IfKernel.τ Cert.IfKernel.sig) → Buf (Elt Bits) ℓ) : Prop :=
  True

def Pre_IfKernelIdeal (m : (ℓ : Loc Cert.IfKernelIdeal.nD Cert.IfKernelIdeal.τ Cert.IfKernelIdeal.sig) → Buf (Elt Ideal) ℓ) : Prop :=
  True

def Pre_IfReferenceIdeal (m : (ℓ : Loc Cert.IfReferenceIdeal.nD Cert.IfReferenceIdeal.τ Cert.IfReferenceIdeal.sig) → Buf (Elt Ideal) ℓ) : Prop :=
  True

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6))
      ∧ r.2.sem = fun _ => 0)

def quiescent_BKernel [hBKernel : Cert.BKernel.Facts] : Prop :=
  ∀ (m : (ℓ : Loc Cert.BKernel.nD Cert.BKernel.τ Cert.BKernel.sig) → Buf (Elt Bits) ℓ) (g : Dev Cert.BKernel.nD → PrngReg), Pre_BKernel m →
    θ_run (Cert.BKernel.defs (F := Bits)) (onTc (τ := Cert.BKernel.τ) (Cert.BKernel.main (F := Bits))) ⟨m, fun _ => 0, g⟩ (fun r => (∀ c : Dev Cert.BKernel.nD,
      r.2.mem ((c.tc : Thread Cert.BKernel.nD Cert.BKernel.τ).loc Cert.BKernel.main_arg0) = m ((c.tc : Thread Cert.BKernel.nD Cert.BKernel.τ).loc Cert.BKernel.main_arg0)
      ∧ r.2.mem ((c.tc : Thread Cert.BKernel.nD Cert.BKernel.τ).loc Cert.BKernel.main_arg1) = m ((c.tc : Thread Cert.BKernel.nD Cert.BKernel.τ).loc Cert.BKernel.main_arg1)
      ∧ r.2.mem ((c.tc : Thread Cert.BKernel.nD Cert.BKernel.τ).loc Cert.BKernel.main_arg2) = m ((c.tc : Thread Cert.BKernel.nD Cert.BKernel.τ).loc Cert.BKernel.main_arg2)
      ∧ r.2.mem ((c.tc : Thread Cert.BKernel.nD Cert.BKernel.τ).loc Cert.BKernel.main_arg3) = m ((c.tc : Thread Cert.BKernel.nD Cert.BKernel.τ).loc Cert.BKernel.main_arg3)
      ∧ r.2.mem ((c.tc : Thread Cert.BKernel.nD Cert.BKernel.τ).loc Cert.BKernel.main_arg4) = m ((c.tc : Thread Cert.BKernel.nD Cert.BKernel.τ).loc Cert.BKernel.main_arg4)
      ∧ r.2.mem ((c.tc : Thread Cert.BKernel.nD Cert.BKernel.τ).loc Cert.BKernel.main_arg5) = m ((c.tc : Thread Cert.BKernel.nD Cert.BKernel.τ).loc Cert.BKernel.main_arg5)
      ∧ r.2.mem ((c.tc : Thread Cert.BKernel.nD Cert.BKernel.τ).loc Cert.BKernel.main_arg6) = m ((c.tc : Thread Cert.BKernel.nD Cert.BKernel.τ).loc Cert.BKernel.main_arg6))
      ∧ r.2.sem = fun _ => 0)

def quiescent_BKernelIdeal [hBKernelIdeal : Cert.BKernelIdeal.Facts] : Prop :=
  ∀ (m : (ℓ : Loc Cert.BKernelIdeal.nD Cert.BKernelIdeal.τ Cert.BKernelIdeal.sig) → Buf (Elt Ideal) ℓ) (g : Dev Cert.BKernelIdeal.nD → PrngReg), Pre_BKernelIdeal m →
    θ_run (Cert.BKernelIdeal.defs (F := Ideal)) (onTc (τ := Cert.BKernelIdeal.τ) (Cert.BKernelIdeal.main (F := Ideal))) ⟨m, fun _ => 0, g⟩ (fun r => (∀ c : Dev Cert.BKernelIdeal.nD,
      r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
      ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
      ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
      ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3)
      ∧ r.2.mem ((c.tc : Thread Cert.BKernelIdeal.nD Cert.BKernelIdeal.τ).loc Cert.BKernelIdeal.main_arg4) = m ((c.tc : Thread Cert.BKernelIdeal.nD Cert.BKernelIdeal.τ).loc Cert.BKernelIdeal.main_arg4)
      ∧ r.2.mem ((c.tc : Thread Cert.BKernelIdeal.nD Cert.BKernelIdeal.τ).loc Cert.BKernelIdeal.main_arg5) = m ((c.tc : Thread Cert.BKernelIdeal.nD Cert.BKernelIdeal.τ).loc Cert.BKernelIdeal.main_arg5)
      ∧ r.2.mem ((c.tc : Thread Cert.BKernelIdeal.nD Cert.BKernelIdeal.τ).loc Cert.BKernelIdeal.main_arg6) = m ((c.tc : Thread Cert.BKernelIdeal.nD Cert.BKernelIdeal.τ).loc Cert.BKernelIdeal.main_arg6))
      ∧ r.2.sem = fun _ => 0)

def quiescent_BKernelIdeal_pre_b_finite [hBKernelIdeal : Cert.BKernelIdeal.Facts] [hPre_b_finite : Cert.Pre_b_finite.Facts] : Prop :=
  ∀ (m : (ℓ : Loc Cert.BKernelIdeal.nD Cert.BKernelIdeal.τ Cert.BKernelIdeal.sig) → Buf (Elt Ideal) ℓ) (g : Dev Cert.BKernelIdeal.nD → PrngReg), Pre_BKernelIdeal_b_finite m →
    θ_run (Cert.BKernelIdeal.defs (F := Ideal)) (onTc (τ := Cert.BKernelIdeal.τ) (Cert.BKernelIdeal.main (F := Ideal))) ⟨m, fun _ => 0, g⟩ (fun r => (∀ c : Dev Cert.BKernelIdeal.nD,
      r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
      ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
      ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
      ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3)
      ∧ r.2.mem ((c.tc : Thread Cert.BKernelIdeal.nD Cert.BKernelIdeal.τ).loc Cert.BKernelIdeal.main_arg4) = m ((c.tc : Thread Cert.BKernelIdeal.nD Cert.BKernelIdeal.τ).loc Cert.BKernelIdeal.main_arg4)
      ∧ r.2.mem ((c.tc : Thread Cert.BKernelIdeal.nD Cert.BKernelIdeal.τ).loc Cert.BKernelIdeal.main_arg5) = m ((c.tc : Thread Cert.BKernelIdeal.nD Cert.BKernelIdeal.τ).loc Cert.BKernelIdeal.main_arg5)
      ∧ r.2.mem ((c.tc : Thread Cert.BKernelIdeal.nD Cert.BKernelIdeal.τ).loc Cert.BKernelIdeal.main_arg6) = m ((c.tc : Thread Cert.BKernelIdeal.nD Cert.BKernelIdeal.τ).loc Cert.BKernelIdeal.main_arg6))
      ∧ r.2.sem = fun _ => 0)

def quiescent_BReferenceIdeal [hBReferenceIdeal : Cert.BReferenceIdeal.Facts] : Prop :=
  ∀ (m : (ℓ : Loc Cert.BReferenceIdeal.nD Cert.BReferenceIdeal.τ Cert.BReferenceIdeal.sig) → Buf (Elt Ideal) ℓ) (g : Dev Cert.BReferenceIdeal.nD → PrngReg), Pre_BReferenceIdeal m →
    θ_run (Cert.BReferenceIdeal.defs (F := Ideal)) (onTc (τ := Cert.BReferenceIdeal.τ) (Cert.BReferenceIdeal.main (F := Ideal))) ⟨m, fun _ => 0, g⟩ (fun r => (∀ c : Dev Cert.BReferenceIdeal.nD,
      r.2.mem ((c.tc : Thread Cert.BReferenceIdeal.nD Cert.BReferenceIdeal.τ).loc Cert.BReferenceIdeal.main_arg0) = m ((c.tc : Thread Cert.BReferenceIdeal.nD Cert.BReferenceIdeal.τ).loc Cert.BReferenceIdeal.main_arg0)
      ∧ r.2.mem ((c.tc : Thread Cert.BReferenceIdeal.nD Cert.BReferenceIdeal.τ).loc Cert.BReferenceIdeal.main_arg1) = m ((c.tc : Thread Cert.BReferenceIdeal.nD Cert.BReferenceIdeal.τ).loc Cert.BReferenceIdeal.main_arg1)
      ∧ r.2.mem ((c.tc : Thread Cert.BReferenceIdeal.nD Cert.BReferenceIdeal.τ).loc Cert.BReferenceIdeal.main_arg2) = m ((c.tc : Thread Cert.BReferenceIdeal.nD Cert.BReferenceIdeal.τ).loc Cert.BReferenceIdeal.main_arg2)
      ∧ r.2.mem ((c.tc : Thread Cert.BReferenceIdeal.nD Cert.BReferenceIdeal.τ).loc Cert.BReferenceIdeal.main_arg3) = m ((c.tc : Thread Cert.BReferenceIdeal.nD Cert.BReferenceIdeal.τ).loc Cert.BReferenceIdeal.main_arg3)
      ∧ r.2.mem ((c.tc : Thread Cert.BReferenceIdeal.nD Cert.BReferenceIdeal.τ).loc Cert.BReferenceIdeal.main_arg4) = m ((c.tc : Thread Cert.BReferenceIdeal.nD Cert.BReferenceIdeal.τ).loc Cert.BReferenceIdeal.main_arg4)
      ∧ r.2.mem ((c.tc : Thread Cert.BReferenceIdeal.nD Cert.BReferenceIdeal.τ).loc Cert.BReferenceIdeal.main_arg5) = m ((c.tc : Thread Cert.BReferenceIdeal.nD Cert.BReferenceIdeal.τ).loc Cert.BReferenceIdeal.main_arg5)
      ∧ r.2.mem ((c.tc : Thread Cert.BReferenceIdeal.nD Cert.BReferenceIdeal.τ).loc Cert.BReferenceIdeal.main_arg6) = m ((c.tc : Thread Cert.BReferenceIdeal.nD Cert.BReferenceIdeal.τ).loc Cert.BReferenceIdeal.main_arg6))
      ∧ r.2.sem = fun _ => 0)

def quiescent_BReferenceIdeal_pre_b_finite [hBReferenceIdeal : Cert.BReferenceIdeal.Facts] [hPre_b_finite : Cert.Pre_b_finite.Facts] : Prop :=
  ∀ (m : (ℓ : Loc Cert.BReferenceIdeal.nD Cert.BReferenceIdeal.τ Cert.BReferenceIdeal.sig) → Buf (Elt Ideal) ℓ) (g : Dev Cert.BReferenceIdeal.nD → PrngReg), Pre_BReferenceIdeal_b_finite m →
    θ_run (Cert.BReferenceIdeal.defs (F := Ideal)) (onTc (τ := Cert.BReferenceIdeal.τ) (Cert.BReferenceIdeal.main (F := Ideal))) ⟨m, fun _ => 0, g⟩ (fun r => (∀ c : Dev Cert.BReferenceIdeal.nD,
      r.2.mem ((c.tc : Thread Cert.BReferenceIdeal.nD Cert.BReferenceIdeal.τ).loc Cert.BReferenceIdeal.main_arg0) = m ((c.tc : Thread Cert.BReferenceIdeal.nD Cert.BReferenceIdeal.τ).loc Cert.BReferenceIdeal.main_arg0)
      ∧ r.2.mem ((c.tc : Thread Cert.BReferenceIdeal.nD Cert.BReferenceIdeal.τ).loc Cert.BReferenceIdeal.main_arg1) = m ((c.tc : Thread Cert.BReferenceIdeal.nD Cert.BReferenceIdeal.τ).loc Cert.BReferenceIdeal.main_arg1)
      ∧ r.2.mem ((c.tc : Thread Cert.BReferenceIdeal.nD Cert.BReferenceIdeal.τ).loc Cert.BReferenceIdeal.main_arg2) = m ((c.tc : Thread Cert.BReferenceIdeal.nD Cert.BReferenceIdeal.τ).loc Cert.BReferenceIdeal.main_arg2)
      ∧ r.2.mem ((c.tc : Thread Cert.BReferenceIdeal.nD Cert.BReferenceIdeal.τ).loc Cert.BReferenceIdeal.main_arg3) = m ((c.tc : Thread Cert.BReferenceIdeal.nD Cert.BReferenceIdeal.τ).loc Cert.BReferenceIdeal.main_arg3)
      ∧ r.2.mem ((c.tc : Thread Cert.BReferenceIdeal.nD Cert.BReferenceIdeal.τ).loc Cert.BReferenceIdeal.main_arg4) = m ((c.tc : Thread Cert.BReferenceIdeal.nD Cert.BReferenceIdeal.τ).loc Cert.BReferenceIdeal.main_arg4)
      ∧ r.2.mem ((c.tc : Thread Cert.BReferenceIdeal.nD Cert.BReferenceIdeal.τ).loc Cert.BReferenceIdeal.main_arg5) = m ((c.tc : Thread Cert.BReferenceIdeal.nD Cert.BReferenceIdeal.τ).loc Cert.BReferenceIdeal.main_arg5)
      ∧ r.2.mem ((c.tc : Thread Cert.BReferenceIdeal.nD Cert.BReferenceIdeal.τ).loc Cert.BReferenceIdeal.main_arg6) = m ((c.tc : Thread Cert.BReferenceIdeal.nD Cert.BReferenceIdeal.τ).loc Cert.BReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_BfKernel [hBfKernel : Cert.BfKernel.Facts] : Prop :=
  ∀ (m : (ℓ : Loc Cert.BfKernel.nD Cert.BfKernel.τ Cert.BfKernel.sig) → Buf (Elt Bits) ℓ) (g : Dev Cert.BfKernel.nD → PrngReg), Pre_BfKernel m →
    θ_run (Cert.BfKernel.defs (F := Bits)) (onTc (τ := Cert.BfKernel.τ) (Cert.BfKernel.main (F := Bits))) ⟨m, fun _ => 0, g⟩ (fun r => (∀ c : Dev Cert.BfKernel.nD,
      r.2.mem ((c.tc : Thread Cert.BfKernel.nD Cert.BfKernel.τ).loc Cert.BfKernel.main_arg0) = m ((c.tc : Thread Cert.BfKernel.nD Cert.BfKernel.τ).loc Cert.BfKernel.main_arg0)
      ∧ r.2.mem ((c.tc : Thread Cert.BfKernel.nD Cert.BfKernel.τ).loc Cert.BfKernel.main_arg1) = m ((c.tc : Thread Cert.BfKernel.nD Cert.BfKernel.τ).loc Cert.BfKernel.main_arg1)
      ∧ r.2.mem ((c.tc : Thread Cert.BfKernel.nD Cert.BfKernel.τ).loc Cert.BfKernel.main_arg2) = m ((c.tc : Thread Cert.BfKernel.nD Cert.BfKernel.τ).loc Cert.BfKernel.main_arg2)
      ∧ r.2.mem ((c.tc : Thread Cert.BfKernel.nD Cert.BfKernel.τ).loc Cert.BfKernel.main_arg3) = m ((c.tc : Thread Cert.BfKernel.nD Cert.BfKernel.τ).loc Cert.BfKernel.main_arg3)
      ∧ r.2.mem ((c.tc : Thread Cert.BfKernel.nD Cert.BfKernel.τ).loc Cert.BfKernel.main_arg4) = m ((c.tc : Thread Cert.BfKernel.nD Cert.BfKernel.τ).loc Cert.BfKernel.main_arg4))
      ∧ r.2.sem = fun _ => 0)

def quiescent_BfKernelIdeal [hBfKernelIdeal : Cert.BfKernelIdeal.Facts] : Prop :=
  ∀ (m : (ℓ : Loc Cert.BfKernelIdeal.nD Cert.BfKernelIdeal.τ Cert.BfKernelIdeal.sig) → Buf (Elt Ideal) ℓ) (g : Dev Cert.BfKernelIdeal.nD → PrngReg), Pre_BfKernelIdeal m →
    θ_run (Cert.BfKernelIdeal.defs (F := Ideal)) (onTc (τ := Cert.BfKernelIdeal.τ) (Cert.BfKernelIdeal.main (F := Ideal))) ⟨m, fun _ => 0, g⟩ (fun r => (∀ c : Dev Cert.BfKernelIdeal.nD,
      r.2.mem ((c.tc : Thread Cert.BfKernelIdeal.nD Cert.BfKernelIdeal.τ).loc Cert.BfKernelIdeal.main_arg0) = m ((c.tc : Thread Cert.BfKernelIdeal.nD Cert.BfKernelIdeal.τ).loc Cert.BfKernelIdeal.main_arg0)
      ∧ r.2.mem ((c.tc : Thread Cert.BfKernelIdeal.nD Cert.BfKernelIdeal.τ).loc Cert.BfKernelIdeal.main_arg1) = m ((c.tc : Thread Cert.BfKernelIdeal.nD Cert.BfKernelIdeal.τ).loc Cert.BfKernelIdeal.main_arg1)
      ∧ r.2.mem ((c.tc : Thread Cert.BfKernelIdeal.nD Cert.BfKernelIdeal.τ).loc Cert.BfKernelIdeal.main_arg2) = m ((c.tc : Thread Cert.BfKernelIdeal.nD Cert.BfKernelIdeal.τ).loc Cert.BfKernelIdeal.main_arg2)
      ∧ r.2.mem ((c.tc : Thread Cert.BfKernelIdeal.nD Cert.BfKernelIdeal.τ).loc Cert.BfKernelIdeal.main_arg3) = m ((c.tc : Thread Cert.BfKernelIdeal.nD Cert.BfKernelIdeal.τ).loc Cert.BfKernelIdeal.main_arg3)
      ∧ r.2.mem ((c.tc : Thread Cert.BfKernelIdeal.nD Cert.BfKernelIdeal.τ).loc Cert.BfKernelIdeal.main_arg4) = m ((c.tc : Thread Cert.BfKernelIdeal.nD Cert.BfKernelIdeal.τ).loc Cert.BfKernelIdeal.main_arg4))
      ∧ r.2.sem = fun _ => 0)

def quiescent_BfReferenceIdeal [hBfReferenceIdeal : Cert.BfReferenceIdeal.Facts] : Prop :=
  ∀ (m : (ℓ : Loc Cert.BfReferenceIdeal.nD Cert.BfReferenceIdeal.τ Cert.BfReferenceIdeal.sig) → Buf (Elt Ideal) ℓ) (g : Dev Cert.BfReferenceIdeal.nD → PrngReg), Pre_BfReferenceIdeal m →
    θ_run (Cert.BfReferenceIdeal.defs (F := Ideal)) (onTc (τ := Cert.BfReferenceIdeal.τ) (Cert.BfReferenceIdeal.main (F := Ideal))) ⟨m, fun _ => 0, g⟩ (fun r => (∀ c : Dev Cert.BfReferenceIdeal.nD,
      r.2.mem ((c.tc : Thread Cert.BfReferenceIdeal.nD Cert.BfReferenceIdeal.τ).loc Cert.BfReferenceIdeal.main_arg0) = m ((c.tc : Thread Cert.BfReferenceIdeal.nD Cert.BfReferenceIdeal.τ).loc Cert.BfReferenceIdeal.main_arg0)
      ∧ r.2.mem ((c.tc : Thread Cert.BfReferenceIdeal.nD Cert.BfReferenceIdeal.τ).loc Cert.BfReferenceIdeal.main_arg1) = m ((c.tc : Thread Cert.BfReferenceIdeal.nD Cert.BfReferenceIdeal.τ).loc Cert.BfReferenceIdeal.main_arg1)
      ∧ r.2.mem ((c.tc : Thread Cert.BfReferenceIdeal.nD Cert.BfReferenceIdeal.τ).loc Cert.BfReferenceIdeal.main_arg2) = m ((c.tc : Thread Cert.BfReferenceIdeal.nD Cert.BfReferenceIdeal.τ).loc Cert.BfReferenceIdeal.main_arg2)
      ∧ r.2.mem ((c.tc : Thread Cert.BfReferenceIdeal.nD Cert.BfReferenceIdeal.τ).loc Cert.BfReferenceIdeal.main_arg3) = m ((c.tc : Thread Cert.BfReferenceIdeal.nD Cert.BfReferenceIdeal.τ).loc Cert.BfReferenceIdeal.main_arg3)
      ∧ r.2.mem ((c.tc : Thread Cert.BfReferenceIdeal.nD Cert.BfReferenceIdeal.τ).loc Cert.BfReferenceIdeal.main_arg4) = m ((c.tc : Thread Cert.BfReferenceIdeal.nD Cert.BfReferenceIdeal.τ).loc Cert.BfReferenceIdeal.main_arg4))
      ∧ r.2.sem = fun _ => 0)

def quiescent_AbKernel [hAbKernel : Cert.AbKernel.Facts] : Prop :=
  ∀ (m : (ℓ : Loc Cert.AbKernel.nD Cert.AbKernel.τ Cert.AbKernel.sig) → Buf (Elt Bits) ℓ) (g : Dev Cert.AbKernel.nD → PrngReg), Pre_AbKernel m →
    θ_run (Cert.AbKernel.defs (F := Bits)) (onTc (τ := Cert.AbKernel.τ) (Cert.AbKernel.main (F := Bits))) ⟨m, fun _ => 0, g⟩ (fun r => (∀ c : Dev Cert.AbKernel.nD,
      r.2.mem ((c.tc : Thread Cert.AbKernel.nD Cert.AbKernel.τ).loc Cert.AbKernel.main_arg0) = m ((c.tc : Thread Cert.AbKernel.nD Cert.AbKernel.τ).loc Cert.AbKernel.main_arg0)
      ∧ r.2.mem ((c.tc : Thread Cert.AbKernel.nD Cert.AbKernel.τ).loc Cert.AbKernel.main_arg1) = m ((c.tc : Thread Cert.AbKernel.nD Cert.AbKernel.τ).loc Cert.AbKernel.main_arg1)
      ∧ r.2.mem ((c.tc : Thread Cert.AbKernel.nD Cert.AbKernel.τ).loc Cert.AbKernel.main_arg2) = m ((c.tc : Thread Cert.AbKernel.nD Cert.AbKernel.τ).loc Cert.AbKernel.main_arg2)
      ∧ r.2.mem ((c.tc : Thread Cert.AbKernel.nD Cert.AbKernel.τ).loc Cert.AbKernel.main_arg3) = m ((c.tc : Thread Cert.AbKernel.nD Cert.AbKernel.τ).loc Cert.AbKernel.main_arg3)
      ∧ r.2.mem ((c.tc : Thread Cert.AbKernel.nD Cert.AbKernel.τ).loc Cert.AbKernel.main_arg4) = m ((c.tc : Thread Cert.AbKernel.nD Cert.AbKernel.τ).loc Cert.AbKernel.main_arg4)
      ∧ r.2.mem ((c.tc : Thread Cert.AbKernel.nD Cert.AbKernel.τ).loc Cert.AbKernel.main_arg5) = m ((c.tc : Thread Cert.AbKernel.nD Cert.AbKernel.τ).loc Cert.AbKernel.main_arg5)
      ∧ r.2.mem ((c.tc : Thread Cert.AbKernel.nD Cert.AbKernel.τ).loc Cert.AbKernel.main_arg6) = m ((c.tc : Thread Cert.AbKernel.nD Cert.AbKernel.τ).loc Cert.AbKernel.main_arg6))
      ∧ r.2.sem = fun _ => 0)

def quiescent_AbKernelIdeal [hAbKernelIdeal : Cert.AbKernelIdeal.Facts] : Prop :=
  ∀ (m : (ℓ : Loc Cert.AbKernelIdeal.nD Cert.AbKernelIdeal.τ Cert.AbKernelIdeal.sig) → Buf (Elt Ideal) ℓ) (g : Dev Cert.AbKernelIdeal.nD → PrngReg), Pre_AbKernelIdeal m →
    θ_run (Cert.AbKernelIdeal.defs (F := Ideal)) (onTc (τ := Cert.AbKernelIdeal.τ) (Cert.AbKernelIdeal.main (F := Ideal))) ⟨m, fun _ => 0, g⟩ (fun r => (∀ c : Dev Cert.AbKernelIdeal.nD,
      r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
      ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
      ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
      ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3)
      ∧ r.2.mem ((c.tc : Thread Cert.AbKernelIdeal.nD Cert.AbKernelIdeal.τ).loc Cert.AbKernelIdeal.main_arg4) = m ((c.tc : Thread Cert.AbKernelIdeal.nD Cert.AbKernelIdeal.τ).loc Cert.AbKernelIdeal.main_arg4)
      ∧ r.2.mem ((c.tc : Thread Cert.AbKernelIdeal.nD Cert.AbKernelIdeal.τ).loc Cert.AbKernelIdeal.main_arg5) = m ((c.tc : Thread Cert.AbKernelIdeal.nD Cert.AbKernelIdeal.τ).loc Cert.AbKernelIdeal.main_arg5)
      ∧ r.2.mem ((c.tc : Thread Cert.AbKernelIdeal.nD Cert.AbKernelIdeal.τ).loc Cert.AbKernelIdeal.main_arg6) = m ((c.tc : Thread Cert.AbKernelIdeal.nD Cert.AbKernelIdeal.τ).loc Cert.AbKernelIdeal.main_arg6))
      ∧ r.2.sem = fun _ => 0)

def quiescent_AbKernelIdeal_pre_a_finite [hAbKernelIdeal : Cert.AbKernelIdeal.Facts] [hPre_a_finite : Cert.Pre_a_finite.Facts] : Prop :=
  ∀ (m : (ℓ : Loc Cert.AbKernelIdeal.nD Cert.AbKernelIdeal.τ Cert.AbKernelIdeal.sig) → Buf (Elt Ideal) ℓ) (g : Dev Cert.AbKernelIdeal.nD → PrngReg), Pre_AbKernelIdeal_a_finite m →
    θ_run (Cert.AbKernelIdeal.defs (F := Ideal)) (onTc (τ := Cert.AbKernelIdeal.τ) (Cert.AbKernelIdeal.main (F := Ideal))) ⟨m, fun _ => 0, g⟩ (fun r => (∀ c : Dev Cert.AbKernelIdeal.nD,
      r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
      ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
      ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
      ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3)
      ∧ r.2.mem ((c.tc : Thread Cert.AbKernelIdeal.nD Cert.AbKernelIdeal.τ).loc Cert.AbKernelIdeal.main_arg4) = m ((c.tc : Thread Cert.AbKernelIdeal.nD Cert.AbKernelIdeal.τ).loc Cert.AbKernelIdeal.main_arg4)
      ∧ r.2.mem ((c.tc : Thread Cert.AbKernelIdeal.nD Cert.AbKernelIdeal.τ).loc Cert.AbKernelIdeal.main_arg5) = m ((c.tc : Thread Cert.AbKernelIdeal.nD Cert.AbKernelIdeal.τ).loc Cert.AbKernelIdeal.main_arg5)
      ∧ r.2.mem ((c.tc : Thread Cert.AbKernelIdeal.nD Cert.AbKernelIdeal.τ).loc Cert.AbKernelIdeal.main_arg6) = m ((c.tc : Thread Cert.AbKernelIdeal.nD Cert.AbKernelIdeal.τ).loc Cert.AbKernelIdeal.main_arg6))
      ∧ r.2.sem = fun _ => 0)

def quiescent_AbReferenceIdeal [hAbReferenceIdeal : Cert.AbReferenceIdeal.Facts] : Prop :=
  ∀ (m : (ℓ : Loc Cert.AbReferenceIdeal.nD Cert.AbReferenceIdeal.τ Cert.AbReferenceIdeal.sig) → Buf (Elt Ideal) ℓ) (g : Dev Cert.AbReferenceIdeal.nD → PrngReg), Pre_AbReferenceIdeal m →
    θ_run (Cert.AbReferenceIdeal.defs (F := Ideal)) (onTc (τ := Cert.AbReferenceIdeal.τ) (Cert.AbReferenceIdeal.main (F := Ideal))) ⟨m, fun _ => 0, g⟩ (fun r => (∀ c : Dev Cert.AbReferenceIdeal.nD,
      r.2.mem ((c.tc : Thread Cert.AbReferenceIdeal.nD Cert.AbReferenceIdeal.τ).loc Cert.AbReferenceIdeal.main_arg0) = m ((c.tc : Thread Cert.AbReferenceIdeal.nD Cert.AbReferenceIdeal.τ).loc Cert.AbReferenceIdeal.main_arg0)
      ∧ r.2.mem ((c.tc : Thread Cert.AbReferenceIdeal.nD Cert.AbReferenceIdeal.τ).loc Cert.AbReferenceIdeal.main_arg1) = m ((c.tc : Thread Cert.AbReferenceIdeal.nD Cert.AbReferenceIdeal.τ).loc Cert.AbReferenceIdeal.main_arg1)
      ∧ r.2.mem ((c.tc : Thread Cert.AbReferenceIdeal.nD Cert.AbReferenceIdeal.τ).loc Cert.AbReferenceIdeal.main_arg2) = m ((c.tc : Thread Cert.AbReferenceIdeal.nD Cert.AbReferenceIdeal.τ).loc Cert.AbReferenceIdeal.main_arg2)
      ∧ r.2.mem ((c.tc : Thread Cert.AbReferenceIdeal.nD Cert.AbReferenceIdeal.τ).loc Cert.AbReferenceIdeal.main_arg3) = m ((c.tc : Thread Cert.AbReferenceIdeal.nD Cert.AbReferenceIdeal.τ).loc Cert.AbReferenceIdeal.main_arg3)
      ∧ r.2.mem ((c.tc : Thread Cert.AbReferenceIdeal.nD Cert.AbReferenceIdeal.τ).loc Cert.AbReferenceIdeal.main_arg4) = m ((c.tc : Thread Cert.AbReferenceIdeal.nD Cert.AbReferenceIdeal.τ).loc Cert.AbReferenceIdeal.main_arg4)
      ∧ r.2.mem ((c.tc : Thread Cert.AbReferenceIdeal.nD Cert.AbReferenceIdeal.τ).loc Cert.AbReferenceIdeal.main_arg5) = m ((c.tc : Thread Cert.AbReferenceIdeal.nD Cert.AbReferenceIdeal.τ).loc Cert.AbReferenceIdeal.main_arg5)
      ∧ r.2.mem ((c.tc : Thread Cert.AbReferenceIdeal.nD Cert.AbReferenceIdeal.τ).loc Cert.AbReferenceIdeal.main_arg6) = m ((c.tc : Thread Cert.AbReferenceIdeal.nD Cert.AbReferenceIdeal.τ).loc Cert.AbReferenceIdeal.main_arg6))
      ∧ r.2.sem = fun _ => 0)

def quiescent_AbReferenceIdeal_pre_a_finite [hAbReferenceIdeal : Cert.AbReferenceIdeal.Facts] [hPre_a_finite : Cert.Pre_a_finite.Facts] : Prop :=
  ∀ (m : (ℓ : Loc Cert.AbReferenceIdeal.nD Cert.AbReferenceIdeal.τ Cert.AbReferenceIdeal.sig) → Buf (Elt Ideal) ℓ) (g : Dev Cert.AbReferenceIdeal.nD → PrngReg), Pre_AbReferenceIdeal_a_finite m →
    θ_run (Cert.AbReferenceIdeal.defs (F := Ideal)) (onTc (τ := Cert.AbReferenceIdeal.τ) (Cert.AbReferenceIdeal.main (F := Ideal))) ⟨m, fun _ => 0, g⟩ (fun r => (∀ c : Dev Cert.AbReferenceIdeal.nD,
      r.2.mem ((c.tc : Thread Cert.AbReferenceIdeal.nD Cert.AbReferenceIdeal.τ).loc Cert.AbReferenceIdeal.main_arg0) = m ((c.tc : Thread Cert.AbReferenceIdeal.nD Cert.AbReferenceIdeal.τ).loc Cert.AbReferenceIdeal.main_arg0)
      ∧ r.2.mem ((c.tc : Thread Cert.AbReferenceIdeal.nD Cert.AbReferenceIdeal.τ).loc Cert.AbReferenceIdeal.main_arg1) = m ((c.tc : Thread Cert.AbReferenceIdeal.nD Cert.AbReferenceIdeal.τ).loc Cert.AbReferenceIdeal.main_arg1)
      ∧ r.2.mem ((c.tc : Thread Cert.AbReferenceIdeal.nD Cert.AbReferenceIdeal.τ).loc Cert.AbReferenceIdeal.main_arg2) = m ((c.tc : Thread Cert.AbReferenceIdeal.nD Cert.AbReferenceIdeal.τ).loc Cert.AbReferenceIdeal.main_arg2)
      ∧ r.2.mem ((c.tc : Thread Cert.AbReferenceIdeal.nD Cert.AbReferenceIdeal.τ).loc Cert.AbReferenceIdeal.main_arg3) = m ((c.tc : Thread Cert.AbReferenceIdeal.nD Cert.AbReferenceIdeal.τ).loc Cert.AbReferenceIdeal.main_arg3)
      ∧ r.2.mem ((c.tc : Thread Cert.AbReferenceIdeal.nD Cert.AbReferenceIdeal.τ).loc Cert.AbReferenceIdeal.main_arg4) = m ((c.tc : Thread Cert.AbReferenceIdeal.nD Cert.AbReferenceIdeal.τ).loc Cert.AbReferenceIdeal.main_arg4)
      ∧ r.2.mem ((c.tc : Thread Cert.AbReferenceIdeal.nD Cert.AbReferenceIdeal.τ).loc Cert.AbReferenceIdeal.main_arg5) = m ((c.tc : Thread Cert.AbReferenceIdeal.nD Cert.AbReferenceIdeal.τ).loc Cert.AbReferenceIdeal.main_arg5)
      ∧ r.2.mem ((c.tc : Thread Cert.AbReferenceIdeal.nD Cert.AbReferenceIdeal.τ).loc Cert.AbReferenceIdeal.main_arg6) = m ((c.tc : Thread Cert.AbReferenceIdeal.nD Cert.AbReferenceIdeal.τ).loc Cert.AbReferenceIdeal.main_arg6))
      ∧ r.2.sem = fun _ => 0)

def quiescent_AfKernel [hAfKernel : Cert.AfKernel.Facts] : Prop :=
  ∀ (m : (ℓ : Loc Cert.AfKernel.nD Cert.AfKernel.τ Cert.AfKernel.sig) → Buf (Elt Bits) ℓ) (g : Dev Cert.AfKernel.nD → PrngReg), Pre_AfKernel m →
    θ_run (Cert.AfKernel.defs (F := Bits)) (onTc (τ := Cert.AfKernel.τ) (Cert.AfKernel.main (F := Bits))) ⟨m, fun _ => 0, g⟩ (fun r => (∀ c : Dev Cert.AfKernel.nD,
      r.2.mem ((c.tc : Thread Cert.AfKernel.nD Cert.AfKernel.τ).loc Cert.AfKernel.main_arg0) = m ((c.tc : Thread Cert.AfKernel.nD Cert.AfKernel.τ).loc Cert.AfKernel.main_arg0)
      ∧ r.2.mem ((c.tc : Thread Cert.AfKernel.nD Cert.AfKernel.τ).loc Cert.AfKernel.main_arg1) = m ((c.tc : Thread Cert.AfKernel.nD Cert.AfKernel.τ).loc Cert.AfKernel.main_arg1)
      ∧ r.2.mem ((c.tc : Thread Cert.AfKernel.nD Cert.AfKernel.τ).loc Cert.AfKernel.main_arg2) = m ((c.tc : Thread Cert.AfKernel.nD Cert.AfKernel.τ).loc Cert.AfKernel.main_arg2)
      ∧ r.2.mem ((c.tc : Thread Cert.AfKernel.nD Cert.AfKernel.τ).loc Cert.AfKernel.main_arg3) = m ((c.tc : Thread Cert.AfKernel.nD Cert.AfKernel.τ).loc Cert.AfKernel.main_arg3)
      ∧ r.2.mem ((c.tc : Thread Cert.AfKernel.nD Cert.AfKernel.τ).loc Cert.AfKernel.main_arg4) = m ((c.tc : Thread Cert.AfKernel.nD Cert.AfKernel.τ).loc Cert.AfKernel.main_arg4))
      ∧ r.2.sem = fun _ => 0)

def quiescent_AfKernelIdeal [hAfKernelIdeal : Cert.AfKernelIdeal.Facts] : Prop :=
  ∀ (m : (ℓ : Loc Cert.AfKernelIdeal.nD Cert.AfKernelIdeal.τ Cert.AfKernelIdeal.sig) → Buf (Elt Ideal) ℓ) (g : Dev Cert.AfKernelIdeal.nD → PrngReg), Pre_AfKernelIdeal m →
    θ_run (Cert.AfKernelIdeal.defs (F := Ideal)) (onTc (τ := Cert.AfKernelIdeal.τ) (Cert.AfKernelIdeal.main (F := Ideal))) ⟨m, fun _ => 0, g⟩ (fun r => (∀ c : Dev Cert.AfKernelIdeal.nD,
      r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
      ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
      ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2)
      ∧ r.2.mem ((c.tc : Thread Cert.AfKernelIdeal.nD Cert.AfKernelIdeal.τ).loc Cert.AfKernelIdeal.main_arg3) = m ((c.tc : Thread Cert.AfKernelIdeal.nD Cert.AfKernelIdeal.τ).loc Cert.AfKernelIdeal.main_arg3)
      ∧ r.2.mem ((c.tc : Thread Cert.AfKernelIdeal.nD Cert.AfKernelIdeal.τ).loc Cert.AfKernelIdeal.main_arg4) = m ((c.tc : Thread Cert.AfKernelIdeal.nD Cert.AfKernelIdeal.τ).loc Cert.AfKernelIdeal.main_arg4))
      ∧ r.2.sem = fun _ => 0)

def quiescent_AfReferenceIdeal [hAfReferenceIdeal : Cert.AfReferenceIdeal.Facts] : Prop :=
  ∀ (m : (ℓ : Loc Cert.AfReferenceIdeal.nD Cert.AfReferenceIdeal.τ Cert.AfReferenceIdeal.sig) → Buf (Elt Ideal) ℓ) (g : Dev Cert.AfReferenceIdeal.nD → PrngReg), Pre_AfReferenceIdeal m →
    θ_run (Cert.AfReferenceIdeal.defs (F := Ideal)) (onTc (τ := Cert.AfReferenceIdeal.τ) (Cert.AfReferenceIdeal.main (F := Ideal))) ⟨m, fun _ => 0, g⟩ (fun r => (∀ c : Dev Cert.AfReferenceIdeal.nD,
      r.2.mem ((c.tc : Thread Cert.AfReferenceIdeal.nD Cert.AfReferenceIdeal.τ).loc Cert.AfReferenceIdeal.main_arg0) = m ((c.tc : Thread Cert.AfReferenceIdeal.nD Cert.AfReferenceIdeal.τ).loc Cert.AfReferenceIdeal.main_arg0)
      ∧ r.2.mem ((c.tc : Thread Cert.AfReferenceIdeal.nD Cert.AfReferenceIdeal.τ).loc Cert.AfReferenceIdeal.main_arg1) = m ((c.tc : Thread Cert.AfReferenceIdeal.nD Cert.AfReferenceIdeal.τ).loc Cert.AfReferenceIdeal.main_arg1)
      ∧ r.2.mem ((c.tc : Thread Cert.AfReferenceIdeal.nD Cert.AfReferenceIdeal.τ).loc Cert.AfReferenceIdeal.main_arg2) = m ((c.tc : Thread Cert.AfReferenceIdeal.nD Cert.AfReferenceIdeal.τ).loc Cert.AfReferenceIdeal.main_arg2)
      ∧ r.2.mem ((c.tc : Thread Cert.AfReferenceIdeal.nD Cert.AfReferenceIdeal.τ).loc Cert.AfReferenceIdeal.main_arg3) = m ((c.tc : Thread Cert.AfReferenceIdeal.nD Cert.AfReferenceIdeal.τ).loc Cert.AfReferenceIdeal.main_arg3)
      ∧ r.2.mem ((c.tc : Thread Cert.AfReferenceIdeal.nD Cert.AfReferenceIdeal.τ).loc Cert.AfReferenceIdeal.main_arg4) = m ((c.tc : Thread Cert.AfReferenceIdeal.nD Cert.AfReferenceIdeal.τ).loc Cert.AfReferenceIdeal.main_arg4))
      ∧ r.2.sem = fun _ => 0)

def quiescent_IfKernel [hIfKernel : Cert.IfKernel.Facts] : Prop :=
  ∀ (m : (ℓ : Loc Cert.IfKernel.nD Cert.IfKernel.τ Cert.IfKernel.sig) → Buf (Elt Bits) ℓ) (g : Dev Cert.IfKernel.nD → PrngReg), Pre_IfKernel m →
    θ_run (Cert.IfKernel.defs (F := Bits)) (onTc (τ := Cert.IfKernel.τ) (Cert.IfKernel.main (F := Bits))) ⟨m, fun _ => 0, g⟩ (fun r => (∀ c : Dev Cert.IfKernel.nD,
      r.2.mem ((c.tc : Thread Cert.IfKernel.nD Cert.IfKernel.τ).loc Cert.IfKernel.main_arg0) = m ((c.tc : Thread Cert.IfKernel.nD Cert.IfKernel.τ).loc Cert.IfKernel.main_arg0)
      ∧ r.2.mem ((c.tc : Thread Cert.IfKernel.nD Cert.IfKernel.τ).loc Cert.IfKernel.main_arg1) = m ((c.tc : Thread Cert.IfKernel.nD Cert.IfKernel.τ).loc Cert.IfKernel.main_arg1)
      ∧ r.2.mem ((c.tc : Thread Cert.IfKernel.nD Cert.IfKernel.τ).loc Cert.IfKernel.main_arg2) = m ((c.tc : Thread Cert.IfKernel.nD Cert.IfKernel.τ).loc Cert.IfKernel.main_arg2)
      ∧ r.2.mem ((c.tc : Thread Cert.IfKernel.nD Cert.IfKernel.τ).loc Cert.IfKernel.main_arg3) = m ((c.tc : Thread Cert.IfKernel.nD Cert.IfKernel.τ).loc Cert.IfKernel.main_arg3)
      ∧ r.2.mem ((c.tc : Thread Cert.IfKernel.nD Cert.IfKernel.τ).loc Cert.IfKernel.main_arg4) = m ((c.tc : Thread Cert.IfKernel.nD Cert.IfKernel.τ).loc Cert.IfKernel.main_arg4))
      ∧ r.2.sem = fun _ => 0)

def quiescent_IfKernelIdeal [hIfKernelIdeal : Cert.IfKernelIdeal.Facts] : Prop :=
  ∀ (m : (ℓ : Loc Cert.IfKernelIdeal.nD Cert.IfKernelIdeal.τ Cert.IfKernelIdeal.sig) → Buf (Elt Ideal) ℓ) (g : Dev Cert.IfKernelIdeal.nD → PrngReg), Pre_IfKernelIdeal m →
    θ_run (Cert.IfKernelIdeal.defs (F := Ideal)) (onTc (τ := Cert.IfKernelIdeal.τ) (Cert.IfKernelIdeal.main (F := Ideal))) ⟨m, fun _ => 0, g⟩ (fun r => (∀ c : Dev Cert.IfKernelIdeal.nD,
      r.2.mem ((c.tc : Thread Cert.IfKernelIdeal.nD Cert.IfKernelIdeal.τ).loc Cert.IfKernelIdeal.main_arg0) = m ((c.tc : Thread Cert.IfKernelIdeal.nD Cert.IfKernelIdeal.τ).loc Cert.IfKernelIdeal.main_arg0)
      ∧ r.2.mem ((c.tc : Thread Cert.IfKernelIdeal.nD Cert.IfKernelIdeal.τ).loc Cert.IfKernelIdeal.main_arg1) = m ((c.tc : Thread Cert.IfKernelIdeal.nD Cert.IfKernelIdeal.τ).loc Cert.IfKernelIdeal.main_arg1)
      ∧ r.2.mem ((c.tc : Thread Cert.IfKernelIdeal.nD Cert.IfKernelIdeal.τ).loc Cert.IfKernelIdeal.main_arg2) = m ((c.tc : Thread Cert.IfKernelIdeal.nD Cert.IfKernelIdeal.τ).loc Cert.IfKernelIdeal.main_arg2)
      ∧ r.2.mem ((c.tc : Thread Cert.IfKernelIdeal.nD Cert.IfKernelIdeal.τ).loc Cert.IfKernelIdeal.main_arg3) = m ((c.tc : Thread Cert.IfKernelIdeal.nD Cert.IfKernelIdeal.τ).loc Cert.IfKernelIdeal.main_arg3)
      ∧ r.2.mem ((c.tc : Thread Cert.IfKernelIdeal.nD Cert.IfKernelIdeal.τ).loc Cert.IfKernelIdeal.main_arg4) = m ((c.tc : Thread Cert.IfKernelIdeal.nD Cert.IfKernelIdeal.τ).loc Cert.IfKernelIdeal.main_arg4))
      ∧ r.2.sem = fun _ => 0)

def quiescent_IfReferenceIdeal [hIfReferenceIdeal : Cert.IfReferenceIdeal.Facts] : Prop :=
  ∀ (m : (ℓ : Loc Cert.IfReferenceIdeal.nD Cert.IfReferenceIdeal.τ Cert.IfReferenceIdeal.sig) → Buf (Elt Ideal) ℓ) (g : Dev Cert.IfReferenceIdeal.nD → PrngReg), Pre_IfReferenceIdeal m →
    θ_run (Cert.IfReferenceIdeal.defs (F := Ideal)) (onTc (τ := Cert.IfReferenceIdeal.τ) (Cert.IfReferenceIdeal.main (F := Ideal))) ⟨m, fun _ => 0, g⟩ (fun r => (∀ c : Dev Cert.IfReferenceIdeal.nD,
      r.2.mem ((c.tc : Thread Cert.IfReferenceIdeal.nD Cert.IfReferenceIdeal.τ).loc Cert.IfReferenceIdeal.main_arg0) = m ((c.tc : Thread Cert.IfReferenceIdeal.nD Cert.IfReferenceIdeal.τ).loc Cert.IfReferenceIdeal.main_arg0)
      ∧ r.2.mem ((c.tc : Thread Cert.IfReferenceIdeal.nD Cert.IfReferenceIdeal.τ).loc Cert.IfReferenceIdeal.main_arg1) = m ((c.tc : Thread Cert.IfReferenceIdeal.nD Cert.IfReferenceIdeal.τ).loc Cert.IfReferenceIdeal.main_arg1)
      ∧ r.2.mem ((c.tc : Thread Cert.IfReferenceIdeal.nD Cert.IfReferenceIdeal.τ).loc Cert.IfReferenceIdeal.main_arg2) = m ((c.tc : Thread Cert.IfReferenceIdeal.nD Cert.IfReferenceIdeal.τ).loc Cert.IfReferenceIdeal.main_arg2)
      ∧ r.2.mem ((c.tc : Thread Cert.IfReferenceIdeal.nD Cert.IfReferenceIdeal.τ).loc Cert.IfReferenceIdeal.main_arg3) = m ((c.tc : Thread Cert.IfReferenceIdeal.nD Cert.IfReferenceIdeal.τ).loc Cert.IfReferenceIdeal.main_arg3)
      ∧ r.2.mem ((c.tc : Thread Cert.IfReferenceIdeal.nD Cert.IfReferenceIdeal.τ).loc Cert.IfReferenceIdeal.main_arg4) = m ((c.tc : Thread Cert.IfReferenceIdeal.nD Cert.IfReferenceIdeal.τ).loc Cert.IfReferenceIdeal.main_arg4))
      ∧ r.2.sem = fun _ => 0)

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)) →
    ∃ (v0 : (c : Dev Cert.InKernelIdeal.nD) → Buf (Elt Ideal) ((c.tc : Thread Cert.InKernelIdeal.nD Cert.InKernelIdeal.τ).loc Cert.InKernelIdeal.main_v3_0)) (v1 : (c : Dev Cert.InKernelIdeal.nD) → Buf (Elt Ideal) ((c.tc : Thread Cert.InKernelIdeal.nD Cert.InKernelIdeal.τ).loc Cert.InKernelIdeal.main_v3_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v3_0) = v0 c
          ∧ r.2.mem ((c.tc : Thread Cert.InKernelIdeal.nD Cert.InKernelIdeal.τ).loc Cert.InKernelIdeal.main_v3_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v50) = v0 c
          ∧ r.2.mem ((c.tc : Thread Cert.InReferenceIdeal.nD Cert.InReferenceIdeal.τ).loc Cert.InReferenceIdeal.main_v52) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6))

def preserves_BKernel_BKernelIdeal : Prop :=
  IdealRules.named_const.Statement Cert.BKernelIdeal.κ "sqrt_half" .f32 0x3F3504F3#32 (((Real.sqrt 2)⁻¹ : ℝ) : EReal)
  ∧ IdealRules.named_const.Statement Cert.BKernelIdeal.κ "half_slope" .f32 0x3ECC422A#32 (((9465531 / 16777216) * (Real.sqrt 2)⁻¹ : ℝ) : EReal)

def algebraic_BKernelIdeal_BReferenceIdeal_pre_b_finite [hBKernelIdeal : Cert.BKernelIdeal.Facts] [hBReferenceIdeal : Cert.BReferenceIdeal.Facts] [hPre_b_finite : Cert.Pre_b_finite.Facts] : Prop :=
  ∀ (m : (ℓ : Loc Cert.BKernelIdeal.nD Cert.BKernelIdeal.τ Cert.BKernelIdeal.sig) → Buf (Elt Ideal) ℓ) (g : Dev Cert.BKernelIdeal.nD → PrngReg)
    (m' : (ℓ : Loc Cert.BReferenceIdeal.nD Cert.BReferenceIdeal.τ Cert.BReferenceIdeal.sig) → Buf (Elt Ideal) ℓ) (g' : Dev Cert.BReferenceIdeal.nD → PrngReg), Pre_BKernelIdeal_b_finite m →
    (∀ c : Dev Cert.BKernelIdeal.nD,
      m' ((c.tc : Thread Cert.BReferenceIdeal.nD Cert.BReferenceIdeal.τ).loc Cert.BReferenceIdeal.main_arg0) = m ((c.tc : Thread Cert.BKernelIdeal.nD Cert.BKernelIdeal.τ).loc Cert.BKernelIdeal.main_arg0)
      ∧ m' ((c.tc : Thread Cert.BReferenceIdeal.nD Cert.BReferenceIdeal.τ).loc Cert.BReferenceIdeal.main_arg1) = m ((c.tc : Thread Cert.BKernelIdeal.nD Cert.BKernelIdeal.τ).loc Cert.BKernelIdeal.main_arg1)
      ∧ m' ((c.tc : Thread Cert.BReferenceIdeal.nD Cert.BReferenceIdeal.τ).loc Cert.BReferenceIdeal.main_arg2) = m ((c.tc : Thread Cert.BKernelIdeal.nD Cert.BKernelIdeal.τ).loc Cert.BKernelIdeal.main_arg2)
      ∧ m' ((c.tc : Thread Cert.BReferenceIdeal.nD Cert.BReferenceIdeal.τ).loc Cert.BReferenceIdeal.main_arg3) = m ((c.tc : Thread Cert.BKernelIdeal.nD Cert.BKernelIdeal.τ).loc Cert.BKernelIdeal.main_arg3)
      ∧ m' ((c.tc : Thread Cert.BReferenceIdeal.nD Cert.BReferenceIdeal.τ).loc Cert.BReferenceIdeal.main_arg4) = m ((c.tc : Thread Cert.BKernelIdeal.nD Cert.BKernelIdeal.τ).loc Cert.BKernelIdeal.main_arg4)
      ∧ m' ((c.tc : Thread Cert.BReferenceIdeal.nD Cert.BReferenceIdeal.τ).loc Cert.BReferenceIdeal.main_arg5) = m ((c.tc : Thread Cert.BKernelIdeal.nD Cert.BKernelIdeal.τ).loc Cert.BKernelIdeal.main_arg5)
      ∧ m' ((c.tc : Thread Cert.BReferenceIdeal.nD Cert.BReferenceIdeal.τ).loc Cert.BReferenceIdeal.main_arg6) = m ((c.tc : Thread Cert.BKernelIdeal.nD Cert.BKernelIdeal.τ).loc Cert.BKernelIdeal.main_arg6)) →
    ∃ (v0 : (c : Dev Cert.BKernelIdeal.nD) → Buf (Elt Ideal) ((c.tc : Thread Cert.BKernelIdeal.nD Cert.BKernelIdeal.τ).loc Cert.BKernelIdeal.main_v9_0)) (v1 : (c : Dev Cert.BKernelIdeal.nD) → Buf (Elt Ideal) ((c.tc : Thread Cert.BKernelIdeal.nD Cert.BKernelIdeal.τ).loc Cert.BKernelIdeal.main_v9_1)) (v2 : (c : Dev Cert.BKernelIdeal.nD) → Buf (Elt Ideal) ((c.tc : Thread Cert.BKernelIdeal.nD Cert.BKernelIdeal.τ).loc Cert.BKernelIdeal.main_v9_2)) (v3 : (c : Dev Cert.BKernelIdeal.nD) → Buf (Elt Ideal) ((c.tc : Thread Cert.BKernelIdeal.nD Cert.BKernelIdeal.τ).loc Cert.BKernelIdeal.main_v9_3)),
      θ_run (Cert.BKernelIdeal.defs (F := Ideal)) (onTc (τ := Cert.BKernelIdeal.τ) (Cert.BKernelIdeal.main (F := Ideal))) ⟨m, fun _ => 0, g⟩ (fun r => ∀ c : Dev Cert.BKernelIdeal.nD,
          r.2.mem ((c.tc : Thread Cert.BKernelIdeal.nD Cert.BKernelIdeal.τ).loc Cert.BKernelIdeal.main_v9_0) = v0 c
          ∧ r.2.mem ((c.tc : Thread Cert.BKernelIdeal.nD Cert.BKernelIdeal.τ).loc Cert.BKernelIdeal.main_v9_1) = v1 c
          ∧ r.2.mem ((c.tc : Thread Cert.BKernelIdeal.nD Cert.BKernelIdeal.τ).loc Cert.BKernelIdeal.main_v9_2) = v2 c
          ∧ r.2.mem ((c.tc : Thread Cert.BKernelIdeal.nD Cert.BKernelIdeal.τ).loc Cert.BKernelIdeal.main_v9_3) = v3 c
          ∧ r.2.mem ((c.tc : Thread Cert.BKernelIdeal.nD Cert.BKernelIdeal.τ).loc Cert.BKernelIdeal.main_arg0) = m ((c.tc : Thread Cert.BKernelIdeal.nD Cert.BKernelIdeal.τ).loc Cert.BKernelIdeal.main_arg0)
          ∧ r.2.mem ((c.tc : Thread Cert.BKernelIdeal.nD Cert.BKernelIdeal.τ).loc Cert.BKernelIdeal.main_arg1) = m ((c.tc : Thread Cert.BKernelIdeal.nD Cert.BKernelIdeal.τ).loc Cert.BKernelIdeal.main_arg1)
          ∧ r.2.mem ((c.tc : Thread Cert.BKernelIdeal.nD Cert.BKernelIdeal.τ).loc Cert.BKernelIdeal.main_arg2) = m ((c.tc : Thread Cert.BKernelIdeal.nD Cert.BKernelIdeal.τ).loc Cert.BKernelIdeal.main_arg2)
          ∧ r.2.mem ((c.tc : Thread Cert.BKernelIdeal.nD Cert.BKernelIdeal.τ).loc Cert.BKernelIdeal.main_arg3) = m ((c.tc : Thread Cert.BKernelIdeal.nD Cert.BKernelIdeal.τ).loc Cert.BKernelIdeal.main_arg3)
          ∧ r.2.mem ((c.tc : Thread Cert.BKernelIdeal.nD Cert.BKernelIdeal.τ).loc Cert.BKernelIdeal.main_arg4) = m ((c.tc : Thread Cert.BKernelIdeal.nD Cert.BKernelIdeal.τ).loc Cert.BKernelIdeal.main_arg4)
          ∧ r.2.mem ((c.tc : Thread Cert.BKernelIdeal.nD Cert.BKernelIdeal.τ).loc Cert.BKernelIdeal.main_arg5) = m ((c.tc : Thread Cert.BKernelIdeal.nD Cert.BKernelIdeal.τ).loc Cert.BKernelIdeal.main_arg5)
          ∧ r.2.mem ((c.tc : Thread Cert.BKernelIdeal.nD Cert.BKernelIdeal.τ).loc Cert.BKernelIdeal.main_arg6) = m ((c.tc : Thread Cert.BKernelIdeal.nD Cert.BKernelIdeal.τ).loc Cert.BKernelIdeal.main_arg6))
      ∧ θ_run (Cert.BReferenceIdeal.defs (F := Ideal)) (onTc (τ := Cert.BReferenceIdeal.τ) (Cert.BReferenceIdeal.main (F := Ideal))) ⟨m', fun _ => 0, g'⟩ (fun r => ∀ c : Dev Cert.BReferenceIdeal.nD,
          r.2.mem ((c.tc : Thread Cert.BReferenceIdeal.nD Cert.BReferenceIdeal.τ).loc Cert.BReferenceIdeal.main_v141) = v0 c
          ∧ r.2.mem ((c.tc : Thread Cert.BReferenceIdeal.nD Cert.BReferenceIdeal.τ).loc Cert.BReferenceIdeal.main_v143) = v1 c
          ∧ r.2.mem ((c.tc : Thread Cert.BReferenceIdeal.nD Cert.BReferenceIdeal.τ).loc Cert.BReferenceIdeal.main_v145) = v2 c
          ∧ r.2.mem ((c.tc : Thread Cert.BReferenceIdeal.nD Cert.BReferenceIdeal.τ).loc Cert.BReferenceIdeal.main_v83) = v3 c
          ∧ r.2.mem ((c.tc : Thread Cert.BReferenceIdeal.nD Cert.BReferenceIdeal.τ).loc Cert.BReferenceIdeal.main_arg0) = m' ((c.tc : Thread Cert.BReferenceIdeal.nD Cert.BReferenceIdeal.τ).loc Cert.BReferenceIdeal.main_arg0)
          ∧ r.2.mem ((c.tc : Thread Cert.BReferenceIdeal.nD Cert.BReferenceIdeal.τ).loc Cert.BReferenceIdeal.main_arg1) = m' ((c.tc : Thread Cert.BReferenceIdeal.nD Cert.BReferenceIdeal.τ).loc Cert.BReferenceIdeal.main_arg1)
          ∧ r.2.mem ((c.tc : Thread Cert.BReferenceIdeal.nD Cert.BReferenceIdeal.τ).loc Cert.BReferenceIdeal.main_arg2) = m' ((c.tc : Thread Cert.BReferenceIdeal.nD Cert.BReferenceIdeal.τ).loc Cert.BReferenceIdeal.main_arg2)
          ∧ r.2.mem ((c.tc : Thread Cert.BReferenceIdeal.nD Cert.BReferenceIdeal.τ).loc Cert.BReferenceIdeal.main_arg3) = m' ((c.tc : Thread Cert.BReferenceIdeal.nD Cert.BReferenceIdeal.τ).loc Cert.BReferenceIdeal.main_arg3)
          ∧ r.2.mem ((c.tc : Thread Cert.BReferenceIdeal.nD Cert.BReferenceIdeal.τ).loc Cert.BReferenceIdeal.main_arg4) = m' ((c.tc : Thread Cert.BReferenceIdeal.nD Cert.BReferenceIdeal.τ).loc Cert.BReferenceIdeal.main_arg4)
          ∧ r.2.mem ((c.tc : Thread Cert.BReferenceIdeal.nD Cert.BReferenceIdeal.τ).loc Cert.BReferenceIdeal.main_arg5) = m' ((c.tc : Thread Cert.BReferenceIdeal.nD Cert.BReferenceIdeal.τ).loc Cert.BReferenceIdeal.main_arg5)
          ∧ r.2.mem ((c.tc : Thread Cert.BReferenceIdeal.nD Cert.BReferenceIdeal.τ).loc Cert.BReferenceIdeal.main_arg6) = m' ((c.tc : Thread Cert.BReferenceIdeal.nD Cert.BReferenceIdeal.τ).loc Cert.BReferenceIdeal.main_arg6))

def preserves_OutKernel_OutKernelIdeal : Prop :=
  True

def algebraic_OutKernelIdeal_OutReferenceIdeal_on_gate_columns [hOutKernelIdeal : Cert.OutKernelIdeal.Facts] [hOutReferenceIdeal : Cert.OutReferenceIdeal.Facts] [hOn_gate_columns : Cert.On_gate_columns.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)) →
    ∃ (v0 : (c : Dev Cert.OutKernelIdeal.nD) → Buf (Elt Ideal) ((c.tc : Thread Cert.OutKernelIdeal.nD Cert.OutKernelIdeal.τ).loc Cert.OutKernelIdeal.main_v3_0)) (v1 : (c : Dev Cert.OutKernelIdeal.nD) → Buf (Elt Ideal) ((c.tc : Thread Cert.OutKernelIdeal.nD Cert.OutKernelIdeal.τ).loc Cert.OutKernelIdeal.main_v3_1)) (v2 : (c : Dev Cert.OutKernelIdeal.nD) → Buf (Elt Ideal) ((c.tc : Thread Cert.OutKernelIdeal.nD Cert.OutKernelIdeal.τ).loc Cert.OutKernelIdeal.main_v3_2)) (v3 : (c : Dev Cert.OutKernelIdeal.nD) → Buf (Elt Ideal) ((c.tc : Thread Cert.OutKernelIdeal.nD Cert.OutKernelIdeal.τ).loc Cert.OutKernelIdeal.main_v3_3)) (v4 : (c : Dev Cert.OutKernelIdeal.nD) → Buf (Elt Ideal) ((c.tc : Thread Cert.OutKernelIdeal.nD Cert.OutKernelIdeal.τ).loc Cert.OutKernelIdeal.main_v3_4)) (v5 : (c : Dev Cert.OutKernelIdeal.nD) → Buf (Elt Ideal) ((c.tc : Thread Cert.OutKernelIdeal.nD Cert.OutKernelIdeal.τ).loc Cert.OutKernelIdeal.main_v3_5)) (v6 : (c : Dev Cert.OutKernelIdeal.nD) → Buf (Elt Ideal) ((c.tc : Thread Cert.OutKernelIdeal.nD Cert.OutKernelIdeal.τ).loc Cert.OutKernelIdeal.main_v3_6)) (v7 : (c : Dev Cert.OutKernelIdeal.nD) → Buf (Elt Ideal) ((c.tc : Thread Cert.OutKernelIdeal.nD Cert.OutKernelIdeal.τ).loc Cert.OutKernelIdeal.main_v3_7)) (v8 : (c : Dev Cert.OutKernelIdeal.nD) → Buf (Elt Ideal) ((c.tc : Thread Cert.OutKernelIdeal.nD Cert.OutKernelIdeal.τ).loc Cert.OutKernelIdeal.main_v3_8)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).1 i = 1#1 → r.2.mem ((c.tc : Thread Cert.OutKernelIdeal.nD Cert.OutKernelIdeal.τ).loc Cert.OutKernelIdeal.main_v3_0) i = v0 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.1 i = 1#1 → r.2.mem ((c.tc : Thread Cert.OutKernelIdeal.nD Cert.OutKernelIdeal.τ).loc Cert.OutKernelIdeal.main_v3_1) i = v1 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.1 i = 1#1 → r.2.mem ((c.tc : Thread Cert.OutKernelIdeal.nD Cert.OutKernelIdeal.τ).loc Cert.OutKernelIdeal.main_v3_2) i = v2 c i)
          ∧ (∀ i : (⟨2, ![4096, 8192]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.1 i = 1#1 → r.2.mem ((c.tc : Thread Cert.OutKernelIdeal.nD Cert.OutKernelIdeal.τ).loc Cert.OutKernelIdeal.main_v3_3) i = v3 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.1 i = 1#1 → r.2.mem ((c.tc : Thread Cert.OutKernelIdeal.nD Cert.OutKernelIdeal.τ).loc Cert.OutKernelIdeal.main_v3_4) i = v4 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.1 i = 1#1 → r.2.mem ((c.tc : Thread Cert.OutKernelIdeal.nD Cert.OutKernelIdeal.τ).loc Cert.OutKernelIdeal.main_v3_5) i = v5 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.1 i = 1#1 → r.2.mem ((c.tc : Thread Cert.OutKernelIdeal.nD Cert.OutKernelIdeal.τ).loc Cert.OutKernelIdeal.main_v3_6) i = v6 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.2.1 i = 1#1 → r.2.mem ((c.tc : Thread Cert.OutKernelIdeal.nD Cert.OutKernelIdeal.τ).loc Cert.OutKernelIdeal.main_v3_7) i = v7 c i)
          ∧ (∀ i : (⟨2, ![8, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.2.2 i = 1#1 → r.2.mem ((c.tc : Thread Cert.OutKernelIdeal.nD Cert.OutKernelIdeal.τ).loc Cert.OutKernelIdeal.main_v3_8) i = v8 c i)
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).1 i = 1#1 → r.2.mem ((c.tc : Thread Cert.OutReferenceIdeal.nD Cert.OutReferenceIdeal.τ).loc Cert.OutReferenceIdeal.main_v89) i = v0 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.1 i = 1#1 → r.2.mem ((c.tc : Thread Cert.OutReferenceIdeal.nD Cert.OutReferenceIdeal.τ).loc Cert.OutReferenceIdeal.main_v106) i = v1 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.1 i = 1#1 → r.2.mem ((c.tc : Thread Cert.OutReferenceIdeal.nD Cert.OutReferenceIdeal.τ).loc Cert.OutReferenceIdeal.main_v105) i = v2 c i)
          ∧ (∀ i : (⟨2, ![4096, 8192]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.1 i = 1#1 → r.2.mem ((c.tc : Thread Cert.OutReferenceIdeal.nD Cert.OutReferenceIdeal.τ).loc Cert.OutReferenceIdeal.main_v109) i = v3 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.1 i = 1#1 → r.2.mem ((c.tc : Thread Cert.OutReferenceIdeal.nD Cert.OutReferenceIdeal.τ).loc Cert.OutReferenceIdeal.main_v110) i = v4 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.1 i = 1#1 → r.2.mem ((c.tc : Thread Cert.OutReferenceIdeal.nD Cert.OutReferenceIdeal.τ).loc Cert.OutReferenceIdeal.main_v111) i = v5 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.1 i = 1#1 → r.2.mem ((c.tc : Thread Cert.OutReferenceIdeal.nD Cert.OutReferenceIdeal.τ).loc Cert.OutReferenceIdeal.main_v112) i = v6 c i)
          ∧ (∀ i : (⟨2, ![4096, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.2.1 i = 1#1 → r.2.mem ((c.tc : Thread Cert.OutReferenceIdeal.nD Cert.OutReferenceIdeal.τ).loc Cert.OutReferenceIdeal.main_v113) i = v7 c i)
          ∧ (∀ i : (⟨2, ![8, 1024]⟩ : Shape).Idx, (Cert.On_gate_columns.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.2.2 i = 1#1 → r.2.mem ((c.tc : Thread Cert.OutReferenceIdeal.nD Cert.OutReferenceIdeal.τ).loc Cert.OutReferenceIdeal.main_v115) i = v8 c i)
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9))

def preserves_BfKernel_BfKernelIdeal : Prop :=
  IdealRules.named_const.Statement Cert.BfKernelIdeal.κ "sqrt_half" .f32 0x3F3504F3#32 (((Real.sqrt 2)⁻¹ : ℝ) : EReal)

def algebraic_BfKernelIdeal_BfReferenceIdeal [hBfKernelIdeal : Cert.BfKernelIdeal.Facts] [hBfReferenceIdeal : Cert.BfReferenceIdeal.Facts] : Prop :=
  ∀ (m : (ℓ : Loc Cert.BfKernelIdeal.nD Cert.BfKernelIdeal.τ Cert.BfKernelIdeal.sig) → Buf (Elt Ideal) ℓ) (g : Dev Cert.BfKernelIdeal.nD → PrngReg)
    (m' : (ℓ : Loc Cert.BfReferenceIdeal.nD Cert.BfReferenceIdeal.τ Cert.BfReferenceIdeal.sig) → Buf (Elt Ideal) ℓ) (g' : Dev Cert.BfReferenceIdeal.nD → PrngReg), Pre_BfKernelIdeal m →
    (∀ c : Dev Cert.BfKernelIdeal.nD,
      m' ((c.tc : Thread Cert.BfReferenceIdeal.nD Cert.BfReferenceIdeal.τ).loc Cert.BfReferenceIdeal.main_arg0) = m ((c.tc : Thread Cert.BfKernelIdeal.nD Cert.BfKernelIdeal.τ).loc Cert.BfKernelIdeal.main_arg0)
      ∧ m' ((c.tc : Thread Cert.BfReferenceIdeal.nD Cert.BfReferenceIdeal.τ).loc Cert.BfReferenceIdeal.main_arg1) = m ((c.tc : Thread Cert.BfKernelIdeal.nD Cert.BfKernelIdeal.τ).loc Cert.BfKernelIdeal.main_arg1)
      ∧ m' ((c.tc : Thread Cert.BfReferenceIdeal.nD Cert.BfReferenceIdeal.τ).loc Cert.BfReferenceIdeal.main_arg2) = m ((c.tc : Thread Cert.BfKernelIdeal.nD Cert.BfKernelIdeal.τ).loc Cert.BfKernelIdeal.main_arg2)
      ∧ m' ((c.tc : Thread Cert.BfReferenceIdeal.nD Cert.BfReferenceIdeal.τ).loc Cert.BfReferenceIdeal.main_arg3) = m ((c.tc : Thread Cert.BfKernelIdeal.nD Cert.BfKernelIdeal.τ).loc Cert.BfKernelIdeal.main_arg3)
      ∧ m' ((c.tc : Thread Cert.BfReferenceIdeal.nD Cert.BfReferenceIdeal.τ).loc Cert.BfReferenceIdeal.main_arg4) = m ((c.tc : Thread Cert.BfKernelIdeal.nD Cert.BfKernelIdeal.τ).loc Cert.BfKernelIdeal.main_arg4)) →
    ∃ (v0 : (c : Dev Cert.BfKernelIdeal.nD) → Buf (Elt Ideal) ((c.tc : Thread Cert.BfKernelIdeal.nD Cert.BfKernelIdeal.τ).loc Cert.BfKernelIdeal.main_v8)),
      θ_run (Cert.BfKernelIdeal.defs (F := Ideal)) (onTc (τ := Cert.BfKernelIdeal.τ) (Cert.BfKernelIdeal.main (F := Ideal))) ⟨m, fun _ => 0, g⟩ (fun r => ∀ c : Dev Cert.BfKernelIdeal.nD,
          r.2.mem ((c.tc : Thread Cert.BfKernelIdeal.nD Cert.BfKernelIdeal.τ).loc Cert.BfKernelIdeal.main_v8) = v0 c
          ∧ r.2.mem ((c.tc : Thread Cert.BfKernelIdeal.nD Cert.BfKernelIdeal.τ).loc Cert.BfKernelIdeal.main_arg0) = m ((c.tc : Thread Cert.BfKernelIdeal.nD Cert.BfKernelIdeal.τ).loc Cert.BfKernelIdeal.main_arg0)
          ∧ r.2.mem ((c.tc : Thread Cert.BfKernelIdeal.nD Cert.BfKernelIdeal.τ).loc Cert.BfKernelIdeal.main_arg1) = m ((c.tc : Thread Cert.BfKernelIdeal.nD Cert.BfKernelIdeal.τ).loc Cert.BfKernelIdeal.main_arg1)
          ∧ r.2.mem ((c.tc : Thread Cert.BfKernelIdeal.nD Cert.BfKernelIdeal.τ).loc Cert.BfKernelIdeal.main_arg2) = m ((c.tc : Thread Cert.BfKernelIdeal.nD Cert.BfKernelIdeal.τ).loc Cert.BfKernelIdeal.main_arg2)
          ∧ r.2.mem ((c.tc : Thread Cert.BfKernelIdeal.nD Cert.BfKernelIdeal.τ).loc Cert.BfKernelIdeal.main_arg3) = m ((c.tc : Thread Cert.BfKernelIdeal.nD Cert.BfKernelIdeal.τ).loc Cert.BfKernelIdeal.main_arg3)
          ∧ r.2.mem ((c.tc : Thread Cert.BfKernelIdeal.nD Cert.BfKernelIdeal.τ).loc Cert.BfKernelIdeal.main_arg4) = m ((c.tc : Thread Cert.BfKernelIdeal.nD Cert.BfKernelIdeal.τ).loc Cert.BfKernelIdeal.main_arg4))
      ∧ θ_run (Cert.BfReferenceIdeal.defs (F := Ideal)) (onTc (τ := Cert.BfReferenceIdeal.τ) (Cert.BfReferenceIdeal.main (F := Ideal))) ⟨m', fun _ => 0, g'⟩ (fun r => ∀ c : Dev Cert.BfReferenceIdeal.nD,
          r.2.mem ((c.tc : Thread Cert.BfReferenceIdeal.nD Cert.BfReferenceIdeal.τ).loc Cert.BfReferenceIdeal.main_v58) = v0 c
          ∧ r.2.mem ((c.tc : Thread Cert.BfReferenceIdeal.nD Cert.BfReferenceIdeal.τ).loc Cert.BfReferenceIdeal.main_arg0) = m' ((c.tc : Thread Cert.BfReferenceIdeal.nD Cert.BfReferenceIdeal.τ).loc Cert.BfReferenceIdeal.main_arg0)
          ∧ r.2.mem ((c.tc : Thread Cert.BfReferenceIdeal.nD Cert.BfReferenceIdeal.τ).loc Cert.BfReferenceIdeal.main_arg1) = m' ((c.tc : Thread Cert.BfReferenceIdeal.nD Cert.BfReferenceIdeal.τ).loc Cert.BfReferenceIdeal.main_arg1)
          ∧ r.2.mem ((c.tc : Thread Cert.BfReferenceIdeal.nD Cert.BfReferenceIdeal.τ).loc Cert.BfReferenceIdeal.main_arg2) = m' ((c.tc : Thread Cert.BfReferenceIdeal.nD Cert.BfReferenceIdeal.τ).loc Cert.BfReferenceIdeal.main_arg2)
          ∧ r.2.mem ((c.tc : Thread Cert.BfReferenceIdeal.nD Cert.BfReferenceIdeal.τ).loc Cert.BfReferenceIdeal.main_arg3) = m' ((c.tc : Thread Cert.BfReferenceIdeal.nD Cert.BfReferenceIdeal.τ).loc Cert.BfReferenceIdeal.main_arg3)
          ∧ r.2.mem ((c.tc : Thread Cert.BfReferenceIdeal.nD Cert.BfReferenceIdeal.τ).loc Cert.BfReferenceIdeal.main_arg4) = m' ((c.tc : Thread Cert.BfReferenceIdeal.nD Cert.BfReferenceIdeal.τ).loc Cert.BfReferenceIdeal.main_arg4))

def preserves_AbKernel_AbKernelIdeal : Prop :=
  True

def algebraic_AbKernelIdeal_AbReferenceIdeal_pre_a_finite [hAbKernelIdeal : Cert.AbKernelIdeal.Facts] [hAbReferenceIdeal : Cert.AbReferenceIdeal.Facts] [hPre_a_finite : Cert.Pre_a_finite.Facts] : Prop :=
  ∀ (m : (ℓ : Loc Cert.AbKernelIdeal.nD Cert.AbKernelIdeal.τ Cert.AbKernelIdeal.sig) → Buf (Elt Ideal) ℓ) (g : Dev Cert.AbKernelIdeal.nD → PrngReg)
    (m' : (ℓ : Loc Cert.AbReferenceIdeal.nD Cert.AbReferenceIdeal.τ Cert.AbReferenceIdeal.sig) → Buf (Elt Ideal) ℓ) (g' : Dev Cert.AbReferenceIdeal.nD → PrngReg), Pre_AbKernelIdeal_a_finite m →
    (∀ c : Dev Cert.AbKernelIdeal.nD,
      m' ((c.tc : Thread Cert.AbReferenceIdeal.nD Cert.AbReferenceIdeal.τ).loc Cert.AbReferenceIdeal.main_arg0) = m ((c.tc : Thread Cert.AbKernelIdeal.nD Cert.AbKernelIdeal.τ).loc Cert.AbKernelIdeal.main_arg0)
      ∧ m' ((c.tc : Thread Cert.AbReferenceIdeal.nD Cert.AbReferenceIdeal.τ).loc Cert.AbReferenceIdeal.main_arg1) = m ((c.tc : Thread Cert.AbKernelIdeal.nD Cert.AbKernelIdeal.τ).loc Cert.AbKernelIdeal.main_arg1)
      ∧ m' ((c.tc : Thread Cert.AbReferenceIdeal.nD Cert.AbReferenceIdeal.τ).loc Cert.AbReferenceIdeal.main_arg2) = m ((c.tc : Thread Cert.AbKernelIdeal.nD Cert.AbKernelIdeal.τ).loc Cert.AbKernelIdeal.main_arg2)
      ∧ m' ((c.tc : Thread Cert.AbReferenceIdeal.nD Cert.AbReferenceIdeal.τ).loc Cert.AbReferenceIdeal.main_arg3) = m ((c.tc : Thread Cert.AbKernelIdeal.nD Cert.AbKernelIdeal.τ).loc Cert.AbKernelIdeal.main_arg3)
      ∧ m' ((c.tc : Thread Cert.AbReferenceIdeal.nD Cert.AbReferenceIdeal.τ).loc Cert.AbReferenceIdeal.main_arg4) = m ((c.tc : Thread Cert.AbKernelIdeal.nD Cert.AbKernelIdeal.τ).loc Cert.AbKernelIdeal.main_arg4)
      ∧ m' ((c.tc : Thread Cert.AbReferenceIdeal.nD Cert.AbReferenceIdeal.τ).loc Cert.AbReferenceIdeal.main_arg5) = m ((c.tc : Thread Cert.AbKernelIdeal.nD Cert.AbKernelIdeal.τ).loc Cert.AbKernelIdeal.main_arg5)
      ∧ m' ((c.tc : Thread Cert.AbReferenceIdeal.nD Cert.AbReferenceIdeal.τ).loc Cert.AbReferenceIdeal.main_arg6) = m ((c.tc : Thread Cert.AbKernelIdeal.nD Cert.AbKernelIdeal.τ).loc Cert.AbKernelIdeal.main_arg6)) →
    ∃ (v0 : (c : Dev Cert.AbKernelIdeal.nD) → Buf (Elt Ideal) ((c.tc : Thread Cert.AbKernelIdeal.nD Cert.AbKernelIdeal.τ).loc Cert.AbKernelIdeal.main_v86_0)) (v1 : (c : Dev Cert.AbKernelIdeal.nD) → Buf (Elt Ideal) ((c.tc : Thread Cert.AbKernelIdeal.nD Cert.AbKernelIdeal.τ).loc Cert.AbKernelIdeal.main_v86_1)),
      θ_run (Cert.AbKernelIdeal.defs (F := Ideal)) (onTc (τ := Cert.AbKernelIdeal.τ) (Cert.AbKernelIdeal.main (F := Ideal))) ⟨m, fun _ => 0, g⟩ (fun r => ∀ c : Dev Cert.AbKernelIdeal.nD,
          r.2.mem ((c.tc : Thread Cert.AbKernelIdeal.nD Cert.AbKernelIdeal.τ).loc Cert.AbKernelIdeal.main_v86_0) = v0 c
          ∧ r.2.mem ((c.tc : Thread Cert.AbKernelIdeal.nD Cert.AbKernelIdeal.τ).loc Cert.AbKernelIdeal.main_v86_1) = v1 c
          ∧ r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
          ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
          ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
          ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3)
          ∧ r.2.mem ((c.tc : Thread Cert.AbKernelIdeal.nD Cert.AbKernelIdeal.τ).loc Cert.AbKernelIdeal.main_arg4) = m ((c.tc : Thread Cert.AbKernelIdeal.nD Cert.AbKernelIdeal.τ).loc Cert.AbKernelIdeal.main_arg4)
          ∧ r.2.mem ((c.tc : Thread Cert.AbKernelIdeal.nD Cert.AbKernelIdeal.τ).loc Cert.AbKernelIdeal.main_arg5) = m ((c.tc : Thread Cert.AbKernelIdeal.nD Cert.AbKernelIdeal.τ).loc Cert.AbKernelIdeal.main_arg5)
          ∧ r.2.mem ((c.tc : Thread Cert.AbKernelIdeal.nD Cert.AbKernelIdeal.τ).loc Cert.AbKernelIdeal.main_arg6) = m ((c.tc : Thread Cert.AbKernelIdeal.nD Cert.AbKernelIdeal.τ).loc Cert.AbKernelIdeal.main_arg6))
      ∧ θ_run (Cert.AbReferenceIdeal.defs (F := Ideal)) (onTc (τ := Cert.AbReferenceIdeal.τ) (Cert.AbReferenceIdeal.main (F := Ideal))) ⟨m', fun _ => 0, g'⟩ (fun r => ∀ c : Dev Cert.AbReferenceIdeal.nD,
          r.2.mem ((c.tc : Thread Cert.AbReferenceIdeal.nD Cert.AbReferenceIdeal.τ).loc Cert.AbReferenceIdeal.main_v290) = v0 c
          ∧ r.2.mem ((c.tc : Thread Cert.AbReferenceIdeal.nD Cert.AbReferenceIdeal.τ).loc Cert.AbReferenceIdeal.main_v293) = v1 c
          ∧ r.2.mem ((c.tc : Thread Cert.AbReferenceIdeal.nD Cert.AbReferenceIdeal.τ).loc Cert.AbReferenceIdeal.main_arg0) = m' ((c.tc : Thread Cert.AbReferenceIdeal.nD Cert.AbReferenceIdeal.τ).loc Cert.AbReferenceIdeal.main_arg0)
          ∧ r.2.mem ((c.tc : Thread Cert.AbReferenceIdeal.nD Cert.AbReferenceIdeal.τ).loc Cert.AbReferenceIdeal.main_arg1) = m' ((c.tc : Thread Cert.AbReferenceIdeal.nD Cert.AbReferenceIdeal.τ).loc Cert.AbReferenceIdeal.main_arg1)
          ∧ r.2.mem ((c.tc : Thread Cert.AbReferenceIdeal.nD Cert.AbReferenceIdeal.τ).loc Cert.AbReferenceIdeal.main_arg2) = m' ((c.tc : Thread Cert.AbReferenceIdeal.nD Cert.AbReferenceIdeal.τ).loc Cert.AbReferenceIdeal.main_arg2)
          ∧ r.2.mem ((c.tc : Thread Cert.AbReferenceIdeal.nD Cert.AbReferenceIdeal.τ).loc Cert.AbReferenceIdeal.main_arg3) = m' ((c.tc : Thread Cert.AbReferenceIdeal.nD Cert.AbReferenceIdeal.τ).loc Cert.AbReferenceIdeal.main_arg3)
          ∧ r.2.mem ((c.tc : Thread Cert.AbReferenceIdeal.nD Cert.AbReferenceIdeal.τ).loc Cert.AbReferenceIdeal.main_arg4) = m' ((c.tc : Thread Cert.AbReferenceIdeal.nD Cert.AbReferenceIdeal.τ).loc Cert.AbReferenceIdeal.main_arg4)
          ∧ r.2.mem ((c.tc : Thread Cert.AbReferenceIdeal.nD Cert.AbReferenceIdeal.τ).loc Cert.AbReferenceIdeal.main_arg5) = m' ((c.tc : Thread Cert.AbReferenceIdeal.nD Cert.AbReferenceIdeal.τ).loc Cert.AbReferenceIdeal.main_arg5)
          ∧ r.2.mem ((c.tc : Thread Cert.AbReferenceIdeal.nD Cert.AbReferenceIdeal.τ).loc Cert.AbReferenceIdeal.main_arg6) = m' ((c.tc : Thread Cert.AbReferenceIdeal.nD Cert.AbReferenceIdeal.τ).loc Cert.AbReferenceIdeal.main_arg6))

def preserves_AfKernel_AfKernelIdeal : Prop :=
  True

def algebraic_AfKernelIdeal_AfReferenceIdeal [hAfKernelIdeal : Cert.AfKernelIdeal.Facts] [hAfReferenceIdeal : Cert.AfReferenceIdeal.Facts] : Prop :=
  ∀ (m : (ℓ : Loc Cert.AfKernelIdeal.nD Cert.AfKernelIdeal.τ Cert.AfKernelIdeal.sig) → Buf (Elt Ideal) ℓ) (g : Dev Cert.AfKernelIdeal.nD → PrngReg)
    (m' : (ℓ : Loc Cert.AfReferenceIdeal.nD Cert.AfReferenceIdeal.τ Cert.AfReferenceIdeal.sig) → Buf (Elt Ideal) ℓ) (g' : Dev Cert.AfReferenceIdeal.nD → PrngReg), Pre_AfKernelIdeal m →
    (∀ c : Dev Cert.AfKernelIdeal.nD,
      m' ((c.tc : Thread Cert.AfReferenceIdeal.nD Cert.AfReferenceIdeal.τ).loc Cert.AfReferenceIdeal.main_arg0) = m ((c.tc : Thread Cert.AfKernelIdeal.nD Cert.AfKernelIdeal.τ).loc Cert.AfKernelIdeal.main_arg0)
      ∧ m' ((c.tc : Thread Cert.AfReferenceIdeal.nD Cert.AfReferenceIdeal.τ).loc Cert.AfReferenceIdeal.main_arg1) = m ((c.tc : Thread Cert.AfKernelIdeal.nD Cert.AfKernelIdeal.τ).loc Cert.AfKernelIdeal.main_arg1)
      ∧ m' ((c.tc : Thread Cert.AfReferenceIdeal.nD Cert.AfReferenceIdeal.τ).loc Cert.AfReferenceIdeal.main_arg2) = m ((c.tc : Thread Cert.AfKernelIdeal.nD Cert.AfKernelIdeal.τ).loc Cert.AfKernelIdeal.main_arg2)
      ∧ m' ((c.tc : Thread Cert.AfReferenceIdeal.nD Cert.AfReferenceIdeal.τ).loc Cert.AfReferenceIdeal.main_arg3) = m ((c.tc : Thread Cert.AfKernelIdeal.nD Cert.AfKernelIdeal.τ).loc Cert.AfKernelIdeal.main_arg3)
      ∧ m' ((c.tc : Thread Cert.AfReferenceIdeal.nD Cert.AfReferenceIdeal.τ).loc Cert.AfReferenceIdeal.main_arg4) = m ((c.tc : Thread Cert.AfKernelIdeal.nD Cert.AfKernelIdeal.τ).loc Cert.AfKernelIdeal.main_arg4)) →
    ∃ (v0 : (c : Dev Cert.AfKernelIdeal.nD) → Buf (Elt Ideal) ((c.tc : Thread Cert.AfKernelIdeal.nD Cert.AfKernelIdeal.τ).loc Cert.AfKernelIdeal.main_v2_0)) (v1 : (c : Dev Cert.AfKernelIdeal.nD) → Buf (Elt Ideal) ((c.tc : Thread Cert.AfKernelIdeal.nD Cert.AfKernelIdeal.τ).loc Cert.AfKernelIdeal.main_v2_1)),
      θ_run (Cert.AfKernelIdeal.defs (F := Ideal)) (onTc (τ := Cert.AfKernelIdeal.τ) (Cert.AfKernelIdeal.main (F := Ideal))) ⟨m, fun _ => 0, g⟩ (fun r => ∀ c : Dev Cert.AfKernelIdeal.nD,
          r.2.mem ((c.tc : Thread Cert.AfKernelIdeal.nD Cert.AfKernelIdeal.τ).loc Cert.AfKernelIdeal.main_v2_0) = v0 c
          ∧ r.2.mem ((c.tc : Thread Cert.AfKernelIdeal.nD Cert.AfKernelIdeal.τ).loc Cert.AfKernelIdeal.main_v2_1) = v1 c
          ∧ r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
          ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
          ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2)
          ∧ r.2.mem ((c.tc : Thread Cert.AfKernelIdeal.nD Cert.AfKernelIdeal.τ).loc Cert.AfKernelIdeal.main_arg3) = m ((c.tc : Thread Cert.AfKernelIdeal.nD Cert.AfKernelIdeal.τ).loc Cert.AfKernelIdeal.main_arg3)
          ∧ r.2.mem ((c.tc : Thread Cert.AfKernelIdeal.nD Cert.AfKernelIdeal.τ).loc Cert.AfKernelIdeal.main_arg4) = m ((c.tc : Thread Cert.AfKernelIdeal.nD Cert.AfKernelIdeal.τ).loc Cert.AfKernelIdeal.main_arg4))
      ∧ θ_run (Cert.AfReferenceIdeal.defs (F := Ideal)) (onTc (τ := Cert.AfReferenceIdeal.τ) (Cert.AfReferenceIdeal.main (F := Ideal))) ⟨m', fun _ => 0, g'⟩ (fun r => ∀ c : Dev Cert.AfReferenceIdeal.nD,
          r.2.mem ((c.tc : Thread Cert.AfReferenceIdeal.nD Cert.AfReferenceIdeal.τ).loc Cert.AfReferenceIdeal.main_v109) = v0 c
          ∧ r.2.mem ((c.tc : Thread Cert.AfReferenceIdeal.nD Cert.AfReferenceIdeal.τ).loc Cert.AfReferenceIdeal.main_v85) = v1 c
          ∧ r.2.mem ((c.tc : Thread Cert.AfReferenceIdeal.nD Cert.AfReferenceIdeal.τ).loc Cert.AfReferenceIdeal.main_arg0) = m' ((c.tc : Thread Cert.AfReferenceIdeal.nD Cert.AfReferenceIdeal.τ).loc Cert.AfReferenceIdeal.main_arg0)
          ∧ r.2.mem ((c.tc : Thread Cert.AfReferenceIdeal.nD Cert.AfReferenceIdeal.τ).loc Cert.AfReferenceIdeal.main_arg1) = m' ((c.tc : Thread Cert.AfReferenceIdeal.nD Cert.AfReferenceIdeal.τ).loc Cert.AfReferenceIdeal.main_arg1)
          ∧ r.2.mem ((c.tc : Thread Cert.AfReferenceIdeal.nD Cert.AfReferenceIdeal.τ).loc Cert.AfReferenceIdeal.main_arg2) = m' ((c.tc : Thread Cert.AfReferenceIdeal.nD Cert.AfReferenceIdeal.τ).loc Cert.AfReferenceIdeal.main_arg2)
          ∧ r.2.mem ((c.tc : Thread Cert.AfReferenceIdeal.nD Cert.AfReferenceIdeal.τ).loc Cert.AfReferenceIdeal.main_arg3) = m' ((c.tc : Thread Cert.AfReferenceIdeal.nD Cert.AfReferenceIdeal.τ).loc Cert.AfReferenceIdeal.main_arg3)
          ∧ r.2.mem ((c.tc : Thread Cert.AfReferenceIdeal.nD Cert.AfReferenceIdeal.τ).loc Cert.AfReferenceIdeal.main_arg4) = m' ((c.tc : Thread Cert.AfReferenceIdeal.nD Cert.AfReferenceIdeal.τ).loc Cert.AfReferenceIdeal.main_arg4))

def preserves_IfKernel_IfKernelIdeal : Prop :=
  True

def algebraic_IfKernelIdeal_IfReferenceIdeal [hIfKernelIdeal : Cert.IfKernelIdeal.Facts] [hIfReferenceIdeal : Cert.IfReferenceIdeal.Facts] : Prop :=
  ∀ (m : (ℓ : Loc Cert.IfKernelIdeal.nD Cert.IfKernelIdeal.τ Cert.IfKernelIdeal.sig) → Buf (Elt Ideal) ℓ) (g : Dev Cert.IfKernelIdeal.nD → PrngReg)
    (m' : (ℓ : Loc Cert.IfReferenceIdeal.nD Cert.IfReferenceIdeal.τ Cert.IfReferenceIdeal.sig) → Buf (Elt Ideal) ℓ) (g' : Dev Cert.IfReferenceIdeal.nD → PrngReg), Pre_IfKernelIdeal m →
    (∀ c : Dev Cert.IfKernelIdeal.nD,
      m' ((c.tc : Thread Cert.IfReferenceIdeal.nD Cert.IfReferenceIdeal.τ).loc Cert.IfReferenceIdeal.main_arg0) = m ((c.tc : Thread Cert.IfKernelIdeal.nD Cert.IfKernelIdeal.τ).loc Cert.IfKernelIdeal.main_arg0)
      ∧ m' ((c.tc : Thread Cert.IfReferenceIdeal.nD Cert.IfReferenceIdeal.τ).loc Cert.IfReferenceIdeal.main_arg1) = m ((c.tc : Thread Cert.IfKernelIdeal.nD Cert.IfKernelIdeal.τ).loc Cert.IfKernelIdeal.main_arg1)
      ∧ m' ((c.tc : Thread Cert.IfReferenceIdeal.nD Cert.IfReferenceIdeal.τ).loc Cert.IfReferenceIdeal.main_arg2) = m ((c.tc : Thread Cert.IfKernelIdeal.nD Cert.IfKernelIdeal.τ).loc Cert.IfKernelIdeal.main_arg2)
      ∧ m' ((c.tc : Thread Cert.IfReferenceIdeal.nD Cert.IfReferenceIdeal.τ).loc Cert.IfReferenceIdeal.main_arg3) = m ((c.tc : Thread Cert.IfKernelIdeal.nD Cert.IfKernelIdeal.τ).loc Cert.IfKernelIdeal.main_arg3)
      ∧ m' ((c.tc : Thread Cert.IfReferenceIdeal.nD Cert.IfReferenceIdeal.τ).loc Cert.IfReferenceIdeal.main_arg4) = m ((c.tc : Thread Cert.IfKernelIdeal.nD Cert.IfKernelIdeal.τ).loc Cert.IfKernelIdeal.main_arg4)) →
    ∃ (v0 : (c : Dev Cert.IfKernelIdeal.nD) → Buf (Elt Ideal) ((c.tc : Thread Cert.IfKernelIdeal.nD Cert.IfKernelIdeal.τ).loc Cert.IfKernelIdeal.main_v3_0)) (v1 : (c : Dev Cert.IfKernelIdeal.nD) → Buf (Elt Ideal) ((c.tc : Thread Cert.IfKernelIdeal.nD Cert.IfKernelIdeal.τ).loc Cert.IfKernelIdeal.main_v3_1)),
      θ_run (Cert.IfKernelIdeal.defs (F := Ideal)) (onTc (τ := Cert.IfKernelIdeal.τ) (Cert.IfKernelIdeal.main (F := Ideal))) ⟨m, fun _ => 0, g⟩ (fun r => ∀ c : Dev Cert.IfKernelIdeal.nD,
          r.2.mem ((c.tc : Thread Cert.IfKernelIdeal.nD Cert.IfKernelIdeal.τ).loc Cert.IfKernelIdeal.main_v3_0) = v0 c
          ∧ r.2.mem ((c.tc : Thread Cert.IfKernelIdeal.nD Cert.IfKernelIdeal.τ).loc Cert.IfKernelIdeal.main_v3_1) = v1 c
          ∧ r.2.mem ((c.tc : Thread Cert.IfKernelIdeal.nD Cert.IfKernelIdeal.τ).loc Cert.IfKernelIdeal.main_arg0) = m ((c.tc : Thread Cert.IfKernelIdeal.nD Cert.IfKernelIdeal.τ).loc Cert.IfKernelIdeal.main_arg0)
          ∧ r.2.mem ((c.tc : Thread Cert.IfKernelIdeal.nD Cert.IfKernelIdeal.τ).loc Cert.IfKernelIdeal.main_arg1) = m ((c.tc : Thread Cert.IfKernelIdeal.nD Cert.IfKernelIdeal.τ).loc Cert.IfKernelIdeal.main_arg1)
          ∧ r.2.mem ((c.tc : Thread Cert.IfKernelIdeal.nD Cert.IfKernelIdeal.τ).loc Cert.IfKernelIdeal.main_arg2) = m ((c.tc : Thread Cert.IfKernelIdeal.nD Cert.IfKernelIdeal.τ).loc Cert.IfKernelIdeal.main_arg2)
          ∧ r.2.mem ((c.tc : Thread Cert.IfKernelIdeal.nD Cert.IfKernelIdeal.τ).loc Cert.IfKernelIdeal.main_arg3) = m ((c.tc : Thread Cert.IfKernelIdeal.nD Cert.IfKernelIdeal.τ).loc Cert.IfKernelIdeal.main_arg3)
          ∧ r.2.mem ((c.tc : Thread Cert.IfKernelIdeal.nD Cert.IfKernelIdeal.τ).loc Cert.IfKernelIdeal.main_arg4) = m ((c.tc : Thread Cert.IfKernelIdeal.nD Cert.IfKernelIdeal.τ).loc Cert.IfKernelIdeal.main_arg4))
      ∧ θ_run (Cert.IfReferenceIdeal.defs (F := Ideal)) (onTc (τ := Cert.IfReferenceIdeal.τ) (Cert.IfReferenceIdeal.main (F := Ideal))) ⟨m', fun _ => 0, g'⟩ (fun r => ∀ c : Dev Cert.IfReferenceIdeal.nD,
          r.2.mem ((c.tc : Thread Cert.IfReferenceIdeal.nD Cert.IfReferenceIdeal.τ).loc Cert.IfReferenceIdeal.main_v19) = v0 c
          ∧ r.2.mem ((c.tc : Thread Cert.IfReferenceIdeal.nD Cert.IfReferenceIdeal.τ).loc Cert.IfReferenceIdeal.main_v20) = v1 c
          ∧ r.2.mem ((c.tc : Thread Cert.IfReferenceIdeal.nD Cert.IfReferenceIdeal.τ).loc Cert.IfReferenceIdeal.main_arg0) = m' ((c.tc : Thread Cert.IfReferenceIdeal.nD Cert.IfReferenceIdeal.τ).loc Cert.IfReferenceIdeal.main_arg0)
          ∧ r.2.mem ((c.tc : Thread Cert.IfReferenceIdeal.nD Cert.IfReferenceIdeal.τ).loc Cert.IfReferenceIdeal.main_arg1) = m' ((c.tc : Thread Cert.IfReferenceIdeal.nD Cert.IfReferenceIdeal.τ).loc Cert.IfReferenceIdeal.main_arg1)
          ∧ r.2.mem ((c.tc : Thread Cert.IfReferenceIdeal.nD Cert.IfReferenceIdeal.τ).loc Cert.IfReferenceIdeal.main_arg2) = m' ((c.tc : Thread Cert.IfReferenceIdeal.nD Cert.IfReferenceIdeal.τ).loc Cert.IfReferenceIdeal.main_arg2)
          ∧ r.2.mem ((c.tc : Thread Cert.IfReferenceIdeal.nD Cert.IfReferenceIdeal.τ).loc Cert.IfReferenceIdeal.main_arg3) = m' ((c.tc : Thread Cert.IfReferenceIdeal.nD Cert.IfReferenceIdeal.τ).loc Cert.IfReferenceIdeal.main_arg3)
          ∧ r.2.mem ((c.tc : Thread Cert.IfReferenceIdeal.nD Cert.IfReferenceIdeal.τ).loc Cert.IfReferenceIdeal.main_arg4) = m' ((c.tc : Thread Cert.IfReferenceIdeal.nD Cert.IfReferenceIdeal.τ).loc Cert.IfReferenceIdeal.main_arg4))

def Claim : Prop :=
  ∃ (hInKernel : Cert.InKernel.Facts) (hInKernelIdeal : Cert.InKernelIdeal.Facts) (hInReferenceIdeal : Cert.InReferenceIdeal.Facts) (hBKernel : Cert.BKernel.Facts) (hBKernelIdeal : Cert.BKernelIdeal.Facts) (hBReferenceIdeal : Cert.BReferenceIdeal.Facts) (hOutKernel : Cert.OutKernel.Facts) (hOutKernelIdeal : Cert.OutKernelIdeal.Facts) (hOutReferenceIdeal : Cert.OutReferenceIdeal.Facts) (hBfKernel : Cert.BfKernel.Facts) (hBfKernelIdeal : Cert.BfKernelIdeal.Facts) (hBfReferenceIdeal : Cert.BfReferenceIdeal.Facts) (hAbKernel : Cert.AbKernel.Facts) (hAbKernelIdeal : Cert.AbKernelIdeal.Facts) (hAbReferenceIdeal : Cert.AbReferenceIdeal.Facts) (hAfKernel : Cert.AfKernel.Facts) (hAfKernelIdeal : Cert.AfKernelIdeal.Facts) (hAfReferenceIdeal : Cert.AfReferenceIdeal.Facts) (hIfKernel : Cert.IfKernel.Facts) (hIfKernelIdeal : Cert.IfKernelIdeal.Facts) (hIfReferenceIdeal : Cert.IfReferenceIdeal.Facts) (hPre_b_finite : Cert.Pre_b_finite.Facts) (hPre_a_finite : Cert.Pre_a_finite.Facts) (hOn_gate_columns : Cert.On_gate_columns.Facts),
    quiescent_InKernel (hInKernel := hInKernel)
    ∧ quiescent_InKernelIdeal (hInKernelIdeal := hInKernelIdeal)
    ∧ quiescent_InReferenceIdeal (hInReferenceIdeal := hInReferenceIdeal)
    ∧ quiescent_BKernel (hBKernel := hBKernel)
    ∧ quiescent_BKernelIdeal (hBKernelIdeal := hBKernelIdeal)
    ∧ quiescent_BKernelIdeal_pre_b_finite (hBKernelIdeal := hBKernelIdeal) (hPre_b_finite := hPre_b_finite)
    ∧ quiescent_BReferenceIdeal (hBReferenceIdeal := hBReferenceIdeal)
    ∧ quiescent_BReferenceIdeal_pre_b_finite (hBReferenceIdeal := hBReferenceIdeal) (hPre_b_finite := hPre_b_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_BfKernel (hBfKernel := hBfKernel)
    ∧ quiescent_BfKernelIdeal (hBfKernelIdeal := hBfKernelIdeal)
    ∧ quiescent_BfReferenceIdeal (hBfReferenceIdeal := hBfReferenceIdeal)
    ∧ quiescent_AbKernel (hAbKernel := hAbKernel)
    ∧ quiescent_AbKernelIdeal (hAbKernelIdeal := hAbKernelIdeal)
    ∧ quiescent_AbKernelIdeal_pre_a_finite (hAbKernelIdeal := hAbKernelIdeal) (hPre_a_finite := hPre_a_finite)
    ∧ quiescent_AbReferenceIdeal (hAbReferenceIdeal := hAbReferenceIdeal)
    ∧ quiescent_AbReferenceIdeal_pre_a_finite (hAbReferenceIdeal := hAbReferenceIdeal) (hPre_a_finite := hPre_a_finite)
    ∧ quiescent_AfKernel (hAfKernel := hAfKernel)
    ∧ quiescent_AfKernelIdeal (hAfKernelIdeal := hAfKernelIdeal)
    ∧ quiescent_AfReferenceIdeal (hAfReferenceIdeal := hAfReferenceIdeal)
    ∧ quiescent_IfKernel (hIfKernel := hIfKernel)
    ∧ quiescent_IfKernelIdeal (hIfKernelIdeal := hIfKernelIdeal)
    ∧ quiescent_IfReferenceIdeal (hIfReferenceIdeal := hIfReferenceIdeal)
    ∧ preserves_InKernel_InKernelIdeal
    ∧ algebraic_InKernelIdeal_InReferenceIdeal (hInKernelIdeal := hInKernelIdeal) (hInReferenceIdeal := hInReferenceIdeal)
    ∧ preserves_BKernel_BKernelIdeal
    ∧ algebraic_BKernelIdeal_BReferenceIdeal_pre_b_finite (hBKernelIdeal := hBKernelIdeal) (hBReferenceIdeal := hBReferenceIdeal) (hPre_b_finite := hPre_b_finite)
    ∧ preserves_OutKernel_OutKernelIdeal
    ∧ algebraic_OutKernelIdeal_OutReferenceIdeal_on_gate_columns (hOutKernelIdeal := hOutKernelIdeal) (hOutReferenceIdeal := hOutReferenceIdeal) (hOn_gate_columns := hOn_gate_columns)
    ∧ preserves_BfKernel_BfKernelIdeal
    ∧ algebraic_BfKernelIdeal_BfReferenceIdeal (hBfKernelIdeal := hBfKernelIdeal) (hBfReferenceIdeal := hBfReferenceIdeal)
    ∧ preserves_AbKernel_AbKernelIdeal
    ∧ algebraic_AbKernelIdeal_AbReferenceIdeal_pre_a_finite (hAbKernelIdeal := hAbKernelIdeal) (hAbReferenceIdeal := hAbReferenceIdeal) (hPre_a_finite := hPre_a_finite)
    ∧ preserves_AfKernel_AfKernelIdeal
    ∧ algebraic_AfKernelIdeal_AfReferenceIdeal (hAfKernelIdeal := hAfKernelIdeal) (hAfReferenceIdeal := hAfReferenceIdeal)
    ∧ preserves_IfKernel_IfKernelIdeal
    ∧ algebraic_IfKernelIdeal_IfReferenceIdeal (hIfKernelIdeal := hIfKernelIdeal) (hIfReferenceIdeal := hIfReferenceIdeal)
-- ==== On_gate_columns.lean ====
abbrev S4096x8192 : Shape := ⟨2, ![4096, 8192]⟩
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S8x1024 : Shape := ⟨2, ![8, 1024]⟩

class Facts : Prop where
  bcast_S_S4096x1024 : S_.BroadcastsInDim S4096x1024 (![] : Fin 0 → Fin S4096x1024.rank)
  bcast_S_S4096x8192 : S_.BroadcastsInDim S4096x8192 (![] : Fin 0 → Fin S4096x8192.rank)
  bcast_S_S8x1024 : S_.BroadcastsInDim S8x1024 (![] : Fin 0 → Fin S8x1024.rank)

variable [Facts]

def fn {F : FTy → Type} [FloatOps F] (main_arg0 : FVec F S4096x8192 .bf16) (main_arg1 : FVec F S4096x1024 .bf16) (main_arg2 : FVec F S4096x1024 .bf16) (main_arg3 : FVec F S4096x1024 .f32) (main_arg4 : FVec F S4096x1024 .f32) (main_arg5 : FVec F S1x1024 .f32) (main_arg6 : FVec F S1x1024 .f32) (main_arg7 : FVec F S1024x1024 .f32) (main_arg8 : FVec F S1024x1024 .f32) (main_arg9 : FVec F S1024x1024 .f32) : IVec S4096x1024 1 × IVec S4096x1024 1 × IVec S4096x1024 1 × IVec S4096x8192 1 × IVec S4096x1024 1 × IVec S4096x1024 1 × IVec S4096x1024 1 × IVec S4096x1024 1 × IVec S8x1024 1 :=
  let main_c : IVec S_ 1 := constantI S_ 1 1#1
  let main_v0 : IVec S4096x1024 1 := broadcastInDim S4096x1024 ![] bcast_S_S4096x1024 main_c
  let main_v1 : IVec S4096x8192 32 := iotaInDim S4096x8192 32 1
  let main_c_0 : IVec S_ 32 := constantI S_ 32 6144#32
  let main_v2 : IVec S4096x8192 32 := broadcastInDim S4096x8192 ![] bcast_S_S4096x8192 main_c_0
  let main_v3 : IVec S4096x8192 1 := cmpi .sge main_v1 main_v2
  let main_c_1 : IVec S_ 1 := constantI S_ 1 1#1
  let main_v4 : IVec S8x1024 1 := broadcastInDim S8x1024 ![] bcast_S_S8x1024 main_c_1
  (main_v0, main_v0, main_v0, main_v3, main_v0, main_v0, main_v0, main_v0, main_v4)
-- ==== Pre_a_finite.lean ====
abbrev S4096x8192 : Shape := ⟨2, ![4096, 8192]⟩
abbrev S4096x1024 : Shape := ⟨2, ![4096, 1024]⟩
abbrev S31x1024 : Shape := ⟨2, ![31, 1024]⟩
abbrev S1x1024 : Shape := ⟨2, ![1, 1024]⟩
abbrev S4096x3072 : Shape := ⟨2, ![4096, 3072]⟩
abbrev S_ : Shape := ⟨0, ![]⟩

class Facts : Prop where
  slices_S4096x8192_S4096x3072_0_0 : S4096x8192.Slices ![0, 0] S4096x3072
  bitsLt_bf16_f32 : FTy.bits .bf16 < FTy.bits .f32
  bcast_S_S4096x3072 : S_.BroadcastsInDim S4096x3072 (![] : Fin 0 → Fin S4096x3072.rank)
  bcast_S_S4096x1024 : S_.BroadcastsInDim S4096x1024 (![] : Fin 0 → Fin S4096x1024.rank)
  bcast_S_S31x1024 : S_.BroadcastsInDim S31x1024 (![] : Fin 0 → Fin S31x1024.rank)
  bcast_S_S1x1024 : S_.BroadcastsInDim S1x1024 (![] : Fin 0 → Fin S1x1024.rank)

variable [Facts]

def fn_part1 {F : FTy → Type} [FloatOps F] (main_v4 : IVec S4096x3072 1) (main_v7 : IVec S4096x1024 1) (main_v10 : IVec S31x1024 1) (main_v13 : IVec S1x1024 1) (main_v16 : IVec S1x1024 1) (main_v17 : FVec F S1x1024 .f32) (main_cst_4 : FVec F S_ .f32) : IVec S4096x3072 1 × IVec S4096x1024 1 × IVec S31x1024 1 × IVec S1x1024 1 × IVec S1x1024 1 × IVec S1x1024 1 :=
  let main_v18 : FVec F S1x1024 .f32 := broadcastInDim S1x1024 ![] bcast_S_S1x1024 main_cst_4
  let main_v19 : IVec S1x1024 1 := cmpf .olt main_v17 main_v18
  (main_v4, main_v7, main_v10, main_v13, main_v16, main_v19)

def fn {F : FTy → Type} [FloatOps F] (main_arg0 : FVec F S4096x8192 .bf16) (main_arg1 : FVec F S4096x1024 .f32) (main_arg2 : FVec F S4096x8192 .bf16) (main_arg3 : FVec F S31x1024 .f32) (main_arg4 : FVec F S1x1024 .f32) (main_arg5 : FVec F S1x1024 .f32) (main_arg6 : FVec F S1x1024 .f32) : IVec S4096x3072 1 × IVec S4096x1024 1 × IVec S31x1024 1 × IVec S1x1024 1 × IVec S1x1024 1 × IVec S1x1024 1 :=
  let main_v0 : FVec F S4096x3072 .bf16 := (extractStridedSlice S4096x3072 ![0, 0] · slices_S4096x8192_S4096x3072_0_0) main_arg0
  let main_v1 : FVec F S4096x3072 .f32 := (extf .f32 · bitsLt_bf16_f32) main_v0
  let main_v2 : FVec F S4096x3072 .f32 := Host.absf main_v1
  let main_cst : FVec F S_ .f32 := constant S_ .f32 0x7F800000#32
  let main_v3 : FVec F S4096x3072 .f32 := broadcastInDim S4096x3072 ![] bcast_S_S4096x3072 main_cst
  let main_v4 : IVec S4096x3072 1 := cmpf .olt main_v2 main_v3
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S31x1024 .f32 := Host.absf main_arg3
  let main_cst_1 : FVec F S_ .f32 := constant S_ .f32 0x7F800000#32
  let main_v9 : FVec F S31x1024 .f32 := broadcastInDim S31x1024 ![] bcast_S_S31x1024 main_cst_1
  let main_v10 : IVec S31x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1x1024 .f32 := Host.absf main_arg5
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1x1024 .f32 := Host.absf main_arg6
  let main_cst_4 : FVec F S_ .f32 := constant S_ .f32 0x7F800000#32
  fn_part1 (F := F) main_v4 main_v7 main_v10 main_v13 main_v16 main_v17 main_cst_4
-- ==== Pre_b_finite.lean ====
abbrev S4096x8192 : Shape := ⟨2, ![4096, 8192]⟩
abbrev S4096x1024 : Shape := ⟨2, ![4096, 1024]⟩
abbrev S8x128x128 : Shape := ⟨3, ![8, 128, 128]⟩
abbrev S8x128 : Shape := ⟨2, ![8, 128]⟩
abbrev S1x1024 : Shape := ⟨2, ![1, 1024]⟩
abbrev S4096x3072 : Shape := ⟨2, ![4096, 3072]⟩
abbrev S_ : Shape := ⟨0, ![]⟩

class Facts : Prop where
  slices_S4096x8192_S4096x3072_0_3072 : S4096x8192.Slices ![0, 3072] S4096x3072
  bitsLt_bf16_f32 : FTy.bits .bf16 < FTy.bits .f32
  bcast_S_S4096x3072 : S_.BroadcastsInDim S4096x3072 (![] : Fin 0 → Fin S4096x3072.rank)
  bcast_S_S4096x1024 : S_.BroadcastsInDim S4096x1024 (![] : Fin 0 → Fin S4096x1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1x1024 : S_.BroadcastsInDim S1x1024 (![] : Fin 0 → Fin S1x1024.rank)

variable [Facts]

def fn_part1 {F : FTy → Type} [FloatOps F] (main_v4 : IVec S4096x3072 1) (main_v7 : IVec S4096x1024 1) (main_v10 : IVec S8x128x128 1) (main_v13 : IVec S8x128 1) (main_v16 : IVec S1x1024 1) (main_v17 : FVec F S1x1024 .f32) (main_cst_4 : FVec F S_ .f32) : IVec S4096x3072 1 × IVec S4096x1024 1 × IVec S8x128x128 1 × IVec S8x128 1 × IVec S1x1024 1 × IVec S1x1024 1 :=
  let main_v18 : FVec F S1x1024 .f32 := broadcastInDim S1x1024 ![] bcast_S_S1x1024 main_cst_4
  let main_v19 : IVec S1x1024 1 := cmpf .olt main_v17 main_v18
  (main_v4, main_v7, main_v10, main_v13, main_v16, main_v19)

def fn {F : FTy → Type} [FloatOps F] (main_arg0 : FVec F S4096x8192 .bf16) (main_arg1 : FVec F S4096x1024 .f32) (main_arg2 : FVec F S4096x8192 .bf16) (main_arg3 : FVec F S8x128x128 .f32) (main_arg4 : FVec F S8x128 .f32) (main_arg5 : FVec F S1x1024 .f32) (main_arg6 : FVec F S1x1024 .f32) : IVec S4096x3072 1 × IVec S4096x1024 1 × IVec S8x128x128 1 × IVec S8x128 1 × IVec S1x1024 1 × IVec S1x1024 1 :=
  let main_v0 : FVec F S4096x3072 .bf16 := (extractStridedSlice S4096x3072 ![0, 3072] · slices_S4096x8192_S4096x3072_0_3072) main_arg0
  let main_v1 : FVec F S4096x3072 .f32 := (extf .f32 · bitsLt_bf16_f32) main_v0
  let main_v2 : FVec F S4096x3072 .f32 := Host.absf main_v1
  let main_cst : FVec F S_ .f32 := constant S_ .f32 0x7F800000#32
  let main_v3 : FVec F S4096x3072 .f32 := broadcastInDim S4096x3072 ![] bcast_S_S4096x3072 main_cst
  let main_v4 : IVec S4096x3072 1 := cmpf .olt main_v2 main_v3
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S8x128x128 .f32 := Host.absf main_arg3
  let main_cst_1 : FVec F S_ .f32 := constant S_ .f32 0x7F800000#32
  let main_v9 : FVec F S8x128x128 .f32 := broadcastInDim S8x128x128 ![] bcast_S_S8x128x128 main_cst_1
  let main_v10 : IVec S8x128x128 1 := cmpf .olt main_v8 main_v9
  let main_v11 : FVec F S8x128 .f32 := Host.absf main_arg4
  let main_cst_2 : FVec F S_ .f32 := constant S_ .f32 0x7F800000#32
  let main_v12 : FVec F S8x128 .f32 := broadcastInDim S8x128 ![] bcast_S_S8x128 main_cst_2
  let main_v13 : IVec S8x128 1 := cmpf .olt main_v11 main_v12
  let main_v14 : FVec F S1x1024 .f32 := Host.absf main_arg5
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1x1024 .f32 := Host.absf main_arg6
  let main_cst_4 : FVec F S_ .f32 := constant S_ .f32 0x7F800000#32
  fn_part1 (F := F) main_v4 main_v7 main_v10 main_v13 main_v16 main_v17 main_cst_4
-- ==== InKernel.lean ====
abbrev S4096x8192 : Shape := ⟨2, ![4096, 8192]⟩
abbrev S1024x8192 : Shape := ⟨2, ![1024, 8192]⟩
abbrev S4096x1024 : Shape := ⟨2, ![4096, 1024]⟩
abbrev S1x1024 : Shape := ⟨2, ![1, 1024]⟩
abbrev S1024x4x2048 : Shape := ⟨3, ![1024, 4, 2048]⟩
abbrev S4x1024x2048 : Shape := ⟨3, ![4, 1024, 2048]⟩
abbrev S8x1024 : Shape := ⟨2, ![8, 1024]⟩
abbrev S512x2048 : Shape := ⟨2, ![512, 2048]⟩
abbrev S512x1024 : Shape := ⟨2, ![512, 1024]⟩
abbrev S48x1024 : Shape := ⟨2, ![48, 1024]⟩
abbrev S1x1024x2048 : Shape := ⟨3, ![1, 1024, 2048]⟩
abbrev S1024x2048 : Shape := ⟨2, ![1024, 2048]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S4096x8192, .bf16⟩
  | .hbm, ⟨1, _⟩ => ⟨S1024x8192, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x8192, .bf16⟩
  | .hbm, ⟨8, _⟩ => ⟨S1024x4x2048, .bf16⟩
  | .hbm, ⟨9, _⟩ => ⟨S4x1024x2048, .bf16⟩
  | .hbm, ⟨10, _⟩ => ⟨S4096x1024, .f32⟩
  | .hbm, ⟨11, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S4x1024x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S512x1024, .f32⟩
  | .local _ .vmem, ⟨19, _⟩ => ⟨S48x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_22 : BitVec 32 := 0#32
  let c32_i32 : BitVec 32 := 32#32
  let v25 : BitVec 32 := Scalar.addi c0_i32_22 c32_i32
  let c1_i32 : BitVec 32 := 1#32
  ⟨c0_i32_22, v25, c1_i32⟩
def k0_mult1 (k0_t1 : Fin k0_t1_loop.trips) : BitVec 32 :=
  let c0_i32_22 : BitVec 32 := 0#32
  let c1_i32 : BitVec 32 := 1#32
  let arg14 : BitVec 32 := Scf.iv c0_i32_22 c1_i32 k0_t1
  let c16_i32 : BitVec 32 := 16#32
  let v29 : BitVec 32 := Scalar.muli arg14 c16_i32
  v29
def k0_off1 (k0_t1 : Fin k0_t1_loop.trips) : Fin 2 → Nat :=
  let c0_i32_22 : BitVec 32 := 0#32
  let c1_i32 : BitVec 32 := 1#32
  let arg14 : BitVec 32 := Scf.iv c0_i32_22 c1_i32 k0_t1
  let c16_i32 : BitVec 32 := 16#32
  let v29 : BitVec 32 := Scalar.muli arg14 c16_i32
  let v30 : BitVec 32 := v29
  let v31 : Index := Scalar.indexCast v30
  let c0_25 : Index := 0#32
  ![v31.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_24 : BitVec 32 := 0#32
  let v28 : BitVec 1 := Scalar.cmpi .ne v27 c0_i32_24
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InReferenceIdeal.lean ====
abbrev S4096x8192 : Shape := ⟨2, ![4096, 8192]⟩
abbrev S1024x8192 : Shape := ⟨2, ![1024, 8192]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S1024x8192, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x8192, .f32⟩
  | .hbm, ⟨34, _⟩ => ⟨S4096x8192, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S5x1024, .f32⟩
  | .hbm, ⟨71, _⟩ => ⟨S8x1024, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== BKernel.lean ====
abbrev S4096x8192 : Shape := ⟨2, ![4096, 8192]⟩
abbrev S4096x1024 : Shape := ⟨2, ![4096, 1024]⟩
abbrev S8x128x128 : Shape := ⟨3, ![8, 128, 128]⟩
abbrev S8x128 : Shape := ⟨2, ![8, 128]⟩
abbrev S1x1024 : Shape := ⟨2, ![1, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S8x1024 : Shape := ⟨2, ![8, 1024]⟩
abbrev S256x3072 : Shape := ⟨2, ![256, 3072]⟩
abbrev S256x1024 : Shape := ⟨2, ![256, 1024]⟩
abbrev S256x128 : Shape := ⟨2, ![256, 128]⟩
abbrev S32x1024 : Shape := ⟨2, ![32, 1024]⟩
abbrev S16x1024 : Shape := ⟨2, ![16, 1024]⟩
abbrev S16 : Shape := ⟨1, ![16]⟩
abbrev S16x1 : Shape := ⟨2, ![16, 1]⟩
abbrev S16x128 : Shape := ⟨2, ![16, 128]⟩
abbrev S1024 : Shape := ⟨1, ![1024]⟩
abbrev S128 : Shape := ⟨1, ![128]⟩
abbrev S128x1 : Shape := ⟨2, ![128, 1]⟩

abbrev nBuf : Space → Nat
  | .hbm => 33
  | .vmem => 23
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .f32⟩
  | .hbm, ⟨2, _⟩ => ⟨S4096x8192, .bf16⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S8x128x128, .bf16⟩
  | .hbm, ⟨25, _⟩ => ⟨S8x128x128, .bf16⟩
  | .hbm, ⟨26, _⟩ => ⟨S128x8, .f32⟩
  | .hbm, ⟨27, _⟩ => ⟨S128x8x128, .f32⟩
  | .hbm, ⟨28, _⟩ => ⟨S128x1024, .f32⟩
  | .hbm, ⟨29, _⟩ => ⟨S4096x8192, .bf16⟩
  | .hbm, ⟨30, _⟩ => ⟨S8x1024, .f32⟩
  | .hbm, ⟨31, _⟩ => ⟨S128x128, .f32⟩
  | .hbm, ⟨32, _⟩ => ⟨S8x128x128, .f32⟩
  | .local _ .vmem, ⟨0, _⟩ => ⟨S256x3072, .bf16⟩
  | .local _ .vmem, ⟨1, _⟩ => ⟨S256x3072, .bf16⟩
  | .local _ .vmem, ⟨2, _⟩ => ⟨S256x1024, .f32⟩
  | .local _ .vmem, ⟨3, _⟩ => ⟨S256x1024, .f32⟩
  | .local _ .vmem, ⟨4, _⟩ => ⟨S8x128x128, .bf16⟩
  | .local _ .vmem, ⟨5, _⟩ => ⟨S8x128x128, .bf16⟩
  | .local _ .vmem, ⟨6, _⟩ => ⟨S128x1024, .f32⟩
  | .local _ .vmem, ⟨7, _⟩ => ⟨S1x1024, .f32⟩
  | .local _ .vmem, ⟨8, _⟩ => ⟨S1x1024, .f32⟩
  | .local _ .vmem, ⟨9, _⟩ => ⟨S256x3072, .bf16⟩
  | .local _ .vmem, ⟨10, _⟩ => ⟨S256x3072, .bf16⟩
  | .local _ .vmem, ⟨11, _⟩ => ⟨S8x1024, .f32⟩
  | .local _ .vmem, ⟨12, _⟩ => ⟨S128x128, .f32⟩
  | .local _ .vmem, ⟨13, _⟩ => ⟨S8x128x128, .f32⟩
  | .local _ .vmem, ⟨14, _⟩ => ⟨S256x1024, .bf16⟩
  | .local _ .vmem, ⟨15, _⟩ => ⟨S256x1024, .f32⟩
  | .local _ .vmem, ⟨16, _⟩ => ⟨S256x128, .f32⟩
  | .local _ .vmem, ⟨17, _⟩ => ⟨S256x1024, .f32⟩
  | .local _ .vmem, ⟨18, _⟩ => ⟨S256x1024, .bf16⟩
  | .local _ .vmem, ⟨19, _⟩ => ⟨S256x1024, .f32⟩
  | .local _ .vmem, ⟨20, _⟩ => ⟨S32x1024, .f32⟩
  | .local _ .vmem, ⟨21, _⟩ => ⟨S128x1024, .f32⟩
  | .local _ .vmem, ⟨22, _⟩ => ⟨S256x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v9_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c16_i32_428 : BitVec 32 := 16#32
  let v409 : BitVec 32 := Scalar.muli arg22 c16_i32_428
  v409
def k0_off1 (k0_t1 : Fin k0_t1_loop.trips) : Fin 2 → Nat :=
  let c0_i32_1 : BitVec 32 := 0#32
  let c1_i32 : BitVec 32 := 1#32
  let arg22 : BitVec 32 := Scf.iv c0_i32_1 c1_i32 k0_t1
  let c16_i32_428 : BitVec 32 := 16#32
  let v409 : BitVec 32 := Scalar.muli arg22 c16_i32_428
  let v410 : BitVec 32 := v409
  let v411 : Index := Scalar.indexCast v410
  let c1024 : Index := 1024#32
  ![v411.toNat, 1024]
def k0_off2 (k0_t1 : Fin k0_t1_loop.trips) : Fin 2 → Nat :=
  let c0_i32_1 : BitVec 32 := 0#32
  let c1_i32 : BitVec 32 := 1#32
  let arg22 : BitVec 32 := Scf.iv c0_i32_1 c1_i32 k0_t1
  let c16_i32_428 : BitVec 32 := 16#32
  let v409 : BitVec 32 := Scalar.muli arg22 c16_i32_428
  let v410 : BitVec 32 := v409
  let v430 : Index := Scalar.indexCast v410
  let c0_434 : Index := 0#32
  ![v430.toNat, 0]
def k0_off3 (k0_t1 : Fin k0_t1_loop.trips) : Fin 2 → Nat :=
  let c0_i32_1 : BitVec 32 := 0#32
  let c1_i32 : BitVec 32 := 1#32
  let arg22 : BitVec 32 := Scf.iv c0_i32_1 c1_i32 k0_t1
  let c16_i32_428 : BitVec 32 := 16#32
  let v409 : BitVec 32 := Scalar.muli arg22 c16_i32_428
  let v410 : BitVec 32 := v409
  let v456 : Index := Scalar.indexCast v410
  let c0_441 : Index := 0#32
  ![v456.toNat, 0]
@[reducible] def k0_t2_loop : Scf.Loop 32 :=
  let c0_i32_147 : BitVec 32 := 0#32
  let c16_i32_148 : BitVec 32 := 16#32
  let v164 : BitVec 32 := Scalar.addi c0_i32_147 c16_i32_148
  let c1_i32_149 : BitVec 32 := 1#32
  ⟨c0_i32_147, v164, c1_i32_149⟩
def k0_mult2 (k0_t2 : Fin k0_t2_loop.trips) : BitVec 32 :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  v409
def k0_off4 (k0_t2 : Fin k0_t2_loop.trips) : Fin 2 → Nat :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let v411 : Index := Scalar.indexCast v410
  let c0_429 : Index := 0#32
  ![v411.toNat, 0]
def k0_off5 (k0_t2 : Fin k0_t2_loop.trips) : Fin 2 → Nat :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let v430 : Index := Scalar.indexCast v410
  let c2048 : Index := 2048#32
  ![v430.toNat, 2048]
def k0_off6 (k0_t2 : Fin k0_t2_loop.trips) : Fin 2 → Nat :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let v441 : Index := Scalar.indexCast v410
  let c0_438 : Index := 0#32
  ![v441.toNat, 0]
def k0_mult3 (k0_t2 : Fin k0_t2_loop.trips) : BitVec 32 :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let c128_i32 : BitVec 32 := 128#32
  let c0_i32_441 : BitVec 32 := 0#32
  let v452 : BitVec 1 := Scalar.cmpi .eq c128_i32 c0_i32_441
  let c1_i32_442 : BitVec 32 := 1#32
  let v453 : BitVec 32 := Scalar.select v452 c1_i32_442 c128_i32
  let v454 : BitVec 32 := Scalar.remsi v410 v453
  let c0_i32_444 : BitVec 32 := 0#32
  let v456 : BitVec 1 := Scalar.cmpi .slt v454 c0_i32_444
  let c0_i32_445 : BitVec 32 := 0#32
  let v457 : BitVec 1 := Scalar.cmpi .slt v453 c0_i32_445
  let v458 : BitVec 1 := Scalar.xori v456 v457
  let c0_i32_443 : BitVec 32 := 0#32
  let v455 : BitVec 1 := Scalar.cmpi .ne v454 c0_i32_443
  let v459 : BitVec 1 := Scalar.andi v458 v455
  let v460 : BitVec 32 := Scalar.addi v454 v453
  let v461 : BitVec 32 := Scalar.select v459 v460 v454
  v461
def k0_off7 (k0_t2 : Fin k0_t2_loop.trips) : Fin 2 → Nat :=
  let c0_i32_147 : BitVec 32 := 0#32
  let c1_i32_149 : BitVec 32 := 1#32
  let arg22 : BitVec 32 := Scf.iv c0_i32_147 c1_i32_149 k0_t2
  let c16_i32_428 : BitVec 32 := 16#32
  let v409 : BitVec 32 := Scalar.muli arg22 c16_i32_428
  let v410 : BitVec 32 := v409
  let c128_i32 : BitVec 32 := 128#32
  let c0_i32_441 : BitVec 32 := 0#32
  let v452 : BitVec 1 := Scalar.cmpi .eq c128_i32 c0_i32_441
  let c1_i32_442 : BitVec 32 := 1#32
  let v453 : BitVec 32 := Scalar.select v452 c1_i32_442 c128_i32
  let v454 : BitVec 32 := Scalar.remsi v410 v453
  let c0_i32_444 : BitVec 32 := 0#32
  let v456 : BitVec 1 := Scalar.cmpi .slt v454 c0_i32_444
  let c0_i32_445 : BitVec 32 := 0#32
  let v457 : BitVec 1 := Scalar.cmpi .slt v453 c0_i32_445
  let v458 : BitVec 1 := Scalar.xori v456 v457
  let c0_i32_443 : BitVec 32 := 0#32
  let v455 : BitVec 1 := Scalar.cmpi .ne v454 c0_i32_443
  let v459 : BitVec 1 := Scalar.andi v458 v455
  let v460 : BitVec 32 := Scalar.addi v454 v453
  let v461 : BitVec 32 := Scalar.select v459 v460 v454
  let v462 : BitVec 32 := v461
  let v463 : Index := Scalar.indexCast v462
  let c0_446 : Index := 0#32
  ![v463.toNat, 0]
@[reducible] def k0_t3_loop : Scf.Loop 32 :=
  let c0_i32_423 : BitVec 32 := 0#32
  let c16_i32_424 : BitVec 32 := 16#32
  let v405 : BitVec 32 := Scalar.addi c0_i32_423 c16_i32_424
  let c1_i32_425 : BitVec 32 := 1#32
  ⟨c0_i32_423, v405, c1_i32_425⟩
def k0_mult4 (k0_t3 : Fin k0_t3_loop.trips) : BitVec 32 :=
  let c0_i32_423 : BitVec 32 := 0#32
  let c1_i32_425 : BitVec 32 := 1#32
  let arg22 : BitVec 32 := Scf.iv c0_i32_423 c1_i32_425 k0_t3
  let c16_i32_428 : BitVec 32 := 16#32
  let v409 : BitVec 32 := Scalar.muli arg22 c16_i32_428
  v409
def k0_off8 (k0_t3 : Fin k0_t3_loop.trips) : Fin 2 → Nat :=
  let c0_i32_423 : BitVec 32 := 0#32
  let c1_i32_425 : BitVec 32 := 1#32
  let arg22 : BitVec 32 := Scf.iv c0_i32_423 c1_i32_425 k0_t3
  let c16_i32_428 : BitVec 32 := 16#32
  let v409 : BitVec 32 := Scalar.muli arg22 c16_i32_428
  let v410 : BitVec 32 := v409
  let v411 : Index := Scalar.indexCast v410
  let c0_429 : Index := 0#32
  ![v411.toNat, 0]
def k0_off9 (k0_t3 : Fin k0_t3_loop.trips) : Fin 2 → Nat :=
  let c0_i32_423 : BitVec 32 := 0#32
  let c1_i32_425 : BitVec 32 := 1#32
  let arg22 : BitVec 32 := Scf.iv c0_i32_423 c1_i32_425 k0_t3
  let c16_i32_428 : BitVec 32 := 16#32
  let v409 : BitVec 32 := Scalar.muli arg22 c16_i32_428
  let v410 : BitVec 32 := v409
  let v415 : Index := Scalar.indexCast v410
  let c0_431 : Index := 0#32
  ![v415.toNat, 0]
def k0_off10 (k0_t3 : Fin k0_t3_loop.trips) : Fin 2 → Nat :=
  let c0_i32_423 : BitVec 32 := 0#32
  let c1_i32_425 : BitVec 32 := 1#32
  let arg22 : BitVec 32 := Scf.iv c0_i32_423 c1_i32_425 k0_t3
  let c16_i32_428 : BitVec 32 := 16#32
  let v409 : BitVec 32 := Scalar.muli arg22 c16_i32_428
  let v410 : BitVec 32 := v409
  let v451 : Index := Scalar.indexCast v410
  let c1024 : Index := 1024#32
  ![v451.toNat, 1024]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v406 : BitVec 1 := Scalar.cmpi .eq arg0 c15_i32
  let v407 : BitVec 32 := Scalar.extui v406
  let c0_i32_427 : BitVec 32 := 0#32
  let v408 : BitVec 1 := Scalar.cmpi .ne v407 c0_i32_427
  v408

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BKernelIdeal.lean ====
variable {F : FTy → Type} [FloatOps F] [Named F]
def κ : String → Option EReal := fun
  | "half_slope" => some (((9465531 / 16777216) * (Real.sqrt 2)⁻¹ : ℝ) : EReal)
  | "sqrt_half" => some (((Real.sqrt 2)⁻¹ : ℝ) : EReal)
  | _ => none
-- ==== BReferenceIdeal.lean ====
abbrev S4096x8192 : Shape := ⟨2, ![4096, 8192]⟩
abbrev S4096x1024 : Shape := ⟨2, ![4096, 1024]⟩
abbrev S8x128x128 : Shape := ⟨3, ![8, 128, 128]⟩
abbrev S8x128 : Shape := ⟨2, ![8, 128]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩
abbrev S1024 : Shape := ⟨1, ![1024]⟩
abbrev S4096x3072 : Shape := ⟨2, ![4096, 3072]⟩
abbrev S4096x2048 : Shape := ⟨2, ![4096, 2048]⟩
abbrev S6x1024 : Shape := ⟨2, ![6, 1024]⟩
abbrev S8x1024 : Shape := ⟨2, ![8, 1024]⟩

abbrev nBuf : Space → Nat
  | .hbm => 212
  | .vmem => 0
  | .smem => 0
  | _ => 0

abbrev hbmTy0_0 (i : Nat) : BufTy := match i % 128 with
  | 0 => ⟨S4096x8192, .bf16⟩
  | 1 => ⟨S4096x1024, .f32⟩
  | 2 => ⟨S4096x8192, .bf16⟩
  | 3 => ⟨S8x128x128, .f32⟩
  | 4 => ⟨S8x128, .f32⟩
  | 5 => ⟨S1x1024, .f32⟩
  | 6 => ⟨S1x1024, .f32⟩
  | 7 => ⟨S4096x1024, .bf16⟩
  | 8 => ⟨S4096x1024, .f32⟩
  | 9 => ⟨S4096x1024, .bf16⟩
  | 10 => ⟨S4096x1024, .f32⟩
  | 11 => ⟨S4096x1024, .bf16⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S_, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S_, .f32⟩
  | 31 => ⟨S_, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S32x128x8x128, .f32⟩
  | 69 => ⟨S_, .i1⟩
  | 70 => ⟨S128x128, .i1⟩
  | 71 => ⟨S128x128, .i32⟩
  | 72 => ⟨S_, .i32⟩
  | 73 => ⟨S128x128, .i32⟩
  | 74 => ⟨S128x128, .i32⟩
  | 75 => ⟨S128x128, .i32⟩
  | 76 => ⟨S128x128, .i1⟩
  | 77 => ⟨S_, .i1⟩
  | 78 => ⟨S128x128, .i1⟩
  | 79 => ⟨S128x128, .i1⟩
  | 80 => ⟨S1x128x128, .i1⟩
  | 81 => ⟨S_, .f32⟩
  | 82 => ⟨S8x128x128, .i1⟩
  | 83 => ⟨S8x128x128, .f32⟩
  | 84 => ⟨S8x128x128, .f32⟩
  | 85 => ⟨S_, .f32⟩
  | 86 => ⟨S8x128x128, .f32⟩
  | 87 => ⟨S8x32x128x128, .f32⟩
  | 88 => ⟨S32x128x8x128, .f32⟩
  | 89 => ⟨S128x8, .f32⟩
  | 90 => ⟨S128x8x1, .f32⟩
  | 91 => ⟨S1x128x8x1, .f32⟩
  | 92 => ⟨S32x128x8x128, .f32⟩
  | 93 => ⟨S32x128x8x128, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S32x128x8x128, .f32⟩
  | 119 => ⟨S_, .f32⟩
  | 120 => ⟨S128x8, .f32⟩
  | 121 => ⟨S1x128x8x1, .f32⟩
  | 122 => ⟨S_, .f32⟩
  | 123 => ⟨S128x8, .f32⟩
  | 124 => ⟨S128x8x1, .f32⟩
  | 125 => ⟨S_, .f32⟩
  | 126 => ⟨S128x8, .f32⟩
  | 127 => ⟨S8x128, .f32⟩
  | _ => ⟨S4096x8192, .bf16⟩

abbrev hbmTy0_1 (i : Nat) : BufTy := match i % 128 with
  | 0 => ⟨S8x32x128x128, .f32⟩
  | 1 => ⟨S8x128x128, .f32⟩
  | 2 => ⟨S8x32x128x128, .f32⟩
  | 3 => ⟨S32x128x8x128, .f32⟩
  | 4 => ⟨S_, .f32⟩
  | 5 => ⟨S8x128x128, .f32⟩
  | 6 => ⟨S8x128x128, .f32⟩
  | 7 => ⟨S4096x1024, .f32⟩
  | 8 => ⟨S_, .f32⟩
  | 9 => ⟨S1024, .f32⟩
  | 10 => ⟨S1x1024, .f32⟩
  | 11 => ⟨S4096x1024, .f32⟩
  | 12 => ⟨S_, .f32⟩
  | 13 => ⟨S1024, .f32⟩
  | 14 => ⟨S1x1024, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S4096x1024, .f32⟩
  | 22 => ⟨S4096x1024, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1024, .f32⟩
  | 71 => ⟨S4096x3072, .bf16⟩
  | 72 => ⟨S4096x1024, .bf16⟩
  | 73 => ⟨S4096x1024, .bf16⟩
  | 74 => ⟨S4096x1024, .bf16⟩
  | 75 => ⟨S4096x2048, .bf16⟩
  | 76 => ⟨S4096x8192, .bf16⟩
  | 77 => ⟨S_, .f32⟩
  | 78 => ⟨S6x1024, .f32⟩
  | 79 => ⟨S8x1024, .f32⟩
  | 80 => ⟨S128x8, .f32⟩
  | 81 => ⟨S_, .i32⟩
  | 82 => ⟨S_, .f32⟩
  | 83 => ⟨S128x128, .f32⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_v52 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55_1 : Ref sig .tc := ⟨.hbm, 82, rfl⟩
abbrev main_call1_v1 : Ref sig .tc := ⟨.hbm, 83, rfl⟩
abbrev main_v55_0 : Ref sig .tc := ⟨.hbm, 84, rfl⟩
abbrev main_call1_cst : Ref sig .tc := ⟨.hbm, 85, rfl⟩
abbrev main_v55_2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_v65_2 : Ref sig .tc := ⟨.hbm, 103, rfl⟩
abbrev main_call2_cst_1 : Ref sig .tc := ⟨.hbm, 104, rfl⟩
abbrev main_call2_v6 : Ref sig .tc := ⟨.hbm, 105, rfl⟩
abbrev main_call2_v7 : Ref sig .tc := ⟨.hbm, 106, rfl⟩
abbrev main_v65_1 : Ref sig .tc := ⟨.hbm, 107, rfl⟩
abbrev main_v65_0 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_10 : Ref sig .tc := ⟨.hbm, 119, rfl⟩
abbrev main_v73 : Ref sig .tc := ⟨.hbm, 120, rfl⟩
abbrev main_v74 : Ref sig .tc := ⟨.hbm, 121, rfl⟩
abbrev main_cst_11 : Ref sig .tc := ⟨.hbm, 122, rfl⟩
abbrev main_v75 : Ref sig .tc := ⟨.hbm, 123, rfl⟩
abbrev main_v76 : Ref sig .tc := ⟨.hbm, 124, rfl⟩
abbrev main_cst_12 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_call4_cst : Ref sig .tc := ⟨.hbm, 132, rfl⟩
abbrev main_call4_v0 : Ref sig .tc := ⟨.hbm, 133, rfl⟩
abbrev main_v83 : Ref sig .tc := ⟨.hbm, 134, rfl⟩
abbrev main_v84 : Ref sig .tc := ⟨.hbm, 135, rfl⟩
abbrev main_cst_13 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_14 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_15 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_16 : Ref sig .tc := ⟨.hbm, 152, rfl⟩
abbrev main_v98 : Ref sig .tc := ⟨.hbm, 153, rfl⟩
abbrev main_v99 : Ref sig .tc := ⟨.hbm, 154, rfl⟩
abbrev main_cst_17 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_18 : Ref sig .tc := ⟨.hbm, 163, rfl⟩
abbrev main_v107 : Ref sig .tc := ⟨.hbm, 164, rfl⟩
abbrev main_v108 : Ref sig .tc := ⟨.hbm, 165, rfl⟩
abbrev main_cst_19 : Ref sig .tc := ⟨.hbm, 166, rfl⟩
abbrev main_v109 : Ref sig .tc := ⟨.hbm, 167, rfl⟩
abbrev main_v110 : Ref sig .tc := ⟨.hbm, 168, rfl⟩
abbrev main_cst_20 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_21 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_22 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_23 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_24 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_cst_25 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_c_26 : Ref sig .tc := ⟨.hbm, 209, rfl⟩
abbrev main_call5_v0 : Ref sig .tc := ⟨.hbm, 210, rfl⟩
abbrev main_v145 : Ref sig .tc := ⟨.hbm, 211, rfl⟩

abbrev nD : Nat := 1
abbrev τ : Topo := Topo.v7x

variable {F : FTy → Type} [FloatOps F]
-- ==== OutKernel.lean ====
abbrev S4096x8192 : Shape := ⟨2, ![4096, 8192]⟩
abbrev S4096x1024 : Shape := ⟨2, ![4096, 1024]⟩
abbrev S1x1024 : Shape := ⟨2, ![1, 1024]⟩
abbrev S1024x1024 : Shape := ⟨2, ![1024, 1024]⟩
abbrev S8x1024 : Shape := ⟨2, ![8, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 22
  | .vmem => 32
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x8192, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S8x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x2048, .bf16⟩
  | .local _ .vmem, ⟨22, _⟩ => ⟨S256x2048, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S8x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== OutReferenceIdeal.lean ====
abbrev S4096x8192 : Shape := ⟨2, ![4096, 8192]⟩
abbrev S4096x1024 : Shape := ⟨2, ![4096, 1024]⟩
abbrev S1x1024 : Shape := ⟨2, ![1, 1024]⟩
abbrev S1024x1024 : Shape := ⟨2, ![1024, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x6144 : Shape := ⟨2, ![4096, 6144]⟩
abbrev S5x1024 : Shape := ⟨2, ![5, 1024]⟩
abbrev S8x1024 : Shape := ⟨2, ![8, 1024]⟩

abbrev nBuf : Space → Nat
  | .hbm => 156
  | .vmem => 0
  | .smem => 0
  | _ => 0

abbrev hbmTy0_0 (i : Nat) : BufTy := match i % 128 with
  | 0 => ⟨S4096x8192, .bf16⟩
  | 1 => ⟨S4096x1024, .bf16⟩
  | 2 => ⟨S4096x1024, .bf16⟩
  | 3 => ⟨S4096x1024, .f32⟩
  | 4 => ⟨S4096x1024, .f32⟩
  | 5 => ⟨S1x1024, .f32⟩
  | 6 => ⟨S1x1024, .f32⟩
  | 7 => ⟨S1024x1024, .f32⟩
  | 8 => ⟨S1024x1024, .f32⟩
  | 9 => ⟨S1024x1024, .f32⟩
  | 10 => ⟨S4096x2048, .bf16⟩
  | 11 => ⟨S4096x2048, .f32⟩
  | 12 => ⟨S_, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S_, .f32⟩
  | 79 => ⟨S1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S4096, .f32⟩
  | 86 => ⟨S_, .f32⟩
  | 87 => ⟨S4096, .f32⟩
  | 88 => ⟨S4096, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S4096, .f32⟩
  | 97 => ⟨S_, .f32⟩
  | 98 => ⟨S4096, .f32⟩
  | 99 => ⟨S4096, .f32⟩
  | 100 => ⟨S4096x1024, .f32⟩
  | 101 => ⟨S4096x1024, .f32⟩
  | 102 => ⟨S4096x1024, .f32⟩
  | 103 => ⟨S_, .f32⟩
  | 104 => ⟨S1024, .f32⟩
  | 105 => ⟨S1x1024, .f32⟩
  | 106 => ⟨S4096x1024, .f32⟩
  | 107 => ⟨S4096x1024, .f32⟩
  | 108 => ⟨S4096x1024, .f32⟩
  | 109 => ⟨S_, .f32⟩
  | 110 => ⟨S4096, .f32⟩
  | 111 => ⟨S4096x1, .f32⟩
  | 112 => ⟨S4096x1024, .f32⟩
  | 113 => ⟨S4096x1024, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x8192, .bf16⟩

abbrev hbmTy0_1 (i : Nat) : BufTy := match i % 128 with
  | 0 => ⟨S_, .f32⟩
  | 1 => ⟨S1024, .f32⟩
  | 2 => ⟨S1x1024, .f32⟩
  | 3 => ⟨S4096x1024, .f32⟩
  | 4 => ⟨S4096x1024, .f32⟩
  | 5 => ⟨S4096x1024, .f32⟩
  | 6 => ⟨S4096x1024, .f32⟩
  | 7 => ⟨S_, .f32⟩
  | 8 => ⟨S4096x2048, .f32⟩
  | 9 => ⟨S4096x1024, .f32⟩
  | 10 => ⟨S4096x1024, .f32⟩
  | 11 => ⟨S4096x1024, .f32⟩
  | 12 => ⟨S_, .f32⟩
  | 13 => ⟨S4096x2048, .f32⟩
  | 14 => ⟨S4096x2048, .f32⟩
  | 15 => ⟨S4096x1024, .f32⟩
  | 16 => ⟨S4096x1024, .f32⟩
  | 17 => ⟨S_, .f32⟩
  | 18 => ⟨S4096x6144, .f32⟩
  | 19 => ⟨S4096x8192, .f32⟩
  | 20 => ⟨S4096x8192, .bf16⟩
  | 21 => ⟨S4096x1024, .bf16⟩
  | 22 => ⟨S4096x1024, .bf16⟩
  | 23 => ⟨S4096x1024, .bf16⟩
  | 24 => ⟨S4096x1024, .bf16⟩
  | 25 => ⟨S_, .f32⟩
  | 26 => ⟨S5x1024, .f32⟩
  | 27 => ⟨S8x1024, .f32⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_cst_17 : Ref sig .tc := ⟨.hbm, 93, rfl⟩
abbrev main_cst_18 : Ref sig .tc := ⟨.hbm, 94, rfl⟩
abbrev main_v65 : Ref sig .tc := ⟨.hbm, 95, rfl⟩
abbrev main_v66 : Ref sig .tc := ⟨.hbm, 96, rfl⟩
abbrev main_cst_19 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_21 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_22 : Ref sig .tc := ⟨.hbm, 115, rfl⟩
abbrev main_v82 : Ref sig .tc := ⟨.hbm, 116, rfl⟩
abbrev main_v83 : Ref sig .tc := ⟨.hbm, 117, rfl⟩
abbrev main_cst_23 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_24 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_25 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_26 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_27 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_28 : Ref sig .tc := ⟨.hbm, 153, rfl⟩
abbrev main_v114 : Ref sig .tc := ⟨.hbm, 154, rfl⟩
abbrev main_v115 : Ref sig .tc := ⟨.hbm, 155, rfl⟩

abbrev nD : Nat := 1
abbrev τ : Topo := Topo.v7x

variable {F : FTy → Type} [FloatOps F]
-- ==== BfKernel.lean ====
abbrev S4096x8192 : Shape := ⟨2, ![4096, 8192]⟩
abbrev S8x128x128 : Shape := ⟨3, ![8, 128, 128]⟩
abbrev S8x128 : Shape := ⟨2, ![8, 128]⟩
abbrev S1x1024 : Shape := ⟨2, ![1, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S4096x1024 : Shape := ⟨2, ![4096, 1024]⟩
abbrev S256x3072 : Shape := ⟨2, ![256, 3072]⟩
abbrev S256x1024 : Shape := ⟨2, ![256, 1024]⟩
abbrev S16x1024 : Shape := ⟨2, ![16, 1024]⟩
abbrev S16 : Shape := ⟨1, ![16]⟩
abbrev S16x1 : Shape := ⟨2, ![16, 1]⟩

abbrev nBuf : Space → Nat
  | .hbm => 27
  | .vmem => 10
  | .smem => 0
  | _ => 0

abbrev bufTy : (tb : Table) → Fin (tcTables nBuf tb) → BufTy
  | .hbm, ⟨0, _⟩ => ⟨S4096x8192, .bf16⟩
  | .hbm, ⟨1, _⟩ => ⟨S8x128x128, .f32⟩
  | .hbm, ⟨2, _⟩ => ⟨S8x128, .f32⟩
  | .hbm, ⟨3, _⟩ => ⟨S1x1024, .f32⟩
  | .hbm, ⟨4, _⟩ => ⟨S1x1024, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S128x8, .f32⟩
  | .hbm, ⟨24, _⟩ => ⟨S128x8x128, .f32⟩
  | .hbm, ⟨25, _⟩ => ⟨S128x1024, .f32⟩
  | .hbm, ⟨26, _⟩ => ⟨S4096x1024, .bf16⟩
  | .local _ .vmem, ⟨0, _⟩ => ⟨S256x3072, .bf16⟩
  | .local _ .vmem, ⟨1, _⟩ => ⟨S256x3072, .bf16⟩
  | .local _ .vmem, ⟨2, _⟩ => ⟨S8x128x128, .bf16⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_149 : BitVec 32 := 16#32
  let v162 : BitVec 32 := Scalar.muli arg9 c16_i32_149
  v162
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_149 : BitVec 32 := 16#32
  let v162 : BitVec 32 := Scalar.muli arg9 c16_i32_149
  let v163 : BitVec 32 := v162
  let v164 : Index := Scalar.indexCast v163
  let c1024 : Index := 1024#32
  ![v164.toNat, 1024]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_149 : BitVec 32 := 16#32
  let v162 : BitVec 32 := Scalar.muli arg9 c16_i32_149
  let v163 : BitVec 32 := v162
  let v198 : Index := Scalar.indexCast v163
  let c0_162 : Index := 0#32
  ![v198.toNat, 0]
@[reducible] def k0_t2_loop : Scf.Loop 32 :=
  let c0_i32_145 : BitVec 32 := 0#32
  let c16_i32_146 : BitVec 32 := 16#32
  let v161 : BitVec 32 := Scalar.addi c0_i32_145 c16_i32_146
  let c1_i32_147 : BitVec 32 := 1#32
  ⟨c0_i32_145, v161, c1_i32_147⟩
def k0_mult2 (k0_t2 : Fin k0_t2_loop.trips) : BitVec 32 :=
  let c0_i32_145 : BitVec 32 := 0#32
  let c1_i32_147 : BitVec 32 := 1#32
  let arg9 : BitVec 32 := Scf.iv c0_i32_145 c1_i32_147 k0_t2
  let c16_i32_149 : BitVec 32 := 16#32
  let v162 : BitVec 32 := Scalar.muli arg9 c16_i32_149
  v162
def k0_off3 (k0_t2 : Fin k0_t2_loop.trips) : Fin 2 → Nat :=
  let c0_i32_145 : BitVec 32 := 0#32
  let c1_i32_147 : BitVec 32 := 1#32
  let arg9 : BitVec 32 := Scf.iv c0_i32_145 c1_i32_147 k0_t2
  let c16_i32_149 : BitVec 32 := 16#32
  let v162 : BitVec 32 := Scalar.muli arg9 c16_i32_149
  let v163 : BitVec 32 := v162
  let v164 : Index := Scalar.indexCast v163
  let c0_150 : Index := 0#32
  ![v164.toNat, 0]
def k0_off4 (k0_t2 : Fin k0_t2_loop.trips) : Fin 2 → Nat :=
  let c0_i32_145 : BitVec 32 := 0#32
  let c1_i32_147 : BitVec 32 := 1#32
  let arg9 : BitVec 32 := Scf.iv c0_i32_145 c1_i32_147 k0_t2
  let c16_i32_149 : BitVec 32 := 16#32
  let v162 : BitVec 32 := Scalar.muli arg9 c16_i32_149
  let v163 : BitVec 32 := v162
  let v175 : Index := Scalar.indexCast v163
  let c2048 : Index := 2048#32
  ![v175.toNat, 2048]
def k0_off5 (k0_t2 : Fin k0_t2_loop.trips) : Fin 2 → Nat :=
  let c0_i32_145 : BitVec 32 := 0#32
  let c1_i32_147 : BitVec 32 := 1#32
  let arg9 : BitVec 32 := Scf.iv c0_i32_145 c1_i32_147 k0_t2
  let c16_i32_149 : BitVec 32 := 16#32
  let v162 : BitVec 32 := Scalar.muli arg9 c16_i32_149
  let v163 : BitVec 32 := v162
  let v178 : Index := Scalar.indexCast v163
  let c0_154 : Index := 0#32
  ![v178.toNat, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BfKernelIdeal.lean ====
variable {F : FTy → Type} [FloatOps F] [Named F]
def κ : String → Option EReal := fun
  | "sqrt_half" => some (((Real.sqrt 2)⁻¹ : ℝ) : EReal)
  | _ => none
-- ==== BfReferenceIdeal.lean ====
abbrev S4096x8192 : Shape := ⟨2, ![4096, 8192]⟩
abbrev S8x128x128 : Shape := ⟨3, ![8, 128, 128]⟩
abbrev S8x128 : Shape := ⟨2, ![8, 128]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 93
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x128x128, .f32⟩
  | .hbm, ⟨2, _⟩ => ⟨S8x128, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S32x128x8x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S8x128x128, .i1⟩
  | .hbm, ⟨71, _⟩ => ⟨S8x128x128, .f32⟩
  | .hbm, ⟨72, _⟩ => ⟨S8x128x128, .f32⟩
  | .hbm, ⟨73, _⟩ => ⟨S8x32x128x128, .f32⟩
  | .hbm, ⟨74, _⟩ => ⟨S32x128x8x128, .f32⟩
  | .hbm, ⟨75, _⟩ => ⟨S128x8, .f32⟩
  | .hbm, ⟨76, _⟩ => ⟨S128x8x1, .f32⟩
  | .hbm, ⟨77, _⟩ => ⟨S1x128x8x1, .f32⟩
  | .hbm, ⟨78, _⟩ => ⟨S32x128x8x128, .f32⟩
  | .hbm, ⟨79, _⟩ => ⟨S32x128x8x128, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_v43 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_call1_v0 : Ref sig .tc := ⟨.hbm, 70, rfl⟩
abbrev main_call1_v1 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]
-- ==== AbKernel.lean ====
abbrev S4096x8192 : Shape := ⟨2, ![4096, 8192]⟩
abbrev S4096x1024 : Shape := ⟨2, ![4096, 1024]⟩
abbrev S31x1024 : Shape := ⟨2, ![31, 1024]⟩
abbrev S1x1024 : Shape := ⟨2, ![1, 1024]⟩
abbrev S_ : Shape := ⟨0, ![]⟩
abbrev S30x1024 : Shape := ⟨2, ![30, 1024]⟩
abbrev S4126x1024 : Shape := ⟨2, ![4126, 1024]⟩
abbrev S1x4096x1024 : Shape := ⟨3, ![1, 4096, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S31x1x1024 : Shape := ⟨3, ![31, 1, 1024]⟩
abbrev S31x8x1024 : Shape := ⟨3, ![31, 8, 1024]⟩
abbrev S248x1024 : Shape := ⟨2, ![248, 1024]⟩
abbrev S40x1024 : Shape := ⟨2, ![40, 1024]⟩
abbrev S256x3072 : Shape := ⟨2, ![256, 3072]⟩
abbrev S256x1024 : Shape := ⟨2, ![256, 1024]⟩
abbrev S288x1024 : Shape := ⟨2, ![288, 1024]⟩
abbrev S48x1024 : Shape := ⟨2, ![48, 1024]⟩
abbrev S32x1024 : Shape := ⟨2, ![32, 1024]⟩
abbrev S16x1024 : Shape := ⟨2, ![16, 1024]⟩
abbrev S16 : Shape := ⟨1, ![16]⟩
abbrev S16x1 : Shape := ⟨2, ![16, 1]⟩
abbrev S96x128 : Shape := ⟨2, ![96, 128]⟩
abbrev S16x128 : Shape := ⟨2, ![16, 128]⟩
abbrev S8x128 : Shape := ⟨2, ![8, 128]⟩
abbrev S88x128 : Shape := ⟨2, ![88, 128]⟩
abbrev S80x128 : Shape := ⟨2, ![80, 128]⟩
abbrev S1024 : Shape := ⟨1, ![1024]⟩
abbrev S8x1024 : Shape := ⟨2, ![8, 1024]⟩

abbrev nBuf : Space → Nat
  | .hbm => 99
  | .vmem => 15
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .f32⟩
  | .hbm, ⟨2, _⟩ => ⟨S4096x8192, .bf16⟩
  | .hbm, ⟨3, _⟩ => ⟨S31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S_, .f32⟩
  | .hbm, ⟨12, _⟩ => ⟨S30x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4126x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S1x4096x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S16x4096x1024, .f32⟩
  | .hbm, ⟨86, _⟩ => ⟨S15x4096x1024, .f32⟩
  | .hbm, ⟨87, _⟩ => ⟨S31x4096x1024, .f32⟩
  | .hbm, ⟨88, _⟩ => ⟨S31x1x1024, .f32⟩
  | .hbm, ⟨89, _⟩ => ⟨S31x4096x1024, .f32⟩
  | .hbm, ⟨90, _⟩ => ⟨S31x4096x1024, .f32⟩
  | .hbm, ⟨91, _⟩ => ⟨S_, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S31x8x1024, .f32⟩
  | .hbm, ⟨96, _⟩ => ⟨S248x1024, .f32⟩
  | .hbm, ⟨97, _⟩ => ⟨S4096x8192, .bf16⟩
  | .hbm, ⟨98, _⟩ => ⟨S40x1024, .f32⟩
  | .local _ .vmem, ⟨0, _⟩ => ⟨S256x3072, .bf16⟩
  | .local _ .vmem, ⟨1, _⟩ => ⟨S256x3072, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S248x1024, .f32⟩
  | .local _ .vmem, ⟨7, _⟩ => ⟨S1x1024, .f32⟩
  | .local _ .vmem, ⟨8, _⟩ => ⟨S1x1024, .f32⟩
  | .local _ .vmem, ⟨9, _⟩ => ⟨S256x3072, .bf16⟩
  | .local _ .vmem, ⟨10, _⟩ => ⟨S256x3072, .bf16⟩
  | .local _ .vmem, ⟨11, _⟩ => ⟨S40x1024, .f32⟩
  | .local _ .vmem, ⟨12, _⟩ => ⟨S288x1024, .f32⟩
  | .local _ .vmem, ⟨13, _⟩ => ⟨S48x1024, .f32⟩
  | .local _ .vmem, ⟨14, _⟩ => ⟨S248x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_2 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86_0 : Ref sig .tc := ⟨.hbm, 97, rfl⟩
abbrev main_v86_1 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c16_i32_9 : BitVec 32 := 16#32
  let v12 : BitVec 32 := Scalar.muli arg13 c16_i32_9
  v12
def k0_off1 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c16_i32_9 : BitVec 32 := 16#32
  let v12 : BitVec 32 := Scalar.muli arg13 c16_i32_9
  let v13 : BitVec 32 := v12
  let v14 : Index := Scalar.indexCast v13
  let c0_10 : Index := 0#32
  ![v14.toNat, 0]
def k0_off2 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c16_i32_9 : BitVec 32 := 16#32
  let v12 : BitVec 32 := Scalar.muli arg13 c16_i32_9
  let v13 : BitVec 32 := v12
  let v46 : Index := Scalar.indexCast v13
  let c2048 : Index := 2048#32
  ![v46.toNat, 2048]
def k0_off3 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c16_i32_9 : BitVec 32 := 16#32
  let v12 : BitVec 32 := Scalar.muli arg13 c16_i32_9
  let v13 : BitVec 32 := v12
  let v114 : Index := Scalar.indexCast v13
  let c0_47 : Index := 0#32
  ![v114.toNat, 0]
@[reducible] def k0_t2_loop : Scf.Loop 32 :=
  let c0_i32_3 : BitVec 32 := 0#32
  let c4_i32 : BitVec 32 := 4#32
  let v4 : BitVec 32 := Scalar.addi c0_i32_3 c4_i32
  let c1_i32_4 : BitVec 32 := 1#32
  ⟨c0_i32_3, v4, c1_i32_4⟩
def k0_mult2 (k0_t2 : Fin k0_t2_loop.trips) : BitVec 32 :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  v12
def k0_off4 (k0_t2 : Fin k0_t2_loop.trips) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v14 : Index := Scalar.indexCast v13
  let c0_9 : Index := 0#32
  ![v14.toNat, 0]
def k0_off5 (k0_t2 : Fin k0_t2_loop.trips) (c0_i32_10 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v16 : BitVec 32 := Scalar.addi v13 c0_i32_10
  let v17 : Index := Scalar.indexCast v16
  let c1024 : Index := 1024#32
  ![v17.toNat, 1024]
def k0_off6 (k0_t2 : Fin k0_t2_loop.trips) (c0_i32_10 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v16 : BitVec 32 := Scalar.addi v13 c0_i32_10
  let v27 : Index := Scalar.indexCast v16
  let c0_13 : Index := 0#32
  ![v27.toNat, 0]
def k0_off7 (k0_t2 : Fin k0_t2_loop.trips) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v1578 : Index := Scalar.indexCast v13
  let c128_210 : Index := 128#32
  ![v1578.toNat, 128]
def k0_off8 (k0_t2 : Fin k0_t2_loop.trips) (c0_i32_211 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v1580 : BitVec 32 := Scalar.addi v13 c0_i32_211
  let v1581 : Index := Scalar.indexCast v1580
  let c1152 : Index := 1152#32
  ![v1581.toNat, 1152]
def k0_off9 (k0_t2 : Fin k0_t2_loop.trips) (c0_i32_211 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v1580 : BitVec 32 := Scalar.addi v13 c0_i32_211
  let v1591 : Index := Scalar.indexCast v1580
  let c128_215 : Index := 128#32
  ![v1591.toNat, 128]
def k0_off10 (k0_t2 : Fin k0_t2_loop.trips) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v3142 : Index := Scalar.indexCast v13
  let c256_444 : Index := 256#32
  ![v3142.toNat, 256]
def k0_off11 (k0_t2 : Fin k0_t2_loop.trips) (c0_i32_445 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v3144 : BitVec 32 := Scalar.addi v13 c0_i32_445
  let v3145 : Index := Scalar.indexCast v3144
  let c1280 : Index := 1280#32
  ![v3145.toNat, 1280]
def k0_off12 (k0_t2 : Fin k0_t2_loop.trips) (c0_i32_445 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v3144 : BitVec 32 := Scalar.addi v13 c0_i32_445
  let v3155 : Index := Scalar.indexCast v3144
  let c256_449 : Index := 256#32
  ![v3155.toNat, 256]
def k0_off13 (k0_t2 : Fin k0_t2_loop.trips) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v4706 : Index := Scalar.indexCast v13
  let c384 : Index := 384#32
  ![v4706.toNat, 384]
def k0_off14 (k0_t2 : Fin k0_t2_loop.trips) (c0_i32_678 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v4708 : BitVec 32 := Scalar.addi v13 c0_i32_678
  let v4709 : Index := Scalar.indexCast v4708
  let c1408 : Index := 1408#32
  ![v4709.toNat, 1408]
def k0_off15 (k0_t2 : Fin k0_t2_loop.trips) (c0_i32_678 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v4708 : BitVec 32 := Scalar.addi v13 c0_i32_678
  let v4719 : Index := Scalar.indexCast v4708
  let c384_682 : Index := 384#32
  ![v4719.toNat, 384]
def k0_off16 (k0_t2 : Fin k0_t2_loop.trips) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v6270 : Index := Scalar.indexCast v13
  let c512 : Index := 512#32
  ![v6270.toNat, 512]
def k0_off17 (k0_t2 : Fin k0_t2_loop.trips) (c0_i32_911 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v6272 : BitVec 32 := Scalar.addi v13 c0_i32_911
  let v6273 : Index := Scalar.indexCast v6272
  let c1536 : Index := 1536#32
  ![v6273.toNat, 1536]
def k0_off18 (k0_t2 : Fin k0_t2_loop.trips) (c0_i32_911 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v6272 : BitVec 32 := Scalar.addi v13 c0_i32_911
  let v6283 : Index := Scalar.indexCast v6272
  let c512_915 : Index := 512#32
  ![v6283.toNat, 512]
def k0_off19 (k0_t2 : Fin k0_t2_loop.trips) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v7834 : Index := Scalar.indexCast v13
  let c640 : Index := 640#32
  ![v7834.toNat, 640]
def k0_off20 (k0_t2 : Fin k0_t2_loop.trips) (c0_i32_1144 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v7836 : BitVec 32 := Scalar.addi v13 c0_i32_1144
  let v7837 : Index := Scalar.indexCast v7836
  let c1664 : Index := 1664#32
  ![v7837.toNat, 1664]
def k0_off21 (k0_t2 : Fin k0_t2_loop.trips) (c0_i32_1144 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v7836 : BitVec 32 := Scalar.addi v13 c0_i32_1144
  let v7847 : Index := Scalar.indexCast v7836
  let c640_1148 : Index := 640#32
  ![v7847.toNat, 640]
def k0_off22 (k0_t2 : Fin k0_t2_loop.trips) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v9398 : Index := Scalar.indexCast v13
  let c768 : Index := 768#32
  ![v9398.toNat, 768]
def k0_off23 (k0_t2 : Fin k0_t2_loop.trips) (c0_i32_1377 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v9400 : BitVec 32 := Scalar.addi v13 c0_i32_1377
  let v9401 : Index := Scalar.indexCast v9400
  let c1792 : Index := 1792#32
  ![v9401.toNat, 1792]
def k0_off24 (k0_t2 : Fin k0_t2_loop.trips) (c0_i32_1377 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v9400 : BitVec 32 := Scalar.addi v13 c0_i32_1377
  let v9411 : Index := Scalar.indexCast v9400
  let c768_1381 : Index := 768#32
  ![v9411.toNat, 768]
def k0_off25 (k0_t2 : Fin k0_t2_loop.trips) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v10962 : Index := Scalar.indexCast v13
  let c896 : Index := 896#32
  ![v10962.toNat, 896]
def k0_off26 (k0_t2 : Fin k0_t2_loop.trips) (c0_i32_1610 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v10964 : BitVec 32 := Scalar.addi v13 c0_i32_1610
  let v10965 : Index := Scalar.indexCast v10964
  let c1920 : Index := 1920#32
  ![v10965.toNat, 1920]
def k0_off27 (k0_t2 : Fin k0_t2_loop.trips) (c0_i32_1610 : BitVec 32) : Fin 2 → Nat :=
  let c0_i32_3 : BitVec 32 := 0#32
  let c1_i32_4 : BitVec 32 := 1#32
  let arg13 : BitVec 32 := Scf.iv c0_i32_3 c1_i32_4 k0_t2
  let c64_i32 : BitVec 32 := 64#32
  let v12 : BitVec 32 := Scalar.muli arg13 c64_i32
  let v13 : BitVec 32 := v12
  let v10964 : BitVec 32 := Scalar.addi v13 c0_i32_1610
  let v10975 : Index := Scalar.indexCast v10964
  let c896_1614 : Index := 896#32
  ![v10975.toNat, 896]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v9 : BitVec 1 := Scalar.cmpi .eq arg0 c15_i32
  let v10 : BitVec 32 := Scalar.extui v9
  let c0_i32_8 : BitVec 32 := 0#32
  let v11 : BitVec 1 := Scalar.cmpi .ne v10 c0_i32_8
  v11

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S248x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S40x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AbReferenceIdeal.lean ====
abbrev S4096x8192 : Shape := ⟨2, ![4096, 8192]⟩
abbrev S4096x1024 : Shape := ⟨2, ![4096, 1024]⟩
abbrev S31x1024 : Shape := ⟨2, ![31, 1024]⟩
abbrev S1x1024 : Shape := ⟨2, ![1, 1024]⟩
abbrev S_ : Shape := ⟨0, ![]⟩
abbrev S30x1024 : Shape := ⟨2, ![30, 1024]⟩
abbrev S4126x1024 : Shape := ⟨2, ![4126, 1024]⟩
abbrev S1x4096x1024 : Shape := ⟨3, ![1, 4096, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S31x1x1024 : Shape := ⟨3, ![31, 1, 1024]⟩
abbrev S4096 : Shape := ⟨1, ![4096]⟩
abbrev S4096x1 : Shape := ⟨2, ![4096, 1]⟩
abbrev S1024 : Shape := ⟨1, ![1024]⟩
abbrev S4096x5120 : Shape := ⟨2, ![4096, 5120]⟩
abbrev S5x1024 : Shape := ⟨2, ![5, 1024]⟩
abbrev S40x1024 : Shape := ⟨2, ![40, 1024]⟩

abbrev nBuf : Space → Nat
  | .hbm => 387
  | .vmem => 0
  | .smem => 0
  | _ => 0

abbrev hbmTy0_0 (i : Nat) : BufTy := match i % 128 with
  | 0 => ⟨S4096x8192, .bf16⟩
  | 1 => ⟨S4096x1024, .f32⟩
  | 2 => ⟨S4096x8192, .bf16⟩
  | 3 => ⟨S31x1024, .f32⟩
  | 4 => ⟨S1x1024, .f32⟩
  | 5 => ⟨S1x1024, .f32⟩
  | 6 => ⟨S1x1024, .f32⟩
  | 7 => ⟨S4096x1024, .bf16⟩
  | 8 => ⟨S4096x1024, .f32⟩
  | 9 => ⟨S4096x1024, .bf16⟩
  | 10 => ⟨S4096x1024, .f32⟩
  | 11 => ⟨S4096x1024, .bf16⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S30x1024, .f32⟩
  | 28 => ⟨S4126x1024, .f32⟩
  | 29 => ⟨S_, .f32⟩
  | 30 => ⟨S30x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x4096x1024, .f32⟩
  | 93 => ⟨S16x4096x1024, .f32⟩
  | 94 => ⟨S15x4096x1024, .f32⟩
  | 95 => ⟨S31x4096x1024, .f32⟩
  | 96 => ⟨S31x1x1024, .f32⟩
  | 97 => ⟨S31x4096x1024, .f32⟩
  | 98 => ⟨S31x4096x1024, .f32⟩
  | 99 => ⟨S_, .f32⟩
  | 100 => ⟨S4096x1024, .f32⟩
  | 101 => ⟨S4096x1024, .f32⟩
  | 102 => ⟨S4096x1024, .f32⟩
  | 103 => ⟨S_, .f32⟩
  | 104 => ⟨S4096, .f32⟩
  | 105 => ⟨S4096x1, .f32⟩
  | 106 => ⟨S_, .f32⟩
  | 107 => ⟨S4096x1, .f32⟩
  | 108 => ⟨S4096x1, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096x1, .f32⟩
  | 120 => ⟨S4096x1, .f32⟩
  | 121 => ⟨S4096x1, .f32⟩
  | 122 => ⟨S4096x1, .f32⟩
  | 123 => ⟨S_, .f32⟩
  | 124 => ⟨S4096x1, .f32⟩
  | 125 => ⟨S4096x1, .f32⟩
  | 126 => ⟨S4096x1024, .f32⟩
  | 127 => ⟨S4096x1024, .f32⟩
  | _ => ⟨S4096x8192, .bf16⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S_, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S_, .f32⟩
  | 42 => ⟨S1024, .f32⟩
  | 43 => ⟨S1x1024, .f32⟩
  | 44 => ⟨S4096x1024, .f32⟩
  | 45 => ⟨S_, .f32⟩
  | 46 => ⟨S1024, .f32⟩
  | 47 => ⟨S1x1024, .f32⟩
  | 48 => ⟨S4096x1024, .f32⟩
  | 49 => ⟨S4096x1024, .f32⟩
  | 50 => ⟨S4096x1024, .f32⟩
  | 51 => ⟨S_, .f32⟩
  | 52 => ⟨S4096, .f32⟩
  | 53 => ⟨S4096x1, .f32⟩
  | 54 => ⟨S4096x1024, .f32⟩
  | 55 => ⟨S4096x1024, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096, .f32⟩
  | 76 => ⟨S4096x1024, .f32⟩
  | 77 => ⟨S4096x1024, .f32⟩
  | 78 => ⟨S_, .f32⟩
  | 79 => ⟨S1024, .f32⟩
  | 80 => ⟨S1x1024, .f32⟩
  | 81 => ⟨S31x4096x1024, .f32⟩
  | 82 => ⟨S31x4096x1024, .f32⟩
  | 83 => ⟨S_, .f32⟩
  | 84 => ⟨S31x1024, .f32⟩
  | 85 => ⟨S31x1x1024, .f32⟩
  | 86 => ⟨S31x4096x1024, .f32⟩
  | 87 => ⟨S31x4096x1024, .f32⟩
  | 88 => ⟨S_, .f32⟩
  | 89 => ⟨S31x1024, .f32⟩
  | 90 => ⟨S1x4096x1024, .f32⟩
  | 91 => ⟨S4096x1024, .f32⟩
  | 92 => ⟨S1x4096x1024, .f32⟩
  | 93 => ⟨S4096x1024, .f32⟩
  | 94 => ⟨S1x4096x1024, .f32⟩
  | 95 => ⟨S4096x1024, .f32⟩
  | 96 => ⟨S1x4096x1024, .f32⟩
  | 97 => ⟨S4096x1024, .f32⟩
  | 98 => ⟨S1x4096x1024, .f32⟩
  | 99 => ⟨S4096x1024, .f32⟩
  | 100 => ⟨S1x4096x1024, .f32⟩
  | 101 => ⟨S4096x1024, .f32⟩
  | 102 => ⟨S1x4096x1024, .f32⟩
  | 103 => ⟨S4096x1024, .f32⟩
  | 104 => ⟨S1x4096x1024, .f32⟩
  | 105 => ⟨S4096x1024, .f32⟩
  | 106 => ⟨S1x4096x1024, .f32⟩
  | 107 => ⟨S4096x1024, .f32⟩
  | 108 => ⟨S1x4096x1024, .f32⟩
  | 109 => ⟨S4096x1024, .f32⟩
  | 110 => ⟨S1x4096x1024, .f32⟩
  | 111 => ⟨S4096x1024, .f32⟩
  | 112 => ⟨S1x4096x1024, .f32⟩
  | 113 => ⟨S4096x1024, .f32⟩
  | 114 => ⟨S1x4096x1024, .f32⟩
  | 115 => ⟨S4096x1024, .f32⟩
  | 116 => ⟨S1x4096x1024, .f32⟩
  | 117 => ⟨S4096x1024, .f32⟩
  | 118 => ⟨S1x4096x1024, .f32⟩
  | 119 => ⟨S4096x1024, .f32⟩
  | 120 => ⟨S1x4096x1024, .f32⟩
  | 121 => ⟨S4096x1024, .f32⟩
  | 122 => ⟨S1x4096x1024, .f32⟩
  | 123 => ⟨S4096x1024, .f32⟩
  | 124 => ⟨S1x4096x1024, .f32⟩
  | 125 => ⟨S4096x1024, .f32⟩
  | 126 => ⟨S1x4096x1024, .f32⟩
  | 127 => ⟨S4096x1024, .f32⟩
  | _ => ⟨S4096x8192, .bf16⟩

abbrev hbmTy0_2 (i : Nat) : BufTy := match i % 128 with
  | 0 => ⟨S1x4096x1024, .f32⟩
  | 1 => ⟨S4096x1024, .f32⟩
  | 2 => ⟨S1x4096x1024, .f32⟩
  | 3 => ⟨S4096x1024, .f32⟩
  | 4 => ⟨S1x4096x1024, .f32⟩
  | 5 => ⟨S4096x1024, .f32⟩
  | 6 => ⟨S1x4096x1024, .f32⟩
  | 7 => ⟨S4096x1024, .f32⟩
  | 8 => ⟨S1x4096x1024, .f32⟩
  | 9 => ⟨S4096x1024, .f32⟩
  | 10 => ⟨S1x4096x1024, .f32⟩
  | 11 => ⟨S4096x1024, .f32⟩
  | 12 => ⟨S1x4096x1024, .f32⟩
  | 13 => ⟨S4096x1024, .f32⟩
  | 14 => ⟨S1x4096x1024, .f32⟩
  | 15 => ⟨S4096x1024, .f32⟩
  | 16 => ⟨S1x4096x1024, .f32⟩
  | 17 => ⟨S4096x1024, .f32⟩
  | 18 => ⟨S1x4096x1024, .f32⟩
  | 19 => ⟨S4096x1024, .f32⟩
  | 20 => ⟨S1x4096x1024, .f32⟩
  | 21 => ⟨S4096x1024, .f32⟩
  | 22 => ⟨S1x4096x1024, .f32⟩
  | 23 => ⟨S4096x1024, .f32⟩
  | 24 => ⟨S_, .f32⟩
  | 25 => ⟨S4126x1024, .f32⟩
  | 26 => ⟨S_, .f32⟩
  | 27 => ⟨S4126x1024, .f32⟩
  | 28 => ⟨S4126x1024, .f32⟩
  | 29 => ⟨S_, .f32⟩
  | 30 => ⟨S4126x1024, .f32⟩
  | 31 => ⟨S4126x1024, .f32⟩
  | 32 => ⟨S_, .f32⟩
  | 33 => ⟨S4126x1024, .f32⟩
  | 34 => ⟨S4126x1024, .f32⟩
  | 35 => ⟨S_, .f32⟩
  | 36 => ⟨S4126x1024, .f32⟩
  | 37 => ⟨S4126x1024, .f32⟩
  | 38 => ⟨S_, .f32⟩
  | 39 => ⟨S4126x1024, .f32⟩
  | 40 => ⟨S4126x1024, .f32⟩
  | 41 => ⟨S_, .f32⟩
  | 42 => ⟨S4126x1024, .f32⟩
  | 43 => ⟨S4126x1024, .f32⟩
  | 44 => ⟨S_, .f32⟩
  | 45 => ⟨S4126x1024, .f32⟩
  | 46 => ⟨S4126x1024, .f32⟩
  | 47 => ⟨S_, .f32⟩
  | 48 => ⟨S4126x1024, .f32⟩
  | 49 => ⟨S4126x1024, .f32⟩
  | 50 => ⟨S_, .f32⟩
  | 51 => ⟨S4126x1024, .f32⟩
  | 52 => ⟨S4126x1024, .f32⟩
  | 53 => ⟨S_, .f32⟩
  | 54 => ⟨S4126x1024, .f32⟩
  | 55 => ⟨S4126x1024, .f32⟩
  | 56 => ⟨S_, .f32⟩
  | 57 => ⟨S4126x1024, .f32⟩
  | 58 => ⟨S4126x1024, .f32⟩
  | 59 => ⟨S_, .f32⟩
  | 60 => ⟨S4126x1024, .f32⟩
  | 61 => ⟨S4126x1024, .f32⟩
  | 62 => ⟨S_, .f32⟩
  | 63 => ⟨S4126x1024, .f32⟩
  | 64 => ⟨S4126x1024, .f32⟩
  | 65 => ⟨S_, .f32⟩
  | 66 => ⟨S4126x1024, .f32⟩
  | 67 => ⟨S4126x1024, .f32⟩
  | 68 => ⟨S_, .f32⟩
  | 69 => ⟨S4126x1024, .f32⟩
  | 70 => ⟨S4126x1024, .f32⟩
  | 71 => ⟨S_, .f32⟩
  | 72 => ⟨S4126x1024, .f32⟩
  | 73 => ⟨S4126x1024, .f32⟩
  | 74 => ⟨S_, .f32⟩
  | 75 => ⟨S4126x1024, .f32⟩
  | 76 => ⟨S4126x1024, .f32⟩
  | 77 => ⟨S_, .f32⟩
  | 78 => ⟨S4126x1024, .f32⟩
  | 79 => ⟨S4126x1024, .f32⟩
  | 80 => ⟨S_, .f32⟩
  | 81 => ⟨S4126x1024, .f32⟩
  | 82 => ⟨S4126x1024, .f32⟩
  | 83 => ⟨S_, .f32⟩
  | 84 => ⟨S4126x1024, .f32⟩
  | 85 => ⟨S4126x1024, .f32⟩
  | 86 => ⟨S_, .f32⟩
  | 87 => ⟨S4126x1024, .f32⟩
  | 88 => ⟨S4126x1024, .f32⟩
  | 89 => ⟨S_, .f32⟩
  | 90 => ⟨S4126x1024, .f32⟩
  | 91 => ⟨S4126x1024, .f32⟩
  | 92 => ⟨S_, .f32⟩
  | 93 => ⟨S4126x1024, .f32⟩
  | 94 => ⟨S4126x1024, .f32⟩
  | 95 => ⟨S_, .f32⟩
  | 96 => ⟨S4126x1024, .f32⟩
  | 97 => ⟨S4126x1024, .f32⟩
  | 98 => ⟨S_, .f32⟩
  | 99 => ⟨S4126x1024, .f32⟩
  | 100 => ⟨S4126x1024, .f32⟩
  | 101 => ⟨S_, .f32⟩
  | 102 => ⟨S4126x1024, .f32⟩
  | 103 => ⟨S4126x1024, .f32⟩
  | 104 => ⟨S_, .f32⟩
  | 105 => ⟨S4126x1024, .f32⟩
  | 106 => ⟨S4126x1024, .f32⟩
  | 107 => ⟨S_, .f32⟩
  | 108 => ⟨S4126x1024, .f32⟩
  | 109 => ⟨S4126x1024, .f32⟩
  | 110 => ⟨S_, .f32⟩
  | 111 => ⟨S4126x1024, .f32⟩
  | 112 => ⟨S4126x1024, .f32⟩
  | 113 => ⟨S_, .f32⟩
  | 114 => ⟨S4126x1024, .f32⟩
  | 115 => ⟨S4126x1024, .f32⟩
  | 116 => ⟨S30x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .bf16⟩
  | 122 => ⟨S4096x1024, .bf16⟩
  | 123 => ⟨S4096x1024, .bf16⟩
  | 124 => ⟨S4096x5120, .bf16⟩
  | 125 => ⟨S4096x8192, .bf16⟩
  | 126 => ⟨S_, .f32⟩
  | 127 => ⟨S5x1024, .f32⟩
  | _ => ⟨S4096x8192, .bf16⟩

abbrev hbmTy0_3 (i : Nat) : BufTy := match i % 128 with
  | 0 => ⟨S_, .f32⟩
  | 1 => ⟨S1x1024, .f32⟩
  | 2 => ⟨S40x1024, .f32⟩
  | _ => ⟨S4096x8192, .bf16⟩

abbrev hbmTy (i : Nat) : BufTy := match i / 128 with
  | 0 => hbmTy0_0 i
  | 1 => hbmTy0_1 i
  | 2 => hbmTy0_2 i
  | 3 => hbmTy0_3 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_4 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_5 : Ref sig .tc := ⟨.hbm, 103, rfl⟩
abbrev main_v90 : Ref sig .tc := ⟨.hbm, 104, rfl⟩
abbrev main_v91 : Ref sig .tc := ⟨.hbm, 105, rfl⟩
abbrev main_cst_6 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_7 : Ref sig .tc := ⟨.hbm, 112, rfl⟩
abbrev main_v97 : Ref sig .tc := ⟨.hbm, 113, rfl⟩
abbrev main_v98 : Ref sig .tc := ⟨.hbm, 114, rfl⟩
abbrev main_cst_8 : Ref sig .tc := ⟨.hbm, 115, rfl⟩
abbrev main_v99 : Ref sig .tc := ⟨.hbm, 116, rfl⟩
abbrev main_v100 : Ref sig .tc := ⟨.hbm, 117, rfl⟩
abbrev main_cst_9 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_10 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_call0_v0 : Ref sig .tc := ⟨.hbm, 132, rfl⟩
abbrev main_call0_v1 : Ref sig .tc := ⟨.hbm, 133, rfl⟩
abbrev main_call0_cst : Ref sig .tc := ⟨.hbm, 134, rfl⟩
abbrev main_call0_v2 : Ref sig .tc := ⟨.hbm, 135, rfl⟩
abbrev main_call0_v3 : Ref sig .tc := ⟨.hbm, 136, rfl⟩
abbrev main_call0_cst_0 : Ref sig .tc := ⟨.hbm, 137, rfl⟩
abbrev main_call0_v4 : Ref sig .tc := ⟨.hbm, 138, rfl⟩
abbrev main_v113_2 : Ref sig .tc := ⟨.hbm, 139, rfl⟩
abbrev main_call0_cst_1 : Ref sig .tc := ⟨.hbm, 140, rfl⟩
abbrev main_call0_v6 : Ref sig .tc := ⟨.hbm, 141, rfl⟩
abbrev main_call0_v7 : Ref sig .tc := ⟨.hbm, 142, rfl⟩
abbrev main_v113_1 : Ref sig .tc := ⟨.hbm, 143, rfl⟩
abbrev main_v113_0 : Ref sig .tc := ⟨.hbm, 144, rfl⟩
abbrev main_call1_v0 : Ref sig .tc := ⟨.hbm, 145, rfl⟩
abbrev main_call1_v1 : Ref sig .tc := ⟨.hbm, 146, rfl⟩
abbrev main_call1_cst : Ref sig .tc := ⟨.hbm, 147, rfl⟩
abbrev main_call1_v2 : Ref sig .tc := ⟨.hbm, 148, rfl⟩
abbrev main_call1_v3 : Ref sig .tc := ⟨.hbm, 149, rfl⟩
abbrev main_call1_cst_0 : Ref sig .tc := ⟨.hbm, 150, rfl⟩
abbrev main_call1_v4 : Ref sig .tc := ⟨.hbm, 151, rfl⟩
abbrev main_v114_2 : Ref sig .tc := ⟨.hbm, 152, rfl⟩
abbrev main_call1_cst_1 : Ref sig .tc := ⟨.hbm, 153, rfl⟩
abbrev main_call1_v6 : Ref sig .tc := ⟨.hbm, 154, rfl⟩
abbrev main_call1_v7 : Ref sig .tc := ⟨.hbm, 155, rfl⟩
abbrev main_v114_1 : Ref sig .tc := ⟨.hbm, 156, rfl⟩
abbrev main_v114_0 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_v118 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_v119 : Ref sig .tc := ⟨.hbm, 168, rfl⟩
abbrev main_cst_11 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_12 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_13 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_14 : Ref sig .tc := ⟨.hbm, 185, rfl⟩
abbrev main_v133 : Ref sig .tc := ⟨.hbm, 186, rfl⟩
abbrev main_v134 : Ref sig .tc := ⟨.hbm, 187, rfl⟩
abbrev main_cst_15 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_16 : Ref sig .tc := ⟨.hbm, 196, rfl⟩
abbrev main_v142 : Ref sig .tc := ⟨.hbm, 197, rfl⟩
abbrev main_v143 : Ref sig .tc := ⟨.hbm, 198, rfl⟩
abbrev main_cst_17 : Ref sig .tc := ⟨.hbm, 199, rfl⟩
abbrev main_v144 : Ref sig .tc := ⟨.hbm, 200, rfl⟩
abbrev main_v145 : Ref sig .tc := ⟨.hbm, 201, rfl⟩
abbrev main_cst_18 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_19 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_cst_20 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_21 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_cst_22 : Ref sig .tc := ⟨.hbm, 280, rfl⟩
abbrev main_v220 : Ref sig .tc := ⟨.hbm, 281, rfl⟩
abbrev main_cst_23 : Ref sig .tc := ⟨.hbm, 282, rfl⟩
abbrev main_v221 : Ref sig .tc := ⟨.hbm, 283, rfl⟩
abbrev main_v222 : Ref sig .tc := ⟨.hbm, 284, rfl⟩
abbrev main_cst_24 : Ref sig .tc := ⟨.hbm, 285, rfl⟩
abbrev main_v223 : Ref sig .tc := ⟨.hbm, 286, rfl⟩
abbrev main_v224 : Ref sig .tc := ⟨.hbm, 287, rfl⟩
abbrev main_cst_25 : Ref sig .tc := ⟨.hbm, 288, rfl⟩
abbrev main_v225 : Ref sig .tc := ⟨.hbm, 289, rfl⟩
abbrev main_v226 : Ref sig .tc := ⟨.hbm, 290, rfl⟩
abbrev main_cst_26 : Ref sig .tc := ⟨.hbm, 291, rfl⟩
abbrev main_v227 : Ref sig .tc := ⟨.hbm, 292, rfl⟩
abbrev main_v228 : Ref sig .tc := ⟨.hbm, 293, rfl⟩
abbrev main_cst_27 : Ref sig .tc := ⟨.hbm, 294, rfl⟩
abbrev main_v229 : Ref sig .tc := ⟨.hbm, 295, rfl⟩
abbrev main_v230 : Ref sig .tc := ⟨.hbm, 296, rfl⟩
abbrev main_cst_28 : Ref sig .tc := ⟨.hbm, 297, rfl⟩
abbrev main_v231 : Ref sig .tc := ⟨.hbm, 298, rfl⟩
abbrev main_v232 : Ref sig .tc := ⟨.hbm, 299, rfl⟩
abbrev main_cst_29 : Ref sig .tc := ⟨.hbm, 300, rfl⟩
abbrev main_v233 : Ref sig .tc := ⟨.hbm, 301, rfl⟩
abbrev main_v234 : Ref sig .tc := ⟨.hbm, 302, rfl⟩
abbrev main_cst_30 : Ref sig .tc := ⟨.hbm, 303, rfl⟩
abbrev main_v235 : Ref sig .tc := ⟨.hbm, 304, rfl⟩
abbrev main_v236 : Ref sig .tc := ⟨.hbm, 305, rfl⟩
abbrev main_cst_31 : Ref sig .tc := ⟨.hbm, 306, rfl⟩
abbrev main_v237 : Ref sig .tc := ⟨.hbm, 307, rfl⟩
abbrev main_v238 : Ref sig .tc := ⟨.hbm, 308, rfl⟩
abbrev main_cst_32 : Ref sig .tc := ⟨.hbm, 309, rfl⟩
abbrev main_v239 : Ref sig .tc := ⟨.hbm, 310, rfl⟩
abbrev main_v240 : Ref sig .tc := ⟨.hbm, 311, rfl⟩
abbrev main_cst_33 : Ref sig .tc := ⟨.hbm, 312, rfl⟩
abbrev main_v241 : Ref sig .tc := ⟨.hbm, 313, rfl⟩
abbrev main_v242 : Ref sig .tc := ⟨.hbm, 314, rfl⟩
abbrev main_cst_34 : Ref sig .tc := ⟨.hbm, 315, rfl⟩
abbrev main_v243 : Ref sig .tc := ⟨.hbm, 316, rfl⟩
abbrev main_v244 : Ref sig .tc := ⟨.hbm, 317, rfl⟩
abbrev main_cst_35 : Ref sig .tc := ⟨.hbm, 318, rfl⟩
abbrev main_v245 : Ref sig .tc := ⟨.hbm, 319, rfl⟩
abbrev main_v246 : Ref sig .tc := ⟨.hbm, 320, rfl⟩
abbrev main_cst_36 : Ref sig .tc := ⟨.hbm, 321, rfl⟩
abbrev main_v247 : Ref sig .tc := ⟨.hbm, 322, rfl⟩
abbrev main_v248 : Ref sig .tc := ⟨.hbm, 323, rfl⟩
abbrev main_cst_37 : Ref sig .tc := ⟨.hbm, 324, rfl⟩
abbrev main_v249 : Ref sig .tc := ⟨.hbm, 325, rfl⟩
abbrev main_v250 : Ref sig .tc := ⟨.hbm, 326, rfl⟩
abbrev main_cst_38 : Ref sig .tc := ⟨.hbm, 327, rfl⟩
abbrev main_v251 : Ref sig .tc := ⟨.hbm, 328, rfl⟩
abbrev main_v252 : Ref sig .tc := ⟨.hbm, 329, rfl⟩
abbrev main_cst_39 : Ref sig .tc := ⟨.hbm, 330, rfl⟩
abbrev main_v253 : Ref sig .tc := ⟨.hbm, 331, rfl⟩
abbrev main_v254 : Ref sig .tc := ⟨.hbm, 332, rfl⟩
abbrev main_cst_40 : Ref sig .tc := ⟨.hbm, 333, rfl⟩
abbrev main_v255 : Ref sig .tc := ⟨.hbm, 334, rfl⟩
abbrev main_v256 : Ref sig .tc := ⟨.hbm, 335, rfl⟩
abbrev main_cst_41 : Ref sig .tc := ⟨.hbm, 336, rfl⟩
abbrev main_v257 : Ref sig .tc := ⟨.hbm, 337, rfl⟩
abbrev main_v258 : Ref sig .tc := ⟨.hbm, 338, rfl⟩
abbrev main_cst_42 : Ref sig .tc := ⟨.hbm, 339, rfl⟩
abbrev main_v259 : Ref sig .tc := ⟨.hbm, 340, rfl⟩
abbrev main_v260 : Ref sig .tc := ⟨.hbm, 341, rfl⟩
abbrev main_cst_43 : Ref sig .tc := ⟨.hbm, 342, rfl⟩
abbrev main_v261 : Ref sig .tc := ⟨.hbm, 343, rfl⟩
abbrev main_v262 : Ref sig .tc := ⟨.hbm, 344, rfl⟩
abbrev main_cst_44 : Ref sig .tc := ⟨.hbm, 345, rfl⟩
abbrev main_v263 : Ref sig .tc := ⟨.hbm, 346, rfl⟩
abbrev main_v264 : Ref sig .tc := ⟨.hbm, 347, rfl⟩
abbrev main_cst_45 : Ref sig .tc := ⟨.hbm, 348, rfl⟩
abbrev main_v265 : Ref sig .tc := ⟨.hbm, 349, rfl⟩
abbrev main_v266 : Ref sig .tc := ⟨.hbm, 350, rfl⟩
abbrev main_cst_46 : Ref sig .tc := ⟨.hbm, 351, rfl⟩
abbrev main_v267 : Ref sig .tc := ⟨.hbm, 352, rfl⟩
abbrev main_v268 : Ref sig .tc := ⟨.hbm, 353, rfl⟩
abbrev main_cst_47 : Ref sig .tc := ⟨.hbm, 354, rfl⟩
abbrev main_v269 : Ref sig .tc := ⟨.hbm, 355, rfl⟩
abbrev main_v270 : Ref sig .tc := ⟨.hbm, 356, rfl⟩
abbrev main_cst_48 : Ref sig .tc := ⟨.hbm, 357, rfl⟩
abbrev main_v271 : Ref sig .tc := ⟨.hbm, 358, rfl⟩
abbrev main_v272 : Ref sig .tc := ⟨.hbm, 359, rfl⟩
abbrev main_cst_49 : Ref sig .tc := ⟨.hbm, 360, rfl⟩
abbrev main_v273 : Ref sig .tc := ⟨.hbm, 361, rfl⟩
abbrev main_v274 : Ref sig .tc := ⟨.hbm, 362, rfl⟩
abbrev main_cst_50 : Ref sig .tc := ⟨.hbm, 363, rfl⟩
abbrev main_v275 : Ref sig .tc := ⟨.hbm, 364, rfl⟩
abbrev main_v276 : Ref sig .tc := ⟨.hbm, 365, rfl⟩
abbrev main_cst_51 : Ref sig .tc := ⟨.hbm, 366, rfl⟩
abbrev main_v277 : Ref sig .tc := ⟨.hbm, 367, rfl⟩
abbrev main_v278 : Ref sig .tc := ⟨.hbm, 368, rfl⟩
abbrev main_cst_52 : Ref sig .tc := ⟨.hbm, 369, rfl⟩
abbrev main_v279 : Ref sig .tc := ⟨.hbm, 370, rfl⟩
abbrev main_v280 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩
abbrev main_v288 : Ref sig .tc := ⟨.hbm, 379, rfl⟩
abbrev main_v289 : Ref sig .tc := ⟨.hbm, 380, rfl⟩
abbrev main_v290 : Ref sig .tc := ⟨.hbm, 381, rfl⟩
abbrev main_cst_53 : Ref sig .tc := ⟨.hbm, 382, rfl⟩
abbrev main_v291 : Ref sig .tc := ⟨.hbm, 383, rfl⟩
abbrev main_cst_54 : Ref sig .tc := ⟨.hbm, 384, rfl⟩
abbrev main_v292 : Ref sig .tc := ⟨.hbm, 385, rfl⟩
abbrev main_v293 : Ref sig .tc := ⟨.hbm, 386, rfl⟩

abbrev nD : Nat := 1
abbrev τ : Topo := Topo.v7x

variable {F : FTy → Type} [FloatOps F]
-- ==== AfKernel.lean ====
abbrev S4096x8192 : Shape := ⟨2, ![4096, 8192]⟩
abbrev S31x1024 : Shape := ⟨2, ![31, 1024]⟩
abbrev S1x1024 : Shape := ⟨2, ![1, 1024]⟩
abbrev S31x8x1024 : Shape := ⟨3, ![31, 8, 1024]⟩
abbrev S248x1024 : Shape := ⟨2, ![248, 1024]⟩
abbrev S4096x1024 : Shape := ⟨2, ![4096, 1024]⟩
abbrev S256x3072 : Shape := ⟨2, ![256, 3072]⟩
abbrev S256x1024 : Shape := ⟨2, ![256, 1024]⟩
abbrev S288x1024 : Shape := ⟨2, ![288, 1024]⟩
abbrev S32x1024 : Shape := ⟨2, ![32, 1024]⟩
abbrev S16x1024 : Shape := ⟨2, ![16, 1024]⟩
abbrev S96x128 : Shape := ⟨2, ![96, 128]⟩
abbrev S8x128 : Shape := ⟨2, ![8, 128]⟩
abbrev S88x128 : Shape := ⟨2, ![88, 128]⟩
abbrev S1x128 : Shape := ⟨2, ![1, 128]⟩
abbrev S16 : Shape := ⟨1, ![16]⟩
abbrev S16x1 : Shape := ⟨2, ![16, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x8192, .bf16⟩
  | .hbm, ⟨1, _⟩ => ⟨S31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x8x1024, .f32⟩
  | .hbm, ⟨6, _⟩ => ⟨S248x1024, .f32⟩
  | .hbm, ⟨7, _⟩ => ⟨S4096x1024, .bf16⟩
  | .hbm, ⟨8, _⟩ => ⟨S4096x1024, .f32⟩
  | .local _ .vmem, ⟨0, _⟩ => ⟨S256x3072, .bf16⟩
  | .local _ .vmem, ⟨1, _⟩ => ⟨S256x3072, .bf16⟩
  | .local _ .vmem, ⟨2, _⟩ => ⟨S248x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S288x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c16_i32_12 : BitVec 32 := 16#32
  let v10 : BitVec 32 := Scalar.muli arg9 c16_i32_12
  v10
def k0_off1 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c16_i32_12 : BitVec 32 := 16#32
  let v10 : BitVec 32 := Scalar.muli arg9 c16_i32_12
  let v11 : BitVec 32 := v10
  let v12 : Index := Scalar.indexCast v11
  let c0_13 : Index := 0#32
  ![v12.toNat, 0]
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c16_i32_12 : BitVec 32 := 16#32
  let v10 : BitVec 32 := Scalar.muli arg9 c16_i32_12
  let v11 : BitVec 32 := v10
  let v15 : Index := Scalar.indexCast v11
  let c1024 : Index := 1024#32
  ![v15.toNat, 1024]
def k0_off3 (k0_t1 : Fin k0_t1_loop.trips) : Fin 2 → Nat :=
  let c32_i32 : BitVec 32 := 32#32
  let c0_i32_1 : BitVec 32 := 0#32
  let c1_i32 : BitVec 32 := 1#32
  let arg9 : BitVec 32 := Scf.iv c0_i32_1 c1_i32 k0_t1
  let c16_i32_12 : BitVec 32 := 16#32
  let v10 : BitVec 32 := Scalar.muli arg9 c16_i32_12
  let v11 : BitVec 32 := v10
  let v26 : BitVec 32 := Scalar.addi c32_i32 v11
  let v27 : Index := Scalar.indexCast v26
  let c0_16 : Index := 0#32
  ![v27.toNat, 0]
@[reducible] def k0_t2_loop : Scf.Loop 32 :=
  let c0_i32_3 : BitVec 32 := 0#32
  let c4_i32 : BitVec 32 := 4#32
  let v4 : BitVec 32 := Scalar.addi c0_i32_3 c4_i32
  let c1_i32_4 : BitVec 32 := 1#32
  ⟨c0_i32_3, v4, c1_i32_4⟩
def k0_mult2 (k0_t2 : Fin k0_t2_loop.trips) : BitVec 32 :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  v10
def k0_off4 (k0_t2 : Fin k0_t2_loop.trips) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v12 : Index := Scalar.indexCast v11
  let c0_12 : Index := 0#32
  ![v12.toNat, 0]
def k0_off5 (k0_t2 : Fin k0_t2_loop.trips) (c0_i32_54 : BitVec 32) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v838 : BitVec 32 := Scalar.addi v11 c0_i32_54
  let v839 : Index := Scalar.indexCast v838
  let c0_55 : Index := 0#32
  ![v839.toNat, 0]
def k0_off6 (k0_t2 : Fin k0_t2_loop.trips) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v876 : Index := Scalar.indexCast v11
  let c128_64 : Index := 128#32
  ![v876.toNat, 128]
def k0_off7 (k0_t2 : Fin k0_t2_loop.trips) (c0_i32_137 : BitVec 32) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v1702 : BitVec 32 := Scalar.addi v11 c0_i32_137
  let v1703 : Index := Scalar.indexCast v1702
  let c128_138 : Index := 128#32
  ![v1703.toNat, 128]
def k0_off8 (k0_t2 : Fin k0_t2_loop.trips) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v1740 : Index := Scalar.indexCast v11
  let c256_153 : Index := 256#32
  ![v1740.toNat, 256]
def k0_off9 (k0_t2 : Fin k0_t2_loop.trips) (c0_i32_226 : BitVec 32) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v2566 : BitVec 32 := Scalar.addi v11 c0_i32_226
  let v2567 : Index := Scalar.indexCast v2566
  let c256_227 : Index := 256#32
  ![v2567.toNat, 256]
def k0_off10 (k0_t2 : Fin k0_t2_loop.trips) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v2604 : Index := Scalar.indexCast v11
  let c384 : Index := 384#32
  ![v2604.toNat, 384]
def k0_off11 (k0_t2 : Fin k0_t2_loop.trips) (c0_i32_314 : BitVec 32) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v3430 : BitVec 32 := Scalar.addi v11 c0_i32_314
  let v3431 : Index := Scalar.indexCast v3430
  let c384_315 : Index := 384#32
  ![v3431.toNat, 384]
def k0_off12 (k0_t2 : Fin k0_t2_loop.trips) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v3468 : Index := Scalar.indexCast v11
  let c512 : Index := 512#32
  ![v3468.toNat, 512]
def k0_off13 (k0_t2 : Fin k0_t2_loop.trips) (c0_i32_402 : BitVec 32) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v4294 : BitVec 32 := Scalar.addi v11 c0_i32_402
  let v4295 : Index := Scalar.indexCast v4294
  let c512_403 : Index := 512#32
  ![v4295.toNat, 512]
def k0_off14 (k0_t2 : Fin k0_t2_loop.trips) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v4332 : Index := Scalar.indexCast v11
  let c640 : Index := 640#32
  ![v4332.toNat, 640]
def k0_off15 (k0_t2 : Fin k0_t2_loop.trips) (c0_i32_490 : BitVec 32) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v5158 : BitVec 32 := Scalar.addi v11 c0_i32_490
  let v5159 : Index := Scalar.indexCast v5158
  let c640_491 : Index := 640#32
  ![v5159.toNat, 640]
def k0_off16 (k0_t2 : Fin k0_t2_loop.trips) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v5196 : Index := Scalar.indexCast v11
  let c768 : Index := 768#32
  ![v5196.toNat, 768]
def k0_off17 (k0_t2 : Fin k0_t2_loop.trips) (c0_i32_578 : BitVec 32) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v6022 : BitVec 32 := Scalar.addi v11 c0_i32_578
  let v6023 : Index := Scalar.indexCast v6022
  let c768_579 : Index := 768#32
  ![v6023.toNat, 768]
def k0_off18 (k0_t2 : Fin k0_t2_loop.trips) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v6060 : Index := Scalar.indexCast v11
  let c896 : Index := 896#32
  ![v6060.toNat, 896]
def k0_off19 (k0_t2 : Fin k0_t2_loop.trips) (c0_i32_666 : BitVec 32) : Fin 2 → Nat :=
  let c0_i32_3 : BitVec 32 := 0#32
  let c1_i32_4 : BitVec 32 := 1#32
  let arg9 : BitVec 32 := Scf.iv c0_i32_3 c1_i32_4 k0_t2
  let c64_i32 : BitVec 32 := 64#32
  let v10 : BitVec 32 := Scalar.muli arg9 c64_i32
  let v11 : BitVec 32 := v10
  let v6886 : BitVec 32 := Scalar.addi v11 c0_i32_666
  let v6887 : Index := Scalar.indexCast v6886
  let c896_667 : Index := 896#32
  ![v6887.toNat, 896]
@[reducible] def k0_t3_loop : Scf.Loop 32 :=
  let c0_i32_6 : BitVec 32 := 0#32
  let c16_i32_7 : BitVec 32 := 16#32
  let v5 : BitVec 32 := Scalar.addi c0_i32_6 c16_i32_7
  let c1_i32_8 : BitVec 32 := 1#32
  ⟨c0_i32_6, v5, c1_i32_8⟩
def k0_mult3 (k0_t3 : Fin k0_t3_loop.trips) : BitVec 32 :=
  let c0_i32_6 : BitVec 32 := 0#32
  let c1_i32_8 : BitVec 32 := 1#32
  let arg9 : BitVec 32 := Scf.iv c0_i32_6 c1_i32_8 k0_t3
  let c16_i32_12 : BitVec 32 := 16#32
  let v10 : BitVec 32 := Scalar.muli arg9 c16_i32_12
  v10
def k0_off20 (k0_t3 : Fin k0_t3_loop.trips) : Fin 2 → Nat :=
  let c0_i32_6 : BitVec 32 := 0#32
  let c1_i32_8 : BitVec 32 := 1#32
  let arg9 : BitVec 32 := Scf.iv c0_i32_6 c1_i32_8 k0_t3
  let c16_i32_12 : BitVec 32 := 16#32
  let v10 : BitVec 32 := Scalar.muli arg9 c16_i32_12
  let v11 : BitVec 32 := v10
  let v12 : Index := Scalar.indexCast v11
  let c0_13 : Index := 0#32
  ![v12.toNat, 0]
def k0_off21 (k0_t3 : Fin k0_t3_loop.trips) : Fin 2 → Nat :=
  let c0_i32_6 : BitVec 32 := 0#32
  let c1_i32_8 : BitVec 32 := 1#32
  let arg9 : BitVec 32 := Scf.iv c0_i32_6 c1_i32_8 k0_t3
  let c16_i32_12 : BitVec 32 := 16#32
  let v10 : BitVec 32 := Scalar.muli arg9 c16_i32_12
  let v11 : BitVec 32 := v10
  let v37 : Index := Scalar.indexCast v11
  let c2048 : Index := 2048#32
  ![v37.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S248x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AfReferenceIdeal.lean ====
abbrev S4096x8192 : Shape := ⟨2, ![4096, 8192]⟩
abbrev S31x1024 : Shape := ⟨2, ![31, 1024]⟩
abbrev S1x1024 : Shape := ⟨2, ![1, 1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1x4096x1024 : Shape := ⟨3, ![1, 4096, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S31x1x1024 : Shape := ⟨3, ![31, 1, 1024]⟩
abbrev S4096 : Shape := ⟨1, ![4096]⟩
abbrev S4096x1 : Shape := ⟨2, ![4096, 1]⟩

abbrev nBuf : Space → Nat
  | .hbm => 140
  | .vmem => 0
  | .smem => 0
  | _ => 0

abbrev hbmTy0_0 (i : Nat) : BufTy := match i % 128 with
  | 0 => ⟨S4096x8192, .bf16⟩
  | 1 => ⟨S31x1024, .f32⟩
  | 2 => ⟨S1x1024, .f32⟩
  | 3 => ⟨S1x1024, .f32⟩
  | 4 => ⟨S1x1024, .f32⟩
  | 5 => ⟨S4096x1024, .bf16⟩
  | 6 => ⟨S4096x1024, .f32⟩
  | 7 => ⟨S4096x1024, .bf16⟩
  | 8 => ⟨S4096x1024, .f32⟩
  | 9 => ⟨S4096x1024, .bf16⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S_, .f32⟩
  | 21 => ⟨S30x1024, .f32⟩
  | 22 => ⟨S4126x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S1x4096x1024, .f32⟩
  | 55 => ⟨S1x4096x1024, .f32⟩
  | 56 => ⟨S1x4096x1024, .f32⟩
  | 57 => ⟨S1x4096x1024, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S16x4096x1024, .f32⟩
  | 86 => ⟨S15x4096x1024, .f32⟩
  | 87 => ⟨S31x4096x1024, .f32⟩
  | 88 => ⟨S31x1x1024, .f32⟩
  | 89 => ⟨S31x4096x1024, .f32⟩
  | 90 => ⟨S31x4096x1024, .f32⟩
  | 91 => ⟨S_, .f32⟩
  | 92 => ⟨S4096x1024, .f32⟩
  | 93 => ⟨S4096x1024, .f32⟩
  | 94 => ⟨S4096x1024, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x1, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x8192, .bf16⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096x1024, .f32⟩
  | 5 => ⟨S4096x1024, .f32⟩
  | 6 => ⟨S_, .f32⟩
  | 7 => ⟨S4096x1024, .f32⟩
  | 8 => ⟨S4096x1024, .f32⟩
  | 9 => ⟨S4096x1024, .f32⟩
  | 10 => ⟨S4096x1024, .f32⟩
  | 11 => ⟨S4096x1024, .bf16⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_2 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_cst_3 : Ref sig .tc := ⟨.hbm, 95, rfl⟩
abbrev main_v86 : Ref sig .tc := ⟨.hbm, 96, rfl⟩
abbrev main_v87 : Ref sig .tc := ⟨.hbm, 97, rfl⟩
abbrev main_cst_4 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_5 : Ref sig .tc := ⟨.hbm, 104, rfl⟩
abbrev main_v93 : Ref sig .tc := ⟨.hbm, 105, rfl⟩
abbrev main_v94 : Ref sig .tc := ⟨.hbm, 106, rfl⟩
abbrev main_cst_6 : Ref sig .tc := ⟨.hbm, 107, rfl⟩
abbrev main_v95 : Ref sig .tc := ⟨.hbm, 108, rfl⟩
abbrev main_v96 : Ref sig .tc := ⟨.hbm, 109, rfl⟩
abbrev main_cst_7 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_call0_v0 : Ref sig .tc := ⟨.hbm, 120, rfl⟩
abbrev main_call0_v1 : Ref sig .tc := ⟨.hbm, 121, rfl⟩
abbrev main_call0_cst : Ref sig .tc := ⟨.hbm, 122, rfl⟩
abbrev main_call0_v2 : Ref sig .tc := ⟨.hbm, 123, rfl⟩
abbrev main_call0_v3 : Ref sig .tc := ⟨.hbm, 124, rfl⟩
abbrev main_call0_cst_0 : Ref sig .tc := ⟨.hbm, 125, rfl⟩
abbrev main_call0_v4 : Ref sig .tc := ⟨.hbm, 126, rfl⟩
abbrev main_call0_v5 : Ref sig .tc := ⟨.hbm, 127, rfl⟩
abbrev main_v106 : Ref sig .tc := ⟨.hbm, 128, rfl⟩
abbrev main_call1_v0 : Ref sig .tc := ⟨.hbm, 129, rfl⟩
abbrev main_call1_v1 : Ref sig .tc := ⟨.hbm, 130, rfl⟩
abbrev main_call1_cst : Ref sig .tc := ⟨.hbm, 131, rfl⟩
abbrev main_call1_v2 : Ref sig .tc := ⟨.hbm, 132, rfl⟩
abbrev main_call1_v3 : Ref sig .tc := ⟨.hbm, 133, rfl⟩
abbrev main_call1_cst_0 : Ref sig .tc := ⟨.hbm, 134, rfl⟩
abbrev main_call1_v4 : Ref sig .tc := ⟨.hbm, 135, rfl⟩
abbrev main_call1_v5 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]
-- ==== IfKernel.lean ====
abbrev S4096x1024 : Shape := ⟨2, ![4096, 1024]⟩
abbrev S1024x8192 : Shape := ⟨2, ![1024, 8192]⟩
abbrev S1x1024 : Shape := ⟨2, ![1, 1024]⟩
abbrev S1024x4x2048 : Shape := ⟨3, ![1024, 4, 2048]⟩
abbrev S4x1024x2048 : Shape := ⟨3, ![4, 1024, 2048]⟩
abbrev S4096x8192 : Shape := ⟨2, ![4096, 8192]⟩
abbrev S256x1024 : Shape := ⟨2, ![256, 1024]⟩
abbrev S256x8192 : Shape := ⟨2, ![256, 8192]⟩
abbrev S16x1024 : Shape := ⟨2, ![16, 1024]⟩
abbrev S16 : Shape := ⟨1, ![16]⟩
abbrev S16x1 : Shape := ⟨2, ![16, 1]⟩
abbrev S1x1024x2048 : Shape := ⟨3, ![1, 1024, 2048]⟩
abbrev S1024x2048 : Shape := ⟨2, ![1024, 2048]⟩
abbrev S256x2048 : Shape := ⟨2, ![256, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x8192, .bf16⟩
  | .hbm, ⟨6, _⟩ => ⟨S1024x4x2048, .bf16⟩
  | .hbm, ⟨7, _⟩ => ⟨S4x1024x2048, .bf16⟩
  | .hbm, ⟨8, _⟩ => ⟨S4096x8192, .bf16⟩
  | .hbm, ⟨9, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S4x1024x2048, .bf16⟩
  | .local _ .vmem, ⟨6, _⟩ => ⟨S256x8192, .bf16⟩
  | .local _ .vmem, ⟨7, _⟩ => ⟨S256x8192, .bf16⟩
  | .local _ .vmem, ⟨8, _⟩ => ⟨S256x1024, .bf16⟩
  | .local _ .vmem, ⟨9, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c16_i32_19 : BitVec 32 := 16#32
  let v23 : BitVec 32 := Scalar.muli arg8 c16_i32_19
  v23
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c16_i32_19 : BitVec 32 := 16#32
  let v23 : BitVec 32 := Scalar.muli arg8 c16_i32_19
  let v24 : BitVec 32 := v23
  let v25 : Index := Scalar.indexCast v24
  let c0_20 : Index := 0#32
  ![v25.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== IfReferenceIdeal.lean ====
abbrev S4096x1024 : Shape := ⟨2, ![4096, 1024]⟩
abbrev S1024x8192 : Shape := ⟨2, ![1024, 8192]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x8192, .f32⟩
  | .hbm, ⟨28, _⟩ => ⟨S4096x8192, .bf16⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.In.Trip.lean ====
module

public import proofs.«01_k».proof.Proof.Gen.InKernelIdeal.Loops
public import Idealize.ShloMosaic.Lib.Pipeline.Value
public import Idealize.ShloMosaic.Lib.Pipeline.ValueKit
public import Idealize.ShloMosaic.Lib.VecWindow

@[expose] public section

set_option maxRecDepth 16384

noncomputable section

namespace Cert.InKernelIdeal

open Idealize.ShloMosaic Idealize.ShloMosaic.TcCoe Idealize.ShloMosaic.Tactic
open Idealize.SL Idealize.SL.RA Idealize.SL.BI Idealize.SL.Sem

variable {F : FTy → Type} [FloatOps F]

/-- Rows `16 k … 16 k + 15` of a block of 512 rows. -/
def strip (x : Vec F S512x1024 .f32) (k : Fin k0_t1_loop.trips) : Vec F S16x1024 .f32 :=
  VecWindow.window x (k0_off1 k) S16x1024.size (Gen.k0_off1_inb k)

/-- Rows `o … o + 15` of the accumulator of 48 rows. -/
def band (a : Vec F S48x1024 .f32) (o : ℕ) (h : ∀ b, (![o, 0] : Fin 2 → ℕ) b + S16x1024.size b ≤ S48x1024.size b) : Vec F S16x1024 .f32 :=
  VecWindow.window (s := S48x1024) a ![o, 0] S16x1024.size h

/-- What one strip stores into its rows of the gradient of `x`. -/
def stripGx (x6 x7 x12 : Vec F S512x1024 .f32) (x8 x9 : Vec F S1x1024 .f32) (k : Fin k0_t1_loop.trips) : Vec F S16x1024 .f32 :=
  Gen.k0_pay2 (Gen.k0_pay6 (strip x6 k)) (Gen.k0_pay7 (strip x6 k)) (Gen.k0_pay10 (strip x12 k) x8) x9 (strip x7 k)

/-- The accumulator of 48 rows after one strip: the three bands of 16 rows, each with the strip's term added. -/
def stripAcc (x6 x12 : Vec F S512x1024 .f32) (x8 x9 : Vec F S1x1024 .f32) (k : Fin k0_t1_loop.trips) (a : Vec F S48x1024 .f32) : Vec F S48x1024 .f32 :=
  VecWindow.put (s := S48x1024) (VecWindow.put (s := S48x1024) (VecWindow.put (s := S48x1024) a ![0, 0] S16x1024.size
    (Gen.k0_pay8 (strip x12 k) (band a 0 Gen.inb_S48x1024_S16x1024_0_0))) ![16, 0] S16x1024.size
    (Gen.k0_pay9 (strip x6 k) (strip x12 k) (band a 16 Gen.inb_S48x1024_S16x1024_16_0) x9)) ![32, 0] S16x1024.size
    (Gen.k0_pay1 (Gen.k0_pay7 (strip x6 k)) (Gen.k0_pay10 (strip x12 k) x8) (band a 32 Gen.inb_S48x1024_S16x1024_32_0))

variable (𝒱 : Variants) (c : Dev nD) (bd : Option 𝒱.V) (i : grid0.Coords)
  (arg1 : Memref sig .tc .vmem S512x2048 .bf16) (harg1 : arg1.IsWhole) (arg2 : Memref sig .tc .vmem S512x2048 .bf16) (harg2 : arg2.IsWhole)
  (arg3 : Memref sig .tc .vmem S512x2048 .bf16) (harg3 : arg3.IsWhole) (arg4 : Memref sig .tc .vmem S512x2048 .bf16) (harg4 : arg4.IsWhole)
  (arg5 : Memref sig .tc .vmem S4x1024x2048 .bf16) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S512x1024 .f32) (harg10 : arg10.IsWhole)
  (arg11 : Memref sig .tc .vmem S8x1024 .f32) (harg11 : arg11.IsWhole) (arg12 : Memref sig .tc .vmem S512x1024 .f32) (harg12 : arg12.IsWhole)
  (arg13 : Memref sig .tc .vmem S48x1024 .f32) (harg13 : arg13.IsWhole) (c0 c1 : BitVec 32)
  (X6 : BufTy.Contents (Elt F) arg6.view.ty) (X7 : BufTy.Contents (Elt F) arg7.view.ty) (X8 : BufTy.Contents (Elt F) arg8.view.ty)
  (X9 : BufTy.Contents (Elt F) arg9.view.ty) (X12 : BufTy.Contents (Elt F) arg12.view.ty)
  (x6 x7 x12 : Vec F S512x1024 .f32) (x8 x9 : Vec F S1x1024 .f32)
  (h6 : arg6.view.read (Elt F) X6 = x6) (h7 : arg7.view.read (Elt F) X7 = x7) (h12 : arg12.view.read (Elt F) X12 = x12)
  (h8 : arg8.view.read (Elt F) X8 = x8) (h9 : arg9.view.read (Elt F) X9 = x9)

include h6 h7 h12 h8 h9 in
/-- One trip of the loop, read back: the strip's rows of the result are stored, and the accumulator takes one step. -/
theorem trip_read (k : Fin k0_t1_loop.trips) (f10 : BufTy.Contents (Elt F) arg10.view.ty) (f13 : BufTy.Contents (Elt F) arg13.view.ty) :
    arg10.view.read (Elt F) (arg10.view.writes (Elt F) f10 (Gen.tripL_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 c0 c1 X6 X7 X8 X9 X12 k f10 f13).1)
      = VecWindow.put (arg10.view.read (Elt F) f10) (k0_off1 k) S16x1024.size (stripGx x6 x7 x12 x8 x9 k)
    ∧ arg13.view.read (Elt F) (arg13.view.writes (Elt F) f13 (Gen.tripL_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 c0 c1 X6 X7 X8 X9 X12 k f10 f13).2)
      = stripAcc x6 x12 x8 x9 k (arg13.view.read (Elt F) f13) := by
  have h8' : ∀ inb, arg8.view.readAt (Elt F) (Rect.unit (s := S1x1024) ![0, 0] S1x1024.size inb).toLoadRect X8 = x8 := fun inb => (View.readAt_full _ _ inb).trans h8
  have h9' : ∀ inb, arg9.view.readAt (Elt F) (Rect.unit (s := S1x1024) ![0, 0] S1x1024.size inb).toLoadRect X9 = x9 := fun inb => (View.readAt_full _ _ inb).trans h9
  have e6 : arg6.view.readAt (Elt F) (Rect.unit (s := S512x1024) (k0_off1 k) S16x1024.size (Gen.k0_off1_inb k)).toLoadRect X6 = strip x6 k := by
    rw [← h6]; rfl
  have e7 : arg7.view.readAt (Elt F) (Rect.unit (s := S512x1024) (k0_off1 k) S16x1024.size (Gen.k0_off1_inb k)).toLoadRect X7 = strip x7 k := by
    rw [← h7]; rfl
  have e12 : arg12.view.readAt (Elt F) (Rect.unit (s := S512x1024) (k0_off1 k) S16x1024.size (Gen.k0_off1_inb k)).toLoadRect X12 = strip x12 k := by
    rw [← h12]; rfl
  unfold Gen.tripL_k0_t1 Gen.trip_k0_t1
  dsimp only
  sl_unfold_words
  constructor
  · refine (View.read_writes_cons_put _ _ (Gen.k0_off1_inb k) _ _ rfl).trans ?_
    unfold stripGx
    rw [← e6, ← e7, ← e12, ← h8' Gen.inb_S1x1024_S1x1024_0_0, ← h9' Gen.inb_S1x1024_S1x1024_0_0]
    rfl
  · refine (View.read_writes_cons_put _ _ Gen.inb_S48x1024_S16x1024_32_0 _ _ rfl).trans ?_
    rw [View.read_writes_cons_put _ _ Gen.inb_S48x1024_S16x1024_16_0 _ _ rfl]
    rw [View.read_writes_cons_put _ _ Gen.inb_S48x1024_S16x1024_0_0 _ _ rfl]
    unfold stripAcc
    rw [← e6, ← e12, ← h8' Gen.inb_S1x1024_S1x1024_0_0, ← h9' Gen.inb_S1x1024_S1x1024_0_0]
    rfl

end Cert.InKernelIdeal

end
-- ==== Proof.In.Loop.lean ====
module

public import Idealize.ShloMosaic.Lib.Pipeline.Value
public import Idealize.ShloMosaic.Lib.Pipeline.ValueKit
public import proofs.«01_k».proof.Proof.In.Trip

@[expose] public section

set_option maxRecDepth 16384

noncomputable section

namespace Cert.InKernelIdeal

open Idealize.ShloMosaic Idealize.ShloMosaic.TcCoe Idealize.ShloMosaic.Tactic
open Idealize.SL Idealize.SL.RA Idealize.SL.BI Idealize.SL.Sem
variable {F : FTy → Type} [FloatOps F]
variable (𝒱 : Variants) (c : Dev nD) (bd : Option 𝒱.V) (i : grid0.Coords)
  (arg1 : Memref sig .tc .vmem S512x2048 .bf16) (harg1 : arg1.IsWhole) (arg2 : Memref sig .tc .vmem S512x2048 .bf16) (harg2 : arg2.IsWhole)
  (arg3 : Memref sig .tc .vmem S512x2048 .bf16) (harg3 : arg3.IsWhole) (arg4 : Memref sig .tc .vmem S512x2048 .bf16) (harg4 : arg4.IsWhole)
  (arg5 : Memref sig .tc .vmem S4x1024x2048 .bf16) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S512x1024 .f32) (harg10 : arg10.IsWhole)
  (arg11 : Memref sig .tc .vmem S8x1024 .f32) (harg11 : arg11.IsWhole) (arg12 : Memref sig .tc .vmem S512x1024 .f32) (harg12 : arg12.IsWhole)
  (arg13 : Memref sig .tc .vmem S48x1024 .f32) (harg13 : arg13.IsWhole) (c0 c1 : BitVec 32)
  (X6 : BufTy.Contents (Elt F) arg6.view.ty) (X7 : BufTy.Contents (Elt F) arg7.view.ty) (X8 : BufTy.Contents (Elt F) arg8.view.ty)
  (X9 : BufTy.Contents (Elt F) arg9.view.ty) (X12 : BufTy.Contents (Elt F) arg12.view.ty)
  (x6 x7 x12 : Vec F S512x1024 .f32) (x8 x9 : Vec F S1x1024 .f32)
  (h6 : arg6.view.read (Elt F) X6 = x6) (h7 : arg7.view.read (Elt F) X7 = x7) (h12 : arg12.view.read (Elt F) X12 = x12)
  (h8 : arg8.view.read (Elt F) X8 = x8) (h9 : arg9.view.read (Elt F) X9 = x9)

/-- The gradient's block after the first `n` strips, from the block `g` found. -/
def gxAfter (x6 x7 x12 : Vec F S512x1024 .f32) (x8 x9 : Vec F S1x1024 .f32) (g : Vec F S512x1024 .f32) : ℕ → Vec F S512x1024 .f32
  | 0 => g
  | n + 1 => if h : n < k0_t1_loop.trips then
      VecWindow.put (gxAfter x6 x7 x12 x8 x9 g n) (k0_off1 ⟨n, h⟩) S16x1024.size (stripGx x6 x7 x12 x8 x9 ⟨n, h⟩)
    else gxAfter x6 x7 x12 x8 x9 g n

/-- The accumulator after the first `n` strips, from the accumulator `a` found. -/
def accAfter (x6 x12 : Vec F S512x1024 .f32) (x8 x9 : Vec F S1x1024 .f32) (a : Vec F S48x1024 .f32) : ℕ → Vec F S48x1024 .f32
  | 0 => a
  | n + 1 => if h : n < k0_t1_loop.trips then stripAcc x6 x12 x8 x9 ⟨n, h⟩ (accAfter x6 x12 x8 x9 a n) else accAfter x6 x12 x8 x9 a n

include h6 h7 h12 h8 h9 in
/-- The pieces of the first `n` trips, read back over the contents at the loop's entry. -/
theorem loop_read (G10 : BufTy.Contents (Elt F) arg10.view.ty) (G13 : BufTy.Contents (Elt F) arg13.view.ty) (n : ℕ) (hn : n ≤ k0_t1_loop.trips) :
    arg10.view.read (Elt F) (arg10.view.writes (Elt F) G10 (Gen.pb_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 c0 c1 X6 X7 X8 X9 X12 G10 G13 n).1)
      = gxAfter x6 x7 x12 x8 x9 (arg10.view.read (Elt F) G10) n
    ∧ arg13.view.read (Elt F) (arg13.view.writes (Elt F) G13 (Gen.pb_k0_t1 (F := F) 𝒱 c bd i arg1 harg1 arg2 harg2 arg3 harg3 arg4 harg4 arg5 harg5 arg6 harg6 arg7 harg7 arg8 harg8 arg9 harg9
      arg10 harg10 arg11 harg11 arg12 harg12 arg13 harg13 c0 c1 X6 X7 X8 X9 X12 G10 G13 n).2)
      = accAfter x6 x12 x8 x9 (arg13.view.read (Elt F) G13) n := by
  induction n with
  | zero => exact ⟨rfl, rfl⟩
  | succ n ih =>
    obtain ⟨i10, i13⟩ := ih (Nat.le_of_succ_le hn)
    have t := trip_read 𝒱 c bd i arg1 harg1 arg2 harg2 arg3 harg3 arg4 harg4 arg5 harg5 arg6 harg6 arg7 harg7 arg8 harg8 arg9 harg9
      arg10 harg10 arg11 harg11 arg12 harg12 arg13 harg13 c0 c1 X6 X7 X8 X9 X12 x6 x7 x12 x8 x9 h6 h7 h12 h8 h9 ⟨n, hn⟩
    rw [Gen.pb_k0_t1_succ 𝒱 c bd i arg1 harg1 arg2 harg2 arg3 harg3 arg4 harg4 arg5 harg5 arg6 harg6 arg7 harg7 arg8 harg8 arg9 harg9
      arg10 harg10 arg11 harg11 arg12 harg12 arg13 harg13 c0 c1 X6 X7 X8 X9 X12 G10 G13 ⟨n, hn⟩]
    refine ⟨?_, ?_⟩
    · rw [View.writes_append, (t _ _).1, i10, gxAfter, dif_pos (show n < k0_t1_loop.trips from hn)]
    · rw [View.writes_append, (t _ _).2, i13, accAfter, dif_pos (show n < k0_t1_loop.trips from hn)]

end Cert.InKernelIdeal

end
-- ==== Proof.In.Body.lean ====
module

public import proofs.«01_k».proof.Proof.In.Loop
public import proofs.«01_k».proof.Proof.Gen.InKernelIdeal.Frame.Runs

@[expose] public section

set_option maxRecDepth 16384

noncomputable section

namespace Cert.InKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A quarter of the weights, read out of the packed block. -/
def quarter (w : Vec F S4x1024x2048 .bf16) (o : ℕ) (h : ∀ b, (![o, 0, 0] : Fin 3 → ℕ) b + S1x1024x2048.size b ≤ S4x1024x2048.size b) : Vec F S1x1024x2048 .bf16 :=
  VecWindow.window (s := S4x1024x2048) w ![o, 0, 0] S1x1024x2048.size h

/-- The block of the cotangent of the normalised input: four products, added. -/
def dhBlk (x0 x1 x2 x3 : Vec F S512x2048 .bf16) (w : Vec F S4x1024x2048 .bf16) : Vec F S512x1024 .f32 :=
  Gen.k0_pay13 x0 (quarter w 0 Gen.inb_S4x1024x2048_S1x1024x2048_0_0_0) x1 (quarter w 1 Gen.inb_S4x1024x2048_S1x1024x2048_1_0_0)
    x2 (quarter w 2 Gen.inb_S4x1024x2048_S1x1024x2048_2_0_0) x3 (quarter w 3 Gen.inb_S4x1024x2048_S1x1024x2048_3_0_0)

theorem k0_off1_eq : ∀ k : Fin k0_t1_loop.trips, k0_off1 k = ![16 * k.val, 0] := by decide +kernel

theorem trips_eq : k0_t1_loop.trips = 32 := by decide +kernel

/-- The block of the gradient of `x`: every row is stored by the strip it lies in. -/
def gxBlk (x6 x7 x12 : Vec F S512x1024 .f32) (x8 x9 : Vec F S1x1024 .f32) : Vec F S512x1024 .f32 := fun y =>
  stripGx x6 x7 x12 x8 x9 ⟨(y 0).val / 16, by rw [trips_eq]; have : (y 0).val < 512 := (y 0).isLt; omega⟩
    (fun a => ⟨![(y 0).val % 16, (y 1).val] a, by
      fin_cases a
      · exact Nat.mod_lt _ (by decide)
      · exact (y 1).isLt⟩)

theorem gxAfter_lt (x6 x7 x12 : Vec F S512x1024 .f32) (x8 x9 : Vec F S1x1024 .f32) (g : Vec F S512x1024 .f32) (n : ℕ) (hn : n ≤ 32)
    (y : S512x1024.Idx) (hy : (y 0).val < 16 * n) : gxAfter x6 x7 x12 x8 x9 g n y = gxBlk x6 x7 x12 x8 x9 y := by
  induction n with
  | zero => omega
  | succ n ih =>
    rw [gxAfter, dif_pos (show n < k0_t1_loop.trips by rw [trips_eq]; omega)]
    have h1 : (y 1).val < 1024 := (y 1).isLt
    unfold VecWindow.put
    by_cases h : 16 * n ≤ (y 0).val
    · rw [dif_pos (by
        rw [k0_off1_eq]
        intro a; fin_cases a
        · exact ⟨h, show (y 0).val < 16 * n + 16 by omega⟩
        · exact ⟨Nat.zero_le _, show (y 1).val < 0 + 1024 by omega⟩)]
      unfold gxBlk
      have e : n = (y 0).val / 16 := by omega
      subst e
      have hk : (y 0).val / 16 < k0_t1_loop.trips := by rw [trips_eq]; omega
      have o0 : k0_off1 ⟨(y 0).val / 16, hk⟩ 0 = 16 * ((y 0).val / 16) := congrFun (k0_off1_eq ⟨_, hk⟩) 0
      have o1 : k0_off1 ⟨(y 0).val / 16, hk⟩ 1 = 0 := congrFun (k0_off1_eq ⟨_, hk⟩) 1
      refine congrArg _ (funext fun a => Fin.ext ?_)
      fin_cases a
      · show (y 0).val - k0_off1 ⟨(y 0).val / 16, hk⟩ 0 = (y 0).val % 16
        rw [o0]; omega
      · show (y 1).val - k0_off1 ⟨(y 0).val / 16, hk⟩ 1 = (y 1).val
        rw [o1]; exact Nat.sub_zero _
    · rw [dif_neg (by
        rw [k0_off1_eq]
        intro hh
        exact h (hh 0).1)]
      exact ih (by omega) (by omega)

/-- After all strips nothing of what the block held before is left. -/
theorem gxAfter_all (x6 x7 x12 : Vec F S512x1024 .f32) (x8 x9 : Vec F S1x1024 .f32) (g : Vec F S512x1024 .f32) :
    gxAfter x6 x7 x12 x8 x9 g k0_t1_loop.trips = gxBlk x6 x7 x12 x8 x9 :=
  funext fun y => gxAfter_lt x6 x7 x12 x8 x9 g _ (le_of_eq trips_eq) y (by rw [trips_eq]; exact (y 0).isLt)

/-- The accumulator after one whole block. -/
def accBlk (x5 dh : Vec F S512x1024 .f32) (x7 x8 : Vec F S1x1024 .f32) (a : Vec F S48x1024 .f32) : Vec F S48x1024 .f32 :=
  accAfter x5 dh x7 x8 a k0_t1_loop.trips

/-- The three sums over the accumulator's bands, put into the first three rows. -/
def stFinal (a : Vec F S48x1024 .f32) (s : Vec F S8x1024 .f32) : Vec F S8x1024 .f32 :=
  VecWindow.put (s := S8x1024) (VecWindow.put (s := S8x1024) (VecWindow.put (s := S8x1024) s ![0, 0] S1x1024.size
    (Gen.k0_pay3 (band a 0 Gen.inb_S48x1024_S16x1024_0_0))) ![1, 0] S1x1024.size
    (Gen.k0_pay4 (band a 16 Gen.inb_S48x1024_S16x1024_16_0))) ![2, 0] S1x1024.size
    (Gen.k0_pay5 (band a 32 Gen.inb_S48x1024_S16x1024_32_0))

variable (c : Dev nD) (i : grid0.Coords)
  (arg1 : Memref sig .tc .vmem S512x2048 .bf16) (harg1 : arg1.IsWhole)
  (arg2 : Memref sig .tc .vmem S512x2048 .bf16) (harg2 : arg2.IsWhole)
  (arg3 : Memref sig .tc .vmem S512x2048 .bf16) (harg3 : arg3.IsWhole)
  (arg4 : Memref sig .tc .vmem S512x2048 .bf16) (harg4 : arg4.IsWhole)
  (arg5 : Memref sig .tc .vmem S4x1024x2048 .bf16) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S8x1024 .f32) (harg11 : arg11.IsWhole)
  (arg12 : Memref sig .tc .vmem S512x1024 .f32) (harg12 : arg12.IsWhole)
  (arg13 : Memref sig .tc .vmem S48x1024 .f32) (harg13 : arg13.IsWhole)
  (x0 x1 x2 x3 : Vec F S512x2048 .bf16) (x4 : Vec F S4x1024x2048 .bf16) (x5 x6 : Vec F S512x1024 .f32) (x7 x8 : Vec F S1x1024 .f32)

/-- The nine inputs' blocks, held. -/
def ins : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8)

set_option maxHeartbeats 8000000 in
/-- The body at the first point: the sums and the accumulator are set to zero, then the block is done. -/
theorem body_A (hc0 : Gen.cond0_0 i) (hc1 : ¬Gen.cond0_1 i) (E : Set ℕ) (K : PUnit → sProp 𝕄) :
    iprop(ins c arg1 arg2 arg3 arg4 arg5 arg6 arg7 arg8 arg9 x0 x1 x2 x3 x4 x5 x6 x7 x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(ins c arg1 arg2 arg3 arg4 arg5 arg6 arg7 arg8 arg9 x0 x1 x2 x3 x4 x5 x6 x7 x8 ∗ owns (c : Thread nD τ) arg10 fullShare (gxBlk x5 x6 (dhBlk x0 x1 x2 x3 x4) x7 x8) ∗ owns (c : Thread nD τ) arg11 fullShare Gen.k0_pay11
            ∗ (∃ d, owns (c : Thread nD τ) arg12 fullShare d) ∗ owns (c : Thread nD τ) arg13 fullShare (accBlk x5 (dhBlk x0 x1 x2 x3 x4) x7 x8 Gen.k0_pay12)) -∗ K ⟨⟩))
      ⊢ wp frame (wpE (defs₀ (F := F)) Variants.none c none) E (cc0_in_proj_bwd i arg1 harg1 arg2 harg2 arg3 harg3 arg4 harg4 arg5 harg5 arg6 harg6 arg7 harg7 arg8 harg8 arg9 harg9 arg10 harg10 arg11 harg11 arg12 harg12 arg13 harg13) K := by
  simp only [Gen.cc0_in_proj_bwd_eq_skeleton]; unfold Gen.cc0_in_proj_bwd_skel
  simp only [Gen.k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, %hf9, H9⟩, ⟨%d10, %f10, %hf10, H10⟩, ⟨%ds0, %fs0, %hs0, HS0⟩, ⟨%ds1, %fs1, %hs1, HS1⟩, Hk⟩
  sl_exec (disch := first | sl_exact hc0 | sl_exact hc1)
  sl_step
  iapply Hk
  have hdh : arg12.view.read (Elt F) (arg12.view.writes (Elt F) arg12.view.junk (body_A.sl.HS0_1 c arg1 arg2 arg3 arg4 arg5 f0 f1 f2 f3 f4)) = dhBlk x0 x1 x2 x3 x4 := by
    unfold body_A.sl.HS0_1
    sl_unfold_words
    rw [View.read_writes_full _ _ Gen.inb_S512x1024_S512x1024_0_0]
    unfold dhBlk
    rw [← hf0, ← hf1, ← hf2, ← hf3, ← hf4]
    rw [View.readAt_full, View.readAt_full, View.readAt_full, View.readAt_full]
    rfl
  have hl := loop_read Variants.none c none i arg1 harg1 arg2 harg2 arg3 harg3 arg4 harg4 arg5 harg5 arg6 harg6 arg7 harg7 arg8 harg8 arg9 harg9 arg10 harg10 arg11 harg11 arg12 harg12 arg13 harg13 (0#32) (1#32) f5 f6 f7 f8 _ x5 x6 _ x7 x8 hf5 hf6 hdh hf7 hf8 f9 (arg13.view.writes (Elt F) arg13.view.junk body_A.sl.HS1_1) _ le_rfl
  isplitl [H0 H1 H2 H3 H4 H5 H6 H7 H8]
  · isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _; isplitr; swap; · iexact H5
                    ipureintro; exact hf5
    isplitl [H6]; · iexists _; isplitr; swap; · iexact H6
                    ipureintro; exact hf6
    isplitl [H7]; · iexists _; isplitr; swap; · iexact H7
                    ipureintro; exact hf7
    iexists _; isplitr; swap; · iexact H8
    ipureintro; exact hf8
  isplitl [H9]
  · iexists _; isplitr; swap; · iexact H9
    ipureintro; exact hl.1.trans (gxAfter_all _ _ _ _ _ _)
  isplitl [H10]
  · iexists _; isplitr; swap; · iexact H10
    ipureintro; unfold body_A.sl.H10_1; exact View.read_writes_full _ _ Gen.inb_S8x1024_S8x1024_0_0 _ _
  isplitl [HS0]
  · iexists _, _; isplitr; swap; · iexact HS0
    ipureintro; rfl
  iexists _; isplitr; swap; · iexact HS1
  ipureintro; rw [View.writes_append]; refine hl.2.trans ?_; unfold body_A.sl.HS1_1; rw [View.read_writes_full _ _ Gen.inb_S48x1024_S48x1024_0_0]; rfl

set_option maxHeartbeats 8000000 in
/-- The body at a point between: the accumulator takes one more block, the sums are left alone. -/
theorem body_B (hc0 : ¬Gen.cond0_0 i) (hc1 : ¬Gen.cond0_1 i) (s : Vec F S8x1024 .f32) (a : Vec F S48x1024 .f32) (E : Set ℕ) (K : PUnit → sProp 𝕄) :
    iprop(ins c arg1 arg2 arg3 arg4 arg5 arg6 arg7 arg8 arg9 x0 x1 x2 x3 x4 x5 x6 x7 x8 ∗ (∃ d, owns (c : Thread nD τ) arg10 fullShare d) ∗ owns (c : Thread nD τ) arg11 fullShare s ∗ (∃ d, owns (c : Thread nD τ) arg12 fullShare d) ∗ owns (c : Thread nD τ) arg13 fullShare a
        ∗ (iprop(ins c arg1 arg2 arg3 arg4 arg5 arg6 arg7 arg8 arg9 x0 x1 x2 x3 x4 x5 x6 x7 x8 ∗ owns (c : Thread nD τ) arg10 fullShare (gxBlk x5 x6 (dhBlk x0 x1 x2 x3 x4) x7 x8) ∗ owns (c : Thread nD τ) arg11 fullShare s
            ∗ (∃ d, owns (c : Thread nD τ) arg12 fullShare d) ∗ owns (c : Thread nD τ) arg13 fullShare (accBlk x5 (dhBlk x0 x1 x2 x3 x4) x7 x8 a)) -∗ K ⟨⟩))
      ⊢ wp frame (wpE (defs₀ (F := F)) Variants.none c none) E (cc0_in_proj_bwd i arg1 harg1 arg2 harg2 arg3 harg3 arg4 harg4 arg5 harg5 arg6 harg6 arg7 harg7 arg8 harg8 arg9 harg9 arg10 harg10 arg11 harg11 arg12 harg12 arg13 harg13) K := by
  simp only [Gen.cc0_in_proj_bwd_eq_skeleton]; unfold Gen.cc0_in_proj_bwd_skel
  simp only [Gen.k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, %hf9, H9⟩, ⟨%f10, %hf10, H10⟩, ⟨%ds0, %fs0, %hs0, HS0⟩, ⟨%fs1, %hs1, HS1⟩, Hk⟩
  sl_exec (disch := first | sl_exact hc0 | sl_exact hc1)
  sl_step
  iapply Hk
  have hdh : arg12.view.read (Elt F) (arg12.view.writes (Elt F) arg12.view.junk (body_B.sl.HS0_1 c arg1 arg2 arg3 arg4 arg5 f0 f1 f2 f3 f4)) = dhBlk x0 x1 x2 x3 x4 := by
    unfold body_B.sl.HS0_1
    sl_unfold_words
    rw [View.read_writes_full _ _ Gen.inb_S512x1024_S512x1024_0_0]
    unfold dhBlk
    rw [← hf0, ← hf1, ← hf2, ← hf3, ← hf4]
    rw [View.readAt_full, View.readAt_full, View.readAt_full, View.readAt_full]
    rfl
  have hl := loop_read Variants.none c none i arg1 harg1 arg2 harg2 arg3 harg3 arg4 harg4 arg5 harg5 arg6 harg6 arg7 harg7 arg8 harg8 arg9 harg9 arg10 harg10 arg11 harg11 arg12 harg12 arg13 harg13 (0#32) (1#32) f5 f6 f7 f8 _ x5 x6 _ x7 x8 hf5 hf6 hdh hf7 hf8 f9 fs1 _ le_rfl
  isplitl [H0 H1 H2 H3 H4 H5 H6 H7 H8]
  · isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _; isplitr; swap; · iexact H5
                    ipureintro; exact hf5
    isplitl [H6]; · iexists _; isplitr; swap; · iexact H6
                    ipureintro; exact hf6
    isplitl [H7]; · iexists _; isplitr; swap; · iexact H7
                    ipureintro; exact hf7
    iexists _; isplitr; swap; · iexact H8
    ipureintro; exact hf8
  isplitl [H9]
  · iexists _; isplitr; swap; · iexact H9
    ipureintro; exact hl.1.trans (gxAfter_all _ _ _ _ _ _)
  isplitl [H10]
  · iexists _; isplitr; swap; · iexact H10
    ipureintro; exact hf10
  isplitl [HS0]
  · iexists _, _; isplitr; swap; · iexact HS0
    ipureintro; rfl
  iexists _; isplitr; swap; · iexact HS1
  ipureintro; refine hl.2.trans ?_; rw [hs1]; rfl

set_option maxHeartbeats 8000000 in
/-- The body at the last point: the accumulator takes the last block, and the sums over its bands are stored. -/
theorem body_C (hc0 : ¬Gen.cond0_0 i) (hc1 : Gen.cond0_1 i) (s : Vec F S8x1024 .f32) (a : Vec F S48x1024 .f32) (E : Set ℕ) (K : PUnit → sProp 𝕄) :
    iprop(ins c arg1 arg2 arg3 arg4 arg5 arg6 arg7 arg8 arg9 x0 x1 x2 x3 x4 x5 x6 x7 x8 ∗ (∃ d, owns (c : Thread nD τ) arg10 fullShare d) ∗ owns (c : Thread nD τ) arg11 fullShare s ∗ (∃ d, owns (c : Thread nD τ) arg12 fullShare d) ∗ owns (c : Thread nD τ) arg13 fullShare a
        ∗ (iprop(ins c arg1 arg2 arg3 arg4 arg5 arg6 arg7 arg8 arg9 x0 x1 x2 x3 x4 x5 x6 x7 x8 ∗ owns (c : Thread nD τ) arg10 fullShare (gxBlk x5 x6 (dhBlk x0 x1 x2 x3 x4) x7 x8) ∗ owns (c : Thread nD τ) arg11 fullShare (stFinal (accBlk x5 (dhBlk x0 x1 x2 x3 x4) x7 x8 a) s)
            ∗ (∃ d, owns (c : Thread nD τ) arg12 fullShare d) ∗ owns (c : Thread nD τ) arg13 fullShare (accBlk x5 (dhBlk x0 x1 x2 x3 x4) x7 x8 a)) -∗ K ⟨⟩))
      ⊢ wp frame (wpE (defs₀ (F := F)) Variants.none c none) E (cc0_in_proj_bwd i arg1 harg1 arg2 harg2 arg3 harg3 arg4 harg4 arg5 harg5 arg6 harg6 arg7 harg7 arg8 harg8 arg9 harg9 arg10 harg10 arg11 harg11 arg12 harg12 arg13 harg13) K := by
  simp only [Gen.cc0_in_proj_bwd_eq_skeleton]; unfold Gen.cc0_in_proj_bwd_skel
  simp only [Gen.k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, %hf9, H9⟩, ⟨%f10, %hf10, H10⟩, ⟨%ds0, %fs0, %hs0, HS0⟩, ⟨%fs1, %hs1, HS1⟩, Hk⟩
  sl_exec (disch := first | sl_exact hc0 | sl_exact hc1)
  sl_step
  iapply Hk
  have hdh : arg12.view.read (Elt F) (arg12.view.writes (Elt F) arg12.view.junk (body_C.sl.HS0_1 c arg1 arg2 arg3 arg4 arg5 f0 f1 f2 f3 f4)) = dhBlk x0 x1 x2 x3 x4 := by
    unfold body_C.sl.HS0_1
    sl_unfold_words
    rw [View.read_writes_full _ _ Gen.inb_S512x1024_S512x1024_0_0]
    unfold dhBlk
    rw [← hf0, ← hf1, ← hf2, ← hf3, ← hf4]
    rw [View.readAt_full, View.readAt_full, View.readAt_full, View.readAt_full]
    rfl
  have hl := loop_read Variants.none c none i arg1 harg1 arg2 harg2 arg3 harg3 arg4 harg4 arg5 harg5 arg6 harg6 arg7 harg7 arg8 harg8 arg9 harg9 arg10 harg10 arg11 harg11 arg12 harg12 arg13 harg13 (0#32) (1#32) f5 f6 f7 f8 _ x5 x6 _ x7 x8 hf5 hf6 hdh hf7 hf8 f9 fs1 _ le_rfl
  isplitl [H0 H1 H2 H3 H4 H5 H6 H7 H8]
  · isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _; isplitr; swap; · iexact H5
                    ipureintro; exact hf5
    isplitl [H6]; · iexists _; isplitr; swap; · iexact H6
                    ipureintro; exact hf6
    isplitl [H7]; · iexists _; isplitr; swap; · iexact H7
                    ipureintro; exact hf7
    iexists _; isplitr; swap; · iexact H8
    ipureintro; exact hf8
  isplitl [H9]
  · iexists _; isplitr; swap; · iexact H9
    ipureintro; exact hl.1.trans (gxAfter_all _ _ _ _ _ _)
  isplitl [H10]
  · iexists _; isplitr; swap; · iexact H10
    ipureintro; rw [View.read_writes_cons_put _ _ Gen.inb_S8x1024_S1x1024_2_0 _ _ rfl, View.read_writes_cons_put _ _ Gen.inb_S8x1024_S1x1024_1_0 _ _ rfl, View.read_writes_cons_put _ _ Gen.inb_S8x1024_S1x1024_0_0 _ _ rfl]; unfold body_C.sl.v29 body_C.sl.v33 body_C.sl.v37; unfold stFinal accBlk; rw [← hs1, ← hl.2, ← hf10]; rfl
  isplitl [HS0]
  · iexists _, _; isplitr; swap; · iexact HS0
    ipureintro; rfl
  iexists _; isplitr; swap; · iexact HS1
  ipureintro; refine hl.2.trans ?_; rw [hs1]; rfl

end Cert.InKernelIdeal

end
-- ==== Proof.In.Frame.lean ====
module

public import proofs.«01_k».proof.Proof.In.Body

@[expose] public section

set_option maxRecDepth 16384

noncomputable section

namespace Cert.InKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The cotangent of the normalised input, a block of rows. -/
def dhAt (c : Dev nD) (t : Fin cfg0.N) : Vec F S512x1024 .f32 :=
  dhBlk (Gen.iblk m c 0 t) (Gen.iblk m c 1 t) (Gen.iblk m c 2 t) (Gen.iblk m c 3 t) (Gen.iblk m c 4 t)

/-- The gradient of `x`, a block of rows. -/
def gxAt (c : Dev nD) (t : Fin cfg0.N) : Vec F S512x1024 .f32 :=
  gxBlk (Gen.iblk m c 5 t) (Gen.iblk m c 6 t) (dhAt m c t) (Gen.iblk m c 7 t) (Gen.iblk m c 8 t)

/-- The accumulator of 48 rows after point `n`. -/
def accAt (c : Dev nD) : (n : ℕ) → n < cfg0.N → Vec F S48x1024 .f32
  | 0, h => accBlk (Gen.iblk m c 5 ⟨0, h⟩) (dhAt m c ⟨0, h⟩) (Gen.iblk m c 7 ⟨0, h⟩) (Gen.iblk m c 8 ⟨0, h⟩) Gen.k0_pay12
  | n + 1, h => accBlk (Gen.iblk m c 5 ⟨n + 1, h⟩) (dhAt m c ⟨n + 1, h⟩) (Gen.iblk m c 7 ⟨n + 1, h⟩) (Gen.iblk m c 8 ⟨n + 1, h⟩)
      (accAt c n (Nat.lt_of_succ_lt h))

theorem accAt_first (c : Dev nD) (t : Fin cfg0.N) (h : t.val = 0) :
    accAt m c t.val t.isLt = accBlk (Gen.iblk m c 5 t) (dhAt m c t) (Gen.iblk m c 7 t) (Gen.iblk m c 8 t) Gen.k0_pay12 := by
  obtain ⟨n, hn⟩ := t
  subst h; rfl

theorem accAt_next (c : Dev nD) (t : Fin cfg0.N) (h : t.val ≠ 0) :
    accAt m c t.val t.isLt = accBlk (Gen.iblk m c 5 t) (dhAt m c t) (Gen.iblk m c 7 t) (Gen.iblk m c 8 t)
      (accAt m c (t.val - 1) (Nat.lt_of_le_of_lt (Nat.sub_le _ _) t.isLt)) := by
  obtain ⟨n, hn⟩ := t
  cases n with
  | zero => exact absurd rfl h
  | succ n => rfl

/-- The rows of sums: zero until the last point stores them. -/
def stAt (c : Dev nD) (t : Fin cfg0.N) : Vec F S8x1024 .f32 :=
  if t.val % 8 = 7 then stFinal (accAt m c t.val t.isLt) Gen.k0_pay11 else Gen.k0_pay11

/-- What holds of the scratch buffers before point `n`. -/
def PhiS (c : Dev nD) : (n : ℕ) → n ≤ cfg0.N → sProp 𝕄
  | 0, _ => Pipeline.ΦA spec0 c
  | n + 1, hn => iprop(iprop((∃ d, owns (c : Thread nD τ) Gen.scM0_0 fullShare d) ∗ owns (c : Thread nD τ) Gen.scM0_1 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) Gen.scM0_0 fullShare d) ∗ owns (c : Thread nD τ) Gen.scM0_1 fullShare (accAt m c (n - 1) (by omega))) ∗ (∃ r, prngReg c r)) := by
  cases n with
  | zero => exact absurd rfl hz
  | succ n => rfl

/-- The proof data of the pipeline: each input's buffer at its block, each output's at its value. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.iblk m c 8 t
    | ⟨9, _⟩ => gxAt m c t
    | ⟨10, _⟩ => stAt m c t
  Φ t := PhiS m c t.val (Nat.le_of_lt_succ t.isLt)
  q w := Pipeline.shareOf spec0 w
  owed _ := 0

theorem A_eq (c : Dev nD) (w : Fin cfg0.W) : (dats m 0 c).A w = Gen.V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = Gen.iblk m c 0 t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = Gen.iblk m c 5 t := by dsimp only [dats]
theorem after_6 (c : Dev nD) (t : Fin cfg0.N) : (dats m 0 c).after 6 t = Gen.iblk m c 6 t := by dsimp only [dats]
theorem after_7 (c : Dev nD) (t : Fin cfg0.N) : (dats m 0 c).after 7 t = Gen.iblk m c 7 t := by dsimp only [dats]
theorem after_8 (c : Dev nD) (t : Fin cfg0.N) : (dats m 0 c).after 8 t = Gen.iblk m c 8 t := by dsimp only [dats]
theorem after_9 (c : Dev nD) (t : Fin cfg0.N) : (dats m 0 c).after 9 t = gxAt m c t := by dsimp only [dats]
theorem after_10 (c : Dev nD) (t : Fin cfg0.N) : (dats m 0 c).after 10 t = stAt m c t := by dsimp only [dats]
theorem before_0 (c : Dev nD) (t : Fin cfg0.N) (d) : (dats m 0 c).before 0 t d = Gen.iblk m c 0 t :=
  Gen.before0_0_of m (dats m 0 c) (A_eq m c 0) (after_0 m c) t d
theorem before_1 (c : Dev nD) (t : Fin cfg0.N) (d) : (dats m 0 c).before 1 t d = Gen.iblk m c 1 t :=
  Gen.before0_1_of m (dats m 0 c) (A_eq m c 1) (after_1 m c) t d
theorem before_2 (c : Dev nD) (t : Fin cfg0.N) (d) : (dats m 0 c).before 2 t d = Gen.iblk m c 2 t :=
  Gen.before0_2_of m (dats m 0 c) (A_eq m c 2) (after_2 m c) t d
theorem before_3 (c : Dev nD) (t : Fin cfg0.N) (d) : (dats m 0 c).before 3 t d = Gen.iblk m c 3 t :=
  Gen.before0_3_of m (dats m 0 c) (A_eq m c 3) (after_3 m c) t d
theorem before_4 (c : Dev nD) (t : Fin cfg0.N) (d) : (dats m 0 c).before 4 t d = Gen.iblk m c 4 t :=
  Gen.before0_4_of m (dats m 0 c) (A_eq m c 4) (after_4 m c) t d
theorem before_5 (c : Dev nD) (t : Fin cfg0.N) (d) : (dats m 0 c).before 5 t d = Gen.iblk m c 5 t :=
  Gen.before0_5_of m (dats m 0 c) (A_eq m c 5) (after_5 m c) t d
theorem before_6 (c : Dev nD) (t : Fin cfg0.N) (d) : (dats m 0 c).before 6 t d = Gen.iblk m c 6 t :=
  Gen.before0_6_of m (dats m 0 c) (A_eq m c 6) (after_6 m c) t d
theorem before_7 (c : Dev nD) (t : Fin cfg0.N) (d) : (dats m 0 c).before 7 t d = Gen.iblk m c 7 t :=
  Gen.before0_7_of m (dats m 0 c) (A_eq m c 7) (after_7 m c) t d
theorem before_8 (c : Dev nD) (t : Fin cfg0.N) (d) : (dats m 0 c).before 8 t d = Gen.iblk m c 8 t :=
  Gen.before0_8_of m (dats m 0 c) (A_eq m c 8) (after_8 m c) t d

/-- A window that is used at a point leaves its buffer at the value named. -/
theorem leaves (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]; try rfl

/-- A point between leaves the rows of sums as the point before left them. -/
theorem carry_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t h hi _
  have hN : t.val < 8 := lt_of_lt_of_eq t.isLt (show cfg0.N = 8 from Gen.N_0)
  rw [after_10, after_10]
  unfold stAt
  by_cases h1 : t.val % 8 = 7
  · rw [Gen.liveAt0_10_C t (fun h => by have := (Gen.hcond0_0 t).mp h; omega) ((Gen.hcond0_1 t).mpr h1)] at hi
    exact absurd hi Bool.false_ne_true
  · rw [if_neg h1, if_neg (show ¬(t.val - 1) % 8 = 7 by omega)]

/-- At the last point the buffer of sums still holds zeros. -/
theorem before_10 (c : Dev nD) (t : Fin cfg0.N) (h0 : ¬t.val % 8 = 0) (h1 : t.val % 8 = 7) (d) : (dats m 0 c).before 10 t d = Gen.k0_pay11 := by
  have hN : t.val < 8 := lt_of_lt_of_eq t.isLt (show cfg0.N = 8 from Gen.N_0)
  rw [Dat.before_out_traj _ 10 rfl (fun _ _ => rfl) (carry_10 m c) t.val t rfl d,
    if_neg (by rw [Gen.notFresh0_10_C t (fun h => h0 ((Gen.hcond0_0 t).mp h)) ((Gen.hcond0_1 t).mpr h1)]; exact Bool.false_ne_true)]
  rw [after_10]
  unfold stAt
  rw [if_neg (show ¬(t.val - 1) % 8 = 7 by omega)]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (Gen.ms0_0 t) fullShare ((dats m 0 c).before 0 t d))
    ∗ (∃ d, owns (c : Thread nD τ) (Gen.ms0_1 t) fullShare ((dats m 0 c).before 1 t d))
    ∗ (∃ d, owns (c : Thread nD τ) (Gen.ms0_2 t) fullShare ((dats m 0 c).before 2 t d))
    ∗ (∃ d, owns (c : Thread nD τ) (Gen.ms0_3 t) fullShare ((dats m 0 c).before 3 t d))
    ∗ (∃ d, owns (c : Thread nD τ) (Gen.ms0_4 t) fullShare ((dats m 0 c).before 4 t d))
    ∗ (∃ d, owns (c : Thread nD τ) (Gen.ms0_5 t) fullShare ((dats m 0 c).before 5 t d))
    ∗ (∃ d, owns (c : Thread nD τ) (Gen.ms0_6 t) fullShare ((dats m 0 c).before 6 t d))
    ∗ (∃ d, owns (c : Thread nD τ) (Gen.ms0_7 t) fullShare ((dats m 0 c).before 7 t d))
    ∗ (∃ d, owns (c : Thread nD τ) (Gen.ms0_8 t) fullShare ((dats m 0 c).before 8 t d))
    ∗ (∃ d, owns (c : Thread nD τ) (Gen.ms0_9 t) fullShare ((dats m 0 c).before 9 t d))
    ∗ (∃ d, owns (c : Thread nD τ) (Gen.ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any point. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2, before_3, before_4, before_5, before_6, before_7, before_8]
  rw [show (dats m 0 c).owesAt () t.succ = (dats m 0 c).owesAt () t.castSucc from rfl]
  rw [show (dats m 0 c).Φ t.succ = iprop(iprop((∃ d, owns (c : Thread nD τ) Gen.scM0_0 fullShare d) ∗ owns (c : Thread nD τ) Gen.scM0_1 fullShare (accAt m c t.val t.isLt)) ∗ (∃ r, prngReg c r)) from rfl]
  have hN : t.val < 8 := lt_of_lt_of_eq t.isLt (show cfg0.N = 8 from Gen.N_0)
  rw [leaves m c 0 t (Gen.liveAt0_0 t), after_0, leaves m c 1 t (Gen.liveAt0_1 t), after_1, leaves m c 2 t (Gen.liveAt0_2 t), after_2, leaves m c 3 t (Gen.liveAt0_3 t), after_3, leaves m c 4 t (Gen.liveAt0_4 t), after_4, leaves m c 5 t (Gen.liveAt0_5 t), after_5, leaves m c 6 t (Gen.liveAt0_6 t), after_6, leaves m c 7 t (Gen.liveAt0_7 t), after_7, leaves m c 8 t (Gen.liveAt0_8 t), after_8, leaves m c 9 t (Gen.liveAt0_9 t), after_9]
  by_cases h0 : t.val % 8 = 0
  · have h1 : ¬t.val % 8 = 7 := by omega
    have hz : t.val = 0 := by omega
    rw [leaves m c 10 t (Gen.liveAt0_10_A t ((Gen.hcond0_0 t).mpr h0) (fun h => h1 ((Gen.hcond0_1 t).mp h))), after_10, PhiS_castSucc]
    rw [PhiS_zero m c _ _ hz, Gen.PhiA0_eq, accAt_first m c t hz]
    unfold stAt gxAt dhAt
    rw [if_neg h1]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_A c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) Gen.scM0_0 (Memref.isWhole_whole _) Gen.scM0_1 (Memref.isWhole_whole _) (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) ((Gen.hcond0_0 t).mpr h0) (fun h => h1 ((Gen.hcond0_1 t).mp h))  Set.univ _)
    isplitl [H0 H1 H2 H3 H4 H5 H6 H7 H8]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [HS0]; · iexact HS0
    isplitl [HS1]; · iexact HS1
    unfold ins
    iintro ⟨⟨H0, H1, H2, H3, H4, H5, H6, H7, H8⟩, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := by omega
    rw [PhiS_castSucc, PhiS_pos m c _ _ hz, accAt_next m c t hz]
    by_cases h1 : t.val % 8 = 7
    · rw [leaves m c 10 t (Gen.liveAt0_10_C t (fun h => h0 ((Gen.hcond0_0 t).mp h)) ((Gen.hcond0_1 t).mpr h1)), after_10]
      simp only [before_10 m c t h0 h1]
      unfold stAt gxAt
      rw [if_pos h1, accAt_next m c t hz]
      unfold dhAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_C c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) Gen.scM0_0 (Memref.isWhole_whole _) Gen.scM0_1 (Memref.isWhole_whole _) (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (fun h => h0 ((Gen.hcond0_0 t).mp h)) ((Gen.hcond0_1 t).mpr h1) _ _ Set.univ _)
      isplitl [H0 H1 H2 H3 H4 H5 H6 H7 H8]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexists _; iexact H9
      isplitl [H10]; · iexact H10
      isplitl [HS0]; · iexact HS0
      isplitl [HS1]; · iexact HS1
      unfold ins
      iintro ⟨⟨H0, H1, H2, H3, H4, H5, H6, H7, H8⟩, H9, H10, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dats m 0 c) 10 t (Gen.idleAt0_10_B t (fun h => h0 ((Gen.hcond0_0 t).mp h)) (fun h => h1 ((Gen.hcond0_1 t).mp h))) (Gen.noFlush0_10_B t (fun h => h0 ((Gen.hcond0_0 t).mp h)) (fun h => h1 ((Gen.hcond0_1 t).mp h)))]
      unfold gxAt dhAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_B c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) Gen.scM0_0 (Memref.isWhole_whole _) Gen.scM0_1 (Memref.isWhole_whole _) (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (fun h => h0 ((Gen.hcond0_0 t).mp h)) (fun h => h1 ((Gen.hcond0_1 t).mp h)) _ _ Set.univ _)
      isplitl [H0 H1 H2 H3 H4 H5 H6 H7 H8]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexists _; iexact H9
      isplitl [H10]; · iexact H10
      isplitl [HS0]; · iexact HS0
      isplitl [HS1]; · iexact HS1
      unfold ins
      iintro ⟨⟨H0, H1, H2, H3, H4, H5, H6, H7, H8⟩, H9, H10, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := Gen.N_0; omega), Gen.PhiA0_eq]
  iintro ⟨⟨HS0, HS1⟩, Hg⟩
  isplitl [HS0 HS1]
  · isplitl [HS0]
    · iexact HS0
    iexists _; iexact HS1
  iexact Hg

set_option backward.isDefEq.respectTransparency.types false in
/-- The launch: every array ends at what the proof data say, and every counter at zero. -/
theorem run_main_quiescent : θ_run defs (onTc (τ := τ) (main (F := F))) (s₀ m ρ) (fun r => (Pipeline.FramePost cfgs (dats m) 0 (Gen.V m)) r ∧ r.2.sem = fun _ => 0) :=
  Pipeline.θ_run_frame_track_shared (Q' := _) cfgs (dats m) (0 : Fin 1) Gen.launch₀0 defs₀ Variants.none m ρ main
    (hbody := fun c => (body_obligation m c).loose) (hq := fun _ _ _ => rfl)
    (howed := fun _ _ => rfl) (V := Gen.V m) (hmain := Gen.hmain m Variants.none) (hA := A_eq m) (hin := hin m) (hout := hout m)

theorem run_main : θ_run defs (onTc (τ := τ) (main (F := F))) (s₀ m ρ) (Pipeline.FramePost cfgs (dats m) 0 (Gen.V m)) :=
  (θ_run defs _ _).mono (fun _ h => h.1) (run_main_quiescent m ρ)

/-- The frame: the arguments end unchanged, and every counter at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (Gen.frame_of m ρ (dats m) (A_eq m) (run_main m ρ)) ((θ_run defs _ _).mono (fun _ h => h.2) (run_main_quiescent m ρ))

end Cert.InKernelIdeal

end
-- ==== Proof.Common.Scalars.lean ====
module

public import Idealize.ShloMosaic.PureOps.Ideal
public import Idealize.ShloMosaic.Lib.IdealHost

@[expose] public section

noncomputable section

/-! # Constants as extended reals, and what a nonnegative real factor may do -/

namespace Step

open Idealize.ShloMosaic
open scoped BigOperators

/-- The pattern of 1024. -/
theorem bits_1024 : Ideal.ofBits .f32 1149239296#32 = ((1024 : ℝ) : EReal) := by
  simp [Ideal.ofBits, Ideal.ieee, -EReal.coe_mul]; norm_num

/-- The pattern of minus one half. -/
theorem bits_neg_half : Ideal.ofBits .f32 3204448256#32 = ((-(1 / 2) : ℝ) : EReal) := by
  simp [Ideal.ofBits, Ideal.ieee, -EReal.coe_mul, -EReal.coe_neg]; norm_num

/-- The pattern of the small number that the norms add is a positive real. -/
theorem bits_eps : ∃ e : ℝ, 0 < e ∧ Ideal.ofBits .f32 897988541#32 = (e : EReal) := by
  refine ⟨_, ?_, by simp [Ideal.ofBits, Ideal.ieee, -EReal.coe_mul]; rfl⟩
  norm_num

/-- Division by the constant 1024 is a product with a real. -/
theorem div_1024 (x : EReal) : Ideal.div x (Ideal.ofBits .f32 1149239296#32) = x * ((1 / 1024 : ℝ) : EReal) := by
  rw [bits_1024, Ideal.div_coe (by norm_num)]

/-- A nonnegative real factor goes into a sum of two. -/
theorem mul_add_real (r : ℝ) (h : 0 ≤ r) (x y : EReal) : (r : EReal) * (x + y) = r * x + r * y :=
  EReal.left_distrib_of_nonneg_of_ne_top (EReal.coe_nonneg.mpr h) (EReal.coe_ne_top r) x y

/-- A nonnegative real factor goes into a difference. -/
theorem mul_sub_real (r : ℝ) (h : 0 ≤ r) (x y : EReal) : (r : EReal) * (x - y) = r * x - r * y := by
  rw [sub_eq_add_neg, mul_add_real r h, mul_neg, ← sub_eq_add_neg]

/-- A nonnegative real factor goes into a finite sum. -/
theorem mul_sum_real {ι : Type*} (r : ℝ) (h : 0 ≤ r) (s : Finset ι) (f : ι → EReal) : (r : EReal) * ∑ i ∈ s, f i = ∑ i ∈ s, (r : EReal) * f i := by
  classical
  induction s using Finset.induction_on with
  | empty => simp
  | insert a s ha ih => rw [Finset.sum_insert ha, Finset.sum_insert ha, mul_add_real r h, ih]

/-- A square is not negative. -/
theorem square_nonneg (x : EReal) : 0 ≤ x * x := by
  rcases le_total 0 x with h | h
  · exact mul_nonneg h h
  · have := EReal.neg_nonneg.mpr h
    simpa using mul_nonneg this this

/-- Two halves are the whole. -/
theorem half_add_half (q : EReal) : ((1 / 2 : ℝ) : EReal) * q + ((1 / 2 : ℝ) : EReal) * q = q := by
  rw [← EReal.right_distrib_of_nonneg (EReal.coe_nonneg.mpr (by norm_num)) (EReal.coe_nonneg.mpr (by norm_num)), ← EReal.coe_add]
  norm_num

/-- The reciprocal root that a norm divides by. -/
def rinv {n : ℕ} (x : Fin n → EReal) : EReal :=
  Ideal.rsqrt (Ideal.div (∑ j, x j * x j) (Ideal.ofBits .f32 1149239296#32) + Ideal.ofBits .f32 897988541#32)

/-- What stands under the root. -/
def under {n : ℕ} (x : Fin n → EReal) : EReal :=
  Ideal.div (∑ j, x j * x j) (Ideal.ofBits .f32 1149239296#32) + Ideal.ofBits .f32 897988541#32

/-- The reciprocal root is a nonnegative real whatever the row holds, and its quotient by what stands under the root is its cube. -/
theorem rinv_real {n : ℕ} (x : Fin n → EReal) :
    ∃ r : ℝ, 0 ≤ r ∧ rinv x = (r : EReal) ∧ Ideal.div (rinv x) (under x) = ((r * r * r : ℝ) : EReal) := by
  obtain ⟨e, he, hb⟩ := bits_eps
  have h0 : 0 ≤ Ideal.div (∑ j, x j * x j) (Ideal.ofBits .f32 1149239296#32) := by
    rw [div_1024]
    exact mul_nonneg (Finset.sum_nonneg fun j _ => square_nonneg _) (EReal.coe_nonneg.mpr (by norm_num))
  have hr : rinv x = Ideal.rsqrt (under x) := rfl
  rw [hr]
  have hu : under x = Ideal.div (∑ j, x j * x j) (Ideal.ofBits .f32 1149239296#32) + (e : EReal) := by unfold under; rw [hb]
  generalize Ideal.div (∑ j, x j * x j) (Ideal.ofBits .f32 1149239296#32) = q at h0 hu
  rw [hu]
  induction q with
  | bot => exact absurd h0 (by simp)
  | top =>
    refine ⟨0, le_refl _, ?_, ?_⟩
    · simp
    · simp [Ideal.div]
  | coe y =>
    have hy : 0 ≤ y := EReal.coe_nonneg.mp h0
    have hp : 0 < y + e := by linarith
    have hs : Ideal.rsqrt ((y : EReal) + (e : EReal)) = (((Real.sqrt (y + e))⁻¹ : ℝ) : EReal) := by
      rw [← EReal.coe_add, Ideal.rsqrt_coe, if_neg (not_lt.mpr hp.le), if_neg hp.ne']
    refine ⟨(Real.sqrt (y + e))⁻¹, inv_nonneg.mpr (Real.sqrt_nonneg _), hs, ?_⟩
    rw [hs, ← EReal.coe_add, Ideal.div_coe hp.ne', ← EReal.coe_mul]
    congr 1
    have h2 : Real.sqrt (y + e) * Real.sqrt (y + e) = y + e := Real.mul_self_sqrt hp.le
    rw [mul_assoc, ← mul_inv, h2, one_div]

end Step

end
-- ==== Proof.In.Spec.lean ====
module

public import proofs.«01_k».proof.Proof.Common.Scalars

@[expose] public section

noncomputable section

/-! # The gradients of the projection, the modulation and the RMS norm, as functions of rows and columns -/

namespace Step.In

open Idealize.ShloMosaic
open scoped BigOperators

variable (dp : Fin 4096 → Fin 8192 → EReal) (w : Fin 1024 → Fin 8192 → EReal) (x dx2 : Fin 4096 → Fin 1024 → EReal) (sc g : Fin 1024 → EReal)

/-- The cotangent of the modulated row. -/
def dh (i : Fin 4096) (j : Fin 1024) : EReal := ∑ k, dp i k * w j k

/-- One row's gradient of the norm's argument: the kernel's form. -/
def row (x dx2 dxn : Fin 1024 → EReal) (j : Fin 1024) : EReal :=
  dx2 j + rinv x * (dxn j - x j * rinv x * Ideal.div (∑ l, dxn l * (x l * rinv x)) (Ideal.ofBits .f32 1149239296#32))

/-- The gradient of `x`. -/
def gx (i : Fin 4096) : Fin 1024 → EReal :=
  row (x i) (dx2 i) fun j => dh dp w i j * (1 + sc j) * g j

/-- The rows of sums: the gradients of the shift, of the scale and of the norm's weight, and zeros. -/
def st (k : Fin 8) (j : Fin 1024) : EReal :=
  if k.val = 0 then ∑ i, dh dp w i j
  else if k.val = 1 then ∑ i, dh dp w i j * (x i j * rinv (x i) * g j)
  else if k.val = 2 then ∑ i, dh dp w i j * (1 + sc j) * (x i j * rinv (x i))
  else 0

/-- The derivative of the reciprocal root, as the chain rule writes it, is the kernel's form. -/
theorem row_eq (x dx2 dxn : Fin 1024 → EReal) (j : Fin 1024) (s : EReal)
    (hs : s = Ideal.div ((∑ l, x l * dxn l) * (Ideal.ofBits .f32 3204448256#32 * Ideal.div (rinv x) (under x))) (Ideal.ofBits .f32 1149239296#32)) :
    dx2 j + dxn j * rinv x + x j * s + s * x j = row x dx2 dxn j := by
  obtain ⟨r, hr, e1, e2⟩ := rinv_real x
  unfold row
  rw [e1, div_1024, hs, div_1024, e2, bits_neg_half]
  have hsum : (∑ l, dxn l * (x l * (r : EReal))) = (r : EReal) * ∑ l, x l * dxn l := by
    rw [mul_sum_real r hr]
    exact Finset.sum_congr rfl fun l _ => by ac_rfl
  rw [hsum, mul_sub_real r hr]
  generalize (∑ l, x l * dxn l) = S
  have hc : ((r * r * r : ℝ) : EReal) = (r : EReal) * r * r := by rw [EReal.coe_mul, EReal.coe_mul]
  have hn : ((-(1 / 2) : ℝ) : EReal) = -((1 / 2 : ℝ) : EReal) := EReal.coe_neg _
  rw [hc, hn]
  generalize ((1 / 1024 : ℝ) : EReal) = c
  have hq : (r : EReal) * (x j * r * (r * S * c)) = x j * (S * (r * r * r) * c) := by ac_rfl
  have hx : x j * (S * (-((1 / 2 : ℝ) : EReal) * (r * r * r)) * c) = -(((1 / 2 : ℝ) : EReal) * (x j * (S * (r * r * r) * c))) := by
    rw [neg_mul, mul_neg, neg_mul, mul_neg, neg_inj]; ac_rfl
  rw [mul_comm (S * _ * c) (x j), hx, hq, mul_comm (dxn j)]
  generalize x j * (S * (r * r * r) * c) = q
  rw [add_assoc (dx2 j + _), ← mul_neg, half_add_half, sub_eq_add_neg, add_assoc]

end Step.In

end
-- ==== Proof.In.Pays.lean ====
module

public import proofs.«01_k».proof.Proof.In.Body
public import proofs.«01_k».proof.Proof.In.Spec
public import Idealize.ShloMosaic.Lib.Pointwise

@[expose] public section

set_option maxRecDepth 16384

noncomputable section

/-! # The kernel's blocks over the extended reals, read at a row and a column -/

namespace Cert.InKernelIdeal

open Idealize.ShloMosaic Idealize.ShloMosaic.TcCoe Idealize.ShloMosaic.Tactic
open scoped BigOperators

/-- Row `r` of strip `k` is row `16 k + r`. -/
theorem strip_apply (x : Vec Ideal S512x1024 .f32) (k : Fin k0_t1_loop.trips) (r : Fin 16) (j : Fin 1024) (y : Fin 512)
    (hy : y.val = k.val * 16 + r.val) : strip x k (ix2 r j) = x (ix2 y j) := by
  unfold strip VecWindow.window
  refine congrArg x (funext fun a => Fin.ext ?_)
  have o0 : k0_off1 k 0 = 16 * k.val := congrFun (k0_off1_eq k) 0
  have o1 : k0_off1 k 1 = 0 := congrFun (k0_off1_eq k) 1
  fin_cases a
  · show k0_off1 k 0 + 1 * r.val = y.val
    omega
  · show k0_off1 k 1 + 1 * j.val = j.val
    omega

/-- Row `r` of a band is row `o + r` of the accumulator. -/
theorem band_apply (a : Vec Ideal S48x1024 .f32) (o : ℕ) (h) (r : Fin 16) (j : Fin 1024) (y : Fin 48)
    (hy : y.val = o + r.val) : band a o h (ix2 r j) = a (ix2 y j) := by
  unfold band VecWindow.window
  refine congrArg a (funext fun b => Fin.ext ?_)
  fin_cases b
  · show o + 1 * r.val = y.val
    omega
  · show 0 + 1 * j.val = j.val
    omega

/-- One row of the block of the gradient of `x`. -/
theorem gxBlk_apply (x6 x7 x12 : Vec Ideal S512x1024 .f32) (x8 x9 : Vec Ideal S1x1024 .f32) (y : Fin 512) (j : Fin 1024) :
    gxBlk x6 x7 x12 x8 x9 (ix2 y j)
      = Step.In.row (fun l => x6 (ix2 y l)) (fun l => x7 (ix2 y l)) (fun l => x12 (ix2 y l) * (1 + x8 (ix2 0 l)) * x9 (ix2 0 l)) j := by
  have hk : y.val / 16 < k0_t1_loop.trips := by rw [trips_eq]; have := y.isLt; omega
  have hr : y.val % 16 < 16 := Nat.mod_lt _ (by decide)
  have e : gxBlk x6 x7 x12 x8 x9 (ix2 y j) = stripGx x6 x7 x12 x8 x9 ⟨y.val / 16, hk⟩ (ix2 ⟨y.val % 16, hr⟩ j) := by
    unfold gxBlk
    refine congrArg _ (funext fun a => Fin.ext ?_)
    fin_cases a <;> rfl
  rw [e]
  unfold stripGx
  pointwise [Gen.k0_pay2, Gen.k0_pay6, Gen.k0_pay7, Gen.k0_pay10]
  have hs : ∀ (x : Vec Ideal S512x1024 .f32) (l : Fin 1024), strip x ⟨y.val / 16, hk⟩ (ix2 ⟨y.val % 16, hr⟩ l) = x (ix2 y l) :=
    fun x l => strip_apply x _ _ l y (by show y.val = y.val / 16 * 16 + y.val % 16; omega)
  simp only [hs]
  rfl

/-- The kernel's four partial products, each over a quarter of the columns. -/
theorem dhBlk_apply (x0 x1 x2 x3 : Vec Ideal S512x2048 .bf16) (w : Vec Ideal S4x1024x2048 .bf16) (r : Fin 512) (j : Fin 1024) :
    dhBlk x0 x1 x2 x3 w (ix2 r j)
      = (∑ k, x0 (ix2 r k) * w (ix3 0 j k)) + (∑ k, x1 (ix2 r k) * w (ix3 1 j k)) + (∑ k, x2 (ix2 r k) * w (ix3 2 j k))
        + ∑ k, x3 (ix2 r k) * w (ix3 3 j k) := by
  have hq : ∀ (o : ℕ) (h) (q : Fin 4) (hq : q.val = o) (k : Fin 2048), quarter w o h (ix3 0 j k) = w (ix3 q j k) := by
    intro o h q hq k
    unfold quarter VecWindow.window
    refine congrArg w (funext fun b => Fin.ext ?_)
    fin_cases b
    · show o + 1 * 0 = q.val
      omega
    · show 0 + 1 * j.val = j.val
      omega
    · show 0 + 1 * k.val = k.val
      omega
  unfold dhBlk
  pointwise [Gen.k0_pay13]
  simp only [hq 0 _ 0 rfl, hq 1 _ 1 rfl, hq 2 _ 2 rfl, hq 3 _ 3 rfl]

/-- What strip `k` adds to band `b` of the accumulator, at row `r` of the band: the summands of the three sums. -/
def term (x6 x12 : Fin 1024 → EReal) (x8 x9 : Fin 1024 → EReal) (b : Fin 3) (j : Fin 1024) : EReal :=
  if b.val = 0 then x12 j else if b.val = 1 then x12 j * (x6 j * Step.rinv x6 * x9 j) else x12 j * (1 + x8 j) * (x6 j * Step.rinv x6)

/-- One strip's step of the accumulator. -/
theorem stripAcc_apply (x6 x12 : Vec Ideal S512x1024 .f32) (x8 x9 : Vec Ideal S1x1024 .f32) (k : Fin k0_t1_loop.trips) (a : Vec Ideal S48x1024 .f32)
    (b : Fin 3) (r : Fin 16) (j : Fin 1024) (p : Fin 48) (hp : p.val = b.val * 16 + r.val) (y : Fin 512) (hy : y.val = k.val * 16 + r.val) :
    stripAcc x6 x12 x8 x9 k a (ix2 p j)
      = a (ix2 p j) + term (fun l => x6 (ix2 y l)) (fun l => x12 (ix2 y l)) (fun l => x8 (ix2 0 l)) (fun l => x9 (ix2 0 l)) b j := by
  have hs : ∀ (x : Vec Ideal S512x1024 .f32) (l : Fin 1024), strip x k (ix2 r l) = x (ix2 y l) :=
    fun x l => strip_apply x _ _ l y hy
  have hput : ∀ (A : Vec Ideal S48x1024 .f32) (o : ℕ) (W : Vec Ideal S16x1024 .f32), VecWindow.put (s := S48x1024) A ![o, 0] S16x1024.size W (ix2 p j)
      = if b.val * 16 = o then W (ix2 r j) else if o + 16 ≤ b.val * 16 ∨ b.val * 16 + 16 ≤ o then A (ix2 p j)
        else VecWindow.put (s := S48x1024) A ![o, 0] S16x1024.size W (ix2 p j) := by
    intro A o W
    have := r.isLt
    split
    · rename_i h
      unfold VecWindow.put
      rw [dif_pos (by
        intro c; fin_cases c
        · show o ≤ p.val ∧ p.val < o + 16
          omega
        · show 0 ≤ j.val ∧ j.val < 0 + 1024
          have := j.isLt; omega)]
      refine congrArg W (funext fun c => Fin.ext ?_)
      fin_cases c
      · show p.val - o = r.val
        omega
      · show j.val - 0 = j.val
        omega
    · split
      · rename_i h
        unfold VecWindow.put
        rw [dif_neg fun hh => by
          have h0 : o ≤ p.val ∧ p.val < o + 16 := hh 0
          omega]
      · rfl
  have hb : ∀ (o : ℕ) (h), b.val * 16 = o → band a o h (ix2 r j) = a (ix2 p j) := fun o h e => band_apply a o h r j p (by omega)
  unfold stripAcc term
  fin_cases b
  · rw [hput, if_neg (by decide), if_pos (by decide), hput, if_neg (by decide), if_pos (by decide), hput, if_pos (by decide), if_pos (by decide)]
    pointwise [Gen.k0_pay8]
    rw [hb _ _ (by decide), hs]
  · rw [hput, if_neg (by decide), if_pos (by decide), hput, if_pos (by decide), if_neg (by decide), if_pos (by decide)]
    pointwise [Gen.k0_pay9, Gen.k0_pay7, Gen.k0_pay6]
    rw [hb _ _ (by decide)]
    simp only [hs]
    rfl
  · rw [hput, if_pos (by decide), if_neg (by decide), if_neg (by decide)]
    pointwise [Gen.k0_pay1, Gen.k0_pay7, Gen.k0_pay10, Gen.k0_pay6]
    rw [hb _ _ (by decide)]
    simp only [hs]
    rfl

/-- The accumulator after a whole block: a sum over the strips. -/
theorem accBlk_apply (x5 dh : Vec Ideal S512x1024 .f32) (x7 x8 : Vec Ideal S1x1024 .f32) (a : Vec Ideal S48x1024 .f32)
    (b : Fin 3) (r : Fin 16) (j : Fin 1024) (p : Fin 48) (hp : p.val = b.val * 16 + r.val) :
    accBlk x5 dh x7 x8 a (ix2 p j) = a (ix2 p j) + ∑ k : Fin 32, term (fun l => x5 (ix2 ⟨k.val * 16 + r.val, by omega⟩ l))
      (fun l => dh (ix2 ⟨k.val * 16 + r.val, by omega⟩ l)) (fun l => x7 (ix2 0 l)) (fun l => x8 (ix2 0 l)) b j := by
  have h : ∀ n (hn : n ≤ 32), accAfter x5 dh x7 x8 a n (ix2 p j) = a (ix2 p j) + ∑ k : Fin n, term (fun l => x5 (ix2 ⟨k.val * 16 + r.val, by omega⟩ l))
      (fun l => dh (ix2 ⟨k.val * 16 + r.val, by omega⟩ l)) (fun l => x7 (ix2 0 l)) (fun l => x8 (ix2 0 l)) b j := by
    intro n hn
    induction n with
    | zero => simp [accAfter]
    | succ n ih =>
      have hk : n < k0_t1_loop.trips := by rw [trips_eq]; omega
      rw [accAfter, dif_pos hk, stripAcc_apply x5 dh x7 x8 ⟨n, hk⟩ _ b r j p hp ⟨n * 16 + r.val, by omega⟩ rfl, ih (by omega), Fin.sum_univ_castSucc, add_assoc]
      rfl
  unfold accBlk
  rw [trips_eq]
  exact h 32 le_rfl

end Cert.InKernelIdeal

end
-- ==== Proof.In.Blocks.lean ====
module

public import proofs.«01_k».proof.Proof.In.Frame
public import proofs.«01_k».proof.Proof.In.Pays
public import Idealize.ShloMosaic.Lib.Claim

@[expose] public section

set_option maxRecDepth 16384

noncomputable section

/-! # The blocks that the kernel reads, in terms of its arguments -/

namespace Cert.InKernelIdeal

open Idealize.ShloMosaic Idealize.ShloMosaic.TcCoe Idealize.ShloMosaic.Tactic
open scoped BigOperators

variable (m : (ℓ : Loc nD τ sig) → Buf (Elt Ideal) ℓ) (c : Dev nD)

/-- The cotangent of the projection's result. -/
def aDp (i : Fin 4096) (k : Fin 8192) : EReal := m ((c : Thread nD τ).loc main_arg0) (ix2 i k)
/-- The projection's weights. -/
def aW (j : Fin 1024) (k : Fin 8192) : EReal := m ((c : Thread nD τ).loc main_arg1) (ix2 j k)
/-- The residual stream. -/
def aX (i : Fin 4096) (j : Fin 1024) : EReal := m ((c : Thread nD τ).loc main_arg2) (ix2 i j)
/-- The cotangent of the residual stream. -/
def aDx (i : Fin 4096) (j : Fin 1024) : EReal := m ((c : Thread nD τ).loc main_arg3) (ix2 i j)
/-- The modulation's scale. -/
def aSc (j : Fin 1024) : EReal := m ((c : Thread nD τ).loc main_arg5) (ix2 0 j)
/-- The norm's weight. -/
def aG (j : Fin 1024) : EReal := m ((c : Thread nD τ).loc main_arg6) (ix2 0 j)

/-- Row `r` of block `t`. -/
def rowOf (t : Fin cfg0.N) (r : Fin 512) : Fin 4096 := ⟨t.val * 512 + r.val, by have := t.isLt; have := Gen.N_0; have : cfg0.N = 8 := Gen.N_0; omega⟩

theorem idx_0 : ∀ t : Fin cfg0.N, win0_0.index t 0 = t.val ∧ win0_0.index t 1 = 0 := by decide +kernel
theorem idx_1 : ∀ t : Fin cfg0.N, win0_1.index t 0 = t.val ∧ win0_1.index t 1 = 1 := by decide +kernel
theorem idx_2 : ∀ t : Fin cfg0.N, win0_2.index t 0 = t.val ∧ win0_2.index t 1 = 2 := by decide +kernel
theorem idx_3 : ∀ t : Fin cfg0.N, win0_3.index t 0 = t.val ∧ win0_3.index t 1 = 3 := by decide +kernel
theorem idx_5 : ∀ t : Fin cfg0.N, win0_5.index t 0 = t.val ∧ win0_5.index t 1 = 0 := by decide +kernel
theorem idx_6 : ∀ t : Fin cfg0.N, win0_6.index t 0 = t.val ∧ win0_6.index t 1 = 0 := by decide +kernel
theorem idx_7 : ∀ t : Fin cfg0.N, win0_7.index t 0 = 0 ∧ win0_7.index t 1 = 0 := by decide +kernel
theorem idx_8 : ∀ t : Fin cfg0.N, win0_8.index t 0 = 0 ∧ win0_8.index t 1 = 0 := by decide +kernel
theorem idx_4 : ∀ t : Fin cfg0.N, win0_4.index t 0 = 0 ∧ win0_4.index t 1 = 0 ∧ win0_4.index t 2 = 0 := by decide +kernel

theorem blk_0 (t : Fin cfg0.N) (r : Fin 512) (k : Fin 2048) :
    Gen.iblk m c 0 t (ix2 r k) = aDp m c (rowOf t r) ⟨0 * 2048 + k.val, by omega⟩ := by
  unfold aDp rowOf
  have h := idx_0 t
  blk_ext [Gen.iblk, h.1, h.2]

theorem blk_1 (t : Fin cfg0.N) (r : Fin 512) (k : Fin 2048) :
    Gen.iblk m c 1 t (ix2 r k) = aDp m c (rowOf t r) ⟨1 * 2048 + k.val, by omega⟩ := by
  unfold aDp rowOf
  have h := idx_1 t
  blk_ext [Gen.iblk, h.1, h.2]

theorem blk_2 (t : Fin cfg0.N) (r : Fin 512) (k : Fin 2048) :
    Gen.iblk m c 2 t (ix2 r k) = aDp m c (rowOf t r) ⟨2 * 2048 + k.val, by omega⟩ := by
  unfold aDp rowOf
  have h := idx_2 t
  blk_ext [Gen.iblk, h.1, h.2]

theorem blk_3 (t : Fin cfg0.N) (r : Fin 512) (k : Fin 2048) :
    Gen.iblk m c 3 t (ix2 r k) = aDp m c (rowOf t r) ⟨3 * 2048 + k.val, by omega⟩ := by
  unfold aDp rowOf
  have h := idx_3 t
  blk_ext [Gen.iblk, h.1, h.2]

theorem blk_5 (t : Fin cfg0.N) (r : Fin 512) (j : Fin 1024) : Gen.iblk m c 5 t (ix2 r j) = aX m c (rowOf t r) j := by
  unfold aX rowOf
  have h := idx_5 t
  blk_ext [Gen.iblk, h.1, h.2]

theorem blk_6 (t : Fin cfg0.N) (r : Fin 512) (j : Fin 1024) : Gen.iblk m c 6 t (ix2 r j) = aDx m c (rowOf t r) j := by
  unfold aDx rowOf
  have h := idx_6 t
  blk_ext [Gen.iblk, h.1, h.2]

theorem blk_7 (t : Fin cfg0.N) (j : Fin 1024) : Gen.iblk m c 7 t (ix2 0 j) = aSc m c j := by
  unfold aSc
  have h := idx_7 t
  blk_ext [Gen.iblk, h.1, h.2]

theorem blk_8 (t : Fin cfg0.N) (j : Fin 1024) : Gen.iblk m c 8 t (ix2 0 j) = aG m c j := by
  unfold aG
  have h := idx_8 t
  blk_ext [Gen.iblk, h.1, h.2]

/-- The packed weights: the kernel's quarters are the columns, 2048 at a time. -/
theorem packed (q : Fin 4) (j : Fin 1024) (k : Fin 2048) : Gen.V m c main_v2 (ix3 q j k) = aW m c j ⟨q.val * 2048 + k.val, by omega⟩ := by
  unfold aW
  entry_read
  pointwise

theorem blk_4 (t : Fin cfg0.N) (q : Fin 4) (j : Fin 1024) (k : Fin 2048) : Gen.iblk m c 4 t (ix3 q j k) = aW m c j ⟨q.val * 2048 + k.val, by omega⟩ := by
  rw [← packed]
  have h := idx_4 t
  blk_ext [Gen.iblk, h.1, h.2.1, h.2.2]

end Cert.InKernelIdeal

end
-- ==== Proof.In.KVal.lean ====
module

public import proofs.«01_k».proof.Proof.In.Blocks

@[expose] public section

set_option maxRecDepth 16384

noncomputable section

/-! # The arrays that the kernel leaves -/

namespace Cert.InKernelIdeal

open Idealize.ShloMosaic Idealize.ShloMosaic.TcCoe Idealize.ShloMosaic.Tactic
open Idealize.ShloMosaic.Pipeline (Dat)
open Idealize.SL.Sem
open scoped BigOperators

variable (m : (ℓ : Loc nD τ sig) → Buf (Elt Ideal) ℓ) (ρ : Dev nD → PrngReg) (c : Dev nD)

/-- The gradient of `x`, as an array. -/
def gxArr : Buf (Elt Ideal) ((c : Thread nD τ).loc main_v3_0) := fun i =>
  Step.In.gx (aDp m c) (aW m c) (aX m c) (aDx m c) (aSc m c) (aG m c) (i 0) (i 1)

/-- The rows of sums, as an array. -/
def stArr : Buf (Elt Ideal) ((c : Thread nD τ).loc main_v3_1) := fun i =>
  Step.In.st (aDp m c) (aW m c) (aX m c) (aSc m c) (aG m c) (i 0) (i 1)

theorem dhAt_apply (t : Fin cfg0.N) (r : Fin 512) (j : Fin 1024) :
    dhAt m c t (ix2 r j) = Step.In.dh (aDp m c) (aW m c) (rowOf t r) j := by
  unfold dhAt Step.In.dh
  rw [dhBlk_apply]
  simp only [blk_0, blk_1, blk_2, blk_3, blk_4]
  rw [← Fin.sum_mul_add_fin 4 2048 (fun k => aDp m c (rowOf t r) k * aW m c j k), Fin.sum_univ_four]
  rfl

theorem gxAt_apply (t : Fin cfg0.N) (r : Fin 512) (j : Fin 1024) :
    gxAt m c t (ix2 r j) = Step.In.gx (aDp m c) (aW m c) (aX m c) (aDx m c) (aSc m c) (aG m c) (rowOf t r) j := by
  unfold gxAt Step.In.gx
  rw [gxBlk_apply]
  simp only [blk_5, blk_6, blk_7, blk_8, dhAt_apply]

/-- The summand of sum `b` at row `i`. -/
def summand (b : Fin 3) (j : Fin 1024) (i : Fin 4096) : EReal :=
  term (aX m c i) (Step.In.dh (aDp m c) (aW m c) i) (aSc m c) (aG m c) b j

/-- Row `r` of band `b` of the accumulator after point `n`: the rows so far whose number is `r` modulo 16. -/
theorem accAt_apply (b : Fin 3) (r : Fin 16) (j : Fin 1024) (p : Fin 48) (hp : p.val = b.val * 16 + r.val) (n : ℕ) (h : n < cfg0.N) :
    accAt m c n h (ix2 p j) = ∑ t : Fin (n + 1), ∑ k : Fin 32, summand m c b j ⟨t.val * 512 + (k.val * 16 + r.val), by
      have : cfg0.N = 8 := Gen.N_0; omega⟩ := by
  have hstep : ∀ (t : Fin cfg0.N) (a : Vec Ideal S48x1024 .f32),
      accBlk (Gen.iblk m c 5 t) (dhAt m c t) (Gen.iblk m c 7 t) (Gen.iblk m c 8 t) a (ix2 p j)
        = a (ix2 p j) + ∑ k : Fin 32, summand m c b j (rowOf t ⟨k.val * 16 + r.val, by omega⟩) := by
    intro t a
    rw [accBlk_apply _ _ _ _ _ b r j p hp]
    simp only [blk_5, blk_7, blk_8, dhAt_apply]
    rfl
  clear hp
  induction n with
  | zero =>
    rw [accAt, hstep]
    pointwise [Gen.k0_pay12]
    simp [rowOf]
  | succ n ih =>
    rw [accAt, hstep, ih _ hstep, Fin.sum_univ_castSucc (n := n + 1)]
    rfl

/-- The three sums over all rows. -/
theorem bandSum (b : Fin 3) (j : Fin 1024) (a : Fin 16 → Fin 48) (ha : ∀ r, (a r).val = b.val * 16 + r.val) (h : 7 < cfg0.N) :
    ∑ r : Fin 16, accAt m c 7 h (ix2 (a r) j) = ∑ i : Fin 4096, summand m c b j i := by
  rw [Finset.sum_congr rfl fun r _ => accAt_apply m c b r j (a r) (ha r) 7 h, Finset.sum_comm,
    ← Fin.sum_mul_add_fin 8 512 (summand m c b j)]
  refine Finset.sum_congr rfl fun t _ => ?_
  rw [Finset.sum_comm, ← Fin.sum_mul_add_fin 32 16 (fun l : Fin 512 => summand m c b j ⟨t.val * 512 + l.val, by omega⟩)]

/-- The rows of sums after the last point. -/
theorem stAt_apply (k : Fin 8) (j : Fin 1024) : stAt m c Gen.t0_7 (ix2 k j) = stArr m c (ix2 k j) := by
  have h7 : 7 < cfg0.N := by have : cfg0.N = 8 := Gen.N_0; omega
  have e : stAt m c Gen.t0_7 = stFinal (accAt m c 7 h7) (Gen.k0_pay11 (F := Ideal)) := if_pos (c := Gen.t0_7.val % 8 = 7) rfl
  have hband : ∀ (o : ℕ) (h) (q : Fin 48) (r : Fin 16), q.val = o + r.val →
      band (accAt m c 7 h7) o h (ix2 r j) = accAt m c 7 h7 (ix2 q j) := fun o h q r hq => band_apply _ o h r j q hq
  have hput : ∀ (A : Vec Ideal S8x1024 .f32) (o : Fin 8) (W : Vec Ideal S1x1024 .f32),
      VecWindow.put (s := S8x1024) A ![o.val, 0] S1x1024.size W (ix2 k j) = if k = o then W (ix2 0 j) else A (ix2 k j) := by
    intro A o W
    unfold VecWindow.put
    split
    · rename_i h
      have h0 : o.val ≤ k.val ∧ k.val < o.val + 1 := h 0
      rw [if_pos (Fin.ext (by omega))]
      refine congrArg W (funext fun a => Fin.ext ?_)
      fin_cases a
      · show k.val - o.val = 0
        omega
      · show j.val - 0 = j.val
        omega
    · rename_i h
      rw [if_neg]
      rintro rfl
      refine h fun a => ?_
      fin_cases a
      · show k.val ≤ k.val ∧ k.val < k.val + 1
        omega
      · show 0 ≤ j.val ∧ j.val < 0 + 1024
        have := j.isLt; omega
  rw [e]
  unfold stFinal
  have p2 := hput (VecWindow.put (s := S8x1024) (VecWindow.put (s := S8x1024) (Gen.k0_pay11 (F := Ideal)) ![0, 0] S1x1024.size
    (Gen.k0_pay3 (band (accAt m c 7 h7) 0 Gen.inb_S48x1024_S16x1024_0_0))) ![1, 0] S1x1024.size
    (Gen.k0_pay4 (band (accAt m c 7 h7) 16 Gen.inb_S48x1024_S16x1024_16_0))) 2 (Gen.k0_pay5 (band (accAt m c 7 h7) 32 Gen.inb_S48x1024_S16x1024_32_0))
  have p1 := hput (VecWindow.put (s := S8x1024) (Gen.k0_pay11 (F := Ideal)) ![0, 0] S1x1024.size
    (Gen.k0_pay3 (band (accAt m c 7 h7) 0 Gen.inb_S48x1024_S16x1024_0_0))) 1 (Gen.k0_pay4 (band (accAt m c 7 h7) 16 Gen.inb_S48x1024_S16x1024_16_0))
  have p0 := hput (Gen.k0_pay11 (F := Ideal)) 0 (Gen.k0_pay3 (band (accAt m c 7 h7) 0 Gen.inb_S48x1024_S16x1024_0_0))
  refine p2.trans ?_
  refine (if_congr Iff.rfl rfl (p1.trans (if_congr Iff.rfl rfl p0))).trans ?_
  show _ = Step.In.st (aDp m c) (aW m c) (aX m c) (aSc m c) (aG m c) k j
  unfold Step.In.st
  by_cases h2 : k = 2
  · subst h2
    rw [if_pos rfl, if_neg (by decide), if_neg (by decide), if_pos (by decide)]
    pointwise [Gen.k0_pay5]
    rw [Finset.sum_congr rfl fun r _ => hband 32 _ ⟨2 * 16 + r.val, by omega⟩ r rfl, bandSum m c 2 j _ (fun _ => rfl)]
    rfl
  · rw [if_neg h2]
    by_cases h1 : k = 1
    · subst h1
      rw [if_pos rfl, if_neg (by decide), if_pos (by decide)]
      pointwise [Gen.k0_pay4]
      rw [Finset.sum_congr rfl fun r _ => hband 16 _ ⟨1 * 16 + r.val, by omega⟩ r rfl, bandSum m c 1 j _ (fun _ => rfl)]
      rfl
    · rw [if_neg h1]
      by_cases h0 : k = 0
      · subst h0
        rw [if_pos rfl, if_pos (by decide)]
        pointwise [Gen.k0_pay3]
        rw [Finset.sum_congr rfl fun r _ => hband 0 _ ⟨0 * 16 + r.val, by omega⟩ r (by show 0 * 16 + r.val = 0 + r.val; omega), bandSum m c 0 j _ (fun _ => rfl)]
        rfl
      · rw [if_neg h0, if_neg (c := k.val = 0) (fun h => h0 (Fin.ext h)),
          if_neg (c := k.val = 1) (fun h => h1 (Fin.ext h)), if_neg (c := k.val = 2) (fun h => h2 (Fin.ext h))]
        pointwise [Gen.k0_pay11]

/-- The array of the gradient of `x` after the run. -/
theorem final_9 : (dats m 0 c).arrAt 9 cfg0.N = gxArr m c := by
  refine (dats m 0 c).arrAt_eq_of_covers 9 _ (by decide +kernel) fun t hf y => ?_
  have h : ∀ t : Fin cfg0.N, win0_9.index t 0 = t.val ∧ win0_9.index t 1 = 0 := by decide +kernel
  have key : ∀ (r : Fin 512) (j : Fin 1024), gxAt m c t (ix2 r j) = gxArr m c ((win0_9.blk t).view.emb (ix2 r j)) := by
    intro r j
    have e0 : (win0_9.blk t).view.emb (ix2 r j) 0 = rowOf t r := Fin.ext (by blk_simp [(h t).1, (h t).2]; rfl)
    have e1 : (win0_9.blk t).view.emb (ix2 r j) 1 = j := Fin.ext (by blk_simp [(h t).1, (h t).2])
    rw [gxAt_apply]
    unfold gxArr
    rw [e0, e1]
  blk_simp
  rw [after_9]
  have ey : y = ix2 (n0 := 512) (n1 := 1024) (y 0) (y 1) := (ix2_eta (n0 := 512) (n1 := 1024) y).symm
  rw [ey]
  exact key (y 0) (y 1)

/-- The array of sums after the run. -/
theorem final_10 : (dats m 0 c).arrAt 10 cfg0.N = stArr m c := by
  refine (dats m 0 c).arrAt_eq_of_after_last 10 Gen.t0_7 (by decide +kernel) _ fun j => ?_
  rw [after_10]
  have hi : win0_10.index Gen.t0_7 0 = 0 ∧ win0_10.index Gen.t0_7 1 = 0 := by decide +kernel
  exact (congrArg (stAt m c Gen.t0_7) (ix2_eta (n0 := 8) (n1 := 1024) j).symm).trans ((stAt_apply m c (j 0) (j 1)).trans
    (congrArg (stArr m c) (ix2_eta (n0 := 8) (n1 := 1024) j)))

/-- What the run leaves. -/
theorem run_values : θ_run defs (onTc (τ := τ) (main (F := Ideal))) ⟨m, fun _ => 0, ρ⟩ fun r => ∀ c : Dev nD,
    r.2.mem ((c.tc : Thread nD τ).loc main_v3_0) = gxArr m c ∧ r.2.mem ((c.tc : Thread nD τ).loc main_v3_1) = stArr m c :=
  (θ_run defs _ _).mono (fun _ h c => ⟨(h.out_eq c 9).trans (final_9 m c), (h.out_eq c 10).trans (final_10 m c)⟩) (run_main m ρ)

end Cert.InKernelIdeal

end
-- ==== Proof.In.RVal.lean ====
module

public import proofs.«01_k».proof.Proof.Gen.InReferenceIdeal.Run
public import proofs.«01_k».proof.Proof.Gen.InReferenceIdeal.Read
public import proofs.«01_k».proof.Proof.In.Spec
public import Idealize.ShloMosaic.Lib.Pointwise

@[expose] public section

set_option maxRecDepth 16384

noncomputable section

/-! # The arrays that the reference leaves -/

namespace Cert.InReferenceIdeal

open Idealize.ShloMosaic Idealize.ShloMosaic.TcCoe Idealize.ShloMosaic.Tactic
open Idealize.SL.Sem
open Cert.InReferenceIdeal.Read
open scoped BigOperators

variable (x0 : (⟨S4096x8192, .bf16⟩ : BufTy).Contents (Elt Ideal)) (x1 : (⟨S1024x8192, .f32⟩ : BufTy).Contents (Elt Ideal))
  (x2 x3 : (⟨S4096x1024, .f32⟩ : BufTy).Contents (Elt Ideal)) (x5 x6 : (⟨S1x1024, .f32⟩ : BufTy).Contents (Elt Ideal))

theorem dh_apply (i : Fin 4096) (j : Fin 1024) :
    val_main_v23 (F := Ideal) x0 x1 (ix2 i j) = Step.In.dh (fun i k => x0 (ix2 i k)) (fun j k => x1 (ix2 j k)) i j := by
  pointwise [val_main_v23, val_main_v22]
  rfl

theorem under_apply (i : Fin 4096) : val_main_v6 (F := Ideal) x2 (ix2 i 0) = Step.under fun j => x2 (ix2 i j) := by
  pointwise [val_main_v6, val_main_v5, val_main_v4, val_main_v3, val_main_v2, val_main_v1, val_main_v0, val_main_cst, val_main_cst_0, val_main_cst_1]
  rfl

theorem r_apply (i : Fin 4096) : val_main_v7 (F := Ideal) x2 (ix2 i 0) = Step.rinv fun j => x2 (ix2 i j) := by
  pointwise [val_main_v7]
  rw [under_apply]
  rfl

theorem dxn_apply (i : Fin 4096) (j : Fin 1024) :
    val_main_v35 (F := Ideal) x0 x1 x5 x6 (ix2 i j)
      = Step.In.dh (fun i k => x0 (ix2 i k)) (fun j k => x1 (ix2 j k)) i j * (1 + x5 (ix2 0 j)) * x6 (ix2 0 j) := by
  pointwise [val_main_v35, val_main_v34, val_main_v30, val_main_v29, val_main_v16, val_main_v15, val_main_cst_3]
  rw [dh_apply]

theorem gx_apply (i : Fin 4096) (j : Fin 1024) :
    val_main_v50 (F := Ideal) x0 x1 x2 x3 x5 x6 (ix2 i j)
      = Step.In.gx (fun i k => x0 (ix2 i k)) (fun j k => x1 (ix2 j k)) (fun i j => x2 (ix2 i j)) (fun i j => x3 (ix2 i j))
          (fun j => x5 (ix2 0 j)) (fun j => x6 (ix2 0 j)) i j := by
  pointwise [val_main_v50, val_main_v49, val_main_v48, val_main_v47, val_main_v46, val_main_v45, val_main_v44, val_main_v42, val_main_v41, val_main_v40,
    val_main_v38, val_main_v37, val_main_v36, val_main_v39, val_main_v10, val_main_v9, val_main_v8, val_main_v43, val_main_cst_9, val_main_cst_8, val_main_cst_7, val_main_cst_2]
  rw [Fin.sum_univ_one]
  rw [r_apply, under_apply]
  simp only [dxn_apply]
  exact Step.In.row_eq (fun j => x2 (ix2 i j)) (fun j => x3 (ix2 i j))
    (fun l => Step.In.dh (fun i k => x0 (ix2 i k)) (fun j k => x1 (ix2 j k)) i l * (1 + x5 (ix2 0 l)) * x6 (ix2 0 l)) j _ rfl

theorem dg_term (i : Fin 4096) (j : Fin 1024) : val_main_v14 (F := Ideal) x2 x6 (ix2 i j)
      = x2 (ix2 i j) * Step.rinv (fun j => x2 (ix2 i j)) * x6 (ix2 0 j) := by
  pointwise [val_main_v14, val_main_v13, val_main_v12, val_main_v11]
  rw [r_apply]

theorem xn_term (i : Fin 4096) (j : Fin 1024) : val_main_v12 (F := Ideal) x2 (ix2 i j)
      = x2 (ix2 i j) * Step.rinv (fun j => x2 (ix2 i j)) := by
  pointwise [val_main_v12, val_main_v11]
  rw [r_apply]

theorem dhp_term (i : Fin 4096) (j : Fin 1024) : val_main_v30 (F := Ideal) x0 x1 x5 (ix2 i j)
      = Step.In.dh (fun i k => x0 (ix2 i k)) (fun j k => x1 (ix2 j k)) i j * (1 + x5 (ix2 0 j)) := by
  pointwise [val_main_v30, val_main_v29, val_main_v16, val_main_v15, val_main_cst_3]
  rw [dh_apply]

theorem st_apply (k : Fin 8) (j : Fin 1024) :
    val_main_v52 (F := Ideal) x0 x1 x2 x5 x6 (ix2 k j)
      = Step.In.st (fun i k => x0 (ix2 i k)) (fun j k => x1 (ix2 j k)) (fun i j => x2 (ix2 i j))
          (fun j => x5 (ix2 0 j)) (fun j => x6 (ix2 0 j)) k j := by
  pointwise [val_main_v52, val_main_v51, val_main_v33, val_main_v32, val_main_v31, val_main_v28, val_main_v27, val_main_v26, val_main_v25, val_main_v24,
    val_main_cst_4, val_main_cst_5, val_main_cst_6, val_main_cst_10]
  simp only [dg_term, xn_term, dhp_term, dh_apply]
  unfold Step.In.st
  have := k.isLt
  by_cases h0 : k.val = 0
  · rw [dif_pos (by omega), if_pos h0]
  · rw [dif_neg (by omega), if_neg h0]
    by_cases h1 : k.val = 1
    · rw [dif_pos (by omega), if_pos h1]
      exact Finset.sum_congr rfl fun i _ => mul_comm _ _
    · rw [dif_neg (by omega), if_neg h1]
      by_cases h2 : k.val = 2
      · rw [dif_pos (by omega), if_pos h2]
        exact Finset.sum_congr rfl fun i _ => mul_comm _ _
      · rw [dif_neg (by omega), if_neg h2]

/-- What the run of the reference leaves. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i, r.2.mem ((c.tc : Thread nD τ).loc main_v50) i = Step.In.gx (fun i k => m ((c.tc : Thread nD τ).loc main_arg0) (ix2 i k))
          (fun j k => m ((c.tc : Thread nD τ).loc main_arg1) (ix2 j k)) (fun i j => m ((c.tc : Thread nD τ).loc main_arg2) (ix2 i j))
          (fun i j => m ((c.tc : Thread nD τ).loc main_arg3) (ix2 i j)) (fun j => m ((c.tc : Thread nD τ).loc main_arg5) (ix2 0 j))
          (fun j => m ((c.tc : Thread nD τ).loc main_arg6) (ix2 0 j)) (i 0) (i 1))
      ∧ ∀ i, r.2.mem ((c.tc : Thread nD τ).loc main_v52) i = Step.In.st (fun i k => m ((c.tc : Thread nD τ).loc main_arg0) (ix2 i k))
          (fun j k => m ((c.tc : Thread nD τ).loc main_arg1) (ix2 j k)) (fun i j => m ((c.tc : Thread nD τ).loc main_arg2) (ix2 i j))
          (fun j => m ((c.tc : Thread nD τ).loc main_arg5) (ix2 0 j)) (fun j => m ((c.tc : Thread nD τ).loc main_arg6) (ix2 0 j)) (i 0) (i 1) :=
  (θ_run defs _ _).mono (fun r h c => ⟨fun i => by
      rw [(h c).1, val_main_v50_eq, ← ix2_eta i]
      exact gx_apply _ _ _ _ _ _ _ _, fun i => by
      rw [(h c).2.1, val_main_v52_eq, ← ix2_eta i]
      exact st_apply _ _ _ _ _ _ _⟩) (Cert.InReferenceIdeal.Value.run m ρ)

end Cert.InReferenceIdeal

end
-- ==== Proof.In.Claims.lean ====
module

public import proofs.«01_k».proof.Defs
public import proofs.«01_k».proof.Proof.Gen.InKernel
public import proofs.«01_k».proof.Proof.In.KVal
public import proofs.«01_k».proof.Proof.In.RVal
public import Idealize.ShloMosaic.Lib.Quiescent

@[expose] public section

set_option maxRecDepth 16384

noncomputable section

/-! # The claims about the gradients of the projection, the modulation and the norm before it -/

namespace Cert.Proof.In

open Idealize.ShloMosaic Idealize.ShloMosaic.TcCoe Idealize.ShloMosaic.Tactic Idealize.SL.Sem

/-- The two printed programs' definitions are the same. -/
theorem defs_eq : Cert.InKernel.defs (F := Bits) = Cert.InKernelIdeal.defs (F := Bits) := by sl_kernel_rfl

theorem frame_kernel : Cert.quiescent_InKernel := fun m ρ _ => by
  have h := Cert.InKernelIdeal.frame_run (F := Bits) m ρ
  rw [← defs_eq] at h
  exact h

theorem frame_ideal : Cert.quiescent_InKernelIdeal := fun m ρ _ =>
  Cert.InKernelIdeal.frame_run m ρ

theorem frame_reference : Cert.quiescent_InReferenceIdeal := fun m ρ _ =>
  (θ_run Cert.InReferenceIdeal.defs _ _).mono
    (fun r h => ⟨fun c => (h c).2.2, sem_eq_zero_of_no_sems (by decide) r.2⟩)
    (Cert.InReferenceIdeal.Value.run (F := Ideal) m ρ)

theorem algebraic : Cert.algebraic_InKernelIdeal_InReferenceIdeal := by
  intro m ρ m' ρ' _ hagree
  refine ⟨fun c => Cert.InKernelIdeal.gxArr m c, fun c => Cert.InKernelIdeal.stArr m c, ?_, ?_⟩
  · exact (θ_run _ _ _).mono (fun r h c => ⟨(h.1 c).1, (h.1 c).2, h.2.1 c⟩)
      (θ_run_and (Cert.InKernelIdeal.run_values m ρ) (Cert.InKernelIdeal.frame_run m ρ))
  · refine (θ_run _ _ _).mono (fun r h c => ?_) (θ_run_and (Cert.InReferenceIdeal.run_values m' ρ') (Cert.InReferenceIdeal.Value.run (F := Ideal) m' ρ'))
    obtain ⟨e0, e1, e2, e3, e4, e5, e6⟩ := hagree c
    refine ⟨?_, ?_, (h.2 c).2.2⟩
    · funext i
      rw [(h.1 c).1 i, e0, e1, e2, e3, e5, e6]
      rfl
    · funext i
      rw [(h.1 c).2 i, e0, e1, e2, e5, e6]
      rfl

end Cert.Proof.In

end
-- ==== Proof.B.Kit.lean ====
module

public import proofs.«01_k».proof.Proof.Gen.BKernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.BKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! Conditions, idle windows and buffers of the pipeline. -/

/-- The first point is where everything is set to zero, -/
theorem Gen.hcond0_0 : ∀ t : Fin cfg0.N, k0_cond1 (grid0.coords t) = 1#1 ↔ t.val % 16 = 0 :=
  (fun t => by
    have ht : t.val < 16 := Nat.lt_of_lt_of_eq t.isLt Gen.N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0)

/-- the last one where the sums are taken. -/
theorem Gen.hcond0_1 : ∀ t : Fin cfg0.N, k0_cond2 (grid0.coords t) = 1#1 ↔ t.val % 16 = 15 :=
  (fun t => by
    have ht : t.val < 16 := Nat.lt_of_lt_of_eq t.isLt Gen.N_0
    have e0 : (grid0.coords t 0).val = t.val / 1 % 16 := Pipeline.Grid.coords_val t 0 (by decide) rfl
    simp only [k0_cond2, e0]
    word_cmp
   : ∀ t : Fin grid0.N, k0_cond2 (grid0.coords t) = 1#1 ↔ t.val % 16 = 15)

theorem Gen.liveAt0_0 : ∀ t : Fin cfg0.N, cfg0.idle 0 (grid0.coords t) = false := fun _ => rfl
theorem Gen.liveAt0_1 : ∀ t : Fin cfg0.N, cfg0.idle 1 (grid0.coords t) = false := fun _ => rfl
theorem Gen.liveAt0_2 : ∀ t : Fin cfg0.N, cfg0.idle 2 (grid0.coords t) = false := fun _ => rfl
theorem Gen.liveAt0_3 : ∀ t : Fin cfg0.N, cfg0.idle 3 (grid0.coords t) = false := fun _ => rfl
theorem Gen.liveAt0_4 : ∀ t : Fin cfg0.N, cfg0.idle 4 (grid0.coords t) = false := fun _ => rfl
theorem Gen.liveAt0_5 : ∀ t : Fin cfg0.N, cfg0.idle 5 (grid0.coords t) = false := fun _ => rfl
theorem Gen.liveAt0_6 : ∀ t : Fin cfg0.N, cfg0.idle 6 (grid0.coords t) = false := fun _ => rfl
theorem Gen.liveAt0_7 : ∀ t : Fin cfg0.N, cfg0.idle 7 (grid0.coords t) = false := fun _ => rfl
theorem Gen.liveAt0_10 : ∀ t : Fin cfg0.N, cfg0.idle 10 (grid0.coords t) = false := fun _ => rfl

/-- Whether nothing has been stored into an output's buffer since the start: only before the first point and after the last. -/
def freshTab : ℕ → Bool
  | 0 => true
  | n + 1 => n == 15
theorem freshTab_step_8 : ∀ t : Fin cfg0.N,
    freshTab (t.val + 1) = ((cfg0.win 8).flush t || (cfg0.idle 8 (cfg0.grid.coords t) && freshTab t.val)) := by decide +kernel
theorem Gen.fresh0_8 (t : Fin cfg0.N) (h : t.val ≠ 0) : cfg0.fresh 8 t.val = false := by
  have ht : t.val < 16 := Nat.lt_of_lt_of_eq t.isLt Gen.N_0
  rw [Pipeline.Cfg.fresh_tab cfg0 8 freshTab rfl freshTab_step_8 t.val (Nat.le_of_lt t.isLt)]
  obtain ⟨n, hn⟩ : ∃ n, t.val = n + 1 := ⟨t.val - 1, by omega⟩
  rw [hn]
  show (n == 15) = false
  rw [beq_eq_false_iff_ne]
  omega
theorem freshTab_step_9 : ∀ t : Fin cfg0.N,
    freshTab (t.val + 1) = ((cfg0.win 9).flush t || (cfg0.idle 9 (cfg0.grid.coords t) && freshTab t.val)) := by decide +kernel
theorem Gen.fresh0_9 (t : Fin cfg0.N) (h : t.val ≠ 0) : cfg0.fresh 9 t.val = false := by
  have ht : t.val < 16 := Nat.lt_of_lt_of_eq t.isLt Gen.N_0
  rw [Pipeline.Cfg.fresh_tab cfg0 9 freshTab rfl freshTab_step_9 t.val (Nat.le_of_lt t.isLt)]
  obtain ⟨n, hn⟩ : ∃ n, t.val = n + 1 := ⟨t.val - 1, by omega⟩
  rw [hn]
  show (n == 15) = false
  rw [beq_eq_false_iff_ne]
  omega
theorem freshTab_step_10 : ∀ t : Fin cfg0.N,
    freshTab (t.val + 1) = ((cfg0.win 10).flush t || (cfg0.idle 10 (cfg0.grid.coords t) && freshTab t.val)) := by decide +kernel
theorem Gen.fresh0_10 (t : Fin cfg0.N) (h : t.val ≠ 0) : cfg0.fresh 10 t.val = false := by
  have ht : t.val < 16 := Nat.lt_of_lt_of_eq t.isLt Gen.N_0
  rw [Pipeline.Cfg.fresh_tab cfg0 10 freshTab rfl freshTab_step_10 t.val (Nat.le_of_lt t.isLt)]
  obtain ⟨n, hn⟩ : ∃ n, t.val = n + 1 := ⟨t.val - 1, by omega⟩
  rw [hn]
  show (n == 15) = false
  rw [beq_eq_false_iff_ne]
  omega
theorem Gen.liveAt0_8_A : ∀ t : Fin cfg0.N, t.val % 16 = 0 → cfg0.idle 8 (grid0.coords t) = false := by decide +kernel
theorem Gen.liveAt0_8_C : ∀ t : Fin cfg0.N, t.val % 16 = 15 → cfg0.idle 8 (grid0.coords t) = false := by decide +kernel
theorem Gen.idleAt0_8_B : ∀ t : Fin cfg0.N, ¬t.val % 16 = 0 → ¬t.val % 16 = 15 → cfg0.idle 8 (grid0.coords t) = true := by decide +kernel
theorem Gen.noFlush0_8_B : ∀ t : Fin cfg0.N, ¬t.val % 16 = 0 → ¬t.val % 16 = 15 → (cfg0.win 8).flush t = false := by decide +kernel
theorem Gen.liveAt0_9_A : ∀ t : Fin cfg0.N, t.val % 16 = 0 → cfg0.idle 9 (grid0.coords t) = false := by decide +kernel
theorem Gen.liveAt0_9_C : ∀ t : Fin cfg0.N, t.val % 16 = 15 → cfg0.idle 9 (grid0.coords t) = false := by decide +kernel
theorem Gen.idleAt0_9_B : ∀ t : Fin cfg0.N, ¬t.val % 16 = 0 → ¬t.val % 16 = 15 → cfg0.idle 9 (grid0.coords t) = true := by decide +kernel
theorem Gen.noFlush0_9_B : ∀ t : Fin cfg0.N, ¬t.val % 16 = 0 → ¬t.val % 16 = 15 → (cfg0.win 9).flush t = false := by decide +kernel

/-! The buffers the body is called with. -/

abbrev Gen.ms0_0 (t : Fin cfg0.N) : Memref sig .tc .vmem S256x3072 .bf16 := win0_0.stage (cfg0.slots t 0)
abbrev Gen.hs0_0 (t : Fin cfg0.N) : (Gen.ms0_0 t).IsWhole := hstage0_0 ((cfg0.slots t 0).cast nbuf0_0)
abbrev Gen.ms0_1 (t : Fin cfg0.N) : Memref sig .tc .vmem S256x1024 .f32 := win0_1.stage (cfg0.slots t 1)
abbrev Gen.hs0_1 (t : Fin cfg0.N) : (Gen.ms0_1 t).IsWhole := hstage0_1 ((cfg0.slots t 1).cast nbuf0_1)
abbrev Gen.ms0_2 (t : Fin cfg0.N) : Memref sig .tc .vmem S8x128x128 .bf16 := win0_2.stage (cfg0.slots t 2)
abbrev Gen.hs0_2 (t : Fin cfg0.N) : (Gen.ms0_2 t).IsWhole := hstage0_2 ((cfg0.slots t 2).cast nbuf0_2)
abbrev Gen.ms0_3 (t : Fin cfg0.N) : Memref sig .tc .vmem S8x128x128 .bf16 := win0_3.stage (cfg0.slots t 3)
abbrev Gen.hs0_3 (t : Fin cfg0.N) : (Gen.ms0_3 t).IsWhole := hstage0_3 ((cfg0.slots t 3).cast nbuf0_3)
abbrev Gen.ms0_4 (t : Fin cfg0.N) : Memref sig .tc .vmem S128x1024 .f32 := win0_4.stage (cfg0.slots t 4)
abbrev Gen.hs0_4 (t : Fin cfg0.N) : (Gen.ms0_4 t).IsWhole := hstage0_4 ((cfg0.slots t 4).cast nbuf0_4)
abbrev Gen.ms0_5 (t : Fin cfg0.N) : Memref sig .tc .vmem S1x1024 .f32 := win0_5.stage (cfg0.slots t 5)
abbrev Gen.hs0_5 (t : Fin cfg0.N) : (Gen.ms0_5 t).IsWhole := hstage0_5 ((cfg0.slots t 5).cast nbuf0_5)
abbrev Gen.ms0_6 (t : Fin cfg0.N) : Memref sig .tc .vmem S1x1024 .f32 := win0_6.stage (cfg0.slots t 6)
abbrev Gen.hs0_6 (t : Fin cfg0.N) : (Gen.ms0_6 t).IsWhole := hstage0_6 ((cfg0.slots t 6).cast nbuf0_6)
abbrev Gen.ms0_7 (t : Fin cfg0.N) : Memref sig .tc .vmem S256x3072 .bf16 := win0_7.stage (cfg0.slots t 7)
abbrev Gen.hs0_7 (t : Fin cfg0.N) : (Gen.ms0_7 t).IsWhole := hstage0_7 ((cfg0.slots t 7).cast nbuf0_7)
abbrev Gen.ms0_8 (t : Fin cfg0.N) : Memref sig .tc .vmem S8x1024 .f32 := win0_8.stage (cfg0.slots t 8)
abbrev Gen.hs0_8 (t : Fin cfg0.N) : (Gen.ms0_8 t).IsWhole := hstage0_8 ((cfg0.slots t 8).cast nbuf0_8)
abbrev Gen.ms0_9 (t : Fin cfg0.N) : Memref sig .tc .vmem S128x128 .f32 := win0_9.stage (cfg0.slots t 9)
abbrev Gen.hs0_9 (t : Fin cfg0.N) : (Gen.ms0_9 t).IsWhole := hstage0_9 ((cfg0.slots t 9).cast nbuf0_9)
abbrev Gen.ms0_10 (t : Fin cfg0.N) : Memref sig .tc .vmem S8x128x128 .f32 := win0_10.stage (cfg0.slots t 10)
abbrev Gen.hs0_10 (t : Fin cfg0.N) : (Gen.ms0_10 t).IsWhole := hstage0_10 ((cfg0.slots t 10).cast nbuf0_10)
abbrev Gen.scM0_0 : Memref sig .tc .vmem S256x1024 .bf16 := Memref.whole cc0_scratch0
abbrev Gen.scM0_1 : Memref sig .tc .vmem S256x1024 .f32 := Memref.whole cc0_scratch1
abbrev Gen.scM0_2 : Memref sig .tc .vmem S256x128 .f32 := Memref.whole cc0_scratch2
abbrev Gen.scM0_3 : Memref sig .tc .vmem S256x1024 .f32 := Memref.whole cc0_scratch3
abbrev Gen.scM0_4 : Memref sig .tc .vmem S256x1024 .bf16 := Memref.whole cc0_scratch4
abbrev Gen.scM0_5 : Memref sig .tc .vmem S256x1024 .f32 := Memref.whole cc0_scratch5
abbrev Gen.scM0_6 : Memref sig .tc .vmem S32x1024 .f32 := Memref.whole cc0_scratch6
abbrev Gen.scM0_7 : Memref sig .tc .vmem S128x1024 .f32 := Memref.whole cc0_scratch7
abbrev Gen.scM0_8 : Memref sig .tc .vmem S256x1024 .f32 := Memref.whole cc0_scratch8

/-- The scratch buffers, each at some contents. -/
theorem Gen.PhiA0_eq (c : Dev nD) :
    (Pipeline.ΦA spec0 c : sProp 𝕄) = iprop(iprop((∃ d, owns (c : Thread nD τ) Gen.scM0_0 fullShare d) ∗ (∃ d, owns (c : Thread nD τ) Gen.scM0_1 fullShare d) ∗ (∃ d, owns (c : Thread nD τ) Gen.scM0_2 fullShare d) ∗ (∃ d, owns (c : Thread nD τ) Gen.scM0_3 fullShare d) ∗ (∃ d, owns (c : Thread nD τ) Gen.scM0_4 fullShare d) ∗ (∃ d, owns (c : Thread nD τ) Gen.scM0_5 fullShare d) ∗ (∃ d, owns (c : Thread nD τ) Gen.scM0_6 fullShare d) ∗ (∃ d, owns (c : Thread nD τ) Gen.scM0_7 fullShare d) ∗ (∃ d, owns (c : Thread nD τ) Gen.scM0_8 fullShare d)) ∗ (∃ r, prngReg c r)) := by
  unfold Pipeline.ΦA; rw [Gen.scopedRest0_eq]; simp only [Gen.scM0_0, Gen.scM0_1, Gen.scM0_2, Gen.scM0_3, Gen.scM0_4, Gen.scM0_5, Gen.scM0_6, Gen.scM0_7, Gen.scM0_8, owns_whole]; try rfl

end Cert.BKernelIdeal

end
-- ==== Proof.Common.Fold.lean ====
module

public import Idealize.ShloMosaic.Lib.VecWindow
public import Idealize.ShloMosaic.Lib.Tactic

@[expose] public section

set_option maxRecDepth 16384

noncomputable section

namespace Step

open Idealize.ShloMosaic Idealize.ShloMosaic.TcCoe Idealize.ShloMosaic.Tactic
open Idealize.SL Idealize.SL.RA Idealize.SL.BI Idealize.SL.Sem

/-- What `n` of `T` steps, in order, make of `a`. -/
def fold {α : Type} (T : ℕ) (step : Fin T → α → α) (a : α) : ℕ → α
  | 0 => a
  | n + 1 => if h : n < T then step ⟨n, h⟩ (fold T step a n) else fold T step a n

theorem fold_succ {α : Type} (T : ℕ) (step : Fin T → α → α) (a : α) (n : ℕ) (h : n < T) :
    fold T step a (n + 1) = step ⟨n, h⟩ (fold T step a n) := by rw [fold, dif_pos h]

variable {ι β : Type} (T : ℕ) (step : Fin T → (ι → β) → ι → β) (a : ι → β) (y : ι)

/-- A position no step touches keeps its value. -/
theorem fold_keep (h : ∀ j b, step j b y = b y) (n : ℕ) : fold T step a n y = a y := by
  induction n with
  | zero => rfl
  | succ n ih =>
    rw [fold]
    by_cases hn : n < T
    · rw [dif_pos hn, h, ih]
    · rw [dif_neg hn, ih]

/-- A position that only step `k` sets holds what that step puts there. -/
theorem fold_at (k : Fin T) (v : β) (hk : ∀ b, step k b y = v) (hj : ∀ j, j ≠ k → ∀ b, step j b y = b y) (n : ℕ) (hn : k.val < n) :
    fold T step a n y = v := by
  induction n with
  | zero => omega
  | succ n ih =>
    rw [fold]
    by_cases h : n < T
    · rw [dif_pos h]
      by_cases e : (⟨n, h⟩ : Fin T) = k
      · rw [e, hk]
      · rw [hj _ e]
        refine ih ?_
        have : n ≠ k.val := fun e' => e (Fin.ext e')
        omega
    · rw [dif_neg h]
      exact ih (by have := k.isLt; omega)

end Step

end
-- ==== Proof.B.Vals.lean ====
module

public import proofs.«01_k».proof.Proof.Common.Fold
public import proofs.«01_k».proof.Proof.Gen.BKernelIdeal.Skeleton
public import Idealize.ShloMosaic.Lib.VecWindow

@[expose] public section

set_option maxRecDepth 16384

noncomputable section

namespace Cert.BKernelIdeal

open Idealize.ShloMosaic Idealize.ShloMosaic.TcCoe Idealize.ShloMosaic.Tactic
open Idealize.SL Idealize.SL.RA Idealize.SL.BI Idealize.SL.Sem

variable {F : FTy → Type} [FloatOps F] [Named F]

theorem trips1 : k0_t1_loop.trips = 16 := by decide +kernel
theorem trips2 : k0_t2_loop.trips = 16 := by decide +kernel
theorem trips3 : k0_t3_loop.trips = 16 := by decide +kernel

/-! ## Positions -/

/-- The strip of 16 rows a row lies in, -/
def kOf (T : ℕ) (hT : T = 16) (r : Fin 256) : Fin T := ⟨r.val / 16, by have := r.isLt; omega⟩

/-- and the place in that strip of a place of a block of 256 rows. -/
def in16 (y : S256x1024.Idx) : S16x1024.Idx := fun a => ⟨![(y 0).val % 16, (y 1).val] a, by
  fin_cases a
  · exact Nat.mod_lt _ (by decide)
  · exact (y 1).isLt⟩

def in16s (y : S256x128.Idx) : S16x128.Idx := fun a => ⟨![(y 0).val % 16, (y 1).val] a, by
  fin_cases a
  · exact Nat.mod_lt _ (by decide)
  · exact (y 1).isLt⟩

/-- The place in a strip of a place of the three gradients side by side. -/
def in16w (y : S256x3072.Idx) : S16x1024.Idx := fun a => ⟨![(y 0).val % 16, (y 1).val % 1024] a, by
  fin_cases a
  · exact Nat.mod_lt _ (by decide)
  · exact Nat.mod_lt _ (by decide)⟩

variable {α : Type}

theorem put_row_in (x : S256x1024.Idx → α) (off : Fin 2 → ℕ) (w : S16x1024.Idx → α) (y : S256x1024.Idx) (h : off = ![16 * ((y 0).val / 16), 0]) :
    VecWindow.put (s := S256x1024) x off S16x1024.size w y = w (in16 y) := by
  subst h
  have h1 : (y 1).val < 1024 := (y 1).isLt
  unfold VecWindow.put
  rw [dif_pos (by
    intro a; fin_cases a
    · exact ⟨show 16 * ((y 0).val / 16) ≤ (y 0).val by omega, show (y 0).val < 16 * ((y 0).val / 16) + 16 by omega⟩
    · exact ⟨Nat.zero_le _, show (y 1).val < 0 + 1024 by omega⟩)]
  refine congrArg w (funext fun a => Fin.ext ?_)
  fin_cases a
  · show (y 0).val - 16 * ((y 0).val / 16) = (y 0).val % 16
    omega
  · show (y 1).val - 0 = (y 1).val
    exact Nat.sub_zero _

theorem put_row_out (x : S256x1024.Idx → α) (off : Fin 2 → ℕ) (w : S16x1024.Idx → α) (y : S256x1024.Idx) (n : ℕ) (h : off = ![16 * n, 0]) (hn : n ≠ (y 0).val / 16) :
    VecWindow.put (s := S256x1024) x off S16x1024.size w y = x y := by
  subst h
  unfold VecWindow.put
  rw [dif_neg (by
    intro hh
    have h0 : 16 * n ≤ (y 0).val ∧ (y 0).val < 16 * n + 16 := hh 0
    omega)]

theorem put_rowS_in (x : S256x128.Idx → α) (off : Fin 2 → ℕ) (w : S16x128.Idx → α) (y : S256x128.Idx) (h : off = ![16 * ((y 0).val / 16), 0]) :
    VecWindow.put (s := S256x128) x off S16x128.size w y = w (in16s y) := by
  subst h
  have h1 : (y 1).val < 128 := (y 1).isLt
  unfold VecWindow.put
  rw [dif_pos (by
    intro a; fin_cases a
    · exact ⟨show 16 * ((y 0).val / 16) ≤ (y 0).val by omega, show (y 0).val < 16 * ((y 0).val / 16) + 16 by omega⟩
    · exact ⟨Nat.zero_le _, show (y 1).val < 0 + 128 by omega⟩)]
  refine congrArg w (funext fun a => Fin.ext ?_)
  fin_cases a
  · show (y 0).val - 16 * ((y 0).val / 16) = (y 0).val % 16
    omega
  · show (y 1).val - 0 = (y 1).val
    exact Nat.sub_zero _

theorem put_rowS_out (x : S256x128.Idx → α) (off : Fin 2 → ℕ) (w : S16x128.Idx → α) (y : S256x128.Idx) (n : ℕ) (h : off = ![16 * n, 0]) (hn : n ≠ (y 0).val / 16) :
    VecWindow.put (s := S256x128) x off S16x128.size w y = x y := by
  subst h
  unfold VecWindow.put
  rw [dif_neg (by
    intro hh
    have h0 : 16 * n ≤ (y 0).val ∧ (y 0).val < 16 * n + 16 := hh 0
    omega)]

theorem put_wide_in (x : S256x3072.Idx → α) (off : Fin 2 → ℕ) (w : S16x1024.Idx → α) (y : S256x3072.Idx) (p : ℕ) (hp : (y 1).val / 1024 = p)
    (h : off = ![16 * ((y 0).val / 16), 1024 * p]) : VecWindow.put (s := S256x3072) x off S16x1024.size w y = w (in16w y) := by
  subst h
  subst hp
  have h1 : (y 1).val < 3072 := (y 1).isLt
  unfold VecWindow.put
  rw [dif_pos (by
    intro a; fin_cases a
    · exact ⟨show 16 * ((y 0).val / 16) ≤ (y 0).val by omega, show (y 0).val < 16 * ((y 0).val / 16) + 16 by omega⟩
    · exact ⟨show 1024 * ((y 1).val / 1024) ≤ (y 1).val by omega, show (y 1).val < 1024 * ((y 1).val / 1024) + 1024 by omega⟩)]
  refine congrArg w (funext fun a => Fin.ext ?_)
  fin_cases a
  · show (y 0).val - 16 * ((y 0).val / 16) = (y 0).val % 16
    omega
  · show (y 1).val - 1024 * ((y 1).val / 1024) = (y 1).val % 1024
    omega

theorem put_wide_out (x : S256x3072.Idx → α) (off : Fin 2 → ℕ) (w : S16x1024.Idx → α) (y : S256x3072.Idx) (n p : ℕ) (h : off = ![16 * n, 1024 * p])
    (hn : n ≠ (y 0).val / 16 ∨ p ≠ (y 1).val / 1024) : VecWindow.put (s := S256x3072) x off S16x1024.size w y = x y := by
  subst h
  unfold VecWindow.put
  rw [dif_neg (by
    intro hh
    have h0 : 16 * n ≤ (y 0).val ∧ (y 0).val < 16 * n + 16 := hh 0
    have h1 : 1024 * p ≤ (y 1).val ∧ (y 1).val < 1024 * p + 1024 := hh 1
    omega)]

/-! ## The strips and what is made of them -/

/-- The rows of one strip: the gate's input, the values' input and the second gate's input, of the projection's block; -/
def sV (x : Vec F S256x3072 .bf16) (k : Fin k0_t1_loop.trips) : Vec F S16x1024 .bf16 := VecWindow.window x (k0_off1 k) S16x1024.size (Gen.k0_off1_inb k)
def sU (x : Vec F S256x3072 .bf16) (k : Fin k0_t2_loop.trips) : Vec F S16x1024 .bf16 := VecWindow.window x (k0_off4 k) S16x1024.size (Gen.k0_off4_inb k)
def sZ (x : Vec F S256x3072 .bf16) (k : Fin k0_t2_loop.trips) : Vec F S16x1024 .bf16 := VecWindow.window x (k0_off5 k) S16x1024.size (Gen.k0_off5_inb k)
/-- of a block as wide as the model, in the second and the third loop; -/
def s2 (x : Vec F S256x1024 .f32) (k : Fin k0_t2_loop.trips) : Vec F S16x1024 .f32 := VecWindow.window x (k0_off6 k) S16x1024.size (Gen.k0_off6_inb k)
def s3 (x : Vec F S256x1024 .f32) (k : Fin k0_t3_loop.trips) : Vec F S16x1024 .f32 := VecWindow.window x (k0_off8 k) S16x1024.size (Gen.k0_off8_inb k)
/-- of the column of inverse deviations. -/
def sR (x : Vec F S256x128 .f32) (k : Fin k0_t3_loop.trips) : Vec F S16x1 .f32 := VecWindow.window x (k0_off9 k) S16x1.size (Gen.k0_off9_inb k)

/-- The normalised values, scaled and shifted; -/
def vbBlk (x0 : Vec F S256x3072 .bf16) (g b : Vec F S1x1024 .f32) : Vec F S256x1024 .bf16 := fun y =>
  Gen.k0_pay45 (Gen.k0_pay8 (sV x0 (kOf _ trips1 (y 0)))) g b (in16 y)
/-- the normalised values themselves; -/
def n2Blk (x0 : Vec F S256x3072 .bf16) : Vec F S256x1024 .f32 := fun y => Gen.k0_pay43 (Gen.k0_pay8 (sV x0 (kOf _ trips1 (y 0)))) (in16 y)
/-- the inverse deviations; -/
def rsBlk (x0 : Vec F S256x3072 .bf16) : Vec F S256x128 .f32 := fun y => Gen.k0_pay44 (Gen.k0_pay7 (sV x0 (kOf _ trips1 (y 0)))) (in16s y)
/-- the derivative of the activation. -/
def dgBlk (x0 : Vec F S256x3072 .bf16) : Vec F S256x1024 .f32 := fun y => Gen.k0_pay5 (sV x0 (kOf _ trips1 (y 0))) (in16 y)

def vbStep (x0 : Vec F S256x3072 .bf16) (g b : Vec F S1x1024 .f32) (k : Fin k0_t1_loop.trips) (a : Vec F S256x1024 .bf16) : Vec F S256x1024 .bf16 :=
  VecWindow.put (s := S256x1024) a (k0_off2 k) S16x1024.size (Gen.k0_pay45 (Gen.k0_pay8 (sV x0 k)) g b)
def n2Step (x0 : Vec F S256x3072 .bf16) (k : Fin k0_t1_loop.trips) (a : Vec F S256x1024 .f32) : Vec F S256x1024 .f32 :=
  VecWindow.put (s := S256x1024) a (k0_off2 k) S16x1024.size (Gen.k0_pay43 (Gen.k0_pay8 (sV x0 k)))
def rsStep (x0 : Vec F S256x3072 .bf16) (k : Fin k0_t1_loop.trips) (a : Vec F S256x128 .f32) : Vec F S256x128 .f32 :=
  VecWindow.put (s := S256x128) a (k0_off3 k) S16x128.size (Gen.k0_pay44 (Gen.k0_pay7 (sV x0 k)))
def dgStep (x0 : Vec F S256x3072 .bf16) (k : Fin k0_t1_loop.trips) (a : Vec F S256x1024 .f32) : Vec F S256x1024 .f32 :=
  VecWindow.put (s := S256x1024) a (k0_off2 k) S16x1024.size (Gen.k0_pay5 (sV x0 k))

theorem vb_all (x0 : Vec F S256x3072 .bf16) (g b : Vec F S1x1024 .f32) (a : Vec F S256x1024 .bf16) : Step.fold k0_t1_loop.trips (vbStep x0 g b) a k0_t1_loop.trips = vbBlk x0 g b := by
  funext y
  have h0 : (y 0).val < 256 := (y 0).isLt
  refine Step.fold_at _ _ _ _ (kOf _ trips1 (y 0)) _ (fun b => put_row_in _ _ _ _ (Gen.k0_off2_eq _)) (fun j hj b => put_row_out _ _ _ _ j.val (Gen.k0_off2_eq j) ?_) _ (Fin.isLt _)
  exact fun e => hj (Fin.ext e)

theorem n2_all (x0 : Vec F S256x3072 .bf16) (a : Vec F S256x1024 .f32) : Step.fold k0_t1_loop.trips (n2Step x0) a k0_t1_loop.trips = n2Blk x0 := by
  funext y
  have h0 : (y 0).val < 256 := (y 0).isLt
  refine Step.fold_at _ _ _ _ (kOf _ trips1 (y 0)) _ (fun b => put_row_in _ _ _ _ (Gen.k0_off2_eq _)) (fun j hj b => put_row_out _ _ _ _ j.val (Gen.k0_off2_eq j) ?_) _ (Fin.isLt _)
  exact fun e => hj (Fin.ext e)

theorem rs_all (x0 : Vec F S256x3072 .bf16) (a : Vec F S256x128 .f32) : Step.fold k0_t1_loop.trips (rsStep x0) a k0_t1_loop.trips = rsBlk x0 := by
  funext y
  have h0 : (y 0).val < 256 := (y 0).isLt
  refine Step.fold_at _ _ _ _ (kOf _ trips1 (y 0)) _ (fun b => put_rowS_in _ _ _ _ (Gen.k0_off3_eq _)) (fun j hj b => put_rowS_out _ _ _ _ j.val (Gen.k0_off3_eq j) ?_) _ (Fin.isLt _)
  exact fun e => hj (Fin.ext e)

theorem dg_all (x0 : Vec F S256x3072 .bf16) (a : Vec F S256x1024 .f32) : Step.fold k0_t1_loop.trips (dgStep x0) a k0_t1_loop.trips = dgBlk x0 := by
  funext y
  have h0 : (y 0).val < 256 := (y 0).isLt
  refine Step.fold_at _ _ _ _ (kOf _ trips1 (y 0)) _ (fun b => put_row_in _ _ _ _ (Gen.k0_off2_eq _)) (fun j hj b => put_row_out _ _ _ _ j.val (Gen.k0_off2_eq j) ?_) _ (Fin.isLt _)
  exact fun e => hj (Fin.ext e)

/-- The cotangent of the mixed values; -/
def dsBlk (x0 : Vec F S256x3072 .bf16) (x1 : Vec F S256x1024 .f32) : Vec F S256x1024 .bf16 := fun y =>
  Gen.k0_pay17 (sU x0 (kOf _ trips2 (y 0))) (sZ x0 (kOf _ trips2 (y 0))) (s2 x1 (kOf _ trips2 (y 0))) (in16 y)
def dsStep (x0 : Vec F S256x3072 .bf16) (x1 : Vec F S256x1024 .f32) (k : Fin k0_t2_loop.trips) (a : Vec F S256x1024 .bf16) : Vec F S256x1024 .bf16 :=
  VecWindow.put (s := S256x1024) a (k0_off6 k) S16x1024.size (Gen.k0_pay17 (sU x0 k) (sZ x0 k) (s2 x1 k))
/-- the sums of it over the chunks, one strip added; -/
def gbStep (x0 : Vec F S256x3072 .bf16) (x1 : Vec F S256x1024 .f32) (k : Fin k0_t2_loop.trips) (a : Vec F S128x1024 .f32) : Vec F S128x1024 .f32 :=
  VecWindow.put (s := S128x1024) a (k0_off7 k) S16x1024.size
    (Gen.k0_pay66 (Gen.k0_pay16 (sU x0 k) (sZ x0 k) (s2 x1 k)) (VecWindow.window a (k0_off7 k) S16x1024.size (Gen.k0_off7_inb k)))
def gbBlk (x0 : Vec F S256x3072 .bf16) (x1 : Vec F S256x1024 .f32) (a : Vec F S128x1024 .f32) : Vec F S128x1024 .f32 :=
  Step.fold k0_t2_loop.trips (gbStep x0 x1) a k0_t2_loop.trips
/-- the gradients of the two gates' inputs. -/
def dp2Step (x0 : Vec F S256x3072 .bf16) (x1 s : Vec F S256x1024 .f32) (k : Fin k0_t2_loop.trips) (a : Vec F S256x3072 .bf16) : Vec F S256x3072 .bf16 :=
  VecWindow.put (s := S256x3072) (VecWindow.put (s := S256x3072) a (k0_off4 k) S16x1024.size
    (Gen.k0_pay67 (Gen.k0_pay12 (sU x0 k)) (Gen.k0_pay15 (sZ x0 k)) (s2 s k) (s2 x1 k))) (k0_off5 k) S16x1024.size
    (Gen.k0_pay68 (Gen.k0_pay11 (sU x0 k)) (Gen.k0_pay13 (sZ x0 k)) (Gen.k0_pay14 (sZ x0 k)) (s2 s k) (s2 x1 k))

theorem ds_all (x0 : Vec F S256x3072 .bf16) (x1 : Vec F S256x1024 .f32) (a : Vec F S256x1024 .bf16) : Step.fold k0_t2_loop.trips (dsStep x0 x1) a k0_t2_loop.trips = dsBlk x0 x1 := by
  funext y
  have h0 : (y 0).val < 256 := (y 0).isLt
  refine Step.fold_at _ _ _ _ (kOf _ trips2 (y 0)) _ (fun b => put_row_in _ _ _ _ (Gen.k0_off6_eq _)) (fun j hj b => put_row_out _ _ _ _ j.val (Gen.k0_off6_eq j) ?_) _ (Fin.isLt _)
  exact fun e => hj (Fin.ext e)

/-- Rows `o … o + 15` of the accumulator of 32 rows. -/
def band (a : Vec F S32x1024 .f32) (o : ℕ) (h : ∀ b, (![o, 0] : Fin 2 → ℕ) b + S16x1024.size b ≤ S32x1024.size b) : Vec F S16x1024 .f32 :=
  VecWindow.window (s := S32x1024) a ![o, 0] S16x1024.size h

/-- The accumulator of 32 rows after one more strip; -/
def acStep (n2 dv : Vec F S256x1024 .f32) (k : Fin k0_t3_loop.trips) (a : Vec F S32x1024 .f32) : Vec F S32x1024 .f32 :=
  VecWindow.put (s := S32x1024) (VecWindow.put (s := S32x1024) a ![0, 0] S16x1024.size (Gen.k0_pay18 (s3 dv k) (s3 n2 k) (band a 0 Gen.inb_S32x1024_S16x1024_0_0)))
    ![16, 0] S16x1024.size (Gen.k0_pay19 (s3 dv k) (band a 16 Gen.inb_S32x1024_S16x1024_16_0))
def acBlk (n2 dv : Vec F S256x1024 .f32) (a : Vec F S32x1024 .f32) : Vec F S32x1024 .f32 :=
  Step.fold k0_t3_loop.trips (acStep n2 dv) a k0_t3_loop.trips
/-- the gradient of the values' input. -/
def dp3Step (g : Vec F S1x1024 .f32) (n2 : Vec F S256x1024 .f32) (rs : Vec F S256x128 .f32) (dv dg : Vec F S256x1024 .f32) (k : Fin k0_t3_loop.trips)
    (a : Vec F S256x3072 .bf16) : Vec F S256x3072 .bf16 :=
  VecWindow.put (s := S256x3072) a (k0_off10 k) S16x1024.size (Gen.k0_pay1 (Gen.k0_pay20 (s3 dv k) (s3 n2 k) (sR rs k) g) (s3 dg k))

/-- The block of the projection's gradient: three columns of 1024. -/
def dpBlk (x0 : Vec F S256x3072 .bf16) (x1 s : Vec F S256x1024 .f32) (g : Vec F S1x1024 .f32) (n2 : Vec F S256x1024 .f32) (rs : Vec F S256x128 .f32) (dv dg : Vec F S256x1024 .f32) :
    Vec F S256x3072 .bf16 := fun y =>
  if (y 1).val / 1024 = 0 then
    Gen.k0_pay67 (Gen.k0_pay12 (sU x0 (kOf _ trips2 (y 0)))) (Gen.k0_pay15 (sZ x0 (kOf _ trips2 (y 0)))) (s2 s (kOf _ trips2 (y 0))) (s2 x1 (kOf _ trips2 (y 0))) (in16w y)
  else if (y 1).val / 1024 = 1 then
    Gen.k0_pay1 (Gen.k0_pay20 (s3 dv (kOf _ trips3 (y 0))) (s3 n2 (kOf _ trips3 (y 0))) (sR rs (kOf _ trips3 (y 0))) g) (s3 dg (kOf _ trips3 (y 0))) (in16w y)
  else
    Gen.k0_pay68 (Gen.k0_pay11 (sU x0 (kOf _ trips2 (y 0)))) (Gen.k0_pay13 (sZ x0 (kOf _ trips2 (y 0)))) (Gen.k0_pay14 (sZ x0 (kOf _ trips2 (y 0)))) (s2 s (kOf _ trips2 (y 0)))
      (s2 x1 (kOf _ trips2 (y 0))) (in16w y)

theorem dp_all (x0 : Vec F S256x3072 .bf16) (x1 s : Vec F S256x1024 .f32) (g : Vec F S1x1024 .f32) (n2 : Vec F S256x1024 .f32) (rs : Vec F S256x128 .f32) (dv dg : Vec F S256x1024 .f32)
    (a : Vec F S256x3072 .bf16) :
    Step.fold k0_t3_loop.trips (dp3Step g n2 rs dv dg) (Step.fold k0_t2_loop.trips (dp2Step x0 x1 s) a k0_t2_loop.trips) k0_t3_loop.trips = dpBlk x0 x1 s g n2 rs dv dg := by
  funext y
  have h1 : (y 1).val < 3072 := (y 1).isLt
  have e4 : ∀ j, k0_off4 j = ![16 * j.val, 1024 * 0] := Gen.k0_off4_eq
  have e5 : ∀ j, k0_off5 j = ![16 * j.val, 1024 * 2] := Gen.k0_off5_eq
  have e10 : ∀ j, k0_off10 j = ![16 * j.val, 1024 * 1] := Gen.k0_off10_eq
  unfold dpBlk
  by_cases c0 : (y 1).val / 1024 = 0
  · rw [if_pos c0]
    refine (Step.fold_keep _ _ _ _ (fun j b => put_wide_out _ _ _ _ j.val 1 (e10 j) (.inr (by omega))) _).trans ?_
    refine Step.fold_at _ _ _ _ (kOf _ trips2 (y 0)) _ (fun b => ?_) (fun j hj b => ?_) _ (Fin.isLt _)
    · exact (put_wide_out _ _ _ _ _ 2 (e5 _) (.inr (by omega))).trans (put_wide_in _ _ _ _ 0 c0 (e4 _))
    · have hj' : j.val ≠ (y 0).val / 16 := fun e => hj (Fin.ext e)
      exact (put_wide_out _ _ _ _ _ 2 (e5 _) (.inr (by omega))).trans (put_wide_out _ _ _ _ _ 0 (e4 _) (.inl hj'))
  · rw [if_neg c0]
    by_cases c1 : (y 1).val / 1024 = 1
    · rw [if_pos c1]
      refine Step.fold_at _ _ _ _ (kOf _ trips3 (y 0)) _ (fun b => ?_) (fun j hj b => ?_) _ (Fin.isLt _)
      · exact put_wide_in _ _ _ _ 1 c1 (e10 _)
      · have hj' : j.val ≠ (y 0).val / 16 := fun e => hj (Fin.ext e)
        exact put_wide_out _ _ _ _ _ 1 (e10 _) (.inl hj')
    · rw [if_neg c1]
      have c2 : (y 1).val / 1024 = 2 := by omega
      refine (Step.fold_keep _ _ _ _ (fun j b => put_wide_out _ _ _ _ j.val 1 (e10 j) (.inr (by omega))) _).trans ?_
      refine Step.fold_at _ _ _ _ (kOf _ trips2 (y 0)) _ (fun b => ?_) (fun j hj b => ?_) _ (Fin.isLt _)
      · exact put_wide_in _ _ _ _ 2 c2 (e5 _)
      · have hj' : j.val ≠ (y 0).val / 16 := fun e => hj (Fin.ext e)
        exact (put_wide_out _ _ _ _ _ 2 (e5 _) (.inl hj')).trans (put_wide_out _ _ _ _ _ 0 (e4 _) (.inr (by omega)))

end Cert.BKernelIdeal

end
-- ==== Proof.B.Loops.lean ====
module

public import proofs.«01_k».proof.Proof.B.Vals
public import proofs.«01_k».proof.Proof.Gen.BKernelIdeal.Loops
public import Idealize.ShloMosaic.Lib.Pipeline.Value
public import Idealize.ShloMosaic.Lib.Pipeline.ValueKit

@[expose] public section

set_option maxRecDepth 16384

noncomputable section

namespace Cert.BKernelIdeal

open Idealize.ShloMosaic Idealize.ShloMosaic.TcCoe Idealize.ShloMosaic.Tactic
open Idealize.SL Idealize.SL.RA Idealize.SL.BI Idealize.SL.Sem

variable {F : FTy → Type} [FloatOps F] [Named F]

variable (𝒱 : Variants) (c : Dev nD) (bd : Option 𝒱.V) (i : grid0.Coords)
  (arg1 : Memref sig .tc .vmem S256x3072 .bf16) (harg1 : arg1.IsWhole) (arg2 : Memref sig .tc .vmem S256x1024 .f32) (harg2 : arg2.IsWhole)
  (arg3 : Memref sig .tc .hbm S4096x8192 .bf16) (harg3 : arg3.IsWhole) (arg4 : Memref sig .tc .vmem S8x128x128 .bf16) (harg4 : arg4.IsWhole)
  (arg5 : Memref sig .tc .vmem S8x128x128 .bf16) (harg5 : arg5.IsWhole) (arg6 : Memref sig .tc .vmem S128x1024 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S256x3072 .bf16) (harg9 : arg9.IsWhole) (arg10 : Memref sig .tc .vmem S8x1024 .f32) (harg10 : arg10.IsWhole)
  (arg11 : Memref sig .tc .vmem S128x128 .f32) (harg11 : arg11.IsWhole) (arg12 : Memref sig .tc .vmem S8x128x128 .f32) (harg12 : arg12.IsWhole)
  (arg13 : Memref sig .tc .vmem S256x1024 .bf16) (harg13 : arg13.IsWhole) (arg14 : Memref sig .tc .vmem S256x1024 .f32) (harg14 : arg14.IsWhole)
  (arg15 : Memref sig .tc .vmem S256x128 .f32) (harg15 : arg15.IsWhole) (arg16 : Memref sig .tc .vmem S256x1024 .f32) (harg16 : arg16.IsWhole)
  (arg17 : Memref sig .tc .vmem S256x1024 .bf16) (harg17 : arg17.IsWhole) (arg18 : Memref sig .tc .vmem S256x1024 .f32) (harg18 : arg18.IsWhole)
  (arg19 : Memref sig .tc .vmem S32x1024 .f32) (harg19 : arg19.IsWhole) (arg20 : Memref sig .tc .vmem S128x1024 .f32) (harg20 : arg20.IsWhole)
  (arg21 : Memref sig .tc .vmem S256x1024 .f32) (harg21 : arg21.IsWhole)
  (c0 : BitVec 32) (v137 : FVec F S128x128 .f32) (v139 : FVec F S128x128 .f32)
  (X1 : BufTy.Contents (Elt F) arg1.view.ty) (x1 : Vec F S256x3072 .bf16) (h1 : arg1.view.read (Elt F) X1 = x1)
  (X2 : BufTy.Contents (Elt F) arg2.view.ty) (x2 : Vec F S256x1024 .f32) (h2 : arg2.view.read (Elt F) X2 = x2)
  (X7 : BufTy.Contents (Elt F) arg7.view.ty) (x7 : Vec F S1x1024 .f32) (h7 : arg7.view.read (Elt F) X7 = x7)
  (X8 : BufTy.Contents (Elt F) arg8.view.ty) (x8 : Vec F S1x1024 .f32) (h8 : arg8.view.read (Elt F) X8 = x8)
  (X14 : BufTy.Contents (Elt F) arg14.view.ty) (x14 : Vec F S256x1024 .f32) (h14 : arg14.view.read (Elt F) X14 = x14)
  (X15 : BufTy.Contents (Elt F) arg15.view.ty) (x15 : Vec F S256x128 .f32) (h15 : arg15.view.read (Elt F) X15 = x15)
  (X16 : BufTy.Contents (Elt F) arg16.view.ty) (x16 : Vec F S256x1024 .f32) (h16 : arg16.view.read (Elt F) X16 = x16)
  (X18 : BufTy.Contents (Elt F) arg18.view.ty) (x18 : Vec F S256x1024 .f32) (h18 : arg18.view.read (Elt F) X18 = x18)
  (X21 : BufTy.Contents (Elt F) arg21.view.ty) (x21 : Vec F S256x1024 .f32) (h21 : arg21.view.read (Elt F) X21 = x21)

include h1 h7 h8 in
/-- One trip of the first loop, read back. -/
theorem trip_t1 (k : Fin k0_t1_loop.trips) (f13 : BufTy.Contents (Elt F) arg13.view.ty) (f14 : BufTy.Contents (Elt F) arg14.view.ty) (f15 : BufTy.Contents (Elt F) arg15.view.ty) (f21 : BufTy.Contents (Elt F) arg21.view.ty) :
arg13.view.read (Elt F) (arg13.view.writes (Elt F) f13 (Gen.tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X7 X8 k).1)
      = vbStep x1 x7 x8 k (arg13.view.read (Elt F) f13)
    ∧ arg14.view.read (Elt F) (arg14.view.writes (Elt F) f14 (Gen.tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X7 X8 k).2.1)
      = n2Step x1 k (arg14.view.read (Elt F) f14)
    ∧ arg15.view.read (Elt F) (arg15.view.writes (Elt F) f15 (Gen.tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X7 X8 k).2.2.1)
      = rsStep x1 k (arg15.view.read (Elt F) f15)
    ∧ arg21.view.read (Elt F) (arg21.view.writes (Elt F) f21 (Gen.tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X7 X8 k).2.2.2)
      = dgStep x1 k (arg21.view.read (Elt F) f21) := by
  have h7' : ∀ inb, arg7.view.readAt (Elt F) (Rect.unit (s := S1x1024) ![0, 0] S1x1024.size inb).toLoadRect X7 = x7 := fun inb => (View.readAt_full _ _ inb).trans h7
  have h8' : ∀ inb, arg8.view.readAt (Elt F) (Rect.unit (s := S1x1024) ![0, 0] S1x1024.size inb).toLoadRect X8 = x8 := fun inb => (View.readAt_full _ _ inb).trans h8
  have e1 : arg1.view.readAt (Elt F) (Rect.unit (s := S256x3072) (k0_off1 k) S16x1024.size (Gen.k0_off1_inb k)).toLoadRect X1 = sV x1 k := by
    rw [← h1]; rfl
  unfold Gen.tripL_k0_t1 Gen.trip_k0_t1
  dsimp only
  sl_unfold_words
  refine ⟨?_, ?_, ?_, ?_⟩
  · refine (View.read_writes_cons_put _ _ (Gen.k0_off2_inb k) _ _ rfl).trans ?_
    unfold vbStep
    rw [← e1, ← h7' Gen.inb_S1x1024_S1x1024_0_0, ← h8' Gen.inb_S1x1024_S1x1024_0_0]
    rfl
  · refine (View.read_writes_cons_put _ _ (Gen.k0_off2_inb k) _ _ rfl).trans ?_
    unfold n2Step
    rw [← e1]
    rfl
  · refine (View.read_writes_cons_put _ _ (Gen.k0_off3_inb k) _ _ rfl).trans ?_
    unfold rsStep
    rw [← e1]
    rfl
  · refine (View.read_writes_cons_put _ _ (Gen.k0_off2_inb k) _ _ rfl).trans ?_
    unfold dgStep
    rw [← e1]
    rfl

include h1 h7 h8 in
/-- The first trips of the first loop, read back. -/
theorem loop_t1 (f13 : BufTy.Contents (Elt F) arg13.view.ty) (f14 : BufTy.Contents (Elt F) arg14.view.ty) (f15 : BufTy.Contents (Elt F) arg15.view.ty) (f21 : BufTy.Contents (Elt F) arg21.view.ty) (n : ℕ) (hn : n ≤ k0_t1_loop.trips) :
    arg13.view.read (Elt F) (arg13.view.writes (Elt F) f13 (Gen.pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X7 X8 n).1)
      = Step.fold _ (vbStep x1 x7 x8) (arg13.view.read (Elt F) f13) n
    ∧ arg14.view.read (Elt F) (arg14.view.writes (Elt F) f14 (Gen.pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X7 X8 n).2.1)
      = Step.fold _ (n2Step x1) (arg14.view.read (Elt F) f14) n
    ∧ arg15.view.read (Elt F) (arg15.view.writes (Elt F) f15 (Gen.pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X7 X8 n).2.2.1)
      = Step.fold _ (rsStep x1) (arg15.view.read (Elt F) f15) n
    ∧ arg21.view.read (Elt F) (arg21.view.writes (Elt F) f21 (Gen.pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X7 X8 n).2.2.2)
      = Step.fold _ (dgStep x1) (arg21.view.read (Elt F) f21) n := by
  induction n with
  | zero => exact ⟨rfl, rfl, rfl, rfl⟩
  | succ n ih =>
    obtain ⟨i13, i14, i15, i21⟩ := ih (Nat.le_of_succ_le hn)
    have t := trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21  X1 x1 h1 X7 x7 h7 X8 x8 h8 ⟨n, hn⟩
    rw [Gen.pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21  X1 X7 X8 ⟨n, hn⟩]
    refine ⟨?_, ?_, ?_, ?_⟩
    · rw [View.writes_append, (t _ f14 f15 f21).1, i13, Step.fold_succ _ _ _ _ (show n < k0_t1_loop.trips from hn)]
    · rw [View.writes_append, (t f13 _ f15 f21).2.1, i14, Step.fold_succ _ _ _ _ (show n < k0_t1_loop.trips from hn)]
    · rw [View.writes_append, (t f13 f14 _ f21).2.2.1, i15, Step.fold_succ _ _ _ _ (show n < k0_t1_loop.trips from hn)]
    · rw [View.writes_append, (t f13 f14 f15 _).2.2.2, i21, Step.fold_succ _ _ _ _ (show n < k0_t1_loop.trips from hn)]

include h1 h2 h16 in
/-- One trip of the second loop, read back. -/
theorem trip_t2 (k : Fin k0_t2_loop.trips) (f9 : BufTy.Contents (Elt F) arg9.view.ty) (f17 : BufTy.Contents (Elt F) arg17.view.ty) (f20 : BufTy.Contents (Elt F) arg20.view.ty) :
arg9.view.read (Elt F) (arg9.view.writes (Elt F) f9 (Gen.tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v139 X1 X2 X16 k f9 f17 f20).1)
      = dp2Step x1 x2 x16 k (arg9.view.read (Elt F) f9)
    ∧ arg17.view.read (Elt F) (arg17.view.writes (Elt F) f17 (Gen.tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v139 X1 X2 X16 k f9 f17 f20).2.1)
      = dsStep x1 x2 k (arg17.view.read (Elt F) f17)
    ∧ arg20.view.read (Elt F) (arg20.view.writes (Elt F) f20 (Gen.tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v139 X1 X2 X16 k f9 f17 f20).2.2)
      = gbStep x1 x2 k (arg20.view.read (Elt F) f20) := by
  have eU : arg1.view.readAt (Elt F) (Rect.unit (s := S256x3072) (k0_off4 k) S16x1024.size (Gen.k0_off4_inb k)).toLoadRect X1 = sU x1 k := by
    rw [← h1]; rfl
  have eZ : arg1.view.readAt (Elt F) (Rect.unit (s := S256x3072) (k0_off5 k) S16x1024.size (Gen.k0_off5_inb k)).toLoadRect X1 = sZ x1 k := by
    rw [← h1]; rfl
  have e2 : arg2.view.readAt (Elt F) (Rect.unit (s := S256x1024) (k0_off6 k) S16x1024.size (Gen.k0_off6_inb k)).toLoadRect X2 = s2 x2 k := by
    rw [← h2]; rfl
  have e16 : arg16.view.readAt (Elt F) (Rect.unit (s := S256x1024) (k0_off6 k) S16x1024.size (Gen.k0_off6_inb k)).toLoadRect X16 = s2 x16 k := by
    rw [← h16]; rfl
  unfold Gen.tripL_k0_t2 Gen.trip_k0_t2
  dsimp only
  sl_unfold_words
  refine ⟨?_, ?_, ?_⟩
  · refine (View.read_writes_cons_put _ _ (Gen.k0_off5_inb k) _ _ rfl).trans ?_
    rw [View.read_writes_cons_put _ _ (Gen.k0_off4_inb k) _ _ rfl]
    unfold dp2Step
    rw [← eU, ← eZ, ← e2, ← e16]
    rfl
  · refine (View.read_writes_cons_put _ _ (Gen.k0_off6_inb k) _ _ rfl).trans ?_
    unfold dsStep
    rw [← eU, ← eZ, ← e2]
    rfl
  · refine (View.read_writes_cons_put _ _ (Gen.k0_off7_inb k) _ _ rfl).trans ?_
    unfold gbStep
    rw [← eU, ← eZ, ← e2]
    rfl

include h1 h2 h16 in
/-- The first trips of the second loop, read back. -/
theorem loop_t2 (f9 : BufTy.Contents (Elt F) arg9.view.ty) (f17 : BufTy.Contents (Elt F) arg17.view.ty) (f20 : BufTy.Contents (Elt F) arg20.view.ty) (n : ℕ) (hn : n ≤ k0_t2_loop.trips) :
    arg9.view.read (Elt F) (arg9.view.writes (Elt F) f9 (Gen.pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v139 X1 X2 X16 f9 f17 f20 n).1)
      = Step.fold _ (dp2Step x1 x2 x16) (arg9.view.read (Elt F) f9) n
    ∧ arg17.view.read (Elt F) (arg17.view.writes (Elt F) f17 (Gen.pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v139 X1 X2 X16 f9 f17 f20 n).2.1)
      = Step.fold _ (dsStep x1 x2) (arg17.view.read (Elt F) f17) n
    ∧ arg20.view.read (Elt F) (arg20.view.writes (Elt F) f20 (Gen.pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v139 X1 X2 X16 f9 f17 f20 n).2.2)
      = Step.fold _ (gbStep x1 x2) (arg20.view.read (Elt F) f20) n := by
  induction n with
  | zero => exact ⟨rfl, rfl, rfl⟩
  | succ n ih =>
    obtain ⟨i9, i17, i20⟩ := ih (Nat.le_of_succ_le hn)
    have t := trip_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v139 X1 x1 h1 X2 x2 h2 X16 x16 h16 ⟨n, hn⟩
    rw [Gen.pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v139 X1 X2 X16 f9 f17 f20 ⟨n, hn⟩]
    refine ⟨?_, ?_, ?_⟩
    · rw [View.writes_append, (t _ _ _).1, i9, Step.fold_succ _ _ _ _ (show n < k0_t2_loop.trips from hn)]
    · rw [View.writes_append, (t _ _ _).2.1, i17, Step.fold_succ _ _ _ _ (show n < k0_t2_loop.trips from hn)]
    · rw [View.writes_append, (t _ _ _).2.2, i20, Step.fold_succ _ _ _ _ (show n < k0_t2_loop.trips from hn)]

include h7 h14 h15 h18 h21 in
/-- One trip of the third loop, read back. -/
theorem trip_t3 (k : Fin k0_t3_loop.trips) (f9 : BufTy.Contents (Elt F) arg9.view.ty) (f19 : BufTy.Contents (Elt F) arg19.view.ty) :
arg9.view.read (Elt F) (arg9.view.writes (Elt F) f9 (Gen.tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 X7 X14 X15 X18 X21 k f9 f19).1)
      = dp3Step x7 x14 x15 x18 x21 k (arg9.view.read (Elt F) f9)
    ∧ arg19.view.read (Elt F) (arg19.view.writes (Elt F) f19 (Gen.tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 X7 X14 X15 X18 X21 k f9 f19).2)
      = acStep x14 x18 k (arg19.view.read (Elt F) f19) := by
  have h7' : ∀ inb, arg7.view.readAt (Elt F) (Rect.unit (s := S1x1024) ![0, 0] S1x1024.size inb).toLoadRect X7 = x7 := fun inb => (View.readAt_full _ _ inb).trans h7
  have e18 : arg18.view.readAt (Elt F) (Rect.unit (s := S256x1024) (k0_off8 k) S16x1024.size (Gen.k0_off8_inb k)).toLoadRect X18 = s3 x18 k := by
    rw [← h18]; rfl
  have e14 : arg14.view.readAt (Elt F) (Rect.unit (s := S256x1024) (k0_off8 k) S16x1024.size (Gen.k0_off8_inb k)).toLoadRect X14 = s3 x14 k := by
    rw [← h14]; rfl
  have e21 : arg21.view.readAt (Elt F) (Rect.unit (s := S256x1024) (k0_off8 k) S16x1024.size (Gen.k0_off8_inb k)).toLoadRect X21 = s3 x21 k := by
    rw [← h21]; rfl
  have e15 : arg15.view.readAt (Elt F) (Rect.unit (s := S256x128) (k0_off9 k) S16x1.size (Gen.k0_off9_inb k)).toLoadRect X15 = sR x15 k := by
    rw [← h15]; rfl
  unfold Gen.tripL_k0_t3 Gen.trip_k0_t3
  dsimp only
  sl_unfold_words
  refine ⟨?_, ?_⟩
  · refine (View.read_writes_cons_put _ _ (Gen.k0_off10_inb k) _ _ rfl).trans ?_
    unfold dp3Step
    rw [← e18, ← e14, ← e21, ← e15, ← h7' Gen.inb_S1x1024_S1x1024_0_0]
    rfl
  · refine (View.read_writes_cons_put _ _ Gen.inb_S32x1024_S16x1024_16_0 _ _ rfl).trans ?_
    rw [View.read_writes_cons_put _ _ Gen.inb_S32x1024_S16x1024_0_0 _ _ rfl]
    unfold acStep
    rw [← e18, ← e14]
    rfl

include h7 h14 h15 h18 h21 in
/-- The first trips of the third loop, read back. -/
theorem loop_t3 (f9 : BufTy.Contents (Elt F) arg9.view.ty) (f19 : BufTy.Contents (Elt F) arg19.view.ty) (n : ℕ) (hn : n ≤ k0_t3_loop.trips) :
    arg9.view.read (Elt F) (arg9.view.writes (Elt F) f9 (Gen.pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 X7 X14 X15 X18 X21 f9 f19 n).1)
      = Step.fold _ (dp3Step x7 x14 x15 x18 x21) (arg9.view.read (Elt F) f9) n
    ∧ arg19.view.read (Elt F) (arg19.view.writes (Elt F) f19 (Gen.pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 X7 X14 X15 X18 X21 f9 f19 n).2)
      = Step.fold _ (acStep x14 x18) (arg19.view.read (Elt F) f19) n := by
  induction n with
  | zero => exact ⟨rfl, rfl⟩
  | succ n ih =>
    obtain ⟨i9, i19⟩ := ih (Nat.le_of_succ_le hn)
    have t := trip_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 X7 x7 h7 X14 x14 h14 X15 x15 h15 X18 x18 h18 X21 x21 h21 ⟨n, hn⟩
    rw [Gen.pb_k0_t3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 X7 X14 X15 X18 X21 f9 f19 ⟨n, hn⟩]
    refine ⟨?_, ?_⟩
    · rw [View.writes_append, (t _ _).1, i9, Step.fold_succ _ _ _ _ (show n < k0_t3_loop.trips from hn)]
    · rw [View.writes_append, (t _ _).2, i19, Step.fold_succ _ _ _ _ (show n < k0_t3_loop.trips from hn)]

end Cert.BKernelIdeal

end
-- ==== Proof.B.Tiles.lean ====
module

public import proofs.«01_k».proof.Proof.B.Vals
public import Idealize.ShloMosaic.Lib.Pipeline.Value
public import Idealize.ShloMosaic.Lib.Pipeline.ValueKit

@[expose] public section

set_option maxRecDepth 16384

noncomputable section

namespace Cert.BKernelIdeal

open Idealize.ShloMosaic Idealize.ShloMosaic.TcCoe Idealize.ShloMosaic.Tactic
open Idealize.SL Idealize.SL.RA Idealize.SL.BI Idealize.SL.Sem

/-! ## Tiles of 128 by 128 and the eight heads -/

variable {F : FTy → Type} [FloatOps F] [Named F]

section Parts

variable {α : Type}

/-- The tile of chunk `ck` and head `h`; -/
def tileW (x : S256x1024.Idx → α) (ck : Fin 2) (h : Fin 8) : S128x128.Idx → α := fun j =>
  x (fun a => ⟨![128 * ck.val + (j 0).val, 128 * h.val + (j 1).val] a, by
    have h0 : (j 0).val < 128 := (j 0).isLt
    have h1 : (j 1).val < 128 := (j 1).isLt
    fin_cases a
    · show 128 * ck.val + (j 0).val < 256
      omega
    · show 128 * h.val + (j 1).val < 1024
      omega⟩)

/-- the columns of head `h` of a table of one chunk's rows; -/
def biasW (x : S128x1024.Idx → α) (h : Fin 8) : S128x128.Idx → α := fun j =>
  x (fun a => ⟨![(j 0).val, 128 * h.val + (j 1).val] a, by
    have h0 : (j 0).val < 128 := (j 0).isLt
    have h1 : (j 1).val < 128 := (j 1).isLt
    fin_cases a
    · exact h0
    · show 128 * h.val + (j 1).val < 1024
      omega⟩)

/-- the matrix of head `h`. -/
def headW (x : S8x128x128.Idx → α) (h : Fin 8) : S1x128x128.Idx → α := fun j =>
  x (fun a => ⟨![h.val, (j 1).val, (j 2).val] a, by
    fin_cases a
    · exact h.isLt
    · exact (j 1).isLt
    · exact (j 2).isLt⟩)

/-- The place inside its tile of a place of a block. -/
def in128 (y : S256x1024.Idx) : S128x128.Idx := fun a => ⟨![(y 0).val % 128, (y 1).val % 128] a, by
  fin_cases a
  · exact Nat.mod_lt _ (by decide)
  · exact Nat.mod_lt _ (by decide)⟩

def ckOf (r : Fin 256) : Fin 2 := ⟨r.val / 128, by have := r.isLt; omega⟩
def hOf (q : Fin 1024) : Fin 8 := ⟨q.val / 128, by have := q.isLt; omega⟩

/-- A block given tile by tile. -/
def ofTiles (f : Fin 2 → Fin 8 → S128x128.Idx → α) : S256x1024.Idx → α := fun y => f (ckOf (y 0)) (hOf (y 1)) (in128 y)

theorem window_tile (x : S256x1024.Idx → α) (off : Fin 2 → ℕ) (inb : ∀ a, off a + S128x128.size a ≤ S256x1024.size a) (ck : Fin 2) (h : Fin 8)
    (e : off = ![128 * ck.val, 128 * h.val]) : VecWindow.window (s := S256x1024) x off S128x128.size inb = tileW x ck h := by
  subst e
  funext j
  refine congrArg x (funext fun a => Fin.ext ?_)
  fin_cases a
  · show 128 * ck.val + 1 * (j 0).val = 128 * ck.val + (j 0).val
    omega
  · show 128 * h.val + 1 * (j 1).val = 128 * h.val + (j 1).val
    omega

theorem window_bias (x : S128x1024.Idx → α) (off : Fin 2 → ℕ) (inb : ∀ a, off a + S128x128.size a ≤ S128x1024.size a) (h : Fin 8)
    (e : off = ![0, 128 * h.val]) : VecWindow.window (s := S128x1024) x off S128x128.size inb = biasW x h := by
  subst e
  funext j
  refine congrArg x (funext fun a => Fin.ext ?_)
  fin_cases a
  · show 0 + 1 * (j 0).val = (j 0).val
    omega
  · show 128 * h.val + 1 * (j 1).val = 128 * h.val + (j 1).val
    omega

theorem window_head (x : S8x128x128.Idx → α) (off : Fin 3 → ℕ) (inb : ∀ a, off a + S1x128x128.size a ≤ S8x128x128.size a) (h : Fin 8)
    (e : off = ![h.val, 0, 0]) : VecWindow.window (s := S8x128x128) x off S1x128x128.size inb = headW x h := by
  subst e
  funext j
  have h0 : (j 0).val < 1 := (j 0).isLt
  refine congrArg x (funext fun a => Fin.ext ?_)
  fin_cases a
  · show h.val + 1 * (j 0).val = h.val
    omega
  · show 0 + 1 * (j 1).val = (j 1).val
    omega
  · show 0 + 1 * (j 2).val = (j 2).val
    omega

/-- Tile number `k`, in the order in which they are stored. -/
def tileStep (f : Fin 2 → Fin 8 → S128x128.Idx → α) (k : Fin 16) (x : S256x1024.Idx → α) : S256x1024.Idx → α :=
  VecWindow.put (s := S256x1024) x ![128 * (k.val / 8), 128 * (k.val % 8)] S128x128.size
    (f ⟨k.val / 8, by have := k.isLt; omega⟩ ⟨k.val % 8, Nat.mod_lt _ (by decide)⟩)

theorem tiles_all (f : Fin 2 → Fin 8 → S128x128.Idx → α) (x : S256x1024.Idx → α) : Step.fold 16 (tileStep f) x 16 = ofTiles f := by
  funext y
  have h0 : (y 0).val < 256 := (y 0).isLt
  have h1 : (y 1).val < 1024 := (y 1).isLt
  refine Step.fold_at _ _ _ _ ⟨8 * ((y 0).val / 128) + (y 1).val / 128, by omega⟩ _ (fun b => ?_) (fun j hj b => ?_) _ (Fin.isLt _)
  · unfold tileStep VecWindow.put
    have e1 : (8 * ((y 0).val / 128) + (y 1).val / 128) / 8 = (y 0).val / 128 := by omega
    have e2 : (8 * ((y 0).val / 128) + (y 1).val / 128) % 8 = (y 1).val / 128 := by omega
    rw [dif_pos (by
      intro a; fin_cases a
      · show 128 * ((8 * ((y 0).val / 128) + (y 1).val / 128) / 8) ≤ (y 0).val ∧ (y 0).val < 128 * ((8 * ((y 0).val / 128) + (y 1).val / 128) / 8) + 128
        omega
      · show 128 * ((8 * ((y 0).val / 128) + (y 1).val / 128) % 8) ≤ (y 1).val ∧ (y 1).val < 128 * ((8 * ((y 0).val / 128) + (y 1).val / 128) % 8) + 128
        omega)]
    unfold ofTiles
    have i1 : (⟨(8 * ((y 0).val / 128) + (y 1).val / 128) / 8, by omega⟩ : Fin 2) = ckOf (y 0) := Fin.ext e1
    have i2 : (⟨(8 * ((y 0).val / 128) + (y 1).val / 128) % 8, by omega⟩ : Fin 8) = hOf (y 1) := Fin.ext e2
    refine (congrArg (f _ _) ?_).trans (congrFun (congr (congrArg f i1) i2) (in128 y))
    refine funext fun a => Fin.ext ?_
    fin_cases a
    · show (y 0).val - 128 * ((8 * ((y 0).val / 128) + (y 1).val / 128) / 8) = (y 0).val % 128
      omega
    · show (y 1).val - 128 * ((8 * ((y 0).val / 128) + (y 1).val / 128) % 8) = (y 1).val % 128
      omega
  · unfold tileStep VecWindow.put
    rw [dif_neg (by
      intro hh
      have c0 : 128 * (j.val / 8) ≤ (y 0).val ∧ (y 0).val < 128 * (j.val / 8) + 128 := hh 0
      have c1 : 128 * (j.val % 8) ≤ (y 1).val ∧ (y 1).val < 128 * (j.val % 8) + 128 := hh 1
      exact hj (Fin.ext (by show j.val = 8 * ((y 0).val / 128) + (y 1).val / 128; omega)))]

end Parts

variable {sig' : RefSig} {κ : Kind} {sp : Space} {e : EltTy}

/-- Loads of the three kinds of parts, over the contents read whole. -/
theorem readAt_tile {v : View sig' κ sp S256x1024 e} {f : BufTy.Contents (Elt F) v.ty} {x : Vec F S256x1024 e} (hx : v.read (Elt F) f = x) (off : Fin 2 → ℕ)
    (inb : ∀ a, off a + S128x128.size a ≤ S256x1024.size a) (ck : Fin 2) (h : Fin 8) (e : off = ![128 * ck.val, 128 * h.val]) :
    v.readAt (Elt F) (Rect.unit (s := S256x1024) off S128x128.size inb).toLoadRect f = tileW x ck h := by
  rw [← hx, ← window_tile _ off inb ck h e]; rfl

theorem readAt_bias {v : View sig' κ sp S128x1024 e} {f : BufTy.Contents (Elt F) v.ty} {x : Vec F S128x1024 e} (hx : v.read (Elt F) f = x) (off : Fin 2 → ℕ)
    (inb : ∀ a, off a + S128x128.size a ≤ S128x1024.size a) (h : Fin 8) (e : off = ![0, 128 * h.val]) :
    v.readAt (Elt F) (Rect.unit (s := S128x1024) off S128x128.size inb).toLoadRect f = biasW x h := by
  rw [← hx, ← window_bias _ off inb h e]; rfl

theorem readAt_head {v : View sig' κ sp S8x128x128 e} {f : BufTy.Contents (Elt F) v.ty} {x : Vec F S8x128x128 e} (hx : v.read (Elt F) f = x) (off : Fin 3 → ℕ)
    (inb : ∀ a, off a + S1x128x128.size a ≤ S8x128x128.size a) (h : Fin 8) (e : off = ![h.val, 0, 0]) :
    v.readAt (Elt F) (Rect.unit (s := S8x128x128) off S1x128x128.size inb).toLoadRect f = headW x h := by
  rw [← hx, ← window_head _ off inb h e]; rfl

/-- One more tile stored over earlier ones. -/
theorem tile_step {v : View sig' κ sp S256x1024 e} {f : BufTy.Contents (Elt F) v.ty} {L : List (View.Piece (Elt F) S256x1024 e)} {g : Fin 2 → Fin 8 → Vec F S128x128 e}
    {x : Vec F S256x1024 e} (n : ℕ) (hn : n < 16) (off : Fin 2 → ℕ) (inb : ∀ a, off a + S128x128.size a ≤ S256x1024.size a) (w : Vec F S128x128 e)
    (hoff : off = ![128 * (n / 8), 128 * (n % 8)]) (hw : w = g ⟨n / 8, by omega⟩ ⟨n % 8, Nat.mod_lt _ (by decide)⟩)
    (hL : v.read (Elt F) (v.writes (Elt F) f L) = Step.fold 16 (tileStep g) x n) :
    v.read (Elt F) (v.writes (Elt F) f (⟨Rect.unit (s := S256x1024) off S128x128.size inb, w⟩ :: L)) = Step.fold 16 (tileStep g) x (n + 1) := by
  rw [View.read_writes_cons_put v f inb w L hoff, hL, Step.fold_succ _ _ _ _ hn, hw]
  rfl

/-! ## The mixed values, their cotangent and the gradient of the mixing matrices -/

/-- The values mixed along each chunk, head by head; -/
def sBlk (w : Vec F S8x128x128 .bf16) (vb : Vec F S256x1024 .bf16) (bias : Vec F S128x1024 .f32) : Vec F S256x1024 .f32 :=
  ofTiles fun ck h => Gen.k0_pay46 (headW w h) (tileW vb ck h) (biasW bias h)
/-- the cotangent pulled back through the mixing. -/
def dvBlk (wt : Vec F S8x128x128 .bf16) (ds : Vec F S256x1024 .bf16) : Vec F S256x1024 .f32 :=
  ofTiles fun ck h => Gen.k0_pay69 (tileW ds ck h) (headW wt h)
/-- The gradient of the mixing matrices after one more tile. -/
def gwStep (ds vb : Vec F S256x1024 .bf16) (k : Fin 16) (a : Vec F S8x128x128 .f32) : Vec F S8x128x128 .f32 :=
  VecWindow.put (s := S8x128x128) a ![k.val % 8, 0, 0] S1x128x128.size
    (Gen.k0_pay70 (tileW ds ⟨k.val / 8, by have := k.isLt; omega⟩ ⟨k.val % 8, Nat.mod_lt _ (by decide)⟩) (headW a ⟨k.val % 8, Nat.mod_lt _ (by decide)⟩)
      (tileW vb ⟨k.val / 8, by have := k.isLt; omega⟩ ⟨k.val % 8, Nat.mod_lt _ (by decide)⟩))
def gwBlk (ds vb : Vec F S256x1024 .bf16) (a : Vec F S8x128x128 .f32) : Vec F S8x128x128 .f32 := Step.fold 16 (gwStep ds vb) a 16

theorem heads_ext {α : Type} {x y : S8x128x128.Idx → α} (h : ∀ k : Fin 8, headW x k = headW y k) : x = y := by
  funext j
  have e := congrFun (h (j 0)) (fun a => ⟨![0, (j 1).val, (j 2).val] a, by
    fin_cases a
    · exact Nat.zero_lt_one
    · exact (j 1).isLt
    · exact (j 2).isLt⟩)
  have ej : (fun a => ⟨![(j 0).val, (j 1).val, (j 2).val] a, by fin_cases a <;> exact Fin.isLt _⟩ : S8x128x128.Idx) = j := by
    funext a
    fin_cases a <;> rfl
  rw [← ej]
  exact e

/-- A matrix put at head `k` is read back at `k`, and leaves the other heads. -/
theorem headW_put {α : Type} (x : S8x128x128.Idx → α) (k : Fin 8) (off : Fin 3 → ℕ) (hoff : off = ![k.val, 0, 0]) (w : S1x128x128.Idx → α) (h : Fin 8) :
    headW (VecWindow.put (s := S8x128x128) x off S1x128x128.size w) h = if h = k then w else headW x h := by
  subst hoff
  funext j
  have h0 : (j 0).val < 1 := (j 0).isLt
  have h1 : (j 1).val < 128 := (j 1).isLt
  have h2 : (j 2).val < 128 := (j 2).isLt
  by_cases e : h = k
  · rw [if_pos e]
    subst e
    unfold headW VecWindow.put
    rw [dif_pos (by
      intro a; fin_cases a
      · exact ⟨le_rfl, Nat.lt_succ_self _⟩
      · exact ⟨Nat.zero_le _, show (j 1).val < 0 + 128 by omega⟩
      · exact ⟨Nat.zero_le _, show (j 2).val < 0 + 128 by omega⟩)]
    refine congrArg w (funext fun a => Fin.ext ?_)
    fin_cases a
    · show h.val - h.val = (j 0).val
      omega
    · show (j 1).val - 0 = (j 1).val
      omega
    · show (j 2).val - 0 = (j 2).val
      omega
  · rw [if_neg e]
    unfold headW VecWindow.put
    rw [dif_neg (by
      intro hh
      have c0 : k.val ≤ h.val ∧ h.val < k.val + 1 := hh 0
      exact e (Fin.ext (by omega)))]

/-- The pieces stored so far leave the matrices after `n` tiles; and, for the heads below `b`, they do so whatever was there before. -/
def GwInv (v : View sig' κ sp S8x128x128 .f32) (f : BufTy.Contents (Elt F) v.ty) (L : List (View.Piece (Elt F) S8x128x128 .f32)) (ds vb : Vec F S256x1024 .bf16)
    (x : Vec F S8x128x128 .f32) (n b : ℕ) : Prop :=
  v.read (Elt F) (v.writes (Elt F) f L) = Step.fold 16 (gwStep ds vb) x n
    ∧ ∀ h : Fin 8, h.val < b → headW (v.read (Elt F) (v.writes (Elt F) v.junk L)) h = headW (Step.fold 16 (gwStep ds vb) x n) h

theorem gw_fold_head (ds vb : Vec F S256x1024 .bf16) (x : Vec F S8x128x128 .f32) (n : ℕ) (hn : n < 16) (h : Fin 8) :
    headW (Step.fold 16 (gwStep ds vb) x (n + 1)) h = if h = ⟨n % 8, Nat.mod_lt _ (by decide)⟩ then
      Gen.k0_pay70 (tileW ds ⟨n / 8, by omega⟩ ⟨n % 8, Nat.mod_lt _ (by decide)⟩) (headW (Step.fold 16 (gwStep ds vb) x n) ⟨n % 8, Nat.mod_lt _ (by decide)⟩)
        (tileW vb ⟨n / 8, by omega⟩ ⟨n % 8, Nat.mod_lt _ (by decide)⟩) else headW (Step.fold 16 (gwStep ds vb) x n) h := by
  rw [Step.fold_succ _ _ _ _ hn]
  exact headW_put _ ⟨n % 8, Nat.mod_lt _ (by decide)⟩ _ rfl _ h

theorem gw_keep (ds vb : Vec F S256x1024 .bf16) (x : Vec F S8x128x128 .f32) (n : ℕ) (h : Fin 8) (hn : n ≤ h.val) :
    headW (Step.fold 16 (gwStep ds vb) x n) h = headW x h := by
  have := h.isLt
  induction n with
  | zero => rfl
  | succ n ih =>
    rw [gw_fold_head _ _ _ _ (by omega), if_neg (fun e => by have : h.val = n % 8 := congrArg Fin.val e; omega)]
    exact ih (by omega)

variable {v : View sig' κ sp S8x128x128 .f32} {f : BufTy.Contents (Elt F) v.ty} {L : List (View.Piece (Elt F) S8x128x128 .f32)} {ds vb : Vec F S256x1024 .bf16}
  {x : Vec F S8x128x128 .f32}

theorem gw_step (n b b' : ℕ) (hn : n < 16) (hb : ∀ h : Fin 8, h.val < b' → h.val < b ∨ h.val = n % 8) (off : Fin 3 → ℕ)
    (inb : ∀ a, off a + S1x128x128.size a ≤ S8x128x128.size a) (w : Vec F S1x128x128 .f32) (hoff : off = ![n % 8, 0, 0])
    (hw : w = Gen.k0_pay70 (tileW ds ⟨n / 8, by omega⟩ ⟨n % 8, Nat.mod_lt _ (by decide)⟩)
        (headW (Step.fold 16 (gwStep ds vb) x n) ⟨n % 8, Nat.mod_lt _ (by decide)⟩) (tileW vb ⟨n / 8, by omega⟩ ⟨n % 8, Nat.mod_lt _ (by decide)⟩))
    (hL : GwInv v f L ds vb x n b) :
    GwInv v f (⟨Rect.unit (s := S8x128x128) off S1x128x128.size inb, w⟩ :: L) ds vb x (n + 1) b' := by
  refine ⟨?_, fun h hh => ?_⟩
  · rw [View.read_writes_cons_put v f inb w L hoff, hL.1, Step.fold_succ _ _ _ _ hn, hw]
    rfl
  · rw [View.read_writes_cons_put v _ inb w L hoff, headW_put _ ⟨n % 8, Nat.mod_lt _ (by decide)⟩ _ rfl, gw_fold_head _ _ _ _ hn, ← hw]
    by_cases e : h = ⟨n % 8, Nat.mod_lt _ (by decide)⟩
    · rw [if_pos e, if_pos e]
    · rw [if_neg e, if_neg e]
      exact hL.2 h ((hb h hh).resolve_right fun e' => e (Fin.ext e'))

theorem gw_start (hf : v.read (Elt F) f = x) : GwInv v f [] ds vb x 0 0 := ⟨hf, fun h hh => absurd hh (Nat.not_lt_zero _)⟩

theorem gw_start_full (off : Fin 3 → ℕ) (inb : ∀ a, off a + S8x128x128.size a ≤ S8x128x128.size a) (w : Vec F S8x128x128 .f32) :
    GwInv v f [⟨Rect.unit (s := S8x128x128) off S8x128x128.size inb, w⟩] ds vb w 0 8 :=
  ⟨View.read_writes_full _ _ inb _ _, fun h _ => by rw [View.read_writes_full _ _ inb _ _]; rfl⟩

/-- What a step finds at its head: at first what was there, -/
theorem gw_found0 (ds vb : Vec F S256x1024 .bf16) (hf : v.read (Elt F) f = x) (off : Fin 3 → ℕ) (inb : ∀ a, off a + S1x128x128.size a ≤ S8x128x128.size a) (n : ℕ) (h : Fin 8)
    (hoff : off = ![h.val, 0, 0]) (hn : n ≤ h.val) :
    v.readAt (Elt F) (Rect.unit (s := S8x128x128) off S1x128x128.size inb).toLoadRect f = headW (Step.fold 16 (gwStep ds vb) x n) h := by
  rw [readAt_head hf off inb h hoff, gw_keep _ _ _ _ _ hn]

/-- then what the earlier step left. -/
theorem gw_found {n b : ℕ} (hL : GwInv v f L ds vb x n b) (off : Fin 3 → ℕ) (inb : ∀ a, off a + S1x128x128.size a ≤ S8x128x128.size a) (h : Fin 8)
    (hoff : off = ![h.val, 0, 0]) (hb : h.val < b) :
    v.readCov L (Rect.unit (s := S8x128x128) off S1x128x128.size inb).toLoadRect = headW (Step.fold 16 (gwStep ds vb) x n) h := by
  unfold View.readCov
  rw [readAt_head rfl off inb h hoff, hL.2 h hb]

theorem gw_end (hL : GwInv v f L ds vb x 16 8) : v.read (Elt F) (v.writes (Elt F) v.junk L) = gwBlk ds vb x :=
  heads_ext fun h => hL.2 h h.isLt

/-! ## The masked gradient of the mixing matrices, the sums of the last point -/

/-- The gradient of the mixing matrices with everything above the diagonal set to zero. -/
def gwFinal (w : Vec F S8x128x128 .f32) : Vec F S8x128x128 .f32 := fun y =>
  Gen.k0_pay23 (headW w (y 0)) (fun a => ⟨![0, (y 1).val, (y 2).val] a, by
    fin_cases a
    · exact Nat.zero_lt_one
    · exact (y 1).isLt
    · exact (y 2).isLt⟩)

theorem gwFinal_head (w : Vec F S8x128x128 .f32) (h : Fin 8) : headW (gwFinal w) h = Gen.k0_pay23 (headW w h) := by
  funext j
  have h0 : (j 0).val < 1 := (j 0).isLt
  unfold gwFinal
  refine congrArg (Gen.k0_pay23 (headW w h)) (funext fun a => Fin.ext ?_)
  fin_cases a
  · show 0 = (j 0).val
    omega
  · rfl
  · rfl

/-- After the first `n` heads have been masked. -/
def MaskInv (v : View sig' κ sp S8x128x128 .f32) (L : List (View.Piece (Elt F) S8x128x128 .f32)) (w : Vec F S8x128x128 .f32) (n : ℕ) : Prop :=
  ∀ h : Fin 8, headW (v.read (Elt F) (v.writes (Elt F) v.junk L)) h = if h.val < n then Gen.k0_pay23 (headW w h) else headW w h

theorem mask_start (hL : GwInv v f L ds vb x 16 8) : MaskInv v L (gwBlk ds vb x) 0 := fun h => by
  rw [if_neg (Nat.not_lt_zero _)]
  exact hL.2 h h.isLt

theorem mask_found {w : Vec F S8x128x128 .f32} {n : ℕ} (hL : MaskInv v L w n) (off : Fin 3 → ℕ) (inb : ∀ a, off a + S1x128x128.size a ≤ S8x128x128.size a) (h : Fin 8)
    (hoff : off = ![h.val, 0, 0]) (hb : ¬h.val < n) :
    v.readCov L (Rect.unit (s := S8x128x128) off S1x128x128.size inb).toLoadRect = headW w h := by
  unfold View.readCov
  rw [readAt_head rfl off inb h hoff, hL h, if_neg hb]

theorem mask_step {w : Vec F S8x128x128 .f32} (k : Fin 8) (off : Fin 3 → ℕ) (inb : ∀ a, off a + S1x128x128.size a ≤ S8x128x128.size a) (p : Vec F S1x128x128 .f32)
    (hoff : off = ![k.val, 0, 0]) (hp : p = Gen.k0_pay23 (headW w k)) (hL : MaskInv v L w k.val) :
    MaskInv v (⟨Rect.unit (s := S8x128x128) off S1x128x128.size inb, p⟩ :: L) w (k.val + 1) := fun h => by
  rw [View.read_writes_cons_put v _ inb p L hoff, headW_put _ k _ rfl, hL h]
  by_cases e : h = k
  · rw [if_pos e, e, if_pos (Nat.lt_succ_self _), hp]
  · have e' : h.val ≠ k.val := fun q => e (Fin.ext q)
    rw [if_neg e]
    by_cases q : h.val < k.val
    · rw [if_pos q, if_pos (by omega)]
    · rw [if_neg q, if_neg (by omega)]

theorem mask_end {w : Vec F S8x128x128 .f32} (hL : MaskInv v L w 8) : v.read (Elt F) (v.writes (Elt F) v.junk L) = gwFinal w :=
  heads_ext fun h => by rw [hL h, if_pos h.isLt, gwFinal_head]

/-- The sums over the two bands of the accumulator, put into the first two rows. -/
def stFinal (a : Vec F S32x1024 .f32) (s : Vec F S8x1024 .f32) : Vec F S8x1024 .f32 :=
  VecWindow.put (s := S8x1024) (VecWindow.put (s := S8x1024) s ![0, 0] S1x1024.size (Gen.k0_pay21 (band a 0 Gen.inb_S32x1024_S16x1024_0_0)))
    ![1, 0] S1x1024.size (Gen.k0_pay22 (band a 16 Gen.inb_S32x1024_S16x1024_16_0))

theorem readAt_band {v : View sig' κ sp S32x1024 .f32} {f : BufTy.Contents (Elt F) v.ty} {a : Vec F S32x1024 .f32} (ha : v.read (Elt F) f = a) (off : Fin 2 → ℕ)
    (inb : ∀ a, off a + S16x1024.size a ≤ S32x1024.size a) (o : ℕ) (h : ∀ b, (![o, 0] : Fin 2 → ℕ) b + S16x1024.size b ≤ S32x1024.size b) (e : off = ![o, 0]) :
    v.readAt (Elt F) (Rect.unit (s := S32x1024) off S16x1024.size inb).toLoadRect f = band a o h := by
  subst e
  rw [← ha]
  rfl

/-- The sums along each head's columns, head `h` in column `h`. -/
def gbFinal (q : Vec F S128x1024 .f32) : Vec F S128x128 .f32 :=
  Gen.k0_pay2 (Gen.k0_pay36 (iota .tc S128x128 32 [1] Gen.iota_S128x128_d1_w32) (Gen.k0_pay34 (biasW q 0) (biasW q 1)) Gen.k0_pay35 (biasW q 2) (biasW q 3) (biasW q 4) (biasW q 5) (biasW q 6))
    (Gen.k0_pay37 (iota .tc S128x128 32 [1] Gen.iota_S128x128_d1_w32)) (biasW q 7)

end Cert.BKernelIdeal

end
-- ==== Proof.B.Ins.lean ====
module

public import proofs.«01_k».proof.Proof.B.Loops
public import proofs.«01_k».proof.Proof.B.Tiles
public import proofs.«01_k».proof.Proof.Gen.BKernelIdeal.Frame

@[expose] public section

set_option maxRecDepth 16384

noncomputable section

namespace Cert.BKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD)
  (arg1 : Memref sig .tc .vmem S256x3072 .bf16)
  (arg2 : Memref sig .tc .vmem S256x1024 .f32)
  (arg4 : Memref sig .tc .vmem S8x128x128 .bf16)
  (arg5 : Memref sig .tc .vmem S8x128x128 .bf16)
  (arg6 : Memref sig .tc .vmem S128x1024 .f32)
  (arg7 : Memref sig .tc .vmem S1x1024 .f32)
  (arg8 : Memref sig .tc .vmem S1x1024 .f32)
  (x1 : Vec F S256x3072 .bf16)
  (x2 : Vec F S256x1024 .f32)
  (x4 : Vec F S8x128x128 .bf16)
  (x5 : Vec F S8x128x128 .bf16)
  (x6 : Vec F S128x1024 .f32)
  (x7 : Vec F S1x1024 .f32)
  (x8 : Vec F S1x1024 .f32)

/-- The inputs' blocks, held. -/
def ins : sProp 𝕄 :=
  iprop(owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8)

end Cert.BKernelIdeal

end
-- ==== Proof.B.BodyA.lean ====
module

public import proofs.«01_k».proof.Proof.B.Ins

@[expose] public section

set_option maxRecDepth 16384

noncomputable section

namespace Cert.BKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg1 : Memref sig .tc .vmem S256x3072 .bf16) (harg1 : arg1.IsWhole) (arg2 : Memref sig .tc .vmem S256x1024 .f32) (harg2 : arg2.IsWhole)
  (arg3 : Memref sig .tc .hbm S4096x8192 .bf16) (harg3 : arg3.IsWhole) (arg4 : Memref sig .tc .vmem S8x128x128 .bf16) (harg4 : arg4.IsWhole)
  (arg5 : Memref sig .tc .vmem S8x128x128 .bf16) (harg5 : arg5.IsWhole) (arg6 : Memref sig .tc .vmem S128x1024 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S256x3072 .bf16) (harg9 : arg9.IsWhole) (arg10 : Memref sig .tc .vmem S8x1024 .f32) (harg10 : arg10.IsWhole)
  (arg11 : Memref sig .tc .vmem S128x128 .f32) (harg11 : arg11.IsWhole) (arg12 : Memref sig .tc .vmem S8x128x128 .f32) (harg12 : arg12.IsWhole)
  (arg13 : Memref sig .tc .vmem S256x1024 .bf16) (harg13 : arg13.IsWhole) (arg14 : Memref sig .tc .vmem S256x1024 .f32) (harg14 : arg14.IsWhole)
  (arg15 : Memref sig .tc .vmem S256x128 .f32) (harg15 : arg15.IsWhole) (arg16 : Memref sig .tc .vmem S256x1024 .f32) (harg16 : arg16.IsWhole)
  (arg17 : Memref sig .tc .vmem S256x1024 .bf16) (harg17 : arg17.IsWhole) (arg18 : Memref sig .tc .vmem S256x1024 .f32) (harg18 : arg18.IsWhole)
  (arg19 : Memref sig .tc .vmem S32x1024 .f32) (harg19 : arg19.IsWhole) (arg20 : Memref sig .tc .vmem S128x1024 .f32) (harg20 : arg20.IsWhole)
  (arg21 : Memref sig .tc .vmem S256x1024 .f32) (harg21 : arg21.IsWhole)
  (x1 : Vec F S256x3072 .bf16)
  (x2 : Vec F S256x1024 .f32)
  (x4 : Vec F S8x128x128 .bf16)
  (x5 : Vec F S8x128x128 .bf16)
  (x6 : Vec F S128x1024 .f32)
  (x7 : Vec F S1x1024 .f32)
  (x8 : Vec F S1x1024 .f32)

set_option maxHeartbeats 64000000 in
/-- The body at the first point. -/
theorem body_A (hc0 : k0_cond1 i = 1#1) (hc1 : ¬k0_cond2 i = 1#1) (E : Set ℕ) (K : PUnit → sProp 𝕄) :
    iprop(ins c arg1 arg2 arg4 arg5 arg6 arg7 arg8 x1 x2 x4 x5 x6 x7 x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(ins c arg1 arg2 arg4 arg5 arg6 arg7 arg8 x1 x2 x4 x5 x6 x7 x8 ∗ owns (c : Thread nD τ) arg9 fullShare (dpBlk x1 x2 (sBlk x4 (vbBlk x1 x7 x8) x6) x7 (n2Blk x1) (rsBlk x1) (dvBlk x5 (dsBlk x1 x2)) (dgBlk x1)) ∗ owns (c : Thread nD τ) arg10 fullShare Gen.k0_pay38 ∗ owns (c : Thread nD τ) arg11 fullShare Gen.k0_pay39 ∗ owns (c : Thread nD τ) arg12 fullShare (gwBlk (dsBlk x1 x2) (vbBlk x1 x7 x8) Gen.k0_pay41) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (acBlk (n2Blk x1) (dvBlk x5 (dsBlk x1 x2)) Gen.k0_pay42) ∗ owns (c : Thread nD τ) arg20 fullShare (gbBlk x1 x2 Gen.k0_pay40) ∗ (∃ d, owns (c : Thread nD τ) arg21 fullShare d)) -∗ K ⟨⟩))
      ⊢ wp frame (wpE (defs₀ (F := F)) Variants.none c none) E (cc0_branch_b_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [Gen.cc0_branch_b_bwd_eq_skeleton]; unfold Gen.cc0_branch_b_bwd_skel
  simp only [Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton, Gen.k0_part21_eq_skeleton, Gen.k0_part22_eq_skeleton]
  unfold ins owns
  iintro ⟨⟨⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, Hk⟩
  sl_exec (disch := first | sl_exact hc0 | sl_exact hc1)
  sl_step
  have hl1 := loop_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 _ hf1 f7 _ hf7 f8 _ hf8 f13 f14 f15 f21 (Scf.trips k0_t1_loop.lb k0_t1_loop.ub k0_t1_loop.st) (le_refl _)
  have h13 := hl1.1.trans (vb_all _ _ _ _)
  have h14 := hl1.2.1.trans (n2_all _ _)
  have h15 := hl1.2.2.1.trans (rs_all _ _)
  have h21 := hl1.2.2.2.trans (dg_all _ _)
  have h16 : arg16.view.read (Elt F) (arg16.view.writes (Elt F) arg16.view.junk (body_A.sl.H16_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f6 f7 f8 f13)) = sBlk x4 (vbBlk x1 x7 x8) x6 := by
    unfold body_A.sl.H16_16
    refine Eq.trans (b := Step.fold 16 (tileStep (fun ck h => Gen.k0_pay46 (headW x4 h) (tileW (vbBlk x1 x7 x8) ck h) (biasW x6 h))) (arg16.view.read (Elt F) arg16.view.junk) 16) ?_ (tiles_all _ _)
    refine tile_step 15 (by decide) ![128, 896] _ _ rfl ?_ ?_
    · try unfold body_A.sl.v156
      rw [readAt_head hf4 ![7, 0, 0] _ 7 rfl, readAt_tile h13 ![128, 896] _ 1 7 rfl, readAt_bias hf6 ![0, 896] _ 7 rfl]
      first | rfl | (try sl_unfold_words; rfl)
    refine tile_step 14 (by decide) ![128, 768] _ _ rfl ?_ ?_
    · try unfold body_A.sl.v146
      rw [readAt_head hf4 ![6, 0, 0] _ 6 rfl, readAt_tile h13 ![128, 768] _ 1 6 rfl, readAt_bias hf6 ![0, 768] _ 6 rfl]
      first | rfl | (try sl_unfold_words; rfl)
    refine tile_step 13 (by decide) ![128, 640] _ _ rfl ?_ ?_
    · try unfold body_A.sl.r_3
      try unfold body_A.sl.r_4
      try unfold body_A.sl.v136
      rw [readAt_head hf4 ![5, 0, 0] _ 5 rfl, readAt_tile h13 ![128, 640] _ 1 5 rfl, readAt_bias hf6 ![0, 640] _ 5 rfl]
      first | rfl | (try sl_unfold_words; rfl)
    refine tile_step 12 (by decide) ![128, 512] _ _ rfl ?_ ?_
    · try unfold body_A.sl.v126
      rw [readAt_head hf4 ![4, 0, 0] _ 4 rfl, readAt_tile h13 ![128, 512] _ 1 4 rfl, readAt_bias hf6 ![0, 512] _ 4 rfl]
      first | rfl | (try sl_unfold_words; rfl)
    refine tile_step 11 (by decide) ![128, 384] _ _ rfl ?_ ?_
    · try unfold body_A.sl.v116
      rw [readAt_head hf4 ![3, 0, 0] _ 3 rfl, readAt_tile h13 ![128, 384] _ 1 3 rfl, readAt_bias hf6 ![0, 384] _ 3 rfl]
      first | rfl | (try sl_unfold_words; rfl)
    refine tile_step 10 (by decide) ![128, 256] _ _ rfl ?_ ?_
    · try unfold body_A.sl.r_2
      try unfold body_A.sl.v106
      rw [readAt_head hf4 ![2, 0, 0] _ 2 rfl, readAt_tile h13 ![128, 256] _ 1 2 rfl, readAt_bias hf6 ![0, 256] _ 2 rfl]
      first | rfl | (try sl_unfold_words; rfl)
    refine tile_step 9 (by decide) ![128, 128] _ _ rfl ?_ ?_
    · try unfold body_A.sl.v96
      rw [readAt_head hf4 ![1, 0, 0] _ 1 rfl, readAt_tile h13 ![128, 128] _ 1 1 rfl, readAt_bias hf6 ![0, 128] _ 1 rfl]
      first | rfl | (try sl_unfold_words; rfl)
    refine tile_step 8 (by decide) ![128, 0] _ _ rfl ?_ ?_
    · try unfold body_A.sl.v86
      rw [readAt_head hf4 ![0, 0, 0] _ 0 rfl, readAt_tile h13 ![128, 0] _ 1 0 rfl, readAt_bias hf6 ![0, 0] _ 0 rfl]
      first | rfl | (try sl_unfold_words; rfl)
    refine tile_step 7 (by decide) ![0, 896] _ _ rfl ?_ ?_
    · try unfold body_A.sl.r_1
      try unfold body_A.sl.v76
      rw [readAt_head hf4 ![7, 0, 0] _ 7 rfl, readAt_tile h13 ![0, 896] _ 0 7 rfl, readAt_bias hf6 ![0, 896] _ 7 rfl]
      first | rfl | (try sl_unfold_words; rfl)
    refine tile_step 6 (by decide) ![0, 768] _ _ rfl ?_ ?_
    · try unfold body_A.sl.v66
      rw [readAt_head hf4 ![6, 0, 0] _ 6 rfl, readAt_tile h13 ![0, 768] _ 0 6 rfl, readAt_bias hf6 ![0, 768] _ 6 rfl]
      first | rfl | (try sl_unfold_words; rfl)
    refine tile_step 5 (by decide) ![0, 640] _ _ rfl ?_ ?_
    · try unfold body_A.sl.v56
      rw [readAt_head hf4 ![5, 0, 0] _ 5 rfl, readAt_tile h13 ![0, 640] _ 0 5 rfl, readAt_bias hf6 ![0, 640] _ 5 rfl]
      first | rfl | (try sl_unfold_words; rfl)
    refine tile_step 4 (by decide) ![0, 512] _ _ rfl ?_ ?_
    · try unfold body_A.sl.v46
      rw [readAt_head hf4 ![4, 0, 0] _ 4 rfl, readAt_tile h13 ![0, 512] _ 0 4 rfl, readAt_bias hf6 ![0, 512] _ 4 rfl]
      first | rfl | (try sl_unfold_words; rfl)
    refine tile_step 3 (by decide) ![0, 384] _ _ rfl ?_ ?_
    · try unfold body_A.sl.v36
      rw [readAt_head hf4 ![3, 0, 0] _ 3 rfl, readAt_tile h13 ![0, 384] _ 0 3 rfl, readAt_bias hf6 ![0, 384] _ 3 rfl]
      first | rfl | (try sl_unfold_words; rfl)
    refine tile_step 2 (by decide) ![0, 256] _ _ rfl ?_ ?_
    · try unfold body_A.sl.r
      try unfold body_A.sl.v26
      rw [readAt_head hf4 ![2, 0, 0] _ 2 rfl, readAt_tile h13 ![0, 256] _ 0 2 rfl, readAt_bias hf6 ![0, 256] _ 2 rfl]
      first | rfl | (try sl_unfold_words; rfl)
    refine tile_step 1 (by decide) ![0, 128] _ _ rfl ?_ ?_
    · try unfold body_A.sl.v16
      rw [readAt_head hf4 ![1, 0, 0] _ 1 rfl, readAt_tile h13 ![0, 128] _ 0 1 rfl, readAt_bias hf6 ![0, 128] _ 1 rfl]
      first | rfl | (try sl_unfold_words; rfl)
    refine tile_step 0 (by decide) ![0, 0] _ _ rfl ?_ ?_
    · try unfold body_A.sl.v6
      rw [readAt_head hf4 ![0, 0, 0] _ 0 rfl, readAt_tile h13 ![0, 0] _ 0 0 rfl, readAt_bias hf6 ![0, 0] _ 0 rfl]
      first | rfl | (try sl_unfold_words; rfl)
    rfl
  have hl2 := loop_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (body_A.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f7 f8 f13) (body_A.sl.r_4 c arg6 f6) f1 _ hf1 f2 _ hf2 (arg16.view.writes (Elt F) arg16.view.junk (body_A.sl.H16_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f6 f7 f8 f13)) _ h16 f9 f17 (arg20.view.writes (Elt F) arg20.view.junk body_A.sl.H20_1) (Scf.trips k0_t2_loop.lb k0_t2_loop.ub k0_t2_loop.st) (le_refl _)
  have h17 := hl2.2.1.trans (ds_all _ _ _)
  have h18 : arg18.view.read (Elt F) (arg18.view.writes (Elt F) arg18.view.junk (body_A.sl.H18_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f5 f6 f7 f8 f9 f13 f17)) = dvBlk x5 (dsBlk x1 x2) := by
    unfold body_A.sl.H18_16
    refine Eq.trans (b := Step.fold 16 (tileStep (fun ck h => Gen.k0_pay69 (tileW (dsBlk x1 x2) ck h) (headW x5 h))) (arg18.view.read (Elt F) arg18.view.junk) 16) ?_ (tiles_all _ _)
    refine tile_step 15 (by decide) ![128, 896] _ _ rfl ?_ ?_
    · try unfold body_A.sl.v390
      rw [readAt_tile h17 ![128, 896] _ 1 7 rfl, readAt_head hf5 ![7, 0, 0] _ 7 rfl]
      first | rfl | (try sl_unfold_words; rfl)
    refine tile_step 14 (by decide) ![128, 768] _ _ rfl ?_ ?_
    · try unfold body_A.sl.r_11
      try unfold body_A.sl.cst_334
      try unfold body_A.sl.v375
      rw [readAt_tile h17 ![128, 768] _ 1 6 rfl, readAt_head hf5 ![6, 0, 0] _ 6 rfl]
      first | rfl | (try sl_unfold_words; rfl)
    refine tile_step 13 (by decide) ![128, 640] _ _ rfl ?_ ?_
    · try unfold body_A.sl.v360
      rw [readAt_tile h17 ![128, 640] _ 1 5 rfl, readAt_head hf5 ![5, 0, 0] _ 5 rfl]
      first | rfl | (try sl_unfold_words; rfl)
    refine tile_step 12 (by decide) ![128, 512] _ _ rfl ?_ ?_
    · try unfold body_A.sl.v345
      rw [readAt_tile h17 ![128, 512] _ 1 4 rfl, readAt_head hf5 ![4, 0, 0] _ 4 rfl]
      first | rfl | (try sl_unfold_words; rfl)
    refine tile_step 11 (by decide) ![128, 384] _ _ rfl ?_ ?_
    · try unfold body_A.sl.v330
      rw [readAt_tile h17 ![128, 384] _ 1 3 rfl, readAt_head hf5 ![3, 0, 0] _ 3 rfl]
      first | rfl | (try sl_unfold_words; rfl)
    refine tile_step 10 (by decide) ![128, 256] _ _ rfl ?_ ?_
    · try unfold body_A.sl.v315
      rw [readAt_tile h17 ![128, 256] _ 1 2 rfl, readAt_head hf5 ![2, 0, 0] _ 2 rfl]
      first | rfl | (try sl_unfold_words; rfl)
    refine tile_step 9 (by decide) ![128, 128] _ _ rfl ?_ ?_
    · try unfold body_A.sl.v300
      rw [readAt_tile h17 ![128, 128] _ 1 1 rfl, readAt_head hf5 ![1, 0, 0] _ 1 rfl]
      first | rfl | (try sl_unfold_words; rfl)
    refine tile_step 8 (by decide) ![128, 0] _ _ rfl ?_ ?_
    · try unfold body_A.sl.v285
      rw [readAt_tile h17 ![128, 0] _ 1 0 rfl, readAt_head hf5 ![0, 0, 0] _ 0 rfl]
      first | rfl | (try sl_unfold_words; rfl)
    refine tile_step 7 (by decide) ![0, 896] _ _ rfl ?_ ?_
    · try unfold body_A.sl.r_8
      try unfold body_A.sl.v270
      rw [readAt_tile h17 ![0, 896] _ 0 7 rfl, readAt_head hf5 ![7, 0, 0] _ 7 rfl]
      first | rfl | (try sl_unfold_words; rfl)
    refine tile_step 6 (by decide) ![0, 768] _ _ rfl ?_ ?_
    · try unfold body_A.sl.v255
      rw [readAt_tile h17 ![0, 768] _ 0 6 rfl, readAt_head hf5 ![6, 0, 0] _ 6 rfl]
      first | rfl | (try sl_unfold_words; rfl)
    refine tile_step 5 (by decide) ![0, 640] _ _ rfl ?_ ?_
    · try unfold body_A.sl.r_7
      try unfold body_A.sl.v240
      rw [readAt_tile h17 ![0, 640] _ 0 5 rfl, readAt_head hf5 ![5, 0, 0] _ 5 rfl]
      first | rfl | (try sl_unfold_words; rfl)
    refine tile_step 4 (by decide) ![0, 512] _ _ rfl ?_ ?_
    · try unfold body_A.sl.v225
      rw [readAt_tile h17 ![0, 512] _ 0 4 rfl, readAt_head hf5 ![4, 0, 0] _ 4 rfl]
      first | rfl | (try sl_unfold_words; rfl)
    refine tile_step 3 (by decide) ![0, 384] _ _ rfl ?_ ?_
    · try unfold body_A.sl.v210
      rw [readAt_tile h17 ![0, 384] _ 0 3 rfl, readAt_head hf5 ![3, 0, 0] _ 3 rfl]
      first | rfl | (try sl_unfold_words; rfl)
    refine tile_step 2 (by decide) ![0, 256] _ _ rfl ?_ ?_
    · try unfold body_A.sl.v195
      rw [readAt_tile h17 ![0, 256] _ 0 2 rfl, readAt_head hf5 ![2, 0, 0] _ 2 rfl]
      first | rfl | (try sl_unfold_words; rfl)
    refine tile_step 1 (by decide) ![0, 128] _ _ rfl ?_ ?_
    · try unfold body_A.sl.v180
      rw [readAt_tile h17 ![0, 128] _ 0 1 rfl, readAt_head hf5 ![1, 0, 0] _ 1 rfl]
      first | rfl | (try sl_unfold_words; rfl)
    refine tile_step 0 (by decide) ![0, 0] _ _ rfl ?_ ?_
    · try unfold body_A.sl.v165
      rw [readAt_tile h17 ![0, 0] _ 0 0 rfl, readAt_head hf5 ![0, 0, 0] _ 0 rfl]
      first | rfl | (try sl_unfold_words; rfl)
    rfl
  have hl3 := loop_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (0#32) f7 _ hf7 _ _ h14 _ _ h15 (arg18.view.writes (Elt F) arg18.view.junk (body_A.sl.H18_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f5 f6 f7 f8 f9 f13 f17)) _ h18 _ _ h21 (arg9.view.writes (Elt F) f9 (Gen.pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (body_A.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f7 f8 f13) (body_A.sl.r_4 c arg6 f6) f1 f2 (arg16.view.writes (Elt F) arg16.view.junk (body_A.sl.H16_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f6 f7 f8 f13)) f9 f17 (arg20.view.writes (Elt F) arg20.view.junk body_A.sl.H20_1) (Scf.trips k0_t2_loop.lb k0_t2_loop.ub k0_t2_loop.st)).1) (arg19.view.writes (Elt F) arg19.view.junk body_A.sl.H19_1) (Scf.trips k0_t3_loop.lb k0_t3_loop.ub k0_t3_loop.st) (le_refl _)
  have g0 : GwInv arg12.view arg12.view.junk (body_A.sl.H12_1) (dsBlk x1 x2) (vbBlk x1 x7 x8) Gen.k0_pay41 0 8 := by
    unfold body_A.sl.H12_1
    exact gw_start_full _ _ _
  have g1 : GwInv arg12.view arg12.view.junk (body_A.sl.H12_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 1 8 := by
    unfold body_A.sl.H12_2
    refine gw_step 0 8 8 (by decide) (by decide) ![0, 0, 0] _ _ rfl ?_ g0
    · try unfold body_A.sl.v165
      try unfold body_A.sl.v172
      try unfold body_A.sl.v174
      rw [readAt_tile h17 ![0, 0] _ 0 0 rfl, gw_found g0 ![0, 0, 0] _ 0 rfl (by decide), readAt_tile h13 ![0, 0] _ 0 0 rfl]
      first | rfl | (try sl_unfold_words; rfl)
  have g2 : GwInv arg12.view arg12.view.junk (body_A.sl.H12_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 2 8 := by
    unfold body_A.sl.H12_3
    refine gw_step 1 8 8 (by decide) (by decide) ![1, 0, 0] _ _ rfl ?_ g1
    · try unfold body_A.sl.r_5
      try unfold body_A.sl.v180
      try unfold body_A.sl.v187
      try unfold body_A.sl.v189
      rw [readAt_tile h17 ![0, 128] _ 0 1 rfl, gw_found g1 ![1, 0, 0] _ 1 rfl (by decide), readAt_tile h13 ![0, 128] _ 0 1 rfl]
      first | rfl | (try sl_unfold_words; rfl)
  have g3 : GwInv arg12.view arg12.view.junk (body_A.sl.H12_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 3 8 := by
    unfold body_A.sl.H12_4
    refine gw_step 2 8 8 (by decide) (by decide) ![2, 0, 0] _ _ rfl ?_ g2
    · try unfold body_A.sl.v195
      try unfold body_A.sl.v202
      try unfold body_A.sl.v204
      rw [readAt_tile h17 ![0, 256] _ 0 2 rfl, gw_found g2 ![2, 0, 0] _ 2 rfl (by decide), readAt_tile h13 ![0, 256] _ 0 2 rfl]
      first | rfl | (try sl_unfold_words; rfl)
  have g4 : GwInv arg12.view arg12.view.junk (body_A.sl.H12_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 4 8 := by
    unfold body_A.sl.H12_5
    refine gw_step 3 8 8 (by decide) (by decide) ![3, 0, 0] _ _ rfl ?_ g3
    · try unfold body_A.sl.r_6
      try unfold body_A.sl.v210
      try unfold body_A.sl.v217
      try unfold body_A.sl.v219
      rw [readAt_tile h17 ![0, 384] _ 0 3 rfl, gw_found g3 ![3, 0, 0] _ 3 rfl (by decide), readAt_tile h13 ![0, 384] _ 0 3 rfl]
      first | rfl | (try sl_unfold_words; rfl)
  have g5 : GwInv arg12.view arg12.view.junk (body_A.sl.H12_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 5 8 := by
    unfold body_A.sl.H12_6
    refine gw_step 4 8 8 (by decide) (by decide) ![4, 0, 0] _ _ rfl ?_ g4
    · try unfold body_A.sl.v225
      try unfold body_A.sl.v232
      try unfold body_A.sl.v234
      rw [readAt_tile h17 ![0, 512] _ 0 4 rfl, gw_found g4 ![4, 0, 0] _ 4 rfl (by decide), readAt_tile h13 ![0, 512] _ 0 4 rfl]
      first | rfl | (try sl_unfold_words; rfl)
  have g6 : GwInv arg12.view arg12.view.junk (body_A.sl.H12_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 6 8 := by
    unfold body_A.sl.H12_7
    refine gw_step 5 8 8 (by decide) (by decide) ![5, 0, 0] _ _ rfl ?_ g5
    · try unfold body_A.sl.v240
      try unfold body_A.sl.v247
      try unfold body_A.sl.v249
      rw [readAt_tile h17 ![0, 640] _ 0 5 rfl, gw_found g5 ![5, 0, 0] _ 5 rfl (by decide), readAt_tile h13 ![0, 640] _ 0 5 rfl]
      first | rfl | (try sl_unfold_words; rfl)
  have g7 : GwInv arg12.view arg12.view.junk (body_A.sl.H12_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 7 8 := by
    unfold body_A.sl.H12_8
    refine gw_step 6 8 8 (by decide) (by decide) ![6, 0, 0] _ _ rfl ?_ g6
    · try unfold body_A.sl.v255
      try unfold body_A.sl.v262
      try unfold body_A.sl.v264
      rw [readAt_tile h17 ![0, 768] _ 0 6 rfl, gw_found g6 ![6, 0, 0] _ 6 rfl (by decide), readAt_tile h13 ![0, 768] _ 0 6 rfl]
      first | rfl | (try sl_unfold_words; rfl)
  have g8 : GwInv arg12.view arg12.view.junk (body_A.sl.H12_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 8 8 := by
    unfold body_A.sl.H12_9
    refine gw_step 7 8 8 (by decide) (by decide) ![7, 0, 0] _ _ rfl ?_ g7
    · try unfold body_A.sl.v270
      try unfold body_A.sl.v277
      try unfold body_A.sl.v279
      rw [readAt_tile h17 ![0, 896] _ 0 7 rfl, gw_found g7 ![7, 0, 0] _ 7 rfl (by decide), readAt_tile h13 ![0, 896] _ 0 7 rfl]
      first | rfl | (try sl_unfold_words; rfl)
  have g9 : GwInv arg12.view arg12.view.junk (body_A.sl.H12_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 9 8 := by
    unfold body_A.sl.H12_10
    refine gw_step 8 8 8 (by decide) (by decide) ![0, 0, 0] _ _ rfl ?_ g8
    · try unfold body_A.sl.r_9
      try unfold body_A.sl.v285
      try unfold body_A.sl.v292
      try unfold body_A.sl.v294
      rw [readAt_tile h17 ![128, 0] _ 1 0 rfl, gw_found g8 ![0, 0, 0] _ 0 rfl (by decide), readAt_tile h13 ![128, 0] _ 1 0 rfl]
      first | rfl | (try sl_unfold_words; rfl)
  have g10 : GwInv arg12.view arg12.view.junk (body_A.sl.H12_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 10 8 := by
    unfold body_A.sl.H12_11
    refine gw_step 9 8 8 (by decide) (by decide) ![1, 0, 0] _ _ rfl ?_ g9
    · try unfold body_A.sl.v300
      try unfold body_A.sl.v307
      try unfold body_A.sl.v309
      rw [readAt_tile h17 ![128, 128] _ 1 1 rfl, gw_found g9 ![1, 0, 0] _ 1 rfl (by decide), readAt_tile h13 ![128, 128] _ 1 1 rfl]
      first | rfl | (try sl_unfold_words; rfl)
  have g11 : GwInv arg12.view arg12.view.junk (body_A.sl.H12_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 11 8 := by
    unfold body_A.sl.H12_12
    refine gw_step 10 8 8 (by decide) (by decide) ![2, 0, 0] _ _ rfl ?_ g10
    · try unfold body_A.sl.r_10
      try unfold body_A.sl.cst_334
      try unfold body_A.sl.v315
      try unfold body_A.sl.v322
      try unfold body_A.sl.v324
      rw [readAt_tile h17 ![128, 256] _ 1 2 rfl, gw_found g10 ![2, 0, 0] _ 2 rfl (by decide), readAt_tile h13 ![128, 256] _ 1 2 rfl]
      first | rfl | (try sl_unfold_words; rfl)
  have g12 : GwInv arg12.view arg12.view.junk (body_A.sl.H12_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 12 8 := by
    unfold body_A.sl.H12_13
    refine gw_step 11 8 8 (by decide) (by decide) ![3, 0, 0] _ _ rfl ?_ g11
    · try unfold body_A.sl.cst_334
      try unfold body_A.sl.v330
      try unfold body_A.sl.v337
      try unfold body_A.sl.v339
      rw [readAt_tile h17 ![128, 384] _ 1 3 rfl, gw_found g11 ![3, 0, 0] _ 3 rfl (by decide), readAt_tile h13 ![128, 384] _ 1 3 rfl]
      first | rfl | (try sl_unfold_words; rfl)
  have g13 : GwInv arg12.view arg12.view.junk (body_A.sl.H12_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 13 8 := by
    unfold body_A.sl.H12_14
    refine gw_step 12 8 8 (by decide) (by decide) ![4, 0, 0] _ _ rfl ?_ g12
    · try unfold body_A.sl.v345
      try unfold body_A.sl.v352
      try unfold body_A.sl.v354
      rw [readAt_tile h17 ![128, 512] _ 1 4 rfl, gw_found g12 ![4, 0, 0] _ 4 rfl (by decide), readAt_tile h13 ![128, 512] _ 1 4 rfl]
      first | rfl | (try sl_unfold_words; rfl)
  have g14 : GwInv arg12.view arg12.view.junk (body_A.sl.H12_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 14 8 := by
    unfold body_A.sl.H12_15
    refine gw_step 13 8 8 (by decide) (by decide) ![5, 0, 0] _ _ rfl ?_ g13
    · try unfold body_A.sl.v360
      try unfold body_A.sl.v367
      try unfold body_A.sl.v369
      rw [readAt_tile h17 ![128, 640] _ 1 5 rfl, gw_found g13 ![5, 0, 0] _ 5 rfl (by decide), readAt_tile h13 ![128, 640] _ 1 5 rfl]
      first | rfl | (try sl_unfold_words; rfl)
  have g15 : GwInv arg12.view arg12.view.junk (body_A.sl.H12_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f13 f17) (dsBlk x1 x2) (vbBlk x1 x7 x8) Gen.k0_pay41 15 8 := by
    unfold body_A.sl.H12_16
    refine gw_step 14 8 8 (by decide) (by decide) ![6, 0, 0] _ _ rfl ?_ g14
    · try unfold body_A.sl.v375
      try unfold body_A.sl.v382
      try unfold body_A.sl.v384
      rw [readAt_tile h17 ![128, 768] _ 1 6 rfl, gw_found g14 ![6, 0, 0] _ 6 rfl (by decide), readAt_tile h13 ![128, 768] _ 1 6 rfl]
      first | rfl | (try sl_unfold_words; rfl)
  iapply Hk
  isplitl [H1 H2 H4 H5 H6 H7 H8]
  · isplitl [H1]
    · iexists _; isplitr; swap; · iexact H1
      ipureintro; exact hf1
    isplitl [H2]
    · iexists _; isplitr; swap; · iexact H2
      ipureintro; exact hf2
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    iexists _; isplitr; swap; · iexact H8
    ipureintro; exact hf8
  isplitl [H9]
  · iexists _; isplitr; swap; · iexact H9
    ipureintro
    rw [View.writes_append, hl3.1, hl2.1]; exact dp_all _ _ _ _ _ _ _ _ _
  isplitl [H10]
  · iexists _; isplitr; swap; · iexact H10
    ipureintro
    unfold body_A.sl.H10_1; exact View.read_writes_full _ _ _ _ _
  isplitl [H11]
  · iexists _; isplitr; swap; · iexact H11
    ipureintro
    unfold body_A.sl.H11_1; exact View.read_writes_full _ _ _ _ _
  isplitl [H12]
  · iexists _; isplitr; swap; · iexact H12
    ipureintro
    refine gw_end (x := Gen.k0_pay41) (ds := (dsBlk x1 x2)) (vb := (vbBlk x1 x7 x8)) (f := arg12.view.junk) ?_
    refine gw_step 15 8 8 (by decide) (by decide) ![7, 0, 0] _ _ rfl ?_ g15
    · try unfold body_A.sl.v390
      try unfold body_A.sl.v397
      try unfold body_A.sl.v399
      rw [readAt_tile h17 ![128, 896] _ 1 7 rfl, gw_found g15 ![7, 0, 0] _ 7 rfl (by decide), readAt_tile h13 ![128, 896] _ 1 7 rfl]
      first | rfl | (try sl_unfold_words; rfl)
  isplitl [H13]
  · iexists _, _; isplitr; swap; · iexact H13
    ipureintro
    rfl
  isplitl [H14]
  · iexists _, _; isplitr; swap; · iexact H14
    ipureintro
    rfl
  isplitl [H15]
  · iexists _, _; isplitr; swap; · iexact H15
    ipureintro
    rfl
  isplitl [H16]
  · iexists _, _; isplitr; swap; · iexact H16
    ipureintro
    rfl
  isplitl [H17]
  · iexists _, _; isplitr; swap; · iexact H17
    ipureintro
    rfl
  isplitl [H18]
  · iexists _, _; isplitr; swap; · iexact H18
    ipureintro
    rfl
  isplitl [H19]
  · iexists _; isplitr; swap; · iexact H19
    ipureintro
    rw [View.writes_append, hl3.2]; unfold body_A.sl.H19_1; rw [View.read_writes_full]; rfl
  isplitl [H20]
  · iexists _; isplitr; swap; · iexact H20
    ipureintro
    rw [View.writes_append, hl2.2.2]; unfold body_A.sl.H20_1; rw [View.read_writes_full]; rfl
  iexists _, _; isplitr; swap; · iexact H21
  ipureintro
  rfl

end Cert.BKernelIdeal

end
-- ==== Proof.B.BodyB.lean ====
module

public import proofs.«01_k».proof.Proof.B.Ins

@[expose] public section

set_option maxRecDepth 16384

noncomputable section

namespace Cert.BKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg1 : Memref sig .tc .vmem S256x3072 .bf16) (harg1 : arg1.IsWhole) (arg2 : Memref sig .tc .vmem S256x1024 .f32) (harg2 : arg2.IsWhole)
  (arg3 : Memref sig .tc .hbm S4096x8192 .bf16) (harg3 : arg3.IsWhole) (arg4 : Memref sig .tc .vmem S8x128x128 .bf16) (harg4 : arg4.IsWhole)
  (arg5 : Memref sig .tc .vmem S8x128x128 .bf16) (harg5 : arg5.IsWhole) (arg6 : Memref sig .tc .vmem S128x1024 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S256x3072 .bf16) (harg9 : arg9.IsWhole) (arg10 : Memref sig .tc .vmem S8x1024 .f32) (harg10 : arg10.IsWhole)
  (arg11 : Memref sig .tc .vmem S128x128 .f32) (harg11 : arg11.IsWhole) (arg12 : Memref sig .tc .vmem S8x128x128 .f32) (harg12 : arg12.IsWhole)
  (arg13 : Memref sig .tc .vmem S256x1024 .bf16) (harg13 : arg13.IsWhole) (arg14 : Memref sig .tc .vmem S256x1024 .f32) (harg14 : arg14.IsWhole)
  (arg15 : Memref sig .tc .vmem S256x128 .f32) (harg15 : arg15.IsWhole) (arg16 : Memref sig .tc .vmem S256x1024 .f32) (harg16 : arg16.IsWhole)
  (arg17 : Memref sig .tc .vmem S256x1024 .bf16) (harg17 : arg17.IsWhole) (arg18 : Memref sig .tc .vmem S256x1024 .f32) (harg18 : arg18.IsWhole)
  (arg19 : Memref sig .tc .vmem S32x1024 .f32) (harg19 : arg19.IsWhole) (arg20 : Memref sig .tc .vmem S128x1024 .f32) (harg20 : arg20.IsWhole)
  (arg21 : Memref sig .tc .vmem S256x1024 .f32) (harg21 : arg21.IsWhole)
  (x1 : Vec F S256x3072 .bf16)
  (x2 : Vec F S256x1024 .f32)
  (x4 : Vec F S8x128x128 .bf16)
  (x5 : Vec F S8x128x128 .bf16)
  (x6 : Vec F S128x1024 .f32)
  (x7 : Vec F S1x1024 .f32)
  (x8 : Vec F S1x1024 .f32)

set_option maxHeartbeats 64000000 in
/-- The body at a point between. -/
theorem body_B (hc0 : ¬k0_cond1 i = 1#1) (hc1 : ¬k0_cond2 i = 1#1) (s : Vec F S8x1024 .f32) (t : Vec F S128x128 .f32) (w : Vec F S8x128x128 .f32) (a : Vec F S32x1024 .f32) (q : Vec F S128x1024 .f32) (E : Set ℕ) (K : PUnit → sProp 𝕄) :
    iprop(ins c arg1 arg2 arg4 arg5 arg6 arg7 arg8 x1 x2 x4 x5 x6 x7 x8 ∗ (∃ d, owns (c : Thread nD τ) arg9 fullShare d) ∗ owns (c : Thread nD τ) arg10 fullShare s ∗ owns (c : Thread nD τ) arg11 fullShare t ∗ owns (c : Thread nD τ) arg12 fullShare w ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare a ∗ owns (c : Thread nD τ) arg20 fullShare q ∗ (∃ d, owns (c : Thread nD τ) arg21 fullShare d)
        ∗ (iprop(ins c arg1 arg2 arg4 arg5 arg6 arg7 arg8 x1 x2 x4 x5 x6 x7 x8 ∗ owns (c : Thread nD τ) arg9 fullShare (dpBlk x1 x2 (sBlk x4 (vbBlk x1 x7 x8) x6) x7 (n2Blk x1) (rsBlk x1) (dvBlk x5 (dsBlk x1 x2)) (dgBlk x1)) ∗ owns (c : Thread nD τ) arg10 fullShare s ∗ owns (c : Thread nD τ) arg11 fullShare t ∗ owns (c : Thread nD τ) arg12 fullShare (gwBlk (dsBlk x1 x2) (vbBlk x1 x7 x8) w) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (acBlk (n2Blk x1) (dvBlk x5 (dsBlk x1 x2)) a) ∗ owns (c : Thread nD τ) arg20 fullShare (gbBlk x1 x2 q) ∗ (∃ d, owns (c : Thread nD τ) arg21 fullShare d)) -∗ K ⟨⟩))
      ⊢ wp frame (wpE (defs₀ (F := F)) Variants.none c none) E (cc0_branch_b_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [Gen.cc0_branch_b_bwd_eq_skeleton]; unfold Gen.cc0_branch_b_bwd_skel
  simp only [Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton, Gen.k0_part21_eq_skeleton, Gen.k0_part22_eq_skeleton]
  unfold ins owns
  iintro ⟨⟨⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩⟩, ⟨%d9, %f9, %hf9, H9⟩, ⟨%f10, %hf10, H10⟩, ⟨%f11, %hf11, H11⟩, ⟨%f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%f19, %hf19, H19⟩, ⟨%f20, %hf20, H20⟩, ⟨%d21, %f21, %hf21, H21⟩, Hk⟩
  sl_exec (disch := first | sl_exact hc0 | sl_exact hc1)
  sl_step
  have hl1 := loop_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 _ hf1 f7 _ hf7 f8 _ hf8 f13 f14 f15 f21 (Scf.trips k0_t1_loop.lb k0_t1_loop.ub k0_t1_loop.st) (le_refl _)
  have h13 := hl1.1.trans (vb_all _ _ _ _)
  have h14 := hl1.2.1.trans (n2_all _ _)
  have h15 := hl1.2.2.1.trans (rs_all _ _)
  have h21 := hl1.2.2.2.trans (dg_all _ _)
  have h16 : arg16.view.read (Elt F) (arg16.view.writes (Elt F) arg16.view.junk (body_B.sl.H16_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f6 f7 f8 f13)) = sBlk x4 (vbBlk x1 x7 x8) x6 := by
    unfold body_B.sl.H16_16
    refine Eq.trans (b := Step.fold 16 (tileStep (fun ck h => Gen.k0_pay46 (headW x4 h) (tileW (vbBlk x1 x7 x8) ck h) (biasW x6 h))) (arg16.view.read (Elt F) arg16.view.junk) 16) ?_ (tiles_all _ _)
    refine tile_step 15 (by decide) ![128, 896] _ _ rfl ?_ ?_
    · try unfold body_B.sl.v156
      rw [readAt_head hf4 ![7, 0, 0] _ 7 rfl, readAt_tile h13 ![128, 896] _ 1 7 rfl, readAt_bias hf6 ![0, 896] _ 7 rfl]
      first | rfl | (try sl_unfold_words; rfl)
    refine tile_step 14 (by decide) ![128, 768] _ _ rfl ?_ ?_
    · try unfold body_B.sl.v146
      rw [readAt_head hf4 ![6, 0, 0] _ 6 rfl, readAt_tile h13 ![128, 768] _ 1 6 rfl, readAt_bias hf6 ![0, 768] _ 6 rfl]
      first | rfl | (try sl_unfold_words; rfl)
    refine tile_step 13 (by decide) ![128, 640] _ _ rfl ?_ ?_
    · try unfold body_B.sl.r_3
      try unfold body_B.sl.r_4
      try unfold body_B.sl.v136
      rw [readAt_head hf4 ![5, 0, 0] _ 5 rfl, readAt_tile h13 ![128, 640] _ 1 5 rfl, readAt_bias hf6 ![0, 640] _ 5 rfl]
      first | rfl | (try sl_unfold_words; rfl)
    refine tile_step 12 (by decide) ![128, 512] _ _ rfl ?_ ?_
    · try unfold body_B.sl.v126
      rw [readAt_head hf4 ![4, 0, 0] _ 4 rfl, readAt_tile h13 ![128, 512] _ 1 4 rfl, readAt_bias hf6 ![0, 512] _ 4 rfl]
      first | rfl | (try sl_unfold_words; rfl)
    refine tile_step 11 (by decide) ![128, 384] _ _ rfl ?_ ?_
    · try unfold body_B.sl.v116
      rw [readAt_head hf4 ![3, 0, 0] _ 3 rfl, readAt_tile h13 ![128, 384] _ 1 3 rfl, readAt_bias hf6 ![0, 384] _ 3 rfl]
      first | rfl | (try sl_unfold_words; rfl)
    refine tile_step 10 (by decide) ![128, 256] _ _ rfl ?_ ?_
    · try unfold body_B.sl.r_2
      try unfold body_B.sl.v106
      rw [readAt_head hf4 ![2, 0, 0] _ 2 rfl, readAt_tile h13 ![128, 256] _ 1 2 rfl, readAt_bias hf6 ![0, 256] _ 2 rfl]
      first | rfl | (try sl_unfold_words; rfl)
    refine tile_step 9 (by decide) ![128, 128] _ _ rfl ?_ ?_
    · try unfold body_B.sl.v96
      rw [readAt_head hf4 ![1, 0, 0] _ 1 rfl, readAt_tile h13 ![128, 128] _ 1 1 rfl, readAt_bias hf6 ![0, 128] _ 1 rfl]
      first | rfl | (try sl_unfold_words; rfl)
    refine tile_step 8 (by decide) ![128, 0] _ _ rfl ?_ ?_
    · try unfold body_B.sl.v86
      rw [readAt_head hf4 ![0, 0, 0] _ 0 rfl, readAt_tile h13 ![128, 0] _ 1 0 rfl, readAt_bias hf6 ![0, 0] _ 0 rfl]
      first | rfl | (try sl_unfold_words; rfl)
    refine tile_step 7 (by decide) ![0, 896] _ _ rfl ?_ ?_
    · try unfold body_B.sl.r_1
      try unfold body_B.sl.v76
      rw [readAt_head hf4 ![7, 0, 0] _ 7 rfl, readAt_tile h13 ![0, 896] _ 0 7 rfl, readAt_bias hf6 ![0, 896] _ 7 rfl]
      first | rfl | (try sl_unfold_words; rfl)
    refine tile_step 6 (by decide) ![0, 768] _ _ rfl ?_ ?_
    · try unfold body_B.sl.v66
      rw [readAt_head hf4 ![6, 0, 0] _ 6 rfl, readAt_tile h13 ![0, 768] _ 0 6 rfl, readAt_bias hf6 ![0, 768] _ 6 rfl]
      first | rfl | (try sl_unfold_words; rfl)
    refine tile_step 5 (by decide) ![0, 640] _ _ rfl ?_ ?_
    · try unfold body_B.sl.v56
      rw [readAt_head hf4 ![5, 0, 0] _ 5 rfl, readAt_tile h13 ![0, 640] _ 0 5 rfl, readAt_bias hf6 ![0, 640] _ 5 rfl]
      first | rfl | (try sl_unfold_words; rfl)
    refine tile_step 4 (by decide) ![0, 512] _ _ rfl ?_ ?_
    · try unfold body_B.sl.v46
      rw [readAt_head hf4 ![4, 0, 0] _ 4 rfl, readAt_tile h13 ![0, 512] _ 0 4 rfl, readAt_bias hf6 ![0, 512] _ 4 rfl]
      first | rfl | (try sl_unfold_words; rfl)
    refine tile_step 3 (by decide) ![0, 384] _ _ rfl ?_ ?_
    · try unfold body_B.sl.v36
      rw [readAt_head hf4 ![3, 0, 0] _ 3 rfl, readAt_tile h13 ![0, 384] _ 0 3 rfl, readAt_bias hf6 ![0, 384] _ 3 rfl]
      first | rfl | (try sl_unfold_words; rfl)
    refine tile_step 2 (by decide) ![0, 256] _ _ rfl ?_ ?_
    · try unfold body_B.sl.r
      try unfold body_B.sl.v26
      rw [readAt_head hf4 ![2, 0, 0] _ 2 rfl, readAt_tile h13 ![0, 256] _ 0 2 rfl, readAt_bias hf6 ![0, 256] _ 2 rfl]
      first | rfl | (try sl_unfold_words; rfl)
    refine tile_step 1 (by decide) ![0, 128] _ _ rfl ?_ ?_
    · try unfold body_B.sl.v16
      rw [readAt_head hf4 ![1, 0, 0] _ 1 rfl, readAt_tile h13 ![0, 128] _ 0 1 rfl, readAt_bias hf6 ![0, 128] _ 1 rfl]
      first | rfl | (try sl_unfold_words; rfl)
    refine tile_step 0 (by decide) ![0, 0] _ _ rfl ?_ ?_
    · try unfold body_B.sl.v6
      rw [readAt_head hf4 ![0, 0, 0] _ 0 rfl, readAt_tile h13 ![0, 0] _ 0 0 rfl, readAt_bias hf6 ![0, 0] _ 0 rfl]
      first | rfl | (try sl_unfold_words; rfl)
    rfl
  have hl2 := loop_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (body_B.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f7 f8 f13) (body_B.sl.r_4 c arg6 f6) f1 _ hf1 f2 _ hf2 (arg16.view.writes (Elt F) arg16.view.junk (body_B.sl.H16_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f6 f7 f8 f13)) _ h16 f9 f17 f20 (Scf.trips k0_t2_loop.lb k0_t2_loop.ub k0_t2_loop.st) (le_refl _)
  have h17 := hl2.2.1.trans (ds_all _ _ _)
  have h18 : arg18.view.read (Elt F) (arg18.view.writes (Elt F) arg18.view.junk (body_B.sl.H18_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f5 f6 f7 f8 f9 f13 f17 f20)) = dvBlk x5 (dsBlk x1 x2) := by
    unfold body_B.sl.H18_16
    refine Eq.trans (b := Step.fold 16 (tileStep (fun ck h => Gen.k0_pay69 (tileW (dsBlk x1 x2) ck h) (headW x5 h))) (arg18.view.read (Elt F) arg18.view.junk) 16) ?_ (tiles_all _ _)
    refine tile_step 15 (by decide) ![128, 896] _ _ rfl ?_ ?_
    · try unfold body_B.sl.v390
      rw [readAt_tile h17 ![128, 896] _ 1 7 rfl, readAt_head hf5 ![7, 0, 0] _ 7 rfl]
      first | rfl | (try sl_unfold_words; rfl)
    refine tile_step 14 (by decide) ![128, 768] _ _ rfl ?_ ?_
    · try unfold body_B.sl.r_11
      try unfold body_B.sl.cst_334
      try unfold body_B.sl.v375
      rw [readAt_tile h17 ![128, 768] _ 1 6 rfl, readAt_head hf5 ![6, 0, 0] _ 6 rfl]
      first | rfl | (try sl_unfold_words; rfl)
    refine tile_step 13 (by decide) ![128, 640] _ _ rfl ?_ ?_
    · try unfold body_B.sl.v360
      rw [readAt_tile h17 ![128, 640] _ 1 5 rfl, readAt_head hf5 ![5, 0, 0] _ 5 rfl]
      first | rfl | (try sl_unfold_words; rfl)
    refine tile_step 12 (by decide) ![128, 512] _ _ rfl ?_ ?_
    · try unfold body_B.sl.v345
      rw [readAt_tile h17 ![128, 512] _ 1 4 rfl, readAt_head hf5 ![4, 0, 0] _ 4 rfl]
      first | rfl | (try sl_unfold_words; rfl)
    refine tile_step 11 (by decide) ![128, 384] _ _ rfl ?_ ?_
    · try unfold body_B.sl.v330
      rw [readAt_tile h17 ![128, 384] _ 1 3 rfl, readAt_head hf5 ![3, 0, 0] _ 3 rfl]
      first | rfl | (try sl_unfold_words; rfl)
    refine tile_step 10 (by decide) ![128, 256] _ _ rfl ?_ ?_
    · try unfold body_B.sl.v315
      rw [readAt_tile h17 ![128, 256] _ 1 2 rfl, readAt_head hf5 ![2, 0, 0] _ 2 rfl]
      first | rfl | (try sl_unfold_words; rfl)
    refine tile_step 9 (by decide) ![128, 128] _ _ rfl ?_ ?_
    · try unfold body_B.sl.v300
      rw [readAt_tile h17 ![128, 128] _ 1 1 rfl, readAt_head hf5 ![1, 0, 0] _ 1 rfl]
      first | rfl | (try sl_unfold_words; rfl)
    refine tile_step 8 (by decide) ![128, 0] _ _ rfl ?_ ?_
    · try unfold body_B.sl.v285
      rw [readAt_tile h17 ![128, 0] _ 1 0 rfl, readAt_head hf5 ![0, 0, 0] _ 0 rfl]
      first | rfl | (try sl_unfold_words; rfl)
    refine tile_step 7 (by decide) ![0, 896] _ _ rfl ?_ ?_
    · try unfold body_B.sl.r_8
      try unfold body_B.sl.v270
      rw [readAt_tile h17 ![0, 896] _ 0 7 rfl, readAt_head hf5 ![7, 0, 0] _ 7 rfl]
      first | rfl | (try sl_unfold_words; rfl)
    refine tile_step 6 (by decide) ![0, 768] _ _ rfl ?_ ?_
    · try unfold body_B.sl.v255
      rw [readAt_tile h17 ![0, 768] _ 0 6 rfl, readAt_head hf5 ![6, 0, 0] _ 6 rfl]
      first | rfl | (try sl_unfold_words; rfl)
    refine tile_step 5 (by decide) ![0, 640] _ _ rfl ?_ ?_
    · try unfold body_B.sl.r_7
      try unfold body_B.sl.v240
      rw [readAt_tile h17 ![0, 640] _ 0 5 rfl, readAt_head hf5 ![5, 0, 0] _ 5 rfl]
      first | rfl | (try sl_unfold_words; rfl)
    refine tile_step 4 (by decide) ![0, 512] _ _ rfl ?_ ?_
    · try unfold body_B.sl.v225
      rw [readAt_tile h17 ![0, 512] _ 0 4 rfl, readAt_head hf5 ![4, 0, 0] _ 4 rfl]
      first | rfl | (try sl_unfold_words; rfl)
    refine tile_step 3 (by decide) ![0, 384] _ _ rfl ?_ ?_
    · try unfold body_B.sl.v210
      rw [readAt_tile h17 ![0, 384] _ 0 3 rfl, readAt_head hf5 ![3, 0, 0] _ 3 rfl]
      first | rfl | (try sl_unfold_words; rfl)
    refine tile_step 2 (by decide) ![0, 256] _ _ rfl ?_ ?_
    · try unfold body_B.sl.v195
      rw [readAt_tile h17 ![0, 256] _ 0 2 rfl, readAt_head hf5 ![2, 0, 0] _ 2 rfl]
      first | rfl | (try sl_unfold_words; rfl)
    refine tile_step 1 (by decide) ![0, 128] _ _ rfl ?_ ?_
    · try unfold body_B.sl.v180
      rw [readAt_tile h17 ![0, 128] _ 0 1 rfl, readAt_head hf5 ![1, 0, 0] _ 1 rfl]
      first | rfl | (try sl_unfold_words; rfl)
    refine tile_step 0 (by decide) ![0, 0] _ _ rfl ?_ ?_
    · try unfold body_B.sl.v165
      rw [readAt_tile h17 ![0, 0] _ 0 0 rfl, readAt_head hf5 ![0, 0, 0] _ 0 rfl]
      first | rfl | (try sl_unfold_words; rfl)
    rfl
  have hl3 := loop_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (0#32) f7 _ hf7 _ _ h14 _ _ h15 (arg18.view.writes (Elt F) arg18.view.junk (body_B.sl.H18_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f5 f6 f7 f8 f9 f13 f17 f20)) _ h18 _ _ h21 (arg9.view.writes (Elt F) f9 (Gen.pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (body_B.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f7 f8 f13) (body_B.sl.r_4 c arg6 f6) f1 f2 (arg16.view.writes (Elt F) arg16.view.junk (body_B.sl.H16_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f6 f7 f8 f13)) f9 f17 f20 (Scf.trips k0_t2_loop.lb k0_t2_loop.ub k0_t2_loop.st)).1) f19 (Scf.trips k0_t3_loop.lb k0_t3_loop.ub k0_t3_loop.st) (le_refl _)
  have g8 : GwInv arg12.view f12 (body_B.sl.H12_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 8 8 := by
    unfold body_B.sl.H12_8
    refine gw_step 7 7 8 (by decide) (by decide) ![7, 0, 0] _ _ rfl ?_ ?_
    · try unfold body_B.sl.v270
      try unfold body_B.sl.v277
      try unfold body_B.sl.v279
      rw [readAt_tile h17 ![0, 896] _ 0 7 rfl, gw_found0 (dsBlk x1 x2) (vbBlk x1 x7 x8) hf12 ![7, 0, 0] _ 7 7 rfl (by decide), readAt_tile h13 ![0, 896] _ 0 7 rfl]
      first | rfl | (try sl_unfold_words; rfl)
    refine gw_step 6 6 7 (by decide) (by decide) ![6, 0, 0] _ _ rfl ?_ ?_
    · try unfold body_B.sl.v255
      try unfold body_B.sl.v262
      try unfold body_B.sl.v264
      rw [readAt_tile h17 ![0, 768] _ 0 6 rfl, gw_found0 (dsBlk x1 x2) (vbBlk x1 x7 x8) hf12 ![6, 0, 0] _ 6 6 rfl (by decide), readAt_tile h13 ![0, 768] _ 0 6 rfl]
      first | rfl | (try sl_unfold_words; rfl)
    refine gw_step 5 5 6 (by decide) (by decide) ![5, 0, 0] _ _ rfl ?_ ?_
    · try unfold body_B.sl.v240
      try unfold body_B.sl.v247
      try unfold body_B.sl.v249
      rw [readAt_tile h17 ![0, 640] _ 0 5 rfl, gw_found0 (dsBlk x1 x2) (vbBlk x1 x7 x8) hf12 ![5, 0, 0] _ 5 5 rfl (by decide), readAt_tile h13 ![0, 640] _ 0 5 rfl]
      first | rfl | (try sl_unfold_words; rfl)
    refine gw_step 4 4 5 (by decide) (by decide) ![4, 0, 0] _ _ rfl ?_ ?_
    · try unfold body_B.sl.v225
      try unfold body_B.sl.v232
      try unfold body_B.sl.v234
      rw [readAt_tile h17 ![0, 512] _ 0 4 rfl, gw_found0 (dsBlk x1 x2) (vbBlk x1 x7 x8) hf12 ![4, 0, 0] _ 4 4 rfl (by decide), readAt_tile h13 ![0, 512] _ 0 4 rfl]
      first | rfl | (try sl_unfold_words; rfl)
    refine gw_step 3 3 4 (by decide) (by decide) ![3, 0, 0] _ _ rfl ?_ ?_
    · try unfold body_B.sl.r_6
      try unfold body_B.sl.v210
      try unfold body_B.sl.v217
      try unfold body_B.sl.v219
      rw [readAt_tile h17 ![0, 384] _ 0 3 rfl, gw_found0 (dsBlk x1 x2) (vbBlk x1 x7 x8) hf12 ![3, 0, 0] _ 3 3 rfl (by decide), readAt_tile h13 ![0, 384] _ 0 3 rfl]
      first | rfl | (try sl_unfold_words; rfl)
    refine gw_step 2 2 3 (by decide) (by decide) ![2, 0, 0] _ _ rfl ?_ ?_
    · try unfold body_B.sl.v195
      try unfold body_B.sl.v202
      try unfold body_B.sl.v204
      rw [readAt_tile h17 ![0, 256] _ 0 2 rfl, gw_found0 (dsBlk x1 x2) (vbBlk x1 x7 x8) hf12 ![2, 0, 0] _ 2 2 rfl (by decide), readAt_tile h13 ![0, 256] _ 0 2 rfl]
      first | rfl | (try sl_unfold_words; rfl)
    refine gw_step 1 1 2 (by decide) (by decide) ![1, 0, 0] _ _ rfl ?_ ?_
    · try unfold body_B.sl.r_5
      try unfold body_B.sl.v180
      try unfold body_B.sl.v187
      try unfold body_B.sl.v189
      rw [readAt_tile h17 ![0, 128] _ 0 1 rfl, gw_found0 (dsBlk x1 x2) (vbBlk x1 x7 x8) hf12 ![1, 0, 0] _ 1 1 rfl (by decide), readAt_tile h13 ![0, 128] _ 0 1 rfl]
      first | rfl | (try sl_unfold_words; rfl)
    refine gw_step 0 0 1 (by decide) (by decide) ![0, 0, 0] _ _ rfl ?_ ?_
    · try unfold body_B.sl.v165
      try unfold body_B.sl.v172
      try unfold body_B.sl.v174
      rw [readAt_tile h17 ![0, 0] _ 0 0 rfl, gw_found0 (dsBlk x1 x2) (vbBlk x1 x7 x8) hf12 ![0, 0, 0] _ 0 0 rfl (by decide), readAt_tile h13 ![0, 0] _ 0 0 rfl]
      first | rfl | (try sl_unfold_words; rfl)
    exact gw_start hf12
  have g9 : GwInv arg12.view f12 (body_B.sl.H12_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 9 8 := by
    unfold body_B.sl.H12_9
    refine gw_step 8 8 8 (by decide) (by decide) ![0, 0, 0] _ _ rfl ?_ g8
    · try unfold body_B.sl.r_9
      try unfold body_B.sl.v285
      try unfold body_B.sl.v292
      try unfold body_B.sl.v294
      rw [readAt_tile h17 ![128, 0] _ 1 0 rfl, gw_found g8 ![0, 0, 0] _ 0 rfl (by decide), readAt_tile h13 ![128, 0] _ 1 0 rfl]
      first | rfl | (try sl_unfold_words; rfl)
  have g10 : GwInv arg12.view f12 (body_B.sl.H12_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 10 8 := by
    unfold body_B.sl.H12_10
    refine gw_step 9 8 8 (by decide) (by decide) ![1, 0, 0] _ _ rfl ?_ g9
    · try unfold body_B.sl.v300
      try unfold body_B.sl.v307
      try unfold body_B.sl.v309
      rw [readAt_tile h17 ![128, 128] _ 1 1 rfl, gw_found g9 ![1, 0, 0] _ 1 rfl (by decide), readAt_tile h13 ![128, 128] _ 1 1 rfl]
      first | rfl | (try sl_unfold_words; rfl)
  have g11 : GwInv arg12.view f12 (body_B.sl.H12_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 11 8 := by
    unfold body_B.sl.H12_11
    refine gw_step 10 8 8 (by decide) (by decide) ![2, 0, 0] _ _ rfl ?_ g10
    · try unfold body_B.sl.r_10
      try unfold body_B.sl.cst_334
      try unfold body_B.sl.v315
      try unfold body_B.sl.v322
      try unfold body_B.sl.v324
      rw [readAt_tile h17 ![128, 256] _ 1 2 rfl, gw_found g10 ![2, 0, 0] _ 2 rfl (by decide), readAt_tile h13 ![128, 256] _ 1 2 rfl]
      first | rfl | (try sl_unfold_words; rfl)
  have g12 : GwInv arg12.view f12 (body_B.sl.H12_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 12 8 := by
    unfold body_B.sl.H12_12
    refine gw_step 11 8 8 (by decide) (by decide) ![3, 0, 0] _ _ rfl ?_ g11
    · try unfold body_B.sl.cst_334
      try unfold body_B.sl.v330
      try unfold body_B.sl.v337
      try unfold body_B.sl.v339
      rw [readAt_tile h17 ![128, 384] _ 1 3 rfl, gw_found g11 ![3, 0, 0] _ 3 rfl (by decide), readAt_tile h13 ![128, 384] _ 1 3 rfl]
      first | rfl | (try sl_unfold_words; rfl)
  have g13 : GwInv arg12.view f12 (body_B.sl.H12_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 13 8 := by
    unfold body_B.sl.H12_13
    refine gw_step 12 8 8 (by decide) (by decide) ![4, 0, 0] _ _ rfl ?_ g12
    · try unfold body_B.sl.v345
      try unfold body_B.sl.v352
      try unfold body_B.sl.v354
      rw [readAt_tile h17 ![128, 512] _ 1 4 rfl, gw_found g12 ![4, 0, 0] _ 4 rfl (by decide), readAt_tile h13 ![128, 512] _ 1 4 rfl]
      first | rfl | (try sl_unfold_words; rfl)
  have g14 : GwInv arg12.view f12 (body_B.sl.H12_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 14 8 := by
    unfold body_B.sl.H12_14
    refine gw_step 13 8 8 (by decide) (by decide) ![5, 0, 0] _ _ rfl ?_ g13
    · try unfold body_B.sl.v360
      try unfold body_B.sl.v367
      try unfold body_B.sl.v369
      rw [readAt_tile h17 ![128, 640] _ 1 5 rfl, gw_found g13 ![5, 0, 0] _ 5 rfl (by decide), readAt_tile h13 ![128, 640] _ 1 5 rfl]
      first | rfl | (try sl_unfold_words; rfl)
  have g15 : GwInv arg12.view f12 (body_B.sl.H12_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 15 8 := by
    unfold body_B.sl.H12_15
    refine gw_step 14 8 8 (by decide) (by decide) ![6, 0, 0] _ _ rfl ?_ g14
    · try unfold body_B.sl.v375
      try unfold body_B.sl.v382
      try unfold body_B.sl.v384
      rw [readAt_tile h17 ![128, 768] _ 1 6 rfl, gw_found g14 ![6, 0, 0] _ 6 rfl (by decide), readAt_tile h13 ![128, 768] _ 1 6 rfl]
      first | rfl | (try sl_unfold_words; rfl)
  have g16 : GwInv arg12.view f12 (body_B.sl.H12_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 16 8 := by
    unfold body_B.sl.H12_16
    refine gw_step 15 8 8 (by decide) (by decide) ![7, 0, 0] _ _ rfl ?_ g15
    · try unfold body_B.sl.v390
      try unfold body_B.sl.v397
      try unfold body_B.sl.v399
      rw [readAt_tile h17 ![128, 896] _ 1 7 rfl, gw_found g15 ![7, 0, 0] _ 7 rfl (by decide), readAt_tile h13 ![128, 896] _ 1 7 rfl]
      first | rfl | (try sl_unfold_words; rfl)
  iapply Hk
  isplitl [H1 H2 H4 H5 H6 H7 H8]
  · isplitl [H1]
    · iexists _; isplitr; swap; · iexact H1
      ipureintro; exact hf1
    isplitl [H2]
    · iexists _; isplitr; swap; · iexact H2
      ipureintro; exact hf2
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    iexists _; isplitr; swap; · iexact H8
    ipureintro; exact hf8
  isplitl [H9]
  · iexists _; isplitr; swap; · iexact H9
    ipureintro
    rw [View.writes_append, hl3.1, hl2.1]; exact dp_all _ _ _ _ _ _ _ _ _
  isplitl [H10]
  · iexists _; isplitr; swap; · iexact H10
    ipureintro
    exact hf10
  isplitl [H11]
  · iexists _; isplitr; swap; · iexact H11
    ipureintro
    exact hf11
  isplitl [H12]
  · iexists _; isplitr; swap; · iexact H12
    ipureintro
    first | exact gw_end g16 | exact g16.1
  isplitl [H13]
  · iexists _, _; isplitr; swap; · iexact H13
    ipureintro
    rfl
  isplitl [H14]
  · iexists _, _; isplitr; swap; · iexact H14
    ipureintro
    rfl
  isplitl [H15]
  · iexists _, _; isplitr; swap; · iexact H15
    ipureintro
    rfl
  isplitl [H16]
  · iexists _, _; isplitr; swap; · iexact H16
    ipureintro
    rfl
  isplitl [H17]
  · iexists _, _; isplitr; swap; · iexact H17
    ipureintro
    rfl
  isplitl [H18]
  · iexists _, _; isplitr; swap; · iexact H18
    ipureintro
    rfl
  isplitl [H19]
  · iexists _; isplitr; swap; · iexact H19
    ipureintro
    rw [hl3.2, hf19]; rfl
  isplitl [H20]
  · iexists _; isplitr; swap; · iexact H20
    ipureintro
    rw [hl2.2.2, hf20]; rfl
  iexists _, _; isplitr; swap; · iexact H21
  ipureintro
  rfl

end Cert.BKernelIdeal

end
-- ==== Proof.B.BodyC.lean ====
module

public import proofs.«01_k».proof.Proof.B.Ins

@[expose] public section

set_option maxRecDepth 16384

noncomputable section

namespace Cert.BKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg1 : Memref sig .tc .vmem S256x3072 .bf16) (harg1 : arg1.IsWhole) (arg2 : Memref sig .tc .vmem S256x1024 .f32) (harg2 : arg2.IsWhole)
  (arg3 : Memref sig .tc .hbm S4096x8192 .bf16) (harg3 : arg3.IsWhole) (arg4 : Memref sig .tc .vmem S8x128x128 .bf16) (harg4 : arg4.IsWhole)
  (arg5 : Memref sig .tc .vmem S8x128x128 .bf16) (harg5 : arg5.IsWhole) (arg6 : Memref sig .tc .vmem S128x1024 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S256x3072 .bf16) (harg9 : arg9.IsWhole) (arg10 : Memref sig .tc .vmem S8x1024 .f32) (harg10 : arg10.IsWhole)
  (arg11 : Memref sig .tc .vmem S128x128 .f32) (harg11 : arg11.IsWhole) (arg12 : Memref sig .tc .vmem S8x128x128 .f32) (harg12 : arg12.IsWhole)
  (arg13 : Memref sig .tc .vmem S256x1024 .bf16) (harg13 : arg13.IsWhole) (arg14 : Memref sig .tc .vmem S256x1024 .f32) (harg14 : arg14.IsWhole)
  (arg15 : Memref sig .tc .vmem S256x128 .f32) (harg15 : arg15.IsWhole) (arg16 : Memref sig .tc .vmem S256x1024 .f32) (harg16 : arg16.IsWhole)
  (arg17 : Memref sig .tc .vmem S256x1024 .bf16) (harg17 : arg17.IsWhole) (arg18 : Memref sig .tc .vmem S256x1024 .f32) (harg18 : arg18.IsWhole)
  (arg19 : Memref sig .tc .vmem S32x1024 .f32) (harg19 : arg19.IsWhole) (arg20 : Memref sig .tc .vmem S128x1024 .f32) (harg20 : arg20.IsWhole)
  (arg21 : Memref sig .tc .vmem S256x1024 .f32) (harg21 : arg21.IsWhole)
  (x1 : Vec F S256x3072 .bf16)
  (x2 : Vec F S256x1024 .f32)
  (x4 : Vec F S8x128x128 .bf16)
  (x5 : Vec F S8x128x128 .bf16)
  (x6 : Vec F S128x1024 .f32)
  (x7 : Vec F S1x1024 .f32)
  (x8 : Vec F S1x1024 .f32)

set_option maxHeartbeats 64000000 in
/-- The body at the last point. -/
theorem body_C (hc0 : ¬k0_cond1 i = 1#1) (hc1 : k0_cond2 i = 1#1) (s : Vec F S8x1024 .f32) (t : Vec F S128x128 .f32) (w : Vec F S8x128x128 .f32) (a : Vec F S32x1024 .f32) (q : Vec F S128x1024 .f32) (E : Set ℕ) (K : PUnit → sProp 𝕄) :
    iprop(ins c arg1 arg2 arg4 arg5 arg6 arg7 arg8 x1 x2 x4 x5 x6 x7 x8 ∗ (∃ d, owns (c : Thread nD τ) arg9 fullShare d) ∗ owns (c : Thread nD τ) arg10 fullShare s ∗ owns (c : Thread nD τ) arg11 fullShare t ∗ owns (c : Thread nD τ) arg12 fullShare w ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare a ∗ owns (c : Thread nD τ) arg20 fullShare q ∗ (∃ d, owns (c : Thread nD τ) arg21 fullShare d)
        ∗ (iprop(ins c arg1 arg2 arg4 arg5 arg6 arg7 arg8 x1 x2 x4 x5 x6 x7 x8 ∗ owns (c : Thread nD τ) arg9 fullShare (dpBlk x1 x2 (sBlk x4 (vbBlk x1 x7 x8) x6) x7 (n2Blk x1) (rsBlk x1) (dvBlk x5 (dsBlk x1 x2)) (dgBlk x1)) ∗ owns (c : Thread nD τ) arg10 fullShare (stFinal (acBlk (n2Blk x1) (dvBlk x5 (dsBlk x1 x2)) a) s) ∗ owns (c : Thread nD τ) arg11 fullShare (gbFinal (gbBlk x1 x2 q)) ∗ owns (c : Thread nD τ) arg12 fullShare (gwFinal (gwBlk (dsBlk x1 x2) (vbBlk x1 x7 x8) w)) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (acBlk (n2Blk x1) (dvBlk x5 (dsBlk x1 x2)) a) ∗ owns (c : Thread nD τ) arg20 fullShare (gbBlk x1 x2 q) ∗ (∃ d, owns (c : Thread nD τ) arg21 fullShare d)) -∗ K ⟨⟩))
      ⊢ wp frame (wpE (defs₀ (F := F)) Variants.none c none) E (cc0_branch_b_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [Gen.cc0_branch_b_bwd_eq_skeleton]; unfold Gen.cc0_branch_b_bwd_skel
  simp only [Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton, Gen.k0_part21_eq_skeleton, Gen.k0_part22_eq_skeleton]
  unfold ins owns
  iintro ⟨⟨⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩⟩, ⟨%d9, %f9, %hf9, H9⟩, ⟨%f10, %hf10, H10⟩, ⟨%f11, %hf11, H11⟩, ⟨%f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%f19, %hf19, H19⟩, ⟨%f20, %hf20, H20⟩, ⟨%d21, %f21, %hf21, H21⟩, Hk⟩
  sl_exec (disch := first | sl_exact hc0 | sl_exact hc1)
  sl_step
  have hl1 := loop_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 _ hf1 f7 _ hf7 f8 _ hf8 f13 f14 f15 f21 (Scf.trips k0_t1_loop.lb k0_t1_loop.ub k0_t1_loop.st) (le_refl _)
  have h13 := hl1.1.trans (vb_all _ _ _ _)
  have h14 := hl1.2.1.trans (n2_all _ _)
  have h15 := hl1.2.2.1.trans (rs_all _ _)
  have h21 := hl1.2.2.2.trans (dg_all _ _)
  have h16 : arg16.view.read (Elt F) (arg16.view.writes (Elt F) arg16.view.junk (body_C.sl.H16_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f6 f7 f8 f13)) = sBlk x4 (vbBlk x1 x7 x8) x6 := by
    unfold body_C.sl.H16_16
    refine Eq.trans (b := Step.fold 16 (tileStep (fun ck h => Gen.k0_pay46 (headW x4 h) (tileW (vbBlk x1 x7 x8) ck h) (biasW x6 h))) (arg16.view.read (Elt F) arg16.view.junk) 16) ?_ (tiles_all _ _)
    refine tile_step 15 (by decide) ![128, 896] _ _ rfl ?_ ?_
    · try unfold body_C.sl.v156
      rw [readAt_head hf4 ![7, 0, 0] _ 7 rfl, readAt_tile h13 ![128, 896] _ 1 7 rfl, readAt_bias hf6 ![0, 896] _ 7 rfl]
      first | rfl | (try sl_unfold_words; rfl)
    refine tile_step 14 (by decide) ![128, 768] _ _ rfl ?_ ?_
    · try unfold body_C.sl.v146
      rw [readAt_head hf4 ![6, 0, 0] _ 6 rfl, readAt_tile h13 ![128, 768] _ 1 6 rfl, readAt_bias hf6 ![0, 768] _ 6 rfl]
      first | rfl | (try sl_unfold_words; rfl)
    refine tile_step 13 (by decide) ![128, 640] _ _ rfl ?_ ?_
    · try unfold body_C.sl.r_3
      try unfold body_C.sl.r_4
      try unfold body_C.sl.v136
      rw [readAt_head hf4 ![5, 0, 0] _ 5 rfl, readAt_tile h13 ![128, 640] _ 1 5 rfl, readAt_bias hf6 ![0, 640] _ 5 rfl]
      first | rfl | (try sl_unfold_words; rfl)
    refine tile_step 12 (by decide) ![128, 512] _ _ rfl ?_ ?_
    · try unfold body_C.sl.v126
      rw [readAt_head hf4 ![4, 0, 0] _ 4 rfl, readAt_tile h13 ![128, 512] _ 1 4 rfl, readAt_bias hf6 ![0, 512] _ 4 rfl]
      first | rfl | (try sl_unfold_words; rfl)
    refine tile_step 11 (by decide) ![128, 384] _ _ rfl ?_ ?_
    · try unfold body_C.sl.v116
      rw [readAt_head hf4 ![3, 0, 0] _ 3 rfl, readAt_tile h13 ![128, 384] _ 1 3 rfl, readAt_bias hf6 ![0, 384] _ 3 rfl]
      first | rfl | (try sl_unfold_words; rfl)
    refine tile_step 10 (by decide) ![128, 256] _ _ rfl ?_ ?_
    · try unfold body_C.sl.r_2
      try unfold body_C.sl.v106
      rw [readAt_head hf4 ![2, 0, 0] _ 2 rfl, readAt_tile h13 ![128, 256] _ 1 2 rfl, readAt_bias hf6 ![0, 256] _ 2 rfl]
      first | rfl | (try sl_unfold_words; rfl)
    refine tile_step 9 (by decide) ![128, 128] _ _ rfl ?_ ?_
    · try unfold body_C.sl.v96
      rw [readAt_head hf4 ![1, 0, 0] _ 1 rfl, readAt_tile h13 ![128, 128] _ 1 1 rfl, readAt_bias hf6 ![0, 128] _ 1 rfl]
      first | rfl | (try sl_unfold_words; rfl)
    refine tile_step 8 (by decide) ![128, 0] _ _ rfl ?_ ?_
    · try unfold body_C.sl.v86
      rw [readAt_head hf4 ![0, 0, 0] _ 0 rfl, readAt_tile h13 ![128, 0] _ 1 0 rfl, readAt_bias hf6 ![0, 0] _ 0 rfl]
      first | rfl | (try sl_unfold_words; rfl)
    refine tile_step 7 (by decide) ![0, 896] _ _ rfl ?_ ?_
    · try unfold body_C.sl.r_1
      try unfold body_C.sl.v76
      rw [readAt_head hf4 ![7, 0, 0] _ 7 rfl, readAt_tile h13 ![0, 896] _ 0 7 rfl, readAt_bias hf6 ![0, 896] _ 7 rfl]
      first | rfl | (try sl_unfold_words; rfl)
    refine tile_step 6 (by decide) ![0, 768] _ _ rfl ?_ ?_
    · try unfold body_C.sl.v66
      rw [readAt_head hf4 ![6, 0, 0] _ 6 rfl, readAt_tile h13 ![0, 768] _ 0 6 rfl, readAt_bias hf6 ![0, 768] _ 6 rfl]
      first | rfl | (try sl_unfold_words; rfl)
    refine tile_step 5 (by decide) ![0, 640] _ _ rfl ?_ ?_
    · try unfold body_C.sl.v56
      rw [readAt_head hf4 ![5, 0, 0] _ 5 rfl, readAt_tile h13 ![0, 640] _ 0 5 rfl, readAt_bias hf6 ![0, 640] _ 5 rfl]
      first | rfl | (try sl_unfold_words; rfl)
    refine tile_step 4 (by decide) ![0, 512] _ _ rfl ?_ ?_
    · try unfold body_C.sl.v46
      rw [readAt_head hf4 ![4, 0, 0] _ 4 rfl, readAt_tile h13 ![0, 512] _ 0 4 rfl, readAt_bias hf6 ![0, 512] _ 4 rfl]
      first | rfl | (try sl_unfold_words; rfl)
    refine tile_step 3 (by decide) ![0, 384] _ _ rfl ?_ ?_
    · try unfold body_C.sl.v36
      rw [readAt_head hf4 ![3, 0, 0] _ 3 rfl, readAt_tile h13 ![0, 384] _ 0 3 rfl, readAt_bias hf6 ![0, 384] _ 3 rfl]
      first | rfl | (try sl_unfold_words; rfl)
    refine tile_step 2 (by decide) ![0, 256] _ _ rfl ?_ ?_
    · try unfold body_C.sl.r
      try unfold body_C.sl.v26
      rw [readAt_head hf4 ![2, 0, 0] _ 2 rfl, readAt_tile h13 ![0, 256] _ 0 2 rfl, readAt_bias hf6 ![0, 256] _ 2 rfl]
      first | rfl | (try sl_unfold_words; rfl)
    refine tile_step 1 (by decide) ![0, 128] _ _ rfl ?_ ?_
    · try unfold body_C.sl.v16
      rw [readAt_head hf4 ![1, 0, 0] _ 1 rfl, readAt_tile h13 ![0, 128] _ 0 1 rfl, readAt_bias hf6 ![0, 128] _ 1 rfl]
      first | rfl | (try sl_unfold_words; rfl)
    refine tile_step 0 (by decide) ![0, 0] _ _ rfl ?_ ?_
    · try unfold body_C.sl.v6
      rw [readAt_head hf4 ![0, 0, 0] _ 0 rfl, readAt_tile h13 ![0, 0] _ 0 0 rfl, readAt_bias hf6 ![0, 0] _ 0 rfl]
      first | rfl | (try sl_unfold_words; rfl)
    rfl
  have hl2 := loop_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (body_C.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f7 f8 f13) (body_C.sl.r_4 c arg6 f6) f1 _ hf1 f2 _ hf2 (arg16.view.writes (Elt F) arg16.view.junk (body_C.sl.H16_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f6 f7 f8 f13)) _ h16 f9 f17 f20 (Scf.trips k0_t2_loop.lb k0_t2_loop.ub k0_t2_loop.st) (le_refl _)
  have h17 := hl2.2.1.trans (ds_all _ _ _)
  have h18 : arg18.view.read (Elt F) (arg18.view.writes (Elt F) arg18.view.junk (body_C.sl.H18_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f5 f6 f7 f8 f9 f13 f17 f20)) = dvBlk x5 (dsBlk x1 x2) := by
    unfold body_C.sl.H18_16
    refine Eq.trans (b := Step.fold 16 (tileStep (fun ck h => Gen.k0_pay69 (tileW (dsBlk x1 x2) ck h) (headW x5 h))) (arg18.view.read (Elt F) arg18.view.junk) 16) ?_ (tiles_all _ _)
    refine tile_step 15 (by decide) ![128, 896] _ _ rfl ?_ ?_
    · try unfold body_C.sl.v390
      rw [readAt_tile h17 ![128, 896] _ 1 7 rfl, readAt_head hf5 ![7, 0, 0] _ 7 rfl]
      first | rfl | (try sl_unfold_words; rfl)
    refine tile_step 14 (by decide) ![128, 768] _ _ rfl ?_ ?_
    · try unfold body_C.sl.r_11
      try unfold body_C.sl.cst_334
      try unfold body_C.sl.v375
      rw [readAt_tile h17 ![128, 768] _ 1 6 rfl, readAt_head hf5 ![6, 0, 0] _ 6 rfl]
      first | rfl | (try sl_unfold_words; rfl)
    refine tile_step 13 (by decide) ![128, 640] _ _ rfl ?_ ?_
    · try unfold body_C.sl.v360
      rw [readAt_tile h17 ![128, 640] _ 1 5 rfl, readAt_head hf5 ![5, 0, 0] _ 5 rfl]
      first | rfl | (try sl_unfold_words; rfl)
    refine tile_step 12 (by decide) ![128, 512] _ _ rfl ?_ ?_
    · try unfold body_C.sl.v345
      rw [readAt_tile h17 ![128, 512] _ 1 4 rfl, readAt_head hf5 ![4, 0, 0] _ 4 rfl]
      first | rfl | (try sl_unfold_words; rfl)
    refine tile_step 11 (by decide) ![128, 384] _ _ rfl ?_ ?_
    · try unfold body_C.sl.v330
      rw [readAt_tile h17 ![128, 384] _ 1 3 rfl, readAt_head hf5 ![3, 0, 0] _ 3 rfl]
      first | rfl | (try sl_unfold_words; rfl)
    refine tile_step 10 (by decide) ![128, 256] _ _ rfl ?_ ?_
    · try unfold body_C.sl.v315
      rw [readAt_tile h17 ![128, 256] _ 1 2 rfl, readAt_head hf5 ![2, 0, 0] _ 2 rfl]
      first | rfl | (try sl_unfold_words; rfl)
    refine tile_step 9 (by decide) ![128, 128] _ _ rfl ?_ ?_
    · try unfold body_C.sl.v300
      rw [readAt_tile h17 ![128, 128] _ 1 1 rfl, readAt_head hf5 ![1, 0, 0] _ 1 rfl]
      first | rfl | (try sl_unfold_words; rfl)
    refine tile_step 8 (by decide) ![128, 0] _ _ rfl ?_ ?_
    · try unfold body_C.sl.v285
      rw [readAt_tile h17 ![128, 0] _ 1 0 rfl, readAt_head hf5 ![0, 0, 0] _ 0 rfl]
      first | rfl | (try sl_unfold_words; rfl)
    refine tile_step 7 (by decide) ![0, 896] _ _ rfl ?_ ?_
    · try unfold body_C.sl.r_8
      try unfold body_C.sl.v270
      rw [readAt_tile h17 ![0, 896] _ 0 7 rfl, readAt_head hf5 ![7, 0, 0] _ 7 rfl]
      first | rfl | (try sl_unfold_words; rfl)
    refine tile_step 6 (by decide) ![0, 768] _ _ rfl ?_ ?_
    · try unfold body_C.sl.v255
      rw [readAt_tile h17 ![0, 768] _ 0 6 rfl, readAt_head hf5 ![6, 0, 0] _ 6 rfl]
      first | rfl | (try sl_unfold_words; rfl)
    refine tile_step 5 (by decide) ![0, 640] _ _ rfl ?_ ?_
    · try unfold body_C.sl.r_7
      try unfold body_C.sl.v240
      rw [readAt_tile h17 ![0, 640] _ 0 5 rfl, readAt_head hf5 ![5, 0, 0] _ 5 rfl]
      first | rfl | (try sl_unfold_words; rfl)
    refine tile_step 4 (by decide) ![0, 512] _ _ rfl ?_ ?_
    · try unfold body_C.sl.v225
      rw [readAt_tile h17 ![0, 512] _ 0 4 rfl, readAt_head hf5 ![4, 0, 0] _ 4 rfl]
      first | rfl | (try sl_unfold_words; rfl)
    refine tile_step 3 (by decide) ![0, 384] _ _ rfl ?_ ?_
    · try unfold body_C.sl.v210
      rw [readAt_tile h17 ![0, 384] _ 0 3 rfl, readAt_head hf5 ![3, 0, 0] _ 3 rfl]
      first | rfl | (try sl_unfold_words; rfl)
    refine tile_step 2 (by decide) ![0, 256] _ _ rfl ?_ ?_
    · try unfold body_C.sl.v195
      rw [readAt_tile h17 ![0, 256] _ 0 2 rfl, readAt_head hf5 ![2, 0, 0] _ 2 rfl]
      first | rfl | (try sl_unfold_words; rfl)
    refine tile_step 1 (by decide) ![0, 128] _ _ rfl ?_ ?_
    · try unfold body_C.sl.v180
      rw [readAt_tile h17 ![0, 128] _ 0 1 rfl, readAt_head hf5 ![1, 0, 0] _ 1 rfl]
      first | rfl | (try sl_unfold_words; rfl)
    refine tile_step 0 (by decide) ![0, 0] _ _ rfl ?_ ?_
    · try unfold body_C.sl.v165
      rw [readAt_tile h17 ![0, 0] _ 0 0 rfl, readAt_head hf5 ![0, 0, 0] _ 0 rfl]
      first | rfl | (try sl_unfold_words; rfl)
    rfl
  have hl3 := loop_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (0#32) f7 _ hf7 _ _ h14 _ _ h15 (arg18.view.writes (Elt F) arg18.view.junk (body_C.sl.H18_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f5 f6 f7 f8 f9 f13 f17 f20)) _ h18 _ _ h21 (arg9.view.writes (Elt F) f9 (Gen.pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (body_C.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f7 f8 f13) (body_C.sl.r_4 c arg6 f6) f1 f2 (arg16.view.writes (Elt F) arg16.view.junk (body_C.sl.H16_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f4 f6 f7 f8 f13)) f9 f17 f20 (Scf.trips k0_t2_loop.lb k0_t2_loop.ub k0_t2_loop.st)).1) f19 (Scf.trips k0_t3_loop.lb k0_t3_loop.ub k0_t3_loop.st) (le_refl _)
  have g8 : GwInv arg12.view f12 (body_C.sl.H12_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 8 8 := by
    unfold body_C.sl.H12_8
    refine gw_step 7 7 8 (by decide) (by decide) ![7, 0, 0] _ _ rfl ?_ ?_
    · try unfold body_C.sl.v270
      try unfold body_C.sl.v277
      try unfold body_C.sl.v279
      rw [readAt_tile h17 ![0, 896] _ 0 7 rfl, gw_found0 (dsBlk x1 x2) (vbBlk x1 x7 x8) hf12 ![7, 0, 0] _ 7 7 rfl (by decide), readAt_tile h13 ![0, 896] _ 0 7 rfl]
      first | rfl | (try sl_unfold_words; rfl)
    refine gw_step 6 6 7 (by decide) (by decide) ![6, 0, 0] _ _ rfl ?_ ?_
    · try unfold body_C.sl.v255
      try unfold body_C.sl.v262
      try unfold body_C.sl.v264
      rw [readAt_tile h17 ![0, 768] _ 0 6 rfl, gw_found0 (dsBlk x1 x2) (vbBlk x1 x7 x8) hf12 ![6, 0, 0] _ 6 6 rfl (by decide), readAt_tile h13 ![0, 768] _ 0 6 rfl]
      first | rfl | (try sl_unfold_words; rfl)
    refine gw_step 5 5 6 (by decide) (by decide) ![5, 0, 0] _ _ rfl ?_ ?_
    · try unfold body_C.sl.v240
      try unfold body_C.sl.v247
      try unfold body_C.sl.v249
      rw [readAt_tile h17 ![0, 640] _ 0 5 rfl, gw_found0 (dsBlk x1 x2) (vbBlk x1 x7 x8) hf12 ![5, 0, 0] _ 5 5 rfl (by decide), readAt_tile h13 ![0, 640] _ 0 5 rfl]
      first | rfl | (try sl_unfold_words; rfl)
    refine gw_step 4 4 5 (by decide) (by decide) ![4, 0, 0] _ _ rfl ?_ ?_
    · try unfold body_C.sl.v225
      try unfold body_C.sl.v232
      try unfold body_C.sl.v234
      rw [readAt_tile h17 ![0, 512] _ 0 4 rfl, gw_found0 (dsBlk x1 x2) (vbBlk x1 x7 x8) hf12 ![4, 0, 0] _ 4 4 rfl (by decide), readAt_tile h13 ![0, 512] _ 0 4 rfl]
      first | rfl | (try sl_unfold_words; rfl)
    refine gw_step 3 3 4 (by decide) (by decide) ![3, 0, 0] _ _ rfl ?_ ?_
    · try unfold body_C.sl.r_6
      try unfold body_C.sl.v210
      try unfold body_C.sl.v217
      try unfold body_C.sl.v219
      rw [readAt_tile h17 ![0, 384] _ 0 3 rfl, gw_found0 (dsBlk x1 x2) (vbBlk x1 x7 x8) hf12 ![3, 0, 0] _ 3 3 rfl (by decide), readAt_tile h13 ![0, 384] _ 0 3 rfl]
      first | rfl | (try sl_unfold_words; rfl)
    refine gw_step 2 2 3 (by decide) (by decide) ![2, 0, 0] _ _ rfl ?_ ?_
    · try unfold body_C.sl.v195
      try unfold body_C.sl.v202
      try unfold body_C.sl.v204
      rw [readAt_tile h17 ![0, 256] _ 0 2 rfl, gw_found0 (dsBlk x1 x2) (vbBlk x1 x7 x8) hf12 ![2, 0, 0] _ 2 2 rfl (by decide), readAt_tile h13 ![0, 256] _ 0 2 rfl]
      first | rfl | (try sl_unfold_words; rfl)
    refine gw_step 1 1 2 (by decide) (by decide) ![1, 0, 0] _ _ rfl ?_ ?_
    · try unfold body_C.sl.r_5
      try unfold body_C.sl.v180
      try unfold body_C.sl.v187
      try unfold body_C.sl.v189
      rw [readAt_tile h17 ![0, 128] _ 0 1 rfl, gw_found0 (dsBlk x1 x2) (vbBlk x1 x7 x8) hf12 ![1, 0, 0] _ 1 1 rfl (by decide), readAt_tile h13 ![0, 128] _ 0 1 rfl]
      first | rfl | (try sl_unfold_words; rfl)
    refine gw_step 0 0 1 (by decide) (by decide) ![0, 0, 0] _ _ rfl ?_ ?_
    · try unfold body_C.sl.v165
      try unfold body_C.sl.v172
      try unfold body_C.sl.v174
      rw [readAt_tile h17 ![0, 0] _ 0 0 rfl, gw_found0 (dsBlk x1 x2) (vbBlk x1 x7 x8) hf12 ![0, 0, 0] _ 0 0 rfl (by decide), readAt_tile h13 ![0, 0] _ 0 0 rfl]
      first | rfl | (try sl_unfold_words; rfl)
    exact gw_start hf12
  have g9 : GwInv arg12.view f12 (body_C.sl.H12_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 9 8 := by
    unfold body_C.sl.H12_9
    refine gw_step 8 8 8 (by decide) (by decide) ![0, 0, 0] _ _ rfl ?_ g8
    · try unfold body_C.sl.r_9
      try unfold body_C.sl.v285
      try unfold body_C.sl.v292
      try unfold body_C.sl.v294
      rw [readAt_tile h17 ![128, 0] _ 1 0 rfl, gw_found g8 ![0, 0, 0] _ 0 rfl (by decide), readAt_tile h13 ![128, 0] _ 1 0 rfl]
      first | rfl | (try sl_unfold_words; rfl)
  have g10 : GwInv arg12.view f12 (body_C.sl.H12_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 10 8 := by
    unfold body_C.sl.H12_10
    refine gw_step 9 8 8 (by decide) (by decide) ![1, 0, 0] _ _ rfl ?_ g9
    · try unfold body_C.sl.v300
      try unfold body_C.sl.v307
      try unfold body_C.sl.v309
      rw [readAt_tile h17 ![128, 128] _ 1 1 rfl, gw_found g9 ![1, 0, 0] _ 1 rfl (by decide), readAt_tile h13 ![128, 128] _ 1 1 rfl]
      first | rfl | (try sl_unfold_words; rfl)
  have g11 : GwInv arg12.view f12 (body_C.sl.H12_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 11 8 := by
    unfold body_C.sl.H12_11
    refine gw_step 10 8 8 (by decide) (by decide) ![2, 0, 0] _ _ rfl ?_ g10
    · try unfold body_C.sl.r_10
      try unfold body_C.sl.cst_334
      try unfold body_C.sl.v315
      try unfold body_C.sl.v322
      try unfold body_C.sl.v324
      rw [readAt_tile h17 ![128, 256] _ 1 2 rfl, gw_found g10 ![2, 0, 0] _ 2 rfl (by decide), readAt_tile h13 ![128, 256] _ 1 2 rfl]
      first | rfl | (try sl_unfold_words; rfl)
  have g12 : GwInv arg12.view f12 (body_C.sl.H12_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 12 8 := by
    unfold body_C.sl.H12_12
    refine gw_step 11 8 8 (by decide) (by decide) ![3, 0, 0] _ _ rfl ?_ g11
    · try unfold body_C.sl.cst_334
      try unfold body_C.sl.v330
      try unfold body_C.sl.v337
      try unfold body_C.sl.v339
      rw [readAt_tile h17 ![128, 384] _ 1 3 rfl, gw_found g11 ![3, 0, 0] _ 3 rfl (by decide), readAt_tile h13 ![128, 384] _ 1 3 rfl]
      first | rfl | (try sl_unfold_words; rfl)
  have g13 : GwInv arg12.view f12 (body_C.sl.H12_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 13 8 := by
    unfold body_C.sl.H12_13
    refine gw_step 12 8 8 (by decide) (by decide) ![4, 0, 0] _ _ rfl ?_ g12
    · try unfold body_C.sl.v345
      try unfold body_C.sl.v352
      try unfold body_C.sl.v354
      rw [readAt_tile h17 ![128, 512] _ 1 4 rfl, gw_found g12 ![4, 0, 0] _ 4 rfl (by decide), readAt_tile h13 ![128, 512] _ 1 4 rfl]
      first | rfl | (try sl_unfold_words; rfl)
  have g14 : GwInv arg12.view f12 (body_C.sl.H12_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 14 8 := by
    unfold body_C.sl.H12_14
    refine gw_step 13 8 8 (by decide) (by decide) ![5, 0, 0] _ _ rfl ?_ g13
    · try unfold body_C.sl.v360
      try unfold body_C.sl.v367
      try unfold body_C.sl.v369
      rw [readAt_tile h17 ![128, 640] _ 1 5 rfl, gw_found g13 ![5, 0, 0] _ 5 rfl (by decide), readAt_tile h13 ![128, 640] _ 1 5 rfl]
      first | rfl | (try sl_unfold_words; rfl)
  have g15 : GwInv arg12.view f12 (body_C.sl.H12_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 15 8 := by
    unfold body_C.sl.H12_15
    refine gw_step 14 8 8 (by decide) (by decide) ![6, 0, 0] _ _ rfl ?_ g14
    · try unfold body_C.sl.v375
      try unfold body_C.sl.v382
      try unfold body_C.sl.v384
      rw [readAt_tile h17 ![128, 768] _ 1 6 rfl, gw_found g14 ![6, 0, 0] _ 6 rfl (by decide), readAt_tile h13 ![128, 768] _ 1 6 rfl]
      first | rfl | (try sl_unfold_words; rfl)
  have g16 : GwInv arg12.view f12 (body_C.sl.H12_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (dsBlk x1 x2) (vbBlk x1 x7 x8) w 16 8 := by
    unfold body_C.sl.H12_16
    refine gw_step 15 8 8 (by decide) (by decide) ![7, 0, 0] _ _ rfl ?_ g15
    · try unfold body_C.sl.v390
      try unfold body_C.sl.v397
      try unfold body_C.sl.v399
      rw [readAt_tile h17 ![128, 896] _ 1 7 rfl, gw_found g15 ![7, 0, 0] _ 7 rfl (by decide), readAt_tile h13 ![128, 896] _ 1 7 rfl]
      first | rfl | (try sl_unfold_words; rfl)
  have m0 := mask_start g16
  have m1 : MaskInv arg12.view (body_C.sl.H12_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (gwBlk (dsBlk x1 x2) (vbBlk x1 x7 x8) w) 1 := by
    unfold body_C.sl.H12_17
    refine mask_step 0 ![0, 0, 0] _ _ rfl ?_ m0
    · try unfold body_C.sl.v420
      try unfold body_C.sl.v417
      try unfold body_C.sl.v418
      rw [mask_found m0 ![0, 0, 0] _ 0 rfl (by decide)]
      first | rfl | (try sl_unfold_words; rfl)
  have m2 : MaskInv arg12.view (body_C.sl.H12_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (gwBlk (dsBlk x1 x2) (vbBlk x1 x7 x8) w) 2 := by
    unfold body_C.sl.H12_18
    refine mask_step 1 ![1, 0, 0] _ _ rfl ?_ m1
    · try unfold body_C.sl.v428
      try unfold body_C.sl.v417
      try unfold body_C.sl.v418
      rw [mask_found m1 ![1, 0, 0] _ 1 rfl (by decide)]
      first | rfl | (try sl_unfold_words; rfl)
  have m3 : MaskInv arg12.view (body_C.sl.H12_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (gwBlk (dsBlk x1 x2) (vbBlk x1 x7 x8) w) 3 := by
    unfold body_C.sl.H12_19
    refine mask_step 2 ![2, 0, 0] _ _ rfl ?_ m2
    · try unfold body_C.sl.r_12
      try unfold body_C.sl.v436
      try unfold body_C.sl.v417
      try unfold body_C.sl.v418
      rw [mask_found m2 ![2, 0, 0] _ 2 rfl (by decide)]
      first | rfl | (try sl_unfold_words; rfl)
  have m4 : MaskInv arg12.view (body_C.sl.H12_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (gwBlk (dsBlk x1 x2) (vbBlk x1 x7 x8) w) 4 := by
    unfold body_C.sl.H12_20
    refine mask_step 3 ![3, 0, 0] _ _ rfl ?_ m3
    · try unfold body_C.sl.v444
      try unfold body_C.sl.v417
      try unfold body_C.sl.v418
      rw [mask_found m3 ![3, 0, 0] _ 3 rfl (by decide)]
      first | rfl | (try sl_unfold_words; rfl)
  have m5 : MaskInv arg12.view (body_C.sl.H12_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (gwBlk (dsBlk x1 x2) (vbBlk x1 x7 x8) w) 5 := by
    unfold body_C.sl.H12_21
    refine mask_step 4 ![4, 0, 0] _ _ rfl ?_ m4
    · try unfold body_C.sl.v452
      try unfold body_C.sl.v417
      try unfold body_C.sl.v418
      rw [mask_found m4 ![4, 0, 0] _ 4 rfl (by decide)]
      first | rfl | (try sl_unfold_words; rfl)
  have m6 : MaskInv arg12.view (body_C.sl.H12_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (gwBlk (dsBlk x1 x2) (vbBlk x1 x7 x8) w) 6 := by
    unfold body_C.sl.H12_22
    refine mask_step 5 ![5, 0, 0] _ _ rfl ?_ m5
    · try unfold body_C.sl.v460
      try unfold body_C.sl.v417
      try unfold body_C.sl.v418
      rw [mask_found m5 ![5, 0, 0] _ 5 rfl (by decide)]
      first | rfl | (try sl_unfold_words; rfl)
  have m7 : MaskInv arg12.view (body_C.sl.H12_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f4 f6 f7 f8 f9 f12 f13 f17 f20) (gwBlk (dsBlk x1 x2) (vbBlk x1 x7 x8) w) 7 := by
    unfold body_C.sl.H12_23
    refine mask_step 6 ![6, 0, 0] _ _ rfl ?_ m6
    · try unfold body_C.sl.v468
      try unfold body_C.sl.v417
      try unfold body_C.sl.v418
      rw [mask_found m6 ![6, 0, 0] _ 6 rfl (by decide)]
      first | rfl | (try sl_unfold_words; rfl)
  have h19 := hl3.2.trans (congrArg (fun z => Step.fold k0_t3_loop.trips (acStep (n2Blk x1) (dvBlk x5 (dsBlk x1 x2))) z k0_t3_loop.trips) hf19)
  have h20 := hl2.2.2.trans (congrArg (fun z => Step.fold k0_t2_loop.trips (gbStep x1 x2) z k0_t2_loop.trips) hf20)
  iapply Hk
  isplitl [H1 H2 H4 H5 H6 H7 H8]
  · isplitl [H1]
    · iexists _; isplitr; swap; · iexact H1
      ipureintro; exact hf1
    isplitl [H2]
    · iexists _; isplitr; swap; · iexact H2
      ipureintro; exact hf2
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    iexists _; isplitr; swap; · iexact H8
    ipureintro; exact hf8
  isplitl [H9]
  · iexists _; isplitr; swap; · iexact H9
    ipureintro
    rw [View.writes_append, hl3.1, hl2.1]; exact dp_all _ _ _ _ _ _ _ _ _
  isplitl [H10]
  · iexists _; isplitr; swap; · iexact H10
    ipureintro
    rw [View.read_writes_cons_put arg10.view f10 _ _ _ rfl, View.read_writes_cons_put arg10.view f10 _ _ _ rfl]; unfold body_C.sl.v409 body_C.sl.v413; rw [readAt_band h19 ![0, 0] _ 0 _ rfl, readAt_band h19 ![16, 0] _ 16 _ rfl, View.writes_nil, hf10]; rfl
  isplitl [H11]
  · iexists _; isplitr; swap; · iexact H11
    ipureintro
    rw [View.read_writes_full]; unfold body_C.sl.r_14 body_C.sl.r_13 body_C.sl.v543 body_C.sl.v535 body_C.sl.v527 body_C.sl.v519 body_C.sl.v511 body_C.sl.v503 body_C.sl.v495 body_C.sl.v487 body_C.sl.v418; rw [readAt_bias h20 ![0, 0] _ 0 rfl, readAt_bias h20 ![0, 128] _ 1 rfl, readAt_bias h20 ![0, 256] _ 2 rfl, readAt_bias h20 ![0, 384] _ 3 rfl, readAt_bias h20 ![0, 512] _ 4 rfl, readAt_bias h20 ![0, 640] _ 5 rfl, readAt_bias h20 ![0, 768] _ 6 rfl, readAt_bias h20 ![0, 896] _ 7 rfl]; rfl
  isplitl [H12]
  · iexists _; isplitr; swap; · iexact H12
    ipureintro
    refine mask_end (w := gwBlk (dsBlk x1 x2) (vbBlk x1 x7 x8) w) ?_
    refine mask_step 7 ![7, 0, 0] _ _ rfl ?_ m7
    try unfold body_C.sl.v476
    try unfold body_C.sl.v417
    try unfold body_C.sl.v418
    rw [mask_found m7 ![7, 0, 0] _ 7 rfl (by decide)]
    first | rfl | (try sl_unfold_words; rfl)
  isplitl [H13]
  · iexists _, _; isplitr; swap; · iexact H13
    ipureintro
    rfl
  isplitl [H14]
  · iexists _, _; isplitr; swap; · iexact H14
    ipureintro
    rfl
  isplitl [H15]
  · iexists _, _; isplitr; swap; · iexact H15
    ipureintro
    rfl
  isplitl [H16]
  · iexists _, _; isplitr; swap; · iexact H16
    ipureintro
    rfl
  isplitl [H17]
  · iexists _, _; isplitr; swap; · iexact H17
    ipureintro
    rfl
  isplitl [H18]
  · iexists _, _; isplitr; swap; · iexact H18
    ipureintro
    rfl
  isplitl [H19]
  · iexists _; isplitr; swap; · iexact H19
    ipureintro
    rw [hl3.2, hf19]; rfl
  isplitl [H20]
  · iexists _; isplitr; swap; · iexact H20
    ipureintro
    rw [hl2.2.2, hf20]; rfl
  iexists _, _; isplitr; swap; · iexact H21
  ipureintro
  rfl

end Cert.BKernelIdeal

end
-- ==== Proof.B.Frame.lean ====
module

public import proofs.«01_k».proof.Proof.B.Kit
public import proofs.«01_k».proof.Proof.B.BodyA
public import proofs.«01_k».proof.Proof.B.BodyB
public import proofs.«01_k».proof.Proof.B.BodyC

@[expose] public section

set_option maxRecDepth 16384

noncomputable section

namespace Cert.BKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The normalised values, bf16, of a block of rows; -/
def vbAt (c : Dev nD) (t : Fin cfg0.N) : Vec F S256x1024 .bf16 := vbBlk (Gen.X0_0 m c t) (Gen.iblk m c 5 t) (Gen.iblk m c 6 t)
/-- the cotangent of the mixed values; -/
def dsAt (c : Dev nD) (t : Fin cfg0.N) : Vec F S256x1024 .bf16 := dsBlk (Gen.X0_0 m c t) (Gen.iblk m c 1 t)
/-- the cotangent of the normalised values; -/
def dvAt (c : Dev nD) (t : Fin cfg0.N) : Vec F S256x1024 .f32 := dvBlk (Gen.iblk m c 3 t) (dsAt m c t)
/-- the gradients of the three projections. -/
def dpAt (c : Dev nD) (t : Fin cfg0.N) : Vec F S256x3072 .bf16 :=
  dpBlk (Gen.X0_0 m c t) (Gen.iblk m c 1 t) (sBlk (Gen.iblk m c 2 t) (vbAt m c t) (Gen.iblk m c 4 t)) (Gen.iblk m c 5 t) (n2Blk (Gen.X0_0 m c t)) (rsBlk (Gen.X0_0 m c t)) (dvAt m c t) (dgBlk (Gen.X0_0 m c t))

/-- The accumulator of the scale's and the offset's gradients after point `n`. -/
def acAt (c : Dev nD) : (n : ℕ) → n < cfg0.N → Vec F S32x1024 .f32
  | 0, h => acBlk (n2Blk (Gen.X0_0 m c ⟨0, h⟩)) (dvAt m c ⟨0, h⟩) Gen.k0_pay42
  | n + 1, h => acBlk (n2Blk (Gen.X0_0 m c ⟨n + 1, h⟩)) (dvAt m c ⟨n + 1, h⟩) (acAt c n (Nat.lt_of_succ_lt h))

theorem acAt_first (c : Dev nD) (t : Fin cfg0.N) (h : t.val = 0) : acAt m c t.val t.isLt = acBlk (n2Blk (Gen.X0_0 m c t)) (dvAt m c t) Gen.k0_pay42 := by
  obtain ⟨n, hn⟩ := t
  subst h; rfl

theorem acAt_next (c : Dev nD) (t : Fin cfg0.N) (h : t.val ≠ 0) :
    acAt m c t.val t.isLt = acBlk (n2Blk (Gen.X0_0 m c t)) (dvAt m c t) (acAt m c (t.val - 1) (Nat.lt_of_le_of_lt (Nat.sub_le _ _) t.isLt)) := by
  obtain ⟨n, hn⟩ := t
  cases n with
  | zero => exact absurd rfl h
  | succ n => rfl

/-- The accumulator of the bias's gradient after point `n`. -/
def gbAt (c : Dev nD) : (n : ℕ) → n < cfg0.N → Vec F S128x1024 .f32
  | 0, h => gbBlk (Gen.X0_0 m c ⟨0, h⟩) (Gen.iblk m c 1 ⟨0, h⟩) Gen.k0_pay40
  | n + 1, h => gbBlk (Gen.X0_0 m c ⟨n + 1, h⟩) (Gen.iblk m c 1 ⟨n + 1, h⟩) (gbAt c n (Nat.lt_of_succ_lt h))

theorem gbAt_first (c : Dev nD) (t : Fin cfg0.N) (h : t.val = 0) : gbAt m c t.val t.isLt = gbBlk (Gen.X0_0 m c t) (Gen.iblk m c 1 t) Gen.k0_pay40 := by
  obtain ⟨n, hn⟩ := t
  subst h; rfl

theorem gbAt_next (c : Dev nD) (t : Fin cfg0.N) (h : t.val ≠ 0) :
    gbAt m c t.val t.isLt = gbBlk (Gen.X0_0 m c t) (Gen.iblk m c 1 t) (gbAt m c (t.val - 1) (Nat.lt_of_le_of_lt (Nat.sub_le _ _) t.isLt)) := by
  obtain ⟨n, hn⟩ := t
  cases n with
  | zero => exact absurd rfl h
  | succ n => rfl

/-- The gradient of the mixing matrices, not yet masked, after point `n`. -/
def gwRaw (c : Dev nD) : (n : ℕ) → n < cfg0.N → Vec F S8x128x128 .f32
  | 0, h => gwBlk (dsAt m c ⟨0, h⟩) (vbAt m c ⟨0, h⟩) Gen.k0_pay41
  | n + 1, h => gwBlk (dsAt m c ⟨n + 1, h⟩) (vbAt m c ⟨n + 1, h⟩) (gwRaw c n (Nat.lt_of_succ_lt h))

theorem gwRaw_first (c : Dev nD) (t : Fin cfg0.N) (h : t.val = 0) : gwRaw m c t.val t.isLt = gwBlk (dsAt m c t) (vbAt m c t) Gen.k0_pay41 := by
  obtain ⟨n, hn⟩ := t
  subst h; rfl

theorem gwRaw_next (c : Dev nD) (t : Fin cfg0.N) (h : t.val ≠ 0) :
    gwRaw m c t.val t.isLt = gwBlk (dsAt m c t) (vbAt m c t) (gwRaw m c (t.val - 1) (Nat.lt_of_le_of_lt (Nat.sub_le _ _) t.isLt)) := by
  obtain ⟨n, hn⟩ := t
  cases n with
  | zero => exact absurd rfl h
  | succ n => rfl

/-- What the outputs hold: the rows of sums, -/
def stAt (c : Dev nD) (t : Fin cfg0.N) : Vec F S8x1024 .f32 :=
  if t.val % 16 = 15 then stFinal (acAt m c t.val t.isLt) Gen.k0_pay38 else Gen.k0_pay38
/-- the bias's gradient, -/
def gtAt (c : Dev nD) (t : Fin cfg0.N) : Vec F S128x128 .f32 :=
  if t.val % 16 = 15 then gbFinal (gbAt m c t.val t.isLt) else Gen.k0_pay39
/-- the mixing matrices' gradient. -/
def gwAt (c : Dev nD) (t : Fin cfg0.N) : Vec F S8x128x128 .f32 :=
  if t.val % 16 = 15 then gwFinal (gwRaw m c t.val t.isLt) else gwRaw m c t.val t.isLt

/-- What holds of the scratch buffers before point `n`. -/
def PhiS (c : Dev nD) : (n : ℕ) → n ≤ cfg0.N → sProp 𝕄
  | 0, _ => Pipeline.ΦA spec0 c
  | n + 1, hn => iprop(iprop((∃ d, owns (c : Thread nD τ) Gen.scM0_0 fullShare d) ∗ (∃ d, owns (c : Thread nD τ) Gen.scM0_1 fullShare d) ∗ (∃ d, owns (c : Thread nD τ) Gen.scM0_2 fullShare d) ∗ (∃ d, owns (c : Thread nD τ) Gen.scM0_3 fullShare d) ∗ (∃ d, owns (c : Thread nD τ) Gen.scM0_4 fullShare d) ∗ (∃ d, owns (c : Thread nD τ) Gen.scM0_5 fullShare d) ∗ owns (c : Thread nD τ) Gen.scM0_6 fullShare (acAt m c n hn) ∗ owns (c : Thread nD τ) Gen.scM0_7 fullShare (gbAt m c n hn) ∗ (∃ d, owns (c : Thread nD τ) Gen.scM0_8 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) Gen.scM0_0 fullShare d) ∗ (∃ d, owns (c : Thread nD τ) Gen.scM0_1 fullShare d) ∗ (∃ d, owns (c : Thread nD τ) Gen.scM0_2 fullShare d) ∗ (∃ d, owns (c : Thread nD τ) Gen.scM0_3 fullShare d) ∗ (∃ d, owns (c : Thread nD τ) Gen.scM0_4 fullShare d) ∗ (∃ d, owns (c : Thread nD τ) Gen.scM0_5 fullShare d) ∗ owns (c : Thread nD τ) Gen.scM0_6 fullShare (acAt m c (n - 1) (by omega)) ∗ owns (c : Thread nD τ) Gen.scM0_7 fullShare (gbAt m c (n - 1) (by omega)) ∗ (∃ d, owns (c : Thread nD τ) Gen.scM0_8 fullShare d)) ∗ (∃ r, prngReg c r)) := by
  cases n with
  | zero => exact absurd rfl hz
  | succ n => rfl

/-- The proof data of the pipeline: each input's buffer at its block, each output's at its value. -/
def dats (_ : Fin 1) (c : Dev nD) : Dat τ (Elt F) Unit ℕ (UR sig nD τ) ℕ cfg0 c where
  A w := Gen.V m c (Pipeline.arrRef spec0 w)
  after w t := match w with
    | ⟨0, _⟩ => Gen.X0_0 m c t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => dpAt m c t
    | ⟨8, _⟩ => stAt m c t
    | ⟨9, _⟩ => gtAt m c t
    | ⟨10, _⟩ => gwAt m c t
  Φ t := PhiS m c t.val (Nat.le_of_lt_succ t.isLt)
  q _ := fullShare
  owed _ := 0

theorem A_eq (c : Dev nD) (w : Fin cfg0.W) : (dats m 0 c).A w = Gen.V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = Gen.X0_0 m c t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = Gen.iblk m c 5 t := by dsimp only [dats]
theorem after_6 (c : Dev nD) (t : Fin cfg0.N) : (dats m 0 c).after 6 t = Gen.iblk m c 6 t := by dsimp only [dats]
theorem after_7 (c : Dev nD) (t : Fin cfg0.N) : (dats m 0 c).after 7 t = dpAt m c t := by dsimp only [dats]
theorem after_8 (c : Dev nD) (t : Fin cfg0.N) : (dats m 0 c).after 8 t = stAt m c t := by dsimp only [dats]
theorem after_9 (c : Dev nD) (t : Fin cfg0.N) : (dats m 0 c).after 9 t = gtAt m c t := by dsimp only [dats]
theorem after_10 (c : Dev nD) (t : Fin cfg0.N) : (dats m 0 c).after 10 t = gwAt m c t := by dsimp only [dats]
theorem before_0 (c : Dev nD) (t : Fin cfg0.N) (d) : (dats m 0 c).before 0 t d = Gen.X0_0 m c t :=
  Gen.before0_0_of m (dats m 0 c) (A_eq m c 0) (after_0 m c) t d
theorem before_1 (c : Dev nD) (t : Fin cfg0.N) (d) : (dats m 0 c).before 1 t d = Gen.iblk m c 1 t :=
  Gen.before0_1_of m (dats m 0 c) (A_eq m c 1) (after_1 m c) t d
theorem before_2 (c : Dev nD) (t : Fin cfg0.N) (d) : (dats m 0 c).before 2 t d = Gen.iblk m c 2 t :=
  Gen.before0_2_of m (dats m 0 c) (A_eq m c 2) (after_2 m c) t d
theorem before_3 (c : Dev nD) (t : Fin cfg0.N) (d) : (dats m 0 c).before 3 t d = Gen.iblk m c 3 t :=
  Gen.before0_3_of m (dats m 0 c) (A_eq m c 3) (after_3 m c) t d
theorem before_4 (c : Dev nD) (t : Fin cfg0.N) (d) : (dats m 0 c).before 4 t d = Gen.iblk m c 4 t :=
  Gen.before0_4_of m (dats m 0 c) (A_eq m c 4) (after_4 m c) t d
theorem before_5 (c : Dev nD) (t : Fin cfg0.N) (d) : (dats m 0 c).before 5 t d = Gen.iblk m c 5 t :=
  Gen.before0_5_of m (dats m 0 c) (A_eq m c 5) (after_5 m c) t d
theorem before_6 (c : Dev nD) (t : Fin cfg0.N) (d) : (dats m 0 c).before 6 t d = Gen.iblk m c 6 t :=
  Gen.before0_6_of m (dats m 0 c) (A_eq m c 6) (after_6 m c) t d

/-- A window that is used at a point leaves its buffer at the value named. -/
theorem leaves (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]; try rfl

/-- A point between leaves output 8 as the point before left it. -/
theorem carry_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t h hi _
  have hN : t.val < 16 := lt_of_lt_of_eq t.isLt (show cfg0.N = 16 from Gen.N_0)
  rw [after_8, after_8]
  unfold stAt
  by_cases h1 : t.val % 16 = 15
  · rw [Gen.liveAt0_8_C t h1] at hi
    exact absurd hi Bool.false_ne_true
  · rw [if_neg h1, if_neg (show ¬(t.val - 1) % 16 = 15 by omega)]

/-- At the last point it still holds zeros. -/
theorem before_8 (c : Dev nD) (t : Fin cfg0.N) (h0 : ¬t.val % 16 = 0) (d) : (dats m 0 c).before 8 t d = Gen.k0_pay38 := by
  have hN : t.val < 16 := lt_of_lt_of_eq t.isLt (show cfg0.N = 16 from Gen.N_0)
  rw [Dat.before_out_traj _ 8 rfl (fun _ _ => rfl) (carry_8 m c) t.val t rfl d,
    if_neg (by rw [Gen.fresh0_8 t (by omega)]; exact Bool.false_ne_true)]
  rw [after_8]
  unfold stAt
  rw [if_neg (show ¬(t.val - 1) % 16 = 15 by omega)]

/-- A point between leaves output 9 as the point before left it. -/
theorem carry_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t h hi _
  have hN : t.val < 16 := lt_of_lt_of_eq t.isLt (show cfg0.N = 16 from Gen.N_0)
  rw [after_9, after_9]
  unfold gtAt
  by_cases h1 : t.val % 16 = 15
  · rw [Gen.liveAt0_9_C t h1] at hi
    exact absurd hi Bool.false_ne_true
  · rw [if_neg h1, if_neg (show ¬(t.val - 1) % 16 = 15 by omega)]

/-- At the last point it still holds zeros. -/
theorem before_9 (c : Dev nD) (t : Fin cfg0.N) (h0 : ¬t.val % 16 = 0) (d) : (dats m 0 c).before 9 t d = Gen.k0_pay39 := by
  have hN : t.val < 16 := lt_of_lt_of_eq t.isLt (show cfg0.N = 16 from Gen.N_0)
  rw [Dat.before_out_traj _ 9 rfl (fun _ _ => rfl) (carry_9 m c) t.val t rfl d,
    if_neg (by rw [Gen.fresh0_9 t (by omega)]; exact Bool.false_ne_true)]
  rw [after_9]
  unfold gtAt
  rw [if_neg (show ¬(t.val - 1) % 16 = 15 by omega)]

/-- The mixing matrices' gradient is found as the point before left it. -/
theorem before_10 (c : Dev nD) (t : Fin cfg0.N) (h0 : ¬t.val % 16 = 0) (d) :
    (dats m 0 c).before 10 t d = gwRaw m c (t.val - 1) (Nat.lt_of_le_of_lt (Nat.sub_le _ _) t.isLt) := by
  have hN : t.val < 16 := lt_of_lt_of_eq t.isLt (show cfg0.N = 16 from Gen.N_0)
  rw [Dat.before_out_traj _ 10 rfl (fun _ _ => rfl) (fun t _ hi => absurd hi (by rw [Gen.liveAt0_10 t]; exact Bool.false_ne_true)) t.val t rfl d,
    if_neg (by rw [Gen.fresh0_10 t (by omega)]; exact Bool.false_ne_true)]
  rw [after_10]
  unfold gwAt
  rw [if_neg (show ¬(t.val - 1) % 16 = 15 by omega)]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (Gen.ms0_0 t) fullShare ((dats m 0 c).before 0 t d))
    ∗ (∃ d, owns (c : Thread nD τ) (Gen.ms0_1 t) fullShare ((dats m 0 c).before 1 t d))
    ∗ (∃ d, owns (c : Thread nD τ) (Gen.ms0_2 t) fullShare ((dats m 0 c).before 2 t d))
    ∗ (∃ d, owns (c : Thread nD τ) (Gen.ms0_3 t) fullShare ((dats m 0 c).before 3 t d))
    ∗ (∃ d, owns (c : Thread nD τ) (Gen.ms0_4 t) fullShare ((dats m 0 c).before 4 t d))
    ∗ (∃ d, owns (c : Thread nD τ) (Gen.ms0_5 t) fullShare ((dats m 0 c).before 5 t d))
    ∗ (∃ d, owns (c : Thread nD τ) (Gen.ms0_6 t) fullShare ((dats m 0 c).before 6 t d))
    ∗ (∃ d, owns (c : Thread nD τ) (Gen.ms0_7 t) fullShare ((dats m 0 c).before 7 t d))
    ∗ (∃ d, owns (c : Thread nD τ) (Gen.ms0_8 t) fullShare ((dats m 0 c).before 8 t d))
    ∗ (∃ d, owns (c : Thread nD τ) (Gen.ms0_9 t) fullShare ((dats m 0 c).before 9 t d))
    ∗ (∃ d, owns (c : Thread nD τ) (Gen.ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
/-- The body at any point. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2, before_3, before_4, before_5, before_6]
  rw [show (dats m 0 c).owesAt () t.succ = (dats m 0 c).owesAt () t.castSucc from rfl]
  rw [show (dats m 0 c).Φ t.succ = iprop(iprop((∃ d, owns (c : Thread nD τ) Gen.scM0_0 fullShare d) ∗ (∃ d, owns (c : Thread nD τ) Gen.scM0_1 fullShare d) ∗ (∃ d, owns (c : Thread nD τ) Gen.scM0_2 fullShare d) ∗ (∃ d, owns (c : Thread nD τ) Gen.scM0_3 fullShare d) ∗ (∃ d, owns (c : Thread nD τ) Gen.scM0_4 fullShare d) ∗ (∃ d, owns (c : Thread nD τ) Gen.scM0_5 fullShare d) ∗ owns (c : Thread nD τ) Gen.scM0_6 fullShare (acAt m c t.val t.isLt) ∗ owns (c : Thread nD τ) Gen.scM0_7 fullShare (gbAt m c t.val t.isLt) ∗ (∃ d, owns (c : Thread nD τ) Gen.scM0_8 fullShare d)) ∗ (∃ r, prngReg c r)) from rfl]
  have hN : t.val < 16 := lt_of_lt_of_eq t.isLt (show cfg0.N = 16 from Gen.N_0)
  rw [leaves m c 0 t (Gen.liveAt0_0 t), after_0, leaves m c 1 t (Gen.liveAt0_1 t), after_1, leaves m c 2 t (Gen.liveAt0_2 t), after_2, leaves m c 3 t (Gen.liveAt0_3 t), after_3, leaves m c 4 t (Gen.liveAt0_4 t), after_4, leaves m c 5 t (Gen.liveAt0_5 t), after_5, leaves m c 6 t (Gen.liveAt0_6 t), after_6, leaves m c 7 t (Gen.liveAt0_7 t), after_7, leaves m c 10 t (Gen.liveAt0_10 t), after_10]
  by_cases h0 : t.val % 16 = 0
  · have h1 : ¬t.val % 16 = 15 := by omega
    have hz : t.val = 0 := by omega
    rw [leaves m c 8 t (Gen.liveAt0_8_A t h0), after_8, leaves m c 9 t (Gen.liveAt0_9_A t h0), after_9, PhiS_castSucc]
    rw [PhiS_zero m c _ _ hz, Gen.PhiA0_eq, acAt_first m c t hz, gbAt_first m c t hz]
    unfold stAt gtAt gwAt
    rw [if_neg h1, if_neg h1, if_neg h1, gwRaw_first m c t hz]
    unfold dpAt dvAt dsAt vbAt
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_A c (grid0.coords t) (Gen.ms0_0 t) (Gen.hs0_0 t) (Gen.ms0_1 t) (Gen.hs0_1 t) (Memref.whole main_arg2) (Memref.isWhole_whole _) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) Gen.scM0_0 (Memref.isWhole_whole _) Gen.scM0_1 (Memref.isWhole_whole _) Gen.scM0_2 (Memref.isWhole_whole _) Gen.scM0_3 (Memref.isWhole_whole _) Gen.scM0_4 (Memref.isWhole_whole _) Gen.scM0_5 (Memref.isWhole_whole _) Gen.scM0_6 (Memref.isWhole_whole _) Gen.scM0_7 (Memref.isWhole_whole _) Gen.scM0_8 (Memref.isWhole_whole _) (Gen.X0_0 m c t) (Gen.iblk m c 1 t) (Gen.iblk m c 2 t) (Gen.iblk m c 3 t) (Gen.iblk m c 4 t) (Gen.iblk m c 5 t) (Gen.iblk m c 6 t) ((Gen.hcond0_0 t).mpr h0) (fun h => h1 ((Gen.hcond0_1 t).mp h))  Set.univ _)
    isplitl [H0 H1 H2 H3 H4 H5 H6]
    · unfold ins
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    unfold ins
    iintro ⟨⟨H0, H1, H2, H3, H4, H5, H6⟩, H7, H8, H9, H10, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := by omega
    rw [PhiS_castSucc, PhiS_pos m c _ _ hz, acAt_next m c t hz, gbAt_next m c t hz]
    simp only [before_10 m c t h0]
    by_cases h1 : t.val % 16 = 15
    · rw [leaves m c 8 t (Gen.liveAt0_8_C t h1), after_8, leaves m c 9 t (Gen.liveAt0_9_C t h1), after_9]
      simp only [before_8 m c t h0, before_9 m c t h0]
      unfold stAt gtAt gwAt
      rw [if_pos h1, if_pos h1, if_pos h1, acAt_next m c t hz, gbAt_next m c t hz, gwRaw_next m c t hz]
      unfold dpAt dvAt dsAt vbAt
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_C c (grid0.coords t) (Gen.ms0_0 t) (Gen.hs0_0 t) (Gen.ms0_1 t) (Gen.hs0_1 t) (Memref.whole main_arg2) (Memref.isWhole_whole _) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) Gen.scM0_0 (Memref.isWhole_whole _) Gen.scM0_1 (Memref.isWhole_whole _) Gen.scM0_2 (Memref.isWhole_whole _) Gen.scM0_3 (Memref.isWhole_whole _) Gen.scM0_4 (Memref.isWhole_whole _) Gen.scM0_5 (Memref.isWhole_whole _) Gen.scM0_6 (Memref.isWhole_whole _) Gen.scM0_7 (Memref.isWhole_whole _) Gen.scM0_8 (Memref.isWhole_whole _) (Gen.X0_0 m c t) (Gen.iblk m c 1 t) (Gen.iblk m c 2 t) (Gen.iblk m c 3 t) (Gen.iblk m c 4 t) (Gen.iblk m c 5 t) (Gen.iblk m c 6 t) (fun h => h0 ((Gen.hcond0_0 t).mp h)) ((Gen.hcond0_1 t).mpr h1) _ _ _ _ _ Set.univ _)
      isplitl [H0 H1 H2 H3 H4 H5 H6]
      · unfold ins
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      unfold ins
      iintro ⟨⟨H0, H1, H2, H3, H4, H5, H6⟩, H7, H8, H9, H10, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dats m 0 c) 8 t (Gen.idleAt0_8_B t h0 h1) (Gen.noFlush0_8_B t h0 h1),
        Dat.leavesExact_idle (dats m 0 c) 9 t (Gen.idleAt0_9_B t h0 h1) (Gen.noFlush0_9_B t h0 h1)]
      unfold gwAt
      rw [if_neg h1, gwRaw_next m c t hz]
      unfold dpAt dvAt dsAt vbAt
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_B c (grid0.coords t) (Gen.ms0_0 t) (Gen.hs0_0 t) (Gen.ms0_1 t) (Gen.hs0_1 t) (Memref.whole main_arg2) (Memref.isWhole_whole _) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) Gen.scM0_0 (Memref.isWhole_whole _) Gen.scM0_1 (Memref.isWhole_whole _) Gen.scM0_2 (Memref.isWhole_whole _) Gen.scM0_3 (Memref.isWhole_whole _) Gen.scM0_4 (Memref.isWhole_whole _) Gen.scM0_5 (Memref.isWhole_whole _) Gen.scM0_6 (Memref.isWhole_whole _) Gen.scM0_7 (Memref.isWhole_whole _) Gen.scM0_8 (Memref.isWhole_whole _) (Gen.X0_0 m c t) (Gen.iblk m c 1 t) (Gen.iblk m c 2 t) (Gen.iblk m c 3 t) (Gen.iblk m c 4 t) (Gen.iblk m c 5 t) (Gen.iblk m c 6 t) (fun h => h0 ((Gen.hcond0_0 t).mp h)) (fun h => h1 ((Gen.hcond0_1 t).mp h)) _ _ _ _ _ Set.univ _)
      isplitl [H0 H1 H2 H3 H4 H5 H6]
      · unfold ins
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      unfold ins
      iintro ⟨⟨H0, H1, H2, H3, H4, H5, H6⟩, H7, H8, H9, H10, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexact H10

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := Gen.N_0; omega), Gen.PhiA0_eq]
  iintro ⟨⟨HS0, HS1, HS2, HS3, HS4, HS5, HS6, HS7, HS8⟩, Hg⟩
  isplitl [HS0 HS1 HS2 HS3 HS4 HS5 HS6 HS7 HS8]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexists _; iexact HS6
    isplitl [HS7]; · iexists _; iexact HS7
    iexact HS8
  iexact Hg

set_option backward.isDefEq.respectTransparency.types false in
/-- The launch: every array ends at what the proof data say, and every counter at zero. -/
theorem run_main_quiescent : θ_run defs (onTc (τ := τ) (main (F := F))) (s₀ m ρ) (fun r => (Pipeline.FramePost cfgs (dats m) 0 (Gen.V m)) r ∧ r.2.sem = fun _ => 0) :=
  Pipeline.θ_run_frame_track (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hin := hin m) (hout := hout m)

theorem run_main : θ_run defs (onTc (τ := τ) (main (F := F))) (s₀ m ρ) (Pipeline.FramePost cfgs (dats m) 0 (Gen.V m)) :=
  (θ_run defs _ _).mono (fun _ h => h.1) (run_main_quiescent m ρ)

/-- The frame: the arguments end unchanged, and every counter at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (Gen.frame_of m ρ (dats m) (A_eq m) (run_main m ρ)) ((θ_run defs _ _).mono (fun _ h => h.2) (run_main_quiescent m ρ))

end Cert.BKernelIdeal

end
-- ==== Proof.B.Spec.lean ====
module

public import proofs.«01_k».proof.Proof.Common.Scalars

@[expose] public section

noncomputable section

/-! # The gradients of the gated branch, as functions of real numbers -/

namespace Step

open Idealize.ShloMosaic
open scoped BigOperators

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The small number that the norms add. -/
def eps : ℝ := (Ideal.ofBits .f32 897988541#32).toReal

theorem eps_pos : 0 < eps := by
  obtain ⟨e, he, h⟩ := bits_eps
  unfold eps
  rw [h]
  exact he

theorem coe_eps : Ideal.ofBits .f32 897988541#32 = (eps : EReal) := by
  obtain ⟨e, he, h⟩ := bits_eps
  unfold eps
  rw [h]
  rfl

theorem bits_one : Ideal.ofBits .f32 1065353216#32 = ((1 : ℝ) : EReal) := by
  simp [Ideal.ofBits, Ideal.ieee, -EReal.coe_mul]; norm_num

theorem bits_half : Ideal.ofBits .f32 1056964608#32 = ((1 / 2 : ℝ) : EReal) := by
  simp [Ideal.ofBits, Ideal.ieee, -EReal.coe_mul]; norm_num

theorem bits_zero : Ideal.ofBits .f32 0#32 = ((0 : ℝ) : EReal) := by
  simp [Ideal.ofBits, Ideal.ieee, -EReal.coe_mul]

/-- The pattern of the slope that the derivative of the error function has at zero, negated. -/
theorem bits_slope : Ideal.ofBits .f32 3213913787#32 = ((-(9465531 / 8388608) : ℝ) : EReal) := by
  simp [Ideal.ofBits, Ideal.ieee, -EReal.coe_mul, -EReal.coe_neg]; norm_num

theorem exp_coe (x : ℝ) : Ideal.exp (x : EReal) = ((Real.exp x : ℝ) : EReal) := rfl

/-- The error function. -/
def erf (x : ℝ) : ℝ := 2 / Real.sqrt Real.pi * ∫ t in (0 : ℝ)..x, Real.exp (-(t ^ 2))

theorem erf_coe (x : ℝ) : Ideal.erf (x : EReal) = (erf x : EReal) := rfl

theorem erf_neg (x : ℝ) : erf (-x) = -erf x := by
  have h := Ideal.erf_neg (x : EReal)
  rw [← EReal.coe_neg, erf_coe, erf_coe, ← EReal.coe_neg] at h
  exact EReal.coe_eq_coe_iff.mp h

theorem erfc_coe (x : ℝ) : Ideal.erfc (x : EReal) = ((1 - erf x : ℝ) : EReal) := rfl

theorem rsqrt_coe {x : ℝ} (h : 0 < x) : Ideal.rsqrt (x : EReal) = (((Real.sqrt x)⁻¹ : ℝ) : EReal) := by
  rw [Ideal.rsqrt_coe, if_neg (not_lt.mpr h.le), if_neg h.ne']

theorem sqrt_half : Ideal.sqrt ((1 / 2 : ℝ) : EReal) = (((Real.sqrt 2)⁻¹ : ℝ) : EReal) := by
  show (if (1 / 2 : ℝ) < 0 then ⊥ else ((Real.sqrt (1 / 2) : ℝ) : EReal)) = _
  rw [if_neg (by norm_num)]
  congr 1
  rw [one_div, Real.sqrt_inv]

theorem div_coe_coe (x : ℝ) {y : ℝ} (h : y ≠ 0) : Ideal.div (x : EReal) (y : EReal) = ((x * (1 / y) : ℝ) : EReal) := by
  rw [Ideal.div_coe h, ← EReal.coe_mul]

namespace B

/-- The slope at zero of the cumulative normal distribution, with the constant as the reference rounds it. -/
def slope0 : ℝ := 9465531 / 16777216 * (Real.sqrt 2)⁻¹

/-- The cumulative normal distribution; -/
def cdf (x : ℝ) : ℝ := 1 / 2 * (1 + erf (x * (Real.sqrt 2)⁻¹))
/-- the activation; -/
def gel (x : ℝ) : ℝ := x * cdf x
/-- its derivative; -/
def slp (x : ℝ) : ℝ := cdf x + x * Real.exp (-(1 / 2) * x * x) * slope0
/-- the logistic function; -/
def lgs (z : ℝ) : ℝ := 1 * (1 / (1 + Real.exp (0 - z)))
/-- and its product with its argument. -/
def sil (z : ℝ) : ℝ := z * lgs z

theorem lgs_den (z : ℝ) : 1 + Real.exp (0 - z) ≠ 0 := by have := Real.exp_pos (0 - z); linarith

/-- The mean of a row; -/
def mean (f : Fin 1024 → ℝ) : ℝ := (∑ j, f j) * (1 / 1024)
/-- the row without its mean; -/
def cen (f : Fin 1024 → ℝ) (j : Fin 1024) : ℝ := f j - mean f
/-- what stands under the root; -/
def var (f : Fin 1024 → ℝ) : ℝ := (∑ j, cen f j * cen f j) * (1 / 1024) + eps
/-- the inverse deviation; -/
def rst (f : Fin 1024 → ℝ) : ℝ := (Real.sqrt (var f))⁻¹
/-- the normalised row; -/
def nrm (f : Fin 1024 → ℝ) (j : Fin 1024) : ℝ := cen f j * rst f
/-- the gradient of the normalisation. -/
def lnGrad (f d : Fin 1024 → ℝ) (j : Fin 1024) : ℝ := rst f * (d j - mean d - nrm f j * mean fun l => d l * nrm f l)

theorem var_pos (f : Fin 1024 → ℝ) : 0 < var f := by
  unfold var
  have : 0 ≤ ∑ j, cen f j * cen f j := Finset.sum_nonneg fun j _ => mul_self_nonneg _
  have := eps_pos
  positivity

theorem rst_sq (f : Fin 1024 → ℝ) : rst f * (1 / var f) = rst f * rst f * rst f := by
  have h : Real.sqrt (var f) * Real.sqrt (var f) = var f := Real.mul_self_sqrt (var_pos f).le
  unfold rst
  rw [mul_assoc, ← mul_inv, h, one_div]

theorem sum_cen (f : Fin 1024 → ℝ) : ∑ j, cen f j = 0 := by
  unfold cen mean
  rw [Finset.sum_sub_distrib, Finset.sum_const, Finset.card_univ, Fintype.card_fin]
  simp only [nsmul_eq_mul]
  push_cast
  ring

/-- The same gradient as the chain rule gives it through the mean, the variance and the root. -/
theorem lnGrad_eq (f d : Fin 1024 → ℝ) (j : Fin 1024) (q : ℝ)
    (hq : q = (∑ l, cen f l * d l) * (-(1 / 2) * (rst f * (1 / var f))) * (1 / 1024)) :
    d j * rst f + cen f j * q + q * cen f j + (∑ l, -(d l * rst f + cen f l * q + q * cen f l)) * (1 / 1024) = lnGrad f d j := by
  rw [rst_sq] at hq
  have h1 : (∑ l, -(d l * rst f + cen f l * q + q * cen f l)) = -(rst f * ∑ l, d l) := by
    have e : ∀ l, -(d l * rst f + cen f l * q + q * cen f l) = -(rst f) * d l + -(2 * q) * cen f l := fun l => by ring
    simp only [e]
    rw [Finset.sum_add_distrib, ← Finset.mul_sum, ← Finset.mul_sum, sum_cen]
    ring
  have h2 : (∑ l, d l * nrm f l) = rst f * ∑ l, cen f l * d l := by
    rw [Finset.mul_sum]
    exact Finset.sum_congr rfl fun l _ => by unfold nrm; ring
  unfold lnGrad mean
  rw [h1, h2, hq]
  unfold nrm
  ring

/-- The activation as a product with the complementary error function; -/
theorem gel_eq (x : ℝ) : 1 / 2 * x * (1 - erf (-x * (Real.sqrt 2)⁻¹)) = gel x := by
  unfold gel cdf
  rw [neg_mul, erf_neg]
  ring

/-- and its derivative by the product rule. -/
theorem slp_eq (x y : ℝ) :
    -(-(9465531 / 8388608) * (1 / 2 * x * y) * Real.exp (-(-x * (Real.sqrt 2)⁻¹ * (-x * (Real.sqrt 2)⁻¹))) * (Real.sqrt 2)⁻¹)
      + 1 / 2 * (y * (1 - erf (-x * (Real.sqrt 2)⁻¹))) = y * slp x := by
  have h : -(-x * (Real.sqrt 2)⁻¹ * (-x * (Real.sqrt 2)⁻¹)) = -(1 / 2) * x * x := by
    have h2 : (Real.sqrt 2)⁻¹ * (Real.sqrt 2)⁻¹ = 1 / 2 := by
      rw [← mul_inv, Real.mul_self_sqrt (by norm_num), one_div]
    linear_combination (-(x * x)) * h2
  rw [h]
  unfold slp cdf slope0
  rw [neg_mul x, erf_neg]
  ring

/-! ## The whole branch -/

/-- The arguments: the three columns of the projection, the cotangent, the mixing weights and their bias, the norm's weight and bias. -/
structure Arg where
  u : Fin 4096 → Fin 1024 → ℝ
  v : Fin 4096 → Fin 1024 → ℝ
  z : Fin 4096 → Fin 1024 → ℝ
  dy : Fin 4096 → Fin 1024 → ℝ
  w : Fin 8 → Fin 128 → Fin 128 → ℝ
  bs : Fin 8 → Fin 128 → ℝ
  g : Fin 1024 → ℝ
  b : Fin 1024 → ℝ

/-- Row `a` of chunk `c`; -/
def row (c : Fin 32) (a : Fin 128) : Fin 4096 := ⟨c.val * 128 + a.val, by omega⟩
/-- lane `l` of head `h`; -/
def col (h : Fin 8) (l : Fin 128) : Fin 1024 := ⟨h.val * 128 + l.val, by omega⟩
/-- the chunk of a row, -/
def chunk (r : Fin 4096) : Fin 32 := ⟨r.val / 128, by omega⟩
/-- the row's place in it, -/
def pos (r : Fin 4096) : Fin 128 := ⟨r.val % 128, by omega⟩
/-- and the head of a column. -/
def head (j : Fin 1024) : Fin 8 := ⟨j.val / 128, by omega⟩
/-- The place of a column in its head. -/
def lane (j : Fin 1024) : Fin 128 := ⟨j.val % 128, by omega⟩

theorem row_eta (r : Fin 4096) : row (chunk r) (pos r) = r := Fin.ext (by simp only [row, chunk, pos]; omega)

theorem col_eta (j : Fin 1024) : col (head j) (lane j) = j := Fin.ext (by simp only [col, head, lane]; omega)

/-- The comparison that keeps the diagonal and what is below it. -/
theorem causal : ∀ a b : Fin 128, IntOp.cmpi .sge (BitVec.ofNat 32 a.val) (BitVec.ofNat 32 b.val) = if b ≤ a then 1#1 else 0#1 := by decide +kernel

variable (A : Arg)

/-- The activated values; -/
def Arg.gv (r : Fin 4096) (j : Fin 1024) : ℝ := gel (A.v r j)
/-- normalised; -/
def Arg.n (r : Fin 4096) (j : Fin 1024) : ℝ := nrm (A.gv r) j
/-- scaled and shifted; -/
def Arg.vb (r : Fin 4096) (j : Fin 1024) : ℝ := A.n r j * A.g j + A.b j
/-- the causal weights; -/
def Arg.wm (h : Fin 8) (a b : Fin 128) : ℝ := if b ≤ a then A.w h a b else 0
/-- the mixed values; -/
def Arg.s (r : Fin 4096) (j : Fin 1024) : ℝ := (∑ b, A.wm (head j) (pos r) b * A.vb (row (chunk r) b) j) + A.bs (head j) (pos r)
/-- the mixed values' cotangent; -/
def Arg.ds (r : Fin 4096) (j : Fin 1024) : ℝ := A.dy r j * gel (A.u r j) * sil (A.z r j)
/-- the normalised values' cotangent. -/
def Arg.dv (r : Fin 4096) (j : Fin 1024) : ℝ := ∑ a, A.wm (head j) a (pos r) * A.ds (row (chunk r) a) j

/-- The gradient of the first column of the projection, -/
def Arg.du (r : Fin 4096) (j : Fin 1024) : ℝ := A.dy r j * A.s r j * sil (A.z r j) * slp (A.u r j)
/-- of the second -/
def Arg.dval (r : Fin 4096) (j : Fin 1024) : ℝ := lnGrad (A.gv r) (fun l => A.dv r l * A.g l) j * slp (A.v r j)
/-- and of the third; -/
def Arg.dz (r : Fin 4096) (j : Fin 1024) : ℝ :=
  A.dy r j * gel (A.u r j) * A.s r j * (lgs (A.z r j) * (1 + A.z r j * (1 - lgs (A.z r j))))
/-- of the norm's weight -/
def Arg.dg (j : Fin 1024) : ℝ := ∑ r, A.dv r j * A.n r j
/-- and bias; -/
def Arg.db (j : Fin 1024) : ℝ := ∑ r, A.dv r j
/-- of the mixing's bias -/
def Arg.dbs (a : Fin 128) (h : Fin 8) : ℝ := ∑ c, ∑ l, A.ds (row c a) (col h l)
/-- and weights. -/
def Arg.dw (h : Fin 8) (a b : Fin 128) : ℝ :=
  if b ≤ a then ∑ c, ∑ l, A.ds (row c a) (col h l) * A.vb (row c b) (col h l) else 0

/-- The gradient of the projections: that of `u`, of `v` and of `z`, each in its columns, and what was there elsewhere. -/
def Arg.dpAt (x : Fin 4096 → Fin 8192 → EReal) (r : Fin 4096) (j : Fin 8192) : EReal :=
  if j.val < 3072 then x r j
  else if h : j.val - 3072 < 1024 then (A.du r ⟨j.val - 3072, h⟩ : EReal)
  else if h : j.val - 4096 < 1024 then (A.dval r ⟨j.val - 4096, h⟩ : EReal)
  else if h : j.val - 5120 < 1024 then (A.dz r ⟨j.val - 5120, h⟩ : EReal)
  else x r j

/-- The gradients of the layer norm's scale and shift, as the first two of eight rows. -/
def Arg.stAt (a : Fin 8) (j : Fin 1024) : EReal := if a = 0 then (A.dg j : EReal) else if a = 1 then (A.db j : EReal) else 0

/-- The gradient of the bias, in the first eight columns. -/
def Arg.gtAt (a e : Fin 128) : EReal := if h : e.val < 8 then (A.dbs a ⟨e.val, h⟩ : EReal) else 0

end B

end Step

end
-- ==== Proof.B.Pays.lean ====
module

public import proofs.«01_k».proof.Proof.B.Tiles
public import proofs.«01_k».proof.Proof.B.Spec
public import Idealize.ShloMosaic.Lib.Pointwise

@[expose] public section

set_option maxRecDepth 16384

noncomputable section

/-! # What the kernel computes of one strip, over the extended reals, where its arguments are real -/

namespace Cert.BKernelIdeal

open Idealize.ShloMosaic Idealize.ShloMosaic.TcCoe Idealize.ShloMosaic.Tactic
open Step Step.B
open scoped BigOperators

theorem named_half : Named.named (F := Ideal) κ "sqrt_half" (φ := .f32) 0x3F3504F3#32 = (((Real.sqrt 2)⁻¹ : ℝ) : EReal) :=
  IdealRules.named_const.ideal_named_scalar _ _ _ _ rfl

theorem named_slope : Named.named (F := Ideal) κ "half_slope" (φ := .f32) 0x3ECC422A#32 = ((slope0 : ℝ) : EReal) :=
  IdealRules.named_const.ideal_named_scalar _ _ _ _ rfl

section Strip

variable (x : Vec Ideal S16x1024 .bf16) (f : Fin 16 → Fin 1024 → ℝ) (hx : ∀ r j, x (ix2 r j) = (f r j : EReal))
include hx

theorem cdf_strip (r : Fin 16) (j : Fin 1024) : Gen.k0_pay4 x (ix2 r j) = (cdf (f r j) : EReal) := by
  pointwise [Gen.k0_pay4, Gen.k0_pay3]
  rw [hx]
  rw [named_half, bits_half, ← EReal.coe_mul]
  show _ * (1 + Ideal.erf _) = _
  rw [erf_coe, ← EReal.coe_one, ← EReal.coe_add, ← EReal.coe_mul]
  rfl

theorem cdf_strip' (r : Fin 16) (j : Fin 1024) : Gen.k0_pay10 x (ix2 r j) = (cdf (f r j) : EReal) := cdf_strip x f hx r j

theorem slp_strip (r : Fin 16) (j : Fin 1024) : Gen.k0_pay5 x (ix2 r j) = (slp (f r j) : EReal) := by
  pointwise [Gen.k0_pay5, Gen.k0_pay3]
  rw [hx, cdf_strip x f hx]
  rw [named_slope, bits_neg_half, ← EReal.coe_mul, ← EReal.coe_mul, exp_coe, ← EReal.coe_mul, ← EReal.coe_mul, ← EReal.coe_add]
  rfl

theorem slp_strip' (r : Fin 16) (j : Fin 1024) : Gen.k0_pay12 x (ix2 r j) = (slp (f r j) : EReal) := by
  pointwise [Gen.k0_pay12, Gen.k0_pay9]
  rw [hx, cdf_strip' x f hx]
  rw [named_slope, bits_neg_half, ← EReal.coe_mul, ← EReal.coe_mul, exp_coe, ← EReal.coe_mul, ← EReal.coe_mul, ← EReal.coe_add]
  rfl

theorem gel_strip (r : Fin 16) (j : Fin 1024) : Gen.k0_pay11 x (ix2 r j) = (gel (f r j) : EReal) := by
  pointwise [Gen.k0_pay11, Gen.k0_pay9]
  rw [hx, cdf_strip' x f hx]
  rfl

theorem cen_strip (r : Fin 16) (j : Fin 1024) : Gen.k0_pay6 x (ix2 r j) = (cen (fun l => gel (f r l)) j : EReal) := by
  pointwise [Gen.k0_pay6, Gen.k0_pay3]
  simp only [hx, cdf_strip x f hx]
  simp only [← EReal.coe_mul]
  rw [div_1024, ← coe_sum, ← EReal.coe_mul, ← EReal.coe_sub]
  rfl

theorem rst_strip (r : Fin 16) : Gen.k0_pay7 x (ix2 r 0) = (rst (fun l => gel (f r l)) : EReal) := by
  pointwise [Gen.k0_pay7]
  simp only [cen_strip x f hx]
  simp only [← EReal.coe_mul]
  rw [div_1024, coe_eps, ← coe_sum, ← EReal.coe_mul, ← EReal.coe_add]
  exact rsqrt_coe (var_pos _)

theorem nrm_strip (r : Fin 16) (j : Fin 1024) : Gen.k0_pay43 (Gen.k0_pay8 x) (ix2 r j) = (nrm (fun l => gel (f r l)) j : EReal) := by
  pointwise [Gen.k0_pay43, Gen.k0_pay8]
  rw [cen_strip x f hx, rst_strip x f hx]
  rfl

theorem rs_strip (r : Fin 16) (l : Fin 128) : Gen.k0_pay44 (Gen.k0_pay7 x) (ix2 r l) = (rst (fun l => gel (f r l)) : EReal) := by
  pointwise [Gen.k0_pay44]
  rw [rst_strip x f hx]

theorem vb_strip (g b : Vec Ideal S1x1024 .f32) (G B : Fin 1024 → ℝ) (hg : ∀ j, g (ix2 0 j) = (G j : EReal)) (hb : ∀ j, b (ix2 0 j) = (B j : EReal))
    (r : Fin 16) (j : Fin 1024) : Gen.k0_pay45 (Gen.k0_pay8 x) g b (ix2 r j) = ((nrm (fun l => gel (f r l)) j * G j + B j : ℝ) : EReal) := by
  pointwise [Gen.k0_pay45, Gen.k0_pay8]
  rw [cen_strip x f hx, rst_strip x f hx, hg, hb]
  rfl

theorem lgs_strip (r : Fin 16) (j : Fin 1024) : Gen.k0_pay14 x (ix2 r j) = (lgs (f r j) : EReal) := by
  pointwise [Gen.k0_pay14, Gen.k0_pay13]
  rw [hx]
  rw [← EReal.coe_zero, ← EReal.coe_one, ← EReal.coe_sub, exp_coe, ← EReal.coe_add, div_coe_coe _ (lgs_den _)]
  rfl

theorem sil_strip (r : Fin 16) (j : Fin 1024) : Gen.k0_pay15 x (ix2 r j) = (sil (f r j) : EReal) := by
  pointwise [Gen.k0_pay15, Gen.k0_pay13]
  rw [hx, lgs_strip x f hx]
  rfl

end Strip

section Strips

variable (x z : Vec Ideal S16x1024 .bf16) (f k : Fin 16 → Fin 1024 → ℝ) (hx : ∀ r j, x (ix2 r j) = (f r j : EReal)) (hz : ∀ r j, z (ix2 r j) = (k r j : EReal))
  (y s : Vec Ideal S16x1024 .f32) (d e : Fin 16 → Fin 1024 → ℝ) (hy : ∀ r j, y (ix2 r j) = (d r j : EReal)) (hs : ∀ r j, s (ix2 r j) = (e r j : EReal))
include hx hz hy

theorem ds_strip (r : Fin 16) (j : Fin 1024) : Gen.k0_pay16 x z y (ix2 r j) = ((d r j * gel (f r j) * sil (k r j) : ℝ) : EReal) := by
  pointwise [Gen.k0_pay16]
  rw [hy, gel_strip x f hx, sil_strip z k hz]
  rfl

theorem ds_strip' (r : Fin 16) (j : Fin 1024) : Gen.k0_pay17 x z y (ix2 r j) = ((d r j * gel (f r j) * sil (k r j) : ℝ) : EReal) := by
  pointwise [Gen.k0_pay17]
  exact ds_strip x z f k hx hz y d hy r j

include hs

theorem du_strip (r : Fin 16) (j : Fin 1024) :
    Gen.k0_pay67 (Gen.k0_pay12 x) (Gen.k0_pay15 z) s y (ix2 r j) = ((d r j * e r j * sil (k r j) * slp (f r j) : ℝ) : EReal) := by
  have h12 : Gen.k0_pay12 x (ix2 r j) = (slp (f r j) : EReal) := slp_strip' x f hx r j
  pointwise [Gen.k0_pay67]
  rw [hy, hs, h12, sil_strip z k hz]
  rfl

theorem dz_strip (r : Fin 16) (j : Fin 1024) :
    Gen.k0_pay68 (Gen.k0_pay11 x) (Gen.k0_pay13 z) (Gen.k0_pay14 z) s y (ix2 r j)
      = ((d r j * gel (f r j) * e r j * (lgs (k r j) * (1 + k r j * (1 - lgs (k r j)))) : ℝ) : EReal) := by
  pointwise [Gen.k0_pay68, Gen.k0_pay13]
  rw [hy, hs, hz, gel_strip x f hx, lgs_strip z k hz]
  rfl

end Strips

theorem dv_strip (v n p : Vec Ideal S16x1024 .f32) (q : Vec Ideal S16x1 .f32) (g : Vec Ideal S1x1024 .f32) (d sl : Fin 16 → Fin 1024 → ℝ) (f : Fin 16 → Fin 1024 → ℝ) (G : Fin 1024 → ℝ)
    (hv : ∀ r j, v (ix2 r j) = (d r j : EReal)) (hn : ∀ r j, n (ix2 r j) = (nrm (f r) j : EReal)) (hq : ∀ r, q (ix2 r 0) = (rst (f r) : EReal))
    (hg : ∀ j, g (ix2 0 j) = (G j : EReal)) (hp : ∀ r j, p (ix2 r j) = (sl r j : EReal)) (r : Fin 16) (j : Fin 1024) :
    Gen.k0_pay1 (Gen.k0_pay20 v n q g) p (ix2 r j) = ((lnGrad (f r) (fun l => d r l * G l) j * sl r j : ℝ) : EReal) := by
  pointwise [Gen.k0_pay1, Gen.k0_pay20]
  simp only [hv, hn, hq, hg, hp]
  simp only [← EReal.coe_mul]
  rw [div_1024, div_1024, ← coe_sum, ← coe_sum]
  simp only [← EReal.coe_mul, ← EReal.coe_sub]
  rfl

/-! ## One tile -/

theorem s_tile (w : Vec Ideal S1x128x128 .bf16) (v : Vec Ideal S128x128 .bf16) (b : Vec Ideal S128x128 .f32) (a l : Fin 128) :
    Gen.k0_pay46 w v b (ix2 a l) = (∑ i : Fin 128, w (ix3 0 a i) * v (ix2 i l)) + b (ix2 a l) := by
  pointwise [Gen.k0_pay46]

theorem dv_tile (d : Vec Ideal S128x128 .bf16) (w : Vec Ideal S1x128x128 .bf16) (a l : Fin 128) :
    Gen.k0_pay69 d w (ix2 a l) = ∑ i : Fin 128, w (ix3 0 a i) * d (ix2 i l) := by
  pointwise [Gen.k0_pay69]

theorem gw_tile (d v : Vec Ideal S128x128 .bf16) (w : Vec Ideal S1x128x128 .f32) (a b : Fin 128) :
    Gen.k0_pay70 d w v (ix3 0 a b) = w (ix3 0 a b) + ∑ l : Fin 128, d (ix2 a l) * v (ix2 b l) := by
  pointwise [Gen.k0_pay70]

theorem mask_tile (w : Vec Ideal S1x128x128 .f32) (a b : Fin 128) : Gen.k0_pay23 w (ix3 0 a b) = if b ≤ a then w (ix3 0 a b) else 0 := by
  pointwise [Gen.k0_pay23]
  rw [causal]
  split <;> rfl

end Cert.BKernelIdeal

end
-- ==== Proof.B.Blk.lean ====
module

public import proofs.«01_k».proof.Proof.B.Pays

@[expose] public section

set_option maxRecDepth 16384

noncomputable section

/-! # What the kernel computes of one block of 256 rows, where its arguments are real -/

namespace Cert.BKernelIdeal

open Idealize.ShloMosaic Idealize.ShloMosaic.TcCoe Idealize.ShloMosaic.Tactic
open Step Step.B
open scoped BigOperators

section Places

variable {α : Type}

theorem window_ix2 {n0 n1 m0 m1 : ℕ} (x : (⟨2, ![n0, n1]⟩ : Shape).Idx → α) (off : Fin 2 → ℕ)
    (inb : ∀ a, off a + (⟨2, ![m0, m1]⟩ : Shape).size a ≤ (⟨2, ![n0, n1]⟩ : Shape).size a) (p q : ℕ) (e : off = ![p, q])
    (r : Fin m0) (j : Fin m1) (hr : p + r.val < n0) (hj : q + j.val < n1) :
    VecWindow.window (s := ⟨2, ![n0, n1]⟩) x off (⟨2, ![m0, m1]⟩ : Shape).size inb (ix2 r j) = x (ix2 ⟨p + r.val, hr⟩ ⟨q + j.val, hj⟩) := by
  subst e
  refine congrArg x (funext fun a => Fin.ext ?_)
  fin_cases a
  · show p + 1 * r.val = p + r.val
    omega
  · show q + 1 * j.val = q + j.val
    omega

theorem in16_ix2 (i : Fin 256) (j : Fin 1024) : in16 (ix2 i j) = ix2 ⟨i.val % 16, Nat.mod_lt _ (by decide)⟩ j := by
  funext a
  fin_cases a <;> rfl

theorem in16s_ix2 (i : Fin 256) (l : Fin 128) : in16s (ix2 i l) = ix2 ⟨i.val % 16, Nat.mod_lt _ (by decide)⟩ l := by
  funext a
  fin_cases a <;> rfl

theorem in16w_ix2 (i : Fin 256) (j : Fin 3072) : in16w (ix2 i j) = ix2 ⟨i.val % 16, Nat.mod_lt _ (by decide)⟩ ⟨j.val % 1024, Nat.mod_lt _ (by decide)⟩ := by
  funext a
  fin_cases a <;> rfl

theorem in128_ix2 (i : Fin 256) (j : Fin 1024) : in128 (ix2 i j) = ix2 ⟨i.val % 128, Nat.mod_lt _ (by decide)⟩ ⟨j.val % 128, Nat.mod_lt _ (by decide)⟩ := by
  funext a
  fin_cases a <;> rfl

theorem headW_ix (x : S8x128x128.Idx → α) (h : Fin 8) (a b : Fin 128) : headW x h (ix3 0 a b) = x (ix3 h a b) := by
  refine congrArg x (funext fun a => ?_)
  fin_cases a <;> rfl

theorem tileW_ix (x : S256x1024.Idx → α) (ck : Fin 2) (h : Fin 8) (a l : Fin 128) :
    tileW x ck h (ix2 a l) = x (ix2 ⟨128 * ck.val + a.val, by omega⟩ ⟨128 * h.val + l.val, by omega⟩) := by
  refine congrArg x (funext fun a => ?_)
  fin_cases a <;> rfl

theorem biasW_ix (x : S128x1024.Idx → α) (h : Fin 8) (a l : Fin 128) : biasW x h (ix2 a l) = x (ix2 a ⟨128 * h.val + l.val, by omega⟩) := by
  refine congrArg x (funext fun a => ?_)
  fin_cases a <;> rfl

end Places

/-- Row `i` of block `t`. -/
def brow (t : Fin 16) (i : Fin 256) : Fin 4096 := ⟨256 * t.val + i.val, by omega⟩

/-- Row `r` of strip `k` of a block. -/
def srow (k : ℕ) (hk : k < 16) (r : Fin 16) : Fin 256 := ⟨16 * k + r.val, by omega⟩

theorem srow_eta (i : Fin 256) (h : i.val / 16 < 16) : srow (i.val / 16) h ⟨i.val % 16, Nat.mod_lt _ (by decide)⟩ = i :=
  Fin.ext (by show 16 * (i.val / 16) + i.val % 16 = i.val; omega)

/-- The blocks of a point hold the reals of `A`. -/
structure Blk (A : Arg) (t : Fin 16) (x0 : Vec Ideal S256x3072 .bf16) (x1 : Vec Ideal S256x1024 .f32) (x2 x3 : Vec Ideal S8x128x128 .bf16)
    (x4 : Vec Ideal S128x1024 .f32) (x5 x6 : Vec Ideal S1x1024 .f32) : Prop where
  u : ∀ (i : Fin 256) (j : Fin 1024), x0 (ix2 i ⟨0 + j.val, by omega⟩) = (A.u (brow t i) j : EReal)
  v : ∀ (i : Fin 256) (j : Fin 1024), x0 (ix2 i ⟨1024 + j.val, by omega⟩) = (A.v (brow t i) j : EReal)
  z : ∀ (i : Fin 256) (j : Fin 1024), x0 (ix2 i ⟨2048 + j.val, by omega⟩) = (A.z (brow t i) j : EReal)
  dy : ∀ i j, x1 (ix2 i j) = (A.dy (brow t i) j : EReal)
  w : ∀ h a b, x2 (ix3 h a b) = (A.wm h a b : EReal)
  wt : ∀ h a b, x3 (ix3 h b a) = (A.wm h a b : EReal)
  bs : ∀ a j, x4 (ix2 a j) = (A.bs (head j) a : EReal)
  g : ∀ j, x5 (ix2 0 j) = (A.g j : EReal)
  b : ∀ j, x6 (ix2 0 j) = (A.b j : EReal)

variable {A : Arg} {t : Fin 16} {x0 : Vec Ideal S256x3072 .bf16} {x1 : Vec Ideal S256x1024 .f32} {x2 x3 : Vec Ideal S8x128x128 .bf16}
  {x4 : Vec Ideal S128x1024 .f32} {x5 x6 : Vec Ideal S1x1024 .f32} (H : Blk A t x0 x1 x2 x3 x4 x5 x6)
include H

theorem sV_apply (k : Fin k0_t1_loop.trips) (hk : k.val < 16) (r : Fin 16) (j : Fin 1024) :
    sV x0 k (ix2 r j) = (A.v (brow t (srow k.val hk r)) j : EReal) :=
  (window_ix2 x0 _ _ _ _ (Gen.k0_off1_eq k) r j (by omega) (by omega)).trans (H.v (srow k.val hk r) j)

theorem sU_apply (k : Fin k0_t2_loop.trips) (hk : k.val < 16) (r : Fin 16) (j : Fin 1024) :
    sU x0 k (ix2 r j) = (A.u (brow t (srow k.val hk r)) j : EReal) :=
  (window_ix2 x0 _ _ _ _ (Gen.k0_off4_eq k) r j (by omega) (by omega)).trans (H.u (srow k.val hk r) j)

theorem sZ_apply (k : Fin k0_t2_loop.trips) (hk : k.val < 16) (r : Fin 16) (j : Fin 1024) :
    sZ x0 k (ix2 r j) = (A.z (brow t (srow k.val hk r)) j : EReal) :=
  (window_ix2 x0 _ _ _ _ (Gen.k0_off5_eq k) r j (by omega) (by omega)).trans (H.z (srow k.val hk r) j)

omit H in
theorem s2_apply (x : Vec Ideal S256x1024 .f32) (f : Fin 256 → Fin 1024 → ℝ) (hx : ∀ i j, x (ix2 i j) = (f i j : EReal)) (k : Fin k0_t2_loop.trips) (hk : k.val < 16)
    (r : Fin 16) (j : Fin 1024) : s2 x k (ix2 r j) = (f (srow k.val hk r) j : EReal) := by
  refine (window_ix2 x _ _ _ _ (Gen.k0_off6_eq k) r j (by omega) (by omega)).trans ((congrArg (fun l => x (ix2 (srow k.val hk r) l)) (Fin.ext ?_)).trans (hx (srow k.val hk r) j))
  exact Nat.zero_add _

omit H in
theorem s3_apply (x : Vec Ideal S256x1024 .f32) (f : Fin 256 → Fin 1024 → ℝ) (hx : ∀ i j, x (ix2 i j) = (f i j : EReal)) (k : Fin k0_t3_loop.trips) (hk : k.val < 16)
    (r : Fin 16) (j : Fin 1024) : s3 x k (ix2 r j) = (f (srow k.val hk r) j : EReal) := by
  refine (window_ix2 x _ _ _ _ (Gen.k0_off8_eq k) r j (by omega) (by omega)).trans ((congrArg (fun l => x (ix2 (srow k.val hk r) l)) (Fin.ext ?_)).trans (hx (srow k.val hk r) j))
  exact Nat.zero_add _

theorem vbBlk_apply (i : Fin 256) (j : Fin 1024) : vbBlk x0 x5 x6 (ix2 i j) = (A.vb (brow t i) j : EReal) := by
  have hi : i.val / 16 < 16 := by omega
  unfold vbBlk
  rw [in16_ix2]
  refine (vb_strip _ _ (fun r j => sV_apply H (kOf _ trips1 i) hi r j) x5 x6 A.g A.b H.g H.b _ j).trans ?_
  rw [show brow t (srow (kOf k0_t1_loop.trips trips1 i).val hi ⟨i.val % 16, Nat.mod_lt _ (by decide)⟩) = brow t i from congrArg (brow t) (srow_eta i hi)]
  rfl

theorem n2Blk_apply (i : Fin 256) (j : Fin 1024) : n2Blk x0 (ix2 i j) = (A.n (brow t i) j : EReal) := by
  have hi : i.val / 16 < 16 := by omega
  unfold n2Blk
  rw [in16_ix2]
  refine (nrm_strip _ _ (fun r j => sV_apply H (kOf _ trips1 i) hi r j) _ j).trans ?_
  rw [show brow t (srow (kOf k0_t1_loop.trips trips1 i).val hi ⟨i.val % 16, Nat.mod_lt _ (by decide)⟩) = brow t i from congrArg (brow t) (srow_eta i hi)]
  rfl

theorem rsBlk_apply (i : Fin 256) (l : Fin 128) : rsBlk x0 (ix2 i l) = (rst (A.gv (brow t i)) : EReal) := by
  have hi : i.val / 16 < 16 := by omega
  unfold rsBlk
  rw [in16s_ix2]
  refine (rs_strip _ _ (fun r j => sV_apply H (kOf _ trips1 i) hi r j) _ l).trans ?_
  rw [show brow t (srow (kOf k0_t1_loop.trips trips1 i).val hi ⟨i.val % 16, Nat.mod_lt _ (by decide)⟩) = brow t i from congrArg (brow t) (srow_eta i hi)]
  rfl

theorem dgBlk_apply (i : Fin 256) (j : Fin 1024) : dgBlk x0 (ix2 i j) = (slp (A.v (brow t i) j) : EReal) := by
  have hi : i.val / 16 < 16 := by omega
  unfold dgBlk
  rw [in16_ix2]
  refine (slp_strip _ _ (fun r j => sV_apply H (kOf _ trips1 i) hi r j) _ j).trans ?_
  rw [show brow t (srow (kOf k0_t1_loop.trips trips1 i).val hi ⟨i.val % 16, Nat.mod_lt _ (by decide)⟩) = brow t i from congrArg (brow t) (srow_eta i hi)]

theorem ds16_apply (k : Fin k0_t2_loop.trips) (hk : k.val < 16) (r : Fin 16) (j : Fin 1024) :
    Gen.k0_pay16 (sU x0 k) (sZ x0 k) (s2 x1 k) (ix2 r j) = (A.ds (brow t (srow k.val hk r)) j : EReal) :=
  ds_strip _ _ _ _ (fun r j => sU_apply H k hk r j) (fun r j => sZ_apply H k hk r j) _ _ (fun r j => s2_apply x1 (fun i j => A.dy (brow t i) j) H.dy k hk r j) r j

theorem dsBlk_apply (i : Fin 256) (j : Fin 1024) : dsBlk x0 x1 (ix2 i j) = (A.ds (brow t i) j : EReal) := by
  have hi : i.val / 16 < 16 := by omega
  unfold dsBlk
  rw [in16_ix2]
  refine (ds_strip' _ _ _ _ (fun r j => sU_apply H (kOf _ trips2 i) hi r j) (fun r j => sZ_apply H (kOf _ trips2 i) hi r j) _ _
    (fun r j => s2_apply x1 (fun i j => A.dy (brow t i) j) H.dy (kOf _ trips2 i) hi r j) _ j).trans ?_
  rw [show brow t (srow (kOf k0_t2_loop.trips trips2 i).val hi ⟨i.val % 16, Nat.mod_lt _ (by decide)⟩) = brow t i from congrArg (brow t) (srow_eta i hi)]
  rfl

omit H in
/-- The rows of a block's chunk are the rows of the whole's. -/
theorem row_brow (i : Fin 256) (a : Fin 128) : brow t ⟨128 * (ckOf i).val + a.val, by omega⟩ = row (chunk (brow t i)) a :=
  Fin.ext (by show 256 * t.val + (128 * (i.val / 128) + a.val) = (256 * t.val + i.val) / 128 * 128 + a.val; omega)

omit H in
theorem pos_brow (i : Fin 256) : (⟨i.val % 128, Nat.mod_lt _ (by decide)⟩ : Fin 128) = pos (brow t i) :=
  Fin.ext (by show i.val % 128 = (256 * t.val + i.val) % 128; omega)

omit H in
theorem col_hOf (j : Fin 1024) : (⟨128 * (hOf j).val + j.val % 128, by omega⟩ : Fin 1024) = j :=
  Fin.ext (by show 128 * (j.val / 128) + j.val % 128 = j.val; omega)

theorem sBlk_apply (i : Fin 256) (j : Fin 1024) : sBlk x2 (vbBlk x0 x5 x6) x4 (ix2 i j) = (A.s (brow t i) j : EReal) := by
  refine (congrArg (Gen.k0_pay46 (headW x2 (hOf j)) (tileW (vbBlk x0 x5 x6) (ckOf i) (hOf j)) (biasW x4 (hOf j))) (in128_ix2 i j)).trans ?_
  rw [s_tile]
  simp only [headW_ix, tileW_ix, biasW_ix]
  simp only [vbBlk_apply H, H.w, H.bs]
  simp only [← EReal.coe_mul]
  rw [← coe_sum, ← EReal.coe_add]
  refine congrArg Real.toEReal (congrArg₂ (· + ·) (Finset.sum_congr rfl fun b _ => congrArg₂ (· * ·) ?_ ?_) ?_)
  · exact congrArg (fun p => A.wm (head j) p b) (pos_brow i)
  · exact congrArg₂ A.vb (row_brow i b) (col_hOf j)
  · exact congrArg₂ A.bs (congrArg head (col_hOf j)) (pos_brow i)

theorem dvBlk_apply (i : Fin 256) (j : Fin 1024) : dvBlk x3 (dsBlk x0 x1) (ix2 i j) = (A.dv (brow t i) j : EReal) := by
  refine (congrArg (Gen.k0_pay69 (tileW (dsBlk x0 x1) (ckOf i) (hOf j)) (headW x3 (hOf j))) (in128_ix2 i j)).trans ?_
  rw [dv_tile]
  simp only [headW_ix, tileW_ix]
  simp only [dsBlk_apply H, H.wt]
  simp only [← EReal.coe_mul]
  rw [← coe_sum]
  refine congrArg Real.toEReal (Finset.sum_congr rfl fun a _ => congrArg₂ (· * ·) ?_ ?_)
  · exact congrArg (fun p => A.wm (head j) a p) (pos_brow i)
  · exact congrArg₂ A.ds (row_brow i a) (col_hOf j)

/-- The gradients of the three projections, side by side. -/
theorem dpBlk_apply (i : Fin 256) (j : Fin 3072) :
    dpBlk x0 x1 (sBlk x2 (vbBlk x0 x5 x6) x4) x5 (n2Blk x0) (rsBlk x0) (dvBlk x3 (dsBlk x0 x1)) (dgBlk x0) (ix2 i j)
      = if h : j.val < 1024 then (A.du (brow t i) ⟨j.val, h⟩ : EReal)
        else if h : j.val - 1024 < 1024 then (A.dval (brow t i) ⟨j.val - 1024, h⟩ : EReal)
        else (A.dz (brow t i) ⟨j.val - 2048, by omega⟩ : EReal) := by
  have hi : i.val / 16 < 16 := by omega
  have e2 : brow t (srow (kOf k0_t2_loop.trips trips2 i).val hi ⟨i.val % 16, Nat.mod_lt _ (by decide)⟩) = brow t i := congrArg (brow t) (srow_eta i hi)
  have e3 : brow t (srow (kOf k0_t3_loop.trips trips3 i).val hi ⟨i.val % 16, Nat.mod_lt _ (by decide)⟩) = brow t i := congrArg (brow t) (srow_eta i hi)
  unfold dpBlk
  rw [in16w_ix2]
  by_cases h0 : j.val < 1024
  · rw [dif_pos h0]
    refine (if_pos (show j.val / 1024 = 0 by omega)).trans ?_
    refine (du_strip _ _ _ _ (fun r j => sU_apply H (kOf _ trips2 i) hi r j) (fun r j => sZ_apply H (kOf _ trips2 i) hi r j) _ _ _ _
      (fun r j => s2_apply x1 (fun i j => A.dy (brow t i) j) H.dy (kOf _ trips2 i) hi r j)
      (fun r j => s2_apply _ (fun i j => A.s (brow t i) j) (sBlk_apply H) (kOf _ trips2 i) hi r j) _ _).trans ?_
    rw [e2, show (⟨j.val % 1024, Nat.mod_lt _ (by decide)⟩ : Fin 1024) = ⟨j.val, h0⟩ from Fin.ext (Nat.mod_eq_of_lt h0)]
    rfl
  rw [dif_neg h0]
  refine (if_neg (show ¬j.val / 1024 = 0 by omega)).trans ?_
  by_cases h1 : j.val - 1024 < 1024
  · rw [dif_pos h1]
    refine (if_pos (show j.val / 1024 = 1 by omega)).trans ?_
    refine (dv_strip _ _ _ _ _ _ _ (fun r => A.gv (brow t (srow (kOf k0_t3_loop.trips trips3 i).val hi r))) A.g
      (fun r j => s3_apply _ (fun i j => A.dv (brow t i) j) (dvBlk_apply H) (kOf _ trips3 i) hi r j)
      (fun r j => s3_apply _ (fun i j => A.n (brow t i) j) (n2Blk_apply H) (kOf _ trips3 i) hi r j)
      (fun r => (window_ix2 (rsBlk x0) _ _ _ _ (Gen.k0_off9_eq (kOf _ trips3 i)) r 0 (by show 16 * (i.val / 16) + r.val < 256; omega) (by decide)).trans (rsBlk_apply H (srow _ hi r) _))
      H.g (fun r j => s3_apply _ (fun i j => slp (A.v (brow t i) j)) (dgBlk_apply H) (kOf _ trips3 i) hi r j) _ _).trans ?_
    rw [e3, show (⟨j.val % 1024, Nat.mod_lt _ (by decide)⟩ : Fin 1024) = ⟨j.val - 1024, h1⟩ from Fin.ext (by show j.val % 1024 = j.val - 1024; omega)]
    rfl
  · rw [dif_neg h1]
    refine (if_neg (show ¬j.val / 1024 = 1 by omega)).trans ?_
    refine (dz_strip _ _ _ _ (fun r j => sU_apply H (kOf _ trips2 i) hi r j) (fun r j => sZ_apply H (kOf _ trips2 i) hi r j) _ _ _ _
      (fun r j => s2_apply x1 (fun i j => A.dy (brow t i) j) H.dy (kOf _ trips2 i) hi r j)
      (fun r j => s2_apply _ (fun i j => A.s (brow t i) j) (sBlk_apply H) (kOf _ trips2 i) hi r j) _ _).trans ?_
    rw [e2, show (⟨j.val % 1024, Nat.mod_lt _ (by decide)⟩ : Fin 1024) = ⟨j.val - 2048, by omega⟩ from Fin.ext (by show j.val % 1024 = j.val - 2048; omega)]
    rfl

end Cert.BKernelIdeal

end
-- ==== Proof.B.Acc.lean ====
module

public import proofs.«01_k».proof.Proof.B.Blk

@[expose] public section

set_option maxRecDepth 16384

noncomputable section

/-! # The kernel's running sums: over the strips of a block, the tiles of a block, the lanes of a head -/

namespace Step

open scoped BigOperators

/-- Sixteen interleaved sums make the whole sum. -/
theorem sum_bands (φ : ℕ → ℝ) (S : ℕ) : ∑ r ∈ Finset.range 16, ∑ s ∈ Finset.range S, φ (16 * s + r) = ∑ i ∈ Finset.range (16 * S), φ i := by
  induction S with
  | zero => simp
  | succ S ih =>
    rw [show 16 * (S + 1) = 16 * S + 16 by omega, Finset.sum_range_add, ← ih, ← Finset.sum_add_distrib]
    exact Finset.sum_congr rfl fun r _ => Finset.sum_range_succ _ _

/-- Of every eight terms only the `e`-th is kept. -/
theorem sum_eighth (χ : ℕ → ℝ) (e : ℕ) (he : e < 8) (C : ℕ) :
    ∑ s ∈ Finset.range (8 * C), (if s % 8 = e then χ s else 0) = ∑ c ∈ Finset.range C, χ (8 * c + e) := by
  induction C with
  | zero => simp
  | succ C ih =>
    rw [show 8 * (C + 1) = 8 * C + 8 by omega, Finset.sum_range_add, ih, Finset.sum_range_succ (fun c => χ (8 * c + e)) C]
    refine congrArg _ ?_
    rw [Finset.sum_eq_single e]
    · rw [if_pos (by omega)]
    · intro q hq hne
      have := Finset.mem_range.mp hq
      exact if_neg (by omega)
    · intro h
      exact absurd (Finset.mem_range.mpr he) h

end Step

namespace Cert.BKernelIdeal

open Idealize.ShloMosaic Idealize.ShloMosaic.TcCoe Idealize.ShloMosaic.Tactic
open Step Step.B
open scoped BigOperators

section Put

variable {α : Type}

theorem put_ix2_in {n0 n1 m0 m1 : ℕ} (x : (⟨2, ![n0, n1]⟩ : Shape).Idx → α) (off : Fin 2 → ℕ) (p q : ℕ) (e : off = ![p, q]) (w : (⟨2, ![m0, m1]⟩ : Shape).Idx → α)
    (i : Fin n0) (j : Fin n1) (r : Fin m0) (l : Fin m1) (hr : i.val = p + r.val) (hl : j.val = q + l.val) :
    VecWindow.put (s := ⟨2, ![n0, n1]⟩) x off (⟨2, ![m0, m1]⟩ : Shape).size w (ix2 i j) = w (ix2 r l) := by
  subst e
  unfold VecWindow.put
  have h : ∀ a : Fin 2, (![p, q] : Fin 2 → ℕ) a ≤ (ix2 i j a).val ∧ (ix2 i j a).val < (![p, q] : Fin 2 → ℕ) a + (⟨2, ![m0, m1]⟩ : Shape).size a := fun a => by
    fin_cases a
    · show p ≤ i.val ∧ i.val < p + m0
      omega
    · show q ≤ j.val ∧ j.val < q + m1
      omega
  refine (dif_pos h).trans (congrArg w (funext fun a => Fin.ext ?_))
  fin_cases a
  · show i.val - p = r.val
    omega
  · show j.val - q = l.val
    omega

theorem put_ix2_out {n0 n1 m0 m1 : ℕ} (x : (⟨2, ![n0, n1]⟩ : Shape).Idx → α) (off : Fin 2 → ℕ) (p q : ℕ) (e : off = ![p, q]) (w : (⟨2, ![m0, m1]⟩ : Shape).Idx → α)
    (i : Fin n0) (j : Fin n1) (h : i.val < p ∨ p + m0 ≤ i.val) :
    VecWindow.put (s := ⟨2, ![n0, n1]⟩) x off (⟨2, ![m0, m1]⟩ : Shape).size w (ix2 i j) = x (ix2 i j) := by
  subst e
  unfold VecWindow.put
  refine dif_neg fun h' => ?_
  have h0 : p ≤ i.val ∧ i.val < p + m0 := h' 0
  omega

end Put

theorem dg_add (v n a : Vec Ideal S16x1024 .f32) (r : Fin 16) (j : Fin 1024) : Gen.k0_pay18 v n a (ix2 r j) = a (ix2 r j) + v (ix2 r j) * n (ix2 r j) := by
  pointwise [Gen.k0_pay18]

theorem db_add (v a : Vec Ideal S16x1024 .f32) (r : Fin 16) (j : Fin 1024) : Gen.k0_pay19 v a (ix2 r j) = a (ix2 r j) + v (ix2 r j) := by
  pointwise [Gen.k0_pay19]

theorem gb_add (d : FVec Ideal S16x1024 .f32) (a : Vec Ideal S16x1024 .f32) (r : Fin 16) (j : Fin 1024) : Gen.k0_pay66 d a (ix2 r j) = a (ix2 r j) + d (ix2 r j) := by
  pointwise [Gen.k0_pay66]

theorem dg_sum (a : Vec Ideal S16x1024 .f32) (j : Fin 1024) : Gen.k0_pay21 a (ix2 0 j) = ∑ r : Fin 16, a (ix2 r j) := by
  pointwise [Gen.k0_pay21]

theorem db_sum (a : Vec Ideal S16x1024 .f32) (j : Fin 1024) : Gen.k0_pay22 a (ix2 0 j) = ∑ r : Fin 16, a (ix2 r j) := by
  pointwise [Gen.k0_pay22]

theorem st_zero (i : Fin 8) (j : Fin 1024) : Gen.k0_pay38 (F := Ideal) (ix2 i j) = ((0 : ℝ) : EReal) := bits_zero

theorem gb_zero (i : Fin 128) (j : Fin 1024) : Gen.k0_pay40 (F := Ideal) (ix2 i j) = ((0 : ℝ) : EReal) := by
  pointwise [Gen.k0_pay40]
  exact EReal.coe_zero.symm

theorem gw_zero (y : S8x128x128.Idx) : Gen.k0_pay41 (F := Ideal) y = ((0 : ℝ) : EReal) := bits_zero

theorem ac_zero (i : Fin 32) (j : Fin 1024) : Gen.k0_pay42 (F := Ideal) (ix2 i j) = ((0 : ℝ) : EReal) := by
  pointwise [Gen.k0_pay42]
  exact EReal.coe_zero.symm

/-! ## The sums over the strips -/

section Strips

variable (n2 dv : Vec Ideal S256x1024 .f32) (N V : Fin 256 → Fin 1024 → ℝ) (hn : ∀ i j, n2 (ix2 i j) = (N i j : EReal)) (hv : ∀ i j, dv (ix2 i j) = (V i j : EReal))
  (a : Vec Ideal S32x1024 .f32) (j : Fin 1024) (T : ℕ) (φ χ : ℕ → ℝ)
  (hφ : ∀ i : Fin 256, V i j * N i j = φ (256 * T + i.val)) (hχ : ∀ i : Fin 256, V i j = χ (256 * T + i.val))
include hn hv hφ hχ

theorem acFold_apply (r : Fin 16) (h0 : a (ix2 ⟨r.val, by omega⟩ j) = ((∑ s ∈ Finset.range (16 * T), φ (16 * s + r.val) : ℝ) : EReal))
    (h1 : a (ix2 ⟨16 + r.val, by omega⟩ j) = ((∑ s ∈ Finset.range (16 * T), χ (16 * s + r.val) : ℝ) : EReal)) (n : ℕ) (h : n ≤ 16) :
    Step.fold k0_t3_loop.trips (acStep n2 dv) a n (ix2 ⟨r.val, by omega⟩ j) = ((∑ s ∈ Finset.range (16 * T + n), φ (16 * s + r.val) : ℝ) : EReal)
      ∧ Step.fold k0_t3_loop.trips (acStep n2 dv) a n (ix2 ⟨16 + r.val, by omega⟩ j) = ((∑ s ∈ Finset.range (16 * T + n), χ (16 * s + r.val) : ℝ) : EReal) := by
  induction n with
  | zero => exact ⟨h0, h1⟩
  | succ n ih =>
    have hk : n < 16 := h
    obtain ⟨i0, i1⟩ := ih (by omega)
    rw [Step.fold_succ _ _ _ _ (show n < k0_t3_loop.trips from by rw [trips3]; exact hk)]
    have e : 256 * T + (srow n hk r).val = 16 * (16 * T + n) + r.val := by show 256 * T + (16 * n + r.val) = _; omega
    have f0 := hφ (srow n hk r)
    have f1 := hχ (srow n hk r)
    rw [e] at f0 f1
    refine ⟨?_, ?_⟩
    · refine (put_ix2_out _ ![16, 0] 16 0 rfl _ (⟨r.val, by omega⟩ : Fin 32) j (.inl r.isLt)).trans ?_
      refine (put_ix2_in _ ![0, 0] 0 0 rfl _ (⟨r.val, by omega⟩ : Fin 32) j r j (Nat.zero_add _).symm (Nat.zero_add _).symm).trans ?_
      rw [dg_add, s3_apply dv V hv _ hk, s3_apply n2 N hn _ hk]
      unfold band
      rw [window_ix2 _ _ _ 0 0 rfl r j (by omega) (by omega)]
      rw [show (⟨0 + r.val, by omega⟩ : Fin 32) = ⟨r.val, by omega⟩ from Fin.ext (Nat.zero_add _), show (⟨0 + j.val, by omega⟩ : Fin 1024) = j from Fin.ext (Nat.zero_add _), i0]
      rw [← EReal.coe_mul, ← EReal.coe_add, ← Nat.add_assoc, Finset.sum_range_succ, f0]
    · refine (put_ix2_in _ ![16, 0] 16 0 rfl _ (⟨16 + r.val, by omega⟩ : Fin 32) j r j rfl (Nat.zero_add _).symm).trans ?_
      rw [db_add, s3_apply dv V hv _ hk]
      unfold band
      rw [window_ix2 _ _ _ 16 0 rfl r j (by omega) (by omega)]
      rw [show (⟨0 + j.val, by omega⟩ : Fin 1024) = j from Fin.ext (Nat.zero_add _), i1]
      rw [← EReal.coe_add, ← Nat.add_assoc, Finset.sum_range_succ, f1]

theorem acBlk_apply (r : Fin 16) (h0 : a (ix2 ⟨r.val, by omega⟩ j) = ((∑ s ∈ Finset.range (16 * T), φ (16 * s + r.val) : ℝ) : EReal))
    (h1 : a (ix2 ⟨16 + r.val, by omega⟩ j) = ((∑ s ∈ Finset.range (16 * T), χ (16 * s + r.val) : ℝ) : EReal)) :
    acBlk n2 dv a (ix2 ⟨r.val, by omega⟩ j) = ((∑ s ∈ Finset.range (16 * (T + 1)), φ (16 * s + r.val) : ℝ) : EReal)
      ∧ acBlk n2 dv a (ix2 ⟨16 + r.val, by omega⟩ j) = ((∑ s ∈ Finset.range (16 * (T + 1)), χ (16 * s + r.val) : ℝ) : EReal) := by
  rw [show 16 * (T + 1) = 16 * T + k0_t3_loop.trips from by rw [trips3]; omega]
  exact acFold_apply n2 dv N V hn hv a j T φ χ hφ hχ r h0 h1 _ (le_of_eq trips3)

end Strips

theorem off7_at : ∀ k : Fin k0_t2_loop.trips, k0_off7 k 0 = 16 * (k.val % 8) ∧ k0_off7 k 1 = 0 := by decide +kernel

theorem off7_eq (k : Fin k0_t2_loop.trips) : k0_off7 k = ![16 * (k.val % 8), 0] := by
  funext a
  fin_cases a
  · exact (off7_at k).1
  · exact (off7_at k).2

section Table

variable {A : Arg} {t : Fin 16} {x0 : Vec Ideal S256x3072 .bf16} {x1 : Vec Ideal S256x1024 .f32} {x2 x3 : Vec Ideal S8x128x128 .bf16}
  {x4 : Vec Ideal S128x1024 .f32} {x5 x6 : Vec Ideal S1x1024 .f32} (H : Blk A t x0 x1 x2 x3 x4 x5 x6)
  (q : Vec Ideal S128x1024 .f32) (j : Fin 1024) (φ : ℕ → ℝ) (hφ : ∀ i : Fin 4096, A.ds i j = φ i.val)
include H hφ

/-- The table of the summed gradients, a row for every place in a chunk: a strip adds to sixteen of its rows. -/
theorem gbFold_apply (a : Fin 128) (h0 : q (ix2 a j) = ((∑ s ∈ Finset.range (16 * t.val), (if s % 8 = a.val / 16 then φ (16 * s + a.val % 16) else 0) : ℝ) : EReal))
    (n : ℕ) (h : n ≤ 16) : Step.fold k0_t2_loop.trips (gbStep x0 x1) q n (ix2 a j)
      = ((∑ s ∈ Finset.range (16 * t.val + n), (if s % 8 = a.val / 16 then φ (16 * s + a.val % 16) else 0) : ℝ) : EReal) := by
  induction n with
  | zero => exact h0
  | succ n ih =>
    have hk : n < 16 := h
    have i0 := ih (by omega)
    rw [Step.fold_succ _ _ _ _ (show n < k0_t2_loop.trips from by rw [trips2]; exact hk)]
    rw [← Nat.add_assoc, Finset.sum_range_succ]
    by_cases e : a.val / 16 = n % 8
    · rw [if_pos (show (16 * t.val + n) % 8 = a.val / 16 by omega)]
      refine (put_ix2_in _ _ (16 * (n % 8)) 0 (off7_eq ⟨n, _⟩) _ a j (⟨a.val % 16, Nat.mod_lt _ (by decide)⟩ : Fin 16) j (by show a.val = 16 * (n % 8) + a.val % 16; omega) (Nat.zero_add _).symm).trans ?_
      rw [gb_add, ds16_apply H _ hk]
      rw [window_ix2 _ _ _ (16 * (n % 8)) 0 (off7_eq ⟨n, _⟩) _ j (by show 16 * (n % 8) + a.val % 16 < 128; omega) (by omega)]
      rw [show (⟨16 * (n % 8) + a.val % 16, by omega⟩ : Fin 128) = a from Fin.ext (by show 16 * (n % 8) + a.val % 16 = a.val; omega),
        show (⟨0 + j.val, by omega⟩ : Fin 1024) = j from Fin.ext (Nat.zero_add _), i0, hφ, ← EReal.coe_add]
      rw [show (brow t (srow n hk ⟨a.val % 16, Nat.mod_lt _ (by decide)⟩)).val = 16 * (16 * t.val + n) + a.val % 16 from by
        show 256 * t.val + (16 * n + a.val % 16) = _
        omega]
    · rw [if_neg (show ¬(16 * t.val + n) % 8 = a.val / 16 by omega), add_zero]
      refine (put_ix2_out _ _ (16 * (n % 8)) 0 (off7_eq ⟨n, _⟩) _ a j (by show a.val < 16 * (n % 8) ∨ 16 * (n % 8) + 16 ≤ a.val; omega)).trans i0

theorem gbBlk_apply (a : Fin 128) (h0 : q (ix2 a j) = ((∑ s ∈ Finset.range (16 * t.val), (if s % 8 = a.val / 16 then φ (16 * s + a.val % 16) else 0) : ℝ) : EReal)) :
    gbBlk x0 x1 q (ix2 a j) = ((∑ s ∈ Finset.range (16 * (t.val + 1)), (if s % 8 = a.val / 16 then φ (16 * s + a.val % 16) else 0) : ℝ) : EReal) := by
  rw [show 16 * (t.val + 1) = 16 * t.val + k0_t2_loop.trips from by rw [trips2]; omega]
  exact gbFold_apply H q j φ hφ a h0 _ (le_of_eq trips2)

end Table

section Heads

variable {A : Arg} {t : Fin 16} {x0 : Vec Ideal S256x3072 .bf16} {x1 : Vec Ideal S256x1024 .f32} {x2 x3 : Vec Ideal S8x128x128 .bf16}
  {x4 : Vec Ideal S128x1024 .f32} {x5 x6 : Vec Ideal S1x1024 .f32} (H : Blk A t x0 x1 x2 x3 x4 x5 x6)
  (w : Vec Ideal S8x128x128 .f32) (k : Fin 8) (a b : Fin 128) (χ : ℕ → ℝ)
  (hχ : ∀ c : Fin 32, ∑ l : Fin 128, A.ds (row c a) (col k l) * A.vb (row c b) (col k l) = χ c.val)
include H hχ

/-- The gradient of the mixing matrices: every tile adds its chunk's product to one head. -/
theorem gwFold_apply (h0 : w (ix3 k a b) = ((∑ s ∈ Finset.range (16 * t.val), (if s % 8 = k.val then χ (s / 8) else 0) : ℝ) : EReal)) (n : ℕ) (h : n ≤ 16) :
    Step.fold 16 (gwStep (dsBlk x0 x1) (vbBlk x0 x5 x6)) w n (ix3 k a b) = ((∑ s ∈ Finset.range (16 * t.val + n), (if s % 8 = k.val then χ (s / 8) else 0) : ℝ) : EReal) := by
  induction n with
  | zero => exact h0
  | succ n ih =>
    have hk : n < 16 := h
    have i0 := ih (by omega)
    rw [← headW_ix (Step.fold 16 (gwStep (dsBlk x0 x1) (vbBlk x0 x5 x6)) w n) k a b] at i0
    rw [← headW_ix (Step.fold 16 (gwStep (dsBlk x0 x1) (vbBlk x0 x5 x6)) w (n + 1)) k a b]
    rw [gw_fold_head _ _ _ _ hk, ← Nat.add_assoc, Finset.sum_range_succ]
    by_cases e : k.val = n % 8
    · have ek : k = ⟨n % 8, Nat.mod_lt _ (by decide)⟩ := Fin.ext e
      rw [if_pos ek, if_pos (show (16 * t.val + n) % 8 = k.val by omega), ← ek, gw_tile, i0]
      simp only [tileW_ix]
      simp only [dsBlk_apply H, vbBlk_apply H]
      simp only [← EReal.coe_mul]
      rw [← coe_sum, ← EReal.coe_add]
      refine congrArg Real.toEReal (congrArg _ ?_)
      have hc := hχ ⟨2 * t.val + n / 8, by omega⟩
      rw [show (16 * t.val + n) / 8 = 2 * t.val + n / 8 by omega, ← hc]
      refine Finset.sum_congr rfl fun l _ => congrArg₂ (· * ·) (congrArg₂ A.ds (Fin.ext ?_) (Fin.ext ?_)) (congrArg₂ A.vb (Fin.ext ?_) (Fin.ext ?_))
      · show 256 * t.val + (128 * (n / 8) + a.val) = (2 * t.val + n / 8) * 128 + a.val
        omega
      · show 128 * k.val + l.val = k.val * 128 + l.val
        omega
      · show 256 * t.val + (128 * (n / 8) + b.val) = (2 * t.val + n / 8) * 128 + b.val
        omega
      · show 128 * k.val + l.val = k.val * 128 + l.val
        omega
    · rw [if_neg (fun ek => e (congrArg Fin.val ek)), if_neg (show ¬(16 * t.val + n) % 8 = k.val by omega), add_zero]
      exact i0

theorem gwBlk_apply (h0 : w (ix3 k a b) = ((∑ s ∈ Finset.range (16 * t.val), (if s % 8 = k.val then χ (s / 8) else 0) : ℝ) : EReal)) :
    gwBlk (dsBlk x0 x1) (vbBlk x0 x5 x6) w (ix3 k a b) = ((∑ s ∈ Finset.range (16 * (t.val + 1)), (if s % 8 = k.val then χ (s / 8) else 0) : ℝ) : EReal) :=
  gwFold_apply H w k a b χ hχ h0 16 le_rfl

end Heads

/-! ## The last point's sums -/

theorem stFinal_apply (a : Vec Ideal S32x1024 .f32) (i : Fin 8) (j : Fin 1024) :
    stFinal a (Gen.k0_pay38 (F := Ideal)) (ix2 i j) = if i.val = 0 then ∑ r : Fin 16, a (ix2 ⟨r.val, by omega⟩ j)
      else if i.val = 1 then ∑ r : Fin 16, a (ix2 ⟨16 + r.val, by omega⟩ j) else ((0 : ℝ) : EReal) := by
  unfold stFinal
  by_cases h1 : i.val = 1
  · rw [if_neg (by omega), if_pos h1]
    refine (put_ix2_in _ ![1, 0] 1 0 rfl _ i j (0 : Fin 1) j h1 (Nat.zero_add _).symm).trans ((db_sum _ j).trans (Finset.sum_congr rfl fun r _ => ?_))
    refine (window_ix2 _ _ _ 16 0 rfl r j (by omega) (by omega)).trans ?_
    rw [show (⟨0 + j.val, by omega⟩ : Fin 1024) = j from Fin.ext (Nat.zero_add _)]
  refine (put_ix2_out _ ![1, 0] 1 0 rfl _ i j (by omega)).trans ?_
  by_cases h0 : i.val = 0
  · rw [if_pos h0]
    refine (put_ix2_in _ ![0, 0] 0 0 rfl _ i j (0 : Fin 1) j h0 (Nat.zero_add _).symm).trans ((dg_sum _ j).trans (Finset.sum_congr rfl fun r _ => ?_))
    refine (window_ix2 _ _ _ 0 0 rfl r j (by omega) (by omega)).trans ?_
    rw [show (⟨0 + j.val, by omega⟩ : Fin 1024) = j from Fin.ext (Nat.zero_add _), show (⟨0 + r.val, by omega⟩ : Fin 32) = ⟨r.val, by omega⟩ from Fin.ext (Nat.zero_add _)]
  · rw [if_neg h0, if_neg h1]
    exact (put_ix2_out _ ![0, 0] 0 0 rfl _ i j (by omega)).trans (st_zero i j)

theorem sel_if {α : Type} (e : Fin 128) (k : ℕ) (h : k < 8) (x y : α) :
    Scalar.select (IntOp.cmpi CmpIPredicate.eq (BitVec.ofNat 32 e.val) (BitVec.ofNat 32 k)) x y = if e.val = k then x else y := by
  have key : ∀ (e : Fin 128) (k : Fin 8), IntOp.cmpi CmpIPredicate.eq (BitVec.ofNat 32 e.val) (BitVec.ofNat 32 k.val) = if e.val = k.val then 1#1 else 0#1 := by decide +kernel
  rw [key e ⟨k, h⟩]
  by_cases c : e.val = k
  · rw [if_pos c, if_pos c]
    rfl
  · rw [if_neg c, if_neg c]
    rfl

theorem gbFinal_apply (q : Vec Ideal S128x1024 .f32) (a e : Fin 128) :
    gbFinal q (ix2 a e) = if h : e.val < 8 then ∑ l : Fin 128, q (ix2 a ⟨128 * e.val + l.val, by omega⟩) else ((0 : ℝ) : EReal) := by
  unfold gbFinal
  pointwise [Gen.k0_pay2, Gen.k0_pay34, Gen.k0_pay35, Gen.k0_pay36, Gen.k0_pay37]
  rw [sel_if e 7 (by decide), sel_if e 6 (by decide), sel_if e 5 (by decide), sel_if e 4 (by decide), sel_if e 3 (by decide), sel_if e 2 (by decide), sel_if e 1 (by decide),
    sel_if e 0 (by decide)]
  by_cases h : e.val < 8
  · rw [dif_pos h]
    rcases (by omega : e.val = 0 ∨ e.val = 1 ∨ e.val = 2 ∨ e.val = 3 ∨ e.val = 4 ∨ e.val = 5 ∨ e.val = 6 ∨ e.val = 7) with he | he | he | he | he | he | he | he
    · rw [if_neg (by omega), if_neg (by omega), if_neg (by omega), if_neg (by omega), if_neg (by omega), if_neg (by omega), if_neg (by omega), if_pos he]
      exact Finset.sum_congr rfl fun l _ => (biasW_ix q 0 a l).trans (congrArg (fun n => q (ix2 a n)) (Fin.ext (by show 128 * 0 + l.val = 128 * e.val + l.val; omega)))
    · rw [if_neg (by omega), if_neg (by omega), if_neg (by omega), if_neg (by omega), if_neg (by omega), if_neg (by omega), if_pos he]
      exact Finset.sum_congr rfl fun l _ => (biasW_ix q 1 a l).trans (congrArg (fun n => q (ix2 a n)) (Fin.ext (by show 128 * 1 + l.val = 128 * e.val + l.val; omega)))
    · rw [if_neg (by omega), if_neg (by omega), if_neg (by omega), if_neg (by omega), if_neg (by omega), if_pos he]
      exact Finset.sum_congr rfl fun l _ => (biasW_ix q 2 a l).trans (congrArg (fun n => q (ix2 a n)) (Fin.ext (by show 128 * 2 + l.val = 128 * e.val + l.val; omega)))
    · rw [if_neg (by omega), if_neg (by omega), if_neg (by omega), if_neg (by omega), if_pos he]
      exact Finset.sum_congr rfl fun l _ => (biasW_ix q 3 a l).trans (congrArg (fun n => q (ix2 a n)) (Fin.ext (by show 128 * 3 + l.val = 128 * e.val + l.val; omega)))
    · rw [if_neg (by omega), if_neg (by omega), if_neg (by omega), if_pos he]
      exact Finset.sum_congr rfl fun l _ => (biasW_ix q 4 a l).trans (congrArg (fun n => q (ix2 a n)) (Fin.ext (by show 128 * 4 + l.val = 128 * e.val + l.val; omega)))
    · rw [if_neg (by omega), if_neg (by omega), if_pos he]
      exact Finset.sum_congr rfl fun l _ => (biasW_ix q 5 a l).trans (congrArg (fun n => q (ix2 a n)) (Fin.ext (by show 128 * 5 + l.val = 128 * e.val + l.val; omega)))
    · rw [if_neg (by omega), if_pos he]
      exact Finset.sum_congr rfl fun l _ => (biasW_ix q 6 a l).trans (congrArg (fun n => q (ix2 a n)) (Fin.ext (by show 128 * 6 + l.val = 128 * e.val + l.val; omega)))
    · rw [if_pos he]
      exact Finset.sum_congr rfl fun l _ => (biasW_ix q 7 a l).trans (congrArg (fun n => q (ix2 a n)) (Fin.ext (by show 128 * 7 + l.val = 128 * e.val + l.val; omega)))
  · rw [dif_neg h, if_neg (by omega), if_neg (by omega), if_neg (by omega), if_neg (by omega), if_neg (by omega), if_neg (by omega), if_neg (by omega), if_neg (by omega)]
    exact EReal.coe_zero.symm

theorem gwFinal_apply (w : Vec Ideal S8x128x128 .f32) (h : Fin 8) (a b : Fin 128) : gwFinal w (ix3 h a b) = if b ≤ a then w (ix3 h a b) else ((0 : ℝ) : EReal) := by
  rw [← headW_ix (gwFinal w) h a b, gwFinal_head, mask_tile, headW_ix]
  rfl

end Cert.BKernelIdeal

end
-- ==== Proof.B.RVal.lean ====
module

public import proofs.«01_k».proof.Proof.Gen.BReferenceIdeal.Run
public import proofs.«01_k».proof.Proof.Gen.BReferenceIdeal.Read
public import proofs.«01_k».proof.Proof.B.Spec
public import Idealize.ShloMosaic.Lib.Pointwise

@[expose] public section

set_option maxRecDepth 16384

noncomputable section

/-! # The arrays that the reference leaves, where its arguments are real -/

namespace Cert.BReferenceIdeal

open Idealize.ShloMosaic Idealize.ShloMosaic.TcCoe Idealize.ShloMosaic.Tactic
open Idealize.SL.Sem
open Cert.BReferenceIdeal.Read
open Step Step.B
open scoped BigOperators

variable (x0 : (⟨S4096x8192, .bf16⟩ : BufTy).Contents (Elt Ideal)) (x1 : (⟨S4096x1024, .f32⟩ : BufTy).Contents (Elt Ideal))
  (x2 : (⟨S4096x8192, .bf16⟩ : BufTy).Contents (Elt Ideal)) (x3 : (⟨S8x128x128, .f32⟩ : BufTy).Contents (Elt Ideal))
  (x4 : (⟨S8x128, .f32⟩ : BufTy).Contents (Elt Ideal)) (x5 x6 : (⟨S1x1024, .f32⟩ : BufTy).Contents (Elt Ideal)) (A : Arg)

/-- The arguments hold the reals of `A`. -/
structure Holds : Prop where
  u : ∀ r j, x0 (ix2 r ⟨3072 + j.val, by have := j.isLt; omega⟩) = (A.u r j : EReal)
  v : ∀ r j, x0 (ix2 r ⟨4096 + j.val, by have := j.isLt; omega⟩) = (A.v r j : EReal)
  z : ∀ r j, x0 (ix2 r ⟨5120 + j.val, by have := j.isLt; omega⟩) = (A.z r j : EReal)
  dy : ∀ r j, x1 (ix2 r j) = (A.dy r j : EReal)
  w : ∀ h a b, x3 (ix3 h a b) = (A.w h a b : EReal)
  bs : ∀ h a, x4 (ix2 h a) = (A.bs h a : EReal)
  g : ∀ j, x5 (ix2 0 j) = (A.g j : EReal)
  b : ∀ j, x6 (ix2 0 j) = (A.b j : EReal)

variable (H : Holds x0 x1 x3 x4 x5 x6 A)
include H

theorem u_apply (r : Fin 4096) (j : Fin 1024) : val_main_v1 (F := Ideal) x0 (ix2 r j) = (A.u r j : EReal) := by
  pointwise [val_main_v1, val_main_v0]
  exact H.u r j

theorem v_apply (r : Fin 4096) (j : Fin 1024) : val_main_v3 (F := Ideal) x0 (ix2 r j) = (A.v r j : EReal) := by
  pointwise [val_main_v3, val_main_v2]
  exact H.v r j

theorem z_apply (r : Fin 4096) (j : Fin 1024) : val_main_v5 (F := Ideal) x0 (ix2 r j) = (A.z r j : EReal) := by
  pointwise [val_main_v5, val_main_v4]
  exact H.z r j

theorem arg_apply (r : Fin 4096) (j : Fin 1024) : val_main_v11 (F := Ideal) x0 (ix2 r j) = ((-A.u r j * (Real.sqrt 2)⁻¹ : ℝ) : EReal) := by
  pointwise [val_main_v11, val_main_v10, val_main_v8, val_main_v9, val_main_cst_0]
  rw [u_apply x0 x1 x3 x4 x5 x6 A H, bits_half, sqrt_half, ← EReal.coe_neg, ← EReal.coe_mul]

theorem argv_apply (r : Fin 4096) (j : Fin 1024) : val_main_v22 (F := Ideal) x0 (ix2 r j) = ((-A.v r j * (Real.sqrt 2)⁻¹ : ℝ) : EReal) := by
  pointwise [val_main_v22, val_main_v21, val_main_v19, val_main_v20, val_main_cst_2]
  rw [v_apply x0 x1 x3 x4 x5 x6 A H, bits_half, sqrt_half, ← EReal.coe_neg, ← EReal.coe_mul]

theorem gu_apply (r : Fin 4096) (j : Fin 1024) : val_main_v16 (F := Ideal) x0 (ix2 r j) = (gel (A.u r j) : EReal) := by
  pointwise [val_main_v16, val_main_v7, val_main_v6, val_main_v12, val_main_cst]
  rw [u_apply x0 x1 x3 x4 x5 x6 A H, arg_apply x0 x1 x3 x4 x5 x6 A H, bits_half, erfc_coe, ← EReal.coe_mul, ← EReal.coe_mul, gel_eq]

theorem gv_apply (r : Fin 4096) (j : Fin 1024) : val_main_v27 (F := Ideal) x0 (ix2 r j) = (A.gv r j : EReal) := by
  pointwise [val_main_v27, val_main_v18, val_main_v17, val_main_v23, val_main_cst_1]
  rw [v_apply x0 x1 x3 x4 x5 x6 A H, argv_apply x0 x1 x3 x4 x5 x6 A H, bits_half, erfc_coe, ← EReal.coe_mul, ← EReal.coe_mul, gel_eq]
  rfl

theorem cen_apply (r : Fin 4096) (j : Fin 1024) : val_main_v33 (F := Ideal) x0 (ix2 r j) = (cen (A.gv r) j : EReal) := by
  pointwise [val_main_v33, val_main_v32, val_main_v31, val_main_v30, val_main_v29, val_main_v28, val_main_cst_3, val_main_cst_4]
  simp only [gv_apply x0 x1 x3 x4 x5 x6 A H]
  rw [div_1024, ← coe_sum, ← EReal.coe_mul, ← EReal.coe_sub]
  rfl

theorem var_apply (r : Fin 4096) : val_main_v40 (F := Ideal) x0 (ix2 r 0) = (var (A.gv r) : EReal) := by
  pointwise [val_main_v40, val_main_v39, val_main_v38, val_main_v37, val_main_v36, val_main_v35, val_main_v34, val_main_cst_5, val_main_cst_6, val_main_cst_7]
  simp only [cen_apply x0 x1 x3 x4 x5 x6 A H]
  simp only [← EReal.coe_mul]
  rw [div_1024, coe_eps, ← coe_sum, ← EReal.coe_mul, ← EReal.coe_add]
  rfl

theorem rst_apply (r : Fin 4096) : val_main_v41 (F := Ideal) x0 (ix2 r 0) = (rst (A.gv r) : EReal) := by
  pointwise [val_main_v41]
  rw [var_apply x0 x1 x3 x4 x5 x6 A H]
  exact rsqrt_coe (var_pos _)

theorem n_apply (r : Fin 4096) (j : Fin 1024) : val_main_v46 (F := Ideal) x0 (ix2 r j) = (A.n r j : EReal) := by
  pointwise [val_main_v46, val_main_v45]
  rw [cen_apply x0 x1 x3 x4 x5 x6 A H, rst_apply x0 x1 x3 x4 x5 x6 A H]
  rfl

theorem vb_apply (r : Fin 4096) (j : Fin 1024) : val_main_v50 (F := Ideal) x0 x5 x6 (ix2 r j) = (A.vb r j : EReal) := by
  pointwise [val_main_v50, val_main_v49, val_main_v48, val_main_v47]
  rw [n_apply x0 x1 x3 x4 x5 x6 A H, H.g, H.b]
  rfl

theorem vbc_apply (c : Fin 32) (b : Fin 128) (h : Fin 8) (l : Fin 128) :
    val_main_v51 (F := Ideal) x0 x5 x6 (ix4 c b h l) = (A.vb (row c b) (col h l) : EReal) := by
  pointwise [val_main_v51]
  exact vb_apply x0 x1 x3 x4 x5 x6 A H (row c b) (col h l)

theorem mask_apply (h : Fin 8) (a b : Fin 128) : val_main_v55_1 (F := Ideal) (ix3 h a b) = if b ≤ a then (1#1 : BitVec 1) else 0#1 := by
  pointwise [val_main_v55_1, val_main_v54, val_main_v53, val_main_call0_v4, val_main_v52, val_main_call0_v5, val_main_call0_v2, val_main_call0_v3, val_main_call0_v0, val_main_call0_v1, val_main_call0_c, val_main_call0_c_0, val_main_c]
  rw [show IntOp.addi (BitVec.ofNat 32 a.val) 0#32 = BitVec.ofNat 32 a.val from BitVec.add_zero _, causal]
  split <;> rfl

theorem w_apply (h : Fin 8) (a b : Fin 128) : val_main_v55_0 (F := Ideal) x3 (ix3 h a b) = (A.wm h a b : EReal) := by
  pointwise [val_main_v55_0, val_main_call1_v1, val_main_cst_9]
  rw [mask_apply x0 x1 x3 x4 x5 x6 A H, H.w]
  unfold Arg.wm
  by_cases h : b ≤ a
  · rw [if_pos h, if_pos h]
    rfl
  · rw [if_neg h, if_neg h]
    rfl

theorem s_apply (r : Fin 4096) (j : Fin 1024) : val_main_v63 (F := Ideal) x0 x3 x4 x5 x6 (ix2 r j) = (A.s r j : EReal) := by
  pointwise [val_main_v63, val_main_v62, val_main_v61, val_main_v60, val_main_v59, val_main_v58, val_main_v57, val_main_v56]
  simp only [vbc_apply x0 x1 x3 x4 x5 x6 A H, w_apply x0 x1 x3 x4 x5 x6 A H, H.bs]
  simp only [← EReal.coe_mul]
  show (∑ b : Fin 128, ((A.vb (row (chunk r) b) (col (head j) (lane j)) * A.wm (head j) (pos r) b : ℝ) : EReal)) + ((A.bs (head j) (pos r) : ℝ) : EReal) = _
  rw [← coe_sum, ← EReal.coe_add]
  refine congrArg Real.toEReal (congrArg₂ (· + ·) (Finset.sum_congr rfl fun b _ => ?_) rfl)
  rw [mul_comm]
  exact congrArg (fun l => A.wm (head j) (pos r) b * A.vb (row (chunk r) b) l) (col_eta j)

theorem lgs_apply (r : Fin 4096) (j : Fin 1024) : val_main_v65_2 (F := Ideal) x0 (ix2 r j) = (lgs (A.z r j) : EReal) := by
  pointwise [val_main_v65_2, val_main_call2_v4, val_main_call2_v3, val_main_call2_v2, val_main_call2_v1, val_main_call2_v0, val_main_call2_cst, val_main_call2_cst_0]
  rw [z_apply x0 x1 x3 x4 x5 x6 A H]
  have e : -A.z r j = 0 - A.z r j := (zero_sub _).symm
  rw [← EReal.coe_neg, e, exp_coe, ← EReal.coe_one, ← EReal.coe_add, div_coe_coe _ (lgs_den _)]
  rfl

theorem dy_apply (r : Fin 4096) (j : Fin 1024) : val_main_v68 (F := Ideal) x0 x1 (ix2 r j) = ((A.dy r j * sil (A.z r j) : ℝ) : EReal) := by
  pointwise [val_main_v68, val_main_v65_0]
  rw [z_apply x0 x1 x3 x4 x5 x6 A H, lgs_apply x0 x1 x3 x4 x5 x6 A H, H.dy, ← EReal.coe_mul, ← EReal.coe_mul]
  rfl

theorem ds_apply (r : Fin 4096) (j : Fin 1024) : val_main_v70 (F := Ideal) x0 x1 (ix2 r j) = (A.ds r j : EReal) := by
  pointwise [val_main_v70]
  rw [gu_apply x0 x1 x3 x4 x5 x6 A H, dy_apply x0 x1 x3 x4 x5 x6 A H, ← EReal.coe_mul]
  congr 1
  unfold Arg.ds
  ring

theorem dz_apply (r : Fin 4096) (j : Fin 1024) : val_main_v69 (F := Ideal) x0 x1 x3 x4 x5 x6 (ix2 r j) = (A.dz r j : EReal) := by
  pointwise [val_main_v69, val_main_call3_v1, val_main_call3_v2, val_main_call3_v0, val_main_v67, val_main_v64, val_main_v65_1, val_main_call2_v7, val_main_call2_v6, val_main_call2_cst_1]
  rw [gu_apply x0 x1 x3 x4 x5 x6 A H, s_apply x0 x1 x3 x4 x5 x6 A H, lgs_apply x0 x1 x3 x4 x5 x6 A H, z_apply x0 x1 x3 x4 x5 x6 A H, H.dy, ← EReal.coe_one]
  simp only [← EReal.coe_mul, ← EReal.coe_sub, ← EReal.coe_add]
  congr 1
  unfold Arg.dz
  ring

theorem dsc_apply (c : Fin 32) (a : Fin 128) (h : Fin 8) (l : Fin 128) :
    val_main_v72 (F := Ideal) x0 x1 (ix4 c a h l) = (A.ds (row c a) (col h l) : EReal) := by
  pointwise [val_main_v72]
  exact ds_apply x0 x1 x3 x4 x5 x6 A H (row c a) (col h l)

omit H in
/-- The concatenation along the columns, part by part. -/
theorem dpAt_of (x : Fin 4096 → Fin 8192 → EReal) (r : Fin 4096) (j : Fin 8192) (fu fv fz : Fin 1024 → EReal) (hu : ∀ k, fu k = (A.du r k : EReal))
    (hv : ∀ k, fv k = (A.dval r k : EReal)) (hz : ∀ k, fz k = (A.dz r k : EReal)) :
    (if _h : j.val < 3072 then x r j
      else if h : j.val - 3072 < 1024 then fu ⟨j.val - 3072, h⟩
      else if h : j.val - 3072 - 1024 < 1024 then fv ⟨j.val - 3072 - 1024, h⟩
      else if h : j.val - 3072 - 1024 - 1024 < 1024 then fz ⟨j.val - 3072 - 1024 - 1024, h⟩
      else x r ⟨6144 + (j.val - 3072 - 1024 - 1024 - 1024), by omega⟩) = A.dpAt x r j := by
  unfold Arg.dpAt
  simp only [hu, hv, hz, Nat.sub_sub, Nat.reduceAdd]
  split_ifs with h0 h1 h2 h3
  · rfl
  · rfl
  · rfl
  · rfl
  · exact congrArg (x r) (Fin.ext (by show 6144 + (j.val - 6144) = j.val; omega))

omit H in
theorem drop_iff (h : S32x128x8x128.ReducesTo [0, 3] S128x8) (a : Fin 128) (e : Fin 8) (i : S32x128x8x128.Idx) :
    h.drop i = ix2 a e ↔ ∃ k : Fin 32 × Fin 128, ix4 k.1 a e k.2 = i := by
  constructor
  · intro q
    have q0 := congrArg Fin.val (congrFun q 0)
    have q1 := congrArg Fin.val (congrFun q 1)
    refine ⟨(i 0, i 3), ?_⟩
    funext x
    apply Fin.ext
    match x with
    | ⟨0, _⟩ => rfl
    | ⟨1, _⟩ => exact q0.symm
    | ⟨2, _⟩ => exact q1.symm
    | ⟨3, _⟩ => rfl
  · rintro ⟨k, rfl⟩
    funext x
    apply Fin.ext
    match x with
    | ⟨0, _⟩ => rfl
    | ⟨1, _⟩ => rfl

theorem dbs0_apply (h : Fin 8) (a : Fin 128) : val_main_v73 (F := Ideal) x0 x1 (ix2 a h) = (A.dbs a h : EReal) := by
  pointwise [val_main_v73, val_main_cst_10]
  unfold Ideal.hostReduceAdd
  rw [zero_add]
  refine (Finset.sum_filter_eq_sum_of_fiber _ (fun k : Fin 32 × Fin 128 => ix4 k.1 a h k.2) (fun _ _ e => Prod.ext (congrFun e 0) (congrFun e 3)) (drop_iff _ a h) _).trans ?_
  simp only [Fintype.sum_prod_type, dsc_apply x0 x1 x3 x4 x5 x6 A H]
  simp only [← coe_sum]
  rfl

omit H in
theorem drop_iff' (h : S1x128x8x1.ReducesTo [0, 3] S128x8) (a : Fin 128) (e : Fin 8) (i : S1x128x8x1.Idx) :
    h.drop i = ix2 a e ↔ ∃ k : Fin 1 × Fin 1, ix4 k.1 a e k.2 = i := by
  constructor
  · intro q
    have q0 := congrArg Fin.val (congrFun q 0)
    have q1 := congrArg Fin.val (congrFun q 1)
    refine ⟨(i 0, i 3), ?_⟩
    funext x
    apply Fin.ext
    match x with
    | ⟨0, _⟩ => rfl
    | ⟨1, _⟩ => exact q0.symm
    | ⟨2, _⟩ => exact q1.symm
    | ⟨3, _⟩ => rfl
  · rintro ⟨k, rfl⟩
    funext x
    apply Fin.ext
    match x with
    | ⟨0, _⟩ => rfl
    | ⟨1, _⟩ => rfl

theorem dbs1_apply (h : Fin 8) (a : Fin 128) : val_main_v75 (F := Ideal) x0 x1 (ix2 a h) = (A.dbs a h : EReal) := by
  have e : val_main_v74 (F := Ideal) x0 x1 (ix4 0 a h 0) = (A.dbs a h : EReal) := by
    pointwise [val_main_v74]
    exact dbs0_apply x0 x1 x3 x4 x5 x6 A H h a
  pointwise [val_main_v75, val_main_cst_11]
  unfold Ideal.hostReduceAdd
  rw [zero_add]
  refine (Finset.sum_filter_eq_sum_of_fiber _ (fun k : Fin 1 × Fin 1 => ix4 k.1 a h k.2) (fun _ _ e => Prod.ext (congrFun e 0) (congrFun e 3)) (drop_iff' _ a h) _).trans ?_
  simp only [Fintype.sum_prod_type, Fin.sum_univ_one]
  exact e

theorem dbs_apply (h : Fin 8) (a : Fin 128) : val_main_v78 (F := Ideal) x0 x1 (ix2 h a) = (A.dbs a h : EReal) := by
  pointwise [val_main_v78, val_main_v77, val_main_v76, val_main_cst_12]
  simp only [Fin.sum_univ_one]
  exact dbs1_apply x0 x1 x3 x4 x5 x6 A H h a

theorem dw_apply (h : Fin 8) (a b : Fin 128) : val_main_v83 (F := Ideal) x0 x1 x5 x6 (ix3 h a b) = (A.dw h a b : EReal) := by
  pointwise [val_main_v83, val_main_v80, val_main_v79, val_main_call4_v0, val_main_call4_cst]
  simp only [dsc_apply x0 x1 x3 x4 x5 x6 A H, vbc_apply x0 x1 x3 x4 x5 x6 A H, mask_apply x0 x1 x3 x4 x5 x6 A H]
  simp only [← EReal.coe_mul, ← coe_sum]
  unfold Arg.dw
  by_cases h : b ≤ a
  · rw [if_pos h, if_pos h]
    rfl
  · rw [if_neg h, if_neg h]
    rfl

theorem dv_apply (r : Fin 4096) (j : Fin 1024) : val_main_v84 (F := Ideal) x0 x1 x3 (ix2 r j) = (A.dv r j : EReal) := by
  pointwise [val_main_v84, val_main_v82, val_main_v81, val_main_v79]
  simp only [dsc_apply x0 x1 x3 x4 x5 x6 A H, w_apply x0 x1 x3 x4 x5 x6 A H]
  simp only [← EReal.coe_mul]
  rw [← coe_sum]
  refine congrArg Real.toEReal (Finset.sum_congr rfl fun b _ => ?_)
  rw [mul_comm]
  exact congrArg (fun l => A.wm (head j) b (pos r) * A.ds (row (chunk r) b) l) (col_eta j)

theorem db_apply (j : Fin 1024) : val_main_v86 (F := Ideal) x0 x1 x3 (ix2 0 j) = (A.db j : EReal) := by
  pointwise [val_main_v86, val_main_v85, val_main_cst_13]
  simp only [dv_apply x0 x1 x3 x4 x5 x6 A H]
  rw [← coe_sum]
  rfl

theorem dg_apply (j : Fin 1024) : val_main_v89 (F := Ideal) x0 x1 x3 (ix2 0 j) = (A.dg j : EReal) := by
  pointwise [val_main_v89, val_main_v88, val_main_v87, val_main_cst_14]
  simp only [dv_apply x0 x1 x3 x4 x5 x6 A H, n_apply x0 x1 x3 x4 x5 x6 A H]
  simp only [← EReal.coe_mul]
  rw [← coe_sum]
  refine congrArg Real.toEReal (Finset.sum_congr rfl fun b _ => mul_comm _ _)

theorem dvg_apply (r : Fin 4096) (j : Fin 1024) : val_main_v91 (F := Ideal) x0 x1 x3 x5 (ix2 r j) = ((A.dv r j * A.g j : ℝ) : EReal) := by
  pointwise [val_main_v91, val_main_v90]
  rw [dv_apply x0 x1 x3 x4 x5 x6 A H, H.g, ← EReal.coe_mul]

/-- What the layer norm's derivative by the variance gives a row. -/
theorem q_apply (r : Fin 4096) : val_main_v100 (F := Ideal) x0 x1 x3 x5 (ix1 r)
    = (((∑ l, cen (A.gv r) l * (A.dv r l * A.g l)) * (-(1 / 2) * (rst (A.gv r) * (1 / var (A.gv r)))) * (1 / 1024) : ℝ) : EReal) := by
  pointwise [val_main_v100, val_main_v99, val_main_v98, val_main_v97, val_main_v94, val_main_v93, val_main_v92, val_main_v44, val_main_v43, val_main_v42, val_main_cst_8, val_main_cst_15, val_main_cst_16, val_main_cst_17]
  simp only [Fin.sum_univ_one, cen_apply x0 x1 x3 x4 x5 x6 A H, dvg_apply x0 x1 x3 x4 x5 x6 A H]
  rw [rst_apply x0 x1 x3 x4 x5 x6 A H, var_apply x0 x1 x3 x4 x5 x6 A H, bits_neg_half, div_1024, div_coe_coe _ (var_pos _).ne']
  simp only [← EReal.coe_mul]
  rw [← coe_sum]
  simp only [← EReal.coe_mul]

theorem e_apply (r : Fin 4096) (j : Fin 1024) (q : ℝ) (hq : val_main_v100 (F := Ideal) x0 x1 x3 x5 (ix1 r) = (q : EReal)) :
    val_main_v105 (F := Ideal) x0 x1 x3 x5 (ix2 r j) = ((A.dv r j * A.g j * rst (A.gv r) + cen (A.gv r) j * q + q * cen (A.gv r) j : ℝ) : EReal) := by
  pointwise [val_main_v105, val_main_v104, val_main_v103, val_main_v102, val_main_v101, val_main_v96, val_main_v95]
  rw [hq, cen_apply x0 x1 x3 x4 x5 x6 A H, dvg_apply x0 x1 x3 x4 x5 x6 A H, rst_apply x0 x1 x3 x4 x5 x6 A H]
  simp only [← EReal.coe_mul, ← EReal.coe_add]

theorem ln_apply (r : Fin 4096) (j : Fin 1024) :
    val_main_v113 (F := Ideal) x0 x1 x3 x5 (ix2 r j) = (lnGrad (A.gv r) (fun l => A.dv r l * A.g l) j : EReal) := by
  have hq := q_apply x0 x1 x3 x4 x5 x6 A H r
  pointwise [val_main_v113, val_main_v112, val_main_v111, val_main_v110, val_main_v109, val_main_v108, val_main_v107, val_main_v106, val_main_cst_18, val_main_cst_19, val_main_cst_20]
  simp only [Fin.sum_univ_one, e_apply x0 x1 x3 x4 x5 x6 A H r _ _ hq]
  simp only [← EReal.coe_neg]
  rw [div_1024, ← coe_sum, ← EReal.coe_mul, ← EReal.coe_add]
  exact congrArg Real.toEReal (lnGrad_eq (A.gv r) (fun l => A.dv r l * A.g l) j _ rfl)

theorem dval_apply (r : Fin 4096) (j : Fin 1024) : val_main_v124 (F := Ideal) x0 x1 x3 x5 (ix2 r j) = (A.dval r j : EReal) := by
  pointwise [val_main_v124, val_main_v123, val_main_v122, val_main_v121, val_main_v120, val_main_v119, val_main_v118, val_main_v117, val_main_v116, val_main_v115, val_main_v114, val_main_v18, val_main_v17, val_main_v20, val_main_v23, val_main_v24, val_main_v25, val_main_v26, val_main_cst_1, val_main_cst_2, val_main_cst_21, val_main_cst_22]
  rw [ln_apply x0 x1 x3 x4 x5 x6 A H, v_apply x0 x1 x3 x4 x5 x6 A H, argv_apply x0 x1 x3 x4 x5 x6 A H, bits_slope, bits_half, sqrt_half, erfc_coe]
  simp only [← EReal.coe_mul, ← EReal.coe_neg, exp_coe, ← EReal.coe_add]
  exact congrArg Real.toEReal (slp_eq _ _)

theorem du_apply (r : Fin 4096) (j : Fin 1024) : val_main_v135 (F := Ideal) x0 x1 x3 x4 x5 x6 (ix2 r j) = (A.du r j : EReal) := by
  have hs : val_main_v71 (F := Ideal) x0 x1 x3 x4 x5 x6 (ix2 r j) = ((A.dy r j * A.s r j * sil (A.z r j) : ℝ) : EReal) := by
    pointwise [val_main_v71]
    rw [dy_apply x0 x1 x3 x4 x5 x6 A H, s_apply x0 x1 x3 x4 x5 x6 A H, ← EReal.coe_mul]
    exact congrArg Real.toEReal (by ring)
  pointwise [val_main_v135, val_main_v134, val_main_v133, val_main_v132, val_main_v131, val_main_v130, val_main_v129, val_main_v128, val_main_v127, val_main_v126, val_main_v125, val_main_v7, val_main_v6, val_main_v9, val_main_v12, val_main_v13, val_main_v14, val_main_v15, val_main_cst, val_main_cst_0, val_main_cst_23, val_main_cst_24]
  rw [hs, u_apply x0 x1 x3 x4 x5 x6 A H, arg_apply x0 x1 x3 x4 x5 x6 A H, bits_slope, bits_half, sqrt_half, erfc_coe]
  simp only [← EReal.coe_mul, ← EReal.coe_neg, exp_coe, ← EReal.coe_add]
  exact congrArg Real.toEReal (slp_eq _ _)

theorem dp_apply (r : Fin 4096) (j : Fin 8192) : val_main_v141 (F := Ideal) x0 x1 x2 x3 x4 x5 x6 (ix2 r j) = A.dpAt (fun r j => x2 (ix2 r j)) r j := by
  pointwise [val_main_v141, val_main_v136, val_main_v137, val_main_v138, val_main_v139, val_main_v140]
  exact dpAt_of A (fun r j => x2 (ix2 r j)) r j (fun k => val_main_v135 (F := Ideal) x0 x1 x3 x4 x5 x6 (ix2 r k))
    (fun k => val_main_v124 (F := Ideal) x0 x1 x3 x5 (ix2 r k)) (fun k => val_main_v69 (F := Ideal) x0 x1 x3 x4 x5 x6 (ix2 r k)) (du_apply x0 x1 x3 x4 x5 x6 A H r) (dval_apply x0 x1 x3 x4 x5 x6 A H r) (dz_apply x0 x1 x3 x4 x5 x6 A H r)

theorem st_apply (a : Fin 8) (j : Fin 1024) : val_main_v143 (F := Ideal) x0 x1 x3 (ix2 a j) = A.stAt a j := by
  pointwise [val_main_v143, val_main_v142, val_main_cst_25]
  have e0 : a = 0 ↔ a.val < 1 := ⟨fun e => by rw [e]; decide, fun h => Fin.ext (by show a.val = 0; omega)⟩
  have e1 : a = 1 ↔ a.val = 1 := ⟨fun e => by rw [e]; rfl, fun h => Fin.ext (by show a.val = 1; omega)⟩
  unfold Arg.stAt
  by_cases h0 : a.val < 1
  · rw [dif_pos h0, if_pos (e0.mpr h0)]
    exact (congrArg (fun k => val_main_v89 (F := Ideal) x0 x1 x3 (ix2 k j)) (Subsingleton.elim _ _)).trans (dg_apply x0 x1 x3 x4 x5 x6 A H j)
  rw [dif_neg h0, if_neg (fun e => h0 (e0.mp e))]
  by_cases h1 : a.val = 1
  · rw [dif_pos (by omega), if_pos (e1.mpr h1)]
    exact (congrArg (fun k => val_main_v86 (F := Ideal) x0 x1 x3 (ix2 k j)) (Subsingleton.elim _ _)).trans (db_apply x0 x1 x3 x4 x5 x6 A H j)
  · rw [dif_neg (by omega), if_neg (fun e => h1 (e1.mp e))]

theorem gt_apply (a e : Fin 128) : val_main_v145 (F := Ideal) x0 x1 (ix2 a e) = A.gtAt a e := by
  pointwise [val_main_v145, val_main_v144, val_main_call5_v0, val_main_c_26]
  unfold Arg.gtAt
  by_cases h : e.val < 8
  · rw [dif_pos h, dif_pos h]
    exact dbs_apply x0 x1 x3 x4 x5 x6 A H ⟨e.val, h⟩ a
  · rw [dif_neg h, dif_neg h]
    show (((0#32 : BitVec 32).toInt : ℝ) : EReal) = 0
    simp

omit H in
/-- What the run of the reference leaves. -/
theorem run_values (m : (ℓ : Loc nD τ sig) → Buf (Elt Ideal) ℓ) (ρ : Dev nD → PrngReg) (A : Dev nD → Arg)
    (H : ∀ c : Dev nD, Holds (m ((c.tc : Thread nD τ).loc main_arg0)) (m ((c.tc : Thread nD τ).loc main_arg1)) (m ((c.tc : Thread nD τ).loc main_arg3)) (m ((c.tc : Thread nD τ).loc main_arg4))
      (m ((c.tc : Thread nD τ).loc main_arg5)) (m ((c.tc : Thread nD τ).loc main_arg6)) (A c)) :
    θ_run defs (onTc (τ := τ) (main (F := Ideal))) ⟨m, fun _ => 0, ρ⟩ fun r => ∀ c : Dev nD,
      (∀ i, r.2.mem ((c.tc : Thread nD τ).loc main_v141) i = (A c).dpAt (fun r j => m ((c.tc : Thread nD τ).loc main_arg2) (ix2 r j)) (i 0) (i 1))
      ∧ (∀ i, r.2.mem ((c.tc : Thread nD τ).loc main_v143) i = (A c).stAt (i 0) (i 1))
      ∧ (∀ i, r.2.mem ((c.tc : Thread nD τ).loc main_v145) i = (A c).gtAt (i 0) (i 1))
      ∧ ∀ i, r.2.mem ((c.tc : Thread nD τ).loc main_v83) i = ((A c).dw (i 0) (i 1) (i 2) : EReal) :=
  (θ_run defs _ _).mono (fun r h c => ⟨fun i => by
      rw [(h c).1, val_main_v141_eq, ← ix2_eta i]
      exact dp_apply _ _ _ _ _ _ _ _ (H c) _ _, fun i => by
      rw [(h c).2.1, val_main_v143_eq, ← ix2_eta i]
      exact st_apply _ _ _ _ _ _ _ (H c) _ _, fun i => by
      rw [(h c).2.2.1, val_main_v145_eq, ← ix2_eta i]
      exact gt_apply _ _ _ _ _ _ _ (H c) _ _, fun i => by
      rw [(h c).2.2.2.1, val_main_v83_eq, ← ix3_eta i]
      exact dw_apply _ _ _ _ _ _ _ (H c) _ _ _⟩) (Cert.BReferenceIdeal.Value.run m ρ)

end Cert.BReferenceIdeal

end
-- ==== Proof.B.Blocks.lean ====
module

public import proofs.«01_k».proof.Proof.B.Frame
public import proofs.«01_k».proof.Proof.B.Acc
public import proofs.«01_k».proof.Proof.B.RVal
public import Idealize.ShloMosaic.Lib.Claim

@[expose] public section

set_option maxRecDepth 16384

noncomputable section

/-! # The blocks that the kernel reads, in terms of its arguments -/

namespace Cert.BKernelIdeal

open Idealize.ShloMosaic Idealize.ShloMosaic.TcCoe Idealize.ShloMosaic.Tactic
open Step Step.B
open scoped BigOperators

variable (m : (ℓ : Loc nD τ sig) → Buf (Elt Ideal) ℓ) (c : Dev nD)

/-- The point's number. -/
def pt (t : Fin cfg0.N) : Fin 16 := ⟨t.val, by have := t.isLt; have : cfg0.N = 16 := Gen.N_0; omega⟩

/-- The arguments hold the reals of `A`. -/
abbrev Given (A : Arg) : Prop :=
  Cert.BReferenceIdeal.Holds (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) A

theorem idx_0 : ∀ t : Fin cfg0.N, win0_0.index t 0 = t.val ∧ win0_0.index t 1 = 1 := by decide +kernel
theorem idx_1 : ∀ t : Fin cfg0.N, win0_1.index t 0 = t.val ∧ win0_1.index t 1 = 0 := by decide +kernel
theorem idx_2 : ∀ t : Fin cfg0.N, win0_2.index t 0 = 0 ∧ win0_2.index t 1 = 0 ∧ win0_2.index t 2 = 0 := by decide +kernel
theorem idx_3 : ∀ t : Fin cfg0.N, win0_3.index t 0 = 0 ∧ win0_3.index t 1 = 0 ∧ win0_3.index t 2 = 0 := by decide +kernel
theorem idx_4 : ∀ t : Fin cfg0.N, win0_4.index t 0 = 0 ∧ win0_4.index t 1 = 0 := by decide +kernel
theorem idx_5 : ∀ t : Fin cfg0.N, win0_5.index t 0 = 0 ∧ win0_5.index t 1 = 0 := by decide +kernel
theorem idx_6 : ∀ t : Fin cfg0.N, win0_6.index t 0 = 0 ∧ win0_6.index t 1 = 0 := by decide +kernel

theorem blk_0 (t : Fin cfg0.N) (r : Fin 256) (j : Fin 3072) :
    Gen.X0_0 m c t (ix2 r j) = m ((c : Thread nD τ).loc main_arg0) (ix2 (brow (pt t) r) ⟨3072 + j.val, by omega⟩) := by
  have h := idx_0 t
  unfold Gen.X0_0 Pipeline.Window.fill
  refine (dif_pos (Gen.moved0_0 t (ix2 r j))).trans ?_
  unfold brow pt
  blk_ext [Gen.iblk, h.1, h.2]

theorem blk_1 (t : Fin cfg0.N) (r : Fin 256) (j : Fin 1024) : Gen.iblk m c 1 t (ix2 r j) = m ((c : Thread nD τ).loc main_arg1) (ix2 (brow (pt t) r) j) := by
  have h := idx_1 t
  unfold brow pt
  blk_ext [Gen.iblk, h.1, h.2]

theorem blk_5 (t : Fin cfg0.N) (j : Fin 1024) : Gen.iblk m c 5 t (ix2 0 j) = m ((c : Thread nD τ).loc main_arg5) (ix2 0 j) := by
  have h := idx_5 t
  blk_ext [Gen.iblk, h.1, h.2]

theorem blk_6 (t : Fin cfg0.N) (j : Fin 1024) : Gen.iblk m c 6 t (ix2 0 j) = m ((c : Thread nD τ).loc main_arg6) (ix2 0 j) := by
  have h := idx_6 t
  blk_ext [Gen.iblk, h.1, h.2]

/-- The masked weights that the host hands over; -/
theorem wt_apply (h : Fin 8) (a b : Fin 128) : Gen.V m c main_v4 (ix3 h a b) = if b ≤ a then (m ((c : Thread nD τ).loc main_arg3) (ix3 h a b) : EReal) else (0 : EReal) := by
  simp only [Gen.V, Gen.hostOps0, Gen.hostOps0_1, Gen.hostOps0_2, Gen.hostOps0_3, Gen.hostOps0_4, List.flatten_cons, List.flatten_nil, List.cons_append, List.nil_append, List.append_nil]
  entry_read
  simp only [StableHlo.TRef.ofBuf_toBuf]
  simp -implicitDefEqProofs only [StableHlo.TRef.toBuf, StableHlo.TRef.ofBuf, cast_cast, cast_eq]
  pointwise
  rw [show IntOp.addi (BitVec.ofNat 32 a.val) 0#32 = BitVec.ofNat 32 a.val from BitVec.add_zero _, causal]
  split <;> rfl

/-- the same with rows and columns exchanged; -/
theorem wtt_apply (h : Fin 8) (a b : Fin 128) : Gen.V m c main_v5 (ix3 h b a) = if b ≤ a then (m ((c : Thread nD τ).loc main_arg3) (ix3 h a b) : EReal) else (0 : EReal) := by
  simp only [Gen.V, Gen.hostOps0, Gen.hostOps0_1, Gen.hostOps0_2, Gen.hostOps0_3, Gen.hostOps0_4, List.flatten_cons, List.flatten_nil, List.cons_append, List.nil_append, List.append_nil]
  entry_read
  simp only [StableHlo.TRef.ofBuf_toBuf]
  simp -implicitDefEqProofs only [StableHlo.TRef.toBuf, StableHlo.TRef.ofBuf, cast_cast, cast_eq]
  pointwise
  rw [show IntOp.addi (BitVec.ofNat 32 a.val) 0#32 = BitVec.ofNat 32 a.val from BitVec.add_zero _, causal]
  split <;> rfl

/-- the bias, a column for every lane. -/
theorem bias_apply (a : Fin 128) (j : Fin 1024) : Gen.V m c main_v8 (ix2 a j) = m ((c : Thread nD τ).loc main_arg4) (ix2 (head j) a) := by
  unfold head
  simp only [Gen.V, Gen.hostOps0, Gen.hostOps0_1, Gen.hostOps0_2, Gen.hostOps0_3, Gen.hostOps0_4, List.flatten_cons, List.flatten_nil, List.cons_append, List.nil_append, List.append_nil]
  entry_read
  pointwise

theorem blk_2 (t : Fin cfg0.N) (h : Fin 8) (a b : Fin 128) : Gen.iblk m c 2 t (ix3 h a b) = Gen.V m c main_v4 (ix3 h a b) := by
  have h := idx_2 t
  blk_ext [Gen.iblk, h.1, h.2.1, h.2.2]

theorem blk_3 (t : Fin cfg0.N) (h : Fin 8) (a b : Fin 128) : Gen.iblk m c 3 t (ix3 h a b) = Gen.V m c main_v5 (ix3 h a b) := by
  have h := idx_3 t
  blk_ext [Gen.iblk, h.1, h.2.1, h.2.2]

theorem blk_4 (t : Fin cfg0.N) (a : Fin 128) (j : Fin 1024) : Gen.iblk m c 4 t (ix2 a j) = Gen.V m c main_v8 (ix2 a j) := by
  have h := idx_4 t
  blk_ext [Gen.iblk, h.1, h.2]

/-- The blocks of a point hold the reals of the arguments. -/
theorem blk_holds (A : Arg) (H : Given m c A) (t : Fin cfg0.N) :
    Blk A (pt t) (Gen.X0_0 m c t) (Gen.iblk m c 1 t) (Gen.iblk m c 2 t) (Gen.iblk m c 3 t) (Gen.iblk m c 4 t) (Gen.iblk m c 5 t) (Gen.iblk m c 6 t) where
  u i j := (blk_0 m c t i _).trans ((congrArg (fun n => m ((c : Thread nD τ).loc main_arg0) (ix2 (brow (pt t) i) n))
    (Fin.ext (by show 3072 + (0 + j.val) = 3072 + j.val; omega))).trans (H.u (brow (pt t) i) j))
  v i j := (blk_0 m c t i _).trans ((congrArg (fun n => m ((c : Thread nD τ).loc main_arg0) (ix2 (brow (pt t) i) n))
    (Fin.ext (by show 3072 + (1024 + j.val) = 4096 + j.val; omega))).trans (H.v (brow (pt t) i) j))
  z i j := (blk_0 m c t i _).trans ((congrArg (fun n => m ((c : Thread nD τ).loc main_arg0) (ix2 (brow (pt t) i) n))
    (Fin.ext (by show 3072 + (2048 + j.val) = 5120 + j.val; omega))).trans (H.z (brow (pt t) i) j))
  dy i j := (blk_1 m c t i j).trans (H.dy (brow (pt t) i) j)
  w h a b := ((blk_2 m c t h a b).trans (wt_apply m c h a b)).trans (by
    unfold Arg.wm
    by_cases e : b ≤ a
    · rw [if_pos e, if_pos e]
      exact H.w h a b
    · rw [if_neg e, if_neg e]
      exact EReal.coe_zero.symm)
  wt h a b := ((blk_3 m c t h b a).trans (wtt_apply m c h a b)).trans (by
    unfold Arg.wm
    by_cases e : b ≤ a
    · rw [if_pos e, if_pos e]
      exact H.w h a b
    · rw [if_neg e, if_neg e]
      exact EReal.coe_zero.symm)
  bs a j := ((blk_4 m c t a j).trans (bias_apply m c a j)).trans (H.bs (head j) a)
  g j := (blk_5 m c t j).trans (H.g j)
  b j := (blk_6 m c t j).trans (H.b j)

end Cert.BKernelIdeal

end
-- ==== Proof.B.KVal.lean ====
module

public import proofs.«01_k».proof.Proof.B.Blocks

@[expose] public section

set_option maxRecDepth 16384

noncomputable section

/-! # The arrays that the kernel leaves -/

namespace Cert.BKernelIdeal

open Idealize.ShloMosaic Idealize.ShloMosaic.TcCoe Idealize.ShloMosaic.Tactic
open Idealize.ShloMosaic.Pipeline (Dat)
open Idealize.SL.Sem
open Step Step.B
open scoped BigOperators

variable (m : (ℓ : Loc nD τ sig) → Buf (Elt Ideal) ℓ) (ρ : Dev nD → PrngReg) (c : Dev nD) (A : Arg) (H : Given m c A)

/-- A function of the row, over all numbers. -/
def ext {n : ℕ} (f : Fin n → ℝ) (i : ℕ) : ℝ := if h : i < n then f ⟨i, h⟩ else 0

theorem ext_val {n : ℕ} (f : Fin n → ℝ) (i : Fin n) : ext f i.val = f i := dif_pos i.isLt

theorem sum_ext {n : ℕ} (f : Fin n → ℝ) : ∑ i ∈ Finset.range n, ext f i = ∑ i, f i := by
  rw [Finset.sum_range]
  exact Finset.sum_congr rfl fun i _ => ext_val f i

theorem sum_none (f : ℕ → ℝ) : ((0 : ℝ) : EReal) = ((∑ s ∈ Finset.range (16 * 0), f s : ℝ) : EReal) := by rw [Nat.mul_zero, Finset.sum_range_zero]

include H

theorem ac_next (j : Fin 1024) (r : Fin 16) (t : Fin cfg0.N) (a : Vec Ideal S32x1024 .f32)
    (h0 : a (ix2 ⟨r.val, by omega⟩ j) = ((∑ s ∈ Finset.range (16 * t.val), ext (fun i => A.dv i j * A.n i j) (16 * s + r.val) : ℝ) : EReal))
    (h1 : a (ix2 ⟨16 + r.val, by omega⟩ j) = ((∑ s ∈ Finset.range (16 * t.val), ext (fun i => A.dv i j) (16 * s + r.val) : ℝ) : EReal)) :
    acBlk (n2Blk (Gen.X0_0 m c t)) (dvAt m c t) a (ix2 ⟨r.val, by omega⟩ j) = ((∑ s ∈ Finset.range (16 * (t.val + 1)), ext (fun i => A.dv i j * A.n i j) (16 * s + r.val) : ℝ) : EReal)
      ∧ acBlk (n2Blk (Gen.X0_0 m c t)) (dvAt m c t) a (ix2 ⟨16 + r.val, by omega⟩ j) = ((∑ s ∈ Finset.range (16 * (t.val + 1)), ext (fun i => A.dv i j) (16 * s + r.val) : ℝ) : EReal) := by
  have B := blk_holds m c A H t
  have hn : ∀ (i : Fin 256) (j : Fin 1024), n2Blk (Gen.X0_0 m c t) (ix2 i j) = (A.n (brow (pt t) i) j : EReal) := fun i j => n2Blk_apply B i j
  have hv : ∀ (i : Fin 256) (j : Fin 1024), dvAt m c t (ix2 i j) = (A.dv (brow (pt t) i) j : EReal) := fun i j => dvBlk_apply B i j
  have eb : ∀ i : Fin 256, 256 * t.val + i.val = (brow (pt t) i).val := fun i => rfl
  have hφ : ∀ i : Fin 256, A.dv (brow (pt t) i) j * A.n (brow (pt t) i) j = ext (fun i => A.dv i j * A.n i j) (256 * t.val + i.val) := fun i => by
    rw [eb, ext_val]
  have hχ : ∀ i : Fin 256, A.dv (brow (pt t) i) j = ext (fun i => A.dv i j) (256 * t.val + i.val) := fun i => by
    rw [eb, ext_val]
  generalize n2Blk (Gen.X0_0 m c t) = n2 at hn ⊢
  generalize dvAt m c t = dv at hv ⊢
  exact acBlk_apply n2 dv (fun i j => A.n (brow (pt t) i) j) (fun i j => A.dv (brow (pt t) i) j) hn hv a j t.val (ext (fun i => A.dv i j * A.n i j)) (ext (fun i => A.dv i j))
    hφ hχ r h0 h1

theorem acAt_apply (j : Fin 1024) (r : Fin 16) (n : ℕ) (h : n < cfg0.N) :
    acAt m c n h (ix2 ⟨r.val, by omega⟩ j) = ((∑ s ∈ Finset.range (16 * (n + 1)), ext (fun i => A.dv i j * A.n i j) (16 * s + r.val) : ℝ) : EReal)
      ∧ acAt m c n h (ix2 ⟨16 + r.val, by omega⟩ j) = ((∑ s ∈ Finset.range (16 * (n + 1)), ext (fun i => A.dv i j) (16 * s + r.val) : ℝ) : EReal) := by
  induction n with
  | zero =>
    rw [show acAt m c 0 h = acBlk (n2Blk (Gen.X0_0 m c ⟨0, h⟩)) (dvAt m c ⟨0, h⟩) (Gen.k0_pay42 (F := Ideal)) from acAt_first m c ⟨0, h⟩ rfl]
    have s := ac_next m c A H j r ⟨0, h⟩ (Gen.k0_pay42 (F := Ideal)) ((ac_zero _ j).trans (sum_none _)) ((ac_zero _ j).trans (sum_none _))
    exact s
  | succ n ih =>
    obtain ⟨i0, i1⟩ := ih (Nat.lt_of_succ_lt h)
    rw [show acAt m c (n + 1) h = acBlk (n2Blk (Gen.X0_0 m c ⟨n + 1, h⟩)) (dvAt m c ⟨n + 1, h⟩) (acAt m c n (Nat.lt_of_succ_lt h)) from acAt_next m c ⟨n + 1, h⟩ (Nat.succ_ne_zero n)]
    have s := ac_next m c A H j r ⟨n + 1, h⟩ (acAt m c n (Nat.lt_of_succ_lt h)) i0 i1
    exact s

theorem gbAt_apply (a : Fin 128) (j : Fin 1024) (n : ℕ) (h : n < cfg0.N) :
    gbAt m c n h (ix2 a j) = ((∑ s ∈ Finset.range (16 * (n + 1)), (if s % 8 = a.val / 16 then ext (fun i => A.ds i j) (16 * s + a.val % 16) else 0) : ℝ) : EReal) := by
  induction n with
  | zero => exact gbBlk_apply (blk_holds m c A H ⟨0, h⟩) _ j _ (fun i => (ext_val (fun i => A.ds i j) i).symm) a ((gb_zero a j).trans (sum_none _))
  | succ n ih => exact gbBlk_apply (blk_holds m c A H ⟨n + 1, h⟩) _ j _ (fun i => (ext_val (fun i => A.ds i j) i).symm) a (ih (Nat.lt_of_succ_lt h))

theorem gwRaw_apply (k : Fin 8) (a b : Fin 128) (n : ℕ) (h : n < cfg0.N) :
    gwRaw m c n h (ix3 k a b) = ((∑ s ∈ Finset.range (16 * (n + 1)),
      (if s % 8 = k.val then ext (fun d : Fin 32 => ∑ l : Fin 128, A.ds (row d a) (col k l) * A.vb (row d b) (col k l)) (s / 8) else 0) : ℝ) : EReal) := by
  induction n with
  | zero => exact gwBlk_apply (blk_holds m c A H ⟨0, h⟩) _ k a b _ (fun d => (ext_val (fun d : Fin 32 => ∑ l : Fin 128, A.ds (row d a) (col k l) * A.vb (row d b) (col k l)) d).symm) ((gw_zero _).trans (sum_none _))
  | succ n ih => exact gwBlk_apply (blk_holds m c A H ⟨n + 1, h⟩) _ k a b _ (fun d => (ext_val (fun d : Fin 32 => ∑ l : Fin 128, A.ds (row d a) (col k l) * A.vb (row d b) (col k l)) d).symm) (ih (Nat.lt_of_succ_lt h))

/-! ## The last point -/

theorem stAt_apply (i : Fin 8) (j : Fin 1024) : stAt m c Gen.t0_15 (ix2 i j) = (A.stAt i j : EReal) := by
  have e : stAt m c Gen.t0_15 = stFinal (acAt m c Gen.t0_15.val Gen.t0_15.isLt) (Gen.k0_pay38 (F := Ideal)) := if_pos rfl
  have band : ∀ f : Fin 4096 → ℝ, ∑ r : Fin 16, ((∑ s ∈ Finset.range (16 * (15 + 1)), ext f (16 * s + r.val) : ℝ) : EReal) = ((∑ i, f i : ℝ) : EReal) := by
    intro f
    rw [← coe_sum, ← sum_ext f]
    refine congrArg Real.toEReal ?_
    rw [← Finset.sum_range (fun r => ∑ s ∈ Finset.range (16 * (15 + 1)), ext f (16 * s + r))]
    exact sum_bands (ext f) 256
  rw [e, stFinal_apply]
  unfold Arg.stAt
  have e0 : i = 0 ↔ i.val = 0 := Fin.ext_iff
  have e1 : i = 1 ↔ i.val = 1 := Fin.ext_iff
  simp only [e0, e1]
  by_cases h0 : i.val = 0
  · rw [if_pos h0, if_pos h0]
    exact (Finset.sum_congr rfl fun r _ => (acAt_apply m c A H j r 15 Gen.t0_15.isLt).1).trans (band fun i => A.dv i j * A.n i j)
  rw [if_neg h0, if_neg h0]
  by_cases h1 : i.val = 1
  · rw [if_pos h1, if_pos h1]
    exact (Finset.sum_congr rfl fun r _ => (acAt_apply m c A H j r 15 Gen.t0_15.isLt).2).trans (band fun i => A.dv i j)
  · rw [if_neg h1, if_neg h1]
    exact EReal.coe_zero

theorem gtAt_apply (a e : Fin 128) : gtAt m c Gen.t0_15 (ix2 a e) = (A.gtAt a e : EReal) := by
  have h : gtAt m c Gen.t0_15 = gbFinal (gbAt m c Gen.t0_15.val Gen.t0_15.isLt) := if_pos rfl
  rw [h, gbFinal_apply]
  unfold Arg.gtAt
  by_cases he : e.val < 8
  · rw [dif_pos he, dif_pos he]
    refine (Finset.sum_congr rfl fun l _ => gbAt_apply m c A H a _ 15 Gen.t0_15.isLt).trans ?_
    rw [← coe_sum]
    refine congrArg Real.toEReal ?_
    unfold Arg.dbs
    rw [Finset.sum_comm (s := (Finset.univ : Finset (Fin 32)))]
    refine Finset.sum_congr rfl fun l _ => ?_
    refine (sum_eighth (fun s => ext (fun i => A.ds i ⟨128 * e.val + l.val, by omega⟩) (16 * s + a.val % 16)) (a.val / 16) (by omega) 32).trans ?_
    rw [Finset.sum_range]
    refine Finset.sum_congr rfl fun d _ => ?_
    rw [show 16 * (8 * d.val + a.val / 16) + a.val % 16 = (row d a).val from by show _ = d.val * 128 + a.val; omega, ext_val]
    exact congrArg (A.ds (row d a)) (Fin.ext (by show 128 * e.val + l.val = e.val * 128 + l.val; omega))
  · rw [dif_neg he, dif_neg he]
    exact EReal.coe_zero

theorem gwAt_apply (k : Fin 8) (a b : Fin 128) : gwAt m c Gen.t0_15 (ix3 k a b) = (A.dw k a b : EReal) := by
  have h : gwAt m c Gen.t0_15 = gwFinal (gwRaw m c Gen.t0_15.val Gen.t0_15.isLt) := if_pos rfl
  rw [h, gwFinal_apply]
  unfold Arg.dw
  by_cases e : b ≤ a
  · rw [if_pos e, if_pos e]
    refine (gwRaw_apply m c A H k a b 15 Gen.t0_15.isLt).trans (congrArg Real.toEReal ?_)
    refine (sum_eighth (fun s => ext (fun d : Fin 32 => ∑ l : Fin 128, A.ds (row d a) (col k l) * A.vb (row d b) (col k l)) (s / 8)) k.val k.isLt 32).trans ?_
    rw [Finset.sum_range]
    refine Finset.sum_congr rfl fun d _ => ?_
    rw [show (8 * d.val + k.val) / 8 = d.val by omega, ext_val]
  · rw [if_neg e, if_neg e]

/-! ## The arrays -/

/-- The array of the projection's gradient: what it held, with the three blocks of columns put in. -/
def dpArr : Buf (Elt Ideal) ((c : Thread nD τ).loc main_v9_0) := fun i => A.dpAt (fun r j => m ((c : Thread nD τ).loc main_arg2) (ix2 r j)) (i 0) (i 1)
/-- The array of the scale's and the offset's gradients. -/
def stArr : Buf (Elt Ideal) ((c : Thread nD τ).loc main_v9_1) := fun i => A.stAt (i 0) (i 1)
/-- The array of the bias's gradient. -/
def gtArr : Buf (Elt Ideal) ((c : Thread nD τ).loc main_v9_2) := fun i => A.gtAt (i 0) (i 1)
/-- The array of the mixing matrices' gradient. -/
def dwArr : Buf (Elt Ideal) ((c : Thread nD τ).loc main_v9_3) := fun i => (A.dw (i 0) (i 1) (i 2) : EReal)

theorem final_8 : (dats m 0 c).arrAt 8 cfg0.N = stArr c A := by
  refine (dats m 0 c).arrAt_eq_of_after_last 8 Gen.t0_15 (by decide +kernel) _ fun j => ?_
  rw [after_8]
  exact (congrArg (stAt m c Gen.t0_15) (ix2_eta (n0 := 8) (n1 := 1024) j).symm).trans (stAt_apply m c A H (j 0) (j 1))

theorem final_9 : (dats m 0 c).arrAt 9 cfg0.N = gtArr c A := by
  refine (dats m 0 c).arrAt_eq_of_after_last 9 Gen.t0_15 (by decide +kernel) _ fun j => ?_
  rw [after_9]
  exact (congrArg (gtAt m c Gen.t0_15) (ix2_eta (n0 := 128) (n1 := 128) j).symm).trans (gtAt_apply m c A H (j 0) (j 1))

theorem final_10 : (dats m 0 c).arrAt 10 cfg0.N = dwArr c A := by
  refine (dats m 0 c).arrAt_eq_of_after_last 10 Gen.t0_15 (by decide +kernel) _ fun j => ?_
  rw [after_10]
  exact (congrArg (gwAt m c Gen.t0_15) (ix3_eta (n0 := 8) (n1 := 128) (n2 := 128) j).symm).trans (gwAt_apply m c A H (j 0) (j 1) (j 2))

omit H in
/-- The written array, as the region finds it, is the third argument. -/
theorem arg2_entry : Gen.V m c main_v9_0 = m ((c : Thread nD τ).loc main_arg2) := by
  simp only [Gen.V, Gen.hostOps0, Gen.hostOps0_1, List.flatten_cons, List.flatten_nil, List.cons_append, List.nil_append, List.append_nil]
  entry_read
  rfl

theorem dpAt_apply (t : Fin cfg0.N) (r : Fin 256) (j : Fin 3072) :
    dpAt m c t (ix2 r j) = A.dpAt (fun r j => m ((c : Thread nD τ).loc main_arg2) (ix2 r j)) (brow (pt t) r) ⟨3072 + j.val, by omega⟩ := by
  refine (dpBlk_apply (blk_holds m c A H t) r j).trans ?_
  unfold Arg.dpAt
  simp only [show ¬3072 + j.val < 3072 by omega, if_false]
  by_cases h0 : j.val < 1024
  · rw [dif_pos h0, dif_pos (show 3072 + j.val - 3072 < 1024 by omega)]
    exact congrArg (fun n => (A.du (brow (pt t) r) n : EReal)) (Fin.ext (by show j.val = 3072 + j.val - 3072; omega))
  rw [dif_neg h0, dif_neg (show ¬3072 + j.val - 3072 < 1024 by omega)]
  by_cases h1 : j.val - 1024 < 1024
  · rw [dif_pos h1, dif_pos (show 3072 + j.val - 4096 < 1024 by omega)]
    exact congrArg (fun n => (A.dval (brow (pt t) r) n : EReal)) (Fin.ext (by show j.val - 1024 = 3072 + j.val - 4096; omega))
  · rw [dif_neg h1, dif_neg (show ¬3072 + j.val - 4096 < 1024 by omega), dif_pos (show 3072 + j.val - 5120 < 1024 by omega)]
    exact congrArg (fun n => (A.dz (brow (pt t) r) n : EReal)) (Fin.ext (by show j.val - 2048 = 3072 + j.val - 5120; omega))

omit H in
/-- The block of the written array at a point: its rows, and the second third of its columns. -/
theorem index_7 : ∀ t : Fin cfg0.N, win0_7.index t 0 = t.val ∧ win0_7.index t 1 = 1 := by decide +kernel

omit H in
theorem emb7_0 (t : Fin cfg0.N) (y : ((cfg0.win 7).xblock (cfg0.grid.coords t)).Idx) : (((cfg0.win 7).blk t).view.emb y 0).val = 256 * t.val + (y 0).val := by
  have h := index_7 t
  blk_simp
  rw [h.1]
  omega

omit H in
theorem emb7_1 (t : Fin cfg0.N) (y : ((cfg0.win 7).xblock (cfg0.grid.coords t)).Idx) : (((cfg0.win 7).blk t).view.emb y 1).val = 3072 + (y 1).val := by
  have h := index_7 t
  have e : (((cfg0.win 7).blk t).view.emb y 1).val = win0_7.index t 1 * 3072 + (y 1).val := by
    show win0_7.index t 1 * 3072 + 1 * (y 1).val = _
    omega
  rw [e, h.2]

theorem inside_7 (t : Fin cfg0.N) (q : S256x3072.Idx) (p : S4096x8192.Idx) (h0 : (p 0).val = 256 * t.val + (q 0).val) (h1 : (p 1).val = 3072 + (q 1).val) :
    dpAt m c t q = dpArr m c A p := by
  refine (congrArg (dpAt m c t) (ix2_eta (n0 := 256) (n1 := 3072) q).symm).trans ((dpAt_apply m c A H t (q 0) (q 1)).trans ?_)
  have e0 : brow (pt t) (q 0) = p 0 := Fin.ext h0.symm
  have e1 : (⟨3072 + (q 1).val, by have := (q 1).isLt; show 3072 + (q 1).val < 8192; have : (q 1).val < 3072 := (q 1).isLt; omega⟩ : Fin 8192) = p 1 := Fin.ext h1.symm
  unfold dpArr
  rw [e0, e1]

omit H in
theorem outside_7 (p : S4096x8192.Idx) (h : ¬(p 1).val / 3072 = 1) : m ((c : Thread nD τ).loc main_arg2) p = dpArr m c A p := by
  unfold dpArr Arg.dpAt
  by_cases h0 : (p 1).val < 3072
  · rw [if_pos h0]
    exact congrArg _ (ix2_eta (n0 := 4096) (n1 := 8192) p).symm
  · rw [if_neg h0, dif_neg (by omega), dif_neg (by omega), dif_neg (by omega)]
    exact congrArg _ (ix2_eta (n0 := 4096) (n1 := 8192) p).symm

theorem final_7 : (dats m 0 c).arrAt 7 cfg0.N = dpArr m c A := by
  refine (dats m 0 c).arrAt_eq_of_coversWhere_of_agree 7 _ (fun β => β 1 = 1) (by decide +kernel) (fun t hf y => ?_) (fun j hj => ?_)
  · rw [after_7]
    exact inside_7 m c A H t _ _ (emb7_0 t y) (emb7_1 t y)
  · rw [A_eq]
    refine (congrFun (arg2_entry m c) _).trans (outside_7 m c A _ fun e => hj ?_)
    blk_simp [Pipeline.Window.cell_apply]
    exact e

omit H in
/-- What the run leaves, of arguments that hold reals. -/
theorem run_values (A : Dev nD → Arg) (H : ∀ c, Given m c (A c)) : θ_run defs (onTc (τ := τ) (main (F := Ideal))) ⟨m, fun _ => 0, ρ⟩ fun r => ∀ c : Dev nD,
    r.2.mem ((c.tc : Thread nD τ).loc main_v9_0) = dpArr m c (A c) ∧ r.2.mem ((c.tc : Thread nD τ).loc main_v9_1) = stArr c (A c)
      ∧ r.2.mem ((c.tc : Thread nD τ).loc main_v9_2) = gtArr c (A c) ∧ r.2.mem ((c.tc : Thread nD τ).loc main_v9_3) = dwArr c (A c) :=
  (θ_run defs _ _).mono (fun _ h c => ⟨(h.out_eq c 7).trans (final_7 m c (A c) (H c)), (h.out_eq c 8).trans (final_8 m c (A c) (H c)),
    (h.out_eq c 9).trans (final_9 m c (A c) (H c)), (h.out_eq c 10).trans (final_10 m c (A c) (H c))⟩) (run_main m ρ)

end Cert.BKernelIdeal

end
-- ==== Proof.B.Claims.lean ====
module

public import proofs.«01_k».proof.Defs
public import proofs.«01_k».proof.Proof.Gen.BKernel
public import proofs.«01_k».proof.Proof.Gen.Pre_b_finite
public import proofs.«01_k».proof.Proof.B.KVal
public import Idealize.ShloMosaic.Lib.Quiescent

@[expose] public section

set_option maxRecDepth 16384

noncomputable section

/-! # The claims about the gradients of the mixing unit -/

namespace Cert.Proof.B

open Idealize.ShloMosaic Idealize.ShloMosaic.TcCoe Idealize.ShloMosaic.Tactic Idealize.SL.Sem
open Step Step.B

/-! ## What the precondition says -/

/-- An entry whose magnitude compares below infinity is a real number. -/
theorem real_of_lt (x : EReal) (h : BitVec.ofBool (decide ((FloatOps.absf (F := Ideal) (φ := .f32) x : EReal) < Ideal.ofBits .f32 0x7F800000#32)) = 1#1) : ((x.toReal : ℝ) : EReal) = x := by
  have e : Ideal.ofBits .f32 0x7F800000#32 = ⊤ := by simp [Ideal.ofBits, Ideal.ieee]
  rw [e] at h
  have h' : (max x (-x) : EReal) < ⊤ := by
    by_contra hc
    rw [decide_eq_false (show ¬(FloatOps.absf (F := Ideal) (φ := .f32) x : EReal) < ⊤ from hc)] at h
    exact absurd h (by decide)
  induction x using EReal.rec with
  | bot => simp at h'
  | top => simp at h'
  | coe a => rfl

/-- The reals that the arguments hold. -/
def argOf (m : (ℓ : Loc Cert.BKernelIdeal.nD Cert.BKernelIdeal.τ Cert.BKernelIdeal.sig) → Buf (Elt Ideal) ℓ) (c : Dev Cert.BKernelIdeal.nD) : Arg where
  u r j := EReal.toReal (m ((c.tc : Thread Cert.BKernelIdeal.nD Cert.BKernelIdeal.τ).loc Cert.BKernelIdeal.main_arg0) (ix2 r ⟨3072 + j.val, by have := j.isLt; omega⟩))
  v r j := EReal.toReal (m ((c.tc : Thread Cert.BKernelIdeal.nD Cert.BKernelIdeal.τ).loc Cert.BKernelIdeal.main_arg0) (ix2 r ⟨4096 + j.val, by have := j.isLt; omega⟩))
  z r j := EReal.toReal (m ((c.tc : Thread Cert.BKernelIdeal.nD Cert.BKernelIdeal.τ).loc Cert.BKernelIdeal.main_arg0) (ix2 r ⟨5120 + j.val, by have := j.isLt; omega⟩))
  dy r j := EReal.toReal (m ((c.tc : Thread Cert.BKernelIdeal.nD Cert.BKernelIdeal.τ).loc Cert.BKernelIdeal.main_arg1) (ix2 r j))
  w h a b := EReal.toReal (m ((c.tc : Thread Cert.BKernelIdeal.nD Cert.BKernelIdeal.τ).loc Cert.BKernelIdeal.main_arg3) (ix3 h a b))
  bs h a := EReal.toReal (m ((c.tc : Thread Cert.BKernelIdeal.nD Cert.BKernelIdeal.τ).loc Cert.BKernelIdeal.main_arg4) (ix2 h a))
  g j := EReal.toReal (m ((c.tc : Thread Cert.BKernelIdeal.nD Cert.BKernelIdeal.τ).loc Cert.BKernelIdeal.main_arg5) (ix2 0 j))
  b j := EReal.toReal (m ((c.tc : Thread Cert.BKernelIdeal.nD Cert.BKernelIdeal.τ).loc Cert.BKernelIdeal.main_arg6) (ix2 0 j))

/-- Under the precondition the arguments hold them. -/
theorem given (m : (ℓ : Loc Cert.BKernelIdeal.nD Cert.BKernelIdeal.τ Cert.BKernelIdeal.sig) → Buf (Elt Ideal) ℓ) (hm : Cert.Pre_BKernelIdeal_b_finite m) (c : Dev Cert.BKernelIdeal.nD) :
    Cert.BKernelIdeal.Given m c (argOf m c) := by
  obtain ⟨h0, h1, h3, h4, h5, h6⟩ := hm c
  have s : ∀ (r : Fin 4096) (j : ℕ) (hj : j < 3072), ((EReal.toReal (m ((c.tc : Thread Cert.BKernelIdeal.nD Cert.BKernelIdeal.τ).loc Cert.BKernelIdeal.main_arg0) (ix2 r ⟨3072 + j, by omega⟩)) : ℝ) : EReal)
      = m ((c.tc : Thread Cert.BKernelIdeal.nD Cert.BKernelIdeal.τ).loc Cert.BKernelIdeal.main_arg0) (ix2 r ⟨3072 + j, by omega⟩) := by
    intro r j hj
    have h := congrFun h0 (ix2 r ⟨j, hj⟩)
    pointwise [Cert.Pre_b_finite.fn, Cert.Pre_b_finite.fn_part1] at h
    exact real_of_lt _ h
  constructor
  · exact fun r j => (s r j.val (by omega)).symm
  · exact fun r j => by
      have h := (s r (1024 + j.val) (by omega)).symm
      rw [show (⟨3072 + (1024 + j.val), by omega⟩ : Fin 8192) = ⟨4096 + j.val, by omega⟩ from Fin.ext (by show 3072 + (1024 + j.val) = 4096 + j.val; omega)] at h
      exact h
  · exact fun r j => by
      have h := (s r (2048 + j.val) (by omega)).symm
      rw [show (⟨3072 + (2048 + j.val), by omega⟩ : Fin 8192) = ⟨5120 + j.val, by omega⟩ from Fin.ext (by show 3072 + (2048 + j.val) = 5120 + j.val; omega)] at h
      exact h
  · exact fun r j => by
      have h := congrFun h1 (ix2 r j)
      pointwise [Cert.Pre_b_finite.fn, Cert.Pre_b_finite.fn_part1] at h
      exact (real_of_lt _ h).symm
  · exact fun k a b => by
      have h := congrFun h3 (ix3 k a b)
      pointwise [Cert.Pre_b_finite.fn, Cert.Pre_b_finite.fn_part1] at h
      exact (real_of_lt _ h).symm
  · exact fun k a => by
      have h := congrFun h4 (ix2 k a)
      pointwise [Cert.Pre_b_finite.fn, Cert.Pre_b_finite.fn_part1] at h
      exact (real_of_lt _ h).symm
  · exact fun j => by
      have h := congrFun h5 (ix2 0 j)
      pointwise [Cert.Pre_b_finite.fn, Cert.Pre_b_finite.fn_part1] at h
      exact (real_of_lt _ h).symm
  · exact fun j => by
      have h := congrFun h6 (ix2 0 j)
      pointwise [Cert.Pre_b_finite.fn, Cert.Pre_b_finite.fn_part1] at h
      exact (real_of_lt _ h).symm

/-! ## The claims -/

/-- Over words a named constant is the word that the program was printed with. -/
@[reducible] def wordNamed : Named Bits where
  named _ _ {φ} bits := FloatOps.ofBits φ bits

/-- With that reading the two printed programs' definitions are the same. -/
theorem defs_eq : Cert.BKernel.defs (F := Bits) = @Cert.BKernelIdeal.defs Bits _ wordNamed _ := by sl_kernel_rfl

theorem main_eq : Cert.BKernel.main (F := Bits) = Cert.BKernelIdeal.main (F := Bits) := by sl_kernel_rfl

theorem frame_kernel : Cert.quiescent_BKernel := fun m ρ _ => by
  have h := @Cert.BKernelIdeal.frame_run Bits _ wordNamed m ρ
  rw [← defs_eq, ← main_eq] at h
  exact h

theorem frame_ideal : Cert.quiescent_BKernelIdeal := fun m ρ _ => Cert.BKernelIdeal.frame_run m ρ
theorem frame_ideal_finite : Cert.quiescent_BKernelIdeal_pre_b_finite := fun m ρ _ => Cert.BKernelIdeal.frame_run m ρ

theorem frame_reference : Cert.quiescent_BReferenceIdeal := fun m ρ _ =>
  (θ_run Cert.BReferenceIdeal.defs _ _).mono
    (fun r h => ⟨fun c => (h c).2.2.2.2, sem_eq_zero_of_no_sems (by decide) r.2⟩)
    (Cert.BReferenceIdeal.Value.run (F := Ideal) m ρ)
theorem frame_reference_finite : Cert.quiescent_BReferenceIdeal_pre_b_finite := fun m ρ _ => frame_reference m ρ trivial

/-- The two named constants. -/
theorem preserves : Cert.preserves_BKernel_BKernelIdeal :=
  ⟨IdealRules.named_const.statement Cert.BKernelIdeal.κ "sqrt_half" .f32 0x3F3504F3#32 _ rfl,
   IdealRules.named_const.statement Cert.BKernelIdeal.κ "half_slope" .f32 0x3ECC422A#32 _ rfl⟩

theorem algebraic : Cert.algebraic_BKernelIdeal_BReferenceIdeal_pre_b_finite := by
  intro m ρ m' ρ' hpre hagree
  refine ⟨fun c => Cert.BKernelIdeal.dpArr m c (argOf m c), fun c => Cert.BKernelIdeal.stArr c (argOf m c), fun c => Cert.BKernelIdeal.gtArr c (argOf m c),
    fun c => Cert.BKernelIdeal.dwArr c (argOf m c), ?_, ?_⟩
  · exact (θ_run _ _ _).mono (fun r h c => ⟨(h.1 c).1, (h.1 c).2.1, (h.1 c).2.2.1, (h.1 c).2.2.2, h.2.1 c⟩)
      (θ_run_and (Cert.BKernelIdeal.run_values m ρ (argOf m) (given m hpre)) (Cert.BKernelIdeal.frame_run m ρ))
  · refine (θ_run _ _ _).mono (fun r h c => ?_) (θ_run_and (Cert.BReferenceIdeal.run_values m' ρ' (argOf m) fun c => by
      obtain ⟨e0, e1, e2, e3, e4, e5, e6⟩ := hagree c
      rw [e0, e1, e3, e4, e5, e6]
      exact given m hpre c) (Cert.BReferenceIdeal.Value.run (F := Ideal) m' ρ'))
    obtain ⟨e0, e1, e2, e3, e4, e5, e6⟩ := hagree c
    refine ⟨?_, ?_, ?_, ?_, (h.2 c).2.2.2.2⟩
    · funext i
      rw [(h.1 c).1 i, e2]
      rfl
    · funext i
      rw [(h.1 c).2.1 i]
      rfl
    · funext i
      rw [(h.1 c).2.2.1 i]
      rfl
    · funext i
      rw [(h.1 c).2.2.2 i]
      rfl

end Cert.Proof.B

end
-- ==== Proof.Out.Spec.lean ====
module

public import proofs.«01_k».proof.Proof.In.Spec

@[expose] public section

noncomputable section

/-! # The merge of the two branches, the loss and their gradients, as functions of one row of the sequence -/

namespace Step.Out

open Idealize.ShloMosaic
open scoped BigOperators

/-- The logistic function. -/
def sg (x : EReal) : EReal := Ideal.div 1 (1 + Ideal.exp (-x))

/-- A row times a matrix. -/
def times (y : Fin 1024 → EReal) (w : Fin 1024 → Fin 1024 → EReal) (k : Fin 1024) : EReal := ∑ l, y l * w l k

/-- A row times a matrix's transpose. -/
def timesT (y : Fin 1024 → EReal) (w : Fin 1024 → Fin 1024 → EReal) (k : Fin 1024) : EReal := ∑ l, y l * w k l

/-- What one row of the results depends on. -/
@[ext] structure Row where
  /-- The merge gate of the first branch, before the logistic function. -/
  qa : Fin 1024 → EReal
  /-- The merge gate of the second branch. -/
  qb : Fin 1024 → EReal
  /-- The first branch's result. -/
  ya : Fin 1024 → EReal
  /-- The second branch's result. -/
  yb : Fin 1024 → EReal
  /-- The residual stream. -/
  x : Fin 1024 → EReal
  /-- The target. -/
  t : Fin 1024 → EReal
  /-- The gate of the residual. -/
  gate : Fin 1024 → EReal
  /-- The weight of the final norm. -/
  gf : Fin 1024 → EReal
  /-- The first branch's projection. -/
  wa : Fin 1024 → Fin 1024 → EReal
  /-- The second branch's projection. -/
  wb : Fin 1024 → Fin 1024 → EReal
  /-- The projection of the merged branches. -/
  wo : Fin 1024 → Fin 1024 → EReal

variable (R : Row)

/-- The gated sum of the two branches. -/
def merged (k : Fin 1024) : EReal := sg (R.qa k) * times R.ya R.wa k + sg (R.qb k) * times R.yb R.wb k
/-- Its projection. -/
def proj : Fin 1024 → EReal := times (merged R) R.wo
/-- The residual stream after it. -/
def res (j : Fin 1024) : EReal := R.x j + R.gate j * proj R j
/-- The residual stream over its root mean square. -/
def normed (j : Fin 1024) : EReal := res R j * rinv (res R)
/-- The difference from the target. -/
def err (j : Fin 1024) : EReal := normed R j * R.gf j - R.t j
/-- The cotangent of the norm's result. -/
def dy (j : Fin 1024) : EReal := err R j * Ideal.ofBits .f32 981467136#32
/-- The cotangent of the residual stream. -/
def gx (j : Fin 1024) : EReal := Step.In.row (res R) (fun _ => 0) (fun l => dy R l * R.gf l) j
/-- The cotangent of the projection's result. -/
def gproj (j : Fin 1024) : EReal := R.gate j * gx R j
/-- The cotangent of the merged branches. -/
def gm : Fin 1024 → EReal := timesT (gproj R) R.wo
/-- The cotangents of the two projected branches. -/
def ga (k : Fin 1024) : EReal := sg (R.qa k) * gm R k
def gb (k : Fin 1024) : EReal := sg (R.qb k) * gm R k
/-- The cotangents of the two branches. -/
def gya : Fin 1024 → EReal := timesT (ga R) R.wa
def gyb : Fin 1024 → EReal := timesT (gb R) R.wb
/-- The cotangents of the two merge gates. -/
def gqa (k : Fin 1024) : EReal := gm R k * times R.ya R.wa k * (sg (R.qa k) * (1 - sg (R.qa k)))
def gqb (k : Fin 1024) : EReal := gm R k * times R.yb R.wb k * (sg (R.qb k) * (1 - sg (R.qb k)))
/-- The cotangents of both gates, side by side. -/
def gq (k : Fin 2048) : EReal :=
  if h : k.val < 1024 then gqa R ⟨k.val, h⟩ else gqb R ⟨k.val - 1024, by omega⟩

/-- The summands of the three sums over the sequence: the gradients of the final norm's weight and of the residual's gate, and the square error. -/
def summand (b : Fin 3) (j : Fin 1024) : EReal :=
  if b.val = 0 then dy R j * normed R j else if b.val = 1 then gx R j * proj R j else err R j * err R j

/-- The rows of sums. -/
def st (rows : Fin 4096 → Row) (k : Fin 8) (j : Fin 1024) : EReal :=
  if k.val = 0 then ∑ i, summand (rows i) 0 j
  else if k.val = 1 then ∑ i, summand (rows i) 1 j
  else if k.val = 2 then Ideal.ofBits .f32 973078528#32 * ∑ i, summand (rows i) 2 j
  else 0

/-- The pattern of one over 1024. -/
theorem bits_inv : Ideal.ofBits .f32 981467136#32 = ((1 / 1024 : ℝ) : EReal) := by
  simp [Ideal.ofBits, Ideal.ieee, -EReal.coe_mul]; norm_num

/-- The pattern of one over 2048. -/
theorem bits_half_inv : Ideal.ofBits .f32 973078528#32 = ((1 / 2048 : ℝ) : EReal) := by
  simp [Ideal.ofBits, Ideal.ieee, -EReal.coe_mul]; norm_num

/-- The pattern of one half. -/
theorem bits_half : Ideal.ofBits .f32 1056964608#32 = ((1 / 2 : ℝ) : EReal) := by
  simp [Ideal.ofBits, Ideal.ieee, -EReal.coe_mul]; norm_num

/-- The pattern of two. -/
theorem bits_two : Ideal.ofBits .f32 1073741824#32 = ((2 : ℝ) : EReal) := by
  simp [Ideal.ofBits, Ideal.ieee, -EReal.coe_mul]; norm_num

/-- The chain rule's factor on the difference: half of a mean, times the derivative of a square. -/
theorem dy_eq (j : Fin 1024) :
    Ideal.div (Ideal.ofBits .f32 1056964608#32) (Ideal.ofBits .f32 1149239296#32) * (Ideal.ofBits .f32 1073741824#32 * err R j) = dy R j := by
  unfold dy
  rw [div_1024, bits_half, bits_two, bits_inv, ← mul_assoc, ← EReal.coe_mul, ← EReal.coe_mul, mul_comm (err R j)]
  norm_num

/-- The chain rule's form of the cotangent of the residual stream. -/
theorem gx_eq (j : Fin 1024) (s : EReal)
    (hs : s = Ideal.div ((∑ l, res R l * (dy R l * R.gf l)) * (Ideal.ofBits .f32 3204448256#32 * Ideal.div (rinv (res R)) (under (res R))))
      (Ideal.ofBits .f32 1149239296#32)) :
    dy R j * R.gf j * rinv (res R) + res R j * s + s * res R j = gx R j := by
  have h := Step.In.row_eq (res R) (fun _ => 0) (fun l => dy R l * R.gf l) j s hs
  rw [zero_add] at h
  exact h

end Step.Out

end
-- ==== Proof.Out.Blocks.lean ====
module

public import proofs.«01_k».proof.Proof.Gen.OutKernelIdeal.Value
public import proofs.«01_k».proof.Proof.Out.Spec
public import Idealize.ShloMosaic.Lib.Claim
public import Idealize.ShloMosaic.Lib.Pipeline.ValueKit
public import Idealize.ShloMosaic.Lib.Pointwise

@[expose] public section

set_option maxRecDepth 16384

noncomputable section

/-! # The blocks that the kernel reads, in terms of its arguments -/

namespace Cert.OutKernelIdeal

open Idealize.ShloMosaic Idealize.ShloMosaic.TcCoe Idealize.ShloMosaic.Tactic
open scoped BigOperators

variable (m : (ℓ : Loc nD τ sig) → Buf (Elt Ideal) ℓ) (c : Dev nD)

/-- One row of the arguments. -/
def rowAt (i : Fin 4096) : Step.Out.Row where
  qa k := m ((c : Thread nD τ).loc main_arg0) (ix2 i ⟨6144 + k.val, by omega⟩)
  qb k := m ((c : Thread nD τ).loc main_arg0) (ix2 i ⟨6144 + (1024 + k.val), by omega⟩)
  ya k := m ((c : Thread nD τ).loc main_arg1) (ix2 i k)
  yb k := m ((c : Thread nD τ).loc main_arg2) (ix2 i k)
  x k := m ((c : Thread nD τ).loc main_arg3) (ix2 i k)
  t k := m ((c : Thread nD τ).loc main_arg4) (ix2 i k)
  gate k := m ((c : Thread nD τ).loc main_arg5) (ix2 0 k)
  gf k := m ((c : Thread nD τ).loc main_arg6) (ix2 0 k)
  wa k l := m ((c : Thread nD τ).loc main_arg7) (ix2 k l)
  wb k l := m ((c : Thread nD τ).loc main_arg8) (ix2 k l)
  wo k l := m ((c : Thread nD τ).loc main_arg9) (ix2 k l)

/-- Row `r` of block `t`. -/
def rowOf (t : Fin cfg0.N) (r : Fin 256) : Fin 4096 := ⟨t.val * 256 + r.val, by have := t.isLt; have : cfg0.N = 16 := Gen.N_0; omega⟩

/-- One row of the kernel's blocks. -/
def rowB (x0 : Vec Ideal S256x2048 .bf16) (x1 x2 : Vec Ideal S256x1024 .bf16) (x3 x4 : Vec Ideal S256x1024 .f32) (x5 x6 : Vec Ideal S1x1024 .f32)
    (x7 x8 x9 : Vec Ideal S1024x1024 .bf16) (r : Fin 256) : Step.Out.Row where
  qa k := x0 (ix2 r ⟨k.val, by omega⟩)
  qb k := x0 (ix2 r ⟨1024 + k.val, by omega⟩)
  ya k := x1 (ix2 r k)
  yb k := x2 (ix2 r k)
  x k := x3 (ix2 r k)
  t k := x4 (ix2 r k)
  gate k := x5 (ix2 0 k)
  gf k := x6 (ix2 0 k)
  wa k l := x7 (ix2 k l)
  wb k l := x8 (ix2 k l)
  wo k l := x9 (ix2 k l)

theorem idx_0 : ∀ t : Fin cfg0.N, win0_0.index t 0 = t.val ∧ win0_0.index t 1 = 3 := by decide +kernel
theorem idx_1 : ∀ t : Fin cfg0.N, win0_1.index t 0 = t.val ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = t.val ∧ win0_3.index t 1 = 0 := by decide +kernel
theorem idx_4 : ∀ t : Fin cfg0.N, win0_4.index t 0 = t.val ∧ win0_4.index t 1 = 0 := by decide +kernel
theorem idx_5 : ∀ t : Fin cfg0.N, win0_5.index t 0 = 0 ∧ win0_5.index t 1 = 0 := by decide +kernel
theorem idx_6 : ∀ t : Fin cfg0.N, win0_6.index t 0 = 0 ∧ win0_6.index t 1 = 0 := by decide +kernel
theorem idx_7 : ∀ t : Fin cfg0.N, win0_7.index t 0 = 0 ∧ win0_7.index t 1 = 0 := by decide +kernel
theorem idx_8 : ∀ t : Fin cfg0.N, win0_8.index t 0 = 0 ∧ win0_8.index t 1 = 0 := by decide +kernel
theorem idx_9 : ∀ t : Fin cfg0.N, win0_9.index t 0 = 0 ∧ win0_9.index t 1 = 0 := by decide +kernel

theorem blk_0 (t : Fin cfg0.N) (r : Fin 256) (k : Fin 2048) :
    Gen.iblk m c 0 t (ix2 r k) = m ((c : Thread nD τ).loc main_arg0) (ix2 (rowOf t r) ⟨6144 + k.val, by omega⟩) := by
  unfold rowOf
  have h := idx_0 t
  blk_ext [Gen.iblk, h.1, h.2]

theorem blk_1 (t : Fin cfg0.N) (r : Fin 256) (j : Fin 1024) :
    Gen.iblk m c 1 t (ix2 r j) = m ((c : Thread nD τ).loc main_arg1) (ix2 (rowOf t r) j) := by
  unfold rowOf
  have h := idx_1 t
  blk_ext [Gen.iblk, h.1, h.2]

theorem blk_2 (t : Fin cfg0.N) (r : Fin 256) (j : Fin 1024) :
    Gen.iblk m c 2 t (ix2 r j) = m ((c : Thread nD τ).loc main_arg2) (ix2 (rowOf t r) j) := by
  unfold rowOf
  have h := idx_2 t
  blk_ext [Gen.iblk, h.1, h.2]

theorem blk_3 (t : Fin cfg0.N) (r : Fin 256) (j : Fin 1024) :
    Gen.iblk m c 3 t (ix2 r j) = m ((c : Thread nD τ).loc main_arg3) (ix2 (rowOf t r) j) := by
  unfold rowOf
  have h := idx_3 t
  blk_ext [Gen.iblk, h.1, h.2]

theorem blk_4 (t : Fin cfg0.N) (r : Fin 256) (j : Fin 1024) :
    Gen.iblk m c 4 t (ix2 r j) = m ((c : Thread nD τ).loc main_arg4) (ix2 (rowOf t r) j) := by
  unfold rowOf
  have h := idx_4 t
  blk_ext [Gen.iblk, h.1, h.2]

theorem blk_5 (t : Fin cfg0.N) (j : Fin 1024) : Gen.iblk m c 5 t (ix2 0 j) = m ((c : Thread nD τ).loc main_arg5) (ix2 0 j) := by
  have h := idx_5 t
  blk_ext [Gen.iblk, h.1, h.2]

theorem blk_6 (t : Fin cfg0.N) (j : Fin 1024) : Gen.iblk m c 6 t (ix2 0 j) = m ((c : Thread nD τ).loc main_arg6) (ix2 0 j) := by
  have h := idx_6 t
  blk_ext [Gen.iblk, h.1, h.2]

theorem cast_7 (j k : Fin 1024) : Gen.V m c main_v0 (ix2 j k) = m ((c : Thread nD τ).loc main_arg7) (ix2 j k) := by
  entry_read
  pointwise

theorem cast_8 (j k : Fin 1024) : Gen.V m c main_v1 (ix2 j k) = m ((c : Thread nD τ).loc main_arg8) (ix2 j k) := by
  entry_read
  pointwise

theorem cast_9 (j k : Fin 1024) : Gen.V m c main_v2 (ix2 j k) = m ((c : Thread nD τ).loc main_arg9) (ix2 j k) := by
  entry_read
  pointwise

theorem blk_7 (t : Fin cfg0.N) (j k : Fin 1024) : Gen.iblk m c 7 t (ix2 j k) = m ((c : Thread nD τ).loc main_arg7) (ix2 j k) := by
  rw [← cast_7 m c]
  have h := idx_7 t
  blk_ext [Gen.iblk, h.1, h.2]

theorem blk_8 (t : Fin cfg0.N) (j k : Fin 1024) : Gen.iblk m c 8 t (ix2 j k) = m ((c : Thread nD τ).loc main_arg8) (ix2 j k) := by
  rw [← cast_8 m c]
  have h := idx_8 t
  blk_ext [Gen.iblk, h.1, h.2]

theorem blk_9 (t : Fin cfg0.N) (j k : Fin 1024) : Gen.iblk m c 9 t (ix2 j k) = m ((c : Thread nD τ).loc main_arg9) (ix2 j k) := by
  rw [← cast_9 m c]
  have h := idx_9 t
  blk_ext [Gen.iblk, h.1, h.2]

/-- Row `r` of the blocks of point `t` is row `256 t + r` of the arguments. -/
theorem rowB_eq (t : Fin cfg0.N) (r : Fin 256) :
    rowB (Gen.iblk m c 0 t) (Gen.iblk m c 1 t) (Gen.iblk m c 2 t) (Gen.iblk m c 3 t) (Gen.iblk m c 4 t) (Gen.iblk m c 5 t) (Gen.iblk m c 6 t)
      (Gen.iblk m c 7 t) (Gen.iblk m c 8 t) (Gen.iblk m c 9 t) r = rowAt m c (rowOf t r) := by
  unfold rowB rowAt
  congr 1 <;> funext k
  · exact blk_0 m c t r _
  · exact blk_0 m c t r _
  · exact blk_1 m c t r k
  · exact blk_2 m c t r k
  · exact blk_3 m c t r k
  · exact blk_4 m c t r k
  · exact blk_5 m c t k
  · exact blk_6 m c t k
  · funext l; exact blk_7 m c t k l
  · funext l; exact blk_8 m c t k l
  · funext l; exact blk_9 m c t k l

end Cert.OutKernelIdeal

end
-- ==== Proof.Out.Pays.lean ====
module

public import proofs.«01_k».proof.Proof.Out.Blocks

@[expose] public section

set_option maxRecDepth 16384

noncomputable section

/-! # The kernel's values over the extended reals, read at a row and a column -/

namespace Cert.OutKernelIdeal

open Idealize.ShloMosaic Idealize.ShloMosaic.TcCoe Idealize.ShloMosaic.Tactic
open scoped BigOperators

/-! What the body reads: the two halves of its gates' block, and its other blocks whole. -/
variable (x0 : Vec Ideal S256x2048 .bf16) (x1 x2 : Vec Ideal S256x1024 .bf16) (x3 x4 : Vec Ideal S256x1024 .f32) (x5 x6 : Vec Ideal S1x1024 .f32)
    (x7 x8 x9 : Vec Ideal S1024x1024 .bf16) (qa qb : Vec Ideal S256x1024 .bf16)
    (hqa : ∀ (r : Fin 256) (j : Fin 1024), qa (ix2 r j) = (rowB x0 x1 x2 x3 x4 x5 x6 x7 x8 x9 r).qa j)
    (hqb : ∀ (r : Fin 256) (j : Fin 1024), qb (ix2 r j) = (rowB x0 x1 x2 x3 x4 x5 x6 x7 x8 x9 r).qb j)

local notation "R" => rowB x0 x1 x2 x3 x4 x5 x6 x7 x8 x9
local notation "MB" => Gen.k0_pay12 (F := Ideal) x1 x7 x2 x8 qa qb
local notation "DX" => Gen.k0_pay19 (F := Ideal) MB x9 x3 x5 x6 x4 x6
local notation "DM" => Gen.k0_pay24 (F := Ideal) DX x5 x9

theorem ya_apply (r : Fin 256) (j : Fin 1024) : Gen.k0_pay8 (F := Ideal) x1 x7 (ix2 r j) = Step.Out.times (R r).ya (R r).wa j := by
  pointwise [Gen.k0_pay8]
  rfl

theorem yb_apply (r : Fin 256) (j : Fin 1024) : Gen.k0_pay9 (F := Ideal) x2 x8 (ix2 r j) = Step.Out.times (R r).yb (R r).wb j := by
  pointwise [Gen.k0_pay9]
  rfl

include hqa in
theorem ga_apply (r : Fin 256) (j : Fin 1024) : Gen.k0_pay10 (F := Ideal) qa (ix2 r j) = Step.Out.sg ((R r).qa j) := by
  pointwise [Gen.k0_pay10]
  rw [hqa r j]
  first | rfl | (rw [zero_sub]; rfl)

include hqb in
theorem gb_apply (r : Fin 256) (j : Fin 1024) : Gen.k0_pay11 (F := Ideal) qb (ix2 r j) = Step.Out.sg ((R r).qb j) := by
  pointwise [Gen.k0_pay11]
  rw [hqb]
  first | rfl | (rw [zero_sub]; rfl)

include hqa hqb

theorem merged_apply (r : Fin 256) (j : Fin 1024) : MB (ix2 r j) = Step.Out.merged (R r) j := by
  pointwise [Gen.k0_pay12]
  rw [ya_apply x0 x1 x2 x3 x4 x5 x6 x7 x8 x9, yb_apply x0 x1 x2 x3 x4 x5 x6 x7 x8 x9, ga_apply x0 x1 x2 x3 x4 x5 x6 x7 x8 x9 qa hqa, gb_apply x0 x1 x2 x3 x4 x5 x6 x7 x8 x9 qb hqb]
  rfl

theorem proj_apply (r : Fin 256) (j : Fin 1024) : Gen.k0_pay13 (F := Ideal) MB x9 (ix2 r j) = Step.Out.proj (R r) j := by
  pointwise [Gen.k0_pay13]
  simp only [merged_apply x0 x1 x2 x3 x4 x5 x6 x7 x8 x9 qa qb hqa hqb]
  rfl

theorem res_apply (r : Fin 256) (j : Fin 1024) : Gen.k0_pay14 (F := Ideal) MB x9 x3 x5 (ix2 r j) = Step.Out.res (R r) j := by
  pointwise [Gen.k0_pay14]
  rw [proj_apply x0 x1 x2 x3 x4 x5 x6 x7 x8 x9 qa qb hqa hqb]
  rfl

theorem r_apply (r : Fin 256) : Gen.k0_pay15 (F := Ideal) MB x9 x3 x5 (ix2 r 0) = Step.rinv (Step.Out.res (R r)) := by
  pointwise [Gen.k0_pay15]
  simp only [res_apply x0 x1 x2 x3 x4 x5 x6 x7 x8 x9 qa qb hqa hqb]
  rfl

theorem normed_apply (r : Fin 256) (j : Fin 1024) : Gen.k0_pay16 (F := Ideal) MB x9 x3 x5 (ix2 r j) = Step.Out.normed (R r) j := by
  pointwise [Gen.k0_pay16]
  rw [res_apply x0 x1 x2 x3 x4 x5 x6 x7 x8 x9 qa qb hqa hqb, r_apply x0 x1 x2 x3 x4 x5 x6 x7 x8 x9 qa qb hqa hqb]
  rfl

theorem err_apply (r : Fin 256) (j : Fin 1024) : Gen.k0_pay17 (F := Ideal) MB x9 x3 x5 x6 x4 (ix2 r j) = Step.Out.err (R r) j := by
  pointwise [Gen.k0_pay17]
  rw [normed_apply x0 x1 x2 x3 x4 x5 x6 x7 x8 x9 qa qb hqa hqb]
  rfl

theorem dy_apply (r : Fin 256) (j : Fin 1024) : Gen.k0_pay18 (F := Ideal) MB x9 x3 x5 x6 x4 (ix2 r j) = Step.Out.dy (R r) j := by
  pointwise [Gen.k0_pay18]
  rw [err_apply x0 x1 x2 x3 x4 x5 x6 x7 x8 x9 qa qb hqa hqb]
  rfl

theorem gx_apply (r : Fin 256) (j : Fin 1024) : DX (ix2 r j) = Step.Out.gx (R r) j := by
  pointwise [Gen.k0_pay19]
  simp only [dy_apply x0 x1 x2 x3 x4 x5 x6 x7 x8 x9 qa qb hqa hqb, normed_apply x0 x1 x2 x3 x4 x5 x6 x7 x8 x9 qa qb hqa hqb]
  rw [r_apply x0 x1 x2 x3 x4 x5 x6 x7 x8 x9 qa qb hqa hqb]
  exact (zero_add _).symm

theorem gproj_apply (r : Fin 256) (j : Fin 1024) : Gen.k0_pay23 (F := Ideal) DX x5 (ix2 r j) = Step.Out.gproj (R r) j := by
  pointwise [Gen.k0_pay23]
  rw [gx_apply x0 x1 x2 x3 x4 x5 x6 x7 x8 x9 qa qb hqa hqb]
  rfl

theorem gm_apply (r : Fin 256) (j : Fin 1024) : DM (ix2 r j) = Step.Out.gm (R r) j := by
  pointwise [Gen.k0_pay24]
  simp only [gproj_apply x0 x1 x2 x3 x4 x5 x6 x7 x8 x9 qa qb hqa hqb]
  rfl

theorem gaA_apply (r : Fin 256) (j : Fin 1024) : Gen.k0_pay1 (F := Ideal) (Gen.k0_pay10 qa) DM (ix2 r j) = Step.Out.ga (R r) j := by
  pointwise [Gen.k0_pay1]
  rw [gm_apply x0 x1 x2 x3 x4 x5 x6 x7 x8 x9 qa qb hqa hqb, ga_apply x0 x1 x2 x3 x4 x5 x6 x7 x8 x9 qa hqa]
  rfl

theorem gbB_apply (r : Fin 256) (j : Fin 1024) : Gen.k0_pay2 (F := Ideal) (Gen.k0_pay11 qb) DM (ix2 r j) = Step.Out.gb (R r) j := by
  pointwise [Gen.k0_pay2]
  rw [gm_apply x0 x1 x2 x3 x4 x5 x6 x7 x8 x9 qa qb hqa hqb, gb_apply x0 x1 x2 x3 x4 x5 x6 x7 x8 x9 qb hqb]
  rfl

theorem gya_apply (r : Fin 256) (j : Fin 1024) : Gen.k0_pay5 (F := Ideal) (Gen.k0_pay10 qa) DM x7 (ix2 r j) = Step.Out.gya (R r) j := by
  pointwise [Gen.k0_pay5]
  simp only [gaA_apply x0 x1 x2 x3 x4 x5 x6 x7 x8 x9 qa qb hqa hqb]
  rfl

theorem gyb_apply (r : Fin 256) (j : Fin 1024) : Gen.k0_pay6 (F := Ideal) (Gen.k0_pay11 qb) DM x8 (ix2 r j) = Step.Out.gyb (R r) j := by
  pointwise [Gen.k0_pay6]
  simp only [gbB_apply x0 x1 x2 x3 x4 x5 x6 x7 x8 x9 qa qb hqa hqb]
  rfl

theorem gqa_apply (r : Fin 256) (j : Fin 1024) :
    Gen.k0_pay3 (F := Ideal) (Gen.k0_pay8 x1 x7) (Gen.k0_pay10 qa) DM (ix2 r j) = Step.Out.gqa (R r) j := by
  pointwise [Gen.k0_pay3]
  rw [gm_apply x0 x1 x2 x3 x4 x5 x6 x7 x8 x9 qa qb hqa hqb, ga_apply x0 x1 x2 x3 x4 x5 x6 x7 x8 x9 qa hqa, ya_apply x0 x1 x2 x3 x4 x5 x6 x7 x8 x9]
  exact mul_assoc _ _ _

theorem gqb_apply (r : Fin 256) (j : Fin 1024) :
    Gen.k0_pay4 (F := Ideal) (Gen.k0_pay9 x2 x8) (Gen.k0_pay11 qb) DM (ix2 r j) = Step.Out.gqb (R r) j := by
  pointwise [Gen.k0_pay4]
  rw [gm_apply x0 x1 x2 x3 x4 x5 x6 x7 x8 x9 qa qb hqa hqb, gb_apply x0 x1 x2 x3 x4 x5 x6 x7 x8 x9 qb hqb, yb_apply x0 x1 x2 x3 x4 x5 x6 x7 x8 x9]
  exact mul_assoc _ _ _

/-- What a point adds to the first row of sums. -/
theorem sum0_apply (a : Vec Ideal S1x1024 .f32) (j : Fin 1024) :
    Gen.k0_pay20 (F := Ideal) (Gen.k0_pay16 MB x9 x3 x5) (Gen.k0_pay18 MB x9 x3 x5 x6 x4) a (ix2 0 j)
      = a (ix2 0 j) + ∑ r, Step.Out.summand (R r) 0 j := by
  pointwise [Gen.k0_pay20]
  simp only [dy_apply x0 x1 x2 x3 x4 x5 x6 x7 x8 x9 qa qb hqa hqb, normed_apply x0 x1 x2 x3 x4 x5 x6 x7 x8 x9 qa qb hqa hqb]
  rfl

/-- What a point adds to the second. -/
theorem sum1_apply (a : Vec Ideal S1x1024 .f32) (j : Fin 1024) :
    Gen.k0_pay21 (F := Ideal) (Gen.k0_pay13 MB x9) DX a (ix2 0 j) = a (ix2 0 j) + ∑ r, Step.Out.summand (R r) 1 j := by
  pointwise [Gen.k0_pay21]
  simp only [gx_apply x0 x1 x2 x3 x4 x5 x6 x7 x8 x9 qa qb hqa hqb, proj_apply x0 x1 x2 x3 x4 x5 x6 x7 x8 x9 qa qb hqa hqb]
  rfl

/-- What a point adds to the third. -/
theorem sum2_apply (a : Vec Ideal S1x1024 .f32) (j : Fin 1024) :
    Gen.k0_pay22 (F := Ideal) (Gen.k0_pay17 MB x9 x3 x5 x6 x4) a (ix2 0 j)
      = a (ix2 0 j) + Ideal.ofBits .f32 973078528#32 * ∑ r, Step.Out.summand (R r) 2 j := by
  pointwise [Gen.k0_pay22]
  simp only [err_apply x0 x1 x2 x3 x4 x5 x6 x7 x8 x9 qa qb hqa hqb]
  rw [mul_comm (∑ _, _)]
  rfl

end Cert.OutKernelIdeal

end
-- ==== Proof.Out.Points.lean ====
module

public import proofs.«01_k».proof.Proof.Out.Pays
public import proofs.«01_k».proof.Proof.Gen.OutKernelIdeal.Value
public import Idealize.ShloMosaic.Lib.Pipeline.ValueKit

@[expose] public section

set_option maxRecDepth 16384

noncomputable section

/-! # The blocks that each point of the kernel leaves -/

namespace Cert.OutKernelIdeal

open Idealize.ShloMosaic Idealize.ShloMosaic.TcCoe Idealize.ShloMosaic.Tactic
open Idealize.SL.Sem
open scoped BigOperators

variable (m : (ℓ : Loc nD τ sig) → Buf (Elt Ideal) ℓ) (c : Dev nD)

/-- The gates of the first branch in the block of point `t`. -/
abbrev halfA (t : Fin cfg0.N) : Vec Ideal S256x1024 .bf16 :=
  View.ld (Gen.iblk m c 0 t) (Rect.unit ![0, 0] ![256, 1024] Gen.inb_S256x2048_S256x1024_0_0)

/-- The gates of the second. -/
abbrev halfB (t : Fin cfg0.N) : Vec Ideal S256x1024 .bf16 :=
  View.ld (Gen.iblk m c 0 t) (Rect.unit ![0, 1024] ![256, 1024] Gen.inb_S256x2048_S256x1024_0_1024)

theorem halfA_apply (t : Fin cfg0.N) (r : Fin 256) (j : Fin 1024) : halfA m c t (ix2 r j) = Gen.iblk m c 0 t (ix2 r ⟨j.val, by omega⟩) := by
  refine congrArg (Gen.iblk m c 0 t) (funext fun a => Fin.ext ?_)
  fin_cases a
  · show 0 + 1 * r.val = r.val
    omega
  · show 0 + 1 * j.val = j.val
    omega

theorem halfB_apply (t : Fin cfg0.N) (r : Fin 256) (j : Fin 1024) : halfB m c t (ix2 r j) = Gen.iblk m c 0 t (ix2 r ⟨1024 + j.val, by omega⟩) := by
  refine congrArg (Gen.iblk m c 0 t) (funext fun a => Fin.ext ?_)
  fin_cases a
  · show 0 + 1 * r.val = r.val
    omega
  · show 1024 + 1 * j.val = 1024 + j.val
    omega

theorem after_10 (t : Fin cfg0.N) (r : Fin 256) (j : Fin 1024) :
    (Gen.dats m 0 c).after 10 t (ix2 r j) = Step.Out.gx (rowAt m c (rowOf t r)) j := by
  rw [Gen.after0_10]
  refine Eq.trans ?_ ((gx_apply _ _ _ _ _ _ _ _ _ _ _ _ (halfA_apply m c t) (halfB_apply m c t) r j).trans
    (congrArg (fun R => Step.Out.gx R j) (rowB_eq m c t r)))
  by_cases h : t.val % 16 = 0
  · rw [Gen.outsAt0_A m c t h]
    frame_out
    rfl
  · rw [Gen.outsAt0_B m c t h]
    frame_out
    rfl

theorem after_11 (t : Fin cfg0.N) (r : Fin 256) (j : Fin 1024) :
    (Gen.dats m 0 c).after 11 t (ix2 r j) = Step.Out.gya (rowAt m c (rowOf t r)) j := by
  rw [Gen.after0_11]
  refine Eq.trans ?_ ((gya_apply _ _ _ _ _ _ _ _ _ _ _ _ (halfA_apply m c t) (halfB_apply m c t) r j).trans
    (congrArg (fun R => Step.Out.gya R j) (rowB_eq m c t r)))
  by_cases h : t.val % 16 = 0
  · rw [Gen.outsAt0_A m c t h]
    frame_out
    rfl
  · rw [Gen.outsAt0_B m c t h]
    frame_out
    rfl

theorem after_12 (t : Fin cfg0.N) (r : Fin 256) (j : Fin 1024) :
    (Gen.dats m 0 c).after 12 t (ix2 r j) = Step.Out.gyb (rowAt m c (rowOf t r)) j := by
  rw [Gen.after0_12]
  refine Eq.trans ?_ ((gyb_apply _ _ _ _ _ _ _ _ _ _ _ _ (halfA_apply m c t) (halfB_apply m c t) r j).trans
    (congrArg (fun R => Step.Out.gyb R j) (rowB_eq m c t r)))
  by_cases h : t.val % 16 = 0
  · rw [Gen.outsAt0_A m c t h]
    frame_out
    rfl
  · rw [Gen.outsAt0_B m c t h]
    frame_out
    rfl

theorem after_14 (t : Fin cfg0.N) (r : Fin 256) (j : Fin 1024) :
    (Gen.dats m 0 c).after 14 t (ix2 r j) = Step.Out.merged (rowAt m c (rowOf t r)) j := by
  rw [Gen.after0_14]
  refine Eq.trans ?_ ((merged_apply _ _ _ _ _ _ _ _ _ _ _ _ (halfA_apply m c t) (halfB_apply m c t) r j).trans
    (congrArg (fun R => Step.Out.merged R j) (rowB_eq m c t r)))
  by_cases h : t.val % 16 = 0
  · rw [Gen.outsAt0_A m c t h]
    frame_out
    rfl
  · rw [Gen.outsAt0_B m c t h]
    frame_out
    rfl

theorem after_15 (t : Fin cfg0.N) (r : Fin 256) (j : Fin 1024) :
    (Gen.dats m 0 c).after 15 t (ix2 r j) = Step.Out.gproj (rowAt m c (rowOf t r)) j := by
  rw [Gen.after0_15]
  refine Eq.trans ?_ ((gproj_apply _ _ _ _ _ _ _ _ _ _ _ _ (halfA_apply m c t) (halfB_apply m c t) r j).trans
    (congrArg (fun R => Step.Out.gproj R j) (rowB_eq m c t r)))
  by_cases h : t.val % 16 = 0
  · rw [Gen.outsAt0_A m c t h]
    frame_out
    rfl
  · rw [Gen.outsAt0_B m c t h]
    frame_out
    rfl

theorem after_16 (t : Fin cfg0.N) (r : Fin 256) (j : Fin 1024) :
    (Gen.dats m 0 c).after 16 t (ix2 r j) = Step.Out.ga (rowAt m c (rowOf t r)) j := by
  rw [Gen.after0_16]
  refine Eq.trans ?_ ((gaA_apply _ _ _ _ _ _ _ _ _ _ _ _ (halfA_apply m c t) (halfB_apply m c t) r j).trans
    (congrArg (fun R => Step.Out.ga R j) (rowB_eq m c t r)))
  by_cases h : t.val % 16 = 0
  · rw [Gen.outsAt0_A m c t h]
    frame_out
    rfl
  · rw [Gen.outsAt0_B m c t h]
    frame_out
    rfl

theorem after_17 (t : Fin cfg0.N) (r : Fin 256) (j : Fin 1024) :
    (Gen.dats m 0 c).after 17 t (ix2 r j) = Step.Out.gb (rowAt m c (rowOf t r)) j := by
  rw [Gen.after0_17]
  refine Eq.trans ?_ ((gbB_apply _ _ _ _ _ _ _ _ _ _ _ _ (halfA_apply m c t) (halfB_apply m c t) r j).trans
    (congrArg (fun R => Step.Out.gb R j) (rowB_eq m c t r)))
  by_cases h : t.val % 16 = 0
  · rw [Gen.outsAt0_A m c t h]
    frame_out
    rfl
  · rw [Gen.outsAt0_B m c t h]
    frame_out
    rfl

/-- The block of the cotangents of the gates, which two writes fill side by side. -/
theorem after_13 (t : Fin cfg0.N) (r : Fin 256) (k : Fin 2048) :
    (Gen.dats m 0 c).after 13 t (ix2 r k) = Step.Out.gq (rowAt m c (rowOf t r)) k := by
  have low : ∀ (W V : Vec Ideal S256x1024 .bf16) (h : k.val < 1024),
      View.canon (Val := Elt Ideal) (s := S256x2048) [⟨Rect.unit ![0, 1024] ![256, 1024] Gen.inb_S256x2048_S256x1024_0_1024, W⟩,
        ⟨Rect.unit ![0, 0] ![256, 1024] Gen.inb_S256x2048_S256x1024_0_0, V⟩] (ix2 r k) = V (ix2 r ⟨k.val, h⟩) := by
    intro W V h
    have e : (ix2 r k : S256x2048.Idx) = (Rect.unit ![0, 0] ![256, 1024] Gen.inb_S256x2048_S256x1024_0_0).emb (ix2 r ⟨k.val, h⟩) := by
      refine funext fun a => Fin.ext ?_
      fin_cases a
      · show r.val = 0 + 1 * r.val
        omega
      · show k.val = 0 + 1 * k.val
        omega
    rw [View.canon_cons_of_not_mem, e]
    · exact View.canon_cons_emb _ _ _ _
    · rw [Rect.mem_set_unit]
      intro hm
      have : 1024 ≤ k.val := (hm 1).1
      omega
  have high : ∀ (W : Vec Ideal S256x1024 .bf16) (L) (h : ¬k.val < 1024),
      View.canon (Val := Elt Ideal) (s := S256x2048) (⟨Rect.unit ![0, 1024] ![256, 1024] Gen.inb_S256x2048_S256x1024_0_1024, W⟩ :: L) (ix2 r k)
        = W (ix2 r ⟨k.val - 1024, by omega⟩) := by
    intro W L h
    have e : (ix2 r k : S256x2048.Idx)
        = (Rect.unit ![0, 1024] ![256, 1024] Gen.inb_S256x2048_S256x1024_0_1024).emb (ix2 r ⟨k.val - 1024, by omega⟩) := by
      refine funext fun a => Fin.ext ?_
      fin_cases a
      · show r.val = 0 + 1 * r.val
        omega
      · show k.val = 1024 + 1 * (k.val - 1024)
        omega
    rw [e]
    exact View.canon_cons_emb _ _ _ _
  rw [Gen.after0_13]
  unfold Step.Out.gq
  by_cases hk : k.val < 1024
  · rw [dif_pos hk]
    refine Eq.trans ?_ ((gqa_apply _ _ _ _ _ _ _ _ _ _ _ _ (halfA_apply m c t) (halfB_apply m c t) r ⟨k.val, hk⟩).trans
      (congrArg (fun R => Step.Out.gqa R ⟨k.val, hk⟩) (rowB_eq m c t r)))
    by_cases h : t.val % 16 = 0
    · rw [Gen.outsAt0_A m c t h]
      frame_out
      exact low _ _ hk
    · rw [Gen.outsAt0_B m c t h]
      frame_out
      exact low _ _ hk
  · rw [dif_neg hk]
    refine Eq.trans ?_ ((gqb_apply _ _ _ _ _ _ _ _ _ _ _ _ (halfA_apply m c t) (halfB_apply m c t) r ⟨k.val - 1024, by omega⟩).trans
      (congrArg (fun R => Step.Out.gqb R ⟨k.val - 1024, by omega⟩) (rowB_eq m c t r)))
    by_cases h : t.val % 16 = 0
    · rw [Gen.outsAt0_A m c t h]
      frame_out
      exact high _ _ hk
    · rw [Gen.outsAt0_B m c t h]
      frame_out
      exact high _ _ hk

end Cert.OutKernelIdeal

end
-- ==== Proof.Out.Sums.lean ====
module

public import proofs.«01_k».proof.Proof.Out.Points

@[expose] public section

set_option maxRecDepth 16384

noncomputable section

/-! # The rows of sums that the kernel's points add up -/

namespace Cert.OutKernelIdeal

open Idealize.ShloMosaic Idealize.ShloMosaic.TcCoe Idealize.ShloMosaic.Tactic
open Idealize.SL.Sem
open scoped BigOperators

variable (m : (ℓ : Loc nD τ sig) → Buf (Elt Ideal) ℓ) (c : Dev nD)

/-- The rows of sums after point `n`. -/
def sums (n : ℕ) (h : n < cfg0.N) : Vec Ideal S8x1024 .f32 := (Gen.outsAt0 m c n h).2.2.2.2.2.2.2.2

/-- What point `t` adds to row `k` of sums. -/
def added (t : Fin cfg0.N) (k : Fin 8) (j : Fin 1024) : EReal :=
  if k.val = 0 then ∑ r, Step.Out.summand (rowAt m c (rowOf t r)) 0 j
  else if k.val = 1 then ∑ r, Step.Out.summand (rowAt m c (rowOf t r)) 1 j
  else if k.val = 2 then Ideal.ofBits .f32 973078528#32 * ∑ r, Step.Out.summand (rowAt m c (rowOf t r)) 2 j
  else 0

/-- Row `o` of sums, as an index of its one row. -/
theorem row_emb (o : Fin 8) (inb) (j : Fin 1024) :
    (Rect.unit (s := S8x1024) ![o.val, 0] ![1, 1024] inb).emb (ix2 (n0 := 1) (n1 := 1024) 0 j) = ix2 o j := by
  refine funext fun a => Fin.ext ?_
  fin_cases a
  · show o.val + 1 * 0 = o.val
    omega
  · show 0 + 1 * j.val = j.val
    omega

/-- Outside row `o`. -/
theorem row_not_mem (o k : Fin 8) (inb) (j : Fin 1024) (h : k ≠ o) :
    (ix2 k j : S8x1024.Idx) ∉ (Rect.unit (s := S8x1024) ![o.val, 0] ![1, 1024] inb).set := by
  rw [Rect.mem_set_unit]
  intro hm
  have h0 : o.val ≤ k.val ∧ k.val < o.val + 1 := hm 0
  exact h (Fin.ext (by omega))

/-- A write of row `o` over other writes. -/
theorem canon_row (o : Fin 8) (inb) (W : Vec Ideal S1x1024 .f32) (L : List (View.Piece (Elt Ideal) S8x1024 .f32)) (k : Fin 8) (j : Fin 1024) :
    View.canon (Val := Elt Ideal) (⟨Rect.unit ![o.val, 0] ![1, 1024] inb, W⟩ :: L) (ix2 k j) = if k = o then W (ix2 0 j) else View.canon L (ix2 k j) := by
  by_cases h : k = o
  · subst h
    rw [if_pos rfl, ← row_emb k inb j]
    exact View.canon_cons_emb _ _ _ _
  · rw [if_neg h]
    exact View.canon_cons_of_not_mem _ _ (row_not_mem o k inb j h)

/-- The fill with zeros. -/
theorem canon_fill (inb) (k : Fin 8) (j : Fin 1024) :
    View.canon (Val := Elt Ideal) (s := S8x1024) (e := .f32) [⟨Rect.unit (s := S8x1024) ![0, 0] ![8, 1024] inb, Gen.k0_pay7 (F := Ideal)⟩] (ix2 k j) = 0 := by
  have e : (ix2 k j : S8x1024.Idx) = (Rect.unit (s := S8x1024) ![0, 0] ![8, 1024] inb).emb (ix2 (n0 := 8) (n1 := 1024) k j) := by
    refine funext fun a => Fin.ext ?_
    fin_cases a
    · show k.val = 0 + 1 * k.val
      omega
    · show j.val = 0 + 1 * j.val
      omega
  rw [e]
  refine (View.canon_cons_emb _ _ _ _).trans ?_
  pointwise [Gen.k0_pay7]

/-- The same over an array that is there already. -/
theorem writes_row {κ : Kind} {sp : Space} (v : View sig κ sp S8x1024 .f32) (f : v.ty.Contents (Elt Ideal)) (o : Fin 8) (inb) (W : Vec Ideal S1x1024 .f32)
    (L : List (View.Piece (Elt Ideal) S8x1024 .f32)) (k : Fin 8) (j : Fin 1024) :
    v.read (Elt Ideal) (v.writes (Elt Ideal) f (⟨Rect.unit ![o.val, 0] ![1, 1024] inb, W⟩ :: L)) (ix2 k j)
      = if k = o then W (ix2 0 j) else v.read (Elt Ideal) (v.writes (Elt Ideal) f L) (ix2 k j) := by
  by_cases h : k = o
  · subst h
    rw [if_pos rfl, ← row_emb k inb j]
    exact View.read_writes_cons_emb _ _ _ _ _ _
  · rw [if_neg h, View.writes_cons]
    exact View.read_slice_write_of_not_mem _ _ _ _ (by rw [Rect.map_emb_univ]; exact row_not_mem o k inb j h)

/-- A load of row `o` after some writes. -/
theorem load_row {κ : Kind} {sp : Space} (v : View sig κ sp S8x1024 .f32) (o : Fin 8) (inb) (L : List (View.Piece (Elt Ideal) S8x1024 .f32)) (j : Fin 1024) :
    v.readCov L (Rect.unit (s := S8x1024) ![o.val, 0] ![1, 1024] inb).toLoadRect (ix2 (n0 := 1) (n1 := 1024) 0 j) = View.canon L (ix2 o j) := by
  rw [View.readCov_eq_canon']
  exact congrArg (View.canon L) (row_emb o inb j)

/-- The sum over the rows of a block, in terms of the arguments. -/
theorem block_sum (t : Fin cfg0.N) (b : Fin 3) (j : Fin 1024) :
    ∑ r, Step.Out.summand (rowB (Gen.iblk m c 0 t) (Gen.iblk m c 1 t) (Gen.iblk m c 2 t) (Gen.iblk m c 3 t) (Gen.iblk m c 4 t) (Gen.iblk m c 5 t)
      (Gen.iblk m c 6 t) (Gen.iblk m c 7 t) (Gen.iblk m c 8 t) (Gen.iblk m c 9 t) r) b j = ∑ r, Step.Out.summand (rowAt m c (rowOf t r)) b j :=
  Finset.sum_congr rfl fun r _ => congrArg (fun R => Step.Out.summand R b j) (rowB_eq m c t r)

theorem sums_zero (t : Fin cfg0.N) (h : t.val % 16 = 0) (k : Fin 8) (j : Fin 1024) : sums m c t.val t.isLt (ix2 k j) = added m c t k j := by
  unfold sums
  rw [Gen.outsAt0_A m c t h]
  frame_out
  refine (canon_row 2 _ _ _ k j).trans ?_
  unfold added
  by_cases h2 : k = 2
  · subst h2
    rw [if_pos rfl, if_neg (by decide), if_neg (by decide), if_pos (by decide)]
    refine (sum2_apply (Gen.iblk m c 0 t) _ _ _ _ _ _ _ _ _ _ _ (halfA_apply m c t) (halfB_apply m c t) _ j).trans ?_
    rw [block_sum]
    refine (congrArg (· + _) ((load_row _ 2 _ _ j).trans ((canon_row 1 _ _ _ 2 j).trans ((if_neg (by decide)).trans ((canon_row 0 _ _ _ 2 j).trans ((if_neg (by decide)).trans (canon_fill _ 2 j))))))).trans (zero_add _)
  · rw [if_neg h2]
    refine (canon_row 1 _ _ _ k j).trans ?_
    by_cases h1 : k = 1
    · subst h1
      rw [if_pos rfl, if_neg (by decide), if_pos (by decide)]
      refine (sum1_apply (Gen.iblk m c 0 t) _ _ _ _ _ _ _ _ _ _ _ (halfA_apply m c t) (halfB_apply m c t) _ j).trans ?_
      rw [block_sum]
      refine (congrArg (· + _) ((load_row _ 1 _ _ j).trans ((canon_row 0 _ _ _ 1 j).trans ((if_neg (by decide)).trans (canon_fill _ 1 j))))).trans (zero_add _)
    · rw [if_neg h1]
      refine (canon_row 0 _ _ _ k j).trans ?_
      by_cases h0 : k = 0
      · subst h0
        rw [if_pos rfl, if_pos (by decide)]
        refine (sum0_apply (Gen.iblk m c 0 t) _ _ _ _ _ _ _ _ _ _ _ (halfA_apply m c t) (halfB_apply m c t) _ j).trans ?_
        rw [block_sum]
        refine (congrArg (· + _) ((load_row _ 0 _ _ j).trans (canon_fill _ 0 j))).trans (zero_add _)
      · rw [if_neg h0, if_neg (c := k.val = 0) (fun h => h0 (Fin.ext h)),
          if_neg (c := k.val = 1) (fun h => h1 (Fin.ext h)), if_neg (c := k.val = 2) (fun h => h2 (Fin.ext h))]
        exact canon_fill _ k j

/-- The writes of none. -/
theorem writes_none {κ : Kind} {sp : Space} (M : Memref sig κ sp S8x1024 .f32) (hM : M.IsWhole) (a : Vec Ideal S8x1024 .f32) :
    M.view.read (Elt Ideal) (M.view.writes (Elt Ideal) (hM.unread a) []) = a := by
  rw [View.writes_nil]
  exact hM.read_unread a

theorem sums_succ (t : Fin cfg0.N) (h : ¬t.val % 16 = 0) (k : Fin 8) (j : Fin 1024) :
    sums m c t.val t.isLt (ix2 k j) = sums m c (t.val - 1) (by have := t.isLt; omega) (ix2 k j) + added m c t k j := by
  unfold sums
  rw [Gen.outsAt0_B m c t h]
  frame_out
  refine (writes_row _ _ 2 _ _ _ k j).trans ?_
  unfold added
  by_cases h2 : k = 2
  · subst h2
    rw [if_pos rfl, if_neg (by decide), if_neg (by decide), if_pos (by decide)]
    refine (sum2_apply (Gen.iblk m c 0 t) _ _ _ _ _ _ _ _ _ _ _ (halfA_apply m c t) (halfB_apply m c t) _ j).trans ?_
    rw [block_sum]
    exact congrArg (· + _) (congrArg _ (row_emb 2 _ j))
  · rw [if_neg h2]
    refine (writes_row _ _ 1 _ _ _ k j).trans ?_
    by_cases h1 : k = 1
    · subst h1
      rw [if_pos rfl, if_neg (by decide), if_pos (by decide)]
      refine (sum1_apply (Gen.iblk m c 0 t) _ _ _ _ _ _ _ _ _ _ _ (halfA_apply m c t) (halfB_apply m c t) _ j).trans ?_
      rw [block_sum]
      exact congrArg (· + _) (congrArg _ (row_emb 1 _ j))
    · rw [if_neg h1]
      refine (writes_row _ _ 0 _ _ _ k j).trans ?_
      by_cases h0 : k = 0
      · subst h0
        rw [if_pos rfl, if_pos (by decide)]
        refine (sum0_apply (Gen.iblk m c 0 t) _ _ _ _ _ _ _ _ _ _ _ (halfA_apply m c t) (halfB_apply m c t) _ j).trans ?_
        rw [block_sum]
        exact congrArg (· + _) (congrArg _ (row_emb 0 _ j))
      · rw [if_neg h0, if_neg (c := k.val = 0) (fun h => h0 (Fin.ext h)),
          if_neg (c := k.val = 1) (fun h => h1 (Fin.ext h)), if_neg (c := k.val = 2) (fun h => h2 (Fin.ext h))]
        exact (congrFun (writes_none _ _ _) _).trans (add_zero _).symm

/-- The sums so far. -/
theorem sums_apply (k : Fin 8) (j : Fin 1024) (n : ℕ) (h : n < cfg0.N) :
    sums m c n h (ix2 k j) = ∑ t : Fin (n + 1), added m c ⟨t.val, by omega⟩ k j := by
  induction n with
  | zero =>
    rw [Fin.sum_univ_one]
    exact sums_zero m c ⟨0, h⟩ rfl k j
  | succ n ih =>
    have hN : cfg0.N = 16 := Gen.N_0
    rw [Fin.sum_univ_castSucc]
    refine (sums_succ m c ⟨n + 1, h⟩ (by show ¬(n + 1) % 16 = 0; omega) k j).trans ?_
    exact congrArg (· + _) (ih (by omega))

/-- The sums after the last point are over all rows. -/
theorem sums_last (k : Fin 8) (j : Fin 1024) (h : 15 < cfg0.N) : sums m c 15 h (ix2 k j) = Step.Out.st (rowAt m c) k j := by
  rw [sums_apply]
  have hb : ∀ b : Fin 3, ∑ t : Fin 16, ∑ r : Fin 256, Step.Out.summand (rowAt m c (rowOf ⟨t.val, by have : cfg0.N = 16 := Gen.N_0; omega⟩ r)) b j
      = ∑ i, Step.Out.summand (rowAt m c i) b j := fun b => Fin.sum_mul_add_fin 16 256 (fun i => Step.Out.summand (rowAt m c i) b j)
  unfold Step.Out.st added
  by_cases h0 : k.val = 0
  · simp only [if_pos h0]
    exact hb 0
  · simp only [if_neg h0]
    by_cases h1 : k.val = 1
    · simp only [if_pos h1]
      exact hb 1
    · simp only [if_neg h1]
      by_cases h2 : k.val = 2
      · simp only [if_pos h2, Step.Out.bits_half_inv]
        rw [← hb 2, Step.mul_sum_real _ (by norm_num)]
      · simp only [if_neg h2]
        exact Finset.sum_const_zero

end Cert.OutKernelIdeal

end
-- ==== Proof.Out.KVal.lean ====
module

public import proofs.«01_k».proof.Proof.Out.Sums

@[expose] public section

set_option maxRecDepth 16384

noncomputable section

/-! # The arrays that the kernel leaves -/

namespace Cert.OutKernelIdeal

open Idealize.ShloMosaic Idealize.ShloMosaic.TcCoe Idealize.ShloMosaic.Tactic
open Idealize.SL.Sem
open scoped BigOperators

variable (m : (ℓ : Loc nD τ sig) → Buf (Elt Ideal) ℓ) (ρ : Dev nD → PrngReg) (c : Dev nD)

/-- An array of rows, each a function of one row of the arguments. -/
def rowsArr (f : Step.Out.Row → Fin 1024 → EReal) : S4096x1024.Idx → EReal := fun i => f (rowAt m c (i 0)) (i 1)

/-- The cotangents of the branches' last products, in the columns of the gates. -/
def dpArr : S4096x8192.Idx → EReal := fun i =>
  if h : 6144 ≤ (i 1).val then Step.Out.gq (rowAt m c (i 0)) ⟨(i 1).val - 6144, by have : (i 1).val < 8192 := (i 1).isLt; omega⟩
  else (Gen.dats m 0 c).A 13 i

/-- The rows of sums. -/
def stArr : S8x1024.Idx → EReal := fun i => Step.Out.st (rowAt m c) (i 0) (i 1)

theorem rowsArr_at (f : Step.Out.Row → Fin 1024 → EReal) (t : Fin cfg0.N) (r : Fin 256) (j : Fin 1024) (p : S4096x1024.Idx)
    (h0 : p 0 = rowOf t r) (h1 : p 1 = j) : f (rowAt m c (rowOf t r)) j = rowsArr m c f p := by
  unfold rowsArr
  rw [h0, h1]

theorem final_10 : (Gen.dats m 0 c).arrAt 10 cfg0.N = rowsArr m c Step.Out.gx := by
  refine (Gen.dats m 0 c).arrAt_eq_of_covers 10 _ (by decide +kernel) fun t hf y => ?_
  have h : ∀ t : Fin cfg0.N, win0_10.index t 0 = t.val ∧ win0_10.index t 1 = 0 := by decide +kernel
  have key : ∀ (r : Fin 256) (j : Fin 1024), (Gen.dats m 0 c).after 10 t (ix2 r j) = rowsArr m c Step.Out.gx ((win0_10.blk t).view.emb (ix2 r j)) := fun r j =>
    (after_10 m c t r j).trans (rowsArr_at m c _ t r j _ (Fin.ext (by blk_simp [(h t).1, (h t).2]; rfl)) (Fin.ext (by blk_simp [(h t).1, (h t).2])))
  blk_simp
  have ey : y = ix2 (n0 := 256) (n1 := 1024) (y 0) (y 1) := (ix2_eta (n0 := 256) (n1 := 1024) y).symm
  rw [ey]
  exact key (y 0) (y 1)

theorem final_11 : (Gen.dats m 0 c).arrAt 11 cfg0.N = rowsArr m c Step.Out.gya := by
  refine (Gen.dats m 0 c).arrAt_eq_of_covers 11 _ (by decide +kernel) fun t hf y => ?_
  have h : ∀ t : Fin cfg0.N, win0_11.index t 0 = t.val ∧ win0_11.index t 1 = 0 := by decide +kernel
  have key : ∀ (r : Fin 256) (j : Fin 1024), (Gen.dats m 0 c).after 11 t (ix2 r j) = rowsArr m c Step.Out.gya ((win0_11.blk t).view.emb (ix2 r j)) := fun r j =>
    (after_11 m c t r j).trans (rowsArr_at m c _ t r j _ (Fin.ext (by blk_simp [(h t).1, (h t).2]; rfl)) (Fin.ext (by blk_simp [(h t).1, (h t).2])))
  blk_simp
  have ey : y = ix2 (n0 := 256) (n1 := 1024) (y 0) (y 1) := (ix2_eta (n0 := 256) (n1 := 1024) y).symm
  rw [ey]
  exact key (y 0) (y 1)

theorem final_12 : (Gen.dats m 0 c).arrAt 12 cfg0.N = rowsArr m c Step.Out.gyb := by
  refine (Gen.dats m 0 c).arrAt_eq_of_covers 12 _ (by decide +kernel) fun t hf y => ?_
  have h : ∀ t : Fin cfg0.N, win0_12.index t 0 = t.val ∧ win0_12.index t 1 = 0 := by decide +kernel
  have key : ∀ (r : Fin 256) (j : Fin 1024), (Gen.dats m 0 c).after 12 t (ix2 r j) = rowsArr m c Step.Out.gyb ((win0_12.blk t).view.emb (ix2 r j)) := fun r j =>
    (after_12 m c t r j).trans (rowsArr_at m c _ t r j _ (Fin.ext (by blk_simp [(h t).1, (h t).2]; rfl)) (Fin.ext (by blk_simp [(h t).1, (h t).2])))
  blk_simp
  have ey : y = ix2 (n0 := 256) (n1 := 1024) (y 0) (y 1) := (ix2_eta (n0 := 256) (n1 := 1024) y).symm
  rw [ey]
  exact key (y 0) (y 1)

theorem final_14 : (Gen.dats m 0 c).arrAt 14 cfg0.N = rowsArr m c Step.Out.merged := by
  refine (Gen.dats m 0 c).arrAt_eq_of_covers 14 _ (by decide +kernel) fun t hf y => ?_
  have h : ∀ t : Fin cfg0.N, win0_14.index t 0 = t.val ∧ win0_14.index t 1 = 0 := by decide +kernel
  have key : ∀ (r : Fin 256) (j : Fin 1024), (Gen.dats m 0 c).after 14 t (ix2 r j) = rowsArr m c Step.Out.merged ((win0_14.blk t).view.emb (ix2 r j)) := fun r j =>
    (after_14 m c t r j).trans (rowsArr_at m c _ t r j _ (Fin.ext (by blk_simp [(h t).1, (h t).2]; rfl)) (Fin.ext (by blk_simp [(h t).1, (h t).2])))
  blk_simp
  have ey : y = ix2 (n0 := 256) (n1 := 1024) (y 0) (y 1) := (ix2_eta (n0 := 256) (n1 := 1024) y).symm
  rw [ey]
  exact key (y 0) (y 1)

theorem final_15 : (Gen.dats m 0 c).arrAt 15 cfg0.N = rowsArr m c Step.Out.gproj := by
  refine (Gen.dats m 0 c).arrAt_eq_of_covers 15 _ (by decide +kernel) fun t hf y => ?_
  have h : ∀ t : Fin cfg0.N, win0_15.index t 0 = t.val ∧ win0_15.index t 1 = 0 := by decide +kernel
  have key : ∀ (r : Fin 256) (j : Fin 1024), (Gen.dats m 0 c).after 15 t (ix2 r j) = rowsArr m c Step.Out.gproj ((win0_15.blk t).view.emb (ix2 r j)) := fun r j =>
    (after_15 m c t r j).trans (rowsArr_at m c _ t r j _ (Fin.ext (by blk_simp [(h t).1, (h t).2]; rfl)) (Fin.ext (by blk_simp [(h t).1, (h t).2])))
  blk_simp
  have ey : y = ix2 (n0 := 256) (n1 := 1024) (y 0) (y 1) := (ix2_eta (n0 := 256) (n1 := 1024) y).symm
  rw [ey]
  exact key (y 0) (y 1)

theorem final_16 : (Gen.dats m 0 c).arrAt 16 cfg0.N = rowsArr m c Step.Out.ga := by
  refine (Gen.dats m 0 c).arrAt_eq_of_covers 16 _ (by decide +kernel) fun t hf y => ?_
  have h : ∀ t : Fin cfg0.N, win0_16.index t 0 = t.val ∧ win0_16.index t 1 = 0 := by decide +kernel
  have key : ∀ (r : Fin 256) (j : Fin 1024), (Gen.dats m 0 c).after 16 t (ix2 r j) = rowsArr m c Step.Out.ga ((win0_16.blk t).view.emb (ix2 r j)) := fun r j =>
    (after_16 m c t r j).trans (rowsArr_at m c _ t r j _ (Fin.ext (by blk_simp [(h t).1, (h t).2]; rfl)) (Fin.ext (by blk_simp [(h t).1, (h t).2])))
  blk_simp
  have ey : y = ix2 (n0 := 256) (n1 := 1024) (y 0) (y 1) := (ix2_eta (n0 := 256) (n1 := 1024) y).symm
  rw [ey]
  exact key (y 0) (y 1)

theorem final_17 : (Gen.dats m 0 c).arrAt 17 cfg0.N = rowsArr m c Step.Out.gb := by
  refine (Gen.dats m 0 c).arrAt_eq_of_covers 17 _ (by decide +kernel) fun t hf y => ?_
  have h : ∀ t : Fin cfg0.N, win0_17.index t 0 = t.val ∧ win0_17.index t 1 = 0 := by decide +kernel
  have key : ∀ (r : Fin 256) (j : Fin 1024), (Gen.dats m 0 c).after 17 t (ix2 r j) = rowsArr m c Step.Out.gb ((win0_17.blk t).view.emb (ix2 r j)) := fun r j =>
    (after_17 m c t r j).trans (rowsArr_at m c _ t r j _ (Fin.ext (by blk_simp [(h t).1, (h t).2]; rfl)) (Fin.ext (by blk_simp [(h t).1, (h t).2])))
  blk_simp
  have ey : y = ix2 (n0 := 256) (n1 := 1024) (y 0) (y 1) := (ix2_eta (n0 := 256) (n1 := 1024) y).symm
  rw [ey]
  exact key (y 0) (y 1)

/-- A column of the gates. -/
theorem dpArr_column (i : S4096x8192.Idx) (h : 6144 ≤ (i 1).val) :
    dpArr m c i = Step.Out.gq (rowAt m c (i 0)) ⟨(i 1).val - 6144, by have : (i 1).val < 8192 := (i 1).isLt; omega⟩ := dif_pos h

theorem index_13 : ∀ t : Fin cfg0.N, win0_13.index t 0 = t.val ∧ win0_13.index t 1 = 3 := by decide +kernel

theorem emb13_0 (t : Fin cfg0.N) (y : ((cfg0.win 13).xblock (cfg0.grid.coords t)).Idx) :
    (((cfg0.win 13).blk t).view.emb y 0).val = t.val * 256 + (y 0).val := by
  have h := index_13 t
  blk_simp
  rw [h.1]

theorem emb13_1 (t : Fin cfg0.N) (y : ((cfg0.win 13).xblock (cfg0.grid.coords t)).Idx) :
    (((cfg0.win 13).blk t).view.emb y 1).val = 6144 + (y 1).val := by
  have h := index_13 t
  have e : (((cfg0.win 13).blk t).view.emb y 1).val = win0_13.index t 1 * 2048 + (y 1).val := by
    show win0_13.index t 1 * 2048 + 1 * (y 1).val = _
    omega
  rw [e, h.2]

theorem inside_13 (t : Fin cfg0.N) (q : S256x2048.Idx) (p : S4096x8192.Idx) (h0 : (p 0).val = t.val * 256 + (q 0).val)
    (h1 : (p 1).val = 6144 + (q 1).val) : (Gen.dats m 0 c).after 13 t q = dpArr m c p := by
  refine (congrArg ((Gen.dats m 0 c).after 13 t) (ix2_eta (n0 := 256) (n1 := 2048) q).symm).trans ((after_13 m c t (q 0) (q 1)).trans ?_)
  have e0 : rowOf t (q 0) = p 0 := Fin.ext h0.symm
  have e1 : q 1 = (⟨(p 1).val - 6144, by have : (p 1).val < 8192 := (p 1).isLt; omega⟩ : Fin 2048) := Fin.ext (by show (q 1).val = (p 1).val - 6144; omega)
  unfold dpArr
  rw [dif_pos (by omega), e0, e1]

theorem outside_13 (p : S4096x8192.Idx) (h : ¬6144 ≤ (p 1).val) : (Gen.dats m 0 c).A 13 p = dpArr m c p := by
  unfold dpArr
  rw [dif_neg h]

/-- The kernel writes the columns of the gates alone. -/
theorem final_13 : (Gen.dats m 0 c).arrAt 13 cfg0.N = dpArr m c := by
  refine (Gen.dats m 0 c).arrAt_eq_of_coversWhere_of_agree 13 _ (fun β => β 1 = 3) (by decide +kernel) (fun t hf y => ?_) (fun j hj => ?_)
  · exact inside_13 m c t _ _ (emb13_0 t y) (emb13_1 t y)
  · refine outside_13 m c _ fun e => hj ?_
    blk_simp [Pipeline.Window.cell_apply]
    have : (j 1).val < 8192 := (j 1).isLt
    have : 6144 ≤ (j 1).val := e
    show (j 1).val / 2048 = 3
    omega

theorem sums_at (k : Fin 8) (j : Fin 1024) (h : 15 < cfg0.N) : sums m c 15 h (ix2 k j) = stArr m c (ix2 k j) := sums_last m c k j h

theorem final_18 : (Gen.dats m 0 c).arrAt 18 cfg0.N = stArr m c := by
  refine (Gen.dats m 0 c).arrAt_eq_of_after_last 18 Gen.t0_15 (by decide +kernel) _ fun j => ?_
  rw [Gen.after0_18]
  exact (congrArg (sums m c 15 _) (ix2_eta (n0 := 8) (n1 := 1024) j).symm).trans ((sums_at m c (j 0) (j 1) _).trans
    (congrArg (stArr m c) (ix2_eta (n0 := 8) (n1 := 1024) j)))

/-- What the run leaves. -/
theorem run_values : θ_run defs (onTc (τ := τ) (main (F := Ideal))) ⟨m, fun _ => 0, ρ⟩ fun r => ∀ c : Dev nD,
    r.2.mem ((c : Thread nD τ).loc main_v3_0) = rowsArr m c Step.Out.gx
    ∧ r.2.mem ((c : Thread nD τ).loc main_v3_1) = rowsArr m c Step.Out.gya
    ∧ r.2.mem ((c : Thread nD τ).loc main_v3_2) = rowsArr m c Step.Out.gyb
    ∧ r.2.mem ((c : Thread nD τ).loc main_v3_3) = dpArr m c
    ∧ r.2.mem ((c : Thread nD τ).loc main_v3_4) = rowsArr m c Step.Out.merged
    ∧ r.2.mem ((c : Thread nD τ).loc main_v3_5) = rowsArr m c Step.Out.gproj
    ∧ r.2.mem ((c : Thread nD τ).loc main_v3_6) = rowsArr m c Step.Out.ga
    ∧ r.2.mem ((c : Thread nD τ).loc main_v3_7) = rowsArr m c Step.Out.gb
    ∧ r.2.mem ((c : Thread nD τ).loc main_v3_8) = stArr m c :=
  (θ_run defs _ _).mono (fun r h c => by
    obtain ⟨h0, h1, h2, h3, h4, h5, h6, h7, h8, -⟩ := h c
    exact ⟨h0.trans (final_10 m c), h1.trans (final_11 m c), h2.trans (final_12 m c), h3.trans (final_13 m c), h4.trans (final_14 m c),
      h5.trans (final_15 m c), h6.trans (final_16 m c), h7.trans (final_17 m c), h8.trans (final_18 m c)⟩) (Value.run_blocks m ρ)

end Cert.OutKernelIdeal

end
-- ==== Proof.Out.RVal.lean ====
module

public import proofs.«01_k».proof.Proof.Gen.OutReferenceIdeal.Run
public import proofs.«01_k».proof.Proof.Gen.OutReferenceIdeal.Read
public import proofs.«01_k».proof.Proof.Out.Spec
public import Idealize.ShloMosaic.Lib.Pointwise

@[expose] public section

set_option maxRecDepth 16384

noncomputable section

/-! # The arrays that the reference leaves -/

namespace Cert.OutReferenceIdeal

open Idealize.ShloMosaic Idealize.ShloMosaic.TcCoe Idealize.ShloMosaic.Tactic
open Idealize.SL.Sem
open Cert.OutReferenceIdeal.Read
open scoped BigOperators

variable (x0 : (⟨S4096x8192, .bf16⟩ : BufTy).Contents (Elt Ideal)) (x1 x2 : (⟨S4096x1024, .bf16⟩ : BufTy).Contents (Elt Ideal))
  (x3 x4 : (⟨S4096x1024, .f32⟩ : BufTy).Contents (Elt Ideal)) (x5 x6 : (⟨S1x1024, .f32⟩ : BufTy).Contents (Elt Ideal))
  (x7 x8 x9 : (⟨S1024x1024, .f32⟩ : BufTy).Contents (Elt Ideal))

/-- One row of the arguments. -/
def rowAt (i : Fin 4096) : Step.Out.Row where
  qa k := x0 (ix2 i ⟨6144 + k.val, by omega⟩)
  qb k := x0 (ix2 i ⟨6144 + (1024 + k.val), by omega⟩)
  ya k := x1 (ix2 i k)
  yb k := x2 (ix2 i k)
  x k := x3 (ix2 i k)
  t k := x4 (ix2 i k)
  gate k := x5 (ix2 0 k)
  gf k := x6 (ix2 0 k)
  wa k l := x7 (ix2 k l)
  wb k l := x8 (ix2 k l)
  wo k l := x9 (ix2 k l)

local notation "R" => rowAt x0 x1 x2 x3 x4 x5 x6 x7 x8 x9

theorem ya_apply (i : Fin 4096) (j : Fin 1024) : val_main_v6 (F := Ideal) x1 x7 (ix2 i j) = Step.Out.times (R i).ya (R i).wa j := by
  pointwise [val_main_v6, val_main_v5, val_main_v3, val_main_v2, val_main_cst]
  rfl

theorem yb_apply (i : Fin 4096) (j : Fin 1024) : val_main_v8 (F := Ideal) x2 x8 (ix2 i j) = Step.Out.times (R i).yb (R i).wb j := by
  pointwise [val_main_v8, val_main_v7, val_main_v4, val_main_v2, val_main_cst]
  rfl

theorem ga_apply (i : Fin 4096) (j : Fin 1024) : val_main_v15 (F := Ideal) x0 (ix2 i j) = Step.Out.sg ((R i).qa j) := by
  pointwise [val_main_v15, val_main_v14, val_main_v13, val_main_v12, val_main_v11, val_main_v10, val_main_v9, val_main_v1, val_main_v0, val_main_cst_0, val_main_cst_1]
  rfl

theorem gb_apply (i : Fin 4096) (j : Fin 1024) : val_main_v26 (F := Ideal) x0 (ix2 i j) = Step.Out.sg ((R i).qb j) := by
  pointwise [val_main_v26, val_main_v25, val_main_v24, val_main_v23, val_main_v22, val_main_v21, val_main_v20, val_main_v1, val_main_v0, val_main_cst_3, val_main_cst_4]
  rfl

theorem merged_apply (i : Fin 4096) (j : Fin 1024) : val_main_v31 (F := Ideal) x0 x1 x2 x7 x8 (ix2 i j) = Step.Out.merged (R i) j := by
  pointwise [val_main_v31, val_main_v30, val_main_v19]
  rw [ya_apply x0 x1 x2 x3 x4 x5 x6 x7 x8 x9, yb_apply x0 x1 x2 x3 x4 x5 x6 x7 x8 x9, ga_apply x0 x1 x2 x3 x4 x5 x6 x7 x8 x9, gb_apply x0 x1 x2 x3 x4 x5 x6 x7 x8 x9]
  rfl

theorem proj_apply (i : Fin 4096) (j : Fin 1024) : val_main_v33 (F := Ideal) x0 x1 x2 x7 x8 x9 (ix2 i j) = Step.Out.proj (R i) j := by
  pointwise [val_main_v33, val_main_v32, val_main_v2, val_main_cst]
  simp only [merged_apply x0 x1 x2 x3 x4 x5 x6 x7 x8 x9]
  rfl

theorem res_apply (i : Fin 4096) (j : Fin 1024) : val_main_v36 (F := Ideal) x0 x1 x2 x3 x5 x7 x8 x9 (ix2 i j) = Step.Out.res (R i) j := by
  pointwise [val_main_v36, val_main_v35, val_main_v34]
  rw [proj_apply x0 x1 x2 x3 x4 x5 x6 x7 x8 x9]
  rfl

theorem under_apply (i : Fin 4096) : val_main_v43 (F := Ideal) x0 x1 x2 x3 x5 x7 x8 x9 (ix2 i 0) = Step.under (Step.Out.res (R i)) := by
  pointwise [val_main_v43, val_main_v42, val_main_v41, val_main_v40, val_main_v39, val_main_v38, val_main_v37, val_main_cst_6, val_main_cst_7, val_main_cst_8]
  simp only [res_apply x0 x1 x2 x3 x4 x5 x6 x7 x8 x9]
  rfl

theorem r_apply (i : Fin 4096) : val_main_v44 (F := Ideal) x0 x1 x2 x3 x5 x7 x8 x9 (ix2 i 0) = Step.rinv (Step.Out.res (R i)) := by
  pointwise [val_main_v44]
  rw [under_apply x0 x1 x2 x3 x4 x5 x6 x7 x8 x9]
  rfl

theorem normed_apply (i : Fin 4096) (j : Fin 1024) :
    val_main_v49 (F := Ideal) x0 x1 x2 x3 x5 x7 x8 x9 (ix2 i j) = Step.Out.normed (R i) j := by
  pointwise [val_main_v49, val_main_v48]
  rw [r_apply x0 x1 x2 x3 x4 x5 x6 x7 x8 x9, res_apply x0 x1 x2 x3 x4 x5 x6 x7 x8 x9]
  rfl

theorem err_apply (i : Fin 4096) (j : Fin 1024) :
    val_main_v52 (F := Ideal) x0 x1 x2 x3 x4 x5 x6 x7 x8 x9 (ix2 i j) = Step.Out.err (R i) j := by
  pointwise [val_main_v52, val_main_v51, val_main_v50]
  rw [normed_apply x0 x1 x2 x3 x4 x5 x6 x7 x8 x9]
  rfl

theorem dy_apply (i : Fin 4096) (j : Fin 1024) :
    val_main_v70 (F := Ideal) x0 x1 x2 x3 x4 x5 x6 x7 x8 x9 (ix2 i j) = Step.Out.dy (R i) j := by
  pointwise [val_main_v70, val_main_v69, val_main_v68, val_main_v67, val_main_v66, val_main_v65, val_main_v55, val_main_v54,
    val_main_cst_10, val_main_cst_17, val_main_cst_18, val_main_cst_19]
  rw [err_apply]
  exact Step.Out.dy_eq _ _

theorem dyg_apply (i : Fin 4096) (j : Fin 1024) :
    val_main_v75 (F := Ideal) x0 x1 x2 x3 x4 x5 x6 x7 x8 x9 (ix2 i j) = Step.Out.dy (R i) j * (R i).gf j := by
  pointwise [val_main_v75, val_main_v74]
  rw [dy_apply]
  rfl

theorem gx_apply (i : Fin 4096) (j : Fin 1024) :
    val_main_v89 (F := Ideal) x0 x1 x2 x3 x4 x5 x6 x7 x8 x9 (ix2 i j) = Step.Out.gx (R i) j := by
  pointwise [val_main_v89, val_main_v88, val_main_v87, val_main_v86, val_main_v85, val_main_v84, val_main_v83, val_main_v82, val_main_v81,
    val_main_v80, val_main_v79, val_main_v78, val_main_v77, val_main_v76, val_main_v45, val_main_v46, val_main_v47,
    val_main_cst_9, val_main_cst_21, val_main_cst_22, val_main_cst_23]
  rw [Fin.sum_univ_one]
  rw [r_apply x0 x1 x2 x3 x4 x5 x6 x7 x8 x9, under_apply x0 x1 x2 x3 x4 x5 x6 x7 x8 x9]
  simp only [dyg_apply, res_apply x0 x1 x2 x3 x4 x5 x6 x7 x8 x9]
  exact Step.Out.gx_eq _ _ _ rfl

theorem gproj_apply (i : Fin 4096) (j : Fin 1024) :
    val_main_v91 (F := Ideal) x0 x1 x2 x3 x4 x5 x6 x7 x8 x9 (ix2 i j) = Step.Out.gproj (R i) j := by
  pointwise [val_main_v91, val_main_v90]
  rw [gx_apply]
  rfl

theorem gm_apply (i : Fin 4096) (j : Fin 1024) :
    val_main_v95 (F := Ideal) x0 x1 x2 x3 x4 x5 x6 x7 x8 x9 (ix2 i j) = Step.Out.gm (R i) j := by
  pointwise [val_main_v95]
  simp only [gproj_apply]
  rfl

theorem gaA_apply (i : Fin 4096) (j : Fin 1024) :
    val_main_v100 (F := Ideal) x0 x1 x2 x3 x4 x5 x6 x7 x8 x9 (ix2 i j) = Step.Out.ga (R i) j := by
  pointwise [val_main_v100]
  rw [ga_apply x0 x1 x2 x3 x4 x5 x6 x7 x8 x9, gm_apply]
  rfl

theorem gbB_apply (i : Fin 4096) (j : Fin 1024) :
    val_main_v96 (F := Ideal) x0 x1 x2 x3 x4 x5 x6 x7 x8 x9 (ix2 i j) = Step.Out.gb (R i) j := by
  pointwise [val_main_v96]
  rw [gb_apply x0 x1 x2 x3 x4 x5 x6 x7 x8 x9, gm_apply]
  rfl

theorem gya_apply (i : Fin 4096) (j : Fin 1024) :
    val_main_v106 (F := Ideal) x0 x1 x2 x3 x4 x5 x6 x7 x8 x9 (ix2 i j) = Step.Out.gya (R i) j := by
  pointwise [val_main_v106]
  simp only [gaA_apply]
  rfl

theorem gyb_apply (i : Fin 4096) (j : Fin 1024) :
    val_main_v105 (F := Ideal) x0 x1 x2 x3 x4 x5 x6 x7 x8 x9 (ix2 i j) = Step.Out.gyb (R i) j := by
  pointwise [val_main_v105]
  simp only [gbB_apply]
  rfl

theorem gqa_apply (i : Fin 4096) (j : Fin 1024) :
    val_main_v102 (F := Ideal) x0 x1 x2 x3 x4 x5 x6 x7 x8 x9 (ix2 i j) = Step.Out.gqa (R i) j := by
  pointwise [val_main_v102, val_main_v101, val_main_v18, val_main_v17, val_main_v16, val_main_cst_2]
  rw [gm_apply, ga_apply x0 x1 x2 x3 x4 x5 x6 x7 x8 x9, ya_apply x0 x1 x2 x3 x4 x5 x6 x7 x8 x9]
  rfl

theorem gqb_apply (i : Fin 4096) (j : Fin 1024) :
    val_main_v98 (F := Ideal) x0 x1 x2 x3 x4 x5 x6 x7 x8 x9 (ix2 i j) = Step.Out.gqb (R i) j := by
  pointwise [val_main_v98, val_main_v97, val_main_v29, val_main_v28, val_main_v27, val_main_cst_5]
  rw [gm_apply, gb_apply x0 x1 x2 x3 x4 x5 x6 x7 x8 x9, yb_apply x0 x1 x2 x3 x4 x5 x6 x7 x8 x9]
  rfl

/-- The cotangents of the gates, in their columns. -/
theorem gq_apply (i : Fin 4096) (k : Fin 2048) :
    val_main_v109 (F := Ideal) x0 x1 x2 x3 x4 x5 x6 x7 x8 x9 (ix2 i ⟨6144 + k.val, by omega⟩) = Step.Out.gq (R i) k := by
  pointwise [val_main_v109, val_main_v108, val_main_v104, val_main_v103, val_main_v99, val_main_cst_25, val_main_cst_26]
  unfold Step.Out.gq
  by_cases h : k.val < 1024
  · rw [dif_neg (by omega), dif_pos h, dif_pos h, zero_add]
    exact gqa_apply x0 x1 x2 x3 x4 x5 x6 x7 x8 x9 i _
  · have := k.isLt
    rw [dif_pos (by omega), dif_neg h, dif_neg h, add_zero]
    exact gqb_apply x0 x1 x2 x3 x4 x5 x6 x7 x8 x9 i _

theorem st_apply (k : Fin 8) (j : Fin 1024) :
    val_main_v115 (F := Ideal) x0 x1 x2 x3 x4 x5 x6 x7 x8 x9 (ix2 k j) = Step.Out.st (fun i => R i) k j := by
  pointwise [val_main_v115, val_main_v114, val_main_v94, val_main_v93, val_main_v92, val_main_v73, val_main_v72, val_main_v71, val_main_v59, val_main_v58,
    val_main_v57, val_main_v56, val_main_v53, val_main_cst_11, val_main_cst_12, val_main_cst_20, val_main_cst_24, val_main_cst_28]
  simp only [normed_apply x0 x1 x2 x3 x4 x5 x6 x7 x8 x9, err_apply, dy_apply, gx_apply, proj_apply x0 x1 x2 x3 x4 x5 x6 x7 x8 x9]
  unfold Step.Out.st
  have := k.isLt
  by_cases h0 : k.val = 0
  · rw [dif_pos (by omega), if_pos h0]
    exact Finset.sum_congr rfl fun i _ => mul_comm _ _
  · rw [dif_neg (by omega), if_neg h0]
    by_cases h1 : k.val = 1
    · rw [dif_pos (by omega), if_pos h1]
      rfl
    · rw [dif_neg (by omega), if_neg h1]
      by_cases h2 : k.val = 2
      · rw [dif_pos (by omega), if_pos h2]
        rfl
      · rw [dif_neg (by omega), if_neg h2]

/-- The results that are casts of stages before them. -/
theorem casts_apply (i : Fin 4096) (j : Fin 1024) :
    val_main_v110 (F := Ideal) x0 x1 x2 x7 x8 (ix2 i j) = Step.Out.merged (R i) j
    ∧ val_main_v111 (F := Ideal) x0 x1 x2 x3 x4 x5 x6 x7 x8 x9 (ix2 i j) = Step.Out.gproj (R i) j
    ∧ val_main_v112 (F := Ideal) x0 x1 x2 x3 x4 x5 x6 x7 x8 x9 (ix2 i j) = Step.Out.ga (R i) j
    ∧ val_main_v113 (F := Ideal) x0 x1 x2 x3 x4 x5 x6 x7 x8 x9 (ix2 i j) = Step.Out.gb (R i) j := by
  refine ⟨?_, ?_, ?_, ?_⟩
  · pointwise [val_main_v110]
    exact merged_apply x0 x1 x2 x3 x4 x5 x6 x7 x8 x9 i j
  · pointwise [val_main_v111]
    exact gproj_apply x0 x1 x2 x3 x4 x5 x6 x7 x8 x9 i j
  · pointwise [val_main_v112]
    exact gaA_apply x0 x1 x2 x3 x4 x5 x6 x7 x8 x9 i j
  · pointwise [val_main_v113]
    exact gbB_apply x0 x1 x2 x3 x4 x5 x6 x7 x8 x9 i j

theorem column_lt (i : S4096x8192.Idx) : (i 1).val - 6144 < 2048 := by
  have : (i 1).val < 8192 := (i 1).isLt
  omega

theorem column_eta (i : S4096x8192.Idx) (h : 6144 ≤ (i 1).val) : i = ix2 (i 0) ⟨6144 + ((i 1).val - 6144), by have := column_lt i; omega⟩ := by
  refine funext fun a => Fin.ext ?_
  fin_cases a
  · rfl
  · show (i 1).val = 6144 + ((i 1).val - 6144)
    omega

variable (m : (ℓ : Loc nD τ sig) → Buf (Elt Ideal) ℓ) (ρ : Dev nD → PrngReg)

/-- One row of the arguments in the memory. -/
def rowM (c : Dev nD) (i : Fin 4096) : Step.Out.Row :=
  rowAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) i

/-- What the run of the reference leaves. -/
theorem run_values : θ_run defs (onTc (τ := τ) (main (F := Ideal))) ⟨m, fun _ => 0, ρ⟩ fun r => ∀ c : Dev nD,
    (∀ i, r.2.mem ((c.tc : Thread nD τ).loc main_v89) i = Step.Out.gx (rowM m c (i 0)) (i 1))
    ∧ (∀ i, r.2.mem ((c.tc : Thread nD τ).loc main_v106) i = Step.Out.gya (rowM m c (i 0)) (i 1))
    ∧ (∀ i, r.2.mem ((c.tc : Thread nD τ).loc main_v105) i = Step.Out.gyb (rowM m c (i 0)) (i 1))
    ∧ (∀ i, (h : 6144 ≤ (i 1).val) → r.2.mem ((c.tc : Thread nD τ).loc main_v109) i
        = Step.Out.gq (rowM m c (i 0)) ⟨(i 1).val - 6144, column_lt i⟩)
    ∧ (∀ i, r.2.mem ((c.tc : Thread nD τ).loc main_v110) i = Step.Out.merged (rowM m c (i 0)) (i 1))
    ∧ (∀ i, r.2.mem ((c.tc : Thread nD τ).loc main_v111) i = Step.Out.gproj (rowM m c (i 0)) (i 1))
    ∧ (∀ i, r.2.mem ((c.tc : Thread nD τ).loc main_v112) i = Step.Out.ga (rowM m c (i 0)) (i 1))
    ∧ (∀ i, r.2.mem ((c.tc : Thread nD τ).loc main_v113) i = Step.Out.gb (rowM m c (i 0)) (i 1))
    ∧ (∀ i, r.2.mem ((c.tc : Thread nD τ).loc main_v115) i = Step.Out.st (rowM m c) (i 0) (i 1)) :=
  (θ_run defs _ _).mono (fun r h c => by
    obtain ⟨h0, h1, h2, h3, h4, h5, h6, h7, h8, -⟩ := h c
    refine ⟨fun i => ?_, fun i => ?_, fun i => ?_, fun i hi => ?_, fun i => ?_, fun i => ?_, fun i => ?_, fun i => ?_, fun i => ?_⟩
    · rw [h0, val_main_v89_eq, ← ix2_eta i]
      exact gx_apply _ _ _ _ _ _ _ _ _ _ _ _
    · rw [h1, val_main_v106_eq, ← ix2_eta i]
      exact gya_apply _ _ _ _ _ _ _ _ _ _ _ _
    · rw [h2, val_main_v105_eq, ← ix2_eta i]
      exact gyb_apply _ _ _ _ _ _ _ _ _ _ _ _
    · rw [h3, val_main_v109_eq]
      exact (congrArg _ (column_eta i hi)).trans (gq_apply _ _ _ _ _ _ _ _ _ _ (i 0) ⟨(i 1).val - 6144, column_lt i⟩)
    · rw [h4, val_main_v110_eq, ← ix2_eta i]
      exact (casts_apply _ _ _ _ _ _ _ _ _ _ _ _).1
    · rw [h5, val_main_v111_eq, ← ix2_eta i]
      exact (casts_apply _ _ _ _ _ _ _ _ _ _ _ _).2.1
    · rw [h6, val_main_v112_eq, ← ix2_eta i]
      exact (casts_apply _ _ _ _ _ _ _ _ _ _ _ _).2.2.1
    · rw [h7, val_main_v113_eq, ← ix2_eta i]
      exact (casts_apply _ _ _ _ _ _ _ _ _ _ _ _).2.2.2
    · rw [h8, val_main_v115_eq, ← ix2_eta i]
      exact st_apply _ _ _ _ _ _ _ _ _ _ _ _) (Cert.OutReferenceIdeal.Value.run m ρ)

end Cert.OutReferenceIdeal

end
-- ==== Proof.Out.Claims.lean ====
module

public import proofs.«01_k».proof.Defs
public import proofs.«01_k».proof.Proof.Gen.OutKernel
public import proofs.«01_k».proof.Proof.Gen.On_gate_columns
public import proofs.«01_k».proof.Proof.Out.KVal
public import proofs.«01_k».proof.Proof.Out.RVal
public import Idealize.ShloMosaic.Lib.Quiescent

@[expose] public section

set_option maxRecDepth 16384

noncomputable section

/-! # The claims about the last stage: the output projection, the residual, the final norm, the square error, and their gradients -/

namespace Cert.Proof.Out

open Idealize.ShloMosaic Idealize.ShloMosaic.TcCoe Idealize.ShloMosaic.Tactic Idealize.SL.Sem

/-- The two printed programs' definitions are the same. -/
theorem defs_eq : Cert.OutKernel.defs (F := Bits) = Cert.OutKernelIdeal.defs (F := Bits) := by sl_kernel_rfl

theorem main_eq : Cert.OutKernel.main (F := Bits) = Cert.OutKernelIdeal.main (F := Bits) := by sl_kernel_rfl

set_option maxHeartbeats 1000000 in
theorem frame_kernel : Cert.quiescent_OutKernel := fun m ρ _ => by
  have h := Cert.OutKernelIdeal.Gen.frame (F := Bits) m ρ
  rw [← defs_eq, ← main_eq] at h
  exact h

theorem frame_ideal : Cert.quiescent_OutKernelIdeal := fun m ρ _ => Cert.OutKernelIdeal.Gen.frame m ρ

theorem frame_reference : Cert.quiescent_OutReferenceIdeal := fun m ρ _ =>
  (θ_run Cert.OutReferenceIdeal.defs _ _).mono
    (fun r h => ⟨fun c => (h c).2.2.2.2.2.2.2.2.2, sem_eq_zero_of_no_sems (by decide) r.2⟩)
    (Cert.OutReferenceIdeal.Value.run (F := Ideal) m ρ)

/-- The columns that the mask of the third array of gradients leaves: those of the gates. -/
theorem column_of_mask : ∀ k < 8192, IntOp.cmpi .sge (BitVec.ofNat 32 k) 6144#32 = 1#1 → 6144 ≤ k := by
  intro k hk h
  have hn : (BitVec.ofNat 32 k).toInt = k := by
    rw [BitVec.toInt_eq_toNat_of_lt (by rw [BitVec.toNat_ofNat]; omega), BitVec.toNat_ofNat]
    omega
  have hb : (6144#32).sle (BitVec.ofNat 32 k) = true := by
    change BitVec.ofBool ((6144#32).sle (BitVec.ofNat 32 k)) = 1#1 at h
    cases hs : (6144#32).sle (BitVec.ofNat 32 k)
    · rw [hs] at h
      exact absurd h (by decide)
    · rfl
  have hi : (6144#32).toInt ≤ (BitVec.ofNat 32 k).toInt := of_decide_eq_true hb
  have h6 : (6144#32).toInt = 6144 := by decide
  omega

/-- The rows that the two programs read are the same. -/
theorem row_agree {m : (ℓ : Loc Cert.OutKernelIdeal.nD Cert.OutKernelIdeal.τ Cert.OutKernelIdeal.sig) → Buf (Elt Ideal) ℓ}
    {m' : (ℓ : Loc Cert.OutReferenceIdeal.nD Cert.OutReferenceIdeal.τ Cert.OutReferenceIdeal.sig) → Buf (Elt Ideal) ℓ} (c : Dev Cert.OutKernelIdeal.nD)
    (e0 : m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0))
    (e1 : m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1))
    (e2 : m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2))
    (e3 : m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3))
    (e4 : m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4))
    (e5 : m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5))
    (e6 : m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6))
    (e7 : m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7))
    (e8 : m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8))
    (e9 : m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)) :
    Cert.OutReferenceIdeal.rowM m' c = Cert.OutKernelIdeal.rowAt m c := by
  unfold Cert.OutReferenceIdeal.rowM
  rw [e0, e1, e2, e3, e4, e5, e6, e7, e8, e9]
  rfl

theorem algebraic : Cert.algebraic_OutKernelIdeal_OutReferenceIdeal_on_gate_columns := by
  intro m ρ m' ρ' _ hagree
  refine ⟨fun c => Cert.OutKernelIdeal.rowsArr m c Step.Out.gx, fun c => Cert.OutKernelIdeal.rowsArr m c Step.Out.gya,
    fun c => Cert.OutKernelIdeal.rowsArr m c Step.Out.gyb, fun c => Cert.OutKernelIdeal.dpArr m c, fun c => Cert.OutKernelIdeal.rowsArr m c Step.Out.merged,
    fun c => Cert.OutKernelIdeal.rowsArr m c Step.Out.gproj, fun c => Cert.OutKernelIdeal.rowsArr m c Step.Out.ga,
    fun c => Cert.OutKernelIdeal.rowsArr m c Step.Out.gb, fun c => Cert.OutKernelIdeal.stArr m c, ?_, ?_⟩
  · refine (θ_run _ _ _).mono (fun r h c => ?_) (θ_run_and (Cert.OutKernelIdeal.run_values m ρ) (Cert.OutKernelIdeal.Gen.frame m ρ))
    obtain ⟨h0, h1, h2, h3, h4, h5, h6, h7, h8⟩ := h.1 c
    exact ⟨fun i _ => congrFun h0 i, fun i _ => congrFun h1 i, fun i _ => congrFun h2 i, fun i _ => congrFun h3 i, fun i _ => congrFun h4 i,
      fun i _ => congrFun h5 i, fun i _ => congrFun h6 i, fun i _ => congrFun h7 i, fun i _ => congrFun h8 i, h.2.1 c⟩
  · refine (θ_run _ _ _).mono (fun r h c => ?_)
      (θ_run_and (Cert.OutReferenceIdeal.run_values m' ρ') (Cert.OutReferenceIdeal.Value.run (F := Ideal) m' ρ'))
    obtain ⟨h0, h1, h2, h3, h4, h5, h6, h7, h8⟩ := h.1 c
    obtain ⟨e0, e1, e2, e3, e4, e5, e6, e7, e8, e9⟩ := hagree c
    rw [row_agree c e0 e1 e2 e3 e4 e5 e6 e7 e8 e9] at h0 h1 h2 h3 h4 h5 h6 h7 h8
    refine ⟨fun i _ => h0 i, fun i _ => h1 i, fun i _ => h2 i, fun i hi => ?_, fun i _ => h4 i, fun i _ => h5 i, fun i _ => h6 i, fun i _ => h7 i,
      fun i _ => h8 i, (h.2 c).2.2.2.2.2.2.2.2.2⟩
    have hk : 6144 ≤ (i 1).val := column_of_mask _ (i 1).isLt hi
    exact (h3 i hk).trans (Cert.OutKernelIdeal.dpArr_column m c i hk).symm

end Cert.Proof.Out

end
-- ==== Proof.Bf.Loops.lean ====
module

public import proofs.«01_k».proof.Proof.B.Tiles
public import proofs.«01_k».proof.Proof.Gen.BfKernelIdeal.Loops
public import Idealize.ShloMosaic.Lib.Pipeline.Value
public import Idealize.ShloMosaic.Lib.Pipeline.ValueKit

@[expose] public section

set_option maxRecDepth 16384

noncomputable section

/-! # The two loops over strips of 16 rows -/

namespace Cert.BfKernelIdeal

open Idealize.ShloMosaic Idealize.ShloMosaic.TcCoe Idealize.ShloMosaic.Tactic
open Cert.BKernelIdeal (kOf in16 put_row_in put_row_out tileW biasW headW ofTiles tileStep tiles_all tile_step readAt_head readAt_tile readAt_bias)
open Idealize.SL Idealize.SL.RA Idealize.SL.BI Idealize.SL.Sem

variable {F : FTy → Type} [FloatOps F] [Named F]

theorem trips1 : k0_t1_loop.trips = 16 := by decide +kernel
theorem trips2 : k0_t2_loop.trips = 16 := by decide +kernel

/-- The rows of one strip: of the values, of the first and the second gate, of the mixed values. -/
def sV (x : Vec F S256x3072 .bf16) (k : Fin k0_t1_loop.trips) : Vec F S16x1024 .bf16 := VecWindow.window x (k0_off1 k) S16x1024.size (Gen.k0_off1_inb k)
def sU (x : Vec F S256x3072 .bf16) (k : Fin k0_t2_loop.trips) : Vec F S16x1024 .bf16 := VecWindow.window x (k0_off3 k) S16x1024.size (Gen.k0_off3_inb k)
def sZ (x : Vec F S256x3072 .bf16) (k : Fin k0_t2_loop.trips) : Vec F S16x1024 .bf16 := VecWindow.window x (k0_off4 k) S16x1024.size (Gen.k0_off4_inb k)
def sS (x : Vec F S256x1024 .f32) (k : Fin k0_t2_loop.trips) : Vec F S16x1024 .f32 := VecWindow.window x (k0_off5 k) S16x1024.size (Gen.k0_off5_inb k)

/-- The normalised values, scaled and shifted; -/
def vbBlk (x : Vec F S256x3072 .bf16) (g b : Vec F S1x1024 .f32) : Vec F S256x1024 .bf16 := fun y => Gen.k0_pay4 (sV x (kOf _ trips1 (y 0))) g b (in16 y)
def vbStep (x : Vec F S256x3072 .bf16) (g b : Vec F S1x1024 .f32) (k : Fin k0_t1_loop.trips) (a : Vec F S256x1024 .bf16) : Vec F S256x1024 .bf16 :=
  VecWindow.put (s := S256x1024) a (k0_off2 k) S16x1024.size (Gen.k0_pay4 (sV x k) g b)
/-- mixed along each chunk, head by head; -/
def sBlk (w : Vec F S8x128x128 .bf16) (vb : Vec F S256x1024 .bf16) (bias : Vec F S128x1024 .f32) : Vec F S256x1024 .f32 :=
  ofTiles fun ck h => Gen.k0_pay1 (headW w h) (tileW vb ck h) (biasW bias h)
/-- the result. -/
def yBlk (x : Vec F S256x3072 .bf16) (s : Vec F S256x1024 .f32) : Vec F S256x1024 .bf16 := fun y =>
  Gen.k0_pay3 (sU x (kOf _ trips2 (y 0))) (sZ x (kOf _ trips2 (y 0))) (sS s (kOf _ trips2 (y 0))) (in16 y)
def yStep (x : Vec F S256x3072 .bf16) (s : Vec F S256x1024 .f32) (k : Fin k0_t2_loop.trips) (a : Vec F S256x1024 .bf16) : Vec F S256x1024 .bf16 :=
  VecWindow.put (s := S256x1024) a (k0_off5 k) S16x1024.size (Gen.k0_pay3 (sU x k) (sZ x k) (sS s k))

theorem vb_all (x : Vec F S256x3072 .bf16) (g b : Vec F S1x1024 .f32) (a : Vec F S256x1024 .bf16) : Step.fold k0_t1_loop.trips (vbStep x g b) a k0_t1_loop.trips = vbBlk x g b := by
  funext y
  have h0 : (y 0).val < 256 := (y 0).isLt
  refine Step.fold_at _ _ _ _ (kOf _ trips1 (y 0)) _ (fun b => put_row_in _ _ _ _ (Gen.k0_off2_eq _)) (fun j hj b => put_row_out _ _ _ _ j.val (Gen.k0_off2_eq j) ?_) _ (Fin.isLt _)
  exact fun e => hj (Fin.ext e)

theorem y_all (x : Vec F S256x3072 .bf16) (s : Vec F S256x1024 .f32) (a : Vec F S256x1024 .bf16) : Step.fold k0_t2_loop.trips (yStep x s) a k0_t2_loop.trips = yBlk x s := by
  funext y
  have h0 : (y 0).val < 256 := (y 0).isLt
  refine Step.fold_at _ _ _ _ (kOf _ trips2 (y 0)) _ (fun b => put_row_in _ _ _ _ (Gen.k0_off5_eq _)) (fun j hj b => put_row_out _ _ _ _ j.val (Gen.k0_off5_eq j) ?_) _ (Fin.isLt _)
  exact fun e => hj (Fin.ext e)

variable (𝒱 : Variants) (c : Dev nD) (bd : Option 𝒱.V) (i : grid0.Coords)
  (arg1 : Memref sig .tc .vmem S256x3072 .bf16) (harg1 : arg1.IsWhole) (arg2 : Memref sig .tc .vmem S8x128x128 .bf16) (harg2 : arg2.IsWhole)
  (arg3 : Memref sig .tc .vmem S128x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S256x1024 .f32) (harg8 : arg8.IsWhole)
  (X1 : BufTy.Contents (Elt F) arg1.view.ty) (x1 : Vec F S256x3072 .bf16) (h1 : arg1.view.read (Elt F) X1 = x1)
  (X4 : BufTy.Contents (Elt F) arg4.view.ty) (x4 : Vec F S1x1024 .f32) (h4 : arg4.view.read (Elt F) X4 = x4)
  (X5 : BufTy.Contents (Elt F) arg5.view.ty) (x5 : Vec F S1x1024 .f32) (h5 : arg5.view.read (Elt F) X5 = x5)
  (X8 : BufTy.Contents (Elt F) arg8.view.ty) (x8 : Vec F S256x1024 .f32) (h8 : arg8.view.read (Elt F) X8 = x8)

include h1 h4 h5 in
/-- One trip of the first loop, read back; -/
theorem trip_t1 (k : Fin k0_t1_loop.trips) (f7 : BufTy.Contents (Elt F) arg7.view.ty) :
    arg7.view.read (Elt F) (arg7.view.writes (Elt F) f7 (Gen.tripL_k0_t1 (F := F) 𝒱 c bd i arg1 harg1 arg2 harg2 arg3 harg3 arg4 harg4 arg5 harg5 arg6 harg6 arg7 harg7 arg8 harg8 X1 X4 X5 k)) = vbStep x1 x4 x5 k (arg7.view.read (Elt F) f7) := by
  have h4' : ∀ inb, arg4.view.readAt (Elt F) (Rect.unit (s := S1x1024) ![0, 0] S1x1024.size inb).toLoadRect X4 = x4 := fun inb => (View.readAt_full _ _ inb).trans h4
  have h5' : ∀ inb, arg5.view.readAt (Elt F) (Rect.unit (s := S1x1024) ![0, 0] S1x1024.size inb).toLoadRect X5 = x5 := fun inb => (View.readAt_full _ _ inb).trans h5
  have e1 : arg1.view.readAt (Elt F) (Rect.unit (s := S256x3072) (k0_off1 k) S16x1024.size (Gen.k0_off1_inb k)).toLoadRect X1 = sV x1 k := by
    rw [← h1]; rfl
  unfold Gen.tripL_k0_t1 Gen.trip_k0_t1
  dsimp only
  sl_unfold_words
  refine (View.read_writes_cons_put _ _ (Gen.k0_off2_inb k) _ _ rfl).trans ?_
  unfold vbStep
  rw [← e1, ← h4' Gen.inb_S1x1024_S1x1024_0_0, ← h5' Gen.inb_S1x1024_S1x1024_0_0]
  rfl

include h1 h4 h5 in
/-- the whole loop. -/
theorem loop_t1 (f7 : BufTy.Contents (Elt F) arg7.view.ty) (n : ℕ) (hn : n ≤ k0_t1_loop.trips) :
    arg7.view.read (Elt F) (arg7.view.writes (Elt F) f7 (Gen.pb_k0_t1 (F := F) 𝒱 c bd i arg1 harg1 arg2 harg2 arg3 harg3 arg4 harg4 arg5 harg5 arg6 harg6 arg7 harg7 arg8 harg8 X1 X4 X5 n)) = Step.fold _ (vbStep x1 x4 x5) (arg7.view.read (Elt F) f7) n := by
  induction n with
  | zero => rfl
  | succ n ih =>
    rw [Gen.pb_k0_t1_succ 𝒱 c bd i arg1 harg1 arg2 harg2 arg3 harg3 arg4 harg4 arg5 harg5 arg6 harg6 arg7 harg7 arg8 harg8 X1 X4 X5 ⟨n, hn⟩, View.writes_append, trip_t1 𝒱 c bd i arg1 harg1 arg2 harg2 arg3 harg3 arg4 harg4 arg5 harg5 arg6 harg6 arg7 harg7 arg8 harg8 X1 x1 h1 X4 x4 h4 X5 x5 h5, ih (Nat.le_of_succ_le hn),
      Step.fold_succ _ _ _ _ (show n < k0_t1_loop.trips from hn)]

include h1 h8 in
/-- One trip of the second loop, read back; -/
theorem trip_t2 (k : Fin k0_t2_loop.trips) (f6 : BufTy.Contents (Elt F) arg6.view.ty) :
    arg6.view.read (Elt F) (arg6.view.writes (Elt F) f6 (Gen.tripL_k0_t2 (F := F) 𝒱 c bd i arg1 harg1 arg2 harg2 arg3 harg3 arg4 harg4 arg5 harg5 arg6 harg6 arg7 harg7 arg8 harg8 X1 X8 k)) = yStep x1 x8 k (arg6.view.read (Elt F) f6) := by
  have e3 : arg1.view.readAt (Elt F) (Rect.unit (s := S256x3072) (k0_off3 k) S16x1024.size (Gen.k0_off3_inb k)).toLoadRect X1 = sU x1 k := by
    rw [← h1]; rfl
  have e4 : arg1.view.readAt (Elt F) (Rect.unit (s := S256x3072) (k0_off4 k) S16x1024.size (Gen.k0_off4_inb k)).toLoadRect X1 = sZ x1 k := by
    rw [← h1]; rfl
  have e8 : arg8.view.readAt (Elt F) (Rect.unit (s := S256x1024) (k0_off5 k) S16x1024.size (Gen.k0_off5_inb k)).toLoadRect X8 = sS x8 k := by
    rw [← h8]; rfl
  unfold Gen.tripL_k0_t2 Gen.trip_k0_t2
  dsimp only
  sl_unfold_words
  refine (View.read_writes_cons_put _ _ (Gen.k0_off5_inb k) _ _ rfl).trans ?_
  unfold yStep
  rw [← e3, ← e4, ← e8]
  rfl

include h1 h8 in
/-- the whole loop. -/
theorem loop_t2 (f6 : BufTy.Contents (Elt F) arg6.view.ty) (n : ℕ) (hn : n ≤ k0_t2_loop.trips) :
    arg6.view.read (Elt F) (arg6.view.writes (Elt F) f6 (Gen.pb_k0_t2 (F := F) 𝒱 c bd i arg1 harg1 arg2 harg2 arg3 harg3 arg4 harg4 arg5 harg5 arg6 harg6 arg7 harg7 arg8 harg8 X1 X8 n)) = Step.fold _ (yStep x1 x8) (arg6.view.read (Elt F) f6) n := by
  induction n with
  | zero => rfl
  | succ n ih =>
    rw [Gen.pb_k0_t2_succ 𝒱 c bd i arg1 harg1 arg2 harg2 arg3 harg3 arg4 harg4 arg5 harg5 arg6 harg6 arg7 harg7 arg8 harg8 X1 X8 ⟨n, hn⟩, View.writes_append, trip_t2 𝒱 c bd i arg1 harg1 arg2 harg2 arg3 harg3 arg4 harg4 arg5 harg5 arg6 harg6 arg7 harg7 arg8 harg8 X1 x1 h1 X8 x8 h8, ih (Nat.le_of_succ_le hn),
      Step.fold_succ _ _ _ _ (show n < k0_t2_loop.trips from hn)]

end Cert.BfKernelIdeal

end
-- ==== Proof.Bf.Body.lean ====
module

public import proofs.«01_k».proof.Proof.Bf.Loops
public import proofs.«01_k».proof.Proof.Gen.BfKernelIdeal.Frame.Runs

@[expose] public section

set_option maxRecDepth 16384

noncomputable section

/-! # The body at any point -/

namespace Cert.BfKernelIdeal

open Idealize.ShloMosaic Idealize.ShloMosaic.TcCoe Idealize.ShloMosaic.Tactic
open Cert.BKernelIdeal (kOf in16 put_row_in put_row_out tileW biasW headW ofTiles tileStep tiles_all tile_step readAt_head readAt_tile readAt_bias)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg1 : Memref sig .tc .vmem S256x3072 .bf16) (harg1 : arg1.IsWhole) (arg2 : Memref sig .tc .vmem S8x128x128 .bf16) (harg2 : arg2.IsWhole)
  (arg3 : Memref sig .tc .vmem S128x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S256x1024 .bf16) (harg6 : arg6.IsWhole)
  (arg7 : Memref sig .tc .vmem S256x1024 .bf16) (harg7 : arg7.IsWhole) (arg8 : Memref sig .tc .vmem S256x1024 .f32) (harg8 : arg8.IsWhole)
  (x1 : Vec F S256x3072 .bf16) (x2 : Vec F S8x128x128 .bf16) (x3 : Vec F S128x1024 .f32) (x4 : Vec F S1x1024 .f32) (x5 : Vec F S1x1024 .f32)

set_option maxHeartbeats 16000000 in
theorem body (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (yBlk x1 (sBlk x2 (vbBlk x1 x4 x5) x3)) ∗ (∃ d, owns (c : Thread nD τ) arg7 fullShare d) ∗ (∃ d, owns (c : Thread nD τ) arg8 fullShare d)) -∗ K ⟨⟩))
      ⊢ wp frame (wpE (defs₀ (F := F)) Variants.none c none) E (cc0_branch_b_fwd i arg1 harg1 arg2 harg2 arg3 harg3 arg4 harg4 arg5 harg5 arg6 harg6 arg7 harg7 arg8 harg8) K := by
  simp only [Gen.cc0_branch_b_fwd_eq_skeleton]; unfold Gen.cc0_branch_b_fwd_skel
  simp only [Gen.k0_part1_eq_skeleton, Gen.k0_part2_eq_skeleton, Gen.k0_part3_eq_skeleton, Gen.k0_part4_eq_skeleton, Gen.k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, Hk⟩
  sl_exec
  sl_step
  have h7 := (loop_t1 Variants.none c none i arg1 harg1 arg2 harg2 arg3 harg3 arg4 harg4 arg5 harg5 arg6 harg6 arg7 harg7 arg8 harg8 f1 _ hf1 f4 _ hf4 f5 _ hf5 f7 (Scf.trips k0_t1_loop.lb k0_t1_loop.ub k0_t1_loop.st) (le_refl _)).trans (vb_all _ _ _ _)
  have h8 : arg8.view.read (Elt F) (arg8.view.writes (Elt F) arg8.view.junk (body.sl.H8_16 c i arg1 harg1 arg2 harg2 arg3 harg3 arg4 harg4 arg5 harg5 arg6 harg6 arg7 harg7 arg8 harg8 f1 f2 f3 f4 f5 f7)) = sBlk x2 (vbBlk x1 x4 x5) x3 := by
    unfold body.sl.H8_16
    refine Eq.trans (b := Step.fold 16 (tileStep (fun ck h => Gen.k0_pay1 (headW x2 h) (tileW (vbBlk x1 x4 x5) ck h) (biasW x3 h))) (arg8.view.read (Elt F) arg8.view.junk) 16) ?_ (tiles_all _ _)
    refine tile_step 15 (by decide) ![128, 896] _ _ rfl ?_ ?_
    · try sl_unfold_words
      rw [readAt_head hf2 ![7, 0, 0] _ 7 rfl, readAt_tile h7 ![128, 896] _ 1 7 rfl, readAt_bias hf3 ![0, 896] _ 7 rfl]
      rfl
    refine tile_step 14 (by decide) ![128, 768] _ _ rfl ?_ ?_
    · try sl_unfold_words
      rw [readAt_head hf2 ![6, 0, 0] _ 6 rfl, readAt_tile h7 ![128, 768] _ 1 6 rfl, readAt_bias hf3 ![0, 768] _ 6 rfl]
      rfl
    refine tile_step 13 (by decide) ![128, 640] _ _ rfl ?_ ?_
    · try sl_unfold_words
      rw [readAt_head hf2 ![5, 0, 0] _ 5 rfl, readAt_tile h7 ![128, 640] _ 1 5 rfl, readAt_bias hf3 ![0, 640] _ 5 rfl]
      rfl
    refine tile_step 12 (by decide) ![128, 512] _ _ rfl ?_ ?_
    · try sl_unfold_words
      rw [readAt_head hf2 ![4, 0, 0] _ 4 rfl, readAt_tile h7 ![128, 512] _ 1 4 rfl, readAt_bias hf3 ![0, 512] _ 4 rfl]
      rfl
    refine tile_step 11 (by decide) ![128, 384] _ _ rfl ?_ ?_
    · try sl_unfold_words
      rw [readAt_head hf2 ![3, 0, 0] _ 3 rfl, readAt_tile h7 ![128, 384] _ 1 3 rfl, readAt_bias hf3 ![0, 384] _ 3 rfl]
      rfl
    refine tile_step 10 (by decide) ![128, 256] _ _ rfl ?_ ?_
    · try sl_unfold_words
      rw [readAt_head hf2 ![2, 0, 0] _ 2 rfl, readAt_tile h7 ![128, 256] _ 1 2 rfl, readAt_bias hf3 ![0, 256] _ 2 rfl]
      rfl
    refine tile_step 9 (by decide) ![128, 128] _ _ rfl ?_ ?_
    · try sl_unfold_words
      rw [readAt_head hf2 ![1, 0, 0] _ 1 rfl, readAt_tile h7 ![128, 128] _ 1 1 rfl, readAt_bias hf3 ![0, 128] _ 1 rfl]
      rfl
    refine tile_step 8 (by decide) ![128, 0] _ _ rfl ?_ ?_
    · try sl_unfold_words
      rw [readAt_head hf2 ![0, 0, 0] _ 0 rfl, readAt_tile h7 ![128, 0] _ 1 0 rfl, readAt_bias hf3 ![0, 0] _ 0 rfl]
      rfl
    refine tile_step 7 (by decide) ![0, 896] _ _ rfl ?_ ?_
    · try sl_unfold_words
      rw [readAt_head hf2 ![7, 0, 0] _ 7 rfl, readAt_tile h7 ![0, 896] _ 0 7 rfl, readAt_bias hf3 ![0, 896] _ 7 rfl]
      rfl
    refine tile_step 6 (by decide) ![0, 768] _ _ rfl ?_ ?_
    · try sl_unfold_words
      rw [readAt_head hf2 ![6, 0, 0] _ 6 rfl, readAt_tile h7 ![0, 768] _ 0 6 rfl, readAt_bias hf3 ![0, 768] _ 6 rfl]
      rfl
    refine tile_step 5 (by decide) ![0, 640] _ _ rfl ?_ ?_
    · try sl_unfold_words
      rw [readAt_head hf2 ![5, 0, 0] _ 5 rfl, readAt_tile h7 ![0, 640] _ 0 5 rfl, readAt_bias hf3 ![0, 640] _ 5 rfl]
      rfl
    refine tile_step 4 (by decide) ![0, 512] _ _ rfl ?_ ?_
    · try sl_unfold_words
      rw [readAt_head hf2 ![4, 0, 0] _ 4 rfl, readAt_tile h7 ![0, 512] _ 0 4 rfl, readAt_bias hf3 ![0, 512] _ 4 rfl]
      rfl
    refine tile_step 3 (by decide) ![0, 384] _ _ rfl ?_ ?_
    · try sl_unfold_words
      rw [readAt_head hf2 ![3, 0, 0] _ 3 rfl, readAt_tile h7 ![0, 384] _ 0 3 rfl, readAt_bias hf3 ![0, 384] _ 3 rfl]
      rfl
    refine tile_step 2 (by decide) ![0, 256] _ _ rfl ?_ ?_
    · try sl_unfold_words
      rw [readAt_head hf2 ![2, 0, 0] _ 2 rfl, readAt_tile h7 ![0, 256] _ 0 2 rfl, readAt_bias hf3 ![0, 256] _ 2 rfl]
      rfl
    refine tile_step 1 (by decide) ![0, 128] _ _ rfl ?_ ?_
    · try sl_unfold_words
      rw [readAt_head hf2 ![1, 0, 0] _ 1 rfl, readAt_tile h7 ![0, 128] _ 0 1 rfl, readAt_bias hf3 ![0, 128] _ 1 rfl]
      rfl
    refine tile_step 0 (by decide) ![0, 0] _ _ rfl ?_ ?_
    · try sl_unfold_words
      rw [readAt_head hf2 ![0, 0, 0] _ 0 rfl, readAt_tile h7 ![0, 0] _ 0 0 rfl, readAt_bias hf3 ![0, 0] _ 0 rfl]
      rfl
    rfl
  have h6 := (loop_t2 Variants.none c none i arg1 harg1 arg2 harg2 arg3 harg3 arg4 harg4 arg5 harg5 arg6 harg6 arg7 harg7 arg8 harg8 f1 _ hf1 (arg8.view.writes (Elt F) arg8.view.junk (body.sl.H8_16 c i arg1 harg1 arg2 harg2 arg3 harg3 arg4 harg4 arg5 harg5 arg6 harg6 arg7 harg7 arg8 harg8 f1 f2 f3 f4 f5 f7)) _ h8 f6 (Scf.trips k0_t2_loop.lb k0_t2_loop.ub k0_t2_loop.st) (le_refl _)).trans (y_all _ _ _)
  iapply Hk
  isplitl [H1]; · iexists f1; isplitr; swap; iexact H1; ipureintro; exact hf1
  isplitl [H2]; · iexists f2; isplitr; swap; iexact H2; ipureintro; exact hf2
  isplitl [H3]; · iexists f3; isplitr; swap; iexact H3; ipureintro; exact hf3
  isplitl [H4]; · iexists f4; isplitr; swap; iexact H4; ipureintro; exact hf4
  isplitl [H5]; · iexists f5; isplitr; swap; iexact H5; ipureintro; exact hf5
  isplitl [H6]; · iexists _; isplitr; swap; iexact H6; ipureintro; exact h6
  isplitl [H7]; · iexists _; iexists _; isplitr; swap; iexact H7; ipureintro; exact h7
  · iexists _; iexists _; isplitr; swap; iexact H8; ipureintro; exact h8

end Cert.BfKernelIdeal

end
-- ==== Proof.Bf.Frame.lean ====
module

public import proofs.«01_k».proof.Proof.Bf.Body

@[expose] public section

set_option maxRecDepth 16384

noncomputable section

namespace Cert.BfKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result, a block of rows. -/
def yAt (c : Dev nD) (t : Fin cfg0.N) : Vec F S256x1024 .bf16 :=
  yBlk (Gen.X0_0 m c t) (sBlk (Gen.iblk m c 1 t) (vbBlk (Gen.X0_0 m c t) (Gen.iblk m c 3 t) (Gen.iblk m c 4 t)) (Gen.iblk m c 2 t))

/-- The proof data of the pipeline: each input's buffer at its block, the output's at its value; the scratch is free between points. -/
def dats (_ : Fin 1) (c : Dev nD) : Dat τ (Elt F) Unit ℕ (UR sig nD τ) ℕ cfg0 c where
  A w := Gen.V m c (Pipeline.arrRef spec0 w)
  after w t := match w with
    | ⟨0, _⟩ => Gen.X0_0 m c t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => yAt m c t
  Φ _ := Pipeline.ΦA spec0 c
  q _ := fullShare
  owed _ := 0

theorem A_eq (c : Dev nD) (w : Fin cfg0.W) : (dats m 0 c).A w = Gen.V m c (Pipeline.arrRef spec0 w) := by
  dsimp only [dats]

theorem after_0 (c : Dev nD) (t : Fin cfg0.N) : (dats m 0 c).after 0 t = Gen.X0_0 m c t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = yAt m c t := by dsimp only [dats]
theorem before_0 (c : Dev nD) (t : Fin cfg0.N) (d) : (dats m 0 c).before 0 t d = Gen.X0_0 m c t :=
  Gen.before0_0_of m (dats m 0 c) (A_eq m c 0) (after_0 m c) t d
theorem before_1 (c : Dev nD) (t : Fin cfg0.N) (d) : (dats m 0 c).before 1 t d = Gen.iblk m c 1 t :=
  Gen.before0_1_of m (dats m 0 c) (A_eq m c 1) (after_1 m c) t d
theorem before_2 (c : Dev nD) (t : Fin cfg0.N) (d) : (dats m 0 c).before 2 t d = Gen.iblk m c 2 t :=
  Gen.before0_2_of m (dats m 0 c) (A_eq m c 2) (after_2 m c) t d
theorem before_3 (c : Dev nD) (t : Fin cfg0.N) (d) : (dats m 0 c).before 3 t d = Gen.iblk m c 3 t :=
  Gen.before0_3_of m (dats m 0 c) (A_eq m c 3) (after_3 m c) t d
theorem before_4 (c : Dev nD) (t : Fin cfg0.N) (d) : (dats m 0 c).before 4 t d = Gen.iblk m c 4 t :=
  Gen.before0_4_of m (dats m 0 c) (A_eq m c 4) (after_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (Gen.ms0_0 t) fullShare ((dats m 0 c).before 0 t d))
    ∗ (∃ d, owns (c : Thread nD τ) (Gen.ms0_1 t) fullShare ((dats m 0 c).before 1 t d))
    ∗ (∃ d, owns (c : Thread nD τ) (Gen.ms0_2 t) fullShare ((dats m 0 c).before 2 t d))
    ∗ (∃ d, owns (c : Thread nD τ) (Gen.ms0_3 t) fullShare ((dats m 0 c).before 3 t d))
    ∗ (∃ d, owns (c : Thread nD τ) (Gen.ms0_4 t) fullShare ((dats m 0 c).before 4 t d))
    ∗ (∃ d, owns (c : Thread nD τ) (Gen.ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (Gen.ms0_0 t) fullShare ((dats m 0 c).after 0 t)
    ∗ owns (c : Thread nD τ) (Gen.ms0_1 t) fullShare ((dats m 0 c).after 1 t)
    ∗ owns (c : Thread nD τ) (Gen.ms0_2 t) fullShare ((dats m 0 c).after 2 t)
    ∗ owns (c : Thread nD τ) (Gen.ms0_3 t) fullShare ((dats m 0 c).after 3 t)
    ∗ owns (c : Thread nD τ) (Gen.ms0_4 t) fullShare ((dats m 0 c).after 4 t)
    ∗ owns (c : Thread nD τ) (Gen.ms0_5 t) fullShare ((dats m 0 c).after 5 t))

/-- The body at any point. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2, before_3, before_4, after_0, after_1, after_2, after_3, after_4, after_5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, Gen.PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (body c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) Gen.scM0_0 (Memref.isWhole_whole _) Gen.scM0_1 (Memref.isWhole_whole _) (Gen.X0_0 m c t) (Gen.iblk m c 1 t) (Gen.iblk m c 2 t) (Gen.iblk m c 3 t) (Gen.iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

set_option backward.isDefEq.respectTransparency.types false in
/-- The launch: the arrays end at what the proof data says, and every counter at zero. -/
theorem run_main_quiescent : θ_run defs (onTc (τ := τ) (main (F := F))) (s₀ m ρ) (fun r => (Pipeline.FramePost cfgs (dats m) 0 (Gen.V m)) r ∧ r.2.sem = fun _ => 0) :=
  Pipeline.θ_run_frame (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hΦ := fun _ _ => rfl)

theorem run_main : θ_run defs (onTc (τ := τ) (main (F := F))) (s₀ m ρ) (Pipeline.FramePost cfgs (dats m) 0 (Gen.V m)) :=
  (θ_run defs _ _).mono (fun _ h => h.1) (run_main_quiescent m ρ)

/-- The frame: the arguments end as they were, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (Gen.frame_of m ρ (dats m) (A_eq m) (run_main m ρ)) ((θ_run defs _ _).mono (fun _ h => h.2) (run_main_quiescent m ρ))

end Cert.BfKernelIdeal

end
-- ==== Proof.Bf.Spec.lean ====
module

public import proofs.«01_k».proof.Proof.B.Spec

@[expose] public section

noncomputable section

/-! # The gated branch itself, over the extended reals -/

namespace Step.Bf

open Idealize.ShloMosaic Step.B
open scoped BigOperators

/-- The activation; -/
def act (x : EReal) : EReal := ((1 / 2 : ℝ) : EReal) * x * (1 + Ideal.erf (x * (((Real.sqrt 2)⁻¹ : ℝ) : EReal)))
/-- a number times its logistic function; -/
def swi (z : EReal) : EReal := z * Ideal.div 1 (1 + Ideal.exp (0 - z))
/-- a row without its mean; -/
def dev (f : Fin 1024 → EReal) (j : Fin 1024) : EReal := f j - Ideal.div (∑ l, f l) (Ideal.ofBits .f32 1149239296#32)
/-- the row divided by its deviation, scaled and shifted. -/
def norm (f g b : Fin 1024 → EReal) (j : Fin 1024) : EReal := dev f j * rinv (dev f) * g j + b j

/-- The activation as a product with the complementary error function. -/
theorem act_eq (x : EReal) : ((1 / 2 : ℝ) : EReal) * x * Ideal.erfc (-x * (((Real.sqrt 2)⁻¹ : ℝ) : EReal)) = act x := by
  unfold act
  rw [show Ideal.erfc (-x * (((Real.sqrt 2)⁻¹ : ℝ) : EReal)) = 1 - Ideal.erf (-x * (((Real.sqrt 2)⁻¹ : ℝ) : EReal)) from rfl, neg_mul, Ideal.erf_neg, sub_eq_add_neg, neg_neg]

/-- The arguments: the projection, the mixing matrices, their bias, the norm's scale and offset. -/
structure Arg where
  p : Fin 4096 → Fin 8192 → EReal
  w : Fin 8 → Fin 128 → Fin 128 → EReal
  bs : Fin 8 → Fin 128 → EReal
  g : Fin 1024 → EReal
  b : Fin 1024 → EReal

namespace Arg

variable (A : Arg)

/-- The three thirds of the projection that the branch reads; -/
def u (r : Fin 4096) (j : Fin 1024) : EReal := A.p r ⟨3072 + j.val, by omega⟩
def v (r : Fin 4096) (j : Fin 1024) : EReal := A.p r ⟨4096 + j.val, by omega⟩
def z (r : Fin 4096) (j : Fin 1024) : EReal := A.p r ⟨5120 + j.val, by omega⟩
/-- the mixing matrices below and on the diagonal; -/
def wm (h : Fin 8) (a b : Fin 128) : EReal := if b ≤ a then A.w h a b else 0
/-- the normalised values; -/
def vb (r : Fin 4096) (j : Fin 1024) : EReal := norm (fun l => act (A.v r l)) A.g A.b j
/-- the values mixed along their chunk; -/
def s (r : Fin 4096) (j : Fin 1024) : EReal := (∑ b : Fin 128, A.wm (head j) (pos r) b * A.vb (row (chunk r) b) j) + A.bs (head j) (pos r)
/-- the result. -/
def y (r : Fin 4096) (j : Fin 1024) : EReal := act (A.u r j) * A.s r j * swi (A.z r j)

end Arg

end Step.Bf

end
-- ==== Proof.Bf.Blk.lean ====
module

public import proofs.«01_k».proof.Proof.Bf.Loops
public import proofs.«01_k».proof.Proof.Bf.Spec
public import proofs.«01_k».proof.Proof.B.Blk
public import Idealize.ShloMosaic.Lib.Pointwise

@[expose] public section

set_option maxRecDepth 16384

noncomputable section

/-! # What the kernel computes of one strip and of one block, over the extended reals -/

namespace Cert.BfKernelIdeal

open Idealize.ShloMosaic Idealize.ShloMosaic.TcCoe Idealize.ShloMosaic.Tactic
open Step Step.Bf
open Step.B (row col chunk pos head lane)
open Cert.BKernelIdeal (kOf in16 tileW biasW headW in128 ckOf hOf window_ix2 in16_ix2 in128_ix2 headW_ix tileW_ix biasW_ix brow srow srow_eta row_brow pos_brow col_hOf)
open scoped BigOperators

theorem named_half : Named.named (F := Ideal) κ "sqrt_half" (φ := .f32) 0x3F3504F3#32 = (((Real.sqrt 2)⁻¹ : ℝ) : EReal) :=
  IdealRules.named_const.ideal_named_scalar _ _ _ _ rfl

theorem vb_strip (x : Vec Ideal S16x1024 .bf16) (g b : Vec Ideal S1x1024 .f32) (r : Fin 16) (j : Fin 1024) :
    Gen.k0_pay4 x g b (ix2 r j) = norm (fun l => act (x (ix2 r l))) (fun l => g (ix2 0 l)) (fun l => b (ix2 0 l)) j := by
  pointwise [Gen.k0_pay4]
  simp only [named_half, bits_half]
  rfl

theorem y_strip (u z : Vec Ideal S16x1024 .bf16) (s : Vec Ideal S16x1024 .f32) (r : Fin 16) (j : Fin 1024) :
    Gen.k0_pay3 u z s (ix2 r j) = act (u (ix2 r j)) * s (ix2 r j) * swi (z (ix2 r j)) := by
  pointwise [Gen.k0_pay3]
  simp only [named_half, bits_half]
  rfl

theorem s_tile (w : Vec Ideal S1x128x128 .bf16) (v : Vec Ideal S128x128 .bf16) (b : Vec Ideal S128x128 .f32) (a l : Fin 128) :
    Gen.k0_pay1 w v b (ix2 a l) = (∑ i : Fin 128, w (ix3 0 a i) * v (ix2 i l)) + b (ix2 a l) := by
  pointwise [Gen.k0_pay1]

/-- The blocks of a point hold the arguments. -/
structure Blk (A : Arg) (t : Fin 16) (x0 : Vec Ideal S256x3072 .bf16) (x1 : Vec Ideal S8x128x128 .bf16)
    (x2 : Vec Ideal S128x1024 .f32) (x3 x4 : Vec Ideal S1x1024 .f32) : Prop where
  u : ∀ (i : Fin 256) (j : Fin 1024), x0 (ix2 i ⟨0 + j.val, by omega⟩) = A.u (brow t i) j
  v : ∀ (i : Fin 256) (j : Fin 1024), x0 (ix2 i ⟨1024 + j.val, by omega⟩) = A.v (brow t i) j
  z : ∀ (i : Fin 256) (j : Fin 1024), x0 (ix2 i ⟨2048 + j.val, by omega⟩) = A.z (brow t i) j
  w : ∀ h a b, x1 (ix3 h a b) = A.wm h a b
  bs : ∀ a j, x2 (ix2 a j) = A.bs (head j) a
  g : ∀ j, x3 (ix2 0 j) = A.g j
  b : ∀ j, x4 (ix2 0 j) = A.b j

variable {A : Arg} {t : Fin 16} {x0 : Vec Ideal S256x3072 .bf16} {x1 : Vec Ideal S8x128x128 .bf16}
  {x2 : Vec Ideal S128x1024 .f32} {x3 x4 : Vec Ideal S1x1024 .f32} (H : Blk A t x0 x1 x2 x3 x4)
include H

theorem sV_apply (k : Fin k0_t1_loop.trips) (hk : k.val < 16) (r : Fin 16) (j : Fin 1024) :
    sV x0 k (ix2 r j) = A.v (brow t (srow k.val hk r)) j :=
  (window_ix2 x0 _ _ _ _ (Gen.k0_off1_eq k) r j (by omega) (by omega)).trans (H.v (srow k.val hk r) j)

theorem sU_apply (k : Fin k0_t2_loop.trips) (hk : k.val < 16) (r : Fin 16) (j : Fin 1024) :
    sU x0 k (ix2 r j) = A.u (brow t (srow k.val hk r)) j :=
  (window_ix2 x0 _ _ _ _ (Gen.k0_off3_eq k) r j (by omega) (by omega)).trans (H.u (srow k.val hk r) j)

theorem sZ_apply (k : Fin k0_t2_loop.trips) (hk : k.val < 16) (r : Fin 16) (j : Fin 1024) :
    sZ x0 k (ix2 r j) = A.z (brow t (srow k.val hk r)) j :=
  (window_ix2 x0 _ _ _ _ (Gen.k0_off4_eq k) r j (by omega) (by omega)).trans (H.z (srow k.val hk r) j)

omit H in
theorem sS_apply (x : Vec Ideal S256x1024 .f32) (k : Fin k0_t2_loop.trips) (hk : k.val < 16) (r : Fin 16) (j : Fin 1024) :
    sS x k (ix2 r j) = x (ix2 (srow k.val hk r) j) := by
  refine (window_ix2 x _ _ _ _ (Gen.k0_off5_eq k) r j (by omega) (by omega)).trans (congrArg (fun l => x (ix2 (srow k.val hk r) l)) (Fin.ext ?_))
  exact Nat.zero_add _

theorem vbBlk_apply (i : Fin 256) (j : Fin 1024) : vbBlk x0 x3 x4 (ix2 i j) = A.vb (brow t i) j := by
  have hi : i.val / 16 < 16 := by omega
  unfold vbBlk
  rw [in16_ix2]
  show Gen.k0_pay4 (sV x0 (kOf k0_t1_loop.trips trips1 i)) x3 x4 (ix2 ⟨i.val % 16, Nat.mod_lt _ (by decide)⟩ j) = _
  have e : ∀ l, sV x0 (kOf k0_t1_loop.trips trips1 i) (ix2 ⟨i.val % 16, Nat.mod_lt _ (by decide)⟩ l) = A.v (brow t i) l := fun l =>
    (sV_apply H _ hi _ l).trans (congrArg (fun n => A.v (brow t n) l) (srow_eta i hi))
  rw [vb_strip]
  simp only [e, H.g, H.b]
  rfl

theorem sBlk_apply (i : Fin 256) (j : Fin 1024) : sBlk x1 (vbBlk x0 x3 x4) x2 (ix2 i j) = A.s (brow t i) j := by
  refine (congrArg (Gen.k0_pay1 (headW x1 (hOf j)) (tileW (vbBlk x0 x3 x4) (ckOf i) (hOf j)) (biasW x2 (hOf j))) (in128_ix2 i j)).trans ?_
  rw [s_tile]
  simp only [headW_ix, tileW_ix, biasW_ix]
  simp only [vbBlk_apply H, H.w, H.bs]
  refine congrArg₂ (· + ·) (Finset.sum_congr rfl fun b _ => congrArg₂ (· * ·) ?_ ?_) ?_
  · exact congrArg (fun p => A.wm (head j) p b) (pos_brow i)
  · exact congrArg₂ A.vb (row_brow i b) (col_hOf j)
  · exact congrArg₂ A.bs (congrArg head (col_hOf j)) (pos_brow i)

theorem yBlk_apply (i : Fin 256) (j : Fin 1024) : yBlk x0 (sBlk x1 (vbBlk x0 x3 x4) x2) (ix2 i j) = A.y (brow t i) j := by
  have hi : i.val / 16 < 16 := by omega
  unfold yBlk
  rw [in16_ix2]
  show Gen.k0_pay3 (sU x0 (kOf k0_t2_loop.trips trips2 i)) (sZ x0 (kOf k0_t2_loop.trips trips2 i)) (sS (sBlk x1 (vbBlk x0 x3 x4) x2) (kOf k0_t2_loop.trips trips2 i))
    (ix2 ⟨i.val % 16, Nat.mod_lt _ (by decide)⟩ j) = _
  have eu := (sU_apply H (kOf k0_t2_loop.trips trips2 i) hi ⟨i.val % 16, Nat.mod_lt _ (by decide)⟩ j).trans (congrArg (fun n => A.u (brow t n) j) (srow_eta i hi))
  have ez := (sZ_apply H (kOf k0_t2_loop.trips trips2 i) hi ⟨i.val % 16, Nat.mod_lt _ (by decide)⟩ j).trans (congrArg (fun n => A.z (brow t n) j) (srow_eta i hi))
  have es := (sS_apply (sBlk x1 (vbBlk x0 x3 x4) x2) (kOf k0_t2_loop.trips trips2 i) hi ⟨i.val % 16, Nat.mod_lt _ (by decide)⟩ j).trans
    ((congrArg (fun n => sBlk x1 (vbBlk x0 x3 x4) x2 (ix2 n j)) (srow_eta i hi)).trans (sBlk_apply H i j))
  rw [y_strip, eu, ez, es]
  rfl

end Cert.BfKernelIdeal

end
-- ==== Proof.Bf.RVal.lean ====
module

public import proofs.«01_k».proof.Proof.Gen.BfReferenceIdeal.Run
public import proofs.«01_k».proof.Proof.Gen.BfReferenceIdeal.Read
public import proofs.«01_k».proof.Proof.Bf.Spec
public import Idealize.ShloMosaic.Lib.Pointwise

@[expose] public section

set_option maxRecDepth 16384

noncomputable section

/-! # The array that the reference leaves -/

namespace Cert.BfReferenceIdeal

open Idealize.ShloMosaic Idealize.ShloMosaic.TcCoe Idealize.ShloMosaic.Tactic
open Idealize.SL.Sem
open Cert.BfReferenceIdeal.Read
open Step Step.Bf
open Step.B (row col chunk pos head lane col_eta causal)
open scoped BigOperators

variable (x0 : (⟨S4096x8192, .bf16⟩ : BufTy).Contents (Elt Ideal)) (x1 : (⟨S8x128x128, .f32⟩ : BufTy).Contents (Elt Ideal))
  (x2 : (⟨S8x128, .f32⟩ : BufTy).Contents (Elt Ideal)) (x3 x4 : (⟨S1x1024, .f32⟩ : BufTy).Contents (Elt Ideal))

/-- The arguments, entry by entry. -/
def args : Arg where
  p r j := x0 (ix2 r j)
  w h a b := x1 (ix3 h a b)
  bs h a := x2 (ix2 h a)
  g j := x3 (ix2 0 j)
  b j := x4 (ix2 0 j)

local notation "𝔸" => args x0 x1 x2 x3 x4

theorem u_apply (r : Fin 4096) (j : Fin 1024) : val_main_v1 (F := Ideal) x0 (ix2 r j) = Arg.u 𝔸 r j := by
  pointwise [val_main_v1, val_main_v0]
  rfl

theorem v_apply (r : Fin 4096) (j : Fin 1024) : val_main_v3 (F := Ideal) x0 (ix2 r j) = Arg.v 𝔸 r j := by
  pointwise [val_main_v3, val_main_v2]
  rfl

theorem z_apply (r : Fin 4096) (j : Fin 1024) : val_main_v5 (F := Ideal) x0 (ix2 r j) = Arg.z 𝔸 r j := by
  pointwise [val_main_v5, val_main_v4]
  rfl

theorem gu_apply (r : Fin 4096) (j : Fin 1024) : val_main_v13 (F := Ideal) x0 (ix2 r j) = act (Arg.u 𝔸 r j) := by
  pointwise [val_main_v13, val_main_v7, val_main_v6, val_main_v8, val_main_v9, val_main_v10, val_main_v11, val_main_v12, val_main_cst, val_main_cst_0]
  rw [u_apply x0 x1 x2 x3 x4, bits_half, sqrt_half]
  exact act_eq _

theorem gv_apply (r : Fin 4096) (j : Fin 1024) : val_main_v21 (F := Ideal) x0 (ix2 r j) = act (Arg.v 𝔸 r j) := by
  pointwise [val_main_v21, val_main_v15, val_main_v14, val_main_v16, val_main_v17, val_main_v18, val_main_v19, val_main_v20, val_main_cst_1, val_main_cst_2]
  rw [v_apply x0 x1 x2 x3 x4, bits_half, sqrt_half]
  exact act_eq _

theorem dev_apply (r : Fin 4096) (j : Fin 1024) : val_main_v27 (F := Ideal) x0 (ix2 r j) = dev (fun l => act (Arg.v 𝔸 r l)) j := by
  pointwise [val_main_v27, val_main_v26, val_main_v25, val_main_v24, val_main_v23, val_main_v22, val_main_cst_3, val_main_cst_4]
  simp only [gv_apply x0 x1 x2 x3 x4]
  rfl

theorem rinv_apply (r : Fin 4096) : val_main_v35 (F := Ideal) x0 (ix2 r 0) = rinv (dev (fun l => act (Arg.v 𝔸 r l))) := by
  pointwise [val_main_v35, val_main_v34, val_main_v33, val_main_v32, val_main_v31, val_main_v30, val_main_v29, val_main_v28, val_main_cst_5, val_main_cst_6, val_main_cst_7]
  simp only [dev_apply x0 x1 x2 x3 x4]
  rfl

theorem vb_apply (r : Fin 4096) (j : Fin 1024) : val_main_v41 (F := Ideal) x0 x3 x4 (ix2 r j) = Arg.vb 𝔸 r j := by
  pointwise [val_main_v41, val_main_v40, val_main_v39, val_main_v38, val_main_v37, val_main_v36]
  rw [dev_apply x0 x1 x2 x3 x4, rinv_apply x0 x1 x2 x3 x4]
  rfl

theorem vbc_apply (c : Fin 32) (b : Fin 128) (h : Fin 8) (l : Fin 128) :
    val_main_v42 (F := Ideal) x0 x3 x4 (ix4 c b h l) = Arg.vb 𝔸 (row c b) (col h l) := by
  pointwise [val_main_v42]
  exact vb_apply x0 x1 x2 x3 x4 (row c b) (col h l)

theorem w_apply (h : Fin 8) (a b : Fin 128) : val_main_v46 (F := Ideal) x1 (ix3 h a b) = Arg.wm 𝔸 h a b := by
  pointwise [val_main_v46, val_main_call1_v0, val_main_call1_v1, val_main_cst_8, val_main_v45, val_main_v44, val_main_v43, val_main_call0_v4, val_main_call0_v5, val_main_call0_v2, val_main_call0_v3, val_main_call0_v0, val_main_call0_v1, val_main_call0_c, val_main_call0_c_0, val_main_c]
  rw [show IntOp.addi (BitVec.ofNat 32 a.val) 0#32 = BitVec.ofNat 32 a.val from BitVec.add_zero _, causal]
  unfold Arg.wm
  by_cases h : b ≤ a
  · rw [if_pos h, if_pos h]
    rfl
  · rw [if_neg h, if_neg h]
    rfl

theorem s_apply (r : Fin 4096) (j : Fin 1024) : val_main_v54 (F := Ideal) x0 x1 x2 x3 x4 (ix2 r j) = Arg.s 𝔸 r j := by
  pointwise [val_main_v54, val_main_v53, val_main_v52, val_main_v51, val_main_v50, val_main_v49, val_main_v48, val_main_v47]
  simp only [vbc_apply x0 x1 x2 x3 x4, w_apply x0 x1 x2 x3 x4]
  show (∑ b : Fin 128, Arg.vb 𝔸 (row (chunk r) b) (col (head j) (lane j)) * Arg.wm 𝔸 (head j) (pos r) b) + Arg.bs 𝔸 (head j) (pos r) = _
  refine congrArg₂ (· + ·) (Finset.sum_congr rfl fun b _ => ?_) rfl
  rw [mul_comm]
  exact congrArg (fun l => Arg.wm 𝔸 (head j) (pos r) b * Arg.vb 𝔸 (row (chunk r) b) l) (col_eta j)

theorem y_apply (r : Fin 4096) (j : Fin 1024) : val_main_v58 (F := Ideal) x0 x1 x2 x3 x4 (ix2 r j) = Arg.y 𝔸 r j := by
  pointwise [val_main_v58, val_main_v57, val_main_v56, val_main_v55, val_main_call2_v5, val_main_call2_v4, val_main_call2_v3, val_main_call2_v2, val_main_call2_v1, val_main_call2_v0, val_main_call2_cst, val_main_call2_cst_0]
  rw [gu_apply x0 x1 x2 x3 x4, s_apply x0 x1 x2 x3 x4, z_apply x0 x1 x2 x3 x4]
  rw [show -Arg.z 𝔸 r j = 0 - Arg.z 𝔸 r j from (zero_sub _).symm]
  rfl

/-- What the run leaves. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      ∀ i, r.2.mem ((c.tc : Thread nD τ).loc main_v58) i = (args (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))).y (i 0) (i 1) :=
  (θ_run defs _ _).mono (fun r h c i => by
      rw [(h c).1, val_main_v58_eq, ← ix2_eta i]
      exact y_apply _ _ _ _ _ _ _) (Cert.BfReferenceIdeal.Value.run m ρ)

end Cert.BfReferenceIdeal

end
-- ==== Proof.Bf.KVal.lean ====
module

public import proofs.«01_k».proof.Proof.Bf.Frame
public import proofs.«01_k».proof.Proof.Bf.Blk
public import proofs.«01_k».proof.Proof.Bf.RVal
public import Idealize.ShloMosaic.Lib.Claim

@[expose] public section

set_option maxRecDepth 16384

noncomputable section

/-! # The array that the kernel leaves -/

namespace Cert.BfKernelIdeal

open Idealize.ShloMosaic Idealize.ShloMosaic.TcCoe Idealize.ShloMosaic.Tactic
open Idealize.ShloMosaic.Pipeline (Dat)
open Idealize.SL.Sem
open Step Step.Bf
open Step.B (head causal)
open Cert.BKernelIdeal (brow)
open scoped BigOperators

variable (m : (ℓ : Loc nD τ sig) → Buf (Elt Ideal) ℓ) (ρ : Dev nD → PrngReg) (c : Dev nD)

/-- The point's number. -/
def pt (t : Fin cfg0.N) : Fin 16 := ⟨t.val, by have := t.isLt; have : cfg0.N = 16 := Gen.N_0; omega⟩

/-- The arguments, entry by entry. -/
abbrev argOf : Arg :=
  Cert.BfReferenceIdeal.args (m ((c : Thread nD τ).loc main_arg0)) (m ((c : Thread nD τ).loc main_arg1)) (m ((c : Thread nD τ).loc main_arg2))
    (m ((c : Thread nD τ).loc main_arg3)) (m ((c : Thread nD τ).loc main_arg4))

theorem idx_0 : ∀ t : Fin cfg0.N, win0_0.index t 0 = t.val ∧ win0_0.index t 1 = 1 := by decide +kernel
theorem idx_1 : ∀ t : Fin cfg0.N, win0_1.index t 0 = 0 ∧ win0_1.index t 1 = 0 ∧ win0_1.index t 2 = 0 := by decide +kernel
theorem idx_2 : ∀ t : Fin cfg0.N, win0_2.index t 0 = 0 ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = 0 := by decide +kernel
theorem idx_5 : ∀ t : Fin cfg0.N, win0_5.index t 0 = t.val ∧ win0_5.index t 1 = 0 := by decide +kernel

theorem blk_0 (t : Fin cfg0.N) (r : Fin 256) (j : Fin 3072) :
    Gen.X0_0 m c t (ix2 r j) = m ((c : Thread nD τ).loc main_arg0) (ix2 (brow (pt t) r) ⟨3072 + j.val, by omega⟩) := by
  have h := idx_0 t
  unfold Gen.X0_0 Pipeline.Window.fill
  refine (dif_pos (Gen.moved0_0 t (ix2 r j))).trans ?_
  unfold brow pt
  blk_ext [Gen.iblk, h.1, h.2]

theorem blk_3 (t : Fin cfg0.N) (j : Fin 1024) : Gen.iblk m c 3 t (ix2 0 j) = m ((c : Thread nD τ).loc main_arg3) (ix2 0 j) := by
  have h := idx_3 t
  blk_ext [Gen.iblk, h.1, h.2]

theorem blk_4 (t : Fin cfg0.N) (j : Fin 1024) : Gen.iblk m c 4 t (ix2 0 j) = m ((c : Thread nD τ).loc main_arg4) (ix2 0 j) := by
  have h := idx_4 t
  blk_ext [Gen.iblk, h.1, h.2]

/-- The masked weights that the host hands over; -/
theorem wt_apply (h : Fin 8) (a b : Fin 128) : Gen.V m c main_v4 (ix3 h a b) = if b ≤ a then (m ((c : Thread nD τ).loc main_arg1) (ix3 h a b) : EReal) else (0 : EReal) := by
  simp only [Gen.V, Gen.hostOps0, Gen.hostOps0_1, Gen.hostOps0_2, Gen.hostOps0_3, Gen.hostOps0_4, List.flatten_cons, List.flatten_nil, List.cons_append, List.nil_append, List.append_nil]
  entry_read
  simp only [StableHlo.TRef.ofBuf_toBuf]
  simp -implicitDefEqProofs only [StableHlo.TRef.toBuf, StableHlo.TRef.ofBuf, cast_cast, cast_eq]
  pointwise
  rw [show IntOp.addi (BitVec.ofNat 32 a.val) 0#32 = BitVec.ofNat 32 a.val from BitVec.add_zero _, causal]
  split <;> rfl

/-- the bias, a column for every lane. -/
theorem bias_apply (a : Fin 128) (j : Fin 1024) : Gen.V m c main_v7 (ix2 a j) = m ((c : Thread nD τ).loc main_arg2) (ix2 (head j) a) := by
  unfold head
  simp only [Gen.V, Gen.hostOps0, Gen.hostOps0_1, Gen.hostOps0_2, Gen.hostOps0_3, Gen.hostOps0_4, List.flatten_cons, List.flatten_nil, List.cons_append, List.nil_append, List.append_nil]
  entry_read
  pointwise

theorem blk_1 (t : Fin cfg0.N) (h : Fin 8) (a b : Fin 128) : Gen.iblk m c 1 t (ix3 h a b) = Gen.V m c main_v4 (ix3 h a b) := by
  have h := idx_1 t
  blk_ext [Gen.iblk, h.1, h.2.1, h.2.2]

theorem blk_2 (t : Fin cfg0.N) (a : Fin 128) (j : Fin 1024) : Gen.iblk m c 2 t (ix2 a j) = Gen.V m c main_v7 (ix2 a j) := by
  have h := idx_2 t
  blk_ext [Gen.iblk, h.1, h.2]

/-- The blocks of a point hold the arguments. -/
theorem blk_holds (t : Fin cfg0.N) :
    Blk (argOf m c) (pt t) (Gen.X0_0 m c t) (Gen.iblk m c 1 t) (Gen.iblk m c 2 t) (Gen.iblk m c 3 t) (Gen.iblk m c 4 t) where
  u i j := (blk_0 m c t i _).trans (congrArg (fun n => m ((c : Thread nD τ).loc main_arg0) (ix2 (brow (pt t) i) n))
    (Fin.ext (by show 3072 + (0 + j.val) = 3072 + j.val; omega)))
  v i j := (blk_0 m c t i _).trans (congrArg (fun n => m ((c : Thread nD τ).loc main_arg0) (ix2 (brow (pt t) i) n))
    (Fin.ext (by show 3072 + (1024 + j.val) = 4096 + j.val; omega)))
  z i j := (blk_0 m c t i _).trans (congrArg (fun n => m ((c : Thread nD τ).loc main_arg0) (ix2 (brow (pt t) i) n))
    (Fin.ext (by show 3072 + (2048 + j.val) = 5120 + j.val; omega)))
  w h a b := (blk_1 m c t h a b).trans (wt_apply m c h a b)
  bs a j := (blk_2 m c t a j).trans (bias_apply m c a j)
  g j := blk_3 m c t j
  b j := blk_4 m c t j

/-- The array of the result. -/
def yArr : Buf (Elt Ideal) ((c : Thread nD τ).loc main_v8) := fun i => (argOf m c).y (i 0) (i 1)

theorem yAt_apply (t : Fin cfg0.N) (r : Fin 256) (j : Fin 1024) : yAt m c t (ix2 r j) = (argOf m c).y (brow (pt t) r) j :=
  yBlk_apply (blk_holds m c t) r j

theorem final_5 : (dats m 0 c).arrAt 5 cfg0.N = yArr m c := by
  refine (dats m 0 c).arrAt_eq_of_covers 5 _ (by decide +kernel) fun t hf y => ?_
  have h := idx_5
  have key : ∀ (r : Fin 256) (j : Fin 1024), yAt m c t (ix2 r j) = yArr m c ((win0_5.blk t).view.emb (ix2 r j)) := by
    intro r j
    have e0 : (win0_5.blk t).view.emb (ix2 r j) 0 = brow (pt t) r := Fin.ext (by blk_simp [(h t).1, (h t).2]; unfold brow pt; exact congrArg (· + r.val) (Nat.mul_comm _ _))
    have e1 : (win0_5.blk t).view.emb (ix2 r j) 1 = j := Fin.ext (by blk_simp [(h t).1, (h t).2])
    rw [yAt_apply]
    unfold yArr
    rw [e0, e1]
  blk_simp
  rw [after_5]
  have ey : y = ix2 (n0 := 256) (n1 := 1024) (y 0) (y 1) := (ix2_eta (n0 := 256) (n1 := 1024) y).symm
  rw [ey]
  exact key (y 0) (y 1)

/-- What the run leaves. -/
theorem run_values : θ_run defs (onTc (τ := τ) (main (F := Ideal))) ⟨m, fun _ => 0, ρ⟩ fun r => ∀ c : Dev nD,
    r.2.mem ((c.tc : Thread nD τ).loc main_v8) = yArr m c :=
  (θ_run defs _ _).mono (fun _ h c => (h.out_eq c 5).trans (final_5 m c)) (run_main m ρ)

end Cert.BfKernelIdeal

end
-- ==== Proof.Bf.Claims.lean ====
module

public import proofs.«01_k».proof.Defs
public import proofs.«01_k».proof.Proof.Gen.BfKernel
public import proofs.«01_k».proof.Proof.Bf.KVal
public import Idealize.ShloMosaic.Lib.Quiescent

@[expose] public section

set_option maxRecDepth 16384

noncomputable section

/-! # The claims about the gated branch with the mixing unit, going forward -/

namespace Cert.Proof.Bf

open Idealize.ShloMosaic Idealize.ShloMosaic.TcCoe Idealize.ShloMosaic.Tactic Idealize.SL.Sem

/-- Over words a named constant is the word that the program was printed with. -/
@[reducible] def wordNamed : Named Bits where
  named _ _ {φ} bits := FloatOps.ofBits φ bits

/-- With that reading the two printed programs' definitions are the same. -/
theorem defs_eq : Cert.BfKernel.defs (F := Bits) = @Cert.BfKernelIdeal.defs Bits _ wordNamed _ := by sl_kernel_rfl

theorem main_eq : Cert.BfKernel.main (F := Bits) = Cert.BfKernelIdeal.main (F := Bits) := by sl_kernel_rfl

theorem frame_kernel : Cert.quiescent_BfKernel := fun m ρ _ => by
  have h := @Cert.BfKernelIdeal.frame_run Bits _ wordNamed m ρ
  rw [← defs_eq, ← main_eq] at h
  exact h

theorem frame_ideal : Cert.quiescent_BfKernelIdeal := fun m ρ _ => Cert.BfKernelIdeal.frame_run m ρ

theorem frame_reference : Cert.quiescent_BfReferenceIdeal := fun m ρ _ =>
  (θ_run Cert.BfReferenceIdeal.defs _ _).mono
    (fun r h => ⟨fun c => (h c).2, sem_eq_zero_of_no_sems (by decide) r.2⟩)
    (Cert.BfReferenceIdeal.Value.run (F := Ideal) m ρ)

/-- The named constant. -/
theorem preserves : Cert.preserves_BfKernel_BfKernelIdeal :=
  IdealRules.named_const.statement Cert.BfKernelIdeal.κ "sqrt_half" .f32 0x3F3504F3#32 _ rfl

theorem algebraic : Cert.algebraic_BfKernelIdeal_BfReferenceIdeal := by
  intro m ρ m' ρ' _ hagree
  refine ⟨fun c => Cert.BfKernelIdeal.yArr m c, ?_, ?_⟩
  · exact (θ_run _ _ _).mono (fun r h c => ⟨h.1 c, h.2.1 c⟩)
      (θ_run_and (Cert.BfKernelIdeal.run_values m ρ) (Cert.BfKernelIdeal.frame_run m ρ))
  · refine (θ_run _ _ _).mono (fun r h c => ⟨?_, (h.2 c).2⟩)
      (θ_run_and (Cert.BfReferenceIdeal.run_values m' ρ') (Cert.BfReferenceIdeal.Value.run (F := Ideal) m' ρ'))
    obtain ⟨e0, e1, e2, e3, e4⟩ := hagree c
    funext i
    rw [h.1 c i, e0, e1, e2, e3, e4]
    rfl

end Cert.Proof.Bf

end
-- ==== Proof.Ab.Kit.lean ====
module

public import proofs.«01_k».proof.Proof.Gen.AbKernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.AbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Conditions, idle windows and buffers of the pipeline. -/

/-- The first point is where everything is set to zero, -/
theorem Gen.hcond0_0 : ∀ t : Fin cfg0.N, k0_cond1 (grid0.coords t) = 1#1 ↔ t.val % 16 = 0 :=
  (fun t => by
    have ht : t.val < 16 := Nat.lt_of_lt_of_eq t.isLt Gen.N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0)

/-- the last one where the sums are taken. -/
theorem Gen.hcond0_1 : ∀ t : Fin cfg0.N, k0_cond2 (grid0.coords t) = 1#1 ↔ t.val % 16 = 15 :=
  (fun t => by
    have ht : t.val < 16 := Nat.lt_of_lt_of_eq t.isLt Gen.N_0
    have e0 : (grid0.coords t 0).val = t.val / 1 % 16 := Pipeline.Grid.coords_val t 0 (by decide) rfl
    simp only [k0_cond2, e0]
    word_cmp
   : ∀ t : Fin grid0.N, k0_cond2 (grid0.coords t) = 1#1 ↔ t.val % 16 = 15)

theorem Gen.liveAt0_0 : ∀ t : Fin cfg0.N, cfg0.idle 0 (grid0.coords t) = false := fun _ => rfl
theorem Gen.liveAt0_1 : ∀ t : Fin cfg0.N, cfg0.idle 1 (grid0.coords t) = false := fun _ => rfl
theorem Gen.liveAt0_2 : ∀ t : Fin cfg0.N, cfg0.idle 2 (grid0.coords t) = false := fun _ => rfl
theorem Gen.liveAt0_3 : ∀ t : Fin cfg0.N, cfg0.idle 3 (grid0.coords t) = false := fun _ => rfl
theorem Gen.liveAt0_4 : ∀ t : Fin cfg0.N, cfg0.idle 4 (grid0.coords t) = false := fun _ => rfl
theorem Gen.liveAt0_5 : ∀ t : Fin cfg0.N, cfg0.idle 5 (grid0.coords t) = false := fun _ => rfl
theorem Gen.liveAt0_6 : ∀ t : Fin cfg0.N, cfg0.idle 6 (grid0.coords t) = false := fun _ => rfl

/-- Whether nothing has been stored into an output's buffer since the start: only before the first point and after the last. -/
def freshTab : ℕ → Bool
  | 0 => true
  | n + 1 => n == 15
theorem freshTab_step_7 : ∀ t : Fin cfg0.N,
    freshTab (t.val + 1) = ((cfg0.win 7).flush t || (cfg0.idle 7 (cfg0.grid.coords t) && freshTab t.val)) := by decide +kernel
theorem Gen.fresh0_7 (t : Fin cfg0.N) (h : t.val ≠ 0) : cfg0.fresh 7 t.val = false := by
  have ht : t.val < 16 := Nat.lt_of_lt_of_eq t.isLt Gen.N_0
  rw [Pipeline.Cfg.fresh_tab cfg0 7 freshTab rfl freshTab_step_7 t.val (Nat.le_of_lt t.isLt)]
  obtain ⟨n, hn⟩ : ∃ n, t.val = n + 1 := ⟨t.val - 1, by omega⟩
  rw [hn]
  show (n == 15) = false
  rw [beq_eq_false_iff_ne]
  omega
theorem Gen.liveAt0_7_A : ∀ t : Fin cfg0.N, t.val % 16 = 0 → cfg0.idle 7 (grid0.coords t) = false := by decide +kernel
theorem Gen.liveAt0_7_C : ∀ t : Fin cfg0.N, t.val % 16 = 15 → cfg0.idle 7 (grid0.coords t) = false := by decide +kernel
theorem Gen.idleAt0_7_B : ∀ t : Fin cfg0.N, ¬t.val % 16 = 0 → ¬t.val % 16 = 15 → cfg0.idle 7 (grid0.coords t) = true := by decide +kernel
theorem Gen.noFlush0_7_B : ∀ t : Fin cfg0.N, ¬t.val % 16 = 0 → ¬t.val % 16 = 15 → (cfg0.win 7).flush t = false := by decide +kernel

/-! The buffers the body is called with. -/

abbrev Gen.ms0_0 (t : Fin cfg0.N) : Memref sig .tc .vmem S256x3072 .bf16 := win0_0.stage (cfg0.slots t 0)
abbrev Gen.hs0_0 (t : Fin cfg0.N) : (Gen.ms0_0 t).IsWhole := hstage0_0 ((cfg0.slots t 0).cast nbuf0_0)
abbrev Gen.ms0_1 (t : Fin cfg0.N) : Memref sig .tc .vmem S256x1024 .f32 := win0_1.stage (cfg0.slots t 1)
abbrev Gen.hs0_1 (t : Fin cfg0.N) : (Gen.ms0_1 t).IsWhole := hstage0_1 ((cfg0.slots t 1).cast nbuf0_1)
abbrev Gen.ms0_2 (t : Fin cfg0.N) : Memref sig .tc .vmem S256x1024 .f32 := win0_2.stage (cfg0.slots t 2)
abbrev Gen.hs0_2 (t : Fin cfg0.N) : (Gen.ms0_2 t).IsWhole := hstage0_2 ((cfg0.slots t 2).cast nbuf0_2)
abbrev Gen.ms0_3 (t : Fin cfg0.N) : Memref sig .tc .vmem S248x1024 .f32 := win0_3.stage (cfg0.slots t 3)
abbrev Gen.hs0_3 (t : Fin cfg0.N) : (Gen.ms0_3 t).IsWhole := hstage0_3 ((cfg0.slots t 3).cast nbuf0_3)
abbrev Gen.ms0_4 (t : Fin cfg0.N) : Memref sig .tc .vmem S1x1024 .f32 := win0_4.stage (cfg0.slots t 4)
abbrev Gen.hs0_4 (t : Fin cfg0.N) : (Gen.ms0_4 t).IsWhole := hstage0_4 ((cfg0.slots t 4).cast nbuf0_4)
abbrev Gen.ms0_5 (t : Fin cfg0.N) : Memref sig .tc .vmem S1x1024 .f32 := win0_5.stage (cfg0.slots t 5)
abbrev Gen.hs0_5 (t : Fin cfg0.N) : (Gen.ms0_5 t).IsWhole := hstage0_5 ((cfg0.slots t 5).cast nbuf0_5)
abbrev Gen.ms0_6 (t : Fin cfg0.N) : Memref sig .tc .vmem S256x3072 .bf16 := win0_6.stage (cfg0.slots t 6)
abbrev Gen.hs0_6 (t : Fin cfg0.N) : (Gen.ms0_6 t).IsWhole := hstage0_6 ((cfg0.slots t 6).cast nbuf0_6)
abbrev Gen.ms0_7 (t : Fin cfg0.N) : Memref sig .tc .vmem S40x1024 .f32 := win0_7.stage (cfg0.slots t 7)
abbrev Gen.hs0_7 (t : Fin cfg0.N) : (Gen.ms0_7 t).IsWhole := hstage0_7 ((cfg0.slots t 7).cast nbuf0_7)
abbrev Gen.scM0_0 : Memref sig .tc .vmem S288x1024 .f32 := Memref.whole cc0_scratch0
abbrev Gen.scM0_1 : Memref sig .tc .vmem S48x1024 .f32 := Memref.whole cc0_scratch1
abbrev Gen.scM0_2 : Memref sig .tc .vmem S248x1024 .f32 := Memref.whole cc0_scratch2

/-- The scratch buffers, each at some contents. -/
theorem Gen.PhiA0_eq (c : Dev nD) :
    (Pipeline.ΦA spec0 c : sProp 𝕄) = iprop(iprop((∃ d, owns (c : Thread nD τ) Gen.scM0_0 fullShare d) ∗ (∃ d, owns (c : Thread nD τ) Gen.scM0_1 fullShare d) ∗ (∃ d, owns (c : Thread nD τ) Gen.scM0_2 fullShare d)) ∗ (∃ r, prngReg c r)) := by
  unfold Pipeline.ΦA; rw [Gen.scopedRest0_eq]; simp only [Gen.scM0_0, Gen.scM0_1, Gen.scM0_2, owns_whole]; try rfl

end Cert.AbKernelIdeal

end
-- ==== Proof.Ab.Conv.lean ====
module

public import proofs.«01_k».proof.Proof.Gen.AbKernelIdeal.Skeleton
public import proofs.«01_k».proof.Proof.Common.Fold
public import Idealize.ShloMosaic.Lib.Pipeline.Value
public import Idealize.ShloMosaic.Lib.Pipeline.ValueKit

@[expose] public section

set_option maxRecDepth 16384

noncomputable section

/-! # What one strip of 64 rows does, 128 columns at a time

The 31 taps are taken in the order of `ofs`: first those whose offset is a multiple of 8, then
those one past, and so on. -/

namespace Cert.AbKernelIdeal

open Idealize.ShloMosaic Idealize.ShloMosaic.TcCoe Idealize.ShloMosaic.Tactic
open Idealize.SL Idealize.SL.RA Idealize.SL.BI Idealize.SL.Sem

variable {F : FTy → Type} [FloatOps F]

/-- The offset taken at place `j`; the tap it belongs to is `30 - ofs j`. -/
def ofs (j : ℕ) : ℕ := j / 4 + 8 * (j % 4)

theorem ofs_le (j : ℕ) (h : j < 31) : ofs j ≤ 30 := by unfold ofs; omega

/-- Eight rows of a window, those from row `p + c` on. -/
def rows8 (win : Vec F S96x128 .f32) (p c : ℕ) (h : p + c + 8 ≤ 96) : FVec F S8x128 .f32 := fun i =>
  win (fun a => ⟨(![p, 0] : Fin 2 → ℕ) a + ((![c, 0] : Fin 2 → ℕ) a + (i a).val), by
    have h0 : (i 0).val < 8 := (i 0).isLt
    have h1 : (i 1).val < 128 := (i 1).isLt
    fin_cases a
    · show p + (c + (i 0).val) < 96
      omega
    · show 0 + (0 + (i 1).val) < 128
      omega⟩)

/-- Eight of sixteen rows. -/
def half (x : FVec F S16x128 .f32) (b : Fin 2) : FVec F S8x128 .f32 := fun i =>
  x (fun a => ⟨(![8 * b.val, 0] : Fin 2 → ℕ) a + (i a).val, by
    have h0 : (i 0).val < 8 := (i 0).isLt
    have h1 : (i 1).val < 128 := (i 1).isLt
    have hb := b.isLt
    fin_cases a
    · show 8 * b.val + (i 0).val < 16
      omega
    · show 0 + (i 1).val < 128
      omega⟩)

/-- The sum over the eight row groups, in order. -/
def tapPart (a s : Fin 8 → FVec F S8x128 .f32) : FVec F S8x128 .f32 :=
  addf (addf (addf (addf (addf (addf (addf (mulf (a 0) (s 0)) (mulf (a 1) (s 1))) (mulf (a 2) (s 2))) (mulf (a 3) (s 3))) (mulf (a 4) (s 4))) (mulf (a 5) (s 5))) (mulf (a 6) (s 6))) (mulf (a 7) (s 7))

/-- The rows of the window the row group `m` meets at place `j`. -/
def meet (win : Vec F S96x128 .f32) (j : ℕ) (hj : j < 31) (m : Fin 8) : FVec F S8x128 .f32 :=
  rows8 win (j / 4) ((m.val + j % 4) * 8) (by have := m.isLt; omega)

/-- The new partial sums of the tap at place `j`. -/
def tapNew (a : Fin 4 → FVec F S16x128 .f32) (win : Vec F S96x128 .f32) (j : ℕ) (hj : j < 31) (old : FVec F S8x128 .f32) : FVec F S8x128 .f32 :=
  shapeCast S8x128 (addf old (tapPart (fun m => half (a ⟨m.val / 2, by have := m.isLt; omega⟩) ⟨m.val % 2, Nat.mod_lt _ (by decide)⟩) (meet win j hj))) Gen.shapeCasts_S8x128_S8x128

/-- The gradient with respect to the gated values, of the row group `m`, after the first `n` places. -/
def daAcc (w : Fin 31 → Vec F S8x128 .f32) (win : Vec F S96x128 .f32) (m : Fin 8) : (n : ℕ) → n ≤ 31 → FVec F S8x128 .f32
  | 0, _ => Gen.k0_pay44
  | n + 1, h => addf (daAcc w win m n (Nat.le_of_succ_le h)) (mulf (shapeCast S8x128 (w ⟨n, h⟩) Gen.shapeCasts_S8x128_S8x128) (meet win n h m))

/-- The same for sixteen rows. -/
def da16 (w : Fin 31 → Vec F S8x128 .f32) (win : Vec F S96x128 .f32) (h : Fin 4) : FVec F S16x128 .f32 :=
  concatenate S16x128 0 [⟨S8x128, daAcc w win ⟨2 * h.val, by have := h.isLt; omega⟩ 31 (le_refl _)⟩, ⟨S8x128, daAcc w win ⟨2 * h.val + 1, by have := h.isLt; omega⟩ 31 (le_refl _)⟩] Gen.concatenates_S8x128_S8x128_S16x128_d0

/-- The gradient with respect to the values, and to the gates. -/
def dvalT (w : Fin 31 → Vec F S8x128 .f32) (win : Vec F S96x128 .f32) (h : Fin 4) (u : Vec F S16x128 .bf16) : FVec F S16x128 .bf16 :=
  truncf .bf16 (mulf (da16 w win h) (Gen.k0_pay27 u)) Gen.bitsLt_bf16_f32
def dgluT (w : Fin 31 → Vec F S8x128 .f32) (win : Vec F S96x128 .f32) (h : Fin 4) (u v : Vec F S16x128 .bf16) : FVec F S16x128 .bf16 :=
  Gen.k0_pay8 (Gen.k0_pay27 u) (mulf (da16 w win h) (Gen.k0_pay28 u v)) (Scalar.ofBits .f32 0x3F800000#32)

end Cert.AbKernelIdeal

end
-- ==== Proof.Ab.Taps.lean ====
module

public import proofs.«01_k».proof.Proof.Ab.Conv

@[expose] public section

set_option maxRecDepth 16384

noncomputable section

/-! # The stores of one strip, tile by tile -/

namespace Cert.AbKernelIdeal

open Idealize.ShloMosaic Idealize.ShloMosaic.TcCoe Idealize.ShloMosaic.Tactic
open Idealize.SL Idealize.SL.RA Idealize.SL.BI Idealize.SL.Sem

variable {F : FTy → Type} [FloatOps F]

/-! ## The partial sums of the taps -/

/-- The tile of the taps' sums stored at place `n` of a strip. -/
def tapOff (n : ℕ) : Fin 2 → ℕ := ![8 * (30 - ofs (n % 31)), 128 * (n / 31)]

theorem tapOff_inb (n : ℕ) (hn : n < 248) : ∀ a, tapOff n a + S8x128.size a ≤ S248x1024.size a := by
  have h := ofs_le (n % 31) (Nat.mod_lt _ (by decide))
  intro a
  fin_cases a
  · show 8 * (30 - ofs (n % 31)) + 8 ≤ 248
    omega
  · show 128 * (n / 31) + 128 ≤ 1024
    omega

def ltOf (n : ℕ) (hn : n < 248) : Fin 8 := ⟨n / 31, by omega⟩

def jOf (n : ℕ) : Fin 31 := ⟨n % 31, Nat.mod_lt _ (by decide)⟩

variable {e : EltTy}

/-- Store number `k` of the tiles `g`. -/
def tapStep (g : Fin 8 → Fin 31 → Vec F S8x128 e) (k : Fin 248) (S : Vec F S248x1024 e) : Vec F S248x1024 e :=
  VecWindow.put (s := S248x1024) S (tapOff k.val) S8x128.size (g (ltOf k.val k.isLt) (jOf k.val))

variable {sig' : RefSig} {κ : Kind} {sp : Space}

/-- One more store over earlier ones. -/
theorem tap_step {v : View sig' κ sp S248x1024 e} {f : BufTy.Contents (Elt F) v.ty} {L : List (View.Piece (Elt F) S248x1024 e)}
    {g : Fin 8 → Fin 31 → Vec F S8x128 e}
    {x : Vec F S248x1024 e} (n : ℕ) (hn : n < 248) (off : Fin 2 → ℕ) (inb : ∀ a, off a + S8x128.size a ≤ S248x1024.size a) (w : Vec F S8x128 e)
    (hoff : off = tapOff n)
    (hw : w = g (ltOf n hn) (jOf n))
    (hL : v.read (Elt F) (v.writes (Elt F) f L) = Step.fold 248 (tapStep g) x n) :
    v.read (Elt F) (v.writes (Elt F) f (⟨Rect.unit (s := S248x1024) off S8x128.size inb, w⟩ :: L)) = Step.fold 248 (tapStep g) x (n + 1) := by
  rw [View.read_writes_cons_put v f inb w L hoff, hL, Step.fold_succ _ _ _ _ hn, hw]
  rfl

/-! ## The two gradients -/

/-- Which store of a strip, and of which columns: the columns' tile, the sixteen rows, values or gates. -/
def oLt (n : ℕ) (hn : n < 64) : Fin 8 := ⟨n / 8, by omega⟩
def oH (n : ℕ) (hn : n < 64) : Fin 4 := ⟨n % 8 / 2, by omega⟩
def oC (n : ℕ) : Fin 2 := ⟨n % 2, Nat.mod_lt _ (by decide)⟩

def outOff (t : ℕ) (n : ℕ) : Fin 2 → ℕ := ![64 * t + 16 * (n % 8 / 2), 1024 * (n % 2) + 128 * (n / 8)]

theorem outOff_inb (t n : ℕ) (ht : t < 4) (hn : n < 64) : ∀ a, outOff t n a + S16x128.size a ≤ S256x3072.size a := by
  intro a
  fin_cases a
  · show 64 * t + 16 * (n % 8 / 2) + 16 ≤ 256
    omega
  · show 1024 * (n % 2) + 128 * (n / 8) + 128 ≤ 3072
    omega

/-- Store number `k`. -/
def outStep (t : ℕ) (g : Fin 8 → Fin 4 → Fin 2 → Vec F S16x128 e) (k : Fin 64) (S : Vec F S256x3072 e) : Vec F S256x3072 e :=
  VecWindow.put (s := S256x3072) S (outOff t k.val) S16x128.size (g (oLt k.val k.isLt) (oH k.val k.isLt) (oC k.val))

theorem out_step {v : View sig' κ sp S256x3072 e} {f : BufTy.Contents (Elt F) v.ty} {L : List (View.Piece (Elt F) S256x3072 e)}
    {t : ℕ} {g : Fin 8 → Fin 4 → Fin 2 → Vec F S16x128 e}
    {x : Vec F S256x3072 e} (n : ℕ) (hn : n < 64) (off : Fin 2 → ℕ) (inb : ∀ a, off a + S16x128.size a ≤ S256x3072.size a) (w : Vec F S16x128 e)
    (hoff : off = outOff t n) (hw : w = g (oLt n hn) (oH n hn) (oC n))
    (hL : v.read (Elt F) (v.writes (Elt F) f L) = Step.fold 64 (outStep t g) x n) :
    v.read (Elt F) (v.writes (Elt F) f (⟨Rect.unit (s := S256x3072) off S16x128.size inb, w⟩ :: L)) = Step.fold 64 (outStep t g) x (n + 1) := by
  rw [View.read_writes_cons_put v f inb w L hoff, hL, Step.fold_succ _ _ _ _ hn, hw]
  rfl

end Cert.AbKernelIdeal

end
-- ==== Proof.Ab.Strip.lean ====
module

public import proofs.«01_k».proof.Proof.Ab.Taps
public import proofs.«01_k».proof.Proof.Gen.AbKernelIdeal.Loops

@[expose] public section

set_option maxRecDepth 16384

noncomputable section

/-! # The parts of one strip of 64 rows -/

namespace Cert.AbKernelIdeal

open Idealize.ShloMosaic Idealize.ShloMosaic.TcCoe Idealize.ShloMosaic.Tactic
open Idealize.SL Idealize.SL.RA Idealize.SL.BI Idealize.SL.Sem

variable {F : FTy → Type} [FloatOps F]

/-- Where the window of the tile `lt` starts, its gates' rows and its values' rows. -/
def winOff (t : Fin k0_t2_loop.trips) : Fin 8 → Fin 2 → ℕ :=
  ![k0_off4 t, k0_off7 t, k0_off10 t, k0_off13 t, k0_off16 t, k0_off19 t, k0_off22 t, k0_off25 t]
def gluOff (t : Fin k0_t2_loop.trips) (lt : Fin 8) (h : Fin 4) : Fin 2 → ℕ :=
  (![k0_off5 t, k0_off8 t, k0_off11 t, k0_off14 t, k0_off17 t, k0_off20 t, k0_off23 t, k0_off26 t] : Fin 8 → BitVec 32 → Fin 2 → ℕ) lt (BitVec.ofNat 32 (16 * h.val))
def valOff (t : Fin k0_t2_loop.trips) (lt : Fin 8) (h : Fin 4) : Fin 2 → ℕ :=
  (![k0_off6 t, k0_off9 t, k0_off12 t, k0_off15 t, k0_off18 t, k0_off21 t, k0_off24 t, k0_off27 t] : Fin 8 → BitVec 32 → Fin 2 → ℕ) lt (BitVec.ofNat 32 (16 * h.val))

theorem winOff_eq (t : Fin k0_t2_loop.trips) (lt : Fin 8) : winOff t lt = ![64 * t.val, 128 * lt.val] := by
  fin_cases lt
  exacts [Gen.k0_off4_eq t, Gen.k0_off7_eq t, Gen.k0_off10_eq t, Gen.k0_off13_eq t, Gen.k0_off16_eq t, Gen.k0_off19_eq t, Gen.k0_off22_eq t, Gen.k0_off25_eq t]

theorem gluOff_eq (t : Fin k0_t2_loop.trips) (lt : Fin 8) (h : Fin 4) : gluOff t lt h = ![64 * t.val + 16 * h.val, 1024 + 128 * lt.val] := by
  fin_cases lt
  exacts [Gen.k0_off5_eq t h, Gen.k0_off8_eq t h, Gen.k0_off11_eq t h, Gen.k0_off14_eq t h, Gen.k0_off17_eq t h, Gen.k0_off20_eq t h, Gen.k0_off23_eq t h, Gen.k0_off26_eq t h]

theorem valOff_eq (t : Fin k0_t2_loop.trips) (lt : Fin 8) (h : Fin 4) : valOff t lt h = ![64 * t.val + 16 * h.val, 128 * lt.val] := by
  fin_cases lt
  exacts [Gen.k0_off6_eq t h, Gen.k0_off9_eq t h, Gen.k0_off12_eq t h, Gen.k0_off15_eq t h, Gen.k0_off18_eq t h, Gen.k0_off21_eq t h, Gen.k0_off24_eq t h, Gen.k0_off27_eq t h]

theorem winOff_inb (t : Fin k0_t2_loop.trips) (lt : Fin 8) : ∀ a, winOff t lt a + S96x128.size a ≤ S288x1024.size a := by
  fin_cases lt
  exacts [Gen.k0_off4_inb t, Gen.k0_off7_inb t, Gen.k0_off10_inb t, Gen.k0_off13_inb t, Gen.k0_off16_inb t, Gen.k0_off19_inb t, Gen.k0_off22_inb t, Gen.k0_off25_inb t]

theorem gluOff_inb (t : Fin k0_t2_loop.trips) (lt : Fin 8) (h : Fin 4) : ∀ a, gluOff t lt h a + S16x128.size a ≤ S256x3072.size a := by
  fin_cases lt
  exacts [Gen.k0_off5_inb t h, Gen.k0_off8_inb t h, Gen.k0_off11_inb t h, Gen.k0_off14_inb t h, Gen.k0_off17_inb t h, Gen.k0_off20_inb t h, Gen.k0_off23_inb t h, Gen.k0_off26_inb t h]

theorem valOff_inb (t : Fin k0_t2_loop.trips) (lt : Fin 8) (h : Fin 4) : ∀ a, valOff t lt h a + S16x128.size a ≤ S256x3072.size a := by
  fin_cases lt
  exacts [Gen.k0_off6_inb t h, Gen.k0_off9_inb t h, Gen.k0_off12_inb t h, Gen.k0_off15_inb t h, Gen.k0_off18_inb t h, Gen.k0_off21_inb t h, Gen.k0_off24_inb t h, Gen.k0_off27_inb t h]

/-- The parts of a strip: the window of the cotangents, the gates, the values, the taps. -/
def winS (x : Vec F S288x1024 .f32) (t : Fin k0_t2_loop.trips) (lt : Fin 8) : Vec F S96x128 .f32 := VecWindow.window x (winOff t lt) S96x128.size (winOff_inb t lt)
def gluS (x : Vec F S256x3072 .bf16) (t : Fin k0_t2_loop.trips) (lt : Fin 8) (h : Fin 4) : Vec F S16x128 .bf16 := VecWindow.window x (gluOff t lt h) S16x128.size (gluOff_inb t lt h)
def valS (x : Vec F S256x3072 .bf16) (t : Fin k0_t2_loop.trips) (lt : Fin 8) (h : Fin 4) : Vec F S16x128 .bf16 := VecWindow.window x (valOff t lt h) S16x128.size (valOff_inb t lt h)
def tapInb (lt : Fin 8) (j : Fin 31) : ∀ a, (![8 * (30 - ofs j.val), 128 * lt.val] : Fin 2 → ℕ) a + S8x128.size a ≤ S248x1024.size a := by
  have h := ofs_le j.val j.isLt
  have hl := lt.isLt
  intro a
  fin_cases a
  · show 8 * (30 - ofs j.val) + 8 ≤ 248
    omega
  · show 128 * lt.val + 128 ≤ 1024
    omega
def tapS (x : Vec F S248x1024 .f32) (lt : Fin 8) (j : Fin 31) : Vec F S8x128 .f32 := VecWindow.window x ![8 * (30 - ofs j.val), 128 * lt.val] S8x128.size (tapInb lt j)
/-- The gated values. -/
def aS (x : Vec F S256x3072 .bf16) (t : Fin k0_t2_loop.trips) (lt : Fin 8) (h : Fin 4) : FVec F S16x128 .f32 := Gen.k0_pay28 (gluS x t lt h) (valS x t lt h)
/-- The two gradients. -/
def outS (x : Vec F S256x3072 .bf16) (w : Vec F S248x1024 .f32) (dy : Vec F S288x1024 .f32) (t : Fin k0_t2_loop.trips) (lt : Fin 8) (h : Fin 4) : Fin 2 → FVec F S16x128 .bf16 :=
  ![dvalT (tapS w lt) (winS dy t lt) h (gluS x t lt h), dgluT (tapS w lt) (winS dy t lt) h (gluS x t lt h) (valS x t lt h)]

/-- The taps' sums after a strip. -/
def newS (x : Vec F S256x3072 .bf16) (dy : Vec F S288x1024 .f32) (T : Vec F S248x1024 .f32) (t : Fin k0_t2_loop.trips) (lt : Fin 8) (j : Fin 31) : Vec F S8x128 .f32 :=
  tapNew (aS x t lt) (winS dy t lt) j.val j.isLt (tapS T lt j)

end Cert.AbKernelIdeal
end
-- ==== Proof.Ab.Blocks.lean ====
module

public import proofs.«01_k».proof.Proof.Ab.Strip
public import Idealize.ShloMosaic.Lib.Pipeline.Value

@[expose] public section

set_option maxRecDepth 16384

noncomputable section

namespace Cert.AbKernelIdeal

open Idealize.ShloMosaic Idealize.ShloMosaic.TcCoe Idealize.ShloMosaic.Tactic
open Idealize.SL Idealize.SL.RA Idealize.SL.BI Idealize.SL.Sem

variable {F : FTy → Type} [FloatOps F]

/-! # The strips' stores as values of whole blocks -/

theorem trips1 : k0_t1_loop.trips = 16 := by decide +kernel
theorem trips2 : k0_t2_loop.trips = 4 := by decide +kernel

/-- The strip of sixteen rows that holds row `r`. -/
def kOf (r : ℕ) (h : r < 256) : Fin k0_t1_loop.trips := ⟨r / 16, by rw [trips1]; omega⟩
/-- The strip of 64 rows that holds row `r`. -/
def tOf (r : ℕ) (h : r < 256) : Fin k0_t2_loop.trips := ⟨r / 64, by rw [trips2]; omega⟩

def in16 (r c : ℕ) (h : c < 1024) : S16x1024.Idx := fun a => ⟨![r % 16, c] a, by
  fin_cases a
  · exact Nat.mod_lt _ (by decide)
  · exact h⟩
def in16t (r c : ℕ) : S16x128.Idx := fun a => ⟨![r % 16, c % 128] a, by
  fin_cases a
  · exact Nat.mod_lt _ (by decide)
  · exact Nat.mod_lt _ (by decide)⟩
def in8t (r c : ℕ) : S8x128.Idx := fun a => ⟨![r % 8, c % 128] a, by
  fin_cases a
  · exact Nat.mod_lt _ (by decide)
  · exact Nat.mod_lt _ (by decide)⟩

/-! ## First loop -/

def s1 (x : Vec F S256x1024 .f32) (k : Fin k0_t1_loop.trips) : Vec F S16x1024 .f32 := VecWindow.window x (k0_off1 k) S16x1024.size (Gen.k0_off1_inb k)
def sZ (x : Vec F S256x3072 .bf16) (k : Fin k0_t1_loop.trips) : Vec F S16x1024 .bf16 := VecWindow.window x (k0_off2 k) S16x1024.size (Gen.k0_off2_inb k)

section Strip

variable (x1 : Vec F S256x3072 .bf16) (x2 x3 : Vec F S256x1024 .f32) (g b : Vec F S1x1024 .f32) (k : Fin k0_t1_loop.trips)

/-- The cotangent of the gate; -/
def dzS : FVec F S16x1024 .bf16 := Gen.k0_pay22 (Gen.k0_pay17 (s1 x2 k) g b) (Gen.k0_pay18 (s1 x2 k) g b) (Gen.k0_pay19 (sZ x1 k)) (Gen.k0_pay20 (sZ x1 k)) (s1 x3 k)
/-- of the normalised values; -/
def dnS : FVec F S16x1024 .f32 := Gen.k0_pay26 (Gen.k0_pay17 (s1 x2 k) g b) (Gen.k0_pay18 (s1 x2 k) g b) (Gen.k0_pay19 (sZ x1 k)) (Gen.k0_pay20 (sZ x1 k)) (s1 x3 k) g
/-- of the convolution's result; -/
def dyS : FVec F S16x1024 .f32 := Gen.k0_pay7 (Gen.k0_pay15 (s1 x2 k)) (Gen.k0_pay16 (s1 x2 k)) (dnS x1 x2 x3 g b k)
/-- the three sums. -/
def sumG (o : Vec F S16x1024 .f32) : FVec F S16x1024 .f32 := Gen.k0_pay24 (Gen.k0_pay16 (s1 x2 k)) (Gen.k0_pay17 (s1 x2 k) g b) (Gen.k0_pay18 (s1 x2 k) g b) (Gen.k0_pay19 (sZ x1 k)) (Gen.k0_pay20 (sZ x1 k)) (s1 x3 k) o
def sumB (o : Vec F S16x1024 .f32) : FVec F S16x1024 .f32 := Gen.k0_pay25 (Gen.k0_pay17 (s1 x2 k) g b) (Gen.k0_pay18 (s1 x2 k) g b) (Gen.k0_pay19 (sZ x1 k)) (Gen.k0_pay20 (sZ x1 k)) (s1 x3 k) o
def sumC (o : Vec F S16x1024 .f32) : FVec F S16x1024 .f32 := Gen.k0_pay6 (Gen.k0_pay15 (s1 x2 k)) (Gen.k0_pay16 (s1 x2 k)) (dnS x1 x2 x3 g b k) o

end Strip

def accW (S : Vec F S48x1024 .f32) (q : Fin 3) : Vec F S16x1024 .f32 := VecWindow.window S ![16 * q.val, 0] S16x1024.size (by
  intro a
  have := q.isLt
  fin_cases a
  · show 16 * q.val + 16 ≤ 48
    omega
  · show 0 + 1024 ≤ 1024
    omega)

section Blocks

variable (x1 : Vec F S256x3072 .bf16) (x2 x3 : Vec F S256x1024 .f32) (g b : Vec F S1x1024 .f32)

def dzStep (k : Fin k0_t1_loop.trips) (a : Vec F S256x3072 .bf16) : Vec F S256x3072 .bf16 := VecWindow.put (s := S256x3072) a (k0_off2 k) S16x1024.size (dzS x1 x2 x3 g b k)
def dyStep (k : Fin k0_t1_loop.trips) (a : Vec F S288x1024 .f32) : Vec F S288x1024 .f32 := VecWindow.put (s := S288x1024) a (k0_off3 k) S16x1024.size (dyS x1 x2 x3 g b k)
def acStep (k : Fin k0_t1_loop.trips) (S : Vec F S48x1024 .f32) : Vec F S48x1024 .f32 :=
  VecWindow.put (s := S48x1024) (VecWindow.put (s := S48x1024) (VecWindow.put (s := S48x1024) S ![0, 0] S16x1024.size (sumG x1 x2 x3 g b k (accW S 0)))
    ![16, 0] S16x1024.size (sumB x1 x2 x3 g b k (accW S 1))) ![32, 0] S16x1024.size (sumC x1 x2 x3 g b k (accW S 2))

/-- The convolution's cotangents of a block, then those of the block after it. -/
def dyBlk (hal : Vec F S32x1024 .f32) : Vec F S288x1024 .f32 := fun y =>
  if h : (y 0).val < 256 then dyS x1 x2 x3 g b (kOf (y 0).val h) (in16 (y 0).val (y 1).val (y 1).isLt)
  else hal (fun a => ⟨![(y 0).val - 256, (y 1).val] a, by
    have h0 : (y 0).val < 288 := (y 0).isLt
    fin_cases a
    · show (y 0).val - 256 < 32
      omega
    · exact (y 1).isLt⟩)

theorem dy_all (a : Vec F S288x1024 .f32) (hal : Vec F S32x1024 .f32) (ha : ∀ inb, VecWindow.window (s := S288x1024) a ![256, 0] S32x1024.size inb = hal) :
    Step.fold _ (dyStep x1 x2 x3 g b) a k0_t1_loop.trips = dyBlk x1 x2 x3 g b hal := by
  funext y
  have h0 : (y 0).val < 288 := (y 0).isLt
  have h1 : (y 1).val < 1024 := (y 1).isLt
  unfold dyBlk
  by_cases h : (y 0).val < 256
  · rw [dif_pos h]
    refine Step.fold_at _ _ _ _ (kOf _ h) _ (fun q => ?_) (fun j hj q => ?_) _ (Fin.isLt _)
    · unfold dyStep VecWindow.put
      rw [Gen.k0_off3_eq]
      rw [dif_pos (by
        intro a; fin_cases a
        · exact ⟨show 16 * ((y 0).val / 16) ≤ (y 0).val by omega, show (y 0).val < 16 * ((y 0).val / 16) + 16 by omega⟩
        · exact ⟨Nat.zero_le _, show (y 1).val < 0 + 1024 by omega⟩)]
      refine congrArg (dyS x1 x2 x3 g b _) (funext fun a => Fin.ext ?_)
      fin_cases a
      · show (y 0).val - 16 * ((y 0).val / 16) = (y 0).val % 16
        omega
      · show (y 1).val - 0 = (y 1).val
        omega
    · unfold dyStep VecWindow.put
      rw [Gen.k0_off3_eq]
      rw [dif_neg (by
        intro hh
        have c0 : 16 * j.val ≤ (y 0).val ∧ (y 0).val < 16 * j.val + 16 := hh 0
        exact hj (Fin.ext (by show j.val = (y 0).val / 16; omega)))]
  · rw [dif_neg h]
    refine (Step.fold_keep _ _ _ _ (fun j q => ?_) _).trans ?_
    · unfold dyStep VecWindow.put
      rw [Gen.k0_off3_eq]
      have hj : j.val < 16 := lt_of_lt_of_eq j.isLt trips1
      rw [dif_neg (by
        intro hh
        have c0 : 16 * j.val ≤ (y 0).val ∧ (y 0).val < 16 * j.val + 16 := hh 0
        omega)]
    · rw [← ha (by
        intro a; fin_cases a
        · show 256 + 32 ≤ 288
          omega
        · show 0 + 1024 ≤ 1024
          omega)]
      refine congrArg a (funext fun a => Fin.ext ?_)
      fin_cases a
      · show (y 0).val = 256 + 1 * ((y 0).val - 256)
        omega
      · show (y 1).val = 0 + 1 * (y 1).val
        omega

theorem dz_in (a : Vec F S256x3072 .bf16) (y : S256x3072.Idx) (h : 2048 ≤ (y 1).val) :
    Step.fold _ (dzStep x1 x2 x3 g b) a k0_t1_loop.trips y = dzS x1 x2 x3 g b (kOf (y 0).val (y 0).isLt) (in16 (y 0).val ((y 1).val - 2048) (by have : (y 1).val < 3072 := (y 1).isLt; omega)) := by
  have h0 : (y 0).val < 256 := (y 0).isLt
  have h1 : (y 1).val < 3072 := (y 1).isLt
  refine Step.fold_at _ _ _ _ (kOf _ h0) _ (fun q => ?_) (fun j hj q => ?_) _ (Fin.isLt _)
  · unfold dzStep VecWindow.put
    rw [Gen.k0_off2_eq]
    rw [dif_pos (by
      intro a; fin_cases a
      · exact ⟨show 16 * ((y 0).val / 16) ≤ (y 0).val by omega, show (y 0).val < 16 * ((y 0).val / 16) + 16 by omega⟩
      · exact ⟨h, show (y 1).val < 2048 + 1024 by omega⟩)]
    refine congrArg (dzS x1 x2 x3 g b _) (funext fun a => Fin.ext ?_)
    fin_cases a
    · show (y 0).val - 16 * ((y 0).val / 16) = (y 0).val % 16
      omega
    · rfl
  · unfold dzStep VecWindow.put
    rw [Gen.k0_off2_eq]
    rw [dif_neg (by
      intro hh
      have c0 : 16 * j.val ≤ (y 0).val ∧ (y 0).val < 16 * j.val + 16 := hh 0
      exact hj (Fin.ext (by show j.val = (y 0).val / 16; omega)))]

end Blocks

/-! ## Second loop -/

def ltC (c : ℕ) : Fin 8 := ⟨c % 1024 / 128, by omega⟩
def hR (r : ℕ) : Fin 4 := ⟨r % 64 / 16, by omega⟩
def cC (c : ℕ) : Fin 2 := ⟨c / 1024 % 2, by omega⟩
/-- The place of the tap of row `r`. -/
def jR (r : ℕ) (h : r < 248) : Fin 31 := ⟨4 * ((30 - r / 8) % 8) + (30 - r / 8) / 8, by omega⟩

/-- The gradients of the values and of the gates of a block. -/
def vgBlk (x1 : Vec F S256x3072 .bf16) (w : Vec F S248x1024 .f32) (dy : Vec F S288x1024 .f32) (y : S256x3072.Idx) : Elt F .bf16 :=
  outS x1 w dy (tOf (y 0).val (y 0).isLt) (ltC (y 1).val) (hR (y 0).val) (cC (y 1).val) (in16t (y 0).val (y 1).val)

def vgStep (x1 : Vec F S256x3072 .bf16) (w : Vec F S248x1024 .f32) (dy : Vec F S288x1024 .f32) (t : Fin k0_t2_loop.trips) (a : Vec F S256x3072 .bf16) : Vec F S256x3072 .bf16 :=
  Step.fold 64 (outStep t.val (outS x1 w dy t)) a 64

theorem out_off (t : Fin k0_t2_loop.trips) (g : Fin 8 → Fin 4 → Fin 2 → Vec F S16x128 .bf16) (a : Vec F S256x3072 .bf16) (y : S256x3072.Idx) (h : 2048 ≤ (y 1).val ∨ t.val ≠ (y 0).val / 64) :
    Step.fold 64 (outStep t.val g) a 64 y = a y := by
  refine Step.fold_keep _ _ _ _ (fun j q => ?_) _
  have hj := j.isLt
  unfold outStep VecWindow.put
  rw [dif_neg (by
    intro hh
    have c0 : 64 * t.val + 16 * (j.val % 8 / 2) ≤ (y 0).val ∧ (y 0).val < 64 * t.val + 16 * (j.val % 8 / 2) + 16 := hh 0
    have c1 : 1024 * (j.val % 2) + 128 * (j.val / 8) ≤ (y 1).val ∧ (y 1).val < 1024 * (j.val % 2) + 128 * (j.val / 8) + 128 := hh 1
    omega)]

theorem out_at (t : Fin k0_t2_loop.trips) (g : Fin 8 → Fin 4 → Fin 2 → Vec F S16x128 .bf16) (a : Vec F S256x3072 .bf16) (y : S256x3072.Idx) (h : (y 1).val < 2048) (ht : t.val = (y 0).val / 64) :
    Step.fold 64 (outStep t.val g) a 64 y = g (ltC (y 1).val) (hR (y 0).val) (cC (y 1).val) (in16t (y 0).val (y 1).val) := by
  have h0 : (y 0).val < 256 := (y 0).isLt
  have hk : 8 * ((y 1).val % 1024 / 128) + 2 * ((y 0).val % 64 / 16) + (y 1).val / 1024 < 64 := by omega
  refine Step.fold_at _ _ _ _ ⟨_, hk⟩ _ (fun q => ?_) (fun j hj q => ?_) _ hk
  · unfold outStep VecWindow.put outOff
    have e1 : (8 * ((y 1).val % 1024 / 128) + 2 * ((y 0).val % 64 / 16) + (y 1).val / 1024) / 8 = (y 1).val % 1024 / 128 := by omega
    have e2 : (8 * ((y 1).val % 1024 / 128) + 2 * ((y 0).val % 64 / 16) + (y 1).val / 1024) % 8 / 2 = (y 0).val % 64 / 16 := by omega
    have e3 : (8 * ((y 1).val % 1024 / 128) + 2 * ((y 0).val % 64 / 16) + (y 1).val / 1024) % 2 = (y 1).val / 1024 := by omega
    have i1 : oLt _ hk = ltC (y 1).val := Fin.ext e1
    have i2 : oH _ hk = hR (y 0).val := Fin.ext e2
    have i3 : oC (8 * ((y 1).val % 1024 / 128) + 2 * ((y 0).val % 64 / 16) + (y 1).val / 1024) = cC (y 1).val := Fin.ext (e3.trans (by show _ = (y 1).val / 1024 % 2; omega))
    simp only [e1, e2, e3, i1, i2, i3]
    rw [dif_pos (by
      intro a; fin_cases a
      · show 64 * t.val + 16 * ((y 0).val % 64 / 16) ≤ (y 0).val ∧ (y 0).val < 64 * t.val + 16 * ((y 0).val % 64 / 16) + 16
        omega
      · show 1024 * ((y 1).val / 1024) + 128 * ((y 1).val % 1024 / 128) ≤ (y 1).val ∧ (y 1).val < 1024 * ((y 1).val / 1024) + 128 * ((y 1).val % 1024 / 128) + 128
        omega)]
    refine congrArg (g _ _ _) (funext fun a => Fin.ext ?_)
    fin_cases a
    · show (y 0).val - (64 * t.val + 16 * ((8 * ((y 1).val % 1024 / 128) + 2 * ((y 0).val % 64 / 16) + (y 1).val / 1024) % 8 / 2)) = (y 0).val % 16
      omega
    · show (y 1).val - (1024 * ((8 * ((y 1).val % 1024 / 128) + 2 * ((y 0).val % 64 / 16) + (y 1).val / 1024) % 2) + 128 * ((8 * ((y 1).val % 1024 / 128) + 2 * ((y 0).val % 64 / 16) + (y 1).val / 1024) / 8)) = (y 1).val % 128
      omega
  · have hj' := j.isLt
    unfold outStep VecWindow.put
    rw [dif_neg (by
      intro hh
      have c0 : 64 * t.val + 16 * (j.val % 8 / 2) ≤ (y 0).val ∧ (y 0).val < 64 * t.val + 16 * (j.val % 8 / 2) + 16 := hh 0
      have c1 : 1024 * (j.val % 2) + 128 * (j.val / 8) ≤ (y 1).val ∧ (y 1).val < 1024 * (j.val % 2) + 128 * (j.val / 8) + 128 := hh 1
      have d1 : (y 0).val % 64 / 16 = j.val % 8 / 2 := by omega
      have d2 : (y 1).val / 1024 = j.val % 2 := by omega
      have d3 : (y 1).val % 1024 / 128 = j.val / 8 := by omega
      exact hj (Fin.ext (by show j.val = 8 * ((y 1).val % 1024 / 128) + 2 * ((y 0).val % 64 / 16) + (y 1).val / 1024; omega)))]

/-- A block of results: of the values and of the gates; of the last gate. -/
def dpBlk (x1 : Vec F S256x3072 .bf16) (x2 x3 : Vec F S256x1024 .f32) (g b : Vec F S1x1024 .f32) (w : Vec F S248x1024 .f32) (dy : Vec F S288x1024 .f32) : Vec F S256x3072 .bf16 := fun y =>
  if h : (y 1).val < 2048 then vgBlk x1 w dy y
  else dzS x1 x2 x3 g b (kOf (y 0).val (y 0).isLt) (in16 (y 0).val ((y 1).val - 2048) (by have : (y 1).val < 3072 := (y 1).isLt; omega))

theorem dp_all (x1 : Vec F S256x3072 .bf16) (x2 x3 : Vec F S256x1024 .f32) (g b : Vec F S1x1024 .f32) (w : Vec F S248x1024 .f32) (dy : Vec F S288x1024 .f32) (a : Vec F S256x3072 .bf16) :
    Step.fold _ (vgStep x1 w dy) (Step.fold _ (dzStep x1 x2 x3 g b) a k0_t1_loop.trips) k0_t2_loop.trips = dpBlk x1 x2 x3 g b w dy := by
  funext y
  unfold dpBlk
  by_cases h : (y 1).val < 2048
  · rw [dif_pos h]
    refine Step.fold_at _ _ _ _ (tOf (y 0).val (y 0).isLt) _ (fun q => ?_) (fun j hj q => ?_) _ (Fin.isLt _)
    · exact out_at _ _ _ _ h rfl
    · exact out_off _ _ _ _ (Or.inr fun e => hj (Fin.ext e))
  · rw [dif_neg h]
    refine (Step.fold_keep _ _ _ _ (fun j q => ?_) _).trans ?_
    · exact out_off _ _ _ _ (Or.inl (by omega))
    · exact dz_in x1 x2 x3 g b a y (by omega)

/-- The taps' sums after a strip; -/
def tapNext (x1 : Vec F S256x3072 .bf16) (dy : Vec F S288x1024 .f32) (t : Fin k0_t2_loop.trips) (T : Vec F S248x1024 .f32) : Vec F S248x1024 .f32 :=
  Step.fold 248 (tapStep (newS x1 dy T t)) T 248
/-- after a block. -/
def tapBlk (x1 : Vec F S256x3072 .bf16) (dy : Vec F S288x1024 .f32) (T : Vec F S248x1024 .f32) : Vec F S248x1024 .f32 := Step.fold _ (tapNext x1 dy) T k0_t2_loop.trips

theorem taps_at (g : Fin 8 → Fin 31 → Vec F S8x128 .f32) (T : Vec F S248x1024 .f32) (y : S248x1024.Idx) :
    Step.fold 248 (tapStep g) T 248 y = g (ltC (y 1).val) (jR (y 0).val (y 0).isLt) (in8t (y 0).val (y 1).val) := by
  have h0 : (y 0).val < 248 := (y 0).isLt
  have h1 : (y 1).val < 1024 := (y 1).isLt
  have hk : 31 * ((y 1).val / 128) + (4 * ((30 - (y 0).val / 8) % 8) + (30 - (y 0).val / 8) / 8) < 248 := by omega
  have ho : ∀ q, q < 31 → ofs (4 * ((30 - q) % 8) + (30 - q) / 8) = 30 - q := by intro q hq; unfold ofs; omega
  refine Step.fold_at _ _ _ _ ⟨_, hk⟩ _ (fun q => ?_) (fun j hj q => ?_) _ hk
  · unfold tapStep VecWindow.put tapOff
    have e1 : (31 * ((y 1).val / 128) + (4 * ((30 - (y 0).val / 8) % 8) + (30 - (y 0).val / 8) / 8)) / 31 = (y 1).val / 128 := by omega
    have e2 : (31 * ((y 1).val / 128) + (4 * ((30 - (y 0).val / 8) % 8) + (30 - (y 0).val / 8) / 8)) % 31 = 4 * ((30 - (y 0).val / 8) % 8) + (30 - (y 0).val / 8) / 8 := by omega
    have i1 : ltOf _ hk = ltC (y 1).val := Fin.ext (e1.trans (by show _ = (y 1).val % 1024 / 128; omega))
    have i2 : jOf (31 * ((y 1).val / 128) + (4 * ((30 - (y 0).val / 8) % 8) + (30 - (y 0).val / 8) / 8)) = jR (y 0).val h0 := Fin.ext e2
    simp only [e1, e2, i1, i2, ho _ (show (y 0).val / 8 < 31 by omega)]
    rw [dif_pos (by
      intro a; fin_cases a
      · show 8 * (30 - (30 - (y 0).val / 8)) ≤ (y 0).val ∧ (y 0).val < 8 * (30 - (30 - (y 0).val / 8)) + 8
        omega
      · show 128 * ((y 1).val / 128) ≤ (y 1).val ∧ (y 1).val < 128 * ((y 1).val / 128) + 128
        omega)]
    refine congrArg (g _ _) (funext fun a => Fin.ext ?_)
    fin_cases a
    · show (y 0).val - 8 * (30 - ofs ((31 * ((y 1).val / 128) + (4 * ((30 - (y 0).val / 8) % 8) + (30 - (y 0).val / 8) / 8)) % 31)) = (y 0).val % 8
      rw [e2, ho _ (show (y 0).val / 8 < 31 by omega)]
      omega
    · show (y 1).val - 128 * ((31 * ((y 1).val / 128) + (4 * ((30 - (y 0).val / 8) % 8) + (30 - (y 0).val / 8) / 8)) / 31) = (y 1).val % 128
      rw [e1]
      omega
  · have hj' := j.isLt
    unfold tapStep VecWindow.put
    rw [dif_neg (by
      intro hh
      have c0 : 8 * (30 - ofs (j.val % 31)) ≤ (y 0).val ∧ (y 0).val < 8 * (30 - ofs (j.val % 31)) + 8 := hh 0
      have c1 : 128 * (j.val / 31) ≤ (y 1).val ∧ (y 1).val < 128 * (j.val / 31) + 128 := hh 1
      have hm : j.val % 31 < 31 := Nat.mod_lt _ (by decide)
      have hf : ofs (j.val % 31) = j.val % 31 / 4 + 8 * (j.val % 31 % 4) := rfl
      have hle := ofs_le _ hm
      exact hj (Fin.ext (by show j.val = 31 * ((y 1).val / 128) + (4 * ((30 - (y 0).val / 8) % 8) + (30 - (y 0).val / 8) / 8); omega)))]

end Cert.AbKernelIdeal

end
-- ==== Proof.Ab.Lists.lean ====
module

public import proofs.«01_k».proof.Proof.Ab.Strip

@[expose] public section

set_option maxRecDepth 16384

noncomputable section

namespace Cert.AbKernelIdeal

open Idealize.ShloMosaic Idealize.ShloMosaic.TcCoe Idealize.ShloMosaic.Tactic
open Idealize.SL Idealize.SL.RA Idealize.SL.BI Idealize.SL.Sem

variable {F : FTy → Type} [FloatOps F]

/-! # The stores of one strip, as lists -/

/-! ## The stores of a strip as lists, latest first -/

/-- The first `n` stores of taps' sums. -/
def tapPs {e : EltTy} (g : Fin 8 → Fin 31 → Vec F S8x128 e) : (n : ℕ) → n ≤ 248 → List (View.Piece (Elt F) S248x1024 e)
  | 0, _ => []
  | n + 1, h => ⟨Rect.unit (s := S248x1024) (tapOff n) S8x128.size (tapOff_inb n h), g (ltOf n h) (jOf n)⟩ :: tapPs g n (Nat.le_of_succ_le h)

/-- Where a store of a gradient starts. -/
def gradOff (t : Fin k0_t2_loop.trips) (lt : Fin 8) (h : Fin 4) (c : Fin 2) : Fin 2 → ℕ := (![valOff t lt h, gluOff t lt h] : Fin 2 → Fin 2 → ℕ) c

theorem gradOff_inb (t : Fin k0_t2_loop.trips) (lt : Fin 8) (h : Fin 4) (c : Fin 2) : ∀ a, gradOff t lt h c a + S16x128.size a ≤ S256x3072.size a := by
  fin_cases c
  exacts [valOff_inb t lt h, gluOff_inb t lt h]

/-- The first `n` stores of the gradients. -/
def outPs {e : EltTy} (t : Fin k0_t2_loop.trips) (g : Fin 8 → Fin 4 → Fin 2 → Vec F S16x128 e) : (n : ℕ) → n ≤ 64 → List (View.Piece (Elt F) S256x3072 e)
  | 0, _ => []
  | n + 1, h => ⟨Rect.unit (s := S256x3072) (gradOff t (oLt n h) (oH n h) (oC n)) S16x128.size (gradOff_inb t (oLt n h) (oH n h) (oC n)), g (oLt n h) (oH n h) (oC n)⟩ :: outPs t g n (Nat.le_of_succ_le h)

variable {sig' : RefSig} {κ : Kind} {sp : Space} {e : EltTy}

theorem read_tapPs (v : View sig' κ sp S248x1024 e) (f : BufTy.Contents (Elt F) v.ty) (g : Fin 8 → Fin 31 → Vec F S8x128 e) (n : ℕ) (h : n ≤ 248) :
    v.read (Elt F) (v.writes (Elt F) f (tapPs g n h)) = Step.fold 248 (tapStep g) (v.read (Elt F) f) n := by
  induction n with
  | zero => rfl
  | succ n ih => exact tap_step n h _ _ _ rfl rfl (ih _)

theorem gradOff_eq (t : Fin k0_t2_loop.trips) (n : ℕ) (h : n < 64) : gradOff t (oLt n h) (oH n h) (oC n) = outOff t.val n := by
  have hv := valOff_eq t (oLt n h) (oH n h)
  have hg := gluOff_eq t (oLt n h) (oH n h)
  obtain hc | hc : n % 2 = 0 ∨ n % 2 = 1 := by omega
  · have e : oC n = 0 := Fin.ext hc
    rw [e]
    refine hv.trans ?_
    unfold outOff
    rw [hc]
    funext a
    fin_cases a
    · rfl
    · show 128 * (n / 8) = 1024 * 0 + 128 * (n / 8)
      omega
  · have e : oC n = 1 := Fin.ext hc
    rw [e]
    refine hg.trans ?_
    unfold outOff
    rw [hc]
    rfl

theorem read_outPs (v : View sig' κ sp S256x3072 e) (f : BufTy.Contents (Elt F) v.ty) (t : Fin k0_t2_loop.trips) (g : Fin 8 → Fin 4 → Fin 2 → Vec F S16x128 e) (n : ℕ) (h : n ≤ 64) :
    v.read (Elt F) (v.writes (Elt F) f (outPs t g n h)) = Step.fold 64 (outStep t.val g) (v.read (Elt F) f) n := by
  induction n with
  | zero => rfl
  | succ n ih => exact out_step n h _ _ _ (gradOff_eq t n h) rfl (ih _)

end Cert.AbKernelIdeal

end
-- ==== Proof.Ab.TripTaps.lean ====
module

public import proofs.«01_k».proof.Proof.Ab.Lists

@[expose] public section

set_option maxRecDepth 16384

noncomputable section

namespace Cert.AbKernelIdeal

open Idealize.ShloMosaic Idealize.ShloMosaic.TcCoe Idealize.ShloMosaic.Tactic
open Idealize.SL Idealize.SL.RA Idealize.SL.BI Idealize.SL.Sem

variable {F : FTy → Type} [FloatOps F]

/-! # The taps' sums stored by one strip -/

variable (𝒱 : Variants) (c : Dev nD) (bd : Option 𝒱.V) (i : grid0.Coords)
  (arg1 : Memref sig .tc .vmem S256x3072 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .hbm S4096x8192 .bf16) (harg4 : arg4.IsWhole)
  (arg5 : Memref sig .tc .vmem S248x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S256x3072 .bf16) (harg8 : arg8.IsWhole)
  (arg9 : Memref sig .tc .vmem S40x1024 .f32) (harg9 : arg9.IsWhole) (arg10 : Memref sig .tc .vmem S288x1024 .f32) (harg10 : arg10.IsWhole)
  (arg11 : Memref sig .tc .vmem S48x1024 .f32) (harg11 : arg11.IsWhole) (arg12 : Memref sig .tc .vmem S248x1024 .f32) (harg12 : arg12.IsWhole)
  (X1 : BufTy.Contents (Elt F) arg1.view.ty) (X5 : BufTy.Contents (Elt F) arg5.view.ty) (X10 : BufTy.Contents (Elt F) arg10.view.ty)

set_option maxHeartbeats 16000000 in
theorem trip_taps (t : Fin k0_t2_loop.trips) (f8 : BufTy.Contents (Elt F) arg8.view.ty) (f12 : BufTy.Contents (Elt F) arg12.view.ty) :
    (Gen.tripL_k0_t2 (F := F) 𝒱 c bd i arg1 harg1 arg2 harg2 arg3 harg3 arg4 harg4 arg5 harg5 arg6 harg6 arg7 harg7 arg8 harg8 arg9 harg9 arg10 harg10 arg11 harg11 arg12 harg12 X1 X5 X10 t f8 f12).2
      = tapPs (newS (arg1.view.read (Elt F) X1) (arg10.view.read (Elt F) X10) (arg12.view.read (Elt F) f12) t) 248 (le_refl _) := by
  unfold Gen.tripL_k0_t2 Gen.trip_k0_t2
  dsimp only
  rfl

end Cert.AbKernelIdeal

end
-- ==== Proof.Ab.TripOuts.lean ====
module

public import proofs.«01_k».proof.Proof.Ab.Lists

@[expose] public section

set_option maxRecDepth 16384

noncomputable section

namespace Cert.AbKernelIdeal

open Idealize.ShloMosaic Idealize.ShloMosaic.TcCoe Idealize.ShloMosaic.Tactic
open Idealize.SL Idealize.SL.RA Idealize.SL.BI Idealize.SL.Sem

variable {F : FTy → Type} [FloatOps F]

/-! # The gradients stored by one strip -/

variable (𝒱 : Variants) (c : Dev nD) (bd : Option 𝒱.V) (i : grid0.Coords)
  (arg1 : Memref sig .tc .vmem S256x3072 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .hbm S4096x8192 .bf16) (harg4 : arg4.IsWhole)
  (arg5 : Memref sig .tc .vmem S248x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S256x3072 .bf16) (harg8 : arg8.IsWhole)
  (arg9 : Memref sig .tc .vmem S40x1024 .f32) (harg9 : arg9.IsWhole) (arg10 : Memref sig .tc .vmem S288x1024 .f32) (harg10 : arg10.IsWhole)
  (arg11 : Memref sig .tc .vmem S48x1024 .f32) (harg11 : arg11.IsWhole) (arg12 : Memref sig .tc .vmem S248x1024 .f32) (harg12 : arg12.IsWhole)
  (X1 : BufTy.Contents (Elt F) arg1.view.ty) (X5 : BufTy.Contents (Elt F) arg5.view.ty) (X10 : BufTy.Contents (Elt F) arg10.view.ty)

set_option maxHeartbeats 16000000 in
theorem trip_outs (t : Fin k0_t2_loop.trips) (f8 : BufTy.Contents (Elt F) arg8.view.ty) (f12 : BufTy.Contents (Elt F) arg12.view.ty) :
    (Gen.tripL_k0_t2 (F := F) 𝒱 c bd i arg1 harg1 arg2 harg2 arg3 harg3 arg4 harg4 arg5 harg5 arg6 harg6 arg7 harg7 arg8 harg8 arg9 harg9 arg10 harg10 arg11 harg11 arg12 harg12 X1 X5 X10 t f8 f12).1
      = outPs t (outS (arg1.view.read (Elt F) X1) (arg5.view.read (Elt F) X5) (arg10.view.read (Elt F) X10) t) 64 (le_refl _) := by
  unfold Gen.tripL_k0_t2 Gen.trip_k0_t2
  dsimp only
  rfl

end Cert.AbKernelIdeal

end
-- ==== Proof.Ab.Loops.lean ====
module

public import proofs.«01_k».proof.Proof.Ab.Blocks
public import proofs.«01_k».proof.Proof.Ab.TripTaps
public import proofs.«01_k».proof.Proof.Ab.TripOuts
public import Idealize.ShloMosaic.Lib.Pipeline.Value

@[expose] public section

set_option maxRecDepth 16384

noncomputable section

namespace Cert.AbKernelIdeal

open Idealize.ShloMosaic Idealize.ShloMosaic.TcCoe Idealize.ShloMosaic.Tactic
open Idealize.SL Idealize.SL.RA Idealize.SL.BI Idealize.SL.Sem

variable {F : FTy → Type} [FloatOps F]

/-! # The loops' stores, read back as values -/

section One

variable (𝒱 : Variants) (c : Dev nD) (bd : Option 𝒱.V) (i : grid0.Coords)
  (arg1 : Memref sig .tc .vmem S256x3072 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .hbm S4096x8192 .bf16) (harg4 : arg4.IsWhole)
  (arg5 : Memref sig .tc .vmem S248x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S256x3072 .bf16) (harg8 : arg8.IsWhole)
  (arg9 : Memref sig .tc .vmem S40x1024 .f32) (harg9 : arg9.IsWhole) (arg10 : Memref sig .tc .vmem S288x1024 .f32) (harg10 : arg10.IsWhole)
  (arg11 : Memref sig .tc .vmem S48x1024 .f32) (harg11 : arg11.IsWhole) (arg12 : Memref sig .tc .vmem S248x1024 .f32) (harg12 : arg12.IsWhole)
  (X1 : BufTy.Contents (Elt F) arg1.view.ty) (x1 : Vec F S256x3072 .bf16) (h1 : arg1.view.read (Elt F) X1 = x1)
  (X2 : BufTy.Contents (Elt F) arg2.view.ty) (x2 : Vec F S256x1024 .f32) (h2 : arg2.view.read (Elt F) X2 = x2)
  (X3 : BufTy.Contents (Elt F) arg3.view.ty) (x3 : Vec F S256x1024 .f32) (h3 : arg3.view.read (Elt F) X3 = x3)
  (X6 : BufTy.Contents (Elt F) arg6.view.ty) (x6 : Vec F S1x1024 .f32) (h6 : arg6.view.read (Elt F) X6 = x6)
  (X7 : BufTy.Contents (Elt F) arg7.view.ty) (x7 : Vec F S1x1024 .f32) (h7 : arg7.view.read (Elt F) X7 = x7)

set_option maxHeartbeats 8000000 in
include h1 h2 h3 h6 h7 in
/-- One trip of the first loop; -/
theorem trip_t1 (k : Fin k0_t1_loop.trips) (f8 : BufTy.Contents (Elt F) arg8.view.ty) (f10 : BufTy.Contents (Elt F) arg10.view.ty) (f11 : BufTy.Contents (Elt F) arg11.view.ty) :
    arg8.view.read (Elt F) (arg8.view.writes (Elt F) f8 (Gen.tripL_k0_t1 (F := F) 𝒱 c bd i arg1 harg1 arg2 harg2 arg3 harg3 arg4 harg4 arg5 harg5 arg6 harg6 arg7 harg7 arg8 harg8 arg9 harg9 arg10 harg10 arg11 harg11 arg12 harg12 X1 X2 X3 X6 X7 k f8 f10 f11).1) = dzStep x1 x2 x3 x6 x7 k (arg8.view.read (Elt F) f8)
    ∧ arg10.view.read (Elt F) (arg10.view.writes (Elt F) f10 (Gen.tripL_k0_t1 (F := F) 𝒱 c bd i arg1 harg1 arg2 harg2 arg3 harg3 arg4 harg4 arg5 harg5 arg6 harg6 arg7 harg7 arg8 harg8 arg9 harg9 arg10 harg10 arg11 harg11 arg12 harg12 X1 X2 X3 X6 X7 k f8 f10 f11).2.1) = dyStep x1 x2 x3 x6 x7 k (arg10.view.read (Elt F) f10)
    ∧ arg11.view.read (Elt F) (arg11.view.writes (Elt F) f11 (Gen.tripL_k0_t1 (F := F) 𝒱 c bd i arg1 harg1 arg2 harg2 arg3 harg3 arg4 harg4 arg5 harg5 arg6 harg6 arg7 harg7 arg8 harg8 arg9 harg9 arg10 harg10 arg11 harg11 arg12 harg12 X1 X2 X3 X6 X7 k f8 f10 f11).2.2) = acStep x1 x2 x3 x6 x7 k (arg11.view.read (Elt F) f11) := by
  have e1 : arg1.view.readAt (Elt F) (Rect.unit (s := S256x3072) (k0_off2 k) S16x1024.size (Gen.k0_off2_inb k)).toLoadRect X1 = sZ x1 k := by rw [← h1]; rfl
  have e2 : arg2.view.readAt (Elt F) (Rect.unit (s := S256x1024) (k0_off1 k) S16x1024.size (Gen.k0_off1_inb k)).toLoadRect X2 = s1 x2 k := by rw [← h2]; rfl
  have e3 : arg3.view.readAt (Elt F) (Rect.unit (s := S256x1024) (k0_off1 k) S16x1024.size (Gen.k0_off1_inb k)).toLoadRect X3 = s1 x3 k := by rw [← h3]; rfl
  have e6 : ∀ inb, arg6.view.readAt (Elt F) (Rect.unit (s := S1x1024) ![0, 0] S1x1024.size inb).toLoadRect X6 = x6 := fun inb => (View.readAt_full _ _ inb).trans h6
  have e7 : ∀ inb, arg7.view.readAt (Elt F) (Rect.unit (s := S1x1024) ![0, 0] S1x1024.size inb).toLoadRect X7 = x7 := fun inb => (View.readAt_full _ _ inb).trans h7
  unfold Gen.tripL_k0_t1 Gen.trip_k0_t1
  dsimp only
  sl_unfold_words
  refine ⟨?_, ?_, ?_⟩
  · refine (View.read_writes_cons_put _ _ (Gen.k0_off2_inb k) _ _ rfl).trans ?_
    unfold dzStep dzS
    rw [← e1, ← e2, ← e3, ← e6 Gen.inb_S1x1024_S1x1024_0_0, ← e7 Gen.inb_S1x1024_S1x1024_0_0]
    rfl
  · refine (View.read_writes_cons_put _ _ (Gen.k0_off3_inb k) _ _ rfl).trans ?_
    unfold dyStep dyS dnS
    rw [← e1, ← e2, ← e3, ← e6 Gen.inb_S1x1024_S1x1024_0_0, ← e7 Gen.inb_S1x1024_S1x1024_0_0]
    rfl
  · refine (View.read_writes_cons_put _ _ _ _ _ rfl).trans ?_
    rw [View.read_writes_cons_put _ _ Gen.inb_S48x1024_S16x1024_16_0 _ _ rfl, View.read_writes_cons_put _ _ Gen.inb_S48x1024_S16x1024_0_0 _ _ rfl]
    unfold acStep sumG sumB sumC dnS
    rw [← e1, ← e2, ← e3, ← e6 Gen.inb_S1x1024_S1x1024_0_0, ← e7 Gen.inb_S1x1024_S1x1024_0_0]
    rfl

include h1 h2 h3 h6 h7 in
/-- the whole loop. -/
theorem loop_t1 (f8 : BufTy.Contents (Elt F) arg8.view.ty) (f10 : BufTy.Contents (Elt F) arg10.view.ty) (f11 : BufTy.Contents (Elt F) arg11.view.ty) (n : ℕ) (hn : n ≤ k0_t1_loop.trips) :
    arg8.view.read (Elt F) (arg8.view.writes (Elt F) f8 (Gen.pb_k0_t1 (F := F) 𝒱 c bd i arg1 harg1 arg2 harg2 arg3 harg3 arg4 harg4 arg5 harg5 arg6 harg6 arg7 harg7 arg8 harg8 arg9 harg9 arg10 harg10 arg11 harg11 arg12 harg12 X1 X2 X3 X6 X7 f8 f10 f11 n).1) = Step.fold _ (dzStep x1 x2 x3 x6 x7) (arg8.view.read (Elt F) f8) n
    ∧ arg10.view.read (Elt F) (arg10.view.writes (Elt F) f10 (Gen.pb_k0_t1 (F := F) 𝒱 c bd i arg1 harg1 arg2 harg2 arg3 harg3 arg4 harg4 arg5 harg5 arg6 harg6 arg7 harg7 arg8 harg8 arg9 harg9 arg10 harg10 arg11 harg11 arg12 harg12 X1 X2 X3 X6 X7 f8 f10 f11 n).2.1) = Step.fold _ (dyStep x1 x2 x3 x6 x7) (arg10.view.read (Elt F) f10) n
    ∧ arg11.view.read (Elt F) (arg11.view.writes (Elt F) f11 (Gen.pb_k0_t1 (F := F) 𝒱 c bd i arg1 harg1 arg2 harg2 arg3 harg3 arg4 harg4 arg5 harg5 arg6 harg6 arg7 harg7 arg8 harg8 arg9 harg9 arg10 harg10 arg11 harg11 arg12 harg12 X1 X2 X3 X6 X7 f8 f10 f11 n).2.2) = Step.fold _ (acStep x1 x2 x3 x6 x7) (arg11.view.read (Elt F) f11) n := by
  induction n with
  | zero => exact ⟨rfl, rfl, rfl⟩
  | succ n ih =>
    obtain ⟨i8, i10, i11⟩ := ih (Nat.le_of_succ_le hn)
    have t := trip_t1 (F := F) 𝒱 c bd i arg1 harg1 arg2 harg2 arg3 harg3 arg4 harg4 arg5 harg5 arg6 harg6 arg7 harg7 arg8 harg8 arg9 harg9 arg10 harg10 arg11 harg11 arg12 harg12 X1 x1 h1 X2 x2 h2 X3 x3 h3 X6 x6 h6 X7 x7 h7 ⟨n, hn⟩
    rw [Gen.pb_k0_t1_succ 𝒱 c bd i arg1 harg1 arg2 harg2 arg3 harg3 arg4 harg4 arg5 harg5 arg6 harg6 arg7 harg7 arg8 harg8 arg9 harg9 arg10 harg10 arg11 harg11 arg12 harg12 X1 X2 X3 X6 X7 f8 f10 f11 ⟨n, hn⟩]
    refine ⟨?_, ?_, ?_⟩
    · rw [View.writes_append, (t _ _ _).1, i8, Step.fold_succ _ _ _ _ (show n < k0_t1_loop.trips from hn)]
    · rw [View.writes_append, (t _ _ _).2.1, i10, Step.fold_succ _ _ _ _ (show n < k0_t1_loop.trips from hn)]
    · rw [View.writes_append, (t _ _ _).2.2, i11, Step.fold_succ _ _ _ _ (show n < k0_t1_loop.trips from hn)]

end One

section Two

variable (𝒱 : Variants) (c : Dev nD) (bd : Option 𝒱.V) (i : grid0.Coords)
  (arg1 : Memref sig .tc .vmem S256x3072 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .hbm S4096x8192 .bf16) (harg4 : arg4.IsWhole)
  (arg5 : Memref sig .tc .vmem S248x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S256x3072 .bf16) (harg8 : arg8.IsWhole)
  (arg9 : Memref sig .tc .vmem S40x1024 .f32) (harg9 : arg9.IsWhole) (arg10 : Memref sig .tc .vmem S288x1024 .f32) (harg10 : arg10.IsWhole)
  (arg11 : Memref sig .tc .vmem S48x1024 .f32) (harg11 : arg11.IsWhole) (arg12 : Memref sig .tc .vmem S248x1024 .f32) (harg12 : arg12.IsWhole)
  (X1 : BufTy.Contents (Elt F) arg1.view.ty) (x1 : Vec F S256x3072 .bf16) (h1 : arg1.view.read (Elt F) X1 = x1)
  (X5 : BufTy.Contents (Elt F) arg5.view.ty) (x5 : Vec F S248x1024 .f32) (h5 : arg5.view.read (Elt F) X5 = x5)
  (X10 : BufTy.Contents (Elt F) arg10.view.ty) (x10 : Vec F S288x1024 .f32) (h10 : arg10.view.read (Elt F) X10 = x10)

include h1 h5 h10 in
/-- The second loop. -/
theorem loop_t2 (f8 : BufTy.Contents (Elt F) arg8.view.ty) (f12 : BufTy.Contents (Elt F) arg12.view.ty) (n : ℕ) (hn : n ≤ k0_t2_loop.trips) :
    arg8.view.read (Elt F) (arg8.view.writes (Elt F) f8 (Gen.pb_k0_t2 (F := F) 𝒱 c bd i arg1 harg1 arg2 harg2 arg3 harg3 arg4 harg4 arg5 harg5 arg6 harg6 arg7 harg7 arg8 harg8 arg9 harg9 arg10 harg10 arg11 harg11 arg12 harg12 X1 X5 X10 f8 f12 n).1) = Step.fold _ (vgStep x1 x5 x10) (arg8.view.read (Elt F) f8) n
    ∧ arg12.view.read (Elt F) (arg12.view.writes (Elt F) f12 (Gen.pb_k0_t2 (F := F) 𝒱 c bd i arg1 harg1 arg2 harg2 arg3 harg3 arg4 harg4 arg5 harg5 arg6 harg6 arg7 harg7 arg8 harg8 arg9 harg9 arg10 harg10 arg11 harg11 arg12 harg12 X1 X5 X10 f8 f12 n).2) = Step.fold _ (tapNext x1 x10) (arg12.view.read (Elt F) f12) n := by
  induction n with
  | zero => exact ⟨rfl, rfl⟩
  | succ n ih =>
    obtain ⟨i8, i12⟩ := ih (Nat.le_of_succ_le hn)
    rw [Gen.pb_k0_t2_succ 𝒱 c bd i arg1 harg1 arg2 harg2 arg3 harg3 arg4 harg4 arg5 harg5 arg6 harg6 arg7 harg7 arg8 harg8 arg9 harg9 arg10 harg10 arg11 harg11 arg12 harg12 X1 X5 X10 f8 f12 ⟨n, hn⟩]
    refine ⟨?_, ?_⟩
    · rw [View.writes_append, trip_outs (F := F) 𝒱 c bd i arg1 harg1 arg2 harg2 arg3 harg3 arg4 harg4 arg5 harg5 arg6 harg6 arg7 harg7 arg8 harg8 arg9 harg9 arg10 harg10 arg11 harg11 arg12 harg12 X1 X5 X10 ⟨n, hn⟩, read_outPs, i8, h1, h5, h10, Step.fold_succ _ _ _ _ (show n < k0_t2_loop.trips from hn)]
      rfl
    · rw [View.writes_append, trip_taps (F := F) 𝒱 c bd i arg1 harg1 arg2 harg2 arg3 harg3 arg4 harg4 arg5 harg5 arg6 harg6 arg7 harg7 arg8 harg8 arg9 harg9 arg10 harg10 arg11 harg11 arg12 harg12 X1 X5 X10 ⟨n, hn⟩, read_tapPs, i12, h1, h10, Step.fold_succ _ _ _ _ (show n < k0_t2_loop.trips from hn)]
      rfl

end Two

end Cert.AbKernelIdeal

end
-- ==== Proof.Ab.Tail.lean ====
module

public import proofs.«01_k».proof.Proof.Ab.Blocks
public import Idealize.ShloMosaic.Lib.Pipeline.Value

@[expose] public section

set_option maxRecDepth 16384

noncomputable section

namespace Cert.AbKernelIdeal

open Idealize.ShloMosaic Idealize.ShloMosaic.TcCoe Idealize.ShloMosaic.Tactic
open Idealize.SL Idealize.SL.RA Idealize.SL.BI Idealize.SL.Sem

variable {F : FTy → Type} [FloatOps F]

/-! # What is handed from one block to the one before it, and the rows of sums -/

theorem hal_inb : ∀ a, (![256, 0] : Fin 2 → ℕ) a + S32x1024.size a ≤ S288x1024.size a := by
  intro a
  fin_cases a
  · show 256 + 32 ≤ 288
    omega
  · show 0 + 1024 ≤ 1024
    omega

theorem top_inb : ∀ a, (![0, 0] : Fin 2 → ℕ) a + S32x1024.size a ≤ S288x1024.size a := by
  intro a
  fin_cases a
  · show 0 + 32 ≤ 288
    omega
  · show 0 + 1024 ≤ 1024
    omega

/-- The rows of the block after. -/
def halOf (x : Vec F S288x1024 .f32) : Vec F S32x1024 .f32 := VecWindow.window (s := S288x1024) x ![256, 0] S32x1024.size hal_inb
/-- The first rows, set where the block before finds them. -/
def carry (x : Vec F S288x1024 .f32) : Vec F S288x1024 .f32 :=
  VecWindow.put (s := S288x1024) x ![256, 0] S32x1024.size (Gen.k0_pay9 (VecWindow.window (s := S288x1024) x ![0, 0] S32x1024.size top_inb))

theorem halOf_put (x : Vec F S288x1024 .f32) (w : Vec F S32x1024 .f32) : halOf (VecWindow.put (s := S288x1024) x ![256, 0] S32x1024.size w) = w := by
  funext y
  have h0 : (y 0).val < 32 := (y 0).isLt
  have h1 : (y 1).val < 1024 := (y 1).isLt
  unfold halOf VecWindow.window VecWindow.put
  rw [dif_pos (by
    intro a; fin_cases a
    · show 256 ≤ 256 + 1 * (y 0).val ∧ 256 + 1 * (y 0).val < 256 + 32
      omega
    · show 0 ≤ 0 + 1 * (y 1).val ∧ 0 + 1 * (y 1).val < 0 + 1024
      omega)]
  refine congrArg w (funext fun a => Fin.ext ?_)
  fin_cases a
  · show 256 + 1 * (y 0).val - 256 = (y 0).val
    omega
  · show 0 + 1 * (y 1).val - 0 = (y 1).val
    omega

/-- The sums after a block. -/
def acBlk (x1 : Vec F S256x3072 .bf16) (x2 x3 : Vec F S256x1024 .f32) (g b : Vec F S1x1024 .f32) (S : Vec F S48x1024 .f32) : Vec F S48x1024 .f32 :=
  Step.fold _ (acStep x1 x2 x3 g b) S k0_t1_loop.trips

/-! ## The rows of sums -/

def stOff : ℕ → Fin 2 → ℕ
  | 0 => ![0, 0]
  | 1 => ![1, 0]
  | 2 => ![2, 0]
  | n + 3 => ![n + 8, 0]

theorem stOff_inb : ∀ n < 34, ∀ a, stOff n a + S1x1024.size a ≤ S40x1024.size a := by
  intro n hn a
  match n, hn with
  | 0, _ => fin_cases a <;> (unfold stOff; decide)
  | 1, _ => fin_cases a <;> (unfold stOff; decide)
  | 2, _ => fin_cases a <;> (unfold stOff; decide)
  | n + 3, hn =>
    fin_cases a
    · show n + 8 + 1 ≤ 40
      omega
    · show 0 + 1024 ≤ 1024
      omega

theorem tapRow_inb (n : ℕ) (hn : n < 31) : ∀ a, (![8 * n, 0] : Fin 2 → ℕ) a + S8x1024.size a ≤ S248x1024.size a := by
  intro a
  fin_cases a
  · show 8 * n + 8 ≤ 248
    omega
  · show 0 + 1024 ≤ 1024
    omega

/-- The rows of sums, in the order they are stored. -/
def stRow (acc : Vec F S48x1024 .f32) (tap : Vec F S248x1024 .f32) : (n : ℕ) → n < 34 → Vec F S1x1024 .f32
  | 0, _ => Gen.k0_pay4842 (accW acc 0)
  | 1, _ => Gen.k0_pay4842 (accW acc 1)
  | 2, _ => Gen.k0_pay4842 (accW acc 2)
  | n + 3, h => Gen.k0_pay4845 (VecWindow.window (s := S248x1024) tap ![8 * n, 0] S8x1024.size (tapRow_inb n (by omega)))

def stStep (acc : Vec F S48x1024 .f32) (tap : Vec F S248x1024 .f32) (n : Fin 34) (S : Vec F S40x1024 .f32) : Vec F S40x1024 .f32 :=
  VecWindow.put (s := S40x1024) S (stOff n.val) S1x1024.size (stRow acc tap n.val n.isLt)

def stPs (acc : Vec F S48x1024 .f32) (tap : Vec F S248x1024 .f32) : (n : ℕ) → n ≤ 34 → List (View.Piece (Elt F) S40x1024 .f32)
  | 0, _ => []
  | n + 1, h => ⟨Rect.unit (s := S40x1024) (stOff n) S1x1024.size (stOff_inb n h), stRow acc tap n h⟩ :: stPs acc tap n (Nat.le_of_succ_le h)

theorem read_stPs {sig' : RefSig} {κ : Kind} {sp : Space} (v : View sig' κ sp S40x1024 .f32) (f : BufTy.Contents (Elt F) v.ty) (acc : Vec F S48x1024 .f32) (tap : Vec F S248x1024 .f32) (n : ℕ) (h : n ≤ 34) :
    v.read (Elt F) (v.writes (Elt F) f (stPs acc tap n h)) = Step.fold 34 (stStep acc tap) (v.read (Elt F) f) n := by
  induction n with
  | zero => rfl
  | succ n ih =>
    unfold stPs
    rw [View.read_writes_cons_put v f (stOff_inb n h) _ _ rfl, ih (Nat.le_of_succ_le h), Step.fold_succ _ _ _ _ (show n < 34 from h)]
    rfl

/-- The block of sums at the end. -/
def stFinal (acc : Vec F S48x1024 .f32) (tap : Vec F S248x1024 .f32) (S : Vec F S40x1024 .f32) : Vec F S40x1024 .f32 := Step.fold 34 (stStep acc tap) S 34

end Cert.AbKernelIdeal

end
-- ==== Proof.Ab.Ins.lean ====
module

public import proofs.«01_k».proof.Proof.Ab.Loops
public import proofs.«01_k».proof.Proof.Ab.Tail
public import proofs.«01_k».proof.Proof.Gen.AbKernelIdeal.Frame

@[expose] public section

set_option maxRecDepth 16384

noncomputable section

namespace Cert.AbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)
  (arg1 : Memref sig .tc .vmem S256x3072 .bf16)
  (arg2 : Memref sig .tc .vmem S256x1024 .f32)
  (arg3 : Memref sig .tc .vmem S256x1024 .f32)
  (arg5 : Memref sig .tc .vmem S248x1024 .f32)
  (arg6 : Memref sig .tc .vmem S1x1024 .f32)
  (arg7 : Memref sig .tc .vmem S1x1024 .f32)
  (x1 : Vec F S256x3072 .bf16)
  (x2 : Vec F S256x1024 .f32)
  (x3 : Vec F S256x1024 .f32)
  (x5 : Vec F S248x1024 .f32)
  (x6 : Vec F S1x1024 .f32)
  (x7 : Vec F S1x1024 .f32)

/-- The inputs' blocks, held. -/
def ins : sProp 𝕄 :=
  iprop(owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7)

end Cert.AbKernelIdeal

end
-- ==== Proof.Ab.BodyA.lean ====
module

public import proofs.«01_k».proof.Proof.Ab.Ins
public import proofs.«01_k».proof.Proof.Ab.Kit

@[expose] public section

set_option maxRecDepth 16384

noncomputable section

namespace Cert.AbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x3072 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .hbm S4096x8192 .bf16) (harg4 : arg4.IsWhole)
  (arg5 : Memref sig .tc .vmem S248x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S256x3072 .bf16) (harg8 : arg8.IsWhole)
  (arg9 : Memref sig .tc .vmem S40x1024 .f32) (harg9 : arg9.IsWhole) (arg10 : Memref sig .tc .vmem S288x1024 .f32) (harg10 : arg10.IsWhole)
  (arg11 : Memref sig .tc .vmem S48x1024 .f32) (harg11 : arg11.IsWhole) (arg12 : Memref sig .tc .vmem S248x1024 .f32) (harg12 : arg12.IsWhole)
  (x1 : Vec F S256x3072 .bf16)
  (x2 : Vec F S256x1024 .f32)
  (x3 : Vec F S256x1024 .f32)
  (x5 : Vec F S248x1024 .f32)
  (x6 : Vec F S1x1024 .f32)
  (x7 : Vec F S1x1024 .f32)

set_option maxHeartbeats 64000000 in
/-- The body at the first point. -/
theorem body_A (hc0 : k0_cond1 i = 1#1) (hc1 : ¬k0_cond2 i = 1#1) (E : Set ℕ) (K : PUnit → sProp 𝕄) :
    iprop(ins c arg1 arg2 arg3 arg5 arg6 arg7 x1 x2 x3 x5 x6 x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(ins c arg1 arg2 arg3 arg5 arg6 arg7 x1 x2 x3 x5 x6 x7 ∗ owns (c : Thread nD τ) arg8 fullShare (dpBlk x1 x2 x3 x6 x7 x5 (dyBlk x1 x2 x3 x6 x7 Gen.k0_pay1)) ∗ owns (c : Thread nD τ) arg9 fullShare Gen.k0_pay2 ∗ owns (c : Thread nD τ) arg10 fullShare (carry (dyBlk x1 x2 x3 x6 x7 Gen.k0_pay1)) ∗ owns (c : Thread nD τ) arg11 fullShare (acBlk x1 x2 x3 x6 x7 Gen.k0_pay3) ∗ owns (c : Thread nD τ) arg12 fullShare (tapBlk x1 (dyBlk x1 x2 x3 x6 x7 Gen.k0_pay1) Gen.k0_pay4)) -∗ K ⟨⟩))
      ⊢ wp frame (wpE (defs₀ (F := F)) Variants.none c none) E (cc0_branch_a_bwd i arg1 harg1 arg2 harg2 arg3 harg3 arg4 harg4 arg5 harg5 arg6 harg6 arg7 harg7 arg8 harg8 arg9 harg9 arg10 harg10 arg11 harg11 arg12 harg12) K := by
  simp only [Gen.cc0_branch_a_bwd_eq_skeleton]; unfold Gen.cc0_branch_a_bwd_skel
  simp only [Gen.k0_part252_eq_skeleton, Gen.k0_part253_eq_skeleton, Gen.k0_part254_eq_skeleton, Gen.k0_part255_eq_skeleton, Gen.k0_part256_eq_skeleton]
  unfold ins owns
  iintro ⟨⟨⟨%f1, %hf1, H1⟩, ⟨%f2, %hf2, H2⟩, ⟨%f3, %hf3, H3⟩, ⟨%f5, %hf5, H5⟩, ⟨%f6, %hf6, H6⟩, ⟨%f7, %hf7, H7⟩⟩, ⟨%d8, %f8, %hf8, H8⟩, ⟨%d9, %f9, %hf9, H9⟩, ⟨%d10, %f10, %hf10, H10⟩, ⟨%d11, %f11, %hf11, H11⟩, ⟨%d12, %f12, %hf12, H12⟩, Hk⟩
  sl_exec (disch := first | sl_exact hc0 | sl_exact hc1)
  sl_step
  have hl1 := loop_t1 Variants.none c none i arg1 harg1 arg2 harg2 arg3 harg3 arg4 harg4 arg5 harg5 arg6 harg6 arg7 harg7 arg8 harg8 arg9 harg9 arg10 harg10 arg11 harg11 arg12 harg12 f1 _ hf1 f2 _ hf2 f3 _ hf3 f6 _ hf6 f7 _ hf7 f8 (arg10.view.writes (Elt F) f10 [⟨Rect.unit ![256, 0] ![32, 1024] Gen.inb_S288x1024_S32x1024_256_0, Gen.k0_pay1⟩]) (arg11.view.writes (Elt F) arg11.view.junk body_A.sl.H11_1) (Scf.trips k0_t1_loop.lb k0_t1_loop.ub k0_t1_loop.st) (le_refl _)
  have h10 : arg10.view.read (Elt F) (arg10.view.writes (Elt F) f10 ((Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 (arg10.view.writes (Elt F) f10 [⟨Rect.unit ![256, 0] ![32, 1024] Gen.inb_S288x1024_S32x1024_256_0, Gen.k0_pay1⟩]) (arg11.view.writes (Elt F) arg11.view.junk body_A.sl.H11_1) (Scf.trips k0_t1_loop.lb k0_t1_loop.ub k0_t1_loop.st)).2.1 ++ [⟨Rect.unit ![256, 0] ![32, 1024] Gen.inb_S288x1024_S32x1024_256_0, Gen.k0_pay1⟩])) = dyBlk x1 x2 x3 x6 x7 Gen.k0_pay1 := by
    rw [View.writes_append]
    exact hl1.2.1.trans (dy_all _ _ _ _ _ _ _ (fun inb => (congrArg (fun a => VecWindow.window (s := S288x1024) a ![256, 0] S32x1024.size inb) (View.read_writes_cons_put arg10.view f10 Gen.inb_S288x1024_S32x1024_256_0 _ _ rfl)).trans (halOf_put _ _)))
  have hl2 := loop_t2 Variants.none c none i arg1 harg1 arg2 harg2 arg3 harg3 arg4 harg4 arg5 harg5 arg6 harg6 arg7 harg7 arg8 harg8 arg9 harg9 arg10 harg10 arg11 harg11 arg12 harg12 f1 _ hf1 f5 _ hf5 (arg10.view.writes (Elt F) f10 ((Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 (arg10.view.writes (Elt F) f10 [⟨Rect.unit ![256, 0] ![32, 1024] Gen.inb_S288x1024_S32x1024_256_0, Gen.k0_pay1⟩]) (arg11.view.writes (Elt F) arg11.view.junk body_A.sl.H11_1) (Scf.trips k0_t1_loop.lb k0_t1_loop.ub k0_t1_loop.st)).2.1 ++ [⟨Rect.unit ![256, 0] ![32, 1024] Gen.inb_S288x1024_S32x1024_256_0, Gen.k0_pay1⟩])) _ h10 (arg8.view.writes (Elt F) f8 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 (arg10.view.writes (Elt F) f10 [⟨Rect.unit ![256, 0] ![32, 1024] Gen.inb_S288x1024_S32x1024_256_0, Gen.k0_pay1⟩]) (arg11.view.writes (Elt F) arg11.view.junk body_A.sl.H11_1) (Scf.trips k0_t1_loop.lb k0_t1_loop.ub k0_t1_loop.st)).1) (arg12.view.writes (Elt F) arg12.view.junk body_A.sl.H12_1) (Scf.trips k0_t2_loop.lb k0_t2_loop.ub k0_t2_loop.st) (le_refl _)
  iapply Hk
  isplitl [H1 H2 H3 H5 H6 H7]
  · isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H5]
    · iexists _; isplitr; swap; · iexact H5
      ipureintro; exact hf5
    isplitl [H6]
    · iexists _; isplitr; swap; · iexact H6
      ipureintro; exact hf6
    iexists _; isplitr; swap; · iexact H7
    ipureintro; exact hf7
  isplitl [H8]
  · iexists _; isplitr; swap; · iexact H8
    ipureintro
    rw [View.writes_append, hl2.1, hl1.1]; exact dp_all _ _ _ _ _ _ _ _
  isplitl [H9]
  · iexists _; isplitr; swap; · iexact H9
    ipureintro
    unfold body_A.sl.H9_1; exact View.read_writes_full _ _ _ _ _
  isplitl [H10]
  · iexists _; isplitr; swap; · iexact H10
    ipureintro
    refine (View.read_writes_cons_put _ _ hal_inb _ _ rfl).trans ?_
    rw [h10]
    refine congrArg (fun w => VecWindow.put (s := S288x1024) (dyBlk x1 x2 x3 x6 x7 Gen.k0_pay1) ![256, 0] S32x1024.size (Gen.k0_pay9 w)) ?_
    unfold body_A.sl.v5
    rw [← h10]
    rfl
  isplitl [H11]
  · iexists _; isplitr; swap; · iexact H11
    ipureintro
    rw [View.writes_append, hl1.2.2]; unfold body_A.sl.H11_1; rw [View.read_writes_full]; rfl
  iexists _; isplitr; swap; · iexact H12
  ipureintro
  rw [View.writes_append, hl2.2]; unfold body_A.sl.H12_1; rw [View.read_writes_full]; rfl

end Cert.AbKernelIdeal

end
-- ==== Proof.Ab.BodyB.lean ====
module

public import proofs.«01_k».proof.Proof.Ab.Ins
public import proofs.«01_k».proof.Proof.Ab.Kit

@[expose] public section

set_option maxRecDepth 16384

noncomputable section

namespace Cert.AbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x3072 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .hbm S4096x8192 .bf16) (harg4 : arg4.IsWhole)
  (arg5 : Memref sig .tc .vmem S248x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S256x3072 .bf16) (harg8 : arg8.IsWhole)
  (arg9 : Memref sig .tc .vmem S40x1024 .f32) (harg9 : arg9.IsWhole) (arg10 : Memref sig .tc .vmem S288x1024 .f32) (harg10 : arg10.IsWhole)
  (arg11 : Memref sig .tc .vmem S48x1024 .f32) (harg11 : arg11.IsWhole) (arg12 : Memref sig .tc .vmem S248x1024 .f32) (harg12 : arg12.IsWhole)
  (x1 : Vec F S256x3072 .bf16)
  (x2 : Vec F S256x1024 .f32)
  (x3 : Vec F S256x1024 .f32)
  (x5 : Vec F S248x1024 .f32)
  (x6 : Vec F S1x1024 .f32)
  (x7 : Vec F S1x1024 .f32)
  (x10 : Vec F S288x1024 .f32)
  (x11 : Vec F S48x1024 .f32)
  (x12 : Vec F S248x1024 .f32)

set_option maxHeartbeats 64000000 in
/-- The body at a middle point. -/
theorem body_B (hc0 : ¬k0_cond1 i = 1#1) (hc1 : ¬k0_cond2 i = 1#1) (E : Set ℕ) (K : PUnit → sProp 𝕄) :
    iprop(ins c arg1 arg2 arg3 arg5 arg6 arg7 x1 x2 x3 x5 x6 x7 ∗ (∃ d, owns (c : Thread nD τ) arg8 fullShare d) ∗ owns (c : Thread nD τ) arg10 fullShare x10 ∗ owns (c : Thread nD τ) arg11 fullShare x11 ∗ owns (c : Thread nD τ) arg12 fullShare x12
        ∗ (iprop(ins c arg1 arg2 arg3 arg5 arg6 arg7 x1 x2 x3 x5 x6 x7 ∗ owns (c : Thread nD τ) arg8 fullShare (dpBlk x1 x2 x3 x6 x7 x5 (dyBlk x1 x2 x3 x6 x7 (halOf x10))) ∗ owns (c : Thread nD τ) arg10 fullShare (carry (dyBlk x1 x2 x3 x6 x7 (halOf x10))) ∗ owns (c : Thread nD τ) arg11 fullShare (acBlk x1 x2 x3 x6 x7 x11) ∗ owns (c : Thread nD τ) arg12 fullShare (tapBlk x1 (dyBlk x1 x2 x3 x6 x7 (halOf x10)) x12)) -∗ K ⟨⟩))
      ⊢ wp frame (wpE (defs₀ (F := F)) Variants.none c none) E (cc0_branch_a_bwd i arg1 harg1 arg2 harg2 arg3 harg3 arg4 harg4 arg5 harg5 arg6 harg6 arg7 harg7 arg8 harg8 arg9 harg9 arg10 harg10 arg11 harg11 arg12 harg12) K := by
  simp only [Gen.cc0_branch_a_bwd_eq_skeleton]; unfold Gen.cc0_branch_a_bwd_skel
  simp only [Gen.k0_part252_eq_skeleton, Gen.k0_part253_eq_skeleton, Gen.k0_part254_eq_skeleton, Gen.k0_part255_eq_skeleton, Gen.k0_part256_eq_skeleton]
  unfold ins owns
  iintro ⟨⟨⟨%f1, %hf1, H1⟩, ⟨%f2, %hf2, H2⟩, ⟨%f3, %hf3, H3⟩, ⟨%f5, %hf5, H5⟩, ⟨%f6, %hf6, H6⟩, ⟨%f7, %hf7, H7⟩⟩, ⟨%d8, %f8, %hf8, H8⟩, ⟨%f10, %hf10, H10⟩, ⟨%f11, %hf11, H11⟩, ⟨%f12, %hf12, H12⟩, Hk⟩
  sl_exec (disch := first | sl_exact hc0 | sl_exact hc1)
  sl_step
  have hl1 := loop_t1 Variants.none c none i arg1 harg1 arg2 harg2 arg3 harg3 arg4 harg4 arg5 harg5 arg6 harg6 arg7 harg7 arg8 harg8 arg9 harg9 arg10 harg10 arg11 harg11 arg12 harg12 f1 _ hf1 f2 _ hf2 f3 _ hf3 f6 _ hf6 f7 _ hf7 f8 f10 f11 (Scf.trips k0_t1_loop.lb k0_t1_loop.ub k0_t1_loop.st) (le_refl _)
  have h10 : arg10.view.read (Elt F) (arg10.view.writes (Elt F) f10 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).2.1) = dyBlk x1 x2 x3 x6 x7 (halOf x10) := by
    exact hl1.2.1.trans (dy_all _ _ _ _ _ _ _ (fun _ => by rw [hf10]; rfl))
  have hl2 := loop_t2 Variants.none c none i arg1 harg1 arg2 harg2 arg3 harg3 arg4 harg4 arg5 harg5 arg6 harg6 arg7 harg7 arg8 harg8 arg9 harg9 arg10 harg10 arg11 harg11 arg12 harg12 f1 _ hf1 f5 _ hf5 (arg10.view.writes (Elt F) f10 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).2.1) _ h10 (arg8.view.writes (Elt F) f8 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).1) f12 (Scf.trips k0_t2_loop.lb k0_t2_loop.ub k0_t2_loop.st) (le_refl _)
  iapply Hk
  isplitl [H1 H2 H3 H5 H6 H7]
  · isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H5]
    · iexists _; isplitr; swap; · iexact H5
      ipureintro; exact hf5
    isplitl [H6]
    · iexists _; isplitr; swap; · iexact H6
      ipureintro; exact hf6
    iexists _; isplitr; swap; · iexact H7
    ipureintro; exact hf7
  isplitl [H8]
  · iexists _; isplitr; swap; · iexact H8
    ipureintro
    rw [View.writes_append, hl2.1, hl1.1]; exact dp_all _ _ _ _ _ _ _ _
  isplitl [H10]
  · iexists _; isplitr; swap; · iexact H10
    ipureintro
    refine (View.read_writes_cons_put _ _ hal_inb _ _ rfl).trans ?_
    rw [h10]
    refine congrArg (fun w => VecWindow.put (s := S288x1024) (dyBlk x1 x2 x3 x6 x7 (halOf x10)) ![256, 0] S32x1024.size (Gen.k0_pay9 w)) ?_
    unfold body_B.sl.v5
    rw [← h10]
    rfl
  isplitl [H11]
  · iexists _; isplitr; swap; · iexact H11
    ipureintro
    exact hl1.2.2.trans (by rw [hf11]; rfl)
  iexists _; isplitr; swap; · iexact H12
  ipureintro
  exact hl2.2.trans (by rw [hf12]; rfl)

end Cert.AbKernelIdeal

end
-- ==== Proof.Ab.BodyC.lean ====
module

public import proofs.«01_k».proof.Proof.Ab.Ins
public import proofs.«01_k».proof.Proof.Ab.Kit

@[expose] public section

set_option maxRecDepth 16384

noncomputable section

namespace Cert.AbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x3072 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .hbm S4096x8192 .bf16) (harg4 : arg4.IsWhole)
  (arg5 : Memref sig .tc .vmem S248x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S256x3072 .bf16) (harg8 : arg8.IsWhole)
  (arg9 : Memref sig .tc .vmem S40x1024 .f32) (harg9 : arg9.IsWhole) (arg10 : Memref sig .tc .vmem S288x1024 .f32) (harg10 : arg10.IsWhole)
  (arg11 : Memref sig .tc .vmem S48x1024 .f32) (harg11 : arg11.IsWhole) (arg12 : Memref sig .tc .vmem S248x1024 .f32) (harg12 : arg12.IsWhole)
  (x1 : Vec F S256x3072 .bf16)
  (x2 : Vec F S256x1024 .f32)
  (x3 : Vec F S256x1024 .f32)
  (x5 : Vec F S248x1024 .f32)
  (x6 : Vec F S1x1024 .f32)
  (x7 : Vec F S1x1024 .f32)
  (x9 : Vec F S40x1024 .f32)
  (x10 : Vec F S288x1024 .f32)
  (x11 : Vec F S48x1024 .f32)
  (x12 : Vec F S248x1024 .f32)

set_option maxHeartbeats 64000000 in
/-- The body at the last point. -/
theorem body_C (hc0 : ¬k0_cond1 i = 1#1) (hc1 : k0_cond2 i = 1#1) (E : Set ℕ) (K : PUnit → sProp 𝕄) :
    iprop(ins c arg1 arg2 arg3 arg5 arg6 arg7 x1 x2 x3 x5 x6 x7 ∗ (∃ d, owns (c : Thread nD τ) arg8 fullShare d) ∗ owns (c : Thread nD τ) arg9 fullShare x9 ∗ owns (c : Thread nD τ) arg10 fullShare x10 ∗ owns (c : Thread nD τ) arg11 fullShare x11 ∗ owns (c : Thread nD τ) arg12 fullShare x12
        ∗ (iprop(ins c arg1 arg2 arg3 arg5 arg6 arg7 x1 x2 x3 x5 x6 x7 ∗ owns (c : Thread nD τ) arg8 fullShare (dpBlk x1 x2 x3 x6 x7 x5 (dyBlk x1 x2 x3 x6 x7 (halOf x10))) ∗ owns (c : Thread nD τ) arg9 fullShare (stFinal (acBlk x1 x2 x3 x6 x7 x11) (tapBlk x1 (dyBlk x1 x2 x3 x6 x7 (halOf x10)) x12) x9) ∗ owns (c : Thread nD τ) arg10 fullShare (carry (dyBlk x1 x2 x3 x6 x7 (halOf x10))) ∗ owns (c : Thread nD τ) arg11 fullShare (acBlk x1 x2 x3 x6 x7 x11) ∗ owns (c : Thread nD τ) arg12 fullShare (tapBlk x1 (dyBlk x1 x2 x3 x6 x7 (halOf x10)) x12)) -∗ K ⟨⟩))
      ⊢ wp frame (wpE (defs₀ (F := F)) Variants.none c none) E (cc0_branch_a_bwd i arg1 harg1 arg2 harg2 arg3 harg3 arg4 harg4 arg5 harg5 arg6 harg6 arg7 harg7 arg8 harg8 arg9 harg9 arg10 harg10 arg11 harg11 arg12 harg12) K := by
  simp only [Gen.cc0_branch_a_bwd_eq_skeleton]; unfold Gen.cc0_branch_a_bwd_skel
  simp only [Gen.k0_part252_eq_skeleton, Gen.k0_part253_eq_skeleton, Gen.k0_part254_eq_skeleton, Gen.k0_part255_eq_skeleton, Gen.k0_part256_eq_skeleton]
  unfold ins owns
  iintro ⟨⟨⟨%f1, %hf1, H1⟩, ⟨%f2, %hf2, H2⟩, ⟨%f3, %hf3, H3⟩, ⟨%f5, %hf5, H5⟩, ⟨%f6, %hf6, H6⟩, ⟨%f7, %hf7, H7⟩⟩, ⟨%d8, %f8, %hf8, H8⟩, ⟨%f9, %hf9, H9⟩, ⟨%f10, %hf10, H10⟩, ⟨%f11, %hf11, H11⟩, ⟨%f12, %hf12, H12⟩, Hk⟩
  sl_exec (disch := first | sl_exact hc0 | sl_exact hc1)
  sl_step
  have hl1 := loop_t1 Variants.none c none i arg1 harg1 arg2 harg2 arg3 harg3 arg4 harg4 arg5 harg5 arg6 harg6 arg7 harg7 arg8 harg8 arg9 harg9 arg10 harg10 arg11 harg11 arg12 harg12 f1 _ hf1 f2 _ hf2 f3 _ hf3 f6 _ hf6 f7 _ hf7 f8 f10 f11 (Scf.trips k0_t1_loop.lb k0_t1_loop.ub k0_t1_loop.st) (le_refl _)
  have h10 : arg10.view.read (Elt F) (arg10.view.writes (Elt F) f10 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).2.1) = dyBlk x1 x2 x3 x6 x7 (halOf x10) := by
    exact hl1.2.1.trans (dy_all _ _ _ _ _ _ _ (fun _ => by rw [hf10]; rfl))
  have hl2 := loop_t2 Variants.none c none i arg1 harg1 arg2 harg2 arg3 harg3 arg4 harg4 arg5 harg5 arg6 harg6 arg7 harg7 arg8 harg8 arg9 harg9 arg10 harg10 arg11 harg11 arg12 harg12 f1 _ hf1 f5 _ hf5 (arg10.view.writes (Elt F) f10 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).2.1) _ h10 (arg8.view.writes (Elt F) f8 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).1) f12 (Scf.trips k0_t2_loop.lb k0_t2_loop.ub k0_t2_loop.st) (le_refl _)
  have h11 : arg11.view.read (Elt F) (arg11.view.writes (Elt F) f11 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).2.2) = acBlk x1 x2 x3 x6 x7 x11 := hl1.2.2.trans (by rw [hf11]; rfl)
  have h12 : arg12.view.read (Elt F) (arg12.view.writes (Elt F) f12 (Gen.pb_k0_t2 Variants.none c none i arg1 harg1 arg2 harg2 arg3 harg3 arg4 harg4 arg5 harg5 arg6 harg6 arg7 harg7 arg8 harg8 arg9 harg9 arg10 harg10 arg11 harg11 arg12 harg12 f1 f5 (arg10.view.writes (Elt F) f10 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).2.1) (arg8.view.writes (Elt F) f8 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).1) f12 (Scf.trips k0_t2_loop.lb k0_t2_loop.ub k0_t2_loop.st)).2) = tapBlk x1 (dyBlk x1 x2 x3 x6 x7 (halOf x10)) x12 := hl2.2.trans (by rw [hf12]; rfl)
  iapply Hk
  isplitl [H1 H2 H3 H5 H6 H7]
  · isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H5]
    · iexists _; isplitr; swap; · iexact H5
      ipureintro; exact hf5
    isplitl [H6]
    · iexists _; isplitr; swap; · iexact H6
      ipureintro; exact hf6
    iexists _; isplitr; swap; · iexact H7
    ipureintro; exact hf7
  isplitl [H8]
  · iexists _; isplitr; swap; · iexact H8
    ipureintro
    rw [View.writes_append, hl2.1, hl1.1]; exact dp_all _ _ _ _ _ _ _ _
  isplitl [H9]
  · iexists _; isplitr; swap; · iexact H9
    ipureintro
    refine Eq.trans (b := arg9.view.read (Elt F) (arg9.view.writes (Elt F) f9 (stPs (arg11.view.read (Elt F) (arg11.view.writes (Elt F) f11 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).2.2)) (arg12.view.read (Elt F) (arg12.view.writes (Elt F) f12 (Gen.pb_k0_t2 Variants.none c none i arg1 harg1 arg2 harg2 arg3 harg3 arg4 harg4 arg5 harg5 arg6 harg6 arg7 harg7 arg8 harg8 arg9 harg9 arg10 harg10 arg11 harg11 arg12 harg12 f1 f5 (arg10.view.writes (Elt F) f10 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).2.1) (arg8.view.writes (Elt F) f8 (Gen.pb_k0_t1 Variants.none c none i arg1 harg1 arg2 harg2 arg3 harg3 arg4 harg4 arg5 harg5 arg6 harg6 arg7 harg7 arg8 harg8 arg9 harg9 arg10 harg10 arg11 harg11 arg12 harg12 f1 f2 f3 f6 f7 f8 f10 f11 (Scf.trips k0_t1_loop.lb k0_t1_loop.ub k0_t1_loop.st)).1) f12 (Scf.trips k0_t2_loop.lb k0_t2_loop.ub k0_t2_loop.st)).2)) 34 (le_refl _)))) ?_ ?_
    · sl_unfold_words
      rfl
    · rw [read_stPs, h11, h12, hf9]
      rfl
  isplitl [H10]
  · iexists _; isplitr; swap; · iexact H10
    ipureintro
    refine (View.read_writes_cons_put _ _ hal_inb _ _ rfl).trans ?_
    rw [h10]
    refine congrArg (fun w => VecWindow.put (s := S288x1024) (dyBlk x1 x2 x3 x6 x7 (halOf x10)) ![256, 0] S32x1024.size (Gen.k0_pay9 w)) ?_
    unfold body_C.sl.v5
    rw [← h10]
    rfl
  isplitl [H11]
  · iexists _; isplitr; swap; · iexact H11
    ipureintro
    exact hl1.2.2.trans (by rw [hf11]; rfl)
  iexists _; isplitr; swap; · iexact H12
  ipureintro
  exact hl2.2.trans (by rw [hf12]; rfl)

end Cert.AbKernelIdeal

end
-- ==== Proof.Ab.Frame.lean ====
module

public import proofs.«01_k».proof.Proof.Ab.Kit
public import proofs.«01_k».proof.Proof.Ab.BodyA
public import proofs.«01_k».proof.Proof.Ab.BodyB
public import proofs.«01_k».proof.Proof.Ab.BodyC

@[expose] public section

set_option maxRecDepth 16384

noncomputable section

namespace Cert.AbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The convolution's cotangents of the block of point `n`, and of the block after it. -/
def dyAt (c : Dev nD) : (n : ℕ) → n < cfg0.N → Vec F S288x1024 .f32
  | 0, h => dyBlk (Gen.X0_0 m c ⟨0, h⟩) (Gen.iblk m c 1 ⟨0, h⟩) (Gen.iblk m c 2 ⟨0, h⟩) (Gen.iblk m c 4 ⟨0, h⟩) (Gen.iblk m c 5 ⟨0, h⟩) Gen.k0_pay1
  | n + 1, h => dyBlk (Gen.X0_0 m c ⟨n + 1, h⟩) (Gen.iblk m c 1 ⟨n + 1, h⟩) (Gen.iblk m c 2 ⟨n + 1, h⟩) (Gen.iblk m c 4 ⟨n + 1, h⟩) (Gen.iblk m c 5 ⟨n + 1, h⟩) (halOf (carry (dyAt c n (Nat.lt_of_succ_lt h))))

theorem dyAt_first (c : Dev nD) (t : Fin cfg0.N) (h : t.val = 0) : dyAt m c t.val t.isLt = dyBlk (Gen.X0_0 m c t) (Gen.iblk m c 1 t) (Gen.iblk m c 2 t) (Gen.iblk m c 4 t) (Gen.iblk m c 5 t) Gen.k0_pay1 := by
  obtain ⟨n, hn⟩ := t
  subst h; rfl

theorem dyAt_next (c : Dev nD) (t : Fin cfg0.N) (h : t.val ≠ 0) :
    dyAt m c t.val t.isLt = dyBlk (Gen.X0_0 m c t) (Gen.iblk m c 1 t) (Gen.iblk m c 2 t) (Gen.iblk m c 4 t) (Gen.iblk m c 5 t) (halOf (carry (dyAt m c (t.val - 1) (Nat.lt_of_le_of_lt (Nat.sub_le _ _) t.isLt)))) := by
  obtain ⟨n, hn⟩ := t
  cases n with
  | zero => exact absurd rfl h
  | succ n => rfl

/-- The sums of scale, offset and bias after point `n`. -/
def acAt (c : Dev nD) : (n : ℕ) → n < cfg0.N → Vec F S48x1024 .f32
  | 0, h => acBlk (Gen.X0_0 m c ⟨0, h⟩) (Gen.iblk m c 1 ⟨0, h⟩) (Gen.iblk m c 2 ⟨0, h⟩) (Gen.iblk m c 4 ⟨0, h⟩) (Gen.iblk m c 5 ⟨0, h⟩) Gen.k0_pay3
  | n + 1, h => acBlk (Gen.X0_0 m c ⟨n + 1, h⟩) (Gen.iblk m c 1 ⟨n + 1, h⟩) (Gen.iblk m c 2 ⟨n + 1, h⟩) (Gen.iblk m c 4 ⟨n + 1, h⟩) (Gen.iblk m c 5 ⟨n + 1, h⟩) (acAt c n (Nat.lt_of_succ_lt h))

theorem acAt_first (c : Dev nD) (t : Fin cfg0.N) (h : t.val = 0) : acAt m c t.val t.isLt = acBlk (Gen.X0_0 m c t) (Gen.iblk m c 1 t) (Gen.iblk m c 2 t) (Gen.iblk m c 4 t) (Gen.iblk m c 5 t) Gen.k0_pay3 := by
  obtain ⟨n, hn⟩ := t
  subst h; rfl

theorem acAt_next (c : Dev nD) (t : Fin cfg0.N) (h : t.val ≠ 0) :
    acAt m c t.val t.isLt = acBlk (Gen.X0_0 m c t) (Gen.iblk m c 1 t) (Gen.iblk m c 2 t) (Gen.iblk m c 4 t) (Gen.iblk m c 5 t) (acAt m c (t.val - 1) (Nat.lt_of_le_of_lt (Nat.sub_le _ _) t.isLt)) := by
  obtain ⟨n, hn⟩ := t
  cases n with
  | zero => exact absurd rfl h
  | succ n => rfl

/-- The taps' sums after point `n`. -/
def tpAt (c : Dev nD) : (n : ℕ) → n < cfg0.N → Vec F S248x1024 .f32
  | 0, h => tapBlk (Gen.X0_0 m c ⟨0, h⟩) (dyAt m c 0 h) Gen.k0_pay4
  | n + 1, h => tapBlk (Gen.X0_0 m c ⟨n + 1, h⟩) (dyAt m c (n + 1) h) (tpAt c n (Nat.lt_of_succ_lt h))

theorem tpAt_first (c : Dev nD) (t : Fin cfg0.N) (h : t.val = 0) : tpAt m c t.val t.isLt = tapBlk (Gen.X0_0 m c t) (dyAt m c t.val t.isLt) Gen.k0_pay4 := by
  obtain ⟨n, hn⟩ := t
  subst h; rfl

theorem tpAt_next (c : Dev nD) (t : Fin cfg0.N) (h : t.val ≠ 0) :
    tpAt m c t.val t.isLt = tapBlk (Gen.X0_0 m c t) (dyAt m c t.val t.isLt) (tpAt m c (t.val - 1) (Nat.lt_of_le_of_lt (Nat.sub_le _ _) t.isLt)) := by
  obtain ⟨n, hn⟩ := t
  cases n with
  | zero => exact absurd rfl h
  | succ n => rfl

/-- What the outputs hold: the gradients, -/
def dpAt (c : Dev nD) (t : Fin cfg0.N) : Vec F S256x3072 .bf16 := dpBlk (Gen.X0_0 m c t) (Gen.iblk m c 1 t) (Gen.iblk m c 2 t) (Gen.iblk m c 4 t) (Gen.iblk m c 5 t) (Gen.iblk m c 3 t) (dyAt m c t.val t.isLt)
/-- the rows of sums. -/
def stAt (c : Dev nD) (t : Fin cfg0.N) : Vec F S40x1024 .f32 :=
  if t.val % 16 = 15 then stFinal (acAt m c t.val t.isLt) (tpAt m c t.val t.isLt) Gen.k0_pay2 else Gen.k0_pay2

/-- What holds of the scratch buffers before point `n`. -/
def PhiS (c : Dev nD) : (n : ℕ) → n ≤ cfg0.N → sProp 𝕄
  | 0, _ => Pipeline.ΦA spec0 c
  | n + 1, hn => iprop(iprop(owns (c : Thread nD τ) Gen.scM0_0 fullShare (carry (dyAt m c n hn)) ∗ owns (c : Thread nD τ) Gen.scM0_1 fullShare (acAt m c n hn) ∗ owns (c : Thread nD τ) Gen.scM0_2 fullShare (tpAt m c n hn)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) Gen.scM0_0 fullShare (carry (dyAt m c (n - 1) (by omega))) ∗ owns (c : Thread nD τ) Gen.scM0_1 fullShare (acAt m c (n - 1) (by omega)) ∗ owns (c : Thread nD τ) Gen.scM0_2 fullShare (tpAt m c (n - 1) (by omega))) ∗ (∃ r, prngReg c r)) := by
  cases n with
  | zero => exact absurd rfl hz
  | succ n => rfl

/-- The proof data of the pipeline: each input's buffer at its block, each output's at its value. -/
def dats (_ : Fin 1) (c : Dev nD) : Dat τ (Elt F) Unit ℕ (UR sig nD τ) ℕ cfg0 c where
  A w := Gen.V m c (Pipeline.arrRef spec0 w)
  after w t := match w with
    | ⟨0, _⟩ => Gen.X0_0 m c t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => dpAt m c t
    | ⟨7, _⟩ => stAt m c t
  Φ t := PhiS m c t.val (Nat.le_of_lt_succ t.isLt)
  q _ := fullShare
  owed _ := 0

theorem A_eq (c : Dev nD) (w : Fin cfg0.W) : (dats m 0 c).A w = Gen.V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = Gen.X0_0 m c t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = Gen.iblk m c 5 t := by dsimp only [dats]
theorem after_6 (c : Dev nD) (t : Fin cfg0.N) : (dats m 0 c).after 6 t = dpAt m c t := by dsimp only [dats]
theorem after_7 (c : Dev nD) (t : Fin cfg0.N) : (dats m 0 c).after 7 t = stAt m c t := by dsimp only [dats]
theorem before_0 (c : Dev nD) (t : Fin cfg0.N) (d) : (dats m 0 c).before 0 t d = Gen.X0_0 m c t :=
  Gen.before0_0_of m (dats m 0 c) (A_eq m c 0) (after_0 m c) t d
theorem before_1 (c : Dev nD) (t : Fin cfg0.N) (d) : (dats m 0 c).before 1 t d = Gen.iblk m c 1 t :=
  Gen.before0_1_of m (dats m 0 c) (A_eq m c 1) (after_1 m c) t d
theorem before_2 (c : Dev nD) (t : Fin cfg0.N) (d) : (dats m 0 c).before 2 t d = Gen.iblk m c 2 t :=
  Gen.before0_2_of m (dats m 0 c) (A_eq m c 2) (after_2 m c) t d
theorem before_3 (c : Dev nD) (t : Fin cfg0.N) (d) : (dats m 0 c).before 3 t d = Gen.iblk m c 3 t :=
  Gen.before0_3_of m (dats m 0 c) (A_eq m c 3) (after_3 m c) t d
theorem before_4 (c : Dev nD) (t : Fin cfg0.N) (d) : (dats m 0 c).before 4 t d = Gen.iblk m c 4 t :=
  Gen.before0_4_of m (dats m 0 c) (A_eq m c 4) (after_4 m c) t d
theorem before_5 (c : Dev nD) (t : Fin cfg0.N) (d) : (dats m 0 c).before 5 t d = Gen.iblk m c 5 t :=
  Gen.before0_5_of m (dats m 0 c) (A_eq m c 5) (after_5 m c) t d

/-- A window that is used at a point leaves its buffer at the value named. -/
theorem leaves (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]; try rfl

/-- A point between leaves output 7 as the point before left it. -/
theorem carry_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t h hi _
  have hN : t.val < 16 := lt_of_lt_of_eq t.isLt (show cfg0.N = 16 from Gen.N_0)
  rw [after_7, after_7]
  unfold stAt
  by_cases h1 : t.val % 16 = 15
  · rw [Gen.liveAt0_7_C t h1] at hi
    exact absurd hi Bool.false_ne_true
  · rw [if_neg h1, if_neg (show ¬(t.val - 1) % 16 = 15 by omega)]

/-- At the last point it still holds zeros. -/
theorem before_7 (c : Dev nD) (t : Fin cfg0.N) (h0 : ¬t.val % 16 = 0) (d) : (dats m 0 c).before 7 t d = Gen.k0_pay2 := by
  have hN : t.val < 16 := lt_of_lt_of_eq t.isLt (show cfg0.N = 16 from Gen.N_0)
  rw [Dat.before_out_traj _ 7 rfl (fun _ _ => rfl) (carry_7 m c) t.val t rfl d,
    if_neg (by rw [Gen.fresh0_7 t (by omega)]; exact Bool.false_ne_true)]
  rw [after_7]
  unfold stAt
  rw [if_neg (show ¬(t.val - 1) % 16 = 15 by omega)]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (Gen.ms0_0 t) fullShare ((dats m 0 c).before 0 t d))
    ∗ (∃ d, owns (c : Thread nD τ) (Gen.ms0_1 t) fullShare ((dats m 0 c).before 1 t d))
    ∗ (∃ d, owns (c : Thread nD τ) (Gen.ms0_2 t) fullShare ((dats m 0 c).before 2 t d))
    ∗ (∃ d, owns (c : Thread nD τ) (Gen.ms0_3 t) fullShare ((dats m 0 c).before 3 t d))
    ∗ (∃ d, owns (c : Thread nD τ) (Gen.ms0_4 t) fullShare ((dats m 0 c).before 4 t d))
    ∗ (∃ d, owns (c : Thread nD τ) (Gen.ms0_5 t) fullShare ((dats m 0 c).before 5 t d))
    ∗ (∃ d, owns (c : Thread nD τ) (Gen.ms0_6 t) fullShare ((dats m 0 c).before 6 t d))
    ∗ (∃ d, owns (c : Thread nD τ) (Gen.ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2, before_3, before_4, before_5]
  rw [show (dats m 0 c).owesAt () t.succ = (dats m 0 c).owesAt () t.castSucc from rfl]
  rw [show (dats m 0 c).Φ t.succ = iprop(iprop(owns (c : Thread nD τ) Gen.scM0_0 fullShare (carry (dyAt m c t.val t.isLt)) ∗ owns (c : Thread nD τ) Gen.scM0_1 fullShare (acAt m c t.val t.isLt) ∗ owns (c : Thread nD τ) Gen.scM0_2 fullShare (tpAt m c t.val t.isLt)) ∗ (∃ r, prngReg c r)) from rfl]
  have hN : t.val < 16 := lt_of_lt_of_eq t.isLt (show cfg0.N = 16 from Gen.N_0)
  rw [leaves m c 0 t (Gen.liveAt0_0 t), after_0, leaves m c 1 t (Gen.liveAt0_1 t), after_1, leaves m c 2 t (Gen.liveAt0_2 t), after_2, leaves m c 3 t (Gen.liveAt0_3 t), after_3, leaves m c 4 t (Gen.liveAt0_4 t), after_4, leaves m c 5 t (Gen.liveAt0_5 t), after_5, leaves m c 6 t (Gen.liveAt0_6 t), after_6]
  by_cases h0 : t.val % 16 = 0
  · have h1 : ¬t.val % 16 = 15 := by omega
    have hz : t.val = 0 := by omega
    rw [leaves m c 7 t (Gen.liveAt0_7_A t h0), after_7, PhiS_castSucc]
    rw [PhiS_zero m c _ _ hz, Gen.PhiA0_eq, acAt_first m c t hz, tpAt_first m c t hz]
    unfold stAt dpAt
    rw [if_neg h1, dyAt_first m c t hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_A c (grid0.coords t) (Gen.ms0_0 t) (Gen.hs0_0 t) (Gen.ms0_1 t) (Gen.hs0_1 t) (Gen.ms0_2 t) (Gen.hs0_2 t) (Memref.whole main_arg2) (Memref.isWhole_whole _) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) Gen.scM0_0 (Memref.isWhole_whole _) Gen.scM0_1 (Memref.isWhole_whole _) Gen.scM0_2 (Memref.isWhole_whole _) (Gen.X0_0 m c t) (Gen.iblk m c 1 t) (Gen.iblk m c 2 t) (Gen.iblk m c 3 t) (Gen.iblk m c 4 t) (Gen.iblk m c 5 t) ((Gen.hcond0_0 t).mpr h0) (fun h => h1 ((Gen.hcond0_1 t).mp h)) Set.univ _)
    isplitl [H0 H1 H2 H3 H4 H5]
    · unfold ins
      isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [HS0]; · iexact HS0
    isplitl [HS1]; · iexact HS1
    isplitl [HS2]; · iexact HS2
    unfold ins
    iintro ⟨⟨H0, H1, H2, H3, H4, H5⟩, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := by omega
    rw [PhiS_castSucc, PhiS_pos m c _ _ hz, acAt_next m c t hz, tpAt_next m c t hz]
    by_cases h1 : t.val % 16 = 15
    · rw [leaves m c 7 t (Gen.liveAt0_7_C t h1), after_7]
      simp only [before_7 m c t h0]
      unfold stAt dpAt
      rw [if_pos h1, acAt_next m c t hz, tpAt_next m c t hz, dyAt_next m c t hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_C c (grid0.coords t) (Gen.ms0_0 t) (Gen.hs0_0 t) (Gen.ms0_1 t) (Gen.hs0_1 t) (Gen.ms0_2 t) (Gen.hs0_2 t) (Memref.whole main_arg2) (Memref.isWhole_whole _) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) Gen.scM0_0 (Memref.isWhole_whole _) Gen.scM0_1 (Memref.isWhole_whole _) Gen.scM0_2 (Memref.isWhole_whole _) (Gen.X0_0 m c t) (Gen.iblk m c 1 t) (Gen.iblk m c 2 t) (Gen.iblk m c 3 t) (Gen.iblk m c 4 t) (Gen.iblk m c 5 t) _ _ _ _ (fun h => h0 ((Gen.hcond0_0 t).mp h)) ((Gen.hcond0_1 t).mpr h1) Set.univ _)
      isplitl [H0 H1 H2 H3 H4 H5]
      · unfold ins
        isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexact H7
      isplitl [HS0]; · iexact HS0
      isplitl [HS1]; · iexact HS1
      isplitl [HS2]; · iexact HS2
      unfold ins
      iintro ⟨⟨H0, H1, H2, H3, H4, H5⟩, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dats m 0 c) 7 t (Gen.idleAt0_7_B t h0 h1) (Gen.noFlush0_7_B t h0 h1)]
      unfold dpAt
      rw [dyAt_next m c t hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_B c (grid0.coords t) (Gen.ms0_0 t) (Gen.hs0_0 t) (Gen.ms0_1 t) (Gen.hs0_1 t) (Gen.ms0_2 t) (Gen.hs0_2 t) (Memref.whole main_arg2) (Memref.isWhole_whole _) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) Gen.scM0_0 (Memref.isWhole_whole _) Gen.scM0_1 (Memref.isWhole_whole _) Gen.scM0_2 (Memref.isWhole_whole _) (Gen.X0_0 m c t) (Gen.iblk m c 1 t) (Gen.iblk m c 2 t) (Gen.iblk m c 3 t) (Gen.iblk m c 4 t) (Gen.iblk m c 5 t) _ _ _ (fun h => h0 ((Gen.hcond0_0 t).mp h)) (fun h => h1 ((Gen.hcond0_1 t).mp h)) Set.univ _)
      isplitl [H0 H1 H2 H3 H4 H5]
      · unfold ins
        isplitl [H0]; · iexact H0
        isplitl [H1]; · iexact H1
        isplitl [H2]; · iexact H2
        isplitl [H3]; · iexact H3
        isplitl [H4]; · iexact H4
        iexact H5
      isplitl [H6]; · iexists _; iexact H6
      isplitl [HS0]; · iexact HS0
      isplitl [HS1]; · iexact HS1
      isplitl [HS2]; · iexact HS2
      unfold ins
      iintro ⟨⟨H0, H1, H2, H3, H4, H5⟩, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := Gen.N_0; omega), Gen.PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- The launch: every array ends at what the proof data say, and every counter at zero. -/
theorem run_main_quiescent : θ_run defs (onTc (τ := τ) (main (F := F))) (s₀ m ρ) (fun r => (Pipeline.FramePost cfgs (dats m) 0 (Gen.V m)) r ∧ r.2.sem = fun _ => 0) :=
  Pipeline.θ_run_frame_track (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hin := hin m) (hout := hout m)

theorem run_main : θ_run defs (onTc (τ := τ) (main (F := F))) (s₀ m ρ) (Pipeline.FramePost cfgs (dats m) 0 (Gen.V m)) :=
  (θ_run defs _ _).mono (fun _ h => h.1) (run_main_quiescent m ρ)

/-- The frame: the arguments end unchanged, and every counter at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (Gen.frame_of m ρ (dats m) (A_eq m) (run_main m ρ)) ((θ_run defs _ _).mono (fun _ h => h.2) (run_main_quiescent m ρ))

end Cert.AbKernelIdeal

end
-- ==== Proof.Ab.Spec.lean ====
module

public import proofs.«01_k».proof.Proof.B.Spec

@[expose] public section

noncomputable section

/-! # The gradients of the convolution branch, as functions of real numbers -/

namespace Step.A

open Step.B (lgs sil nrm lnGrad)
open scoped BigOperators

/-- The arguments: the three columns of the projection, the cotangent, the taps and their bias, the norm's weight and bias. -/
structure Arg where
  v : Fin 4096 → Fin 1024 → ℝ
  u : Fin 4096 → Fin 1024 → ℝ
  z : Fin 4096 → Fin 1024 → ℝ
  dy : Fin 4096 → Fin 1024 → ℝ
  w : Fin 31 → Fin 1024 → ℝ
  cb : Fin 1024 → ℝ
  g : Fin 1024 → ℝ
  b : Fin 1024 → ℝ

/-- A function of the row, continued by zero. -/
def ext (f : Fin 4096 → ℝ) (n : ℕ) : ℝ := if h : n < 4096 then f ⟨n, h⟩ else 0

theorem ext_val (f : Fin 4096 → ℝ) (i : Fin 4096) : ext f i.val = f i := dif_pos i.isLt

theorem ext_ge (f : Fin 4096 → ℝ) (n : ℕ) (h : 4096 ≤ n) : ext f n = 0 := dif_neg (by omega)

/-- The same function moved down by `k` rows, with zeros above. -/
def down (f : Fin 4096 → ℝ) (k n : ℕ) : ℝ := if k ≤ n then ext f (n - k) else 0

variable (A : Arg)

/-- The gated values; -/
def Arg.a (r : Fin 4096) (j : Fin 1024) : ℝ := A.v r j * lgs (A.u r j)
/-- with thirty rows of zeros before them; -/
def Arg.ap (n : ℕ) (j : Fin 1024) : ℝ := down (fun r => A.a r j) 30 n
/-- convolved; -/
def Arg.y (r : Fin 4096) (j : Fin 1024) : ℝ := (∑ k : Fin 31, A.ap (k.val + r.val) j * A.w k j) + A.cb j
/-- normalised; -/
def Arg.n (r : Fin 4096) (j : Fin 1024) : ℝ := nrm (A.y r) j
/-- scaled and shifted. -/
def Arg.l (r : Fin 4096) (j : Fin 1024) : ℝ := A.n r j * A.g j + A.b j
/-- The derivative of the product of an argument with its logistic function. -/
def dsil (z : ℝ) : ℝ := lgs z * (1 + z * (1 - lgs z))
/-- The cotangent of the shifted values, -/
def Arg.dl (r : Fin 4096) (j : Fin 1024) : ℝ := A.dy r j * sil (A.z r j) * dsil (A.l r j)
/-- of the gate -/
def Arg.dz (r : Fin 4096) (j : Fin 1024) : ℝ := A.dy r j * sil (A.l r j) * dsil (A.z r j)
/-- and of the convolved values; -/
def Arg.d (r : Fin 4096) (j : Fin 1024) : ℝ := lnGrad (A.y r) (fun l => A.dl r l * A.g l) j
/-- that of the gated values, -/
def Arg.da (r : Fin 4096) (j : Fin 1024) : ℝ := ∑ k : Fin 31, A.w k j * ext (fun i => A.d i j) (r.val + 30 - k.val)
/-- and of the two columns that they come from. -/
def Arg.dv (r : Fin 4096) (j : Fin 1024) : ℝ := A.da r j * lgs (A.u r j)
def Arg.du (r : Fin 4096) (j : Fin 1024) : ℝ := A.da r j * A.a r j * (1 - lgs (A.u r j))
/-- The gradient of the norm's weight -/
def Arg.dg (j : Fin 1024) : ℝ := ∑ r, A.dl r j * A.n r j
/-- and bias, -/
def Arg.db (j : Fin 1024) : ℝ := ∑ r, A.dl r j
/-- of the convolution's bias -/
def Arg.dcb (j : Fin 1024) : ℝ := ∑ r, A.d r j
/-- and taps. -/
def Arg.dw (k : Fin 31) (j : Fin 1024) : ℝ := ∑ r : Fin 4096, A.ap (k.val + r.val) j * A.d r j

/-- The same from the rows before the convolution. -/
theorem Arg.dw_eq (k : Fin 31) (j : Fin 1024) : A.dw k j = ∑ t : Fin 4096, A.a t j * ext (fun i => A.d i j) (t.val + 30 - k.val) := by
  unfold Arg.dw Arg.ap
  have hk := k.isLt
  have e1 : (∑ r : Fin 4096, down (fun r => A.a r j) 30 (k.val + r.val) * A.d r j)
      = ∑ n ∈ Finset.range 4126, down (fun r => A.a r j) 30 n * (if k.val ≤ n then ext (fun i => A.d i j) (n - k.val) else 0) := by
    have h : ∀ r : Fin 4096, down (fun r => A.a r j) 30 (k.val + r.val) * A.d r j = (fun r : ℕ => down (fun r => A.a r j) 30 (k.val + r) * ext (fun i => A.d i j) r) r.val := fun r => by
      show _ = _ * ext _ _
      rw [ext_val]
    refine (Finset.sum_congr rfl fun r _ => h r).trans ((Finset.sum_range (fun r : ℕ => down (fun r => A.a r j) 30 (k.val + r) * ext (fun i => A.d i j) r)).symm.trans ?_)
    refine Finset.sum_bij_ne_zero (fun r _ _ => k.val + r) (fun r hr _ => ?_) (fun r _ _ s _ _ e => by omega) (fun n hn h0 => ?_) (fun r _ _ => ?_)
    · rw [Finset.mem_range] at hr ⊢
      omega
    · by_cases hkn : k.val ≤ n
      · rw [if_pos hkn] at h0
        have h1 : n - k.val < 4096 := by
          by_contra hc
          exact h0 (by rw [ext_ge _ _ (by omega), mul_zero])
        refine ⟨n - k.val, Finset.mem_range.mpr h1, ?_, by omega⟩
        rw [show k.val + (n - k.val) = n by omega]
        exact h0
      · rw [if_neg hkn, mul_zero] at h0
        exact absurd rfl h0
    · rw [if_pos (by omega), show k.val + r - k.val = r by omega]
  have e2 : (∑ t : Fin 4096, A.a t j * ext (fun i => A.d i j) (t.val + 30 - k.val))
      = ∑ n ∈ Finset.range 4126, down (fun r => A.a r j) 30 n * (if k.val ≤ n then ext (fun i => A.d i j) (n - k.val) else 0) := by
    have h : ∀ r : Fin 4096, A.a r j * ext (fun i => A.d i j) (r.val + 30 - k.val) = (fun r : ℕ => ext (fun r => A.a r j) r * ext (fun i => A.d i j) (r + 30 - k.val)) r.val := fun r => by
      show _ = ext _ _ * _
      rw [ext_val]
    refine (Finset.sum_congr rfl fun r _ => h r).trans ((Finset.sum_range (fun r : ℕ => ext (fun r => A.a r j) r * ext (fun i => A.d i j) (r + 30 - k.val))).symm.trans ?_)
    refine Finset.sum_bij_ne_zero (fun r _ _ => r + 30) (fun r hr _ => ?_) (fun r _ _ s _ _ e => by omega) (fun n hn h0 => ?_) (fun r _ _ => ?_)
    · rw [Finset.mem_range] at hr ⊢
      omega
    · rw [Finset.mem_range] at hn
      unfold down at h0
      by_cases hkn : 30 ≤ n
      · refine ⟨n - 30, Finset.mem_range.mpr (by omega), ?_, by omega⟩
        rw [if_pos hkn, if_pos (by omega)] at h0
        rw [show n - 30 + 30 - k.val = n - k.val by omega]
        exact h0
      · rw [if_neg hkn, zero_mul] at h0
        exact absurd rfl h0
    · unfold down
      rw [if_pos (by omega), if_pos (by omega), show r + 30 - 30 = r by omega]
  rw [e1, e2]

/-- The gradient of the projections: that of the values, of the gate before the convolution and of the gate after it, each in its columns, and what was there elsewhere. -/
def Arg.dpAt (x : Fin 4096 → Fin 8192 → EReal) (r : Fin 4096) (j : Fin 8192) : EReal :=
  if h : j.val < 1024 then (A.dv r ⟨j.val, h⟩ : EReal)
  else if h : j.val - 1024 < 1024 then (A.du r ⟨j.val - 1024, h⟩ : EReal)
  else if h : j.val - 2048 < 1024 then (A.dz r ⟨j.val - 2048, h⟩ : EReal)
  else x r j

/-- The gradients of the norm's scale and shift and of the convolution's bias as the first three of forty rows, those of the taps from the ninth. -/
def Arg.stAt (i : Fin 40) (j : Fin 1024) : EReal :=
  if i.val = 0 then (A.dg j : EReal) else if i.val = 1 then (A.db j : EReal) else if i.val = 2 then (A.dcb j : EReal)
  else if h : 8 ≤ i.val ∧ i.val - 8 < 31 then (A.dw ⟨i.val - 8, h.2⟩ j : EReal) else 0

end Step.A

end
-- ==== Proof.Ab.Vals.lean ====
module

public import proofs.«01_k».proof.Proof.Ab.Conv
public import proofs.«01_k».proof.Proof.Ab.Spec
public import Idealize.ShloMosaic.Lib.Pointwise

@[expose] public section

set_option maxRecDepth 16384

noncomputable section

/-! # What the norm computes on a strip of sixteen rows, of real numbers -/

namespace Cert.AbKernelIdeal

open Idealize.ShloMosaic Idealize.ShloMosaic.TcCoe Idealize.ShloMosaic.Tactic
open Step Step.A
open Step.B (mean cen var rst nrm lnGrad lgs sil)
open scoped BigOperators

/-- The strip holds the rows `ρ` of the reals of `A`. -/
structure Str (A : Arg) (ρ : Fin 16 → Fin 4096) (y dy : Vec Ideal S16x1024 .f32) (z : Vec Ideal S16x1024 .bf16) (g b : Vec Ideal S1x1024 .f32) : Prop where
  y : ∀ r j, y (ix2 r j) = (A.y (ρ r) j : EReal)
  dy : ∀ r j, dy (ix2 r j) = (A.dy (ρ r) j : EReal)
  z : ∀ r j, z (ix2 r j) = (A.z (ρ r) j : EReal)
  g : ∀ j, g (ix2 0 j) = (A.g j : EReal)
  b : ∀ j, b (ix2 0 j) = (A.b j : EReal)

variable {A : Arg} {ρ : Fin 16 → Fin 4096} {y dy : Vec Ideal S16x1024 .f32} {z : Vec Ideal S16x1024 .bf16} {g b : Vec Ideal S1x1024 .f32} (H : Str A ρ y dy z g b)

/-- One divided by one plus the exponential of the negative. -/
theorem lgs_coe (z : ℝ) : Ideal.div (1 : EReal) ((1 : EReal) + Ideal.exp ((0 : EReal) - (z : EReal))) = (lgs z : EReal) := by
  rw [← EReal.coe_zero, ← EReal.coe_sub, exp_coe, ← EReal.coe_one, ← EReal.coe_add, div_coe_coe _ (Step.B.lgs_den _)]
  rfl

include H

theorem cen_strip (r : Fin 16) (j : Fin 1024) : Gen.k0_pay14 y (ix2 r j) = (cen (A.y (ρ r)) j : EReal) := by
  pointwise [Gen.k0_pay14]
  simp only [H.y]
  rw [div_1024, ← coe_sum, ← EReal.coe_mul, ← EReal.coe_sub]
  rfl

theorem rst_strip (r : Fin 16) : Gen.k0_pay15 y (ix2 r 0) = (rst (A.y (ρ r)) : EReal) := by
  pointwise [Gen.k0_pay15]
  simp only [cen_strip H, ← EReal.coe_mul]
  rw [div_1024, coe_eps, ← coe_sum, ← EReal.coe_mul, ← EReal.coe_add]
  exact rsqrt_coe (Step.B.var_pos (A.y (ρ r)))

theorem n_strip (r : Fin 16) (j : Fin 1024) : Gen.k0_pay16 y (ix2 r j) = (A.n (ρ r) j : EReal) := by
  pointwise [Gen.k0_pay16]
  rw [cen_strip H, rst_strip H, ← EReal.coe_mul]
  rfl

theorem l_strip (r : Fin 16) (j : Fin 1024) : Gen.k0_pay17 y g b (ix2 r j) = (A.l (ρ r) j : EReal) := by
  pointwise [Gen.k0_pay17]
  rw [n_strip H, H.g, H.b, ← EReal.coe_mul, ← EReal.coe_add]
  rfl

theorem ll_strip (r : Fin 16) (j : Fin 1024) : Gen.k0_pay18 y g b (ix2 r j) = (lgs (A.l (ρ r) j) : EReal) := by
  pointwise [Gen.k0_pay18]
  rw [l_strip H, lgs_coe]

theorem z_strip (r : Fin 16) (j : Fin 1024) : Gen.k0_pay19 z (ix2 r j) = (A.z (ρ r) j : EReal) := by
  pointwise [Gen.k0_pay19]
  exact H.z r j

theorem lz_strip (r : Fin 16) (j : Fin 1024) : Gen.k0_pay21 (Gen.k0_pay20 z) (ix2 r j) = (lgs (A.z (ρ r) j) : EReal) := by
  pointwise [Gen.k0_pay21, Gen.k0_pay20]
  rw [z_strip H, lgs_coe]

theorem dz_strip (r : Fin 16) (j : Fin 1024) :
    Gen.k0_pay22 (Gen.k0_pay17 y g b) (Gen.k0_pay18 y g b) (Gen.k0_pay19 z) (Gen.k0_pay20 z) dy (ix2 r j) = (A.dz (ρ r) j : EReal) := by
  pointwise [Gen.k0_pay22]
  rw [lz_strip H, l_strip H, ll_strip H, z_strip H, H.dy, ← EReal.coe_one]
  simp only [← EReal.coe_mul, ← EReal.coe_sub, ← EReal.coe_add]
  rfl

theorem dl_strip (r : Fin 16) (j : Fin 1024) :
    Gen.k0_pay23 (Gen.k0_pay17 y g b) (Gen.k0_pay18 y g b) (Gen.k0_pay19 z) (Gen.k0_pay20 z) dy (ix2 r j) = (A.dl (ρ r) j : EReal) := by
  pointwise [Gen.k0_pay23]
  rw [lz_strip H, l_strip H, ll_strip H, z_strip H, H.dy, ← EReal.coe_one]
  simp only [← EReal.coe_mul, ← EReal.coe_sub, ← EReal.coe_add]
  rfl

theorem dg_strip (o : Vec Ideal S16x1024 .f32) (r : Fin 16) (j : Fin 1024) :
    Gen.k0_pay24 (Gen.k0_pay16 y) (Gen.k0_pay17 y g b) (Gen.k0_pay18 y g b) (Gen.k0_pay19 z) (Gen.k0_pay20 z) dy o (ix2 r j)
      = o (ix2 r j) + ((A.dl (ρ r) j * A.n (ρ r) j : ℝ) : EReal) := by
  pointwise [Gen.k0_pay24]
  rw [dl_strip H, n_strip H, ← EReal.coe_mul]

theorem db_strip (o : Vec Ideal S16x1024 .f32) (r : Fin 16) (j : Fin 1024) :
    Gen.k0_pay25 (Gen.k0_pay17 y g b) (Gen.k0_pay18 y g b) (Gen.k0_pay19 z) (Gen.k0_pay20 z) dy o (ix2 r j)
      = o (ix2 r j) + ((A.dl (ρ r) j : ℝ) : EReal) := by
  pointwise [Gen.k0_pay25]
  rw [dl_strip H]

theorem dn_strip (r : Fin 16) (j : Fin 1024) :
    Gen.k0_pay26 (Gen.k0_pay17 y g b) (Gen.k0_pay18 y g b) (Gen.k0_pay19 z) (Gen.k0_pay20 z) dy g (ix2 r j) = ((A.dl (ρ r) j * A.g j : ℝ) : EReal) := by
  pointwise [Gen.k0_pay26]
  rw [dl_strip H, H.g, ← EReal.coe_mul]

omit H in
theorem pay5_strip (s : FVec Ideal S16x1 .f32) (n d : FVec Ideal S16x1024 .f32) (f : Fin 16 → Fin 1024 → ℝ) (e : Fin 16 → Fin 1024 → ℝ)
    (hs : ∀ r, s (ix2 r 0) = (rst (f r) : EReal)) (hn : ∀ r j, n (ix2 r j) = (nrm (f r) j : EReal)) (hd : ∀ r j, d (ix2 r j) = (e r j : EReal)) (r : Fin 16) (j : Fin 1024) :
    Gen.k0_pay5 s n d (ix2 r j) = (lnGrad (f r) (e r) j : EReal) := by
  pointwise [Gen.k0_pay5]
  simp only [hs, hn, hd, ← EReal.coe_mul]
  rw [div_1024, div_1024, ← coe_sum, ← coe_sum]
  simp only [← EReal.coe_mul, ← EReal.coe_sub]
  rfl

theorem d_strip (r : Fin 16) (j : Fin 1024) :
    Gen.k0_pay5 (Gen.k0_pay15 y) (Gen.k0_pay16 y) (Gen.k0_pay26 (Gen.k0_pay17 y g b) (Gen.k0_pay18 y g b) (Gen.k0_pay19 z) (Gen.k0_pay20 z) dy g) (ix2 r j)
      = (A.d (ρ r) j : EReal) :=
  pay5_strip _ _ _ (fun r => A.y (ρ r)) (fun r j => A.dl (ρ r) j * A.g j) (rst_strip H) (n_strip H) (dn_strip H) r j

/-! ## The convolution -/

omit H

theorem gate_tile (u : Vec Ideal S16x128 .bf16) (f : Fin 16 → Fin 128 → ℝ) (hu : ∀ i q, u (ix2 i q) = (f i q : EReal)) (i : Fin 16) (q : Fin 128) :
    Gen.k0_pay27 u (ix2 i q) = (lgs (f i q) : EReal) := by
  pointwise [Gen.k0_pay27]
  rw [hu, lgs_coe]

theorem gated_tile (u v : Vec Ideal S16x128 .bf16) (f e : Fin 16 → Fin 128 → ℝ) (hu : ∀ i q, u (ix2 i q) = (f i q : EReal)) (hv : ∀ i q, v (ix2 i q) = (e i q : EReal))
    (i : Fin 16) (q : Fin 128) : Gen.k0_pay28 u v (ix2 i q) = ((e i q * lgs (f i q) : ℝ) : EReal) := by
  pointwise [Gen.k0_pay28]
  rw [gate_tile u f hu, hv, ← EReal.coe_mul]

theorem meet_apply (win : Vec Ideal S96x128 .f32) (D : ℕ → Fin 128 → ℝ) (hw : ∀ p q, win (ix2 p q) = (D p.val q : EReal)) (j : ℕ) (hj : j < 31) (m i : Fin 8) (q : Fin 128) :
    meet win j hj m (ix2 i q) = (D (8 * m.val + i.val + ofs j) q : EReal) := by
  have hm := m.isLt
  refine Eq.trans (congrArg win (funext fun a => ?_)) ((hw ⟨8 * m.val + i.val + ofs j, by have := ofs_le j hj; omega⟩ q))
  apply Fin.ext
  fin_cases a
  · show j / 4 + ((m.val + j % 4) * 8 + i.val) = 8 * m.val + i.val + ofs j
    unfold ofs
    omega
  · show 0 + (0 + q.val) = q.val
    omega

theorem da_acc (w : Fin 31 → Vec Ideal S8x128 .f32) (ω : ℕ → Fin 128 → ℝ) (hω : ∀ j i q, w j (ix2 i q) = (ω j.val q : EReal))
    (win : Vec Ideal S96x128 .f32) (D : ℕ → Fin 128 → ℝ) (hw : ∀ p q, win (ix2 p q) = (D p.val q : EReal)) (m i : Fin 8) (q : Fin 128) (n : ℕ) (h : n ≤ 31) :
    daAcc w win m n h (ix2 i q) = ((∑ j ∈ Finset.range n, ω j q * D (8 * m.val + i.val + ofs j) q : ℝ) : EReal) := by
  induction n with
  | zero =>
    rw [Finset.sum_range_zero]
    unfold daAcc
    pointwise [Gen.k0_pay44]
    exact EReal.coe_zero.symm
  | succ n ih =>
    rw [Finset.sum_range_succ, EReal.coe_add, ← ih (Nat.le_of_succ_le h), EReal.coe_mul, ← meet_apply win D hw n h m i q, ← hω ⟨n, h⟩ i q]
    show (addf (daAcc w win m n (Nat.le_of_succ_le h)) (mulf (shapeCast S8x128 (w ⟨n, h⟩) Gen.shapeCasts_S8x128_S8x128) (meet win n h m)) : FVec Ideal S8x128 .f32) (ix2 i q) = _
    pointwise [shapeCast]

theorem tap_new (a : Fin 4 → FVec Ideal S16x128 .f32) (α : ℕ → Fin 128 → ℝ) (ha : ∀ h i q, a h (ix2 i q) = (α (16 * h.val + i.val) q : EReal))
    (win : Vec Ideal S96x128 .f32) (D : ℕ → Fin 128 → ℝ) (hw : ∀ p q, win (ix2 p q) = (D p.val q : EReal)) (j : ℕ) (hj : j < 31) (old : FVec Ideal S8x128 .f32) (i : Fin 8) (q : Fin 128) :
    tapNew a win j hj old (ix2 i q) = old (ix2 i q) + ((∑ m ∈ Finset.range 8, α (8 * m + i.val) q * D (8 * m + i.val + ofs j) q : ℝ) : EReal) := by
  have hh : ∀ m : Fin 8, half (a ⟨m.val / 2, by have := m.isLt; omega⟩) ⟨m.val % 2, Nat.mod_lt _ (by decide)⟩ (ix2 i q) = (α (8 * m.val + i.val) q : EReal) := fun m => by
    refine Eq.trans (congrArg (a _) (funext fun a => Fin.ext ?_)) ((ha ⟨m.val / 2, by have := m.isLt; omega⟩ ⟨8 * (m.val % 2) + i.val, by omega⟩ q).trans ?_)
    · fin_cases a
      · rfl
      · show 0 + q.val = q.val
        omega
    · exact congrArg (fun n => (α n q : EReal)) (show 16 * (m.val / 2) + (8 * (m.val % 2) + i.val) = 8 * m.val + i.val by omega)
  have h0 : half (a 0) 0 (ix2 i q) = _ := hh 0
  have h1 : half (a 0) 1 (ix2 i q) = _ := hh 1
  have h2 : half (a 1) 0 (ix2 i q) = _ := hh 2
  have h3 : half (a 1) 1 (ix2 i q) = _ := hh 3
  have h4 : half (a 2) 0 (ix2 i q) = _ := hh 4
  have h5 : half (a 2) 1 (ix2 i q) = _ := hh 5
  have h6 : half (a 3) 0 (ix2 i q) = _ := hh 6
  have h7 : half (a 3) 1 (ix2 i q) = _ := hh 7
  unfold tapNew tapPart
  pointwise [shapeCast]
  simp only [h0, h1, h2, h3, h4, h5, h6, h7, meet_apply win D hw, ← EReal.coe_mul, ← EReal.coe_add]
  refine congrArg _ (congrArg Real.toEReal ?_)
  simp only [Finset.sum_range_succ, Finset.sum_range_zero, zero_add]
  rfl

/-- The order in which the taps are taken passes each of them once. -/
theorem sum_ofs (f : ℕ → ℝ) : ∑ j ∈ Finset.range 31, f (30 - ofs j) = ∑ k : Fin 31, f k.val := by
  rw [← Finset.sum_range f]
  simp only [Finset.sum_range_succ, Finset.sum_range_zero, ofs, Nat.reduceDiv, Nat.reduceMod, Nat.reduceMul, Nat.reduceAdd, Nat.reduceSub]
  ring

end Cert.AbKernelIdeal

end
-- ==== Proof.Ab.Sums.lean ====
module

public import proofs.«01_k».proof.Proof.Ab.Spec

@[expose] public section

noncomputable section

/-! # A sum over all rows, in the order of the blocks, from the last to the first -/

namespace Step.A

open scoped BigOperators

theorem ext_at (f : Fin 4096 → ℝ) (n : ℕ) (h : n < 4096) : ext f n = f ⟨n, h⟩ := dif_pos h

theorem sum_ext (f : Fin 4096 → ℝ) : ∑ n ∈ Finset.range 4096, ext f n = ∑ i, f i :=
  (Finset.sum_range (ext f)).trans (Finset.sum_congr rfl fun i _ => ext_val f i)

theorem sum_split (f : ℕ → ℝ) (a b : ℕ) : ∑ p ∈ Finset.range a, ∑ k ∈ Finset.range b, f (b * p + k) = ∑ n ∈ Finset.range (a * b), f n := by
  induction a with
  | zero => simp
  | succ a ih =>
    rw [Finset.sum_range_succ, ih, Nat.add_mul, Nat.one_mul, Finset.sum_range_add]
    refine congrArg _ (Finset.sum_congr rfl fun k _ => congrArg f ?_)
    rw [Nat.mul_comm]

/-- What one of `L` rows of sums holds after `n` blocks, each of `K` groups of `L` rows. -/
def part (f : ℕ → ℝ) (L K n s : ℕ) : ℝ := ∑ p ∈ Finset.range n, ∑ k ∈ Finset.range K, f (256 * (15 - p) + (L * k + s))

theorem sum_parts (f : Fin 4096 → ℝ) (L K : ℕ) (h : K * L = 256) : ∑ s ∈ Finset.range L, part (ext f) L K 16 s = ∑ i, f i := by
  unfold part
  rw [Finset.sum_comm, ← sum_ext f, ← sum_split (ext f) 16 256, ← Finset.sum_range_reflect]
  refine Finset.sum_congr rfl fun p hp => ?_
  have hp' : p < 16 := Finset.mem_range.mp hp
  rw [Finset.sum_comm]
  refine (sum_split (fun n => ext f (256 * (15 - (16 - 1 - p)) + n)) K L).trans ?_
  rw [h]
  refine Finset.sum_congr rfl fun n _ => congrArg (fun q => ext f (256 * q + n)) ?_
  omega

end Step.A

end
-- ==== Proof.Ab.Blk.lean ====
module

public import proofs.«01_k».proof.Proof.Ab.Vals
public import proofs.«01_k».proof.Proof.Ab.Tail
public import proofs.«01_k».proof.Proof.Ab.Sums

@[expose] public section

set_option maxRecDepth 16384

noncomputable section

/-! # What the kernel computes of one block of 256 rows, where its arguments are real -/

namespace Cert.AbKernelIdeal

open Idealize.ShloMosaic Idealize.ShloMosaic.TcCoe Idealize.ShloMosaic.Tactic
open Step Step.A
open Step.B (lgs)
open scoped BigOperators

/-- A window, entry by entry. -/
theorem window_ix2 {α : Type} {n0 n1 m0 m1 : ℕ} (x : (⟨2, ![n0, n1]⟩ : Shape).Idx → α) (off : Fin 2 → ℕ)
    (inb : ∀ a, off a + (⟨2, ![m0, m1]⟩ : Shape).size a ≤ (⟨2, ![n0, n1]⟩ : Shape).size a) (p q : ℕ) (e : off = ![p, q])
    (r : Fin m0) (j : Fin m1) (i : Fin n0) (l : Fin n1) (hi : i.val = p + r.val) (hl : l.val = q + j.val) :
    VecWindow.window (s := ⟨2, ![n0, n1]⟩) x off (⟨2, ![m0, m1]⟩ : Shape).size inb (ix2 r j) = x (ix2 i l) := by
  subst e
  refine congrArg x (funext fun a => Fin.ext ?_)
  fin_cases a
  · show p + 1 * r.val = i.val
    omega
  · show q + 1 * j.val = l.val
    omega

/-- Row `i` of the block of point `t`; -/
def brow (t : Fin 16) (i : Fin 256) : Fin 4096 := ⟨256 * (15 - t.val) + i.val, by omega⟩
/-- row `r` of strip `k` of a block; -/
def srow (k : ℕ) (hk : k < 16) (r : Fin 16) : Fin 256 := ⟨16 * k + r.val, by omega⟩
/-- row `n` of strip `k` of the second loop; -/
def trow (k : ℕ) (hk : k < 4) (n : ℕ) (hn : n < 64) : Fin 256 := ⟨64 * k + n, by omega⟩
/-- lane `q` of group `g`. -/
def lane (g : Fin 8) (q : Fin 128) : Fin 1024 := ⟨128 * g.val + q.val, by omega⟩

/-- The convolution's cotangent, continued by zeros. -/
def dx (A : Arg) (n : ℕ) (j : Fin 1024) : ℝ := ext (fun r => A.d r j) n

/-- The blocks of a point hold the reals of `A`. -/
structure Blk (A : Arg) (t : Fin 16) (x1 : Vec Ideal S256x3072 .bf16) (x2 x3 : Vec Ideal S256x1024 .f32) (w : Vec Ideal S248x1024 .f32)
    (g b : Vec Ideal S1x1024 .f32) : Prop where
  v : ∀ (i : Fin 256) (j : Fin 1024), x1 (ix2 i ⟨0 + j.val, by omega⟩) = (A.v (brow t i) j : EReal)
  u : ∀ (i : Fin 256) (j : Fin 1024), x1 (ix2 i ⟨1024 + j.val, by omega⟩) = (A.u (brow t i) j : EReal)
  z : ∀ (i : Fin 256) (j : Fin 1024), x1 (ix2 i ⟨2048 + j.val, by omega⟩) = (A.z (brow t i) j : EReal)
  y : ∀ i j, x2 (ix2 i j) = (A.y (brow t i) j : EReal)
  dy : ∀ i j, x3 (ix2 i j) = (A.dy (brow t i) j : EReal)
  w : ∀ (k : Fin 31) (s : Fin 8) (j : Fin 1024), w (ix2 ⟨8 * k.val + s.val, by omega⟩ j) = (A.w k j : EReal)
  g : ∀ j, g (ix2 0 j) = (A.g j : EReal)
  b : ∀ j, b (ix2 0 j) = (A.b j : EReal)

variable {A : Arg} {t : Fin 16} {x1 : Vec Ideal S256x3072 .bf16} {x2 x3 : Vec Ideal S256x1024 .f32} {w : Vec Ideal S248x1024 .f32}
  {g b : Vec Ideal S1x1024 .f32} (H : Blk A t x1 x2 x3 w g b)
include H

/-! ## First loop -/

theorem str (k : Fin k0_t1_loop.trips) (hk : k.val < 16) : Str A (fun r => brow t (srow k.val hk r)) (s1 x2 k) (s1 x3 k) (sZ x1 k) g b where
  y r j := (window_ix2 x2 _ _ _ _ (Gen.k0_off1_eq k) r j (srow k.val hk r) j rfl (Nat.zero_add _).symm).trans (H.y _ j)
  dy r j := (window_ix2 x3 _ _ _ _ (Gen.k0_off1_eq k) r j (srow k.val hk r) j rfl (Nat.zero_add _).symm).trans (H.dy _ j)
  z r j := (window_ix2 x1 _ _ _ _ (Gen.k0_off2_eq k) r j (srow k.val hk r) ⟨2048 + j.val, by omega⟩ rfl rfl).trans (H.z _ j)
  g := H.g
  b := H.b

theorem dyS_apply (k : Fin k0_t1_loop.trips) (hk : k.val < 16) (r : Fin 16) (j : Fin 1024) :
    dyS x1 x2 x3 g b k (ix2 r j) = (A.d (brow t (srow k.val hk r)) j : EReal) := by
  unfold dyS dnS
  pointwise [Gen.k0_pay7]
  exact d_strip (str H k hk) r j

theorem dzS_apply (k : Fin k0_t1_loop.trips) (hk : k.val < 16) (r : Fin 16) (j : Fin 1024) :
    dzS x1 x2 x3 g b k (ix2 r j) = (A.dz (brow t (srow k.val hk r)) j : EReal) := dz_strip (str H k hk) r j

/-- The cotangents of a block and of the rows after it. -/
theorem dyBlk_apply (hal : Vec Ideal S32x1024 .f32) (hh : ∀ i j, hal (ix2 i j) = (dx A (256 * (15 - t.val) + 256 + i.val) j : EReal)) (i : Fin 288) (j : Fin 1024) :
    dyBlk x1 x2 x3 g b hal (ix2 i j) = (dx A (256 * (15 - t.val) + i.val) j : EReal) := by
  unfold dyBlk
  by_cases h : i.val < 256
  · refine (dif_pos h).trans ((congrArg (dyS x1 x2 x3 g b (kOf i.val h)) (show _ = ix2 ⟨i.val % 16, Nat.mod_lt _ (by decide)⟩ j from ?_)).trans
      ((dyS_apply H (kOf i.val h) (by show i.val / 16 < 16; omega) ⟨i.val % 16, Nat.mod_lt _ (by decide)⟩ j).trans (congrArg Real.toEReal ?_)))
    · funext a
      fin_cases a <;> rfl
    · unfold dx
      rw [ext_at _ _ (by omega)]
      refine congrArg (fun r => A.d r j) (Fin.ext ?_)
      show 256 * (15 - t.val) + (16 * (i.val / 16) + i.val % 16) = 256 * (15 - t.val) + i.val
      omega
  · refine (dif_neg h).trans ((congrArg hal (show _ = ix2 ⟨i.val - 256, by omega⟩ j from ?_)).trans ((hh ⟨i.val - 256, by omega⟩ j).trans (congrArg (fun n => ((dx A n j : ℝ) : EReal)) ?_)))
    · funext a
      fin_cases a <;> rfl
    · show 256 * (15 - t.val) + 256 + (i.val - 256) = 256 * (15 - t.val) + i.val
      omega

omit H in
theorem halOf_carry (x : Vec Ideal S288x1024 .f32) (i : Fin 32) (j : Fin 1024) : halOf (carry x) (ix2 i j) = x (ix2 ⟨i.val, by omega⟩ j) := by
  unfold carry
  rw [halOf_put]
  pointwise [Gen.k0_pay9]
  exact window_ix2 x _ _ 0 0 rfl i j ⟨i.val, by omega⟩ j (Nat.zero_add _).symm (Nat.zero_add _).symm

/-! ## Second loop -/

section Conv

variable (dy : Vec Ideal S288x1024 .f32) (hd : ∀ i j, dy (ix2 i j) = (dx A (256 * (15 - t.val) + i.val) j : EReal))
  (k : Fin k0_t2_loop.trips) (hk : k.val < 4) (lt : Fin 8)

omit H in
include hd hk in
theorem winS_apply (p : Fin 96) (q : Fin 128) : winS dy k lt (ix2 p q) = (dx A (256 * (15 - t.val) + 64 * k.val + p.val) (lane lt q) : EReal) :=
  (window_ix2 dy _ _ _ _ (winOff_eq k lt) p q ⟨64 * k.val + p.val, by omega⟩ (lane lt q) rfl rfl).trans ((hd _ _).trans
    (congrArg (fun n => ((dx A n (lane lt q) : ℝ) : EReal)) (Nat.add_assoc _ _ _).symm))

theorem tapS_apply (j : Fin 31) (i : Fin 8) (q : Fin 128) : tapS w lt j (ix2 i q) = (A.w ⟨30 - ofs j.val, by omega⟩ (lane lt q) : EReal) :=
  (window_ix2 w _ _ _ _ rfl i q ⟨8 * (30 - ofs j.val) + i.val, by omega⟩ (lane lt q) rfl rfl).trans (H.w ⟨30 - ofs j.val, by omega⟩ i _)

theorem gluS_apply (h : Fin 4) (i : Fin 16) (q : Fin 128) :
    gluS x1 k lt h (ix2 i q) = (A.u (brow t (trow k.val hk (16 * h.val + i.val) (by omega))) (lane lt q) : EReal) :=
  (window_ix2 x1 _ _ _ _ (gluOff_eq k lt h) i q (trow k.val hk (16 * h.val + i.val) (by omega)) ⟨1024 + (lane lt q).val, by omega⟩
    (Nat.add_assoc _ _ _).symm (Nat.add_assoc _ _ _).symm).trans (H.u _ _)

theorem valS_apply (h : Fin 4) (i : Fin 16) (q : Fin 128) :
    valS x1 k lt h (ix2 i q) = (A.v (brow t (trow k.val hk (16 * h.val + i.val) (by omega))) (lane lt q) : EReal) :=
  (window_ix2 x1 _ _ _ _ (valOff_eq k lt h) i q (trow k.val hk (16 * h.val + i.val) (by omega)) ⟨0 + (lane lt q).val, by omega⟩
    (Nat.add_assoc _ _ _).symm (Nat.zero_add _)).trans (H.v _ _)

theorem aS_apply (h : Fin 4) (i : Fin 16) (q : Fin 128) :
    aS x1 k lt h (ix2 i q) = (A.a (brow t (trow k.val hk (16 * h.val + i.val) (by omega))) (lane lt q) : EReal) :=
  gated_tile _ _ (fun i q => A.u (brow t (trow k.val hk (16 * h.val + i.val) (by omega))) (lane lt q))
    (fun i q => A.v (brow t (trow k.val hk (16 * h.val + i.val) (by omega))) (lane lt q)) (gluS_apply H k hk lt h) (valS_apply H k hk lt h) i q

include hd in
theorem da16_apply (h : Fin 4) (i : Fin 16) (q : Fin 128) :
    da16 (tapS w lt) (winS dy k lt) h (ix2 i q) = (A.da (brow t (trow k.val hk (16 * h.val + i.val) (by omega))) (lane lt q) : EReal) := by
  have key : ∀ (m : Fin 8) (s : Fin 8) (hm : 8 * m.val + s.val = 16 * h.val + i.val),
      daAcc (tapS w lt) (winS dy k lt) m 31 (le_refl _) (ix2 s q) = (A.da (brow t (trow k.val hk (16 * h.val + i.val) (by omega))) (lane lt q) : EReal) := by
    intro m s hm
    rw [da_acc (tapS w lt) (fun j q => A.w ⟨30 - ofs j, by omega⟩ (lane lt q)) (tapS_apply H k lt) (winS dy k lt)
      (fun n q => dx A (256 * (15 - t.val) + 64 * k.val + n) (lane lt q)) (winS_apply dy hd k hk lt)]
    refine congrArg Real.toEReal ?_
    unfold Arg.da
    refine Eq.trans (Finset.sum_congr rfl fun j hj => ?_) ((sum_ofs (fun n => if hn : n < 31 then A.w ⟨n, hn⟩ (lane lt q) * dx A ((brow t (trow k.val hk (16 * h.val + i.val) (by omega))).val + 30 - n) (lane lt q) else 0)).trans
      (Finset.sum_congr rfl fun n _ => dif_pos n.isLt))
    have ho := ofs_le j (Finset.mem_range.mp hj)
    rw [dif_pos (show 30 - ofs j < 31 by omega)]
    refine congrArg (fun n => A.w _ (lane lt q) * dx A n (lane lt q)) ?_
    show 256 * (15 - t.val) + 64 * k.val + (8 * m.val + s.val + ofs j) = 256 * (15 - t.val) + (64 * k.val + (16 * h.val + i.val)) + 30 - (30 - ofs j)
    omega
  unfold da16
  pointwise
  by_cases hi : i.val < 8
  · rw [dif_pos hi]
    exact key ⟨2 * h.val, by omega⟩ ⟨i.val, hi⟩ (by show 8 * (2 * h.val) + i.val = 16 * h.val + i.val; omega)
  · rw [dif_neg hi]
    exact key ⟨2 * h.val + 1, by omega⟩ ⟨i.val - 8, by omega⟩ (by show 8 * (2 * h.val + 1) + (i.val - 8) = 16 * h.val + i.val; omega)

include hd in
theorem val_apply (h : Fin 4) (i : Fin 16) (q : Fin 128) :
    outS x1 w dy k lt h 0 (ix2 i q) = (A.dv (brow t (trow k.val hk (16 * h.val + i.val) (by omega))) (lane lt q) : EReal) := by
  show dvalT (tapS w lt) (winS dy k lt) h (gluS x1 k lt h) (ix2 i q) = _
  pointwise [dvalT]
  rw [da16_apply H dy hd k hk lt h i q, gate_tile _ _ (gluS_apply H k hk lt h), ← EReal.coe_mul]
  rfl

include hd in
theorem glu_apply (h : Fin 4) (i : Fin 16) (q : Fin 128) :
    outS x1 w dy k lt h 1 (ix2 i q) = (A.du (brow t (trow k.val hk (16 * h.val + i.val) (by omega))) (lane lt q) : EReal) := by
  show dgluT (tapS w lt) (winS dy k lt) h (gluS x1 k lt h) (valS x1 k lt h) (ix2 i q) = _
  pointwise [dgluT, Gen.k0_pay8]
  rw [da16_apply H dy hd k hk lt h i q, gate_tile _ _ (gluS_apply H k hk lt h),
    gated_tile _ _ _ _ (gluS_apply H k hk lt h) (valS_apply H k hk lt h), ← EReal.coe_one, ← EReal.coe_mul, ← EReal.coe_sub, ← EReal.coe_mul]
  rfl

end Conv

end Cert.AbKernelIdeal

end
-- ==== Proof.Ab.Parts.lean ====
module

public import proofs.«01_k».proof.Proof.Ab.Blk

@[expose] public section

set_option maxRecDepth 16384

noncomputable section

/-! # A block of the first result, and the sums after a block -/

namespace Cert.AbKernelIdeal

open Idealize.ShloMosaic Idealize.ShloMosaic.TcCoe Idealize.ShloMosaic.Tactic
open Step Step.A
open Step.B (lgs)
open scoped BigOperators

variable {A : Arg} {t : Fin 16} {x1 : Vec Ideal S256x3072 .bf16} {x2 x3 : Vec Ideal S256x1024 .f32} {w : Vec Ideal S248x1024 .f32}
  {g b : Vec Ideal S1x1024 .f32} (H : Blk A t x1 x2 x3 w g b)
  (dy : Vec Ideal S288x1024 .f32) (hd : ∀ i j, dy (ix2 i j) = (dx A (256 * (15 - t.val) + i.val) j : EReal))

theorem trow_eq (i : Fin 256) (h : i.val / 64 < 4) (h' : 16 * (i.val % 64 / 16) + i.val % 16 < 64) :
    trow (i.val / 64) h (16 * (i.val % 64 / 16) + i.val % 16) h' = i :=
  Fin.ext (by show 64 * (i.val / 64) + (16 * (i.val % 64 / 16) + i.val % 16) = i.val; omega)

include H

/-! ## The first result -/

include hd in
theorem dp_val (i : Fin 256) (j : Fin 1024) : dpBlk x1 x2 x3 g b w dy (ix2 i ⟨0 + j.val, by omega⟩) = (A.dv (brow t i) j : EReal) := by
  unfold dpBlk
  refine (dif_pos (show 0 + j.val < 2048 by omega)).trans ?_
  show outS x1 w dy (tOf i.val i.isLt) (ltC (0 + j.val)) (hR i.val) (cC (0 + j.val)) (in16t i.val (0 + j.val)) = _
  rw [show cC (0 + j.val) = 0 from Fin.ext (by show (0 + j.val) / 1024 % 2 = 0; omega),
    show in16t i.val (0 + j.val) = ix2 ⟨i.val % 16, Nat.mod_lt _ (by decide)⟩ ⟨(0 + j.val) % 128, Nat.mod_lt _ (by decide)⟩ from by funext a; fin_cases a <;> rfl,
    val_apply H dy hd (tOf i.val i.isLt) (by show i.val / 64 < 4; omega)]
  refine congrArg₂ (fun r l => ((A.dv (brow t r) l : ℝ) : EReal)) (trow_eq i _ _) (Fin.ext ?_)
  show 128 * ((0 + j.val) % 1024 / 128) + (0 + j.val) % 128 = j.val
  omega

include hd in
theorem dp_glu (i : Fin 256) (j : Fin 1024) : dpBlk x1 x2 x3 g b w dy (ix2 i ⟨1024 + j.val, by omega⟩) = (A.du (brow t i) j : EReal) := by
  unfold dpBlk
  refine (dif_pos (show 1024 + j.val < 2048 by omega)).trans ?_
  show outS x1 w dy (tOf i.val i.isLt) (ltC (1024 + j.val)) (hR i.val) (cC (1024 + j.val)) (in16t i.val (1024 + j.val)) = _
  rw [show cC (1024 + j.val) = 1 from Fin.ext (by show (1024 + j.val) / 1024 % 2 = 1; omega),
    show in16t i.val (1024 + j.val) = ix2 ⟨i.val % 16, Nat.mod_lt _ (by decide)⟩ ⟨(1024 + j.val) % 128, Nat.mod_lt _ (by decide)⟩ from by funext a; fin_cases a <;> rfl,
    glu_apply H dy hd (tOf i.val i.isLt) (by show i.val / 64 < 4; omega)]
  refine congrArg₂ (fun r l => ((A.du (brow t r) l : ℝ) : EReal)) (trow_eq i _ _) (Fin.ext ?_)
  show 128 * ((1024 + j.val) % 1024 / 128) + (1024 + j.val) % 128 = j.val
  omega

theorem dp_gate (i : Fin 256) (j : Fin 1024) : dpBlk x1 x2 x3 g b w dy (ix2 i ⟨2048 + j.val, by omega⟩) = (A.dz (brow t i) j : EReal) := by
  unfold dpBlk
  refine (dif_neg (show ¬ 2048 + j.val < 2048 by omega)).trans ?_
  refine (congrArg (dzS x1 x2 x3 g b (kOf i.val i.isLt)) (show _ = ix2 ⟨i.val % 16, Nat.mod_lt _ (by decide)⟩ j from ?_)).trans
    ((dzS_apply H (kOf i.val i.isLt) (by show i.val / 16 < 16; omega) ⟨i.val % 16, Nat.mod_lt _ (by decide)⟩ j).trans
      (congrArg (fun r => ((A.dz (brow t r) j : ℝ) : EReal)) (Fin.ext ?_)))
  · funext a
    fin_cases a
    · rfl
    · exact Fin.ext (show 2048 + j.val - 2048 = j.val by omega)
  · show 16 * (i.val / 16) + i.val % 16 = i.val
    omega

omit H in
theorem dpAt_val (x : Fin 4096 → Fin 8192 → EReal) (r : Fin 4096) (j : Fin 8192) (l : Fin 1024) (h : j.val = l.val) : A.dpAt x r j = (A.dv r l : EReal) := by
  have hl := l.isLt
  unfold Arg.dpAt
  rw [dif_pos (show j.val < 1024 by omega)]
  exact congrArg (fun n => ((A.dv r n : ℝ) : EReal)) (Fin.ext h)

omit H in
theorem dpAt_glu (x : Fin 4096 → Fin 8192 → EReal) (r : Fin 4096) (j : Fin 8192) (l : Fin 1024) (h : j.val = 1024 + l.val) : A.dpAt x r j = (A.du r l : EReal) := by
  have hl := l.isLt
  unfold Arg.dpAt
  rw [dif_neg (show ¬j.val < 1024 by omega), dif_pos (show j.val - 1024 < 1024 by omega)]
  exact congrArg (fun n => ((A.du r n : ℝ) : EReal)) (Fin.ext (show j.val - 1024 = l.val by omega))

omit H in
theorem dpAt_gate (x : Fin 4096 → Fin 8192 → EReal) (r : Fin 4096) (j : Fin 8192) (l : Fin 1024) (h : j.val = 2048 + l.val) : A.dpAt x r j = (A.dz r l : EReal) := by
  have hl := l.isLt
  unfold Arg.dpAt
  rw [dif_neg (show ¬j.val < 1024 by omega), dif_neg (show ¬j.val - 1024 < 1024 by omega), dif_pos (show j.val - 2048 < 1024 by omega)]
  exact congrArg (fun n => ((A.dz r n : ℝ) : EReal)) (Fin.ext (show j.val - 2048 = l.val by omega))

include hd in
theorem dpBlk_apply (x : Fin 4096 → Fin 8192 → EReal) (i : Fin 256) (j : Fin 3072) (n : Fin 8192) (hn : n.val = j.val) :
    dpBlk x1 x2 x3 g b w dy (ix2 i j) = A.dpAt x (brow t i) n := by
  have hj := j.isLt
  have hv := dp_val H dy hd i
  have hu := dp_glu H dy hd i
  have hz := dp_gate H dy i
  generalize dpBlk x1 x2 x3 g b w dy = D at hv hu hz ⊢
  by_cases h0 : j.val < 1024
  · rw [dpAt_val x _ n ⟨j.val, h0⟩ hn, ← hv]
    exact congrArg (fun l => D (ix2 i l)) (Fin.ext (Nat.zero_add _).symm)
  by_cases h1 : j.val < 2048
  · rw [dpAt_glu x _ n ⟨j.val - 1024, by omega⟩ (by show n.val = 1024 + (j.val - 1024); omega), ← hu]
    exact congrArg (fun l => D (ix2 i l)) (Fin.ext (show j.val = 1024 + (j.val - 1024) by omega))
  · rw [dpAt_gate x _ n ⟨j.val - 2048, by omega⟩ (by show n.val = 2048 + (j.val - 2048); omega), ← hz]
    exact congrArg (fun l => D (ix2 i l)) (Fin.ext (show j.val = 2048 + (j.val - 2048) by omega))

/-! ## The sums over the rows -/

/-- The terms of the three sums. -/
def term (A : Arg) (q : Fin 3) (j : Fin 1024) (r : Fin 4096) : ℝ := ![A.dl r j * A.n r j, A.dl r j, A.d r j] q

theorem acStep_apply (k : Fin k0_t1_loop.trips) (hk : k.val < 16) (S : Vec Ideal S48x1024 .f32) (q : Fin 3) (r : Fin 16) (j : Fin 1024) :
    acStep x1 x2 x3 g b k S (ix2 ⟨16 * q.val + r.val, by omega⟩ j)
      = S (ix2 ⟨16 * q.val + r.val, by omega⟩ j) + (ext (term A q j) (256 * (15 - t.val) + (16 * k.val + r.val)) : EReal) := by
  have e : ∀ q : Fin 3, accW S q (ix2 r j) = S (ix2 ⟨16 * q.val + r.val, by omega⟩ j) := fun q =>
    window_ix2 S _ _ _ _ rfl r j ⟨16 * q.val + r.val, by omega⟩ j rfl (Nat.zero_add _).symm
  have hr := r.isLt
  have hj := j.isLt
  have ht := t.isLt
  rw [ext_at _ _ (by omega)]
  unfold acStep VecWindow.put
  fin_cases q
  · refine (dif_neg (fun hh => by
      have c0 : 32 ≤ 16 * 0 + r.val := (hh 0).1
      omega)).trans ?_
    refine (dif_neg (fun hh => by
      have c0 : 16 ≤ 16 * 0 + r.val := (hh 0).1
      omega)).trans ?_
    refine (dif_pos (fun a => by
      fin_cases a
      · exact ⟨Nat.zero_le _, show 16 * 0 + r.val < 0 + 16 by omega⟩
      · exact ⟨Nat.zero_le _, show j.val < 0 + 1024 by omega⟩)).trans ?_
    refine (congrArg (sumG x1 x2 x3 g b k (accW S 0)) (show _ = ix2 r j from ?_)).trans ((dg_strip (str H k hk) (accW S 0) r j).trans (congrArg (· + _) (e 0)))
    funext a
    fin_cases a
    · exact Fin.ext (show 16 * 0 + r.val - 0 = r.val by omega)
    · exact Fin.ext (show j.val - 0 = j.val by omega)
  · refine (dif_neg (fun hh => by
      have c0 : 32 ≤ 16 * 1 + r.val := (hh 0).1
      omega)).trans ?_
    refine (dif_pos (fun a => by
      fin_cases a
      · exact ⟨show 16 ≤ 16 * 1 + r.val by omega, show 16 * 1 + r.val < 16 + 16 by omega⟩
      · exact ⟨Nat.zero_le _, show j.val < 0 + 1024 by omega⟩)).trans ?_
    refine (congrArg (sumB x1 x2 x3 g b k (accW S 1)) (show _ = ix2 r j from ?_)).trans ((db_strip (str H k hk) (accW S 1) r j).trans (congrArg (· + _) (e 1)))
    funext a
    fin_cases a
    · exact Fin.ext (show 16 * 1 + r.val - 16 = r.val by omega)
    · exact Fin.ext (show j.val - 0 = j.val by omega)
  · refine (dif_pos (fun a => by
      fin_cases a
      · exact ⟨show 32 ≤ 16 * 2 + r.val by omega, show 16 * 2 + r.val < 32 + 16 by omega⟩
      · exact ⟨Nat.zero_le _, show j.val < 0 + 1024 by omega⟩)).trans ?_
    refine (congrArg (sumC x1 x2 x3 g b k (accW S 2)) (show _ = ix2 r j from ?_)).trans ?_
    · funext a
      fin_cases a
      · exact Fin.ext (show 16 * 2 + r.val - 32 = r.val by omega)
      · exact Fin.ext (show j.val - 0 = j.val by omega)
    · unfold sumC dnS
      pointwise [Gen.k0_pay6]
      exact (congrArg₂ (· + ·) (e 2) (d_strip (str H k hk) r j))

theorem acBlk_apply (S : Vec Ideal S48x1024 .f32) (q : Fin 3) (r : Fin 16) (j : Fin 1024) (x : ℝ) (hS : S (ix2 ⟨16 * q.val + r.val, by omega⟩ j) = (x : EReal)) :
    acBlk x1 x2 x3 g b S (ix2 ⟨16 * q.val + r.val, by omega⟩ j)
      = ((x + ∑ k ∈ Finset.range 16, ext (term A q j) (256 * (15 - t.val) + (16 * k + r.val)) : ℝ) : EReal) := by
  have key : ∀ n ≤ 16, Step.fold _ (acStep x1 x2 x3 g b) S n (ix2 ⟨16 * q.val + r.val, by omega⟩ j)
      = ((x + ∑ k ∈ Finset.range n, ext (term A q j) (256 * (15 - t.val) + (16 * k + r.val)) : ℝ) : EReal) := by
    intro n hn
    induction n with
    | zero =>
      rw [Finset.sum_range_zero, add_zero]
      exact hS
    | succ n ih =>
      rw [Step.fold_succ _ _ _ _ (lt_of_lt_of_eq hn trips1.symm), acStep_apply H ⟨n, _⟩ hn, ih (by omega), Finset.sum_range_succ, ← EReal.coe_add]
      exact congrArg Real.toEReal (add_assoc _ _ _)
  exact (congrArg (fun n => Step.fold _ (acStep x1 x2 x3 g b) S n (ix2 ⟨16 * q.val + r.val, by omega⟩ j)) trips1).trans (key 16 (le_refl _))

/-! ## The taps' sums -/

/-- The terms of a tap's sum. -/
def tapTerm (A : Arg) (k : Fin 31) (j : Fin 1024) (r : Fin 4096) : ℝ := A.a r j * dx A (r.val + 30 - k.val) j

include hd in
theorem tapNext_apply (n : Fin k0_t2_loop.trips) (hn : n.val < 4) (T : Vec Ideal S248x1024 .f32) (k : Fin 31) (s : Fin 8) (j : Fin 1024) :
    tapNext x1 dy n T (ix2 ⟨8 * k.val + s.val, by omega⟩ j)
      = T (ix2 ⟨8 * k.val + s.val, by omega⟩ j) + ((∑ u ∈ Finset.range 8, ext (tapTerm A k j) (256 * (15 - t.val) + (8 * (8 * n.val + u) + s.val)) : ℝ) : EReal) := by
  have hk := k.isLt
  have hs := s.isLt
  have hj := j.isLt
  have ht := t.isLt
  unfold tapNext
  rw [taps_at]
  show newS x1 dy T n (ltC j.val) (jR (8 * k.val + s.val) _) (in8t (8 * k.val + s.val) j.val) = _
  have hl : lane (ltC j.val) ⟨j.val % 128, Nat.mod_lt _ (by decide)⟩ = j := Fin.ext (by show 128 * (j.val % 1024 / 128) + j.val % 128 = j.val; omega)
  have ho : ofs (jR (8 * k.val + s.val) (by omega)).val = 30 - k.val := by
    show ofs (4 * ((30 - (8 * k.val + s.val) / 8) % 8) + (30 - (8 * k.val + s.val) / 8) / 8) = 30 - k.val
    unfold ofs
    omega
  rw [show in8t (8 * k.val + s.val) j.val = ix2 s ⟨j.val % 128, Nat.mod_lt _ (by decide)⟩ from by
    funext a
    fin_cases a
    · exact Fin.ext (show (8 * k.val + s.val) % 8 = s.val by omega)
    · rfl]
  unfold newS
  rw [tap_new (aS x1 n (ltC j.val)) (fun i q => ext (fun r => A.a r (lane (ltC j.val) q)) (256 * (15 - t.val) + 64 * n.val + i))
    (fun h i q => (aS_apply H n hn (ltC j.val) h i q).trans (congrArg Real.toEReal (by
      rw [ext_at _ _ (by omega)]
      refine congrArg (fun r => A.a r (lane (ltC j.val) q)) (Fin.ext ?_)
      show 256 * (15 - t.val) + (64 * n.val + (16 * h.val + i.val)) = 256 * (15 - t.val) + 64 * n.val + (16 * h.val + i.val)
      omega)))
    (winS dy n (ltC j.val)) (fun i q => dx A (256 * (15 - t.val) + 64 * n.val + i) (lane (ltC j.val) q)) (winS_apply dy hd n hn (ltC j.val)), hl, ho]
  refine congrArg₂ (· + ·) ?_ (congrArg Real.toEReal (Finset.sum_congr rfl fun u hu => ?_))
  · refine window_ix2 T _ _ _ _ rfl s ⟨j.val % 128, Nat.mod_lt _ (by decide)⟩ ⟨8 * k.val + s.val, by omega⟩ j ?_ (congrArg Fin.val hl.symm)
    show 8 * k.val + s.val = 8 * (30 - ofs (jR (8 * k.val + s.val) (by omega)).val) + s.val
    rw [ho]
    omega
  · have hu' := Finset.mem_range.mp hu
    rw [ext_at _ _ (by omega), ext_at _ _ (by omega)]
    unfold tapTerm
    refine congrArg₂ (fun r n => A.a r j * dx A n j) (Fin.ext ?_) ?_
    · show 256 * (15 - t.val) + 64 * n.val + (8 * u + s.val) = 256 * (15 - t.val) + (8 * (8 * n.val + u) + s.val)
      omega
    · show 256 * (15 - t.val) + 64 * n.val + (8 * u + s.val + (30 - k.val)) = 256 * (15 - t.val) + (8 * (8 * n.val + u) + s.val) + 30 - k.val
      omega

include hd in
theorem tapBlk_apply (T : Vec Ideal S248x1024 .f32) (k : Fin 31) (s : Fin 8) (j : Fin 1024) (x : ℝ) (hT : T (ix2 ⟨8 * k.val + s.val, by omega⟩ j) = (x : EReal)) :
    tapBlk x1 dy T (ix2 ⟨8 * k.val + s.val, by omega⟩ j)
      = ((x + ∑ u ∈ Finset.range 32, ext (tapTerm A k j) (256 * (15 - t.val) + (8 * u + s.val)) : ℝ) : EReal) := by
  have key : ∀ n ≤ 4, Step.fold _ (tapNext x1 dy) T n (ix2 ⟨8 * k.val + s.val, by omega⟩ j)
      = ((x + ∑ u ∈ Finset.range (8 * n), ext (tapTerm A k j) (256 * (15 - t.val) + (8 * u + s.val)) : ℝ) : EReal) := by
    intro n hn
    induction n with
    | zero =>
      rw [Nat.mul_zero, Finset.sum_range_zero, add_zero]
      exact hT
    | succ n ih =>
      rw [Step.fold_succ _ _ _ _ (lt_of_lt_of_eq hn trips2.symm), tapNext_apply H dy hd ⟨n, _⟩ hn, ih (by omega), Nat.mul_add, Nat.mul_one, Finset.sum_range_add,
        ← EReal.coe_add]
      exact congrArg Real.toEReal (add_assoc _ _ _)
  exact (congrArg (fun n => Step.fold _ (tapNext x1 dy) T n (ix2 ⟨8 * k.val + s.val, by omega⟩ j)) trips2).trans (key 4 (le_refl _))

omit H

/-! ## The rows that are stored at the end -/

theorem pay_sum16 (x : Vec Ideal S16x1024 .f32) (f : ℕ → ℝ) (j : Fin 1024) (hx : ∀ r : Fin 16, x (ix2 r j) = (f r.val : EReal)) :
    Gen.k0_pay4842 x (ix2 0 j) = ((∑ s ∈ Finset.range 16, f s : ℝ) : EReal) := by
  pointwise [Gen.k0_pay4842]
  simp only [hx]
  rw [← coe_sum, ← Finset.sum_range f]

theorem pay_sum8 (x : Vec Ideal S8x1024 .f32) (f : ℕ → ℝ) (j : Fin 1024) (hx : ∀ r : Fin 8, x (ix2 r j) = (f r.val : EReal)) :
    Gen.k0_pay4845 x (ix2 0 j) = ((∑ s ∈ Finset.range 8, f s : ℝ) : EReal) := by
  pointwise [Gen.k0_pay4845]
  simp only [hx]
  rw [← coe_sum, ← Finset.sum_range f]

theorem stOff_eq (n : ℕ) : stOff n = ![if n < 3 then n else n + 5, 0] := by
  match n with
  | 0 => rfl
  | 1 => rfl
  | 2 => rfl
  | n + 3 =>
    show ![n + 8, 0] = _
    rw [if_neg (by omega)]

theorem st_in (acc : Vec Ideal S48x1024 .f32) (tap : Vec Ideal S248x1024 .f32) (S : Vec Ideal S40x1024 .f32) (n : Fin 34) (i : Fin 40) (j : Fin 1024)
    (hi : i.val = if n.val < 3 then n.val else n.val + 5) : stStep acc tap n S (ix2 i j) = stRow acc tap n.val n.isLt (ix2 0 j) := by
  have hj := j.isLt
  unfold stStep VecWindow.put
  rw [stOff_eq]
  refine (dif_pos (fun a => by
    fin_cases a
    · exact ⟨le_of_eq hi.symm, lt_of_eq_of_lt hi (Nat.lt_succ_self _)⟩
    · exact ⟨Nat.zero_le _, show j.val < 0 + 1024 by omega⟩)).trans (congrArg (stRow acc tap n.val n.isLt) (funext fun a => ?_))
  fin_cases a
  · exact Fin.ext (show i.val - (if n.val < 3 then n.val else n.val + 5) = 0 by omega)
  · exact Fin.ext (show j.val - 0 = j.val by omega)

theorem st_out (acc : Vec Ideal S48x1024 .f32) (tap : Vec Ideal S248x1024 .f32) (S : Vec Ideal S40x1024 .f32) (n : Fin 34) (i : Fin 40) (j : Fin 1024)
    (hi : i.val ≠ if n.val < 3 then n.val else n.val + 5) : stStep acc tap n S (ix2 i j) = S (ix2 i j) := by
  unfold stStep VecWindow.put
  rw [stOff_eq]
  refine dif_neg (fun hh => ?_)
  have c0 : (if n.val < 3 then n.val else n.val + 5) ≤ i.val ∧ i.val < (if n.val < 3 then n.val else n.val + 5) + 1 := hh 0
  omega

/-- The rows of sums, when the sums are those of all rows. -/
theorem stFinal_apply (acc : Vec Ideal S48x1024 .f32) (tap : Vec Ideal S248x1024 .f32)
    (hacc : ∀ (q : Fin 3) (r : Fin 16) (j : Fin 1024), acc (ix2 ⟨16 * q.val + r.val, by omega⟩ j) = (part (ext (term A q j)) 16 16 16 r.val : EReal))
    (htap : ∀ (k : Fin 31) (s : Fin 8) (j : Fin 1024), tap (ix2 ⟨8 * k.val + s.val, by omega⟩ j) = (part (ext (tapTerm A k j)) 8 32 16 s.val : EReal))
    (i : Fin 40) (j : Fin 1024) : stFinal acc tap (Gen.k0_pay2 (F := Ideal)) (ix2 i j) = A.stAt i j := by
  have row : ∀ (n : Fin 34) (v : ℝ), (i.val = if n.val < 3 then n.val else n.val + 5) → stRow acc tap n.val n.isLt (ix2 0 j) = (v : EReal) →
      stFinal acc tap (Gen.k0_pay2 (F := Ideal)) (ix2 i j) = (v : EReal) := by
    intro n v hi hv
    unfold stFinal
    refine (Step.fold_at 34 (stStep acc tap) _ (ix2 i j) n _ (fun b => st_in acc tap b n i j hi) (fun m hm b => st_out acc tap b m i j (fun he => hm (Fin.ext ?_))) 34 n.isLt).trans hv
    rw [hi] at he
    split_ifs at he <;> omega
  have sums : ∀ q : Fin 3, Gen.k0_pay4842 (accW acc q) (ix2 0 j) = ((∑ r, term A q j r : ℝ) : EReal) := by
    intro q
    rw [pay_sum16 (accW acc q) (part (ext (term A q j)) 16 16 16) j (fun r =>
      (window_ix2 acc _ _ _ _ rfl r j ⟨16 * q.val + r.val, by omega⟩ j rfl (Nat.zero_add _).symm).trans (hacc q r j)), sum_parts _ 16 16 rfl]
  have taps : ∀ (k : Fin 31) inb, Gen.k0_pay4845 (VecWindow.window (s := S248x1024) tap ![8 * k.val, 0] S8x1024.size inb) (ix2 0 j) = (A.dw k j : EReal) := by
    intro k inb
    rw [pay_sum8 _ (part (ext (tapTerm A k j)) 8 32 16) j (fun r =>
      (window_ix2 tap _ _ _ _ rfl r j ⟨8 * k.val + r.val, by omega⟩ j rfl (Nat.zero_add _).symm).trans (htap k r j)), sum_parts _ 8 32 rfl, Arg.dw_eq]
    rfl
  unfold Arg.stAt
  by_cases h0 : i.val = 0
  · rw [if_pos h0]
    exact row ⟨0, by decide⟩ _ h0 (sums 0)
  rw [if_neg h0]
  by_cases h1 : i.val = 1
  · rw [if_pos h1]
    exact row ⟨1, by decide⟩ _ h1 (sums 1)
  rw [if_neg h1]
  by_cases h2 : i.val = 2
  · rw [if_pos h2]
    exact row ⟨2, by decide⟩ _ h2 (sums 2)
  rw [if_neg h2]
  by_cases h3 : 8 ≤ i.val ∧ i.val - 8 < 31
  · rw [dif_pos h3]
    refine row ⟨i.val - 8 + 3, by omega⟩ _ ?_ (taps ⟨i.val - 8, h3.2⟩ _)
    show i.val = if i.val - 8 + 3 < 3 then i.val - 8 + 3 else i.val - 8 + 3 + 5
    rw [if_neg (by omega)]
    omega
  · rw [dif_neg h3]
    unfold stFinal
    refine (Step.fold_keep 34 (stStep acc tap) _ (ix2 i j) (fun n b => st_out acc tap b n i j (fun he => ?_)) 34).trans ?_
    · have hn := n.isLt
      split_ifs at he <;> omega
    · pointwise [Gen.k0_pay2]

end Cert.AbKernelIdeal

end
-- ==== Proof.Ab.Stack.lean ====
module

public import Idealize.ShloMosaic.Lib.Pipeline.Value
public import Idealize.ShloMosaic.Lib.Pointwise

@[expose] public section

noncomputable section

/-! # Thirty-one shifted copies of one array, stacked -/

namespace Step.A

open Idealize.ShloMosaic Idealize.ShloMosaic.TcCoe Idealize.ShloMosaic.Tactic

variable {α : Type}

abbrev Long : Shape := ⟨2, ![4126, 1024]⟩
abbrev Flat : Shape := ⟨2, ![4096, 1024]⟩
abbrev Piled (n : ℕ) : Shape := ⟨3, ![n, 4096, 1024]⟩

theorem slices_at (k : ℕ) (hk : k ≤ 30) : Long.Slices ![k, 0] Flat := by
  refine ⟨rfl, fun a => ?_⟩
  match a with
  | ⟨0, _⟩ => show k + 4096 ≤ 4126; omega
  | ⟨1, _⟩ => show 0 + 1024 ≤ 1024; omega

/-- The copy that begins at row `k`. -/
def piece (hb : Flat.BroadcastsInDim (Piled 1) (![1, 2] : Fin 2 → Fin (Piled 1).rank)) (x : Long.Idx → α) (k : ℕ) (hk : k ≤ 30) : (Piled 1).Idx → α :=
  broadcastInDim (Piled 1) ![1, 2] hb (extractStridedSlice Flat ![k, 0] x (slices_at k hk))

theorem piece_apply (hb : Flat.BroadcastsInDim (Piled 1) (![1, 2] : Fin 2 → Fin (Piled 1).rank)) (x : Long.Idx → α) (k : ℕ) (hk : k ≤ 30) (i : Fin 1) (r : Fin 4096) (j : Fin 1024) :
    piece hb x k hk (ix3 i r j) = x (ix2 ⟨k + r.val, by omega⟩ j) := by
  pointwise [piece]

/-- A pile of them, read in its `k`-th copy. -/
theorem pile_apply (hb : Flat.BroadcastsInDim (Piled 1) (![1, 2] : Fin 2 → Fin (Piled 1).rank)) (x : Long.Idx → α) (n o : ℕ) (hn : ∀ i : Fin n, o + i.val ≤ 30)
    (h : Shape.Concatenates ((List.ofFn fun i : Fin n => (⟨Piled 1, piece hb x (o + i.val) (hn i)⟩ : (s : Shape) × (s.Idx → α))).map (·.1)) (Piled n) 0)
    (k : Fin n) (r : Fin 4096) (j : Fin 1024) :
    concatenate (Piled n) 0 (List.ofFn fun i : Fin n => (⟨Piled 1, piece hb x (o + i.val) (hn i)⟩ : (s : Shape) × (s.Idx → α))) h (ix3 k r j)
      = x (ix2 ⟨o + k.val + r.val, by have := hn k; omega⟩ j) := by
  refine (concatenate_ofFn_unit_apply 0 _ h rfl rfl (ix3 k r j) k rfl (ix3 0 r j) ?_).trans (piece_apply hb x _ (hn k) 0 r j)
  intro b hb'
  match b with
  | ⟨0, _⟩ => exact absurd rfl hb'
  | ⟨1, _⟩ => rfl
  | ⟨2, _⟩ => rfl

end Step.A

end
-- ==== Proof.Ab.RVal.lean ====
module

public import proofs.«01_k».proof.Proof.Gen.AbReferenceIdeal.Run
public import proofs.«01_k».proof.Proof.Gen.AbReferenceIdeal.Read
public import proofs.«01_k».proof.Proof.Ab.Spec
public import proofs.«01_k».proof.Proof.Ab.Stack
public import Idealize.ShloMosaic.Lib.Pointwise

@[expose] public section

set_option maxRecDepth 16384

noncomputable section
namespace Cert.AbReferenceIdeal

open Idealize.ShloMosaic Idealize.ShloMosaic.TcCoe Idealize.ShloMosaic.Tactic
open Idealize.SL.Sem
open Cert.AbReferenceIdeal.Read
open Step Step.A
open Step.B (mean cen var rst nrm lnGrad lgs sil)
open scoped BigOperators

/-! # The arrays that the reference leaves, where its arguments are real -/

variable (x0 : (⟨S4096x8192, .bf16⟩ : BufTy).Contents (Elt Ideal)) (x1 : (⟨S4096x1024, .f32⟩ : BufTy).Contents (Elt Ideal))
  (x2 : (⟨S4096x8192, .bf16⟩ : BufTy).Contents (Elt Ideal)) (x3 : (⟨S31x1024, .f32⟩ : BufTy).Contents (Elt Ideal))
  (x4 x5 x6 : (⟨S1x1024, .f32⟩ : BufTy).Contents (Elt Ideal)) (A : Arg)

/-- The arguments hold the reals of `A`. -/
structure Holds : Prop where
  v : ∀ r j, x0 (ix2 r ⟨0 + j.val, by have := j.isLt; omega⟩) = (A.v r j : EReal)
  u : ∀ r j, x0 (ix2 r ⟨1024 + j.val, by have := j.isLt; omega⟩) = (A.u r j : EReal)
  z : ∀ r j, x0 (ix2 r ⟨2048 + j.val, by have := j.isLt; omega⟩) = (A.z r j : EReal)
  dy : ∀ r j, x1 (ix2 r j) = (A.dy r j : EReal)
  w : ∀ k j, x3 (ix2 k j) = (A.w k j : EReal)
  cb : ∀ j, x4 (ix2 0 j) = (A.cb j : EReal)
  g : ∀ j, x5 (ix2 0 j) = (A.g j : EReal)
  b : ∀ j, x6 (ix2 0 j) = (A.b j : EReal)

theorem high_apply (k : Fin 16) (r : Fin 4096) (j : Fin 1024) : val_main_v81 (F := Ideal) x0 (ix3 k r j) = val_main_v17 (F := Ideal) x0 (ix2 ⟨0 + k.val + r.val, by omega⟩ j) :=
  pile_apply Gen.bcast_S4096x1024_S1x4096x1024_1_2 (val_main_v17 (F := Ideal) x0) 16 0 (fun i => by omega) _ k r j

theorem low_apply (k : Fin 15) (r : Fin 4096) (j : Fin 1024) : val_main_v82 (F := Ideal) x0 (ix3 k r j) = val_main_v17 (F := Ideal) x0 (ix2 ⟨16 + k.val + r.val, by omega⟩ j) :=
  pile_apply Gen.bcast_S4096x1024_S1x4096x1024_1_2 (val_main_v17 (F := Ideal) x0) 15 16 (fun i => by omega) _ k r j

theorem stack_apply (k : Fin 31) (r : Fin 4096) (j : Fin 1024) : val_main_v83 (F := Ideal) x0 (ix3 k r j) = val_main_v17 (F := Ideal) x0 (ix2 ⟨k.val + r.val, by omega⟩ j) := by
  pointwise [val_main_v83]
  by_cases h : k.val < 16
  · rw [dif_pos h]
    refine (high_apply x0 ⟨k.val, h⟩ r j).trans (congrArg (fun n => val_main_v17 (F := Ideal) x0 (ix2 n j)) (Fin.ext ?_))
    show 0 + k.val + r.val = k.val + r.val
    omega
  · rw [dif_neg h]
    refine (low_apply x0 ⟨k.val - 16, by omega⟩ r j).trans (congrArg (fun n => val_main_v17 (F := Ideal) x0 (ix2 n j)) (Fin.ext ?_))
    show 16 + (k.val - 16) + r.val = k.val + r.val
    omega

variable (H : Holds x0 x1 x3 x4 x5 x6 A)
include H

theorem v_apply (r : Fin 4096) (j : Fin 1024) : val_main_v1 (F := Ideal) x0 (ix2 r j) = (A.v r j : EReal) := by
  pointwise [val_main_v1, val_main_v0]
  exact (congrArg (fun k => x0 (ix2 r k)) (Fin.ext (Nat.zero_add j.val).symm)).trans (H.v r j)

theorem u_apply (r : Fin 4096) (j : Fin 1024) : val_main_v3 (F := Ideal) x0 (ix2 r j) = (A.u r j : EReal) := by
  pointwise [val_main_v3, val_main_v2]
  exact H.u r j

theorem z_apply (r : Fin 4096) (j : Fin 1024) : val_main_v5 (F := Ideal) x0 (ix2 r j) = (A.z r j : EReal) := by
  pointwise [val_main_v5, val_main_v4]
  exact H.z r j

omit H in
theorem lgs_coe (z : ℝ) : Ideal.div (1 : EReal) ((1 : EReal) + Ideal.exp (-(z : EReal))) = (lgs z : EReal) := by
  have e : -z = 0 - z := (zero_sub _).symm
  rw [← EReal.coe_neg, e, exp_coe, ← EReal.coe_one, ← EReal.coe_add, div_coe_coe _ (Step.B.lgs_den _)]
  rfl

theorem lu_apply (r : Fin 4096) (j : Fin 1024) : val_main_v11 (F := Ideal) x0 (ix2 r j) = (lgs (A.u r j) : EReal) := by
  pointwise [val_main_v11, val_main_v10, val_main_v9, val_main_v8, val_main_v7, val_main_v6, val_main_cst, val_main_cst_0]
  rw [u_apply x0 x1 x3 x4 x5 x6 A H, lgs_coe]

theorem a_apply (r : Fin 4096) (j : Fin 1024) : val_main_v15 (F := Ideal) x0 (ix2 r j) = (A.a r j : EReal) := by
  pointwise [val_main_v15]
  rw [v_apply x0 x1 x3 x4 x5 x6 A H, lu_apply x0 x1 x3 x4 x5 x6 A H, ← EReal.coe_mul]
  rfl

theorem ap_apply (n : Fin 4126) (j : Fin 1024) : val_main_v17 (F := Ideal) x0 (ix2 n j) = (A.ap n.val j : EReal) := by
  pointwise [val_main_v17, val_main_v16, val_main_cst_2]
  unfold Arg.ap down
  by_cases h : n.val < 30
  · rw [dif_pos h, if_neg (by omega)]
    exact EReal.coe_zero.symm
  · rw [dif_neg h]
    refine (a_apply x0 x1 x3 x4 x5 x6 A H ⟨n.val - 30, by omega⟩ j).trans (congrArg Real.toEReal ?_)
    rw [if_pos (by omega)]
    exact (ext_val (fun r => A.a r j) ⟨n.val - 30, by omega⟩).symm

theorem y_apply (r : Fin 4096) (j : Fin 1024) : val_main_v89 (F := Ideal) x0 x3 x4 (ix2 r j) = (A.y r j : EReal) := by
  pointwise [val_main_v89, val_main_v88, val_main_v87, val_main_v86, val_main_v85, val_main_v84, val_main_cst_4]
  simp only [stack_apply, ap_apply x0 x1 x3 x4 x5 x6 A H, H.w, H.cb]
  simp only [← EReal.coe_mul]
  rw [← coe_sum, ← EReal.coe_add]
  rfl

theorem cen_apply (r : Fin 4096) (j : Fin 1024) : val_main_v95 (F := Ideal) x0 x3 x4 (ix2 r j) = (cen (A.y r) j : EReal) := by
  pointwise [val_main_v95, val_main_v94, val_main_v93, val_main_v92, val_main_v91, val_main_v90, val_main_cst_5, val_main_cst_6]
  simp only [y_apply x0 x1 x3 x4 x5 x6 A H]
  rw [div_1024, ← coe_sum, ← EReal.coe_mul, ← EReal.coe_sub]
  rfl

theorem var_apply (r : Fin 4096) : val_main_v102 (F := Ideal) x0 x3 x4 (ix2 r 0) = (var (A.y r) : EReal) := by
  pointwise [val_main_v102, val_main_v101, val_main_v100, val_main_v99, val_main_v98, val_main_v97, val_main_v96, val_main_cst_7, val_main_cst_8, val_main_cst_9]
  simp only [cen_apply x0 x1 x3 x4 x5 x6 A H]
  simp only [← EReal.coe_mul]
  rw [div_1024, coe_eps, ← coe_sum, ← EReal.coe_mul, ← EReal.coe_add]
  rfl

theorem rst_apply (r : Fin 4096) : val_main_v103 (F := Ideal) x0 x3 x4 (ix2 r 0) = (rst (A.y r) : EReal) := by
  pointwise [val_main_v103]
  rw [var_apply x0 x1 x3 x4 x5 x6 A H]
  exact rsqrt_coe (Step.B.var_pos _)

theorem n_apply (r : Fin 4096) (j : Fin 1024) : val_main_v108 (F := Ideal) x0 x3 x4 (ix2 r j) = (A.n r j : EReal) := by
  pointwise [val_main_v108, val_main_v107]
  rw [cen_apply x0 x1 x3 x4 x5 x6 A H, rst_apply x0 x1 x3 x4 x5 x6 A H]
  rfl

theorem l_apply (r : Fin 4096) (j : Fin 1024) : val_main_v112 (F := Ideal) x0 x3 x4 x5 x6 (ix2 r j) = (A.l r j : EReal) := by
  pointwise [val_main_v112, val_main_v111, val_main_v110, val_main_v109]
  rw [n_apply x0 x1 x3 x4 x5 x6 A H, H.g, H.b]
  rfl

theorem ll_apply (r : Fin 4096) (j : Fin 1024) : val_main_v113_2 (F := Ideal) x0 x3 x4 x5 x6 (ix2 r j) = (lgs (A.l r j) : EReal) := by
  pointwise [val_main_v113_2, val_main_call0_v4, val_main_call0_v3, val_main_call0_v2, val_main_call0_v1, val_main_call0_v0, val_main_call0_cst, val_main_call0_cst_0]
  rw [l_apply x0 x1 x3 x4 x5 x6 A H, lgs_coe]

theorem lz_apply (r : Fin 4096) (j : Fin 1024) : val_main_v114_2 (F := Ideal) x0 (ix2 r j) = (lgs (A.z r j) : EReal) := by
  pointwise [val_main_v114_2, val_main_call1_v4, val_main_call1_v3, val_main_call1_v2, val_main_call1_v1, val_main_call1_v0, val_main_call1_cst, val_main_call1_cst_0]
  rw [z_apply x0 x1 x3 x4 x5 x6 A H, lgs_coe]

theorem dz_apply (r : Fin 4096) (j : Fin 1024) : val_main_v118 (F := Ideal) x0 x1 x3 x4 x5 x6 (ix2 r j) = (A.dz r j : EReal) := by
  pointwise [val_main_v118, val_main_call2_v2, val_main_call2_v1, val_main_call2_v0, val_main_v116, val_main_v113_0, val_main_v114_1, val_main_call1_v7, val_main_call1_v6, val_main_call1_cst_1]
  rw [ll_apply x0 x1 x3 x4 x5 x6 A H, lz_apply x0 x1 x3 x4 x5 x6 A H, l_apply x0 x1 x3 x4 x5 x6 A H, z_apply x0 x1 x3 x4 x5 x6 A H, H.dy, ← EReal.coe_one]
  simp only [← EReal.coe_mul, ← EReal.coe_sub, ← EReal.coe_add]
  congr 1
  unfold Arg.dz dsil sil
  ring

theorem dl_apply (r : Fin 4096) (j : Fin 1024) : val_main_v119 (F := Ideal) x0 x1 x3 x4 x5 x6 (ix2 r j) = (A.dl r j : EReal) := by
  pointwise [val_main_v119, val_main_call3_v2, val_main_call3_v1, val_main_call3_v0, val_main_v117, val_main_v114_0, val_main_v113_1, val_main_call0_v7, val_main_call0_v6, val_main_call0_cst_1]
  rw [ll_apply x0 x1 x3 x4 x5 x6 A H, lz_apply x0 x1 x3 x4 x5 x6 A H, l_apply x0 x1 x3 x4 x5 x6 A H, z_apply x0 x1 x3 x4 x5 x6 A H, H.dy, ← EReal.coe_one]
  simp only [← EReal.coe_mul, ← EReal.coe_sub, ← EReal.coe_add]
  congr 1
  unfold Arg.dl dsil sil
  ring

theorem db_apply (j : Fin 1024) : val_main_v121 (F := Ideal) x0 x1 x3 x4 x5 x6 (ix2 0 j) = (A.db j : EReal) := by
  pointwise [val_main_v121, val_main_v120, val_main_cst_11]
  simp only [dl_apply x0 x1 x3 x4 x5 x6 A H]
  rw [← coe_sum]
  rfl

theorem dg_apply (j : Fin 1024) : val_main_v124 (F := Ideal) x0 x1 x3 x4 x5 x6 (ix2 0 j) = (A.dg j : EReal) := by
  pointwise [val_main_v124, val_main_v123, val_main_v122, val_main_cst_12]
  simp only [dl_apply x0 x1 x3 x4 x5 x6 A H, n_apply x0 x1 x3 x4 x5 x6 A H]
  simp only [← EReal.coe_mul]
  rw [← coe_sum]
  refine congrArg Real.toEReal (Finset.sum_congr rfl fun b _ => mul_comm _ _)

theorem dlg_apply (r : Fin 4096) (j : Fin 1024) : val_main_v126 (F := Ideal) x0 x1 x3 x4 x5 x6 (ix2 r j) = ((A.dl r j * A.g j : ℝ) : EReal) := by
  pointwise [val_main_v126, val_main_v125]
  rw [dl_apply x0 x1 x3 x4 x5 x6 A H, H.g, ← EReal.coe_mul]

/-- What the layer norm's derivative by the variance gives a row. -/
theorem q_apply (r : Fin 4096) : val_main_v135 (F := Ideal) x0 x1 x3 x4 x5 x6 (ix1 r)
    = (((∑ l, cen (A.y r) l * (A.dl r l * A.g l)) * (-(1 / 2) * (rst (A.y r) * (1 / var (A.y r)))) * (1 / 1024) : ℝ) : EReal) := by
  pointwise [val_main_v135, val_main_v134, val_main_v133, val_main_v132, val_main_v129, val_main_v128, val_main_v127, val_main_v106, val_main_v105, val_main_v104, val_main_cst_10, val_main_cst_13, val_main_cst_14, val_main_cst_15]
  simp only [Fin.sum_univ_one, cen_apply x0 x1 x3 x4 x5 x6 A H, dlg_apply x0 x1 x3 x4 x5 x6 A H]
  rw [rst_apply x0 x1 x3 x4 x5 x6 A H, var_apply x0 x1 x3 x4 x5 x6 A H, bits_neg_half, div_1024, div_coe_coe _ (Step.B.var_pos _).ne']
  simp only [← EReal.coe_mul]
  rw [← coe_sum]
  simp only [← EReal.coe_mul]

theorem e_apply (r : Fin 4096) (j : Fin 1024) (q : ℝ) (hq : val_main_v135 (F := Ideal) x0 x1 x3 x4 x5 x6 (ix1 r) = (q : EReal)) :
    val_main_v140 (F := Ideal) x0 x1 x3 x4 x5 x6 (ix2 r j) = ((A.dl r j * A.g j * rst (A.y r) + cen (A.y r) j * q + q * cen (A.y r) j : ℝ) : EReal) := by
  pointwise [val_main_v140, val_main_v139, val_main_v138, val_main_v137, val_main_v136, val_main_v131, val_main_v130]
  rw [hq, cen_apply x0 x1 x3 x4 x5 x6 A H, dlg_apply x0 x1 x3 x4 x5 x6 A H, rst_apply x0 x1 x3 x4 x5 x6 A H]
  simp only [← EReal.coe_mul, ← EReal.coe_add]

theorem d_apply (r : Fin 4096) (j : Fin 1024) : val_main_v148 (F := Ideal) x0 x1 x3 x4 x5 x6 (ix2 r j) = (A.d r j : EReal) := by
  have hq := q_apply x0 x1 x3 x4 x5 x6 A H r
  pointwise [val_main_v148, val_main_v147, val_main_v146, val_main_v145, val_main_v144, val_main_v143, val_main_v142, val_main_v141, val_main_cst_16, val_main_cst_17, val_main_cst_18]
  simp only [Fin.sum_univ_one, e_apply x0 x1 x3 x4 x5 x6 A H r _ _ hq]
  simp only [← EReal.coe_neg]
  rw [div_1024, ← coe_sum, ← EReal.coe_mul, ← EReal.coe_add]
  exact congrArg Real.toEReal (Step.B.lnGrad_eq (A.y r) (fun l => A.dl r l * A.g l) j _ rfl)

theorem dcb_apply (j : Fin 1024) : val_main_v150 (F := Ideal) x0 x1 x3 x4 x5 x6 (ix2 0 j) = (A.dcb j : EReal) := by
  pointwise [val_main_v150, val_main_v149, val_main_cst_19]
  simp only [d_apply x0 x1 x3 x4 x5 x6 A H]
  rw [← coe_sum]
  rfl

theorem dw_apply (k : Fin 31) (j : Fin 1024) : val_main_v157 (F := Ideal) x0 x1 x3 x4 x5 x6 (ix2 k j) = (A.dw k j : EReal) := by
  pointwise [val_main_v157, val_main_v154, val_main_v153, val_main_v152, val_main_v151, val_main_cst_20, val_main_cst_21]
  simp only [Fin.sum_univ_one, stack_apply, ap_apply x0 x1 x3 x4 x5 x6 A H, d_apply x0 x1 x3 x4 x5 x6 A H]
  simp only [← EReal.coe_mul]
  rw [← coe_sum]
  rfl

theorem t_apply (k : Fin 31) (r : Fin 4096) (j : Fin 1024) : val_main_v156 (F := Ideal) x0 x1 x3 x4 x5 x6 (ix3 k r j) = ((A.d r j * A.w k j : ℝ) : EReal) := by
  pointwise [val_main_v156, val_main_v155, val_main_v151, val_main_v84]
  rw [d_apply x0 x1 x3 x4 x5 x6 A H, H.w, ← EReal.coe_mul]

/-- One tap's share of the gated values' cotangent, moved down to where the tap reads. -/
theorem moved_apply (k : ℕ) (hk : k < 31) (n : Fin 4126) (j : Fin 1024) :
    (if h : k ≤ n.val ∧ n.val - k < 4096 then val_main_v156 (F := Ideal) x0 x1 x3 x4 x5 x6 (ix3 ⟨k, hk⟩ ⟨n.val - k, h.2⟩ j) else ((0 : ℝ) : EReal))
      = ((down (fun r => A.d r j * A.w ⟨k, hk⟩ j) k n.val : ℝ) : EReal) := by
  unfold down
  by_cases h0 : k ≤ n.val
  · rw [if_pos h0]
    by_cases h1 : n.val - k < 4096
    · rw [dif_pos ⟨h0, h1⟩, t_apply x0 x1 x3 x4 x5 x6 A H]
      exact congrArg Real.toEReal (ext_val (fun r => A.d r j * A.w ⟨k, hk⟩ j) ⟨n.val - k, h1⟩).symm
    · rw [dif_neg fun h => h1 h.2, ext_ge _ _ (by omega)]
  · rw [if_neg h0, dif_neg fun h => h0 h.1]

omit H in
/-- Thirty-one numbers added from the last to the first. -/
theorem sum_backward (f : ℕ → ℝ) : (∑ k : Fin 31, f k.val) = f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 := by
  rw [← Finset.sum_range f]
  simp only [Finset.sum_range_succ, Finset.sum_range_zero]
  ring

theorem da0_apply (n : Fin 4126) (j : Fin 1024) : val_main_v280 (F := Ideal) x0 x1 x3 x4 x5 x6 (ix2 n j) = ((∑ k : Fin 31, down (fun r => A.d r j * A.w k j) k.val n.val : ℝ) : EReal) := by
  obtain ⟨f, hf⟩ : ∃ f : ℕ → ℝ, ∀ k (hk : k < 31), down (fun r => A.d r j * A.w ⟨k, hk⟩ j) k n.val = f k :=
    ⟨fun k => if hk : k < 31 then down (fun r => A.d r j * A.w ⟨k, hk⟩ j) k n.val else 0, fun k hk => by
      show _ = dite _ _ _
      rw [dif_pos hk]⟩
  have h : ∀ (k : ℕ) (hk : k < 31), (if h : k ≤ n.val ∧ n.val - k < 4096 then val_main_v156 (F := Ideal) x0 x1 x3 x4 x5 x6 (ix3 ⟨k, hk⟩ ⟨n.val - k, h.2⟩ j) else (0 : EReal)) = (f k : EReal) := fun k hk => by
    rw [← hf k hk]
    exact moved_apply x0 x1 x3 x4 x5 x6 A H k hk n j
  have h0 : (if h : n.val < 4096 then val_main_v156 (F := Ideal) x0 x1 x3 x4 x5 x6 (ix3 0 ⟨n.val, h⟩ j) else (0 : EReal)) = (f 0 : EReal) := by
    refine Eq.trans ?_ (h 0 (by decide))
    by_cases h1 : n.val < 4096
    · rw [dif_pos h1, dif_pos ⟨Nat.zero_le _, h1⟩]
      rfl
    · rw [dif_neg h1, dif_neg fun h => h1 h.2]
  rw [(Finset.sum_congr rfl fun k _ => hf k.val k.isLt : (∑ k : Fin 31, down (fun r => A.d r j * A.w k j) k.val n.val) = ∑ k : Fin 31, f k.val), sum_backward]
  simp only [EReal.coe_add]
  pointwise [val_main_v280, val_main_v278, val_main_v276, val_main_v274, val_main_v272, val_main_v270, val_main_v268, val_main_v266, val_main_v264, val_main_v262, val_main_v260, val_main_v258, val_main_v256, val_main_v254, val_main_v252, val_main_v250, val_main_v248, val_main_v246, val_main_v244, val_main_v242, val_main_v240, val_main_v238, val_main_v236, val_main_v234, val_main_v232, val_main_v230, val_main_v228, val_main_v226, val_main_v224, val_main_v222, val_main_v220, val_main_v221, val_main_v223, val_main_v225, val_main_v227, val_main_v229, val_main_v231, val_main_v233, val_main_v235, val_main_v237, val_main_v239, val_main_v241, val_main_v243, val_main_v245, val_main_v247, val_main_v249, val_main_v251, val_main_v253, val_main_v255, val_main_v257, val_main_v259, val_main_v261, val_main_v263, val_main_v265, val_main_v267, val_main_v269, val_main_v271, val_main_v273, val_main_v275, val_main_v277, val_main_v279, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, val_main_cst_40, val_main_cst_41, val_main_cst_42, val_main_cst_43, val_main_cst_44, val_main_cst_45, val_main_cst_46, val_main_cst_47, val_main_cst_48, val_main_cst_49, val_main_cst_50, val_main_cst_51, val_main_cst_52]
  refine congrArg₂ (· + ·) ?_ h0
  iterate 29 refine congrArg₂ (· + ·) ?_ (h _ (by decide))
  exact h 30 (by decide)

theorem da_apply (r : Fin 4096) (j : Fin 1024) : val_main_v282 (F := Ideal) x0 x1 x3 x4 x5 x6 (ix2 r j) = (A.da r j : EReal) := by
  pointwise [val_main_v282]
  refine (da0_apply x0 x1 x3 x4 x5 x6 A H ⟨30 + r.val, by omega⟩ j).trans (congrArg Real.toEReal (Finset.sum_congr rfl fun k _ => ?_))
  have hk := k.isLt
  unfold down
  rw [if_pos (by show k.val ≤ 30 + r.val; omega), show 30 + r.val - k.val = r.val + 30 - k.val by omega]
  unfold ext
  split_ifs
  · exact mul_comm _ _
  · exact (mul_zero _).symm

theorem dv_apply (r : Fin 4096) (j : Fin 1024) : val_main_v284 (F := Ideal) x0 x1 x3 x4 x5 x6 (ix2 r j) = (A.dv r j : EReal) := by
  pointwise [val_main_v284]
  rw [da_apply x0 x1 x3 x4 x5 x6 A H, lu_apply x0 x1 x3 x4 x5 x6 A H, ← EReal.coe_mul]
  rfl

theorem du_apply (r : Fin 4096) (j : Fin 1024) : val_main_v285 (F := Ideal) x0 x1 x3 x4 x5 x6 (ix2 r j) = (A.du r j : EReal) := by
  pointwise [val_main_v285, val_main_v283, val_main_v14, val_main_v13, val_main_v12, val_main_cst_1]
  rw [da_apply x0 x1 x3 x4 x5 x6 A H, lu_apply x0 x1 x3 x4 x5 x6 A H, v_apply x0 x1 x3 x4 x5 x6 A H, ← EReal.coe_one]
  simp only [← EReal.coe_mul, ← EReal.coe_sub]
  congr 1
  unfold Arg.du Arg.a
  ring

omit H in
/-- The concatenation along the columns, part by part. -/
theorem dpAt_of (x : Fin 4096 → Fin 8192 → EReal) (r : Fin 4096) (j : Fin 8192) (fv fu fz : Fin 1024 → EReal) (hv : ∀ k, fv k = (A.dv r k : EReal))
    (hu : ∀ k, fu k = (A.du r k : EReal)) (hz : ∀ k, fz k = (A.dz r k : EReal)) :
    (if h : j.val < 1024 then fv ⟨j.val, h⟩
      else if h : j.val - 1024 < 1024 then fu ⟨j.val - 1024, h⟩
      else if h : j.val - 1024 - 1024 < 1024 then fz ⟨j.val - 1024 - 1024, h⟩
      else x r ⟨3072 + (j.val - 1024 - 1024 - 1024), by omega⟩) = A.dpAt x r j := by
  unfold Arg.dpAt
  simp only [hv, hu, hz, Nat.sub_sub, Nat.reduceAdd]
  split_ifs with h0 h1 h2
  · rfl
  · rfl
  · rfl
  · exact congrArg (x r) (Fin.ext (by show 3072 + (j.val - 3072) = j.val; omega))

theorem dp_apply (r : Fin 4096) (j : Fin 8192) : val_main_v290 (F := Ideal) x0 x1 x2 x3 x4 x5 x6 (ix2 r j) = A.dpAt (fun r j => x2 (ix2 r j)) r j := by
  pointwise [val_main_v290, val_main_v286, val_main_v287, val_main_v288, val_main_v289]
  exact dpAt_of A (fun r j => x2 (ix2 r j)) r j (fun k => val_main_v284 (F := Ideal) x0 x1 x3 x4 x5 x6 (ix2 r k))
    (fun k => val_main_v285 (F := Ideal) x0 x1 x3 x4 x5 x6 (ix2 r k)) (fun k => val_main_v118 (F := Ideal) x0 x1 x3 x4 x5 x6 (ix2 r k)) (dv_apply x0 x1 x3 x4 x5 x6 A H r) (du_apply x0 x1 x3 x4 x5 x6 A H r) (dz_apply x0 x1 x3 x4 x5 x6 A H r)

theorem st_apply (i : Fin 40) (j : Fin 1024) : val_main_v293 (F := Ideal) x0 x1 x3 x4 x5 x6 (ix2 i j) = A.stAt i j := by
  pointwise [val_main_v293, val_main_v291, val_main_v292, val_main_cst_53, val_main_cst_54]
  unfold Arg.stAt
  by_cases h0 : i.val < 1
  · refine (dif_pos h0).trans (Eq.trans ?_ (if_pos (by omega)).symm)
    exact (congrArg (fun k => val_main_v124 (F := Ideal) x0 x1 x3 x4 x5 x6 (ix2 k j)) (Subsingleton.elim _ _)).trans (dg_apply x0 x1 x3 x4 x5 x6 A H j)
  refine (dif_neg h0).trans (Eq.trans ?_ (if_neg (by omega)).symm)
  by_cases h1 : i.val - 1 < 1
  · refine (dif_pos h1).trans (Eq.trans ?_ (if_pos (by omega)).symm)
    exact (congrArg (fun k => val_main_v121 (F := Ideal) x0 x1 x3 x4 x5 x6 (ix2 k j)) (Subsingleton.elim _ _)).trans (db_apply x0 x1 x3 x4 x5 x6 A H j)
  refine (dif_neg h1).trans (Eq.trans ?_ (if_neg (by omega)).symm)
  by_cases h2 : i.val - 1 - 1 < 1
  · refine (dif_pos h2).trans (Eq.trans ?_ (if_pos (by omega)).symm)
    exact (congrArg (fun k => val_main_v150 (F := Ideal) x0 x1 x3 x4 x5 x6 (ix2 k j)) (Subsingleton.elim _ _)).trans (dcb_apply x0 x1 x3 x4 x5 x6 A H j)
  refine (dif_neg h2).trans (Eq.trans ?_ (if_neg (by omega)).symm)
  by_cases h3 : i.val - 1 - 1 - 1 < 5
  · refine (dif_pos h3).trans ?_
    rw [dif_neg (show ¬(8 ≤ i.val ∧ i.val - 8 < 31) by omega)]
  refine (dif_neg h3).trans ?_
  by_cases h4 : i.val - 1 - 1 - 1 - 5 < 31
  · refine (dif_pos h4).trans (Eq.trans ?_ (dif_pos (by omega)).symm)
    refine (congrArg (fun k => val_main_v157 (F := Ideal) x0 x1 x3 x4 x5 x6 (ix2 k j)) (Fin.ext ?_)).trans (dw_apply x0 x1 x3 x4 x5 x6 A H ⟨i.val - 8, by omega⟩ j)
    show i.val - 1 - 1 - 1 - 5 = i.val - 8
    omega
  · refine (dif_neg h4).trans ?_
    rw [dif_neg (show ¬(8 ≤ i.val ∧ i.val - 8 < 31) by omega)]

omit H in
/-- What the run of the reference leaves. -/
theorem run_values (m : (ℓ : Loc nD τ sig) → Buf (Elt Ideal) ℓ) (ρ : Dev nD → PrngReg) (A : Dev nD → Arg)
    (H : ∀ c : Dev nD, Holds (m ((c.tc : Thread nD τ).loc main_arg0)) (m ((c.tc : Thread nD τ).loc main_arg1)) (m ((c.tc : Thread nD τ).loc main_arg3)) (m ((c.tc : Thread nD τ).loc main_arg4))
      (m ((c.tc : Thread nD τ).loc main_arg5)) (m ((c.tc : Thread nD τ).loc main_arg6)) (A c)) :
    θ_run defs (onTc (τ := τ) (main (F := Ideal))) ⟨m, fun _ => 0, ρ⟩ fun r => ∀ c : Dev nD,
      (∀ i, r.2.mem ((c.tc : Thread nD τ).loc main_v290) i = (A c).dpAt (fun r j => m ((c.tc : Thread nD τ).loc main_arg2) (ix2 r j)) (i 0) (i 1))
      ∧ (∀ i, r.2.mem ((c.tc : Thread nD τ).loc main_v293) i = (A c).stAt (i 0) (i 1)) :=
  (θ_run defs _ _).mono (fun r h c => ⟨fun i => by
      rw [(h c).1, val_main_v290_eq, ← ix2_eta i]
      exact dp_apply _ _ _ _ _ _ _ _ (H c) _ _, fun i => by
      rw [(h c).2.1, val_main_v293_eq, ← ix2_eta i]
      exact st_apply _ _ _ _ _ _ _ (H c) _ _⟩) (Cert.AbReferenceIdeal.Value.run m ρ)

end Cert.AbReferenceIdeal

end
-- ==== Proof.Ab.Lines.lean ====
module

public import proofs.«01_k».proof.Proof.Gen.AbKernelIdeal.Frame
public import proofs.«01_k».proof.Proof.Ab.RVal
public import Idealize.ShloMosaic.Lib.Claim
public import Idealize.ShloMosaic.Lib.Pipeline.ValueKit

@[expose] public section

set_option maxRecDepth 16384

noncomputable section

/-! # The forward lines of the host, in five stretches

The list of operations before the call is cut where few values cross: after the padded product, after the
shifted copies, after each of the two stacks. Every stretch is read from any valuation that holds what crosses. -/

namespace Cert.AbKernelIdeal

open Idealize.ShloMosaic Idealize.ShloMosaic.TcCoe Idealize.ShloMosaic.Tactic

/-- The shifted copies of the padded product, and what follows. -/
def shiftOps : List (HloOp τ sig (Elt Ideal)) := (Gen.hostOps0.drop 16).take 62
/-- The sigmoid, the product, the rows of zeros before it. -/
def padOps : List (HloOp τ sig (Elt Ideal)) := Gen.hostOps0.take 16
/-- The first sixteen shifted copies side by side; `pileOps` has the other fifteen. -/
def stackOps : List (HloOp τ sig (Elt Ideal)) := ((Gen.hostOps0.drop 16).drop 62).take 1
def pileOps : List (HloOp τ sig (Elt Ideal)) := (((Gen.hostOps0.drop 16).drop 62).drop 1).take 1
/-- The products with the taps, their sum, the bias; and the operands made after it. -/
def sumOps : List (HloOp τ sig (Elt Ideal)) := (((Gen.hostOps0.drop 16).drop 62).drop 1).drop 1

theorem host_split : (Gen.hostOps0 : List (HloOp τ sig (Elt Ideal))) = padOps ++ (shiftOps ++ (stackOps ++ (pileOps ++ sumOps))) := by
  unfold padOps shiftOps stackOps pileOps sumOps
  rw [List.take_append_drop, List.take_append_drop, List.take_append_drop, List.take_append_drop]

variable (V : Valuation τ sig (Elt Ideal))

set_option maxHeartbeats 4000000 in
theorem pad_read : StableHlo.after padOps V (Proc.devRef .tc main_v12) = Cert.AbReferenceIdeal.Read.val_main_v17 (F := Ideal) (V (Proc.devRef .tc main_arg0)) := by
  simp only [padOps, Gen.hostOps0, List.take_succ_cons, List.take_zero]
  after_results_simp
  rfl

set_option maxHeartbeats 4000000 in
theorem shift_read_0 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v44) = Cert.AbReferenceIdeal.Read.val_main_v50 (F := Ideal) x := by
  simp only [shiftOps, Gen.hostOps0, List.drop_succ_cons, List.drop_zero, List.take_succ_cons, List.take_zero]
  after_results_simp
  rw [h]
  rfl

set_option maxHeartbeats 4000000 in
theorem shift_read_1 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v45) = Cert.AbReferenceIdeal.Read.val_main_v51 (F := Ideal) x := by
  simp only [shiftOps, Gen.hostOps0, List.drop_succ_cons, List.drop_zero, List.take_succ_cons, List.take_zero]
  after_results_simp
  rw [h]
  rfl

set_option maxHeartbeats 4000000 in
theorem shift_read_2 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v46) = Cert.AbReferenceIdeal.Read.val_main_v52 (F := Ideal) x := by
  simp only [shiftOps, Gen.hostOps0, List.drop_succ_cons, List.drop_zero, List.take_succ_cons, List.take_zero]
  after_results_simp
  rw [h]
  rfl

set_option maxHeartbeats 4000000 in
theorem shift_read_3 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v47) = Cert.AbReferenceIdeal.Read.val_main_v53 (F := Ideal) x := by
  simp only [shiftOps, Gen.hostOps0, List.drop_succ_cons, List.drop_zero, List.take_succ_cons, List.take_zero]
  after_results_simp
  rw [h]
  rfl

set_option maxHeartbeats 4000000 in
theorem shift_read_4 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v48) = Cert.AbReferenceIdeal.Read.val_main_v54 (F := Ideal) x := by
  simp only [shiftOps, Gen.hostOps0, List.drop_succ_cons, List.drop_zero, List.take_succ_cons, List.take_zero]
  after_results_simp
  rw [h]
  rfl

set_option maxHeartbeats 4000000 in
theorem shift_read_5 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v49) = Cert.AbReferenceIdeal.Read.val_main_v55 (F := Ideal) x := by
  simp only [shiftOps, Gen.hostOps0, List.drop_succ_cons, List.drop_zero, List.take_succ_cons, List.take_zero]
  after_results_simp
  rw [h]
  rfl

set_option maxHeartbeats 4000000 in
theorem shift_read_6 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v50) = Cert.AbReferenceIdeal.Read.val_main_v56 (F := Ideal) x := by
  simp only [shiftOps, Gen.hostOps0, List.drop_succ_cons, List.drop_zero, List.take_succ_cons, List.take_zero]
  after_results_simp
  rw [h]
  rfl

set_option maxHeartbeats 4000000 in
theorem shift_read_7 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v51) = Cert.AbReferenceIdeal.Read.val_main_v57 (F := Ideal) x := by
  simp only [shiftOps, Gen.hostOps0, List.drop_succ_cons, List.drop_zero, List.take_succ_cons, List.take_zero]
  after_results_simp
  rw [h]
  rfl

set_option maxHeartbeats 4000000 in
theorem shift_read_8 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v52) = Cert.AbReferenceIdeal.Read.val_main_v58 (F := Ideal) x := by
  simp only [shiftOps, Gen.hostOps0, List.drop_succ_cons, List.drop_zero, List.take_succ_cons, List.take_zero]
  after_results_simp
  rw [h]
  rfl

set_option maxHeartbeats 4000000 in
theorem shift_read_9 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v53) = Cert.AbReferenceIdeal.Read.val_main_v59 (F := Ideal) x := by
  simp only [shiftOps, Gen.hostOps0, List.drop_succ_cons, List.drop_zero, List.take_succ_cons, List.take_zero]
  after_results_simp
  rw [h]
  rfl

set_option maxHeartbeats 4000000 in
theorem shift_read_10 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v54) = Cert.AbReferenceIdeal.Read.val_main_v60 (F := Ideal) x := by
  simp only [shiftOps, Gen.hostOps0, List.drop_succ_cons, List.drop_zero, List.take_succ_cons, List.take_zero]
  after_results_simp
  rw [h]
  rfl

set_option maxHeartbeats 4000000 in
theorem shift_read_11 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v55) = Cert.AbReferenceIdeal.Read.val_main_v61 (F := Ideal) x := by
  simp only [shiftOps, Gen.hostOps0, List.drop_succ_cons, List.drop_zero, List.take_succ_cons, List.take_zero]
  after_results_simp
  rw [h]
  rfl

set_option maxHeartbeats 4000000 in
theorem shift_read_12 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v56) = Cert.AbReferenceIdeal.Read.val_main_v62 (F := Ideal) x := by
  simp only [shiftOps, Gen.hostOps0, List.drop_succ_cons, List.drop_zero, List.take_succ_cons, List.take_zero]
  after_results_simp
  rw [h]
  rfl

set_option maxHeartbeats 4000000 in
theorem shift_read_13 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v57) = Cert.AbReferenceIdeal.Read.val_main_v63 (F := Ideal) x := by
  simp only [shiftOps, Gen.hostOps0, List.drop_succ_cons, List.drop_zero, List.take_succ_cons, List.take_zero]
  after_results_simp
  rw [h]
  rfl

set_option maxHeartbeats 4000000 in
theorem shift_read_14 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v58) = Cert.AbReferenceIdeal.Read.val_main_v64 (F := Ideal) x := by
  simp only [shiftOps, Gen.hostOps0, List.drop_succ_cons, List.drop_zero, List.take_succ_cons, List.take_zero]
  after_results_simp
  rw [h]
  rfl

set_option maxHeartbeats 4000000 in
theorem shift_read_15 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v59) = Cert.AbReferenceIdeal.Read.val_main_v65 (F := Ideal) x := by
  simp only [shiftOps, Gen.hostOps0, List.drop_succ_cons, List.drop_zero, List.take_succ_cons, List.take_zero]
  after_results_simp
  rw [h]
  rfl

set_option maxHeartbeats 4000000 in
theorem shift_read_16 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v60) = Cert.AbReferenceIdeal.Read.val_main_v66 (F := Ideal) x := by
  simp only [shiftOps, Gen.hostOps0, List.drop_succ_cons, List.drop_zero, List.take_succ_cons, List.take_zero]
  after_results_simp
  rw [h]
  rfl

set_option maxHeartbeats 4000000 in
theorem shift_read_17 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v61) = Cert.AbReferenceIdeal.Read.val_main_v67 (F := Ideal) x := by
  simp only [shiftOps, Gen.hostOps0, List.drop_succ_cons, List.drop_zero, List.take_succ_cons, List.take_zero]
  after_results_simp
  rw [h]
  rfl

set_option maxHeartbeats 4000000 in
theorem shift_read_18 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v62) = Cert.AbReferenceIdeal.Read.val_main_v68 (F := Ideal) x := by
  simp only [shiftOps, Gen.hostOps0, List.drop_succ_cons, List.drop_zero, List.take_succ_cons, List.take_zero]
  after_results_simp
  rw [h]
  rfl

set_option maxHeartbeats 4000000 in
theorem shift_read_19 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v63) = Cert.AbReferenceIdeal.Read.val_main_v69 (F := Ideal) x := by
  simp only [shiftOps, Gen.hostOps0, List.drop_succ_cons, List.drop_zero, List.take_succ_cons, List.take_zero]
  after_results_simp
  rw [h]
  rfl

set_option maxHeartbeats 4000000 in
theorem shift_read_20 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v64) = Cert.AbReferenceIdeal.Read.val_main_v70 (F := Ideal) x := by
  simp only [shiftOps, Gen.hostOps0, List.drop_succ_cons, List.drop_zero, List.take_succ_cons, List.take_zero]
  after_results_simp
  rw [h]
  rfl

set_option maxHeartbeats 4000000 in
theorem shift_read_21 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v65) = Cert.AbReferenceIdeal.Read.val_main_v71 (F := Ideal) x := by
  simp only [shiftOps, Gen.hostOps0, List.drop_succ_cons, List.drop_zero, List.take_succ_cons, List.take_zero]
  after_results_simp
  rw [h]
  rfl

set_option maxHeartbeats 4000000 in
theorem shift_read_22 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v66) = Cert.AbReferenceIdeal.Read.val_main_v72 (F := Ideal) x := by
  simp only [shiftOps, Gen.hostOps0, List.drop_succ_cons, List.drop_zero, List.take_succ_cons, List.take_zero]
  after_results_simp
  rw [h]
  rfl

set_option maxHeartbeats 4000000 in
theorem shift_read_23 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v67) = Cert.AbReferenceIdeal.Read.val_main_v73 (F := Ideal) x := by
  simp only [shiftOps, Gen.hostOps0, List.drop_succ_cons, List.drop_zero, List.take_succ_cons, List.take_zero]
  after_results_simp
  rw [h]
  rfl

set_option maxHeartbeats 4000000 in
theorem shift_read_24 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v68) = Cert.AbReferenceIdeal.Read.val_main_v74 (F := Ideal) x := by
  simp only [shiftOps, Gen.hostOps0, List.drop_succ_cons, List.drop_zero, List.take_succ_cons, List.take_zero]
  after_results_simp
  rw [h]
  rfl

set_option maxHeartbeats 4000000 in
theorem shift_read_25 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v69) = Cert.AbReferenceIdeal.Read.val_main_v75 (F := Ideal) x := by
  simp only [shiftOps, Gen.hostOps0, List.drop_succ_cons, List.drop_zero, List.take_succ_cons, List.take_zero]
  after_results_simp
  rw [h]
  rfl

set_option maxHeartbeats 4000000 in
theorem shift_read_26 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v70) = Cert.AbReferenceIdeal.Read.val_main_v76 (F := Ideal) x := by
  simp only [shiftOps, Gen.hostOps0, List.drop_succ_cons, List.drop_zero, List.take_succ_cons, List.take_zero]
  after_results_simp
  rw [h]
  rfl

set_option maxHeartbeats 4000000 in
theorem shift_read_27 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v71) = Cert.AbReferenceIdeal.Read.val_main_v77 (F := Ideal) x := by
  simp only [shiftOps, Gen.hostOps0, List.drop_succ_cons, List.drop_zero, List.take_succ_cons, List.take_zero]
  after_results_simp
  rw [h]
  rfl

set_option maxHeartbeats 4000000 in
theorem shift_read_28 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v72) = Cert.AbReferenceIdeal.Read.val_main_v78 (F := Ideal) x := by
  simp only [shiftOps, Gen.hostOps0, List.drop_succ_cons, List.drop_zero, List.take_succ_cons, List.take_zero]
  after_results_simp
  rw [h]
  rfl

set_option maxHeartbeats 4000000 in
theorem shift_read_29 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v73) = Cert.AbReferenceIdeal.Read.val_main_v79 (F := Ideal) x := by
  simp only [shiftOps, Gen.hostOps0, List.drop_succ_cons, List.drop_zero, List.take_succ_cons, List.take_zero]
  after_results_simp
  rw [h]
  rfl

set_option maxHeartbeats 4000000 in
theorem shift_read_30 (x : (⟨S4096x8192, .bf16⟩ : BufTy).Contents (Elt Ideal)) (h : V (Proc.devRef .tc main_v12) = Cert.AbReferenceIdeal.Read.val_main_v17 (F := Ideal) x) : StableHlo.after shiftOps V (Proc.devRef .tc main_v74) = Cert.AbReferenceIdeal.Read.val_main_v80 (F := Ideal) x := by
  simp only [shiftOps, Gen.hostOps0, List.drop_succ_cons, List.drop_zero, List.take_succ_cons, List.take_zero]
  after_results_simp
  rw [h]
  rfl

set_option maxHeartbeats 4000000 in
theorem stack_read_first (x : (⟨S4096x8192, .bf16⟩ : BufTy).Contents (Elt Ideal)) (h44 : V (Proc.devRef .tc main_v44) = Cert.AbReferenceIdeal.Read.val_main_v50 (F := Ideal) x) (h45 : V (Proc.devRef .tc main_v45) = Cert.AbReferenceIdeal.Read.val_main_v51 (F := Ideal) x) (h46 : V (Proc.devRef .tc main_v46) = Cert.AbReferenceIdeal.Read.val_main_v52 (F := Ideal) x) (h47 : V (Proc.devRef .tc main_v47) = Cert.AbReferenceIdeal.Read.val_main_v53 (F := Ideal) x) (h48 : V (Proc.devRef .tc main_v48) = Cert.AbReferenceIdeal.Read.val_main_v54 (F := Ideal) x) (h49 : V (Proc.devRef .tc main_v49) = Cert.AbReferenceIdeal.Read.val_main_v55 (F := Ideal) x) (h50 : V (Proc.devRef .tc main_v50) = Cert.AbReferenceIdeal.Read.val_main_v56 (F := Ideal) x) (h51 : V (Proc.devRef .tc main_v51) = Cert.AbReferenceIdeal.Read.val_main_v57 (F := Ideal) x) (h52 : V (Proc.devRef .tc main_v52) = Cert.AbReferenceIdeal.Read.val_main_v58 (F := Ideal) x) (h53 : V (Proc.devRef .tc main_v53) = Cert.AbReferenceIdeal.Read.val_main_v59 (F := Ideal) x) (h54 : V (Proc.devRef .tc main_v54) = Cert.AbReferenceIdeal.Read.val_main_v60 (F := Ideal) x) (h55 : V (Proc.devRef .tc main_v55) = Cert.AbReferenceIdeal.Read.val_main_v61 (F := Ideal) x) (h56 : V (Proc.devRef .tc main_v56) = Cert.AbReferenceIdeal.Read.val_main_v62 (F := Ideal) x) (h57 : V (Proc.devRef .tc main_v57) = Cert.AbReferenceIdeal.Read.val_main_v63 (F := Ideal) x) (h58 : V (Proc.devRef .tc main_v58) = Cert.AbReferenceIdeal.Read.val_main_v64 (F := Ideal) x) (h59 : V (Proc.devRef .tc main_v59) = Cert.AbReferenceIdeal.Read.val_main_v65 (F := Ideal) x) : StableHlo.after stackOps V (Proc.devRef .tc main_v75) = Cert.AbReferenceIdeal.Read.val_main_v81 (F := Ideal) x := by
  simp only [stackOps, Gen.hostOps0, List.drop_succ_cons, List.drop_zero, List.take_succ_cons, List.take_zero]
  after_results_simp
  dsimp only [Matrix.cons_val]
  rw [h44, h45, h46, h47, h48, h49, h50, h51, h52, h53, h54, h55, h56, h57, h58, h59]
  rfl

set_option maxHeartbeats 4000000 in
theorem stack_read_second (x : (⟨S4096x8192, .bf16⟩ : BufTy).Contents (Elt Ideal)) (h60 : V (Proc.devRef .tc main_v60) = Cert.AbReferenceIdeal.Read.val_main_v66 (F := Ideal) x) (h61 : V (Proc.devRef .tc main_v61) = Cert.AbReferenceIdeal.Read.val_main_v67 (F := Ideal) x) (h62 : V (Proc.devRef .tc main_v62) = Cert.AbReferenceIdeal.Read.val_main_v68 (F := Ideal) x) (h63 : V (Proc.devRef .tc main_v63) = Cert.AbReferenceIdeal.Read.val_main_v69 (F := Ideal) x) (h64 : V (Proc.devRef .tc main_v64) = Cert.AbReferenceIdeal.Read.val_main_v70 (F := Ideal) x) (h65 : V (Proc.devRef .tc main_v65) = Cert.AbReferenceIdeal.Read.val_main_v71 (F := Ideal) x) (h66 : V (Proc.devRef .tc main_v66) = Cert.AbReferenceIdeal.Read.val_main_v72 (F := Ideal) x) (h67 : V (Proc.devRef .tc main_v67) = Cert.AbReferenceIdeal.Read.val_main_v73 (F := Ideal) x) (h68 : V (Proc.devRef .tc main_v68) = Cert.AbReferenceIdeal.Read.val_main_v74 (F := Ideal) x) (h69 : V (Proc.devRef .tc main_v69) = Cert.AbReferenceIdeal.Read.val_main_v75 (F := Ideal) x) (h70 : V (Proc.devRef .tc main_v70) = Cert.AbReferenceIdeal.Read.val_main_v76 (F := Ideal) x) (h71 : V (Proc.devRef .tc main_v71) = Cert.AbReferenceIdeal.Read.val_main_v77 (F := Ideal) x) (h72 : V (Proc.devRef .tc main_v72) = Cert.AbReferenceIdeal.Read.val_main_v78 (F := Ideal) x) (h73 : V (Proc.devRef .tc main_v73) = Cert.AbReferenceIdeal.Read.val_main_v79 (F := Ideal) x) (h74 : V (Proc.devRef .tc main_v74) = Cert.AbReferenceIdeal.Read.val_main_v80 (F := Ideal) x) : StableHlo.after pileOps V (Proc.devRef .tc main_v76) = Cert.AbReferenceIdeal.Read.val_main_v82 (F := Ideal) x := by
  simp only [pileOps, Gen.hostOps0, List.drop_succ_cons, List.drop_zero, List.take_succ_cons, List.take_zero]
  after_results_simp
  dsimp only [Matrix.cons_val]
  rw [h60, h61, h62, h63, h64, h65, h66, h67, h68, h69, h70, h71, h72, h73, h74]
  rfl

set_option maxHeartbeats 4000000 in
theorem sum_read (x : (⟨S4096x8192, .bf16⟩ : BufTy).Contents (Elt Ideal)) (x3 : (⟨S31x1024, .f32⟩ : BufTy).Contents (Elt Ideal)) (x4 : (⟨S1x1024, .f32⟩ : BufTy).Contents (Elt Ideal)) (h75 : V (Proc.devRef .tc main_v75) = Cert.AbReferenceIdeal.Read.val_main_v81 (F := Ideal) x) (h76 : V (Proc.devRef .tc main_v76) = Cert.AbReferenceIdeal.Read.val_main_v82 (F := Ideal) x) (h3 : V (Proc.devRef .tc main_arg3) = x3) (h4 : V (Proc.devRef .tc main_arg4) = x4) : StableHlo.after sumOps V (Proc.devRef .tc main_v83) = Cert.AbReferenceIdeal.Read.val_main_v89 (F := Ideal) x x3 x4 := by
  simp only [sumOps, Gen.hostOps0, List.drop_succ_cons, List.drop_zero, List.take_succ_cons, List.take_zero]
  after_results_simp
  rw [h75, h76, h3, h4]
  rfl

set_option maxHeartbeats 4000000 in
theorem padOps_keep_arg3 : StableHlo.after padOps V (Proc.devRef .tc main_arg3) = V (Proc.devRef .tc main_arg3) := by
  simp only [padOps, Gen.hostOps0, List.drop_succ_cons, List.drop_zero, List.take_succ_cons, List.take_zero]
  after_results_simp

set_option maxHeartbeats 4000000 in
theorem padOps_keep_arg4 : StableHlo.after padOps V (Proc.devRef .tc main_arg4) = V (Proc.devRef .tc main_arg4) := by
  simp only [padOps, Gen.hostOps0, List.drop_succ_cons, List.drop_zero, List.take_succ_cons, List.take_zero]
  after_results_simp

set_option maxHeartbeats 4000000 in
theorem shiftOps_keep_arg3 : StableHlo.after shiftOps V (Proc.devRef .tc main_arg3) = V (Proc.devRef .tc main_arg3) := by
  simp only [shiftOps, Gen.hostOps0, List.drop_succ_cons, List.drop_zero, List.take_succ_cons, List.take_zero]
  after_results_simp

set_option maxHeartbeats 4000000 in
theorem shiftOps_keep_arg4 : StableHlo.after shiftOps V (Proc.devRef .tc main_arg4) = V (Proc.devRef .tc main_arg4) := by
  simp only [shiftOps, Gen.hostOps0, List.drop_succ_cons, List.drop_zero, List.take_succ_cons, List.take_zero]
  after_results_simp

set_option maxHeartbeats 4000000 in
theorem stackOps_keep_arg3 : StableHlo.after stackOps V (Proc.devRef .tc main_arg3) = V (Proc.devRef .tc main_arg3) := by
  simp only [stackOps, Gen.hostOps0, List.drop_succ_cons, List.drop_zero, List.take_succ_cons, List.take_zero]
  after_results_simp

set_option maxHeartbeats 4000000 in
theorem stackOps_keep_arg4 : StableHlo.after stackOps V (Proc.devRef .tc main_arg4) = V (Proc.devRef .tc main_arg4) := by
  simp only [stackOps, Gen.hostOps0, List.drop_succ_cons, List.drop_zero, List.take_succ_cons, List.take_zero]
  after_results_simp

set_option maxHeartbeats 4000000 in
theorem stackOps_keep_v60 : StableHlo.after stackOps V (Proc.devRef .tc main_v60) = V (Proc.devRef .tc main_v60) := by
  simp only [stackOps, Gen.hostOps0, List.drop_succ_cons, List.drop_zero, List.take_succ_cons, List.take_zero]
  after_results_simp

set_option maxHeartbeats 4000000 in
theorem stackOps_keep_v61 : StableHlo.after stackOps V (Proc.devRef .tc main_v61) = V (Proc.devRef .tc main_v61) := by
  simp only [stackOps, Gen.hostOps0, List.drop_succ_cons, List.drop_zero, List.take_succ_cons, List.take_zero]
  after_results_simp

set_option maxHeartbeats 4000000 in
theorem stackOps_keep_v62 : StableHlo.after stackOps V (Proc.devRef .tc main_v62) = V (Proc.devRef .tc main_v62) := by
  simp only [stackOps, Gen.hostOps0, List.drop_succ_cons, List.drop_zero, List.take_succ_cons, List.take_zero]
  after_results_simp

set_option maxHeartbeats 4000000 in
theorem stackOps_keep_v63 : StableHlo.after stackOps V (Proc.devRef .tc main_v63) = V (Proc.devRef .tc main_v63) := by
  simp only [stackOps, Gen.hostOps0, List.drop_succ_cons, List.drop_zero, List.take_succ_cons, List.take_zero]
  after_results_simp

set_option maxHeartbeats 4000000 in
theorem stackOps_keep_v64 : StableHlo.after stackOps V (Proc.devRef .tc main_v64) = V (Proc.devRef .tc main_v64) := by
  simp only [stackOps, Gen.hostOps0, List.drop_succ_cons, List.drop_zero, List.take_succ_cons, List.take_zero]
  after_results_simp

set_option maxHeartbeats 4000000 in
theorem stackOps_keep_v65 : StableHlo.after stackOps V (Proc.devRef .tc main_v65) = V (Proc.devRef .tc main_v65) := by
  simp only [stackOps, Gen.hostOps0, List.drop_succ_cons, List.drop_zero, List.take_succ_cons, List.take_zero]
  after_results_simp

set_option maxHeartbeats 4000000 in
theorem stackOps_keep_v66 : StableHlo.after stackOps V (Proc.devRef .tc main_v66) = V (Proc.devRef .tc main_v66) := by
  simp only [stackOps, Gen.hostOps0, List.drop_succ_cons, List.drop_zero, List.take_succ_cons, List.take_zero]
  after_results_simp

set_option maxHeartbeats 4000000 in
theorem stackOps_keep_v67 : StableHlo.after stackOps V (Proc.devRef .tc main_v67) = V (Proc.devRef .tc main_v67) := by
  simp only [stackOps, Gen.hostOps0, List.drop_succ_cons, List.drop_zero, List.take_succ_cons, List.take_zero]
  after_results_simp

set_option maxHeartbeats 4000000 in
theorem stackOps_keep_v68 : StableHlo.after stackOps V (Proc.devRef .tc main_v68) = V (Proc.devRef .tc main_v68) := by
  simp only [stackOps, Gen.hostOps0, List.drop_succ_cons, List.drop_zero, List.take_succ_cons, List.take_zero]
  after_results_simp

set_option maxHeartbeats 4000000 in
theorem stackOps_keep_v69 : StableHlo.after stackOps V (Proc.devRef .tc main_v69) = V (Proc.devRef .tc main_v69) := by
  simp only [stackOps, Gen.hostOps0, List.drop_succ_cons, List.drop_zero, List.take_succ_cons, List.take_zero]
  after_results_simp

set_option maxHeartbeats 4000000 in
theorem stackOps_keep_v70 : StableHlo.after stackOps V (Proc.devRef .tc main_v70) = V (Proc.devRef .tc main_v70) := by
  simp only [stackOps, Gen.hostOps0, List.drop_succ_cons, List.drop_zero, List.take_succ_cons, List.take_zero]
  after_results_simp

set_option maxHeartbeats 4000000 in
theorem stackOps_keep_v71 : StableHlo.after stackOps V (Proc.devRef .tc main_v71) = V (Proc.devRef .tc main_v71) := by
  simp only [stackOps, Gen.hostOps0, List.drop_succ_cons, List.drop_zero, List.take_succ_cons, List.take_zero]
  after_results_simp

set_option maxHeartbeats 4000000 in
theorem stackOps_keep_v72 : StableHlo.after stackOps V (Proc.devRef .tc main_v72) = V (Proc.devRef .tc main_v72) := by
  simp only [stackOps, Gen.hostOps0, List.drop_succ_cons, List.drop_zero, List.take_succ_cons, List.take_zero]
  after_results_simp

set_option maxHeartbeats 4000000 in
theorem stackOps_keep_v73 : StableHlo.after stackOps V (Proc.devRef .tc main_v73) = V (Proc.devRef .tc main_v73) := by
  simp only [stackOps, Gen.hostOps0, List.drop_succ_cons, List.drop_zero, List.take_succ_cons, List.take_zero]
  after_results_simp

set_option maxHeartbeats 4000000 in
theorem stackOps_keep_v74 : StableHlo.after stackOps V (Proc.devRef .tc main_v74) = V (Proc.devRef .tc main_v74) := by
  simp only [stackOps, Gen.hostOps0, List.drop_succ_cons, List.drop_zero, List.take_succ_cons, List.take_zero]
  after_results_simp

set_option maxHeartbeats 4000000 in
theorem pileOps_keep_arg3 : StableHlo.after pileOps V (Proc.devRef .tc main_arg3) = V (Proc.devRef .tc main_arg3) := by
  simp only [pileOps, Gen.hostOps0, List.drop_succ_cons, List.drop_zero, List.take_succ_cons, List.take_zero]
  after_results_simp

set_option maxHeartbeats 4000000 in
theorem pileOps_keep_arg4 : StableHlo.after pileOps V (Proc.devRef .tc main_arg4) = V (Proc.devRef .tc main_arg4) := by
  simp only [pileOps, Gen.hostOps0, List.drop_succ_cons, List.drop_zero, List.take_succ_cons, List.take_zero]
  after_results_simp

set_option maxHeartbeats 4000000 in
theorem pileOps_keep_v75 : StableHlo.after pileOps V (Proc.devRef .tc main_v75) = V (Proc.devRef .tc main_v75) := by
  simp only [pileOps, Gen.hostOps0, List.drop_succ_cons, List.drop_zero, List.take_succ_cons, List.take_zero]
  after_results_simp

/-- What the host's forward lines leave: the values that the reference has at that place. -/
theorem lines_read (V : Valuation τ sig (Elt Ideal)) : StableHlo.after Gen.hostOps0 V (Proc.devRef .tc main_v83) = Cert.AbReferenceIdeal.Read.val_main_v89 (F := Ideal) (V (Proc.devRef .tc main_arg0)) (V (Proc.devRef .tc main_arg3)) (V (Proc.devRef .tc main_arg4)) := by
  rw [host_split, StableHlo.after_append, StableHlo.after_append, StableHlo.after_append, StableHlo.after_append]
  have h := pad_read V
  refine sum_read _ _ _ _ ((pileOps_keep_v75 _).trans (stack_read_first _ _ (shift_read_0 _ _ h) (shift_read_1 _ _ h) (shift_read_2 _ _ h) (shift_read_3 _ _ h) (shift_read_4 _ _ h) (shift_read_5 _ _ h) (shift_read_6 _ _ h) (shift_read_7 _ _ h) (shift_read_8 _ _ h) (shift_read_9 _ _ h) (shift_read_10 _ _ h) (shift_read_11 _ _ h) (shift_read_12 _ _ h) (shift_read_13 _ _ h) (shift_read_14 _ _ h) (shift_read_15 _ _ h))) (stack_read_second _ _ ((stackOps_keep_v60 _).trans (shift_read_16 _ _ h)) ((stackOps_keep_v61 _).trans (shift_read_17 _ _ h)) ((stackOps_keep_v62 _).trans (shift_read_18 _ _ h)) ((stackOps_keep_v63 _).trans (shift_read_19 _ _ h)) ((stackOps_keep_v64 _).trans (shift_read_20 _ _ h)) ((stackOps_keep_v65 _).trans (shift_read_21 _ _ h)) ((stackOps_keep_v66 _).trans (shift_read_22 _ _ h)) ((stackOps_keep_v67 _).trans (shift_read_23 _ _ h)) ((stackOps_keep_v68 _).trans (shift_read_24 _ _ h)) ((stackOps_keep_v69 _).trans (shift_read_25 _ _ h)) ((stackOps_keep_v70 _).trans (shift_read_26 _ _ h)) ((stackOps_keep_v71 _).trans (shift_read_27 _ _ h)) ((stackOps_keep_v72 _).trans (shift_read_28 _ _ h)) ((stackOps_keep_v73 _).trans (shift_read_29 _ _ h)) ((stackOps_keep_v74 _).trans (shift_read_30 _ _ h))) ?_ ?_
  · rw [pileOps_keep_arg3, stackOps_keep_arg3, shiftOps_keep_arg3, padOps_keep_arg3]
  · rw [pileOps_keep_arg4, stackOps_keep_arg4, shiftOps_keep_arg4, padOps_keep_arg4]

end Cert.AbKernelIdeal

end
-- ==== Proof.Ab.Host.lean ====
module

public import proofs.«01_k».proof.Proof.Gen.AbKernelIdeal.Frame
public import proofs.«01_k».proof.Proof.Ab.Lines
public import Idealize.ShloMosaic.Lib.Claim
public import Idealize.ShloMosaic.Lib.Pipeline.ValueKit

@[expose] public section

set_option maxRecDepth 16384

noncomputable section

/-! # What the host hands to the kernel -/

namespace Cert.AbKernelIdeal

open Idealize.ShloMosaic Idealize.ShloMosaic.TcCoe Idealize.ShloMosaic.Tactic

variable (m : (ℓ : Loc nD τ sig) → Buf (Elt Ideal) ℓ) (c : Dev nD)

/-- The saved rows of the convolution are those that the reference computes. -/
theorem y_entry : Gen.V m c main_v83 = Cert.AbReferenceIdeal.Read.val_main_v89 (F := Ideal) (m ((c : Thread nD τ).loc main_arg0)) (m ((c : Thread nD τ).loc main_arg3)) (m ((c : Thread nD τ).loc main_arg4)) :=
  lines_read fun b => m (c, b)

set_option maxHeartbeats 4000000 in
/-- Every tap, eight times. -/
theorem w_entry (k : Fin 31) (s : Fin 8) (j : Fin 1024) : Gen.V m c main_v85 (ix2 ⟨8 * k.val + s.val, by omega⟩ j) = m ((c : Thread nD τ).loc main_arg3) (ix2 k j) := by
  entry_read
  pointwise

set_option maxHeartbeats 4000000 in
/-- The buffer of the gradient of the columns is first a copy of the argument. -/
theorem arg2_entry : Gen.V m c main_v86_0 = m ((c : Thread nD τ).loc main_arg2) := by
  entry_read
  rfl

end Cert.AbKernelIdeal

end
-- ==== Proof.Ab.KVal.lean ====
module

public import proofs.«01_k».proof.Proof.Ab.Frame
public import proofs.«01_k».proof.Proof.Ab.Parts
public import proofs.«01_k».proof.Proof.Ab.Host
public import Idealize.ShloMosaic.Lib.Claim

@[expose] public section

set_option maxRecDepth 16384

noncomputable section

/-! # The arrays that the kernel leaves -/

namespace Cert.AbKernelIdeal

open Idealize.ShloMosaic Idealize.ShloMosaic.TcCoe Idealize.ShloMosaic.Tactic
open Idealize.ShloMosaic.Pipeline (Dat)
open Idealize.SL.Sem
open Step Step.A
open scoped BigOperators

variable (m : (ℓ : Loc nD τ sig) → Buf (Elt Ideal) ℓ) (ρ : Dev nD → PrngReg) (c : Dev nD) (A : Arg)
  (H : Cert.AbReferenceIdeal.Holds (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) A)

/-- The point's number. -/
def pt (t : Fin cfg0.N) : Fin 16 := ⟨t.val, by have := t.isLt; have : cfg0.N = 16 := Gen.N_0; omega⟩

theorem idx_0 : ∀ t : Fin cfg0.N, win0_0.index t 0 = 15 - t.val ∧ win0_0.index t 1 = 0 := by decide +kernel
theorem idx_1 : ∀ t : Fin cfg0.N, win0_1.index t 0 = 15 - t.val ∧ win0_1.index t 1 = 0 := by decide +kernel
theorem idx_2 : ∀ t : Fin cfg0.N, win0_2.index t 0 = 15 - t.val ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = 0 := by decide +kernel
theorem idx_5 : ∀ t : Fin cfg0.N, win0_5.index t 0 = 0 ∧ win0_5.index t 1 = 0 := by decide +kernel
theorem idx_6 : ∀ t : Fin cfg0.N, win0_6.index t 0 = 15 - t.val ∧ win0_6.index t 1 = 0 := by decide +kernel

theorem blk_0 (t : Fin cfg0.N) (r : Fin 256) (j : Fin 3072) :
    Gen.X0_0 m c t (ix2 r j) = m ((c : Thread nD τ).loc main_arg0) (ix2 (brow (pt t) r) ⟨j.val, by omega⟩) := by
  have h := idx_0 t
  unfold Gen.X0_0 Pipeline.Window.fill
  refine (dif_pos (Gen.moved0_0 t (ix2 r j))).trans ?_
  unfold brow pt
  blk_ext [Gen.iblk, h.1, h.2]

theorem blk_1 (t : Fin cfg0.N) (r : Fin 256) (j : Fin 1024) : Gen.iblk m c 1 t (ix2 r j) = Gen.V m c main_v83 (ix2 (brow (pt t) r) j) := by
  have h := idx_1 t
  unfold brow pt
  blk_ext [Gen.iblk, h.1, h.2]

theorem blk_2 (t : Fin cfg0.N) (r : Fin 256) (j : Fin 1024) : Gen.iblk m c 2 t (ix2 r j) = m ((c : Thread nD τ).loc main_arg1) (ix2 (brow (pt t) r) j) := by
  have h := idx_2 t
  unfold brow pt
  blk_ext [Gen.iblk, h.1, h.2]

theorem blk_3 (t : Fin cfg0.N) (i : Fin 248) (j : Fin 1024) : Gen.iblk m c 3 t (ix2 i j) = Gen.V m c main_v85 (ix2 i j) := by
  have h := idx_3 t
  blk_ext [Gen.iblk, h.1, h.2]

theorem blk_4 (t : Fin cfg0.N) (j : Fin 1024) : Gen.iblk m c 4 t (ix2 0 j) = m ((c : Thread nD τ).loc main_arg5) (ix2 0 j) := by
  have h := idx_4 t
  blk_ext [Gen.iblk, h.1, h.2]

theorem blk_5 (t : Fin cfg0.N) (j : Fin 1024) : Gen.iblk m c 5 t (ix2 0 j) = m ((c : Thread nD τ).loc main_arg6) (ix2 0 j) := by
  have h := idx_5 t
  blk_ext [Gen.iblk, h.1, h.2]

include H

/-- The blocks of a point hold the arguments. -/
theorem blk_holds (t : Fin cfg0.N) :
    Blk A (pt t) (Gen.X0_0 m c t) (Gen.iblk m c 1 t) (Gen.iblk m c 2 t) (Gen.iblk m c 3 t) (Gen.iblk m c 4 t) (Gen.iblk m c 5 t) where
  v i j := (blk_0 m c t i _).trans (H.v _ j)
  u i j := (blk_0 m c t i _).trans (H.u _ j)
  z i j := (blk_0 m c t i _).trans (H.z _ j)
  y i j := (blk_1 m c t i j).trans ((congrFun (y_entry m c) _).trans (Cert.AbReferenceIdeal.y_apply _ _ _ _ _ _ A H _ j))
  dy i j := (blk_2 m c t i j).trans (H.dy _ j)
  w k s j := (blk_3 m c t _ j).trans ((w_entry m c k s j).trans (H.w k j))
  g j := (blk_4 m c t j).trans (H.g j)
  b j := (blk_5 m c t j).trans (H.b j)

/-! ## From point to point -/

theorem dyAt_apply (n : ℕ) (h : n < cfg0.N) (i : Fin 288) (j : Fin 1024) : dyAt m c n h (ix2 i j) = (dx A (256 * (15 - n) + i.val) j : EReal) := by
  induction n generalizing i j with
  | zero =>
    refine dyBlk_apply (blk_holds m c A H ⟨0, h⟩) _ (fun i j => ?_) i j
    have e : dx A (256 * (15 - 0) + 256 + i.val) j = 0 := ext_ge _ _ (by omega)
    show Gen.k0_pay1 (F := Ideal) (ix2 i j) = ((dx A (256 * (15 - 0) + 256 + i.val) j : ℝ) : EReal)
    rw [e]
    pointwise [Gen.k0_pay1]
    exact EReal.coe_zero.symm
  | succ n ih =>
    refine dyBlk_apply (blk_holds m c A H ⟨n + 1, h⟩) _ (fun i j => ?_) i j
    refine (halOf_carry _ i j).trans ((ih (Nat.lt_of_succ_lt h) ⟨i.val, by omega⟩ j).trans (congrArg (fun q => ((dx A q j : ℝ) : EReal)) ?_))
    have hN : n + 1 < 16 := lt_of_lt_of_eq h (show cfg0.N = 16 from Gen.N_0)
    show 256 * (15 - n) + i.val = 256 * (15 - (n + 1)) + 256 + i.val
    omega

theorem acAt_apply (q : Fin 3) (r : Fin 16) (j : Fin 1024) (n : ℕ) (h : n < cfg0.N) :
    acAt m c n h (ix2 ⟨16 * q.val + r.val, by omega⟩ j) = (part (ext (term A q j)) 16 16 (n + 1) r.val : EReal) := by
  induction n with
  | zero =>
    refine (acBlk_apply (blk_holds m c A H ⟨0, h⟩) _ q r j 0 ?_).trans (congrArg Real.toEReal ?_)
    · pointwise [Gen.k0_pay3]
      exact EReal.coe_zero.symm
    · unfold part
      rw [Finset.sum_range_one, zero_add]
      rfl
  | succ n ih =>
    refine (acBlk_apply (blk_holds m c A H ⟨n + 1, h⟩) _ q r j _ (ih (Nat.lt_of_succ_lt h))).trans (congrArg Real.toEReal ?_)
    exact (Finset.sum_range_succ _ _).symm

theorem tpAt_apply (k : Fin 31) (s : Fin 8) (j : Fin 1024) (n : ℕ) (h : n < cfg0.N) :
    tpAt m c n h (ix2 ⟨8 * k.val + s.val, by omega⟩ j) = (part (ext (tapTerm A k j)) 8 32 (n + 1) s.val : EReal) := by
  induction n with
  | zero =>
    refine (tapBlk_apply (blk_holds m c A H ⟨0, h⟩) _ (dyAt_apply m c A H 0 h) _ k s j 0 ?_).trans (congrArg Real.toEReal ?_)
    · pointwise [Gen.k0_pay4]
      exact EReal.coe_zero.symm
    · unfold part
      rw [Finset.sum_range_one, zero_add]
      rfl
  | succ n ih =>
    refine (tapBlk_apply (blk_holds m c A H ⟨n + 1, h⟩) _ (dyAt_apply m c A H (n + 1) h) _ k s j _ (ih (Nat.lt_of_succ_lt h))).trans (congrArg Real.toEReal ?_)
    exact (Finset.sum_range_succ _ _).symm

theorem stAt_apply (i : Fin 40) (j : Fin 1024) : stAt m c Gen.t0_15 (ix2 i j) = A.stAt i j := by
  have e : stAt m c Gen.t0_15 = stFinal (acAt m c Gen.t0_15.val Gen.t0_15.isLt) (tpAt m c Gen.t0_15.val Gen.t0_15.isLt) (Gen.k0_pay2 (F := Ideal)) := if_pos rfl
  rw [e]
  exact stFinal_apply _ _ (fun q r j => acAt_apply m c A H q r j 15 Gen.t0_15.isLt) (fun k s j => tpAt_apply m c A H k s j 15 Gen.t0_15.isLt) i j

theorem dpAt_apply (t : Fin cfg0.N) (r : Fin 256) (j : Fin 3072) :
    dpAt m c t (ix2 r j) = A.dpAt (fun r j => m ((c : Thread nD τ).loc main_arg2) (ix2 r j)) (brow (pt t) r) ⟨j.val, by omega⟩ := by
  exact dpBlk_apply (blk_holds m c A H t) _ (dyAt_apply m c A H t.val t.isLt) _ r j _ rfl

/-! ## The arrays -/

/-- The array of the projection's gradient: what it held, with the first three blocks of columns put in. -/
def dpArr : Buf (Elt Ideal) ((c : Thread nD τ).loc main_v86_0) := fun i => A.dpAt (fun r j => m ((c : Thread nD τ).loc main_arg2) (ix2 r j)) (i 0) (i 1)
/-- The array of the parameters' gradients. -/
def stArr : Buf (Elt Ideal) ((c : Thread nD τ).loc main_v86_1) := fun i => A.stAt (i 0) (i 1)

theorem final_7 : (dats m 0 c).arrAt 7 cfg0.N = stArr c A := by
  refine (dats m 0 c).arrAt_eq_of_after_last 7 Gen.t0_15 (by decide +kernel) _ fun j => ?_
  rw [after_7]
  exact (congrArg (stAt m c Gen.t0_15) (ix2_eta (n0 := 40) (n1 := 1024) j).symm).trans (stAt_apply m c A H (j 0) (j 1))

omit H in
theorem emb6_0 (t : Fin cfg0.N) (y : ((cfg0.win 6).xblock (cfg0.grid.coords t)).Idx) : (((cfg0.win 6).blk t).view.emb y 0).val = 256 * (15 - t.val) + (y 0).val := by
  have h := idx_6 t
  blk_simp
  rw [h.1]
  omega

omit H in
theorem emb6_1 (t : Fin cfg0.N) (y : ((cfg0.win 6).xblock (cfg0.grid.coords t)).Idx) : (((cfg0.win 6).blk t).view.emb y 1).val = (y 1).val := by
  have h := idx_6 t
  have e : (((cfg0.win 6).blk t).view.emb y 1).val = win0_6.index t 1 * 3072 + (y 1).val := by
    show win0_6.index t 1 * 3072 + 1 * (y 1).val = _
    omega
  rw [e, h.2]
  omega

theorem inside_6 (t : Fin cfg0.N) (q : S256x3072.Idx) (p : S4096x8192.Idx) (h0 : (p 0).val = 256 * (15 - t.val) + (q 0).val) (h1 : (p 1).val = (q 1).val) :
    dpAt m c t q = dpArr m c A p := by
  refine (congrArg (dpAt m c t) (ix2_eta (n0 := 256) (n1 := 3072) q).symm).trans ((dpAt_apply m c A H t (q 0) (q 1)).trans ?_)
  have e0 : brow (pt t) (q 0) = p 0 := Fin.ext h0.symm
  have e1 : (⟨(q 1).val, by have : (q 1).val < 3072 := (q 1).isLt; omega⟩ : Fin 8192) = p 1 := Fin.ext h1.symm
  unfold dpArr
  rw [e0, e1]

omit H in
theorem outside_6 (p : S4096x8192.Idx) (h : ¬(p 1).val / 3072 = 0) : m ((c : Thread nD τ).loc main_arg2) p = dpArr m c A p := by
  unfold dpArr Arg.dpAt
  rw [dif_neg (by omega), dif_neg (by omega), dif_neg (by omega)]
  exact congrArg _ (ix2_eta (n0 := 4096) (n1 := 8192) p).symm

theorem final_6 : (dats m 0 c).arrAt 6 cfg0.N = dpArr m c A := by
  refine (dats m 0 c).arrAt_eq_of_coversWhere_of_agree 6 _ (fun β => β 1 = 0) (by decide +kernel) (fun t hf y => ?_) (fun j hj => ?_)
  · rw [after_6]
    exact inside_6 m c A H t _ _ (emb6_0 t y) (emb6_1 t y)
  · rw [A_eq]
    refine (congrFun (arg2_entry m c) _).trans (outside_6 m c A _ fun e => hj ?_)
    blk_simp [Pipeline.Window.cell_apply]
    exact e

omit H in
/-- What the run leaves. -/
theorem run_values (A : Dev nD → Arg)
    (H : ∀ c : Dev nD, Cert.AbReferenceIdeal.Holds (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)) (A c)) :
    θ_run defs (onTc (τ := τ) (main (F := Ideal))) ⟨m, fun _ => 0, ρ⟩ fun r => ∀ c : Dev nD,
      r.2.mem ((c.tc : Thread nD τ).loc main_v86_0) = dpArr m c (A c) ∧ r.2.mem ((c.tc : Thread nD τ).loc main_v86_1) = stArr c (A c) :=
  (θ_run defs _ _).mono (fun _ h c => ⟨(h.out_eq c 6).trans (final_6 m c (A c) (H c)), (h.out_eq c 7).trans (final_7 m c (A c) (H c))⟩) (run_main m ρ)

end Cert.AbKernelIdeal

end
-- ==== Proof.Ab.Claims.lean ====
module

public import proofs.«01_k».proof.Defs
public import proofs.«01_k».proof.Proof.Gen.AbKernel
public import proofs.«01_k».proof.Proof.Gen.Pre_a_finite
public import proofs.«01_k».proof.Proof.Ab.KVal
public import Idealize.ShloMosaic.Lib.Quiescent

@[expose] public section

set_option maxRecDepth 16384

noncomputable section

/-! # The claims about the gradients of the convolution branch -/

namespace Cert.Proof.Ab

open Idealize.ShloMosaic Idealize.ShloMosaic.TcCoe Idealize.ShloMosaic.Tactic Idealize.SL.Sem
open Step Step.A

/-! ## What the precondition says -/

/-- An entry whose magnitude compares below infinity is a real number. -/
theorem real_of_lt (x : EReal) (h : BitVec.ofBool (decide ((FloatOps.absf (F := Ideal) (φ := .f32) x : EReal) < Ideal.ofBits .f32 0x7F800000#32)) = 1#1) : ((x.toReal : ℝ) : EReal) = x := by
  have e : Ideal.ofBits .f32 0x7F800000#32 = ⊤ := by simp [Ideal.ofBits, Ideal.ieee]
  rw [e] at h
  have h' : (max x (-x) : EReal) < ⊤ := by
    by_contra hc
    rw [decide_eq_false (show ¬(FloatOps.absf (F := Ideal) (φ := .f32) x : EReal) < ⊤ from hc)] at h
    exact absurd h (by decide)
  induction x using EReal.rec with
  | bot => simp at h'
  | top => simp at h'
  | coe a => rfl

/-- The reals that the arguments hold. -/
def argOf (m : (ℓ : Loc Cert.AbKernelIdeal.nD Cert.AbKernelIdeal.τ Cert.AbKernelIdeal.sig) → Buf (Elt Ideal) ℓ) (c : Dev Cert.AbKernelIdeal.nD) : Arg where
  v r j := EReal.toReal (m ((c.tc : Thread Cert.AbKernelIdeal.nD Cert.AbKernelIdeal.τ).loc Cert.AbKernelIdeal.main_arg0) (ix2 r ⟨0 + j.val, by have := j.isLt; omega⟩))
  u r j := EReal.toReal (m ((c.tc : Thread Cert.AbKernelIdeal.nD Cert.AbKernelIdeal.τ).loc Cert.AbKernelIdeal.main_arg0) (ix2 r ⟨1024 + j.val, by have := j.isLt; omega⟩))
  z r j := EReal.toReal (m ((c.tc : Thread Cert.AbKernelIdeal.nD Cert.AbKernelIdeal.τ).loc Cert.AbKernelIdeal.main_arg0) (ix2 r ⟨2048 + j.val, by have := j.isLt; omega⟩))
  dy r j := EReal.toReal (m ((c.tc : Thread Cert.AbKernelIdeal.nD Cert.AbKernelIdeal.τ).loc Cert.AbKernelIdeal.main_arg1) (ix2 r j))
  w k j := EReal.toReal (m ((c.tc : Thread Cert.AbKernelIdeal.nD Cert.AbKernelIdeal.τ).loc Cert.AbKernelIdeal.main_arg3) (ix2 k j))
  cb j := EReal.toReal (m ((c.tc : Thread Cert.AbKernelIdeal.nD Cert.AbKernelIdeal.τ).loc Cert.AbKernelIdeal.main_arg4) (ix2 0 j))
  g j := EReal.toReal (m ((c.tc : Thread Cert.AbKernelIdeal.nD Cert.AbKernelIdeal.τ).loc Cert.AbKernelIdeal.main_arg5) (ix2 0 j))
  b j := EReal.toReal (m ((c.tc : Thread Cert.AbKernelIdeal.nD Cert.AbKernelIdeal.τ).loc Cert.AbKernelIdeal.main_arg6) (ix2 0 j))

/-- Under the precondition the arguments hold them. -/
theorem given (m : (ℓ : Loc Cert.AbKernelIdeal.nD Cert.AbKernelIdeal.τ Cert.AbKernelIdeal.sig) → Buf (Elt Ideal) ℓ) (hm : Cert.Pre_AbKernelIdeal_a_finite m) (c : Dev Cert.AbKernelIdeal.nD) :
    Cert.AbReferenceIdeal.Holds (m ((c.tc : Thread Cert.AbKernelIdeal.nD Cert.AbKernelIdeal.τ).loc Cert.AbKernelIdeal.main_arg0)) (m ((c.tc : Thread Cert.AbKernelIdeal.nD Cert.AbKernelIdeal.τ).loc Cert.AbKernelIdeal.main_arg1)) (m ((c.tc : Thread Cert.AbKernelIdeal.nD Cert.AbKernelIdeal.τ).loc Cert.AbKernelIdeal.main_arg3))
      (m ((c.tc : Thread Cert.AbKernelIdeal.nD Cert.AbKernelIdeal.τ).loc Cert.AbKernelIdeal.main_arg4)) (m ((c.tc : Thread Cert.AbKernelIdeal.nD Cert.AbKernelIdeal.τ).loc Cert.AbKernelIdeal.main_arg5)) (m ((c.tc : Thread Cert.AbKernelIdeal.nD Cert.AbKernelIdeal.τ).loc Cert.AbKernelIdeal.main_arg6)) (argOf m c) := by
  obtain ⟨h0, h1, h3, h4, h5, h6⟩ := hm c
  have s : ∀ (r : Fin 4096) (j : ℕ) (hj : j < 3072), ((EReal.toReal (m ((c.tc : Thread Cert.AbKernelIdeal.nD Cert.AbKernelIdeal.τ).loc Cert.AbKernelIdeal.main_arg0) (ix2 r ⟨j, by omega⟩)) : ℝ) : EReal)
      = m ((c.tc : Thread Cert.AbKernelIdeal.nD Cert.AbKernelIdeal.τ).loc Cert.AbKernelIdeal.main_arg0) (ix2 r ⟨j, by omega⟩) := by
    intro r j hj
    have h := congrFun h0 (ix2 r ⟨j, hj⟩)
    pointwise [Cert.Pre_a_finite.fn, Cert.Pre_a_finite.fn_part1] at h
    exact real_of_lt _ h
  constructor
  · exact fun r j => (s r (0 + j.val) (by omega)).symm
  · exact fun r j => (s r (1024 + j.val) (by omega)).symm
  · exact fun r j => (s r (2048 + j.val) (by omega)).symm
  · exact fun r j => by
      have h := congrFun h1 (ix2 r j)
      pointwise [Cert.Pre_a_finite.fn, Cert.Pre_a_finite.fn_part1] at h
      exact (real_of_lt _ h).symm
  · exact fun k j => by
      have h := congrFun h3 (ix2 k j)
      pointwise [Cert.Pre_a_finite.fn, Cert.Pre_a_finite.fn_part1] at h
      exact (real_of_lt _ h).symm
  · exact fun j => by
      have h := congrFun h4 (ix2 0 j)
      pointwise [Cert.Pre_a_finite.fn, Cert.Pre_a_finite.fn_part1] at h
      exact (real_of_lt _ h).symm
  · exact fun j => by
      have h := congrFun h5 (ix2 0 j)
      pointwise [Cert.Pre_a_finite.fn, Cert.Pre_a_finite.fn_part1] at h
      exact (real_of_lt _ h).symm
  · exact fun j => by
      have h := congrFun h6 (ix2 0 j)
      pointwise [Cert.Pre_a_finite.fn, Cert.Pre_a_finite.fn_part1] at h
      exact (real_of_lt _ h).symm

/-! ## The claims -/

/-- The two printed programs are the same text. -/
theorem defs_eq : Cert.AbKernel.defs (F := Bits) = Cert.AbKernelIdeal.defs (F := Bits) := by sl_kernel_rfl

theorem main_eq : Cert.AbKernel.main (F := Bits) = Cert.AbKernelIdeal.main (F := Bits) := by sl_kernel_rfl

theorem frame_kernel : Cert.quiescent_AbKernel := fun m ρ _ => by
  have h := Cert.AbKernelIdeal.frame_run (F := Bits) m ρ
  rw [← defs_eq, ← main_eq] at h
  exact h

theorem frame_ideal : Cert.quiescent_AbKernelIdeal := fun m ρ _ => Cert.AbKernelIdeal.frame_run m ρ
theorem frame_ideal_finite : Cert.quiescent_AbKernelIdeal_pre_a_finite := fun m ρ _ => Cert.AbKernelIdeal.frame_run m ρ

theorem frame_reference : Cert.quiescent_AbReferenceIdeal := fun m ρ _ =>
  (θ_run Cert.AbReferenceIdeal.defs _ _).mono
    (fun r h => ⟨fun c => (h c).2.2, sem_eq_zero_of_no_sems (by decide) r.2⟩)
    (Cert.AbReferenceIdeal.Value.run (F := Ideal) m ρ)
theorem frame_reference_finite : Cert.quiescent_AbReferenceIdeal_pre_a_finite := fun m ρ _ => frame_reference m ρ trivial

theorem algebraic : Cert.algebraic_AbKernelIdeal_AbReferenceIdeal_pre_a_finite := by
  intro m ρ m' ρ' hpre hagree
  refine ⟨fun c => Cert.AbKernelIdeal.dpArr m c (argOf m c), fun c => Cert.AbKernelIdeal.stArr c (argOf m c), ?_, ?_⟩
  · exact (θ_run _ _ _).mono (fun r h c => ⟨(h.1 c).1, (h.1 c).2, h.2.1 c⟩)
      (θ_run_and (Cert.AbKernelIdeal.run_values m ρ (argOf m) (given m hpre)) (Cert.AbKernelIdeal.frame_run m ρ))
  · refine (θ_run _ _ _).mono (fun r h c => ?_) (θ_run_and (Cert.AbReferenceIdeal.run_values m' ρ' (argOf m) fun c => by
      obtain ⟨e0, e1, e2, e3, e4, e5, e6⟩ := hagree c
      rw [e0, e1, e3, e4, e5, e6]
      exact given m hpre c) (Cert.AbReferenceIdeal.Value.run (F := Ideal) m' ρ'))
    obtain ⟨e0, e1, e2, e3, e4, e5, e6⟩ := hagree c
    refine ⟨?_, ?_, (h.2 c).2.2⟩
    · funext i
      rw [(h.1 c).1 i, e2]
      rfl
    · funext i
      rw [(h.1 c).2 i]
      rfl

end Cert.Proof.Ab

end
-- ==== Proof.Af.Conv.lean ====
module

public import proofs.«01_k».proof.Proof.Gen.AfKernelIdeal.Loops
public import proofs.«01_k».proof.Proof.Common.Fold
public import Idealize.ShloMosaic.Lib.Pipeline.Value
public import Idealize.ShloMosaic.Lib.Pipeline.ValueKit

@[expose] public section

set_option maxRecDepth 16384

noncomputable section

/-! # The convolution of one strip of 64 rows, 128 columns at a time

The 31 taps are taken in the order of `ofs`: first those whose offset is a multiple of 8, then
those one past, and so on. -/

namespace Cert.AfKernelIdeal

open Idealize.ShloMosaic Idealize.ShloMosaic.TcCoe Idealize.ShloMosaic.Tactic
open Idealize.SL Idealize.SL.RA Idealize.SL.BI Idealize.SL.Sem

variable {F : FTy → Type} [FloatOps F]

/-- The phase and the eights of the offset taken at place `j`. -/
def pha (j : ℕ) : ℕ := if j = 3 then 0 else (j + 1) / 4
def eig (j : ℕ) : ℕ := if j = 3 then 4 else (j + 1) % 4

/-- The offset taken at place `j`; the tap it belongs to is `ofs j - 2`. -/
def ofs (j : ℕ) : ℕ := pha j + 8 * eig j

theorem ofs_range : ∀ j : Fin 31, 2 ≤ ofs j.val ∧ ofs j.val ≤ 32 := by decide

theorem meet_range : ∀ j : Fin 31, pha j.val + 8 * eig j.val ≤ 32 := by decide

/-- The place `x` along axis `a`, `p` rows on where `p` is not 0. -/
def past (p : ℕ) (a : Fin 2) (x : ℕ) : ℕ := match p with
  | 0 => x
  | _ + 1 => (![p, 0] : Fin 2 → ℕ) a + x

theorem past_eq (p : ℕ) (a : Fin 2) (x : ℕ) : past p a x = (![p, 0] : Fin 2 → ℕ) a + x := by
  cases p with
  | zero => fin_cases a <;> exact (Nat.zero_add x).symm
  | succ p => rfl

/-- Eight rows of a window, those from row `p + c` on. -/
def rows8 (win : Vec F S96x128 .f32) (p c : ℕ) (h : p + c + 8 ≤ 96) : FVec F S8x128 .f32 := fun i =>
  win (fun a => ⟨past p a ((![c, 0] : Fin 2 → ℕ) a + (i a).val), by
    have h0 : (i 0).val < 8 := (i 0).isLt
    have h1 : (i 1).val < 128 := (i 1).isLt
    rw [past_eq]
    fin_cases a
    · show p + (c + (i 0).val) < 96
      omega
    · show 0 + (0 + (i 1).val) < 128
      omega⟩)

/-- The rows of the window the row group `m` meets at place `j`. -/
def meet (win : Vec F S96x128 .f32) (j : ℕ) (hj : j < 31) (m : Fin 8) : FVec F S8x128 .f32 :=
  rows8 win (pha j) ((m.val + eig j) * 8) (by have := m.isLt; have := meet_range ⟨j, hj⟩; dsimp only at this; omega)

/-- The sum of the row group `m` after the first `n` places. -/
def acc (w : Fin 31 → Vec F S8x128 .f32) (win : Vec F S96x128 .f32) (m : Fin 8) : (n : ℕ) → n ≤ 31 → FVec F S8x128 .f32
  | 0, _ => broadcast S8x128 (Scalar.ofBits .f32 0x00000000#32)
  | n + 1, h => addf (acc w win m n (Nat.le_of_succ_le h)) (mulf (shapeCast S8x128 (w ⟨n, h⟩) Gen.shapeCasts_S8x128_S8x128) (meet win n h m))

/-- Where the window of the tile `lt` starts, and where the row group `m` of its results goes. -/
def winOff (t : Fin k0_t2_loop.trips) : Fin 8 → Fin 2 → ℕ :=
  ![k0_off4 t, k0_off6 t, k0_off8 t, k0_off10 t, k0_off12 t, k0_off14 t, k0_off16 t, k0_off18 t]
def outOff (t : Fin k0_t2_loop.trips) (lt m : Fin 8) : Fin 2 → ℕ :=
  (![k0_off5 t, k0_off7 t, k0_off9 t, k0_off11 t, k0_off13 t, k0_off15 t, k0_off17 t, k0_off19 t] : Fin 8 → BitVec 32 → Fin 2 → ℕ) lt (BitVec.ofNat 32 (8 * m.val))

theorem winOff_eq (t : Fin k0_t2_loop.trips) (lt : Fin 8) : winOff t lt = ![64 * t.val, 128 * lt.val] := by
  fin_cases lt
  exacts [Gen.k0_off4_eq t, Gen.k0_off6_eq t, Gen.k0_off8_eq t, Gen.k0_off10_eq t, Gen.k0_off12_eq t, Gen.k0_off14_eq t, Gen.k0_off16_eq t, Gen.k0_off18_eq t]

theorem outOff_eq (t : Fin k0_t2_loop.trips) (lt m : Fin 8) : outOff t lt m = ![64 * t.val + 8 * m.val, 128 * lt.val] := by
  fin_cases lt
  exacts [Gen.k0_off5_eq t m, Gen.k0_off7_eq t m, Gen.k0_off9_eq t m, Gen.k0_off11_eq t m, Gen.k0_off13_eq t m, Gen.k0_off15_eq t m, Gen.k0_off17_eq t m, Gen.k0_off19_eq t m]

theorem winOff_inb (t : Fin k0_t2_loop.trips) (lt : Fin 8) : ∀ a, winOff t lt a + S96x128.size a ≤ S288x1024.size a := by
  fin_cases lt
  exacts [Gen.k0_off4_inb t, Gen.k0_off6_inb t, Gen.k0_off8_inb t, Gen.k0_off10_inb t, Gen.k0_off12_inb t, Gen.k0_off14_inb t, Gen.k0_off16_inb t, Gen.k0_off18_inb t]

theorem outOff_inb (t : Fin k0_t2_loop.trips) (lt m : Fin 8) : ∀ a, outOff t lt m a + S8x128.size a ≤ S256x1024.size a := by
  fin_cases lt
  exacts [Gen.k0_off5_inb t m, Gen.k0_off7_inb t m, Gen.k0_off9_inb t m, Gen.k0_off11_inb t m, Gen.k0_off13_inb t m, Gen.k0_off15_inb t m, Gen.k0_off17_inb t m, Gen.k0_off19_inb t m]

theorem tapInb (lt : Fin 8) (j : Fin 31) : ∀ a, (![8 * (ofs j.val - 2), 128 * lt.val] : Fin 2 → ℕ) a + S8x128.size a ≤ S248x1024.size a := by
  have h := ofs_range j
  have hl := lt.isLt
  intro a
  fin_cases a
  · show 8 * (ofs j.val - 2) + 8 ≤ 248
    omega
  · show 128 * lt.val + 128 ≤ 1024
    omega

theorem cbInb (lt : Fin 8) : ∀ a, (![0, 128 * lt.val] : Fin 2 → ℕ) a + S1x128.size a ≤ S1x1024.size a := by
  have hl := lt.isLt
  intro a
  fin_cases a
  · show 0 + 1 ≤ 1
    omega
  · show 128 * lt.val + 128 ≤ 1024
    omega

/-- The parts of a strip: the window of the gated values, the taps, the bias. -/
def winS (x : Vec F S288x1024 .f32) (t : Fin k0_t2_loop.trips) (lt : Fin 8) : Vec F S96x128 .f32 := VecWindow.window x (winOff t lt) S96x128.size (winOff_inb t lt)
def tapS (x : Vec F S248x1024 .f32) (lt : Fin 8) (j : Fin 31) : Vec F S8x128 .f32 := VecWindow.window x ![8 * (ofs j.val - 2), 128 * lt.val] S8x128.size (tapInb lt j)
def cbS (x : Vec F S1x1024 .f32) (lt : Fin 8) : Vec F S1x128 .f32 := VecWindow.window x ![0, 128 * lt.val] S1x128.size (cbInb lt)

/-- The convolution's row group `m`. -/
def outS (w : Vec F S248x1024 .f32) (cb : Vec F S1x1024 .f32) (a : Vec F S288x1024 .f32) (t : Fin k0_t2_loop.trips) (lt m : Fin 8) : FVec F S8x128 .f32 :=
  Gen.k0_pay3 (acc (tapS w lt) (winS a t lt) m 31 (le_refl _)) (cbS cb lt)

/-! ## The stores of a strip as a list, latest first -/

def ltOf (n : ℕ) (hn : n < 64) : Fin 8 := ⟨n / 8, by omega⟩
def grOf (n : ℕ) : Fin 8 := ⟨n % 8, Nat.mod_lt _ (by decide)⟩

/-- The first `n` stores. -/
def outPs {e : EltTy} (t : Fin k0_t2_loop.trips) (g : Fin 8 → Fin 8 → Vec F S8x128 e) : (n : ℕ) → n ≤ 64 → List (View.Piece (Elt F) S256x1024 e)
  | 0, _ => []
  | n + 1, h => ⟨Rect.unit (s := S256x1024) (outOff t (ltOf n h) (grOf n)) S8x128.size (outOff_inb t (ltOf n h) (grOf n)), g (ltOf n h) (grOf n)⟩ :: outPs t g n (Nat.le_of_succ_le h)

variable {sig' : RefSig} {κ : Kind} {sp : Space} {e : EltTy}

/-- What a store makes of the array. -/
def outStep (t : Fin k0_t2_loop.trips) (g : Fin 8 → Fin 8 → Vec F S8x128 e) (k : Fin 64) (S : Vec F S256x1024 e) : Vec F S256x1024 e :=
  VecWindow.put (s := S256x1024) S ![64 * t.val + 8 * (k.val % 8), 128 * (k.val / 8)] S8x128.size (g (ltOf k.val k.isLt) (grOf k.val))

theorem read_outPs (v : View sig' κ sp S256x1024 e) (f : BufTy.Contents (Elt F) v.ty) (t : Fin k0_t2_loop.trips) (g : Fin 8 → Fin 8 → Vec F S8x128 e) (n : ℕ) (h : n ≤ 64) :
    v.read (Elt F) (v.writes (Elt F) f (outPs t g n h)) = Step.fold 64 (outStep t g) (v.read (Elt F) f) n := by
  induction n with
  | zero => rfl
  | succ n ih =>
    rw [outPs, View.read_writes_cons_put v f _ _ _ (outOff_eq t (ltOf n h) (grOf n)), ih, Step.fold_succ _ _ _ _ h]
    rfl

end Cert.AfKernelIdeal

end
-- ==== Proof.Af.Blocks.lean ====
module

public import proofs.«01_k».proof.Proof.Af.Conv

@[expose] public section

set_option maxRecDepth 16384

noncomputable section

namespace Cert.AfKernelIdeal

open Idealize.ShloMosaic Idealize.ShloMosaic.TcCoe Idealize.ShloMosaic.Tactic
open Idealize.SL Idealize.SL.RA Idealize.SL.BI Idealize.SL.Sem

variable {F : FTy → Type} [FloatOps F]

/-! # The strips' stores as values of whole blocks -/

theorem trips1 : k0_t1_loop.trips = 16 := by decide +kernel
theorem trips2 : k0_t2_loop.trips = 4 := by decide +kernel
theorem trips3 : k0_t3_loop.trips = 16 := by decide +kernel

/-- The strip that holds row `r`, of each loop. -/
def kOf (r : ℕ) (h : r < 256) : Fin k0_t1_loop.trips := ⟨r / 16, by rw [trips1]; omega⟩
def tOf (r : ℕ) (h : r < 256) : Fin k0_t2_loop.trips := ⟨r / 64, by rw [trips2]; omega⟩
def qOf (r : ℕ) (h : r < 256) : Fin k0_t3_loop.trips := ⟨r / 16, by rw [trips3]; omega⟩
/-- The eight rows within a strip, and the 128 columns. -/
def mOf (r : ℕ) : Fin 8 := ⟨r % 64 / 8, by omega⟩
def lOf (c : ℕ) : Fin 8 := ⟨c % 1024 / 128, by omega⟩

def in16 (r c : ℕ) (h : c < 1024) : S16x1024.Idx := fun a => ⟨![r % 16, c] a, by
  fin_cases a
  · exact Nat.mod_lt _ (by decide)
  · exact h⟩
def in8t (r c : ℕ) : S8x128.Idx := fun a => ⟨![r % 8, c % 128] a, by
  fin_cases a
  · exact Nat.mod_lt _ (by decide)
  · exact Nat.mod_lt _ (by decide)⟩

/-! ## First loop: the gated values -/

def valS (x : Vec F S256x3072 .bf16) (k : Fin k0_t1_loop.trips) : Vec F S16x1024 .bf16 := VecWindow.window x (k0_off1 k) S16x1024.size (Gen.k0_off1_inb k)
def gluS (x : Vec F S256x3072 .bf16) (k : Fin k0_t1_loop.trips) : Vec F S16x1024 .bf16 := VecWindow.window x (k0_off2 k) S16x1024.size (Gen.k0_off2_inb k)
def aS (x : Vec F S256x3072 .bf16) (k : Fin k0_t1_loop.trips) : FVec F S16x1024 .f32 := Gen.k0_pay2 (valS x k) (gluS x k)

def aStep (x : Vec F S256x3072 .bf16) (k : Fin k0_t1_loop.trips) (a : Vec F S288x1024 .f32) : Vec F S288x1024 .f32 := VecWindow.put (s := S288x1024) a (k0_off3 k) S16x1024.size (aS x k)

/-- The 32 rows before a block, then the block's gated values. -/
def aBlk (x : Vec F S256x3072 .bf16) (hal : Vec F S32x1024 .f32) : Vec F S288x1024 .f32 := fun y =>
  if h : 32 ≤ (y 0).val then aS x (kOf ((y 0).val - 32) (by have h0 : (y 0).val < 288 := (y 0).isLt; omega)) (in16 ((y 0).val - 32) (y 1).val (y 1).isLt)
  else hal (fun a => ⟨![(y 0).val, (y 1).val] a, by
    have h0 : (y 0).val < 288 := (y 0).isLt
    fin_cases a
    · show (y 0).val < 32
      omega
    · exact (y 1).isLt⟩)

theorem a_all (x : Vec F S256x3072 .bf16) (a : Vec F S288x1024 .f32) (hal : Vec F S32x1024 .f32) (ha : ∀ inb, VecWindow.window (s := S288x1024) a ![0, 0] S32x1024.size inb = hal) :
    Step.fold _ (aStep x) a k0_t1_loop.trips = aBlk x hal := by
  funext y
  have h0 : (y 0).val < 288 := (y 0).isLt
  have h1 : (y 1).val < 1024 := (y 1).isLt
  unfold aBlk
  by_cases h : 32 ≤ (y 0).val
  · rw [dif_pos h]
    refine Step.fold_at _ _ _ _ (kOf ((y 0).val - 32) (by omega)) _ (fun q => ?_) (fun j hj q => ?_) _ (Fin.isLt _)
    · unfold aStep VecWindow.put
      rw [Gen.k0_off3_eq]
      rw [dif_pos (by
        intro a; fin_cases a
        · exact ⟨show 16 * (((y 0).val - 32) / 16) + 32 ≤ (y 0).val by omega, show (y 0).val < 16 * (((y 0).val - 32) / 16) + 32 + 16 by omega⟩
        · exact ⟨Nat.zero_le _, show (y 1).val < 0 + 1024 by omega⟩)]
      refine congrArg (aS x _) (funext fun a => Fin.ext ?_)
      fin_cases a
      · show (y 0).val - (16 * (((y 0).val - 32) / 16) + 32) = ((y 0).val - 32) % 16
        omega
      · show (y 1).val - 0 = (y 1).val
        omega
    · unfold aStep VecWindow.put
      rw [Gen.k0_off3_eq]
      rw [dif_neg (by
        intro hh
        have c0 : 16 * j.val + 32 ≤ (y 0).val ∧ (y 0).val < 16 * j.val + 32 + 16 := hh 0
        exact hj (Fin.ext (by show j.val = ((y 0).val - 32) / 16; omega)))]
  · rw [dif_neg h]
    refine (Step.fold_keep _ _ _ _ (fun j q => ?_) _).trans ?_
    · unfold aStep VecWindow.put
      rw [Gen.k0_off3_eq]
      rw [dif_neg (by
        intro hh
        have c0 : 16 * j.val + 32 ≤ (y 0).val ∧ (y 0).val < 16 * j.val + 32 + 16 := hh 0
        omega)]
    · rw [← ha (by
        intro a; fin_cases a
        · show 0 + 32 ≤ 288
          omega
        · show 0 + 1024 ≤ 1024
          omega)]
      refine congrArg a (funext fun a => Fin.ext ?_)
      fin_cases a
      · show (y 0).val = 0 + 1 * (y 0).val
        omega
      · show (y 1).val = 0 + 1 * (y 1).val
        omega

theorem hal_inb : ∀ a, (![0, 0] : Fin 2 → ℕ) a + S32x1024.size a ≤ S288x1024.size a := by decide
theorem end_inb : ∀ a, (![256, 0] : Fin 2 → ℕ) a + S32x1024.size a ≤ S288x1024.size a := by decide

/-- The first 32 rows. -/
def halOf (x : Vec F S288x1024 .f32) : Vec F S32x1024 .f32 := VecWindow.window x ![0, 0] S32x1024.size hal_inb
/-- The last 32 rows go to the front. -/
def carry (x : Vec F S288x1024 .f32) : Vec F S288x1024 .f32 := VecWindow.put (s := S288x1024) x ![0, 0] S32x1024.size (Gen.k0_pay5 (VecWindow.window x ![256, 0] S32x1024.size end_inb))

theorem halOf_put (x : Vec F S288x1024 .f32) (w : Vec F S32x1024 .f32) : halOf (VecWindow.put (s := S288x1024) x ![0, 0] S32x1024.size w) = w := by
  funext y
  have h0 : (y 0).val < 32 := (y 0).isLt
  have h1 : (y 1).val < 1024 := (y 1).isLt
  unfold halOf VecWindow.window VecWindow.put
  refine (dif_pos ?_).trans (congrArg w (funext fun a => Fin.ext ?_))
  · intro a; fin_cases a
    · exact ⟨Nat.zero_le _, show 0 + 1 * (y 0).val < 0 + 32 by omega⟩
    · exact ⟨Nat.zero_le _, show 0 + 1 * (y 1).val < 0 + 1024 by omega⟩
  · fin_cases a
    · show 0 + 1 * (y 0).val - 0 = (y 0).val
      omega
    · show 0 + 1 * (y 1).val - 0 = (y 1).val
      omega

/-! ## Second loop: the convolution -/

section Conv

variable (w : Vec F S248x1024 .f32) (cb : Vec F S1x1024 .f32) (a : Vec F S288x1024 .f32)

def yStep (t : Fin k0_t2_loop.trips) (S : Vec F S256x1024 .f32) : Vec F S256x1024 .f32 := Step.fold 64 (outStep t (outS w cb a t)) S 64

/-- The convolution of a block. -/
def yBlk : Vec F S256x1024 .f32 := fun y => outS w cb a (tOf (y 0).val (y 0).isLt) (lOf (y 1).val) (mOf (y 0).val) (in8t (y 0).val (y 1).val)

theorem y_all (S : Vec F S256x1024 .f32) : Step.fold _ (yStep w cb a) S k0_t2_loop.trips = yBlk w cb a := by
  funext y
  have h0 : (y 0).val < 256 := (y 0).isLt
  have h1 : (y 1).val < 1024 := (y 1).isLt
  unfold yBlk
  refine Step.fold_at _ _ _ _ (tOf _ h0) _ (fun q => ?_) (fun j hj q => ?_) _ (Fin.isLt _)
  · unfold yStep
    refine Step.fold_at _ _ _ _ ⟨8 * ((y 1).val / 128) + (y 0).val % 64 / 8, by omega⟩ _ (fun b => ?_) (fun j hj b => ?_) _ (Fin.isLt _)
    · unfold outStep VecWindow.put
      rw [dif_pos (by
        intro a; fin_cases a
        · exact ⟨show 64 * ((y 0).val / 64) + 8 * ((8 * ((y 1).val / 128) + (y 0).val % 64 / 8) % 8) ≤ (y 0).val by omega,
            show (y 0).val < 64 * ((y 0).val / 64) + 8 * ((8 * ((y 1).val / 128) + (y 0).val % 64 / 8) % 8) + 8 by omega⟩
        · exact ⟨show 128 * ((8 * ((y 1).val / 128) + (y 0).val % 64 / 8) / 8) ≤ (y 1).val by omega,
            show (y 1).val < 128 * ((8 * ((y 1).val / 128) + (y 0).val % 64 / 8) / 8) + 128 by omega⟩)]
      have e1 : ltOf (8 * ((y 1).val / 128) + (y 0).val % 64 / 8) (by omega) = lOf (y 1).val :=
        Fin.ext (by show (8 * ((y 1).val / 128) + (y 0).val % 64 / 8) / 8 = (y 1).val % 1024 / 128; omega)
      have e2 : grOf (8 * ((y 1).val / 128) + (y 0).val % 64 / 8) = mOf (y 0).val :=
        Fin.ext (by show (8 * ((y 1).val / 128) + (y 0).val % 64 / 8) % 8 = (y 0).val % 64 / 8; omega)
      rw [e1, e2]
      refine congrArg (outS w cb a _ _ _) (funext fun a => Fin.ext ?_)
      fin_cases a
      · show (y 0).val - (64 * ((y 0).val / 64) + 8 * ((8 * ((y 1).val / 128) + (y 0).val % 64 / 8) % 8)) = (y 0).val % 8
        omega
      · show (y 1).val - 128 * ((8 * ((y 1).val / 128) + (y 0).val % 64 / 8) / 8) = (y 1).val % 128
        omega
    · unfold outStep VecWindow.put
      rw [dif_neg (by
        intro hh
        have c0 : 64 * ((y 0).val / 64) + 8 * (j.val % 8) ≤ (y 0).val ∧ (y 0).val < 64 * ((y 0).val / 64) + 8 * (j.val % 8) + 8 := hh 0
        have c1 : 128 * (j.val / 8) ≤ (y 1).val ∧ (y 1).val < 128 * (j.val / 8) + 128 := hh 1
        exact hj (Fin.ext (by show j.val = 8 * ((y 1).val / 128) + (y 0).val % 64 / 8; omega)))]
  · unfold yStep
    refine Step.fold_keep _ _ _ _ (fun i b => ?_) _
    unfold outStep VecWindow.put
    rw [dif_neg (by
      intro hh
      have c0 : 64 * j.val + 8 * (i.val % 8) ≤ (y 0).val ∧ (y 0).val < 64 * j.val + 8 * (i.val % 8) + 8 := hh 0
      exact hj (Fin.ext (by show j.val = (y 0).val / 64; omega)))]

end Conv

/-! ## Third loop: the norm and the gate -/

def zS (x : Vec F S256x3072 .bf16) (k : Fin k0_t3_loop.trips) : Vec F S16x1024 .bf16 := VecWindow.window x (k0_off21 k) S16x1024.size (Gen.k0_off21_inb k)
def yS (y : Vec F S256x1024 .f32) (k : Fin k0_t3_loop.trips) : Vec F S16x1024 .f32 := VecWindow.window y (k0_off20 k) S16x1024.size (Gen.k0_off20_inb k)

section Norm

variable (x : Vec F S256x3072 .bf16) (g b : Vec F S1x1024 .f32) (y : Vec F S256x1024 .f32)

def oS (k : Fin k0_t3_loop.trips) : FVec F S16x1024 .bf16 := Gen.k0_pay4 (Gen.k0_pay1409 (zS x k)) (Gen.k0_pay1410 (yS y k) g b) (Gen.k0_pay1411 (zS x k)) Gen.k0_pay1412
def oStep (k : Fin k0_t3_loop.trips) (S : Vec F S256x1024 .bf16) : Vec F S256x1024 .bf16 := VecWindow.put (s := S256x1024) S (k0_off20 k) S16x1024.size (oS x g b y k)

/-- The branch's result of a block. -/
def oBlk : Vec F S256x1024 .bf16 := fun p => oS x g b y (qOf (p 0).val (p 0).isLt) (in16 (p 0).val (p 1).val (p 1).isLt)

theorem o_all (S : Vec F S256x1024 .bf16) : Step.fold _ (oStep x g b y) S k0_t3_loop.trips = oBlk x g b y := by
  funext p
  have h0 : (p 0).val < 256 := (p 0).isLt
  have h1 : (p 1).val < 1024 := (p 1).isLt
  unfold oBlk
  refine Step.fold_at _ _ _ _ (qOf _ h0) _ (fun q => ?_) (fun j hj q => ?_) _ (Fin.isLt _)
  · unfold oStep VecWindow.put
    rw [Gen.k0_off20_eq]
    rw [dif_pos (by
      intro a; fin_cases a
      · exact ⟨show 16 * ((p 0).val / 16) ≤ (p 0).val by omega, show (p 0).val < 16 * ((p 0).val / 16) + 16 by omega⟩
      · exact ⟨Nat.zero_le _, show (p 1).val < 0 + 1024 by omega⟩)]
    refine congrArg (oS x g b y _) (funext fun a => Fin.ext ?_)
    fin_cases a
    · show (p 0).val - 16 * ((p 0).val / 16) = (p 0).val % 16
      omega
    · show (p 1).val - 0 = (p 1).val
      omega
  · unfold oStep VecWindow.put
    rw [Gen.k0_off20_eq]
    rw [dif_neg (by
      intro hh
      have c0 : 16 * j.val ≤ (p 0).val ∧ (p 0).val < 16 * j.val + 16 := hh 0
      exact hj (Fin.ext (by show j.val = (p 0).val / 16; omega)))]

end Norm

end Cert.AfKernelIdeal

end
-- ==== Proof.Af.Trip.lean ====
module

public import proofs.«01_k».proof.Proof.Af.Conv

@[expose] public section

set_option maxRecDepth 16384

noncomputable section

namespace Cert.AfKernelIdeal

open Idealize.ShloMosaic Idealize.ShloMosaic.TcCoe Idealize.ShloMosaic.Tactic
open Idealize.SL Idealize.SL.RA Idealize.SL.BI Idealize.SL.Sem

variable {F : FTy → Type} [FloatOps F]

/-! # What one strip of the convolution stores -/

variable (𝒱 : Variants) (c : Dev nD) (bd : Option 𝒱.V) (i : grid0.Coords)
  (arg1 : Memref sig .tc .vmem S256x3072 .bf16) (harg1 : arg1.IsWhole) (arg2 : Memref sig .tc .vmem S248x1024 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S256x1024 .bf16) (harg6 : arg6.IsWhole)
  (arg7 : Memref sig .tc .vmem S256x1024 .f32) (harg7 : arg7.IsWhole) (arg8 : Memref sig .tc .vmem S288x1024 .f32) (harg8 : arg8.IsWhole)
  (X2 : BufTy.Contents (Elt F) arg2.view.ty) (X3 : BufTy.Contents (Elt F) arg3.view.ty) (X8 : BufTy.Contents (Elt F) arg8.view.ty)

set_option maxHeartbeats 16000000 in
theorem trip_outs (t : Fin k0_t2_loop.trips) :
    Gen.tripL_k0_t2 (F := F) 𝒱 c bd i arg1 harg1 arg2 harg2 arg3 harg3 arg4 harg4 arg5 harg5 arg6 harg6 arg7 harg7 arg8 harg8 X2 X3 X8 t
      = outPs t (outS (arg2.view.read (Elt F) X2) (arg3.view.read (Elt F) X3) (arg8.view.read (Elt F) X8) t) 64 (le_refl _) := by
  unfold Gen.tripL_k0_t2 Gen.trip_k0_t2
  dsimp only
  rfl

end Cert.AfKernelIdeal

end
-- ==== Proof.Af.Loops.lean ====
module

public import proofs.«01_k».proof.Proof.Af.Blocks
public import proofs.«01_k».proof.Proof.Af.Trip

@[expose] public section

set_option maxRecDepth 16384

noncomputable section

namespace Cert.AfKernelIdeal

open Idealize.ShloMosaic Idealize.ShloMosaic.TcCoe Idealize.ShloMosaic.Tactic
open Idealize.SL Idealize.SL.RA Idealize.SL.BI Idealize.SL.Sem

variable {F : FTy → Type} [FloatOps F]

/-! # The loops' stores, read back as values -/

variable (𝒱 : Variants) (c : Dev nD) (bd : Option 𝒱.V) (i : grid0.Coords)
  (arg1 : Memref sig .tc .vmem S256x3072 .bf16) (harg1 : arg1.IsWhole) (arg2 : Memref sig .tc .vmem S248x1024 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S256x1024 .bf16) (harg6 : arg6.IsWhole)
  (arg7 : Memref sig .tc .vmem S256x1024 .f32) (harg7 : arg7.IsWhole) (arg8 : Memref sig .tc .vmem S288x1024 .f32) (harg8 : arg8.IsWhole)
  (X1 : BufTy.Contents (Elt F) arg1.view.ty) (x1 : Vec F S256x3072 .bf16) (h1 : arg1.view.read (Elt F) X1 = x1)
  (X2 : BufTy.Contents (Elt F) arg2.view.ty) (x2 : Vec F S248x1024 .f32) (h2 : arg2.view.read (Elt F) X2 = x2)
  (X3 : BufTy.Contents (Elt F) arg3.view.ty) (x3 : Vec F S1x1024 .f32) (h3 : arg3.view.read (Elt F) X3 = x3)
  (X4 : BufTy.Contents (Elt F) arg4.view.ty) (x4 : Vec F S1x1024 .f32) (h4 : arg4.view.read (Elt F) X4 = x4)
  (X5 : BufTy.Contents (Elt F) arg5.view.ty) (x5 : Vec F S1x1024 .f32) (h5 : arg5.view.read (Elt F) X5 = x5)
  (X7 : BufTy.Contents (Elt F) arg7.view.ty) (x7 : Vec F S256x1024 .f32) (h7 : arg7.view.read (Elt F) X7 = x7)
  (X8 : BufTy.Contents (Elt F) arg8.view.ty) (x8 : Vec F S288x1024 .f32) (h8 : arg8.view.read (Elt F) X8 = x8)

include h1 in
/-- One trip of the first loop; -/
theorem trip_t1 (k : Fin k0_t1_loop.trips) (f8 : BufTy.Contents (Elt F) arg8.view.ty) :
    arg8.view.read (Elt F) (arg8.view.writes (Elt F) f8 (Gen.tripL_k0_t1 (F := F) 𝒱 c bd i arg1 harg1 arg2 harg2 arg3 harg3 arg4 harg4 arg5 harg5 arg6 harg6 arg7 harg7 arg8 harg8 X1 k)) = aStep x1 k (arg8.view.read (Elt F) f8) := by
  have e1 : arg1.view.readAt (Elt F) (Rect.unit (s := S256x3072) (k0_off1 k) S16x1024.size (Gen.k0_off1_inb k)).toLoadRect X1 = valS x1 k := by rw [← h1]; rfl
  have e2 : arg1.view.readAt (Elt F) (Rect.unit (s := S256x3072) (k0_off2 k) S16x1024.size (Gen.k0_off2_inb k)).toLoadRect X1 = gluS x1 k := by rw [← h1]; rfl
  unfold Gen.tripL_k0_t1 Gen.trip_k0_t1
  dsimp only
  sl_unfold_words
  refine (View.read_writes_cons_put _ _ (Gen.k0_off3_inb k) _ _ rfl).trans ?_
  unfold aStep aS
  rw [← e1, ← e2]
  rfl

include h1 in
/-- the whole loop. -/
theorem loop_t1 (f8 : BufTy.Contents (Elt F) arg8.view.ty) (n : ℕ) (hn : n ≤ k0_t1_loop.trips) :
    arg8.view.read (Elt F) (arg8.view.writes (Elt F) f8 (Gen.pb_k0_t1 (F := F) 𝒱 c bd i arg1 harg1 arg2 harg2 arg3 harg3 arg4 harg4 arg5 harg5 arg6 harg6 arg7 harg7 arg8 harg8 X1 n)) = Step.fold _ (aStep x1) (arg8.view.read (Elt F) f8) n := by
  induction n with
  | zero => rfl
  | succ n ih =>
    rw [Gen.pb_k0_t1_succ 𝒱 c bd i arg1 harg1 arg2 harg2 arg3 harg3 arg4 harg4 arg5 harg5 arg6 harg6 arg7 harg7 arg8 harg8 X1 ⟨n, hn⟩, View.writes_append, trip_t1 (F := F) 𝒱 c bd i arg1 harg1 arg2 harg2 arg3 harg3 arg4 harg4 arg5 harg5 arg6 harg6 arg7 harg7 arg8 harg8 X1 x1 h1 ⟨n, hn⟩,
      ih (Nat.le_of_succ_le hn), Step.fold_succ _ _ _ _ (show n < k0_t1_loop.trips from hn)]

include h2 h3 h8 in
/-- The second loop. -/
theorem loop_t2 (f7 : BufTy.Contents (Elt F) arg7.view.ty) (n : ℕ) (hn : n ≤ k0_t2_loop.trips) :
    arg7.view.read (Elt F) (arg7.view.writes (Elt F) f7 (Gen.pb_k0_t2 (F := F) 𝒱 c bd i arg1 harg1 arg2 harg2 arg3 harg3 arg4 harg4 arg5 harg5 arg6 harg6 arg7 harg7 arg8 harg8 X2 X3 X8 n)) = Step.fold _ (yStep x2 x3 x8) (arg7.view.read (Elt F) f7) n := by
  induction n with
  | zero => rfl
  | succ n ih =>
    rw [Gen.pb_k0_t2_succ 𝒱 c bd i arg1 harg1 arg2 harg2 arg3 harg3 arg4 harg4 arg5 harg5 arg6 harg6 arg7 harg7 arg8 harg8 X2 X3 X8 ⟨n, hn⟩, View.writes_append, trip_outs (F := F) 𝒱 c bd i arg1 harg1 arg2 harg2 arg3 harg3 arg4 harg4 arg5 harg5 arg6 harg6 arg7 harg7 arg8 harg8 X2 X3 X8 ⟨n, hn⟩,
      read_outPs, ih (Nat.le_of_succ_le hn), h2, h3, h8, Step.fold_succ _ _ _ _ (show n < k0_t2_loop.trips from hn)]
    rfl

include h1 h4 h5 h7 in
/-- One trip of the third loop; -/
theorem trip_t3 (k : Fin k0_t3_loop.trips) (f6 : BufTy.Contents (Elt F) arg6.view.ty) :
    arg6.view.read (Elt F) (arg6.view.writes (Elt F) f6 (Gen.tripL_k0_t3 (F := F) 𝒱 c bd i arg1 harg1 arg2 harg2 arg3 harg3 arg4 harg4 arg5 harg5 arg6 harg6 arg7 harg7 arg8 harg8 X1 X4 X5 X7 k)) = oStep x1 x4 x5 x7 k (arg6.view.read (Elt F) f6) := by
  have e1 : arg1.view.readAt (Elt F) (Rect.unit (s := S256x3072) (k0_off21 k) S16x1024.size (Gen.k0_off21_inb k)).toLoadRect X1 = zS x1 k := by rw [← h1]; rfl
  have e7 : arg7.view.readAt (Elt F) (Rect.unit (s := S256x1024) (k0_off20 k) S16x1024.size (Gen.k0_off20_inb k)).toLoadRect X7 = yS x7 k := by rw [← h7]; rfl
  have e4 : ∀ inb, arg4.view.readAt (Elt F) (Rect.unit (s := S1x1024) ![0, 0] S1x1024.size inb).toLoadRect X4 = x4 := fun inb => (View.readAt_full _ _ inb).trans h4
  have e5 : ∀ inb, arg5.view.readAt (Elt F) (Rect.unit (s := S1x1024) ![0, 0] S1x1024.size inb).toLoadRect X5 = x5 := fun inb => (View.readAt_full _ _ inb).trans h5
  unfold Gen.tripL_k0_t3 Gen.trip_k0_t3
  dsimp only
  sl_unfold_words
  refine (View.read_writes_cons_put _ _ (Gen.k0_off20_inb k) _ _ rfl).trans ?_
  unfold oStep oS
  rw [← e1, ← e7, ← e4 Gen.inb_S1x1024_S1x1024_0_0, ← e5 Gen.inb_S1x1024_S1x1024_0_0]
  rfl

include h1 h4 h5 h7 in
/-- the whole loop. -/
theorem loop_t3 (f6 : BufTy.Contents (Elt F) arg6.view.ty) (n : ℕ) (hn : n ≤ k0_t3_loop.trips) :
    arg6.view.read (Elt F) (arg6.view.writes (Elt F) f6 (Gen.pb_k0_t3 (F := F) 𝒱 c bd i arg1 harg1 arg2 harg2 arg3 harg3 arg4 harg4 arg5 harg5 arg6 harg6 arg7 harg7 arg8 harg8 X1 X4 X5 X7 n)) = Step.fold _ (oStep x1 x4 x5 x7) (arg6.view.read (Elt F) f6) n := by
  induction n with
  | zero => rfl
  | succ n ih =>
    rw [Gen.pb_k0_t3_succ 𝒱 c bd i arg1 harg1 arg2 harg2 arg3 harg3 arg4 harg4 arg5 harg5 arg6 harg6 arg7 harg7 arg8 harg8 X1 X4 X5 X7 ⟨n, hn⟩, View.writes_append, trip_t3 (F := F) 𝒱 c bd i arg1 harg1 arg2 harg2 arg3 harg3 arg4 harg4 arg5 harg5 arg6 harg6 arg7 harg7 arg8 harg8 X1 x1 h1 X4 x4 h4 X5 x5 h5 X7 x7 h7 ⟨n, hn⟩,
      ih (Nat.le_of_succ_le hn), Step.fold_succ _ _ _ _ (show n < k0_t3_loop.trips from hn)]

end Cert.AfKernelIdeal

end
-- ==== Proof.Af.Body.lean ====
module

public import proofs.«01_k».proof.Proof.Gen.AfKernelIdeal.Frame
public import proofs.«01_k».proof.Proof.Af.Loops
public import Idealize.ShloMosaic.Lib.Tactic

@[expose] public section

set_option maxRecDepth 16384

noncomputable section

namespace Cert.AfKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x3072 .bf16) (harg1 : arg1.IsWhole) (arg2 : Memref sig .tc .vmem S248x1024 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S256x1024 .bf16) (harg6 : arg6.IsWhole)
  (arg7 : Memref sig .tc .vmem S256x1024 .f32) (harg7 : arg7.IsWhole) (arg8 : Memref sig .tc .vmem S288x1024 .f32) (harg8 : arg8.IsWhole)
  (x1 : Vec F S256x3072 .bf16) (x2 : Vec F S248x1024 .f32) (x3 : Vec F S1x1024 .f32) (x4 : Vec F S1x1024 .f32) (x5 : Vec F S1x1024 .f32)

/-- Whether a point is the first of the grid, as the body computes it. -/
abbrev atFirst : BitVec 1 := Scalar.cmpi .ne (Scalar.extui (Scalar.cmpi .eq (BitVec.ofNat 32 (i 0).val) 0#32) : BitVec 32) 0#32

/-- The inputs, at their contents. -/
def ins : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5)

set_option maxHeartbeats 64000000 in
/-- The body at the first point. -/
theorem body_first (hc : atFirst i = 1#1) (E : Set ℕ) (K : PUnit → sProp 𝕄) :
    iprop(ins c arg1 arg2 arg3 arg4 arg5 x1 x2 x3 x4 x5 ∗ (∃ d, owns (c : Thread nD τ) arg6 fullShare d) ∗ (∃ d, owns (c : Thread nD τ) arg7 fullShare d) ∗ (∃ d, owns (c : Thread nD τ) arg8 fullShare d)
        ∗ (iprop(ins c arg1 arg2 arg3 arg4 arg5 x1 x2 x3 x4 x5 ∗ owns (c : Thread nD τ) arg6 fullShare (oBlk x1 x4 x5 (yBlk x2 x3 (aBlk x1 Gen.k0_pay1))) ∗ owns (c : Thread nD τ) arg7 fullShare (yBlk x2 x3 (aBlk x1 Gen.k0_pay1)) ∗ owns (c : Thread nD τ) arg8 fullShare (carry (aBlk x1 Gen.k0_pay1))) -∗ K ⟨⟩))
      ⊢ wp frame (wpE (defs₀ (F := F)) Variants.none c none) E (cc0_branch_a_fwd i arg1 harg1 arg2 harg2 arg3 harg3 arg4 harg4 arg5 harg5 arg6 harg6 arg7 harg7 arg8 harg8) K := by
  simp only [Gen.cc0_branch_a_fwd_eq_skeleton]; unfold Gen.cc0_branch_a_fwd_skel
  unfold ins owns
  iintro ⟨⟨⟨%f1, %hf1, H1⟩, ⟨%f2, %hf2, H2⟩, ⟨%f3, %hf3, H3⟩, ⟨%f4, %hf4, H4⟩, ⟨%f5, %hf5, H5⟩⟩, ⟨%d6, %f6, %hf6, H6⟩, ⟨%d7, %f7, %hf7, H7⟩, ⟨%d8, %f8, %hf8, H8⟩, Hk⟩
  sl_exec (disch := first | sl_exact hc)
  sl_step
  have h8 : arg8.view.read (Elt F) (arg8.view.writes (Elt F) f8 (Gen.pb_k0_t1 (F := F) Variants.none c none i arg1 harg1 arg2 harg2 arg3 harg3 arg4 harg4 arg5 harg5 arg6 harg6 arg7 harg7 arg8 harg8 f1 k0_t1_loop.trips ++ [⟨Rect.unit ![0, 0] S32x1024.size Gen.inb_S288x1024_S32x1024_0_0, Gen.k0_pay1⟩])) = aBlk x1 Gen.k0_pay1 := by
    rw [View.writes_append]
    exact (loop_t1 Variants.none c none i arg1 harg1 arg2 harg2 arg3 harg3 arg4 harg4 arg5 harg5 arg6 harg6 arg7 harg7 arg8 harg8 f1 x1 hf1 _ _ (le_refl _)).trans (a_all x1 _ _ fun inb => (congrArg (fun a => VecWindow.window (s := S288x1024) a ![0, 0] S32x1024.size inb)
      (View.read_writes_cons_put arg8.view f8 Gen.inb_S288x1024_S32x1024_0_0 _ _ rfl)).trans (halOf_put _ _))
  have h7 := (loop_t2 Variants.none c none i arg1 harg1 arg2 harg2 arg3 harg3 arg4 harg4 arg5 harg5 arg6 harg6 arg7 harg7 arg8 harg8 f2 x2 hf2 f3 x3 hf3 _ _ h8 f7 _ (le_refl _)).trans (y_all x2 x3 _ _)
  have h6 := (loop_t3 Variants.none c none i arg1 harg1 arg2 harg2 arg3 harg3 arg4 harg4 arg5 harg5 arg6 harg6 arg7 harg7 arg8 harg8 f1 x1 hf1 f4 x4 hf4 f5 x5 hf5 _ _ h7 f6 _ (le_refl _)).trans (o_all x1 x4 x5 _ _)
  iapply Hk
  isplitl [H1 H2 H3 H4 H5]
  · isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro; exact hf5
  isplitl [H6]
  · iexists _; isplitr; swap; · iexact H6
    ipureintro
    exact h6
  isplitl [H7]
  · iexists _; isplitr; swap; · iexact H7
    ipureintro
    exact h7
  iexists _; isplitr; swap; · iexact H8
  ipureintro
  refine (View.read_writes_cons_put _ _ hal_inb _ _ rfl).trans ?_
  rw [h8]
  unfold carry body_first.sl.v6
  rw [← h8]
  rfl

set_option maxHeartbeats 64000000 in
/-- The body at any other point. -/
theorem body_next (x8 : Vec F S288x1024 .f32) (hc : ¬atFirst i = 1#1) (E : Set ℕ) (K : PUnit → sProp 𝕄) :
    iprop(ins c arg1 arg2 arg3 arg4 arg5 x1 x2 x3 x4 x5 ∗ (∃ d, owns (c : Thread nD τ) arg6 fullShare d) ∗ (∃ d, owns (c : Thread nD τ) arg7 fullShare d) ∗ owns (c : Thread nD τ) arg8 fullShare x8
        ∗ (iprop(ins c arg1 arg2 arg3 arg4 arg5 x1 x2 x3 x4 x5 ∗ owns (c : Thread nD τ) arg6 fullShare (oBlk x1 x4 x5 (yBlk x2 x3 (aBlk x1 (halOf x8)))) ∗ owns (c : Thread nD τ) arg7 fullShare (yBlk x2 x3 (aBlk x1 (halOf x8))) ∗ owns (c : Thread nD τ) arg8 fullShare (carry (aBlk x1 (halOf x8)))) -∗ K ⟨⟩))
      ⊢ wp frame (wpE (defs₀ (F := F)) Variants.none c none) E (cc0_branch_a_fwd i arg1 harg1 arg2 harg2 arg3 harg3 arg4 harg4 arg5 harg5 arg6 harg6 arg7 harg7 arg8 harg8) K := by
  simp only [Gen.cc0_branch_a_fwd_eq_skeleton]; unfold Gen.cc0_branch_a_fwd_skel
  unfold ins owns
  iintro ⟨⟨⟨%f1, %hf1, H1⟩, ⟨%f2, %hf2, H2⟩, ⟨%f3, %hf3, H3⟩, ⟨%f4, %hf4, H4⟩, ⟨%f5, %hf5, H5⟩⟩, ⟨%d6, %f6, %hf6, H6⟩, ⟨%d7, %f7, %hf7, H7⟩, ⟨%f8, %hf8, H8⟩, Hk⟩
  sl_exec (disch := first | sl_exact hc)
  sl_step
  have h8 : arg8.view.read (Elt F) (arg8.view.writes (Elt F) f8 (Gen.pb_k0_t1 (F := F) Variants.none c none i arg1 harg1 arg2 harg2 arg3 harg3 arg4 harg4 arg5 harg5 arg6 harg6 arg7 harg7 arg8 harg8 f1 k0_t1_loop.trips)) = aBlk x1 (halOf x8) := by
    exact (loop_t1 Variants.none c none i arg1 harg1 arg2 harg2 arg3 harg3 arg4 harg4 arg5 harg5 arg6 harg6 arg7 harg7 arg8 harg8 f1 x1 hf1 _ _ (le_refl _)).trans (a_all x1 _ _ fun inb => congrArg (fun a => VecWindow.window (s := S288x1024) a ![0, 0] S32x1024.size inb) hf8)
  have h7 := (loop_t2 Variants.none c none i arg1 harg1 arg2 harg2 arg3 harg3 arg4 harg4 arg5 harg5 arg6 harg6 arg7 harg7 arg8 harg8 f2 x2 hf2 f3 x3 hf3 _ _ h8 f7 _ (le_refl _)).trans (y_all x2 x3 _ _)
  have h6 := (loop_t3 Variants.none c none i arg1 harg1 arg2 harg2 arg3 harg3 arg4 harg4 arg5 harg5 arg6 harg6 arg7 harg7 arg8 harg8 f1 x1 hf1 f4 x4 hf4 f5 x5 hf5 _ _ h7 f6 _ (le_refl _)).trans (o_all x1 x4 x5 _ _)
  iapply Hk
  isplitl [H1 H2 H3 H4 H5]
  · isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro; exact hf5
  isplitl [H6]
  · iexists _; isplitr; swap; · iexact H6
    ipureintro
    exact h6
  isplitl [H7]
  · iexists _; isplitr; swap; · iexact H7
    ipureintro
    exact h7
  iexists _; isplitr; swap; · iexact H8
  ipureintro
  refine (View.read_writes_cons_put _ _ hal_inb _ _ rfl).trans ?_
  rw [h8]
  unfold carry
  rw [← h8]
  rfl

end Cert.AfKernelIdeal

end
-- ==== Proof.Af.Frame.lean ====
module

public import proofs.«01_k».proof.Proof.Af.Body
public import Idealize.ShloMosaic.Lib.Pipeline.FrameBody
public import Idealize.ShloMosaic.Lib.Pipeline.TableIdle
public import Idealize.ShloMosaic.Lib.Ring
public import Idealize.ShloMosaic.Lib.WordCmp

@[expose] public section

set_option maxRecDepth 16384

noncomputable section

namespace Cert.AfKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The buffers the body is called with. -/

abbrev Gen.ms0_0 (t : Fin cfg0.N) : Memref sig .tc .vmem S256x3072 .bf16 := win0_0.stage (cfg0.slots t 0)
abbrev Gen.hs0_0 (t : Fin cfg0.N) : (Gen.ms0_0 t).IsWhole := hstage0_0 ((cfg0.slots t 0).cast nbuf0_0)
abbrev Gen.ms0_1 (t : Fin cfg0.N) : Memref sig .tc .vmem S248x1024 .f32 := win0_1.stage (cfg0.slots t 1)
abbrev Gen.hs0_1 (t : Fin cfg0.N) : (Gen.ms0_1 t).IsWhole := hstage0_1 ((cfg0.slots t 1).cast nbuf0_1)
abbrev Gen.ms0_2 (t : Fin cfg0.N) : Memref sig .tc .vmem S1x1024 .f32 := win0_2.stage (cfg0.slots t 2)
abbrev Gen.hs0_2 (t : Fin cfg0.N) : (Gen.ms0_2 t).IsWhole := hstage0_2 ((cfg0.slots t 2).cast nbuf0_2)
abbrev Gen.ms0_3 (t : Fin cfg0.N) : Memref sig .tc .vmem S1x1024 .f32 := win0_3.stage (cfg0.slots t 3)
abbrev Gen.hs0_3 (t : Fin cfg0.N) : (Gen.ms0_3 t).IsWhole := hstage0_3 ((cfg0.slots t 3).cast nbuf0_3)
abbrev Gen.ms0_4 (t : Fin cfg0.N) : Memref sig .tc .vmem S1x1024 .f32 := win0_4.stage (cfg0.slots t 4)
abbrev Gen.hs0_4 (t : Fin cfg0.N) : (Gen.ms0_4 t).IsWhole := hstage0_4 ((cfg0.slots t 4).cast nbuf0_4)
abbrev Gen.ms0_5 (t : Fin cfg0.N) : Memref sig .tc .vmem S256x1024 .bf16 := win0_5.stage (cfg0.slots t 5)
abbrev Gen.hs0_5 (t : Fin cfg0.N) : (Gen.ms0_5 t).IsWhole := hstage0_5 ((cfg0.slots t 5).cast nbuf0_5)
abbrev Gen.ms0_6 (t : Fin cfg0.N) : Memref sig .tc .vmem S256x1024 .f32 := win0_6.stage (cfg0.slots t 6)
abbrev Gen.hs0_6 (t : Fin cfg0.N) : (Gen.ms0_6 t).IsWhole := hstage0_6 ((cfg0.slots t 6).cast nbuf0_6)
abbrev Gen.scM0_0 : Memref sig .tc .vmem S288x1024 .f32 := Memref.whole cc0_scratch0

/-- The scratch buffer, at some contents. -/
theorem Gen.PhiA0_eq (c : Dev nD) :
    (Pipeline.ΦA spec0 c : sProp 𝕄) = iprop((∃ d, owns (c : Thread nD τ) Gen.scM0_0 fullShare d) ∗ (∃ r, prngReg c r)) := by
  unfold Pipeline.ΦA; rw [Gen.scopedRest0_eq]; simp only [Gen.scM0_0, owns_whole]; try rfl

theorem first_iff : ∀ t : Fin cfg0.N, atFirst (grid0.coords t) = 1#1 ↔ t.val = 0 := by decide +kernel

/-- The gated values of the block of point `n`, after the 32 rows before it. -/
def aAt (c : Dev nD) : (n : ℕ) → n < cfg0.N → Vec F S288x1024 .f32
  | 0, h => aBlk (Gen.X0_0 m c ⟨0, h⟩) Gen.k0_pay1
  | n + 1, h => aBlk (Gen.X0_0 m c ⟨n + 1, h⟩) (halOf (carry (aAt c n (Nat.lt_of_succ_lt h))))

theorem aAt_first (c : Dev nD) (t : Fin cfg0.N) (h : t.val = 0) : aAt m c t.val t.isLt = aBlk (Gen.X0_0 m c t) Gen.k0_pay1 := by
  obtain ⟨n, hn⟩ := t
  subst h; rfl

theorem aAt_next (c : Dev nD) (t : Fin cfg0.N) (h : t.val ≠ 0) :
    aAt m c t.val t.isLt = aBlk (Gen.X0_0 m c t) (halOf (carry (aAt m c (t.val - 1) (Nat.lt_of_le_of_lt (Nat.sub_le _ _) t.isLt)))) := by
  obtain ⟨n, hn⟩ := t
  cases n with
  | zero => exact absurd rfl h
  | succ n => rfl

/-- What the outputs hold: the convolution, -/
def yAt (c : Dev nD) (t : Fin cfg0.N) : Vec F S256x1024 .f32 := yBlk (Gen.iblk m c 1 t) (Gen.iblk m c 2 t) (aAt m c t.val t.isLt)
/-- the branch's result. -/
def oAt (c : Dev nD) (t : Fin cfg0.N) : Vec F S256x1024 .bf16 := oBlk (Gen.X0_0 m c t) (Gen.iblk m c 3 t) (Gen.iblk m c 4 t) (yAt m c t)

/-- What holds of the scratch buffer before point `n`. -/
def PhiS (c : Dev nD) : (n : ℕ) → n ≤ cfg0.N → sProp 𝕄
  | 0, _ => Pipeline.ΦA spec0 c
  | n + 1, hn => iprop(owns (c : Thread nD τ) Gen.scM0_0 fullShare (carry (aAt m c n hn)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) Gen.scM0_0 fullShare (carry (aAt m c (n - 1) (by omega))) ∗ (∃ r, prngReg c r)) := by
  cases n with
  | zero => exact absurd rfl hz
  | succ n => rfl

/-- The proof data of the pipeline: each input's buffer at its block, each output's at its value. -/
def dats (_ : Fin 1) (c : Dev nD) : Dat τ (Elt F) Unit ℕ (UR sig nD τ) ℕ cfg0 c where
  A w := Gen.V m c (Pipeline.arrRef spec0 w)
  after w t := match w with
    | ⟨0, _⟩ => Gen.X0_0 m c t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => oAt m c t
    | ⟨6, _⟩ => yAt m c t
  Φ t := PhiS m c t.val (Nat.le_of_lt_succ t.isLt)
  q _ := fullShare
  owed _ := 0

theorem A_eq (c : Dev nD) (w : Fin cfg0.W) : (dats m 0 c).A w = Gen.V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = Gen.X0_0 m c t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.iblk m c 3 t := by dsimp only [dats]
theorem after_4 (c : Dev nD) (t : Fin cfg0.N) : (dats m 0 c).after 4 t = Gen.iblk m c 4 t := by dsimp only [dats]
theorem after_5 (c : Dev nD) (t : Fin cfg0.N) : (dats m 0 c).after 5 t = oAt m c t := by dsimp only [dats]
theorem after_6 (c : Dev nD) (t : Fin cfg0.N) : (dats m 0 c).after 6 t = yAt m c t := by dsimp only [dats]
theorem before_0 (c : Dev nD) (t : Fin cfg0.N) (d) : (dats m 0 c).before 0 t d = Gen.X0_0 m c t :=
  Gen.before0_0_of m (dats m 0 c) (A_eq m c 0) (after_0 m c) t d
theorem before_1 (c : Dev nD) (t : Fin cfg0.N) (d) : (dats m 0 c).before 1 t d = Gen.iblk m c 1 t :=
  Gen.before0_1_of m (dats m 0 c) (A_eq m c 1) (after_1 m c) t d
theorem before_2 (c : Dev nD) (t : Fin cfg0.N) (d) : (dats m 0 c).before 2 t d = Gen.iblk m c 2 t :=
  Gen.before0_2_of m (dats m 0 c) (A_eq m c 2) (after_2 m c) t d
theorem before_3 (c : Dev nD) (t : Fin cfg0.N) (d) : (dats m 0 c).before 3 t d = Gen.iblk m c 3 t :=
  Gen.before0_3_of m (dats m 0 c) (A_eq m c 3) (after_3 m c) t d
theorem before_4 (c : Dev nD) (t : Fin cfg0.N) (d) : (dats m 0 c).before 4 t d = Gen.iblk m c 4 t :=
  Gen.before0_4_of m (dats m 0 c) (A_eq m c 4) (after_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (Gen.ms0_0 t) fullShare ((dats m 0 c).before 0 t d))
    ∗ (∃ d, owns (c : Thread nD τ) (Gen.ms0_1 t) fullShare ((dats m 0 c).before 1 t d))
    ∗ (∃ d, owns (c : Thread nD τ) (Gen.ms0_2 t) fullShare ((dats m 0 c).before 2 t d))
    ∗ (∃ d, owns (c : Thread nD τ) (Gen.ms0_3 t) fullShare ((dats m 0 c).before 3 t d))
    ∗ (∃ d, owns (c : Thread nD τ) (Gen.ms0_4 t) fullShare ((dats m 0 c).before 4 t d))
    ∗ (∃ d, owns (c : Thread nD τ) (Gen.ms0_5 t) fullShare ((dats m 0 c).before 5 t d))
    ∗ (∃ d, owns (c : Thread nD τ) (Gen.ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (Gen.ms0_0 t) fullShare ((dats m 0 c).after 0 t)
    ∗ owns (c : Thread nD τ) (Gen.ms0_1 t) fullShare ((dats m 0 c).after 1 t)
    ∗ owns (c : Thread nD τ) (Gen.ms0_2 t) fullShare ((dats m 0 c).after 2 t)
    ∗ owns (c : Thread nD τ) (Gen.ms0_3 t) fullShare ((dats m 0 c).after 3 t)
    ∗ owns (c : Thread nD τ) (Gen.ms0_4 t) fullShare ((dats m 0 c).after 4 t)
    ∗ owns (c : Thread nD τ) (Gen.ms0_5 t) fullShare ((dats m 0 c).after 5 t)
    ∗ owns (c : Thread nD τ) (Gen.ms0_6 t) fullShare ((dats m 0 c).after 6 t))

/-- The body at any point. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2, before_3, before_4, after_0, after_1, after_2, after_3, after_4, after_5, after_6]
  rw [show (dats m 0 c).owesAt () t.succ = (dats m 0 c).owesAt () t.castSucc from rfl, PhiS_castSucc,
    show (dats m 0 c).Φ t.succ = iprop(owns (c : Thread nD τ) Gen.scM0_0 fullShare (carry (aAt m c t.val t.isLt)) ∗ (∃ r, prngReg c r)) from rfl]
  unfold oAt yAt
  by_cases hz : t.val = 0
  · have hc : atFirst (grid0.coords t) = 1#1 := (first_iff t).mpr hz
    rw [PhiS_zero m c _ _ hz, Gen.PhiA0_eq, aAt_first m c t hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) Gen.scM0_0 (Memref.isWhole_whole _) (Gen.X0_0 m c t) (Gen.iblk m c 1 t) (Gen.iblk m c 2 t) (Gen.iblk m c 3 t) (Gen.iblk m c 4 t) hc)
    unfold ins
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [HS0]; · iexact HS0
    iintro ⟨⟨H0, H1, H2, H3, H4⟩, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬atFirst (grid0.coords t) = 1#1 := fun h => hz ((first_iff t).mp h)
    rw [PhiS_pos m c _ _ hz, aAt_next m c t hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (body_next c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) Gen.scM0_0 (Memref.isWhole_whole _) (Gen.X0_0 m c t) (Gen.iblk m c 1 t) (Gen.iblk m c 2 t) (Gen.iblk m c 3 t) (Gen.iblk m c 4 t) (carry (aAt m c (t.val - 1) (Nat.lt_of_le_of_lt (Nat.sub_le _ _) t.isLt))) hc)
    unfold ins
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [HS0]; · iexact HS0
    iintro ⟨⟨H0, H1, H2, H3, H4⟩, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := Gen.N_0; omega), Gen.PhiA0_eq]
  iintro ⟨HS0, Hg⟩
  isplitl [HS0]
  · iexists _; iexact HS0
  iexact Hg

set_option backward.isDefEq.respectTransparency.types false in
/-- The launch: every array ends at what the proof data say, and every counter at zero. -/
theorem run_main_quiescent : θ_run defs (onTc (τ := τ) (main (F := F))) (s₀ m ρ) (fun r => (Pipeline.FramePost cfgs (dats m) 0 (Gen.V m)) r ∧ r.2.sem = fun _ => 0) :=
  Pipeline.θ_run_frame_track (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hin := hin m) (hout := hout m)

theorem run_main : θ_run defs (onTc (τ := τ) (main (F := F))) (s₀ m ρ) (Pipeline.FramePost cfgs (dats m) 0 (Gen.V m)) :=
  (θ_run defs _ _).mono (fun _ h => h.1) (run_main_quiescent m ρ)

/-- The frame: the arguments end unchanged, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (Gen.frame_of m ρ (dats m) (A_eq m) (run_main m ρ)) ((θ_run defs _ _).mono (fun _ h => h.2) (run_main_quiescent m ρ))

end Cert.AfKernelIdeal

end
-- ==== Proof.Af.Spec.lean ====
module

public import Idealize.ShloMosaic.PureOps.Ideal
public import Idealize.ShloMosaic.Lib.IdealHost

@[expose] public section

noncomputable section

/-! # The convolution branch's forward mathematics, over the extended reals -/

namespace Step.Af

open Idealize.ShloMosaic
open scoped BigOperators

/-- The arguments: the three columns of the projection, the taps and their bias, the norm's weight and bias. -/
structure Arg where
  v : Fin 4096 → Fin 1024 → EReal
  u : Fin 4096 → Fin 1024 → EReal
  z : Fin 4096 → Fin 1024 → EReal
  w : Fin 31 → Fin 1024 → EReal
  cb : Fin 1024 → EReal
  g : Fin 1024 → EReal
  b : Fin 1024 → EReal

/-- One divided by one plus the exponential of the negative. -/
def lgs (x : EReal) : EReal := Ideal.div 1 (1 + Ideal.exp (-x))

/-- A row of numbers, centred; -/
def cen (y : Fin 1024 → EReal) (j : Fin 1024) : EReal := y j - Ideal.div (∑ l, y l) (Ideal.ofBits .f32 1149239296#32)
/-- the reciprocal root of its variance. -/
def rst (y : Fin 1024 → EReal) : EReal := Ideal.rsqrt (Ideal.div (∑ l, cen y l * cen y l) (Ideal.ofBits .f32 1149239296#32) + Ideal.ofBits .f32 897988541#32)

variable (A : Arg)

/-- The gated values; -/
def Arg.a (r : Fin 4096) (j : Fin 1024) : EReal := A.v r j * lgs (A.u r j)
/-- with thirty rows of zeros before them; -/
def Arg.ap (n : ℕ) (j : Fin 1024) : EReal := if h : 30 ≤ n ∧ n < 4126 then A.a ⟨n - 30, by omega⟩ j else 0
/-- convolved; -/
def Arg.y (r : Fin 4096) (j : Fin 1024) : EReal := (∑ k : Fin 31, A.ap (k.val + r.val) j * A.w k j) + A.cb j
/-- normalised, scaled and shifted; -/
def Arg.l (r : Fin 4096) (j : Fin 1024) : EReal := cen (A.y r) j * rst (A.y r) * A.g j + A.b j
/-- gated again. -/
def Arg.out (r : Fin 4096) (j : Fin 1024) : EReal := A.l r j * lgs (A.l r j) * (A.z r j * lgs (A.z r j))

end Step.Af

end
-- ==== Proof.Af.Blk.lean ====
module

public import proofs.«01_k».proof.Proof.Af.Blocks
public import proofs.«01_k».proof.Proof.Af.Spec
public import Idealize.ShloMosaic.Lib.Pointwise

@[expose] public section

set_option maxRecDepth 16384

noncomputable section

/-! # What the kernel computes of one block of 256 rows -/

namespace Cert.AfKernelIdeal

open Idealize.ShloMosaic Idealize.ShloMosaic.TcCoe Idealize.ShloMosaic.Tactic
open Step.Af
open scoped BigOperators

/-- A window, entry by entry. -/
theorem window_ix2 {α : Type} {n0 n1 m0 m1 : ℕ} (x : (⟨2, ![n0, n1]⟩ : Shape).Idx → α) (off : Fin 2 → ℕ)
    (inb : ∀ a, off a + (⟨2, ![m0, m1]⟩ : Shape).size a ≤ (⟨2, ![n0, n1]⟩ : Shape).size a) (p q : ℕ) (e : off = ![p, q])
    (r : Fin m0) (j : Fin m1) (i : Fin n0) (l : Fin n1) (hi : i.val = p + r.val) (hl : l.val = q + j.val) :
    VecWindow.window (s := ⟨2, ![n0, n1]⟩) x off (⟨2, ![m0, m1]⟩ : Shape).size inb (ix2 r j) = x (ix2 i l) := by
  subst e
  refine congrArg x (funext fun a => Fin.ext ?_)
  fin_cases a
  · show p + 1 * r.val = i.val
    omega
  · show q + 1 * j.val = l.val
    omega

/-- Row `i` of the block of point `t`; -/
def brow (t : Fin 16) (i : Fin 256) : Fin 4096 := ⟨256 * t.val + i.val, by omega⟩
/-- lane `q` of group `g`. -/
def lane (g : Fin 8) (q : Fin 128) : Fin 1024 := ⟨128 * g.val + q.val, by omega⟩

/-- The gated values with 32 rows of zeros before them. -/
def ax (A : Arg) (n : ℕ) (j : Fin 1024) : EReal := if h : 32 ≤ n ∧ n < 4128 then A.a ⟨n - 32, by omega⟩ j else 0

theorem ap_eq (A : Arg) (n : ℕ) (j : Fin 1024) : A.ap n j = ax A (n + 2) j := by
  unfold Arg.ap ax
  by_cases h : 30 ≤ n ∧ n < 4126
  · rw [dif_pos h, dif_pos (by omega)]
    exact congrArg (fun r => A.a r j) (Fin.ext (by show n - 30 = n + 2 - 32; omega))
  · rw [dif_neg h, dif_neg (by omega)]

/-- The blocks of a point hold the arguments. -/
structure Blk (A : Arg) (t : Fin 16) (x1 : Vec Ideal S256x3072 .bf16) (w : Vec Ideal S248x1024 .f32) (cb g b : Vec Ideal S1x1024 .f32) : Prop where
  v : ∀ (i : Fin 256) (j : Fin 1024), x1 (ix2 i ⟨0 + j.val, by omega⟩) = A.v (brow t i) j
  u : ∀ (i : Fin 256) (j : Fin 1024), x1 (ix2 i ⟨1024 + j.val, by omega⟩) = A.u (brow t i) j
  z : ∀ (i : Fin 256) (j : Fin 1024), x1 (ix2 i ⟨2048 + j.val, by omega⟩) = A.z (brow t i) j
  w : ∀ (k : Fin 31) (s : Fin 8) (j : Fin 1024), w (ix2 ⟨8 * k.val + s.val, by omega⟩ j) = A.w k j
  cb : ∀ j, cb (ix2 0 j) = A.cb j
  g : ∀ j, g (ix2 0 j) = A.g j
  b : ∀ j, b (ix2 0 j) = A.b j

/-! ## The operations of a strip -/

/-- The gate, as the kernel writes it. -/
theorem gate_eq (x : EReal) : Ideal.div 1 (1 + Ideal.exp (0 - x)) = lgs x := by
  unfold lgs
  rw [sub_eq_add_neg, zero_add]

theorem pay2_apply (v u : Vec Ideal S16x1024 .bf16) (r : Fin 16) (j : Fin 1024) : Gen.k0_pay2 v u (ix2 r j) = v (ix2 r j) * lgs (u (ix2 r j)) := by
  pointwise [Gen.k0_pay2]
  rw [gate_eq]

/-- The norm's result of one row. -/
def nrm (y g b : Fin 1024 → EReal) (j : Fin 1024) : EReal := cen y j * rst y * g j + b j

theorem norm_apply (y : Vec Ideal S16x1024 .f32) (g b : Vec Ideal S1x1024 .f32) (r : Fin 16) (j : Fin 1024) :
    Gen.k0_pay1410 y g b (ix2 r j) = nrm (fun j => y (ix2 r j)) (fun j => g (ix2 0 j)) (fun j => b (ix2 0 j)) j
      * lgs (nrm (fun j => y (ix2 r j)) (fun j => g (ix2 0 j)) (fun j => b (ix2 0 j)) j) := by
  pointwise [Gen.k0_pay1410]
  rw [gate_eq]
  rfl

theorem out_strip (z : Vec Ideal S16x1024 .bf16) (l : FVec Ideal S16x1024 .f32) (r : Fin 16) (j : Fin 1024) :
    Gen.k0_pay4 (Gen.k0_pay1409 z) l (Gen.k0_pay1411 z) Gen.k0_pay1412 (ix2 r j) = l (ix2 r j) * (z (ix2 r j) * lgs (z (ix2 r j))) := by
  pointwise [Gen.k0_pay4, Gen.k0_pay1409, Gen.k0_pay1411, Gen.k0_pay1412]
  rw [gate_eq]

/-! ## The convolution's sum -/

theorem meet_apply (win : Vec Ideal S96x128 .f32) (j : ℕ) (hj : j < 31) (m s : Fin 8) (q : Fin 128) (hn : 8 * m.val + s.val + ofs j < 96) :
    meet win j hj m (ix2 s q) = win (ix2 ⟨8 * m.val + s.val + ofs j, hn⟩ q) := by
  unfold meet rows8
  refine congrArg win (funext fun a => Fin.ext ?_)
  refine (past_eq _ _ _).trans ?_
  fin_cases a
  · show pha j + ((m.val + eig j) * 8 + s.val) = 8 * m.val + s.val + (pha j + 8 * eig j)
    omega
  · show 0 + (0 + q.val) = q.val
    omega

theorem acc_apply (w : Fin 31 → Vec Ideal S8x128 .f32) (W : ℕ → Fin 128 → EReal) (hw : ∀ (j : Fin 31) s q, w j (ix2 s q) = W (ofs j.val - 2) q)
    (win : Vec Ideal S96x128 .f32) (X : ℕ → Fin 128 → EReal) (hx : ∀ n q, win (ix2 n q) = X n.val q) (m s : Fin 8) (q : Fin 128) (n : ℕ) (h : n ≤ 31) :
    acc w win m n h (ix2 s q) = ∑ j ∈ Finset.range n, X (8 * m.val + s.val + ofs j) q * W (ofs j - 2) q := by
  induction n with
  | zero =>
    pointwise [acc]
    rw [Finset.sum_range_zero]
  | succ n ih =>
    have ho := ofs_range ⟨n, h⟩
    rw [Finset.sum_range_succ, ← ih (Nat.le_of_succ_le h)]
    pointwise [acc]
    rw [meet_apply win n h m s q (by dsimp only at ho; omega), hx, hw, mul_comm]

/-- The taps in their own order. -/
theorem sum_ofs (f : ℕ → EReal) : ∑ j ∈ Finset.range 31, f (ofs j - 2) = ∑ k : Fin 31, f k.val := by
  rw [← Finset.sum_range (fun k => f k)]
  refine Finset.sum_nbij' (fun j => ofs j - 2) (fun k => if k + 2 = 32 then 3 else 4 * ((k + 2) % 8) + (k + 2) / 8 - 1) ?_ ?_ ?_ ?_ fun _ _ => rfl
  · decide
  · decide
  · decide
  · decide

variable {A : Arg} {t : Fin 16} {x1 : Vec Ideal S256x3072 .bf16} {w : Vec Ideal S248x1024 .f32} {cb g b : Vec Ideal S1x1024 .f32} (H : Blk A t x1 w cb g b)
include H

/-! ## First loop -/

theorem aS_apply (k : Fin k0_t1_loop.trips) (r : Fin 16) (j : Fin 1024) (i : Fin 256) (hi : i.val = 16 * k.val + r.val) : aS x1 k (ix2 r j) = A.a (brow t i) j := by
  unfold aS
  refine (pay2_apply _ _ r j).trans ?_
  have e1 : valS x1 k (ix2 r j) = A.v (brow t i) j := (window_ix2 x1 _ _ _ _ (Gen.k0_off1_eq k) r j i ⟨0 + j.val, by omega⟩ hi rfl).trans (H.v i j)
  have e2 : gluS x1 k (ix2 r j) = A.u (brow t i) j := (window_ix2 x1 _ _ _ _ (Gen.k0_off2_eq k) r j i ⟨1024 + j.val, by omega⟩ hi rfl).trans (H.u i j)
  rw [e1, e2]
  rfl

theorem aBlk_apply (hal : Vec Ideal S32x1024 .f32) (hh : ∀ i j, hal (ix2 i j) = ax A (256 * t.val + i.val) j) (i : Fin 288) (j : Fin 1024) :
    aBlk x1 hal (ix2 i j) = ax A (256 * t.val + i.val) j := by
  unfold aBlk
  by_cases h : 32 ≤ i.val
  · refine (dif_pos h).trans ((congrArg (aS x1 (kOf (i.val - 32) (by omega))) (show _ = ix2 ⟨(i.val - 32) % 16, Nat.mod_lt _ (by decide)⟩ j from ?_)).trans
      ((aS_apply H (kOf (i.val - 32) (by omega)) ⟨(i.val - 32) % 16, Nat.mod_lt _ (by decide)⟩ j ⟨i.val - 32, by omega⟩ ?_).trans ?_))
    · funext a
      fin_cases a <;> rfl
    · show i.val - 32 = 16 * ((i.val - 32) / 16) + (i.val - 32) % 16
      omega
    · unfold ax
      rw [dif_pos (by omega)]
      exact congrArg (fun r => A.a r j) (Fin.ext (by show 256 * t.val + (i.val - 32) = 256 * t.val + i.val - 32; omega))
  · refine (dif_neg h).trans ((congrArg hal (show _ = ix2 ⟨i.val, by omega⟩ j from ?_)).trans (hh ⟨i.val, by omega⟩ j))
    funext a
    fin_cases a <;> rfl

omit H in
theorem halOf_carry (x : Vec Ideal S288x1024 .f32) (i : Fin 32) (j : Fin 1024) : halOf (carry x) (ix2 i j) = x (ix2 ⟨256 + i.val, by omega⟩ j) := by
  unfold carry
  rw [halOf_put]
  pointwise [Gen.k0_pay5]
  exact window_ix2 x _ _ 256 0 rfl i j ⟨256 + i.val, by omega⟩ j rfl (Nat.zero_add _).symm

/-! ## Second loop -/

section Conv

variable (a : Vec Ideal S288x1024 .f32) (ha : ∀ i j, a (ix2 i j) = ax A (256 * t.val + i.val) j)

omit H in
include ha in
theorem winS_apply (k : Fin k0_t2_loop.trips) (hk : k.val < 4) (lt : Fin 8) (p : Fin 96) (q : Fin 128) :
    winS a k lt (ix2 p q) = ax A (256 * t.val + 64 * k.val + p.val) (lane lt q) :=
  (window_ix2 a _ _ _ _ (winOff_eq k lt) p q ⟨64 * k.val + p.val, by omega⟩ (lane lt q) rfl rfl).trans ((ha _ _).trans
    (congrArg (fun n => ax A n (lane lt q)) (Nat.add_assoc _ _ _).symm))

theorem tapS_apply (lt : Fin 8) (j : Fin 31) (s : Fin 8) (q : Fin 128) : tapS w lt j (ix2 s q) = if h : ofs j.val - 2 < 31 then A.w ⟨ofs j.val - 2, h⟩ (lane lt q) else 0 := by
  have ho := ofs_range j
  rw [dif_pos (by omega)]
  exact (window_ix2 w _ _ _ _ rfl s q ⟨8 * (ofs j.val - 2) + s.val, by omega⟩ (lane lt q) rfl rfl).trans (H.w ⟨ofs j.val - 2, by omega⟩ s _)

include ha in
theorem outS_apply (k : Fin k0_t2_loop.trips) (hk : k.val < 4) (lt m s : Fin 8) (q : Fin 128) (i : Fin 256) (hi : i.val = 64 * k.val + 8 * m.val + s.val) :
    outS w cb a k lt m (ix2 s q) = A.y (brow t i) (lane lt q) := by
  unfold outS
  pointwise [Gen.k0_pay3]
  have ec : cbS cb lt (ix2 0 q) = A.cb (lane lt q) := (window_ix2 cb _ _ _ _ rfl 0 q 0 (lane lt q) rfl rfl).trans (H.cb _)
  rw [ec, acc_apply (tapS w lt) (fun n q => if h : n < 31 then A.w ⟨n, h⟩ (lane lt q) else 0) (fun j s q => tapS_apply H lt j s q) (winS a k lt)
    (fun n q => ax A (256 * t.val + 64 * k.val + n) (lane lt q)) (fun n q => winS_apply a ha k hk lt n q)]
  unfold Arg.y
  refine congrArg (· + A.cb (lane lt q)) ?_
  refine Eq.trans (Finset.sum_congr rfl fun j hj => ?_) ((sum_ofs (fun n => if hn : n < 31 then A.ap (n + (brow t i).val) (lane lt q) * A.w ⟨n, hn⟩ (lane lt q) else 0)).trans
      (Finset.sum_congr rfl fun n _ => dif_pos n.isLt))
  have ho := ofs_range ⟨j, Finset.mem_range.mp hj⟩
  dsimp only at ho
  rw [dif_pos (show ofs j - 2 < 31 by omega), dif_pos (show ofs j - 2 < 31 by omega), ap_eq]
  refine congrArg (fun n => ax A n (lane lt q) * _) ?_
  show 256 * t.val + 64 * k.val + (8 * m.val + s.val + ofs j) = ofs j - 2 + (256 * t.val + i.val) + 2
  omega

include ha in
/-- The convolution of a block. -/
theorem yBlk_apply (i : Fin 256) (j : Fin 1024) : yBlk w cb a (ix2 i j) = A.y (brow t i) j := by
  unfold yBlk
  refine (congrArg (outS w cb a (tOf i.val i.isLt) (lOf j.val) (mOf i.val)) (show _ = ix2 ⟨i.val % 8, Nat.mod_lt _ (by decide)⟩ ⟨j.val % 128, Nat.mod_lt _ (by decide)⟩ from ?_)).trans
    ((outS_apply H a ha (tOf i.val i.isLt) (by show i.val / 64 < 4; omega) (lOf j.val) (mOf i.val) ⟨i.val % 8, Nat.mod_lt _ (by decide)⟩ ⟨j.val % 128, Nat.mod_lt _ (by decide)⟩ i ?_).trans
      (congrArg (A.y (brow t i)) (Fin.ext ?_)))
  · funext a
    fin_cases a <;> rfl
  · show i.val = 64 * (i.val / 64) + 8 * (i.val % 64 / 8) + i.val % 8
    omega
  · show 128 * (j.val % 1024 / 128) + j.val % 128 = j.val
    omega

end Conv

/-! ## Third loop -/

/-- The branch's result of a block. -/
theorem oBlk_apply (y : Vec Ideal S256x1024 .f32) (hy : ∀ i j, y (ix2 i j) = A.y (brow t i) j) (i : Fin 256) (j : Fin 1024) : oBlk x1 g b y (ix2 i j) = A.out (brow t i) j := by
  have hi : i.val = 16 * (i.val / 16) + i.val % 16 := by omega
  unfold oBlk
  refine (congrArg (oS x1 g b y (qOf i.val i.isLt)) (show _ = ix2 ⟨i.val % 16, Nat.mod_lt _ (by decide)⟩ j from ?_)).trans ?_
  · funext a
    fin_cases a <;> rfl
  unfold oS
  refine (out_strip _ _ _ _).trans ?_
  rw [norm_apply]
  have ez : zS x1 (qOf i.val i.isLt) (ix2 ⟨i.val % 16, Nat.mod_lt _ (by decide)⟩ j) = A.z (brow t i) j :=
    (window_ix2 x1 _ _ _ _ (Gen.k0_off21_eq _) _ j i ⟨2048 + j.val, by omega⟩ hi rfl).trans (H.z i j)
  have ey : ∀ l : Fin 1024, yS y (qOf i.val i.isLt) (ix2 ⟨i.val % 16, Nat.mod_lt _ (by decide)⟩ l) = A.y (brow t i) l := fun l =>
    (window_ix2 y _ _ _ _ (Gen.k0_off20_eq _) _ l i l hi (Nat.zero_add _).symm).trans (hy i l)
  rw [ez, funext ey, funext H.g, funext H.b]
  rfl

end Cert.AfKernelIdeal

end
-- ==== Proof.Af.KVal.lean ====
module

public import proofs.«01_k».proof.Proof.Af.Frame
public import proofs.«01_k».proof.Proof.Af.Blk
public import Idealize.ShloMosaic.Lib.Claim
public import Idealize.ShloMosaic.Lib.Pipeline.ValueKit

@[expose] public section

set_option maxRecDepth 16384

noncomputable section

/-! # The arrays that the kernel leaves -/

namespace Cert.AfKernelIdeal

open Idealize.ShloMosaic Idealize.ShloMosaic.TcCoe Idealize.ShloMosaic.Tactic
open Idealize.ShloMosaic.Pipeline (Dat)
open Idealize.SL.Sem
open Step.Af
open scoped BigOperators

variable (m : (ℓ : Loc nD τ sig) → Buf (Elt Ideal) ℓ) (ρ : Dev nD → PrngReg) (c : Dev nD)

/-- The arguments, by their entries. -/
def argOf : Arg where
  v r j := m ((c.tc : Thread nD τ).loc main_arg0) (ix2 r ⟨0 + j.val, by have := j.isLt; omega⟩)
  u r j := m ((c.tc : Thread nD τ).loc main_arg0) (ix2 r ⟨1024 + j.val, by have := j.isLt; omega⟩)
  z r j := m ((c.tc : Thread nD τ).loc main_arg0) (ix2 r ⟨2048 + j.val, by have := j.isLt; omega⟩)
  w k j := m ((c.tc : Thread nD τ).loc main_arg1) (ix2 k j)
  cb j := m ((c.tc : Thread nD τ).loc main_arg2) (ix2 0 j)
  g j := m ((c.tc : Thread nD τ).loc main_arg3) (ix2 0 j)
  b j := m ((c.tc : Thread nD τ).loc main_arg4) (ix2 0 j)

set_option maxHeartbeats 4000000 in
/-- Every tap, eight times. -/
theorem w_entry (k : Fin 31) (s : Fin 8) (j : Fin 1024) : Gen.V m c main_v1 (ix2 ⟨8 * k.val + s.val, by omega⟩ j) = m ((c : Thread nD τ).loc main_arg1) (ix2 k j) := by
  entry_read
  pointwise

/-- The point's number. -/
def pt (t : Fin cfg0.N) : Fin 16 := ⟨t.val, by have := t.isLt; have : cfg0.N = 16 := Gen.N_0; omega⟩

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = 0 ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = 0 := by decide +kernel
theorem idx_5 : ∀ t : Fin cfg0.N, win0_5.index t 0 = t.val ∧ win0_5.index t 1 = 0 := by decide +kernel
theorem idx_6 : ∀ t : Fin cfg0.N, win0_6.index t 0 = t.val ∧ win0_6.index t 1 = 0 := by decide +kernel

theorem blk_0 (t : Fin cfg0.N) (r : Fin 256) (j : Fin 3072) :
    Gen.X0_0 m c t (ix2 r j) = m ((c : Thread nD τ).loc main_arg0) (ix2 (brow (pt t) r) ⟨j.val, by omega⟩) := by
  have h := idx_0 t
  unfold Gen.X0_0 Pipeline.Window.fill
  refine (dif_pos (Gen.moved0_0 t (ix2 r j))).trans ?_
  unfold brow pt
  blk_ext [Gen.iblk, h.1, h.2]

theorem blk_1 (t : Fin cfg0.N) (i : Fin 248) (j : Fin 1024) : Gen.iblk m c 1 t (ix2 i j) = Gen.V m c main_v1 (ix2 i j) := by
  have h := idx_1 t
  blk_ext [Gen.iblk, h.1, h.2]

theorem blk_2 (t : Fin cfg0.N) (j : Fin 1024) : Gen.iblk m c 2 t (ix2 0 j) = m ((c : Thread nD τ).loc main_arg2) (ix2 0 j) := by
  have h := idx_2 t
  blk_ext [Gen.iblk, h.1, h.2]

theorem blk_3 (t : Fin cfg0.N) (j : Fin 1024) : Gen.iblk m c 3 t (ix2 0 j) = m ((c : Thread nD τ).loc main_arg3) (ix2 0 j) := by
  have h := idx_3 t
  blk_ext [Gen.iblk, h.1, h.2]

theorem blk_4 (t : Fin cfg0.N) (j : Fin 1024) : Gen.iblk m c 4 t (ix2 0 j) = m ((c : Thread nD τ).loc main_arg4) (ix2 0 j) := by
  have h := idx_4 t
  blk_ext [Gen.iblk, h.1, h.2]

/-- The blocks of a point hold the arguments. -/
theorem blk_holds (t : Fin cfg0.N) : Blk (argOf m c) (pt t) (Gen.X0_0 m c t) (Gen.iblk m c 1 t) (Gen.iblk m c 2 t) (Gen.iblk m c 3 t) (Gen.iblk m c 4 t) where
  v i j := blk_0 m c t i _
  u i j := blk_0 m c t i _
  z i j := blk_0 m c t i _
  w k s j := (blk_1 m c t _ j).trans (w_entry m c k s j)
  cb j := blk_2 m c t j
  g j := blk_3 m c t j
  b j := blk_4 m c t j

theorem aAt_apply (n : ℕ) (h : n < cfg0.N) (i : Fin 288) (j : Fin 1024) : aAt m c n h (ix2 i j) = ax (argOf m c) (256 * n + i.val) j := by
  induction n generalizing i j with
  | zero =>
    refine aBlk_apply (blk_holds m c ⟨0, h⟩) _ (fun i j => ?_) i j
    have e : ax (argOf m c) (256 * 0 + i.val) j = 0 := dif_neg (by omega)
    show Gen.k0_pay1 (F := Ideal) (ix2 i j) = ax (argOf m c) (256 * 0 + i.val) j
    rw [e]
    pointwise [Gen.k0_pay1]
  | succ n ih =>
    refine aBlk_apply (blk_holds m c ⟨n + 1, h⟩) _ (fun i j => ?_) i j
    refine (halOf_carry _ i j).trans ((ih (Nat.lt_of_succ_lt h) ⟨256 + i.val, by omega⟩ j).trans (congrArg (fun q => ax (argOf m c) q j) ?_))
    show 256 * n + (256 + i.val) = 256 * (n + 1) + i.val
    omega

theorem yAt_apply (t : Fin cfg0.N) (r : Fin 256) (j : Fin 1024) : yAt m c t (ix2 r j) = (argOf m c).y (brow (pt t) r) j :=
  yBlk_apply (blk_holds m c t) _ (aAt_apply m c t.val t.isLt) r j

theorem oAt_apply (t : Fin cfg0.N) (r : Fin 256) (j : Fin 1024) : oAt m c t (ix2 r j) = (argOf m c).out (brow (pt t) r) j :=
  oBlk_apply (blk_holds m c t) _ (yAt_apply m c t) r j

/-- The array of the first result. -/
def oArr : Buf (Elt Ideal) ((c : Thread nD τ).loc main_v2_0) := fun i => (argOf m c).out (i 0) (i 1)
/-- The array of the second result. -/
def yArr : Buf (Elt Ideal) ((c : Thread nD τ).loc main_v2_1) := fun i => (argOf m c).y (i 0) (i 1)

theorem final_5 : (dats m 0 c).arrAt 5 cfg0.N = oArr m c := by
  refine (dats m 0 c).arrAt_eq_of_covers 5 _ (by decide +kernel) fun t hf y => ?_
  have h := idx_5
  have key : ∀ (r : Fin 256) (j : Fin 1024), oAt m c t (ix2 r j) = oArr m c ((win0_5.blk t).view.emb (ix2 r j)) := by
    intro r j
    have e0 : (win0_5.blk t).view.emb (ix2 r j) 0 = brow (pt t) r := Fin.ext (by blk_simp [(h t).1, (h t).2]; unfold brow pt; exact congrArg (· + r.val) (Nat.mul_comm _ _))
    have e1 : (win0_5.blk t).view.emb (ix2 r j) 1 = j := Fin.ext (by blk_simp [(h t).1, (h t).2])
    rw [oAt_apply]
    unfold oArr
    rw [e0, e1]
  blk_simp
  rw [after_5]
  have ey : y = ix2 (n0 := 256) (n1 := 1024) (y 0) (y 1) := (ix2_eta (n0 := 256) (n1 := 1024) y).symm
  rw [ey]
  exact key (y 0) (y 1)

theorem final_6 : (dats m 0 c).arrAt 6 cfg0.N = yArr m c := by
  refine (dats m 0 c).arrAt_eq_of_covers 6 _ (by decide +kernel) fun t hf y => ?_
  have h := idx_6
  have key : ∀ (r : Fin 256) (j : Fin 1024), yAt m c t (ix2 r j) = yArr m c ((win0_6.blk t).view.emb (ix2 r j)) := by
    intro r j
    have e0 : (win0_6.blk t).view.emb (ix2 r j) 0 = brow (pt t) r := Fin.ext (by blk_simp [(h t).1, (h t).2]; unfold brow pt; exact congrArg (· + r.val) (Nat.mul_comm _ _))
    have e1 : (win0_6.blk t).view.emb (ix2 r j) 1 = j := Fin.ext (by blk_simp [(h t).1, (h t).2])
    rw [yAt_apply]
    unfold yArr
    rw [e0, e1]
  blk_simp
  rw [after_6]
  have ey : y = ix2 (n0 := 256) (n1 := 1024) (y 0) (y 1) := (ix2_eta (n0 := 256) (n1 := 1024) y).symm
  rw [ey]
  exact key (y 0) (y 1)

/-- What the run leaves. -/
theorem run_values : θ_run defs (onTc (τ := τ) (main (F := Ideal))) ⟨m, fun _ => 0, ρ⟩ fun r => ∀ c : Dev nD,
      r.2.mem ((c.tc : Thread nD τ).loc main_v2_0) = oArr m c ∧ r.2.mem ((c.tc : Thread nD τ).loc main_v2_1) = yArr m c :=
  (θ_run defs _ _).mono (fun _ h c => ⟨(h.out_eq c 5).trans (final_5 m c), (h.out_eq c 6).trans (final_6 m c)⟩) (run_main m ρ)

end Cert.AfKernelIdeal

end
-- ==== Proof.Af.RVal.lean ====
module

public import proofs.«01_k».proof.Proof.Gen.AfReferenceIdeal.Run
public import proofs.«01_k».proof.Proof.Gen.AfReferenceIdeal.Read
public import proofs.«01_k».proof.Proof.Af.Spec
public import proofs.«01_k».proof.Proof.Ab.Stack
public import Idealize.ShloMosaic.Lib.Pointwise

@[expose] public section

set_option maxRecDepth 16384

noncomputable section

namespace Cert.AfReferenceIdeal

open Idealize.ShloMosaic Idealize.ShloMosaic.TcCoe Idealize.ShloMosaic.Tactic
open Cert.AfReferenceIdeal.Read Cert.AfReferenceIdeal.Value
open Idealize.SL.Sem
open Step.A (pile_apply)
open Step.Af
open scoped BigOperators

/-! # The arrays that the reference leaves -/

variable (x0 : (⟨S4096x8192, .bf16⟩ : BufTy).Contents (Elt Ideal)) (x1 : (⟨S31x1024, .f32⟩ : BufTy).Contents (Elt Ideal))
  (x2 x3 x4 : (⟨S1x1024, .f32⟩ : BufTy).Contents (Elt Ideal))

/-- The arguments, by their entries. -/
def argOf : Arg where
  v r j := x0 (ix2 r ⟨0 + j.val, by have := j.isLt; omega⟩)
  u r j := x0 (ix2 r ⟨1024 + j.val, by have := j.isLt; omega⟩)
  z r j := x0 (ix2 r ⟨2048 + j.val, by have := j.isLt; omega⟩)
  w k j := x1 (ix2 k j)
  cb j := x2 (ix2 0 j)
  g j := x3 (ix2 0 j)
  b j := x4 (ix2 0 j)

theorem high_apply (k : Fin 16) (r : Fin 4096) (j : Fin 1024) : val_main_v77 (F := Ideal) x0 (ix3 k r j) = val_main_v14 (F := Ideal) x0 (ix2 ⟨0 + k.val + r.val, by omega⟩ j) :=
  pile_apply Gen.bcast_S4096x1024_S1x4096x1024_1_2 (val_main_v14 (F := Ideal) x0) 16 0 (fun i => by omega) _ k r j

theorem low_apply (k : Fin 15) (r : Fin 4096) (j : Fin 1024) : val_main_v78 (F := Ideal) x0 (ix3 k r j) = val_main_v14 (F := Ideal) x0 (ix2 ⟨16 + k.val + r.val, by omega⟩ j) :=
  pile_apply Gen.bcast_S4096x1024_S1x4096x1024_1_2 (val_main_v14 (F := Ideal) x0) 15 16 (fun i => by omega) _ k r j

theorem stack_apply (k : Fin 31) (r : Fin 4096) (j : Fin 1024) : val_main_v79 (F := Ideal) x0 (ix3 k r j) = val_main_v14 (F := Ideal) x0 (ix2 ⟨k.val + r.val, by omega⟩ j) := by
  pointwise [val_main_v79]
  by_cases h : k.val < 16
  · rw [dif_pos h]
    refine (high_apply x0 ⟨k.val, h⟩ r j).trans (congrArg (fun n => val_main_v14 (F := Ideal) x0 (ix2 n j)) (Fin.ext ?_))
    show 0 + k.val + r.val = k.val + r.val
    omega
  · rw [dif_neg h]
    refine (low_apply x0 ⟨k.val - 16, by omega⟩ r j).trans (congrArg (fun n => val_main_v14 (F := Ideal) x0 (ix2 n j)) (Fin.ext ?_))
    show 16 + (k.val - 16) + r.val = k.val + r.val
    omega

theorem a_apply (r : Fin 4096) (j : Fin 1024) : val_main_v12 (F := Ideal) x0 (ix2 r j) = (argOf x0 x1 x2 x3 x4).a r j := by
  pointwise [val_main_v12, val_main_v11, val_main_v10, val_main_v9, val_main_v8, val_main_v7, val_main_v6, val_main_v3, val_main_v2, val_main_v1, val_main_v0, val_main_cst, val_main_cst_0]
  exact congrArg (fun k => x0 (ix2 r k) * lgs (x0 (ix2 r ⟨1024 + j.val, by omega⟩))) (Fin.ext (Nat.zero_add j.val).symm)

theorem ap_apply (n : Fin 4126) (j : Fin 1024) : val_main_v14 (F := Ideal) x0 (ix2 n j) = (argOf x0 x1 x2 x3 x4).ap n.val j := by
  pointwise [val_main_v14, val_main_v13, val_main_cst_1]
  unfold Arg.ap
  by_cases h : n.val < 30
  · rw [dif_pos h, dif_neg (by omega)]
  · rw [dif_neg h, dif_pos (by omega)]
    exact a_apply x0 x1 x2 x3 x4 ⟨n.val - 30, by omega⟩ j

theorem y_apply (r : Fin 4096) (j : Fin 1024) : val_main_v85 (F := Ideal) x0 x1 x2 (ix2 r j) = (argOf x0 x1 x2 x3 x4).y r j := by
  pointwise [val_main_v85, val_main_v84, val_main_v83, val_main_v82, val_main_v81, val_main_v80, val_main_cst_2]
  simp only [stack_apply, ap_apply x0 x1 x2 x3 x4]
  rfl

theorem cen_apply (r : Fin 4096) (j : Fin 1024) : val_main_v91 (F := Ideal) x0 x1 x2 (ix2 r j) = cen ((argOf x0 x1 x2 x3 x4).y r) j := by
  pointwise [val_main_v91, val_main_v90, val_main_v89, val_main_v88, val_main_v87, val_main_v86, val_main_cst_3, val_main_cst_4]
  simp only [y_apply x0 x1 x2 x3 x4]
  rfl

theorem rst_apply (r : Fin 4096) : val_main_v99 (F := Ideal) x0 x1 x2 (ix2 r 0) = rst ((argOf x0 x1 x2 x3 x4).y r) := by
  pointwise [val_main_v99, val_main_v98, val_main_v97, val_main_v96, val_main_v95, val_main_v94, val_main_v93, val_main_v92, val_main_cst_5, val_main_cst_6, val_main_cst_7]
  simp only [cen_apply x0 x1 x2 x3 x4]
  rfl

theorem l_apply (r : Fin 4096) (j : Fin 1024) : val_main_v105 (F := Ideal) x0 x1 x2 x3 x4 (ix2 r j) = (argOf x0 x1 x2 x3 x4).l r j := by
  pointwise [val_main_v105, val_main_v104, val_main_v103, val_main_v102, val_main_v101, val_main_v100]
  rw [cen_apply x0 x1 x2 x3 x4, rst_apply x0 x1 x2 x3 x4]
  rfl

theorem z_apply (r : Fin 4096) (j : Fin 1024) : val_main_v5 (F := Ideal) x0 (ix2 r j) = (argOf x0 x1 x2 x3 x4).z r j := by
  pointwise [val_main_v5, val_main_v4]
  rfl

theorem out_apply (r : Fin 4096) (j : Fin 1024) : val_main_v109 (F := Ideal) x0 x1 x2 x3 x4 (ix2 r j) = (argOf x0 x1 x2 x3 x4).out r j := by
  pointwise [val_main_v109, val_main_v108, val_main_v107, val_main_v106, val_main_call0_v5, val_main_call0_v4, val_main_call0_v3, val_main_call0_v2, val_main_call0_v1, val_main_call0_v0, val_main_call0_cst, val_main_call0_cst_0,
    val_main_call1_v5, val_main_call1_v4, val_main_call1_v3, val_main_call1_v2, val_main_call1_v1, val_main_call1_v0, val_main_call1_cst, val_main_call1_cst_0]
  rw [l_apply x0 x1 x2 x3 x4, z_apply x0 x1 x2 x3 x4]
  rfl

/-- What the run of the reference leaves. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i, r.2.mem ((c.tc : Thread nD τ).loc main_v109) i = (argOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))).out (i 0) (i 1))
      ∧ (∀ i, r.2.mem ((c.tc : Thread nD τ).loc main_v85) i = (argOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))).y (i 0) (i 1)) :=
  (θ_run defs _ _).mono (fun r h c => ⟨fun i => by
      rw [(h c).1, val_main_v109_eq, ← ix2_eta i]
      exact out_apply _ _ _ _ _ _ _, fun i => by
      rw [(h c).2.1, val_main_v85_eq, ← ix2_eta i]
      exact y_apply _ _ _ _ _ _ _⟩) (Cert.AfReferenceIdeal.Value.run m ρ)

end Cert.AfReferenceIdeal

end
-- ==== Proof.Af.Claims.lean ====
module

public import proofs.«01_k».proof.Defs
public import proofs.«01_k».proof.Proof.Gen.AfKernel
public import proofs.«01_k».proof.Proof.Af.KVal
public import proofs.«01_k».proof.Proof.Af.RVal
public import Idealize.ShloMosaic.Lib.Quiescent

@[expose] public section

set_option maxRecDepth 16384

noncomputable section

/-! # The claims about the forward pass of the convolution branch -/

namespace Cert.Proof.Af

open Idealize.ShloMosaic Idealize.ShloMosaic.TcCoe Idealize.ShloMosaic.Tactic Idealize.SL.Sem

/-- The two printed programs are the same text. -/
theorem defs_eq : Cert.AfKernel.defs (F := Bits) = Cert.AfKernelIdeal.defs (F := Bits) := by sl_kernel_rfl

theorem main_eq : Cert.AfKernel.main (F := Bits) = Cert.AfKernelIdeal.main (F := Bits) := by sl_kernel_rfl

theorem frame_kernel : Cert.quiescent_AfKernel := fun m ρ _ => by
  have h := Cert.AfKernelIdeal.frame_run (F := Bits) m ρ
  rw [← defs_eq, ← main_eq] at h
  exact h

theorem frame_ideal : Cert.quiescent_AfKernelIdeal := fun m ρ _ => Cert.AfKernelIdeal.frame_run m ρ

theorem frame_reference : Cert.quiescent_AfReferenceIdeal := fun m ρ _ =>
  (θ_run Cert.AfReferenceIdeal.defs _ _).mono
    (fun r h => ⟨fun c => (h c).2.2, sem_eq_zero_of_no_sems (by decide) r.2⟩)
    (Cert.AfReferenceIdeal.Value.run (F := Ideal) m ρ)

theorem algebraic : Cert.algebraic_AfKernelIdeal_AfReferenceIdeal := by
  intro m ρ m' ρ' _ hagree
  refine ⟨fun c => Cert.AfKernelIdeal.oArr m c, fun c => Cert.AfKernelIdeal.yArr m c, ?_, ?_⟩
  · exact (θ_run _ _ _).mono (fun r h c => ⟨(h.1 c).1, (h.1 c).2, h.2.1 c⟩)
      (θ_run_and (Cert.AfKernelIdeal.run_values m ρ) (Cert.AfKernelIdeal.frame_run m ρ))
  · refine (θ_run _ _ _).mono (fun r h c => ?_) (θ_run_and (Cert.AfReferenceIdeal.run_values m' ρ') (Cert.AfReferenceIdeal.Value.run (F := Ideal) m' ρ'))
    obtain ⟨e0, e1, e2, e3, e4⟩ := hagree c
    refine ⟨?_, ?_, (h.2 c).2.2⟩
    · funext i
      rw [(h.1 c).1 i, e0, e1, e2, e3, e4]
      rfl
    · funext i
      rw [(h.1 c).2 i, e0, e1, e2, e3, e4]
      rfl

end Cert.Proof.Af

end
-- ==== Proof.If.Loops.lean ====
module

public import proofs.«01_k».proof.Proof.B.Vals
public import proofs.«01_k».proof.Proof.Gen.IfKernelIdeal.Frame
public import Idealize.ShloMosaic.Lib.Pipeline.Value
public import Idealize.ShloMosaic.Lib.Pipeline.ValueKit

@[expose] public section

set_option maxRecDepth 16384

noncomputable section

/-! # The loop over strips of 16 rows -/

namespace Cert.IfKernelIdeal

open Idealize.ShloMosaic Idealize.ShloMosaic.TcCoe Idealize.ShloMosaic.Tactic
open Cert.BKernelIdeal (kOf in16 put_row_in put_row_out)
open Idealize.SL Idealize.SL.RA Idealize.SL.BI Idealize.SL.Sem

variable {F : FTy → Type} [FloatOps F]

theorem trips1 : k0_t1_loop.trips = 16 := by decide +kernel

/-- The rows of one strip; -/
def sX (x : Vec F S256x1024 .f32) (k : Fin k0_t1_loop.trips) : Vec F S16x1024 .f32 := VecWindow.window x (k0_off1 k) S16x1024.size (Gen.k0_off1_inb k)
/-- what one trip stores; -/
def hStep (x : Vec F S256x1024 .f32) (sh sc g : Vec F S1x1024 .f32) (k : Fin k0_t1_loop.trips) (a : Vec F S256x1024 .bf16) : Vec F S256x1024 .bf16 :=
  VecWindow.put (s := S256x1024) a (k0_off1 k) S16x1024.size (Gen.k0_pay1 (sX x k) g sc sh)
/-- the block of normed and modulated rows. -/
def hBlk (x : Vec F S256x1024 .f32) (sh sc g : Vec F S1x1024 .f32) : Vec F S256x1024 .bf16 := fun y => Gen.k0_pay1 (sX x (kOf _ trips1 (y 0))) g sc sh (in16 y)

theorem h_all (x : Vec F S256x1024 .f32) (sh sc g : Vec F S1x1024 .f32) (a : Vec F S256x1024 .bf16) :
    Step.fold k0_t1_loop.trips (hStep x sh sc g) a k0_t1_loop.trips = hBlk x sh sc g := by
  funext y
  have h0 : (y 0).val < 256 := (y 0).isLt
  refine Step.fold_at _ _ _ _ (kOf _ trips1 (y 0)) _ (fun b => put_row_in _ _ _ _ (Gen.k0_off1_eq _)) (fun j hj b => put_row_out _ _ _ _ j.val (Gen.k0_off1_eq j) ?_) _ (Fin.isLt _)
  exact fun e => hj (Fin.ext e)

variable (𝒱 : Variants) (c : Dev nD) (bd : Option 𝒱.V) (i : grid0.Coords)
  (arg1 : Memref sig .tc .vmem S256x1024 .f32) (harg1 : arg1.IsWhole) (arg2 : Memref sig .tc .vmem S1x1024 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S4x1024x2048 .bf16) (harg5 : arg5.IsWhole) (arg6 : Memref sig .tc .vmem S256x8192 .bf16) (harg6 : arg6.IsWhole)
  (arg7 : Memref sig .tc .vmem S256x1024 .bf16) (harg7 : arg7.IsWhole)
  (X1 : BufTy.Contents (Elt F) arg1.view.ty) (x1 : Vec F S256x1024 .f32) (h1 : arg1.view.read (Elt F) X1 = x1)
  (X2 : BufTy.Contents (Elt F) arg2.view.ty) (x2 : Vec F S1x1024 .f32) (h2 : arg2.view.read (Elt F) X2 = x2)
  (X3 : BufTy.Contents (Elt F) arg3.view.ty) (x3 : Vec F S1x1024 .f32) (h3 : arg3.view.read (Elt F) X3 = x3)
  (X4 : BufTy.Contents (Elt F) arg4.view.ty) (x4 : Vec F S1x1024 .f32) (h4 : arg4.view.read (Elt F) X4 = x4)
  (V : View sig .tc .vmem S256x1024 .bf16)

include h1 h2 h3 h4 in
/-- One trip, read back through any view; -/
theorem trip_t1 (k : Fin k0_t1_loop.trips) (f : BufTy.Contents (Elt F) V.ty) :
    V.read (Elt F) (V.writes (Elt F) f (Gen.tripL_k0_t1 (F := F) 𝒱 c bd i arg1 harg1 arg2 harg2 arg3 harg3 arg4 harg4 arg5 harg5 arg6 harg6 arg7 harg7 X1 X2 X3 X4 k)) = hStep x1 x2 x3 x4 k (V.read (Elt F) f) := by
  have h2' : ∀ inb, arg2.view.readAt (Elt F) (Rect.unit (s := S1x1024) ![0, 0] S1x1024.size inb).toLoadRect X2 = x2 := fun inb => (View.readAt_full _ _ inb).trans h2
  have h3' : ∀ inb, arg3.view.readAt (Elt F) (Rect.unit (s := S1x1024) ![0, 0] S1x1024.size inb).toLoadRect X3 = x3 := fun inb => (View.readAt_full _ _ inb).trans h3
  have h4' : ∀ inb, arg4.view.readAt (Elt F) (Rect.unit (s := S1x1024) ![0, 0] S1x1024.size inb).toLoadRect X4 = x4 := fun inb => (View.readAt_full _ _ inb).trans h4
  have e1 : arg1.view.readAt (Elt F) (Rect.unit (s := S256x1024) (k0_off1 k) S16x1024.size (Gen.k0_off1_inb k)).toLoadRect X1 = sX x1 k := by
    rw [← h1]; rfl
  unfold Gen.tripL_k0_t1 Gen.trip_k0_t1
  dsimp only
  sl_unfold_words
  refine (View.read_writes_cons_put _ _ (Gen.k0_off1_inb k) _ _ rfl).trans ?_
  unfold hStep
  rw [← e1, ← h2' Gen.inb_S1x1024_S1x1024_0_0, ← h3' Gen.inb_S1x1024_S1x1024_0_0, ← h4' Gen.inb_S1x1024_S1x1024_0_0]
  rfl

include h1 h2 h3 h4 in
/-- the whole loop. -/
theorem loop_t1 (f : BufTy.Contents (Elt F) V.ty) (n : ℕ) (hn : n ≤ k0_t1_loop.trips) :
    V.read (Elt F) (V.writes (Elt F) f (Gen.pb_k0_t1 (F := F) 𝒱 c bd i arg1 harg1 arg2 harg2 arg3 harg3 arg4 harg4 arg5 harg5 arg6 harg6 arg7 harg7 X1 X2 X3 X4 n)) = Step.fold _ (hStep x1 x2 x3 x4) (V.read (Elt F) f) n := by
  induction n with
  | zero => rfl
  | succ n ih =>
    rw [Gen.pb_k0_t1_succ 𝒱 c bd i arg1 harg1 arg2 harg2 arg3 harg3 arg4 harg4 arg5 harg5 arg6 harg6 arg7 harg7 X1 X2 X3 X4 ⟨n, hn⟩, View.writes_append,
      trip_t1 𝒱 c bd i arg1 harg1 arg2 harg2 arg3 harg3 arg4 harg4 arg5 harg5 arg6 harg6 arg7 harg7 X1 x1 h1 X2 x2 h2 X3 x3 h3 X4 x4 h4 V ⟨n, hn⟩, ih (Nat.le_of_succ_le hn),
      Step.fold_succ _ _ _ _ (show n < k0_t1_loop.trips from hn)]

end Cert.IfKernelIdeal

end
-- ==== Proof.If.After.lean ====
module

public import proofs.«01_k».proof.Proof.If.Loops
public import proofs.«01_k».proof.Proof.Gen.IfKernelIdeal.Value

@[expose] public section

set_option maxRecDepth 16384

noncomputable section

/-! # The blocks that a point leaves -/

namespace Cert.IfKernelIdeal

open Idealize.ShloMosaic Idealize.ShloMosaic.TcCoe Idealize.ShloMosaic.Tactic
open Idealize.SL.Sem

variable {F : FTy → Type} [FloatOps F]
variable (m : (ℓ : Loc nD τ sig) → Buf (Elt F) ℓ) (c : Dev nD)

/-- The normed and modulated rows of point `t`. -/
def hAt (t : Fin cfg0.N) : Vec F S256x1024 .bf16 := hBlk (Gen.iblk m c 0 t) (Gen.iblk m c 1 t) (Gen.iblk m c 2 t) (Gen.iblk m c 3 t)

theorem after_6 (t : Fin cfg0.N) : (Gen.dats m 0 c).after 6 t = hAt m c t := by
  rw [Gen.after0_6]
  unfold Gen.outsAt0 Gen.out0_A_6
  dsimp only
  unfold Gen.kernelRun0_A
  dsimp only
  refine (loop_t1 _ _ _ _ _ _ _ _ _ _ _ _ _ _ _ _ _ _ _ (Gen.iblk m c 0 t) (Memref.IsWhole.read_unread _ _) _ (Gen.iblk m c 1 t) (Memref.IsWhole.read_unread _ _)
    _ (Gen.iblk m c 2 t) (Memref.IsWhole.read_unread _ _) _ (Gen.iblk m c 3 t) (Memref.IsWhole.read_unread _ _) _ _ _ (le_refl _)).trans ?_
  exact h_all _ _ _ _ _

/-- One of the four matrices of the packed weight. -/
def quarter (w : Vec F S4x1024x2048 .bf16) (o : Fin 3 → ℕ) (h : ∀ a, o a + S1x1024x2048.size a ≤ S4x1024x2048.size a) : Vec F S1x1024x2048 .bf16 :=
  View.ld w (Rect.unit (s := S4x1024x2048) o S1x1024x2048.size h)

/-- The projected rows: four blocks of columns side by side. -/
def pBlk (h : Vec F S256x1024 .bf16) (w : Vec F S4x1024x2048 .bf16) : Vec F S256x8192 .bf16 :=
  View.canon (Val := Elt F) (s := S256x8192)
    [⟨Rect.unit ![0, 6144] ![256, 2048] Gen.inb_S256x8192_S256x2048_0_6144, Gen.k0_pay6 h (quarter w ![3, 0, 0] Gen.inb_S4x1024x2048_S1x1024x2048_3_0_0)⟩,
     ⟨Rect.unit ![0, 4096] ![256, 2048] Gen.inb_S256x8192_S256x2048_0_4096, Gen.k0_pay5 h (quarter w ![2, 0, 0] Gen.inb_S4x1024x2048_S1x1024x2048_2_0_0)⟩,
     ⟨Rect.unit ![0, 2048] ![256, 2048] Gen.inb_S256x8192_S256x2048_0_2048, Gen.k0_pay4 h (quarter w ![1, 0, 0] Gen.inb_S4x1024x2048_S1x1024x2048_1_0_0)⟩,
     ⟨Rect.unit ![0, 0] ![256, 2048] Gen.inb_S256x8192_S256x2048_0_0, Gen.k0_pay3 h (quarter w ![0, 0, 0] Gen.inb_S4x1024x2048_S1x1024x2048_0_0_0)⟩]

theorem after_5 (t : Fin cfg0.N) : (Gen.dats m 0 c).after 5 t = pBlk (hAt m c t) (Gen.iblk m c 4 t) := by
  have e := (loop_t1 Variants.none c none (grid0.coords t) (Gen.ms0_0 t) (Gen.hs0_0 t) (Gen.ms0_1 t) (Gen.hs0_1 t) (Gen.ms0_2 t) (Gen.hs0_2 t) (Gen.ms0_3 t) (Gen.hs0_3 t)
    (Gen.ms0_4 t) (Gen.hs0_4 t) (Gen.ms0_5 t) (Gen.hs0_5 t) (Gen.ms0_6 t) (Gen.hs0_6 t) _ (Gen.iblk m c 0 t) ((Gen.hs0_0 t).read_unread _) _ (Gen.iblk m c 1 t) ((Gen.hs0_1 t).read_unread _)
    _ (Gen.iblk m c 2 t) ((Gen.hs0_2 t).read_unread _) _ (Gen.iblk m c 3 t) ((Gen.hs0_3 t).read_unread _) (Gen.ms0_6 t).view (Gen.ms0_6 t).view.junk _ (le_refl _)).trans (h_all _ _ _ _ _)
  have e' := (View.readAt_full (Gen.ms0_6 t).view _ Gen.inb_S256x1024_S256x1024_0_0).trans e
  rw [Gen.after0_5]
  unfold Gen.outsAt0 Gen.out0_A_5
  dsimp only
  unfold Gen.kernelRun0_A
  dsimp only
  frame_out
  unfold hAt
  rw [← e']
  rfl

end Cert.IfKernelIdeal

end
-- ==== Proof.If.Spec.lean ====
module

public import proofs.«01_k».proof.Proof.Common.Scalars

@[expose] public section

noncomputable section

/-! # The normed and modulated rows and their projection, as functions of rows and columns -/

namespace Step.If

open Idealize.ShloMosaic
open scoped BigOperators

/-- One row, normed, scaled and shifted. -/
def h (x sh sc g : Fin 1024 → EReal) (j : Fin 1024) : EReal := x j * rinv x * g j * (1 + sc j) + sh j

/-- Its projection. -/
def p (x sh sc g : Fin 1024 → EReal) (w : Fin 1024 → Fin 8192 → EReal) (k : Fin 8192) : EReal := ∑ j, h x sh sc g j * w j k

end Step.If

end
-- ==== Proof.If.KVal.lean ====
module

public import proofs.«01_k».proof.Proof.If.After
public import proofs.«01_k».proof.Proof.If.Spec
public import Idealize.ShloMosaic.Lib.Claim
public import Idealize.ShloMosaic.Lib.Pipeline.ValueKit

@[expose] public section

set_option maxRecDepth 16384

noncomputable section

/-! # The arrays that the kernel leaves -/

namespace Cert.IfKernelIdeal

open Idealize.ShloMosaic Idealize.ShloMosaic.TcCoe Idealize.ShloMosaic.Tactic
open Cert.BKernelIdeal (kOf in16)
open Idealize.SL.Sem
open scoped BigOperators

/-! ## One block -/

theorem sX_apply (x : Vec Ideal S256x1024 .f32) (k : Fin k0_t1_loop.trips) (r : Fin 16) (j : Fin 1024) (y : Fin 256)
    (hy : y.val = k.val * 16 + r.val) : sX x k (ix2 r j) = x (ix2 y j) := by
  unfold sX VecWindow.window
  refine congrArg x (funext fun a => Fin.ext ?_)
  have o0 : k0_off1 k 0 = 16 * k.val := congrFun (Gen.k0_off1_eq k) 0
  have o1 : k0_off1 k 1 = 0 := congrFun (Gen.k0_off1_eq k) 1
  fin_cases a
  · show k0_off1 k 0 + 1 * r.val = y.val
    omega
  · show k0_off1 k 1 + 1 * j.val = j.val
    omega

theorem hBlk_apply (x : Vec Ideal S256x1024 .f32) (sh sc g : Vec Ideal S1x1024 .f32) (y : Fin 256) (j : Fin 1024) :
    hBlk x sh sc g (ix2 y j) = Step.If.h (fun l => x (ix2 y l)) (fun l => sh (ix2 0 l)) (fun l => sc (ix2 0 l)) (fun l => g (ix2 0 l)) j := by
  have hr : y.val % 16 < 16 := Nat.mod_lt _ (by decide)
  have e : hBlk x sh sc g (ix2 y j) = Gen.k0_pay1 (sX x (kOf _ trips1 y)) g sc sh (ix2 ⟨y.val % 16, hr⟩ j) := by
    unfold hBlk
    refine congrArg _ (funext fun a => Fin.ext ?_)
    fin_cases a <;> rfl
  rw [e]
  pointwise [Gen.k0_pay1]
  have hs : ∀ l : Fin 1024, sX x (kOf _ trips1 y) (ix2 ⟨y.val % 16, hr⟩ l) = x (ix2 y l) :=
    fun l => sX_apply x _ _ l y (by show y.val = y.val / 16 * 16 + y.val % 16; omega)
  simp only [hs]
  rfl

theorem quarter_apply (w : Vec Ideal S4x1024x2048 .bf16) (o : ℕ) (h) (q : Fin 4) (hq : q.val = o) (j : Fin 1024) (k : Fin 2048) :
    quarter w ![o, 0, 0] h (ix3 0 j k) = w (ix3 q j k) := by
  refine congrArg w (funext fun b => Fin.ext ?_)
  fin_cases b
  · show o + 1 * 0 = q.val
    omega
  · show 0 + 1 * j.val = j.val
    omega
  · show 0 + 1 * k.val = k.val
    omega

theorem pay3_apply (h : Vec Ideal S256x1024 .bf16) (w : Vec Ideal S4x1024x2048 .bf16) (r : Fin 256) (k : Fin 2048) :
    Gen.k0_pay3 h (quarter w ![0, 0, 0] Gen.inb_S4x1024x2048_S1x1024x2048_0_0_0) (ix2 r k) = ∑ l, h (ix2 r l) * w (ix3 0 l k) := by
  pointwise [Gen.k0_pay3, Gen.k0_pay2]
  simp only [quarter_apply w 0 _ 0 rfl]

theorem pay4_apply (h : Vec Ideal S256x1024 .bf16) (w : Vec Ideal S4x1024x2048 .bf16) (r : Fin 256) (k : Fin 2048) :
    Gen.k0_pay4 h (quarter w ![1, 0, 0] Gen.inb_S4x1024x2048_S1x1024x2048_1_0_0) (ix2 r k) = ∑ l, h (ix2 r l) * w (ix3 1 l k) := by
  pointwise [Gen.k0_pay4, Gen.k0_pay2]
  simp only [quarter_apply w 1 _ 1 rfl]

theorem pay5_apply (h : Vec Ideal S256x1024 .bf16) (w : Vec Ideal S4x1024x2048 .bf16) (r : Fin 256) (k : Fin 2048) :
    Gen.k0_pay5 h (quarter w ![2, 0, 0] Gen.inb_S4x1024x2048_S1x1024x2048_2_0_0) (ix2 r k) = ∑ l, h (ix2 r l) * w (ix3 2 l k) := by
  pointwise [Gen.k0_pay5, Gen.k0_pay2]
  simp only [quarter_apply w 2 _ 2 rfl]

theorem pay6_apply (h : Vec Ideal S256x1024 .bf16) (w : Vec Ideal S4x1024x2048 .bf16) (r : Fin 256) (k : Fin 2048) :
    Gen.k0_pay6 h (quarter w ![3, 0, 0] Gen.inb_S4x1024x2048_S1x1024x2048_3_0_0) (ix2 r k) = ∑ l, h (ix2 r l) * w (ix3 3 l k) := by
  pointwise [Gen.k0_pay6, Gen.k0_pay2]
  simp only [quarter_apply w 3 _ 3 rfl]

/-- The projected block: each of its four blocks of columns is the product with one of the four matrices. -/
theorem pBlk_apply (h : Vec Ideal S256x1024 .bf16) (w : Vec Ideal S4x1024x2048 .bf16) (q : Fin 4) (r : Fin 256) (k : Fin 2048) :
    pBlk h w (ix2 r ⟨q.val * 2048 + k.val, by omega⟩) = ∑ l, h (ix2 r l) * w (ix3 q l k) := by
  have inn : ∀ (o : ℕ) (inb) (ho : o = q.val * 2048), (ix2 r ⟨q.val * 2048 + k.val, by omega⟩ : S256x8192.Idx) = (Rect.unit (s := S256x8192) ![0, o] ![256, 2048] inb).emb (ix2 r k) := by
    intro o inb ho
    refine funext fun a => Fin.ext ?_
    fin_cases a
    · show r.val = 0 + 1 * r.val
      omega
    · show q.val * 2048 + k.val = o + 1 * k.val
      omega
  have out : ∀ (o : ℕ) (inb) (ho : q.val * 2048 + 2048 ≤ o), (ix2 r ⟨q.val * 2048 + k.val, by omega⟩ : S256x8192.Idx) ∉ (Rect.unit (s := S256x8192) ![0, o] ![256, 2048] inb).set := by
    intro o inb ho
    rw [Rect.mem_set_unit]
    intro hm
    have : o ≤ q.val * 2048 + k.val := (hm 1).1
    omega
  unfold pBlk
  have four : q.val = 0 ∨ q.val = 1 ∨ q.val = 2 ∨ q.val = 3 := by omega
  rcases four with hq | hq | hq | hq
  · have e : q = 0 := Fin.ext hq
    rw [View.canon_cons_of_not_mem]
    swap
    · exact (out 6144 Gen.inb_S256x8192_S256x2048_0_6144 (by omega))
    rw [View.canon_cons_of_not_mem]
    swap
    · exact (out 4096 Gen.inb_S256x8192_S256x2048_0_4096 (by omega))
    rw [View.canon_cons_of_not_mem]
    swap
    · exact (out 2048 Gen.inb_S256x8192_S256x2048_0_2048 (by omega))
    rw [inn 0 Gen.inb_S256x8192_S256x2048_0_0 (by omega), e]
    exact (View.canon_cons_emb _ _ _ _).trans (pay3_apply h w r k)
  · have e : q = 1 := Fin.ext hq
    rw [View.canon_cons_of_not_mem]
    swap
    · exact (out 6144 Gen.inb_S256x8192_S256x2048_0_6144 (by omega))
    rw [View.canon_cons_of_not_mem]
    swap
    · exact (out 4096 Gen.inb_S256x8192_S256x2048_0_4096 (by omega))
    rw [inn 2048 Gen.inb_S256x8192_S256x2048_0_2048 (by omega), e]
    exact (View.canon_cons_emb _ _ _ _).trans (pay4_apply h w r k)
  · have e : q = 2 := Fin.ext hq
    rw [View.canon_cons_of_not_mem]
    swap
    · exact (out 6144 Gen.inb_S256x8192_S256x2048_0_6144 (by omega))
    rw [inn 4096 Gen.inb_S256x8192_S256x2048_0_4096 (by omega), e]
    exact (View.canon_cons_emb _ _ _ _).trans (pay5_apply h w r k)
  · have e : q = 3 := Fin.ext hq
    rw [inn 6144 Gen.inb_S256x8192_S256x2048_0_6144 (by omega), e]
    exact (View.canon_cons_emb _ _ _ _).trans (pay6_apply h w r k)

/-! ## The windows' blocks -/

variable (m : (ℓ : Loc nD τ sig) → Buf (Elt Ideal) ℓ) (ρ : Dev nD → PrngReg) (c : Dev nD)

/-- The arguments by rows and columns. -/
def aX (i : Fin 4096) (j : Fin 1024) : EReal := m ((c : Thread nD τ).loc main_arg0) (ix2 i j)
def aW (j : Fin 1024) (k : Fin 8192) : EReal := m ((c : Thread nD τ).loc main_arg1) (ix2 j k)
def aSh (j : Fin 1024) : EReal := m ((c : Thread nD τ).loc main_arg2) (ix2 0 j)
def aSc (j : Fin 1024) : EReal := m ((c : Thread nD τ).loc main_arg3) (ix2 0 j)
def aG (j : Fin 1024) : EReal := m ((c : Thread nD τ).loc main_arg4) (ix2 0 j)

/-- Row `r` of point `t`. -/
def rowOf (t : Fin cfg0.N) (r : Fin 256) : Fin 4096 := ⟨t.val * 256 + r.val, by have := t.isLt; have : cfg0.N = 16 := Gen.N_0; omega⟩

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = 0 ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = 0 ∧ win0_4.index t 2 = 0 := by decide +kernel
theorem idx_5 : ∀ t : Fin cfg0.N, win0_5.index t 0 = t.val ∧ win0_5.index t 1 = 0 := by decide +kernel
theorem idx_6 : ∀ t : Fin cfg0.N, win0_6.index t 0 = t.val ∧ win0_6.index t 1 = 0 := by decide +kernel

theorem blk_0 (t : Fin cfg0.N) (r : Fin 256) (j : Fin 1024) : Gen.iblk m c 0 t (ix2 r j) = aX m c (rowOf t r) j := by
  have h := idx_0 t
  unfold aX rowOf
  blk_ext [Gen.iblk, h.1, h.2]

theorem blk_1 (t : Fin cfg0.N) (j : Fin 1024) : Gen.iblk m c 1 t (ix2 0 j) = aSh m c j := by
  have h := idx_1 t
  unfold aSh
  blk_ext [Gen.iblk, h.1, h.2]

theorem blk_2 (t : Fin cfg0.N) (j : Fin 1024) : Gen.iblk m c 2 t (ix2 0 j) = aSc m c j := by
  have h := idx_2 t
  unfold aSc
  blk_ext [Gen.iblk, h.1, h.2]

theorem blk_3 (t : Fin cfg0.N) (j : Fin 1024) : Gen.iblk m c 3 t (ix2 0 j) = aG m c j := by
  have h := idx_3 t
  unfold aG
  blk_ext [Gen.iblk, h.1, h.2]

/-- The packed weight. -/
theorem packed (q : Fin 4) (j : Fin 1024) (k : Fin 2048) : Gen.V m c main_v2 (ix3 q j k) = aW m c j ⟨q.val * 2048 + k.val, by omega⟩ := by
  unfold aW
  entry_read
  pointwise

theorem blk_4 (t : Fin cfg0.N) (q : Fin 4) (j : Fin 1024) (k : Fin 2048) : Gen.iblk m c 4 t (ix3 q j k) = aW m c j ⟨q.val * 2048 + k.val, by omega⟩ := by
  rw [← packed]
  have h := idx_4 t
  blk_ext [Gen.iblk, h.1, h.2.1, h.2.2]

theorem hAt_apply (t : Fin cfg0.N) (r : Fin 256) (j : Fin 1024) : hAt m c t (ix2 r j) = Step.If.h (aX m c (rowOf t r)) (aSh m c) (aSc m c) (aG m c) j := by
  unfold hAt
  rw [hBlk_apply]
  simp only [blk_0, blk_1, blk_2, blk_3]

theorem pAt_apply (t : Fin cfg0.N) (r : Fin 256) (k : Fin 8192) :
    pBlk (hAt m c t) (Gen.iblk m c 4 t) (ix2 r k) = Step.If.p (aX m c (rowOf t r)) (aSh m c) (aSc m c) (aG m c) (aW m c) k := by
  have hk : (⟨(⟨k.val / 2048, by omega⟩ : Fin 4).val * 2048 + (⟨k.val % 2048, Nat.mod_lt _ (by decide)⟩ : Fin 2048).val, by dsimp only; omega⟩ : Fin 8192) = k :=
    Fin.ext (by dsimp only; omega)
  have e := pBlk_apply (hAt m c t) (Gen.iblk m c 4 t) ⟨k.val / 2048, by omega⟩ r ⟨k.val % 2048, Nat.mod_lt _ (by decide)⟩
  rw [hk] at e
  rw [e]
  unfold Step.If.p
  refine Finset.sum_congr rfl fun l _ => ?_
  rw [hAt_apply, blk_4, hk]

/-! ## The results -/

/-- The projected rows; -/
def pArr : Buf (Elt Ideal) ((c : Thread nD τ).loc main_v3_0) := fun i => Step.If.p (aX m c (i 0)) (aSh m c) (aSc m c) (aG m c) (aW m c) (i 1)
/-- the rows before the projection. -/
def hArr : Buf (Elt Ideal) ((c : Thread nD τ).loc main_v3_1) := fun i => Step.If.h (aX m c (i 0)) (aSh m c) (aSc m c) (aG m c) (i 1)

theorem final_5 : (Gen.dats m 0 c).arrAt 5 cfg0.N = pArr m c := by
  refine (Gen.dats m 0 c).arrAt_eq_of_covers 5 _ (by decide +kernel) fun t hf y => ?_
  have h := idx_5
  have key : ∀ (r : Fin 256) (j : Fin 8192), pBlk (hAt m c t) (Gen.iblk m c 4 t) (ix2 r j) = pArr m c ((win0_5.blk t).view.emb (ix2 r j)) := by
    intro r j
    have e0 : (win0_5.blk t).view.emb (ix2 r j) 0 = rowOf t r := Fin.ext (by blk_simp [(h t).1, (h t).2]; rfl)
    have e1 : (win0_5.blk t).view.emb (ix2 r j) 1 = j := Fin.ext (by blk_simp [(h t).1, (h t).2])
    rw [pAt_apply]
    unfold pArr
    rw [e0, e1]
  blk_simp
  rw [after_5]
  have ey : y = ix2 (n0 := 256) (n1 := 8192) (y 0) (y 1) := (ix2_eta (n0 := 256) (n1 := 8192) y).symm
  rw [ey]
  exact key (y 0) (y 1)

theorem final_6 : (Gen.dats m 0 c).arrAt 6 cfg0.N = hArr m c := by
  refine (Gen.dats m 0 c).arrAt_eq_of_covers 6 _ (by decide +kernel) fun t hf y => ?_
  have h := idx_6
  have key : ∀ (r : Fin 256) (j : Fin 1024), hAt m c t (ix2 r j) = hArr m c ((win0_6.blk t).view.emb (ix2 r j)) := by
    intro r j
    have e0 : (win0_6.blk t).view.emb (ix2 r j) 0 = rowOf t r := Fin.ext (by blk_simp [(h t).1, (h t).2]; rfl)
    have e1 : (win0_6.blk t).view.emb (ix2 r j) 1 = j := Fin.ext (by blk_simp [(h t).1, (h t).2])
    rw [hAt_apply]
    unfold hArr
    rw [e0, e1]
  blk_simp
  rw [after_6]
  have ey : y = ix2 (n0 := 256) (n1 := 1024) (y 0) (y 1) := (ix2_eta (n0 := 256) (n1 := 1024) y).symm
  rw [ey]
  exact key (y 0) (y 1)

/-- What the run leaves. -/
theorem run_values : θ_run defs (onTc (τ := τ) (main (F := Ideal))) ⟨m, fun _ => 0, ρ⟩ fun r => ∀ c : Dev nD,
    r.2.mem ((c.tc : Thread nD τ).loc main_v3_0) = pArr m c ∧ r.2.mem ((c.tc : Thread nD τ).loc main_v3_1) = hArr m c :=
  (θ_run defs _ _).mono (fun _ h c => ⟨(h.out_eq c 5).trans (final_5 m c), (h.out_eq c 6).trans (final_6 m c)⟩) (Gen.run_main m ρ)

end Cert.IfKernelIdeal

end
-- ==== Proof.If.RVal.lean ====
module

public import proofs.«01_k».proof.Proof.Gen.IfReferenceIdeal.Run
public import proofs.«01_k».proof.Proof.Gen.IfReferenceIdeal.Read
public import proofs.«01_k».proof.Proof.If.Spec
public import Idealize.ShloMosaic.Lib.Pointwise

@[expose] public section

set_option maxRecDepth 16384

noncomputable section

/-! # The arrays that the reference leaves -/

namespace Cert.IfReferenceIdeal

open Idealize.ShloMosaic Idealize.ShloMosaic.TcCoe Idealize.ShloMosaic.Tactic
open Idealize.SL.Sem
open Cert.IfReferenceIdeal.Read
open scoped BigOperators

variable (x0 : (⟨S4096x1024, .f32⟩ : BufTy).Contents (Elt Ideal)) (x1 : (⟨S1024x8192, .f32⟩ : BufTy).Contents (Elt Ideal))
  (x2 x3 x4 : (⟨S1x1024, .f32⟩ : BufTy).Contents (Elt Ideal))

theorem r_apply (i : Fin 4096) : val_main_v7 (F := Ideal) x0 (ix2 i 0) = Step.rinv fun j => x0 (ix2 i j) := by
  pointwise [val_main_v7, val_main_v6, val_main_v5, val_main_v4, val_main_v3, val_main_v2, val_main_v1, val_main_v0, val_main_cst, val_main_cst_0, val_main_cst_1]
  rfl

theorem h_apply (i : Fin 4096) (j : Fin 1024) :
    val_main_v17 (F := Ideal) x0 x2 x3 x4 (ix2 i j)
      = Step.If.h (fun j => x0 (ix2 i j)) (fun j => x2 (ix2 0 j)) (fun j => x3 (ix2 0 j)) (fun j => x4 (ix2 0 j)) j := by
  pointwise [val_main_v17, val_main_v16, val_main_v15, val_main_v14, val_main_v13, val_main_v12, val_main_v11, val_main_v10, val_main_v9, val_main_v8, val_main_cst_2]
  rw [r_apply]
  rfl

theorem hb_apply (i : Fin 4096) (j : Fin 1024) :
    val_main_v20 (F := Ideal) x0 x2 x3 x4 (ix2 i j)
      = Step.If.h (fun j => x0 (ix2 i j)) (fun j => x2 (ix2 0 j)) (fun j => x3 (ix2 0 j)) (fun j => x4 (ix2 0 j)) j := by
  pointwise [val_main_v20]
  exact h_apply x0 x2 x3 x4 i j

theorem p_apply (i : Fin 4096) (k : Fin 8192) :
    val_main_v19 (F := Ideal) x0 x1 x2 x3 x4 (ix2 i k)
      = Step.If.p (fun j => x0 (ix2 i j)) (fun j => x2 (ix2 0 j)) (fun j => x3 (ix2 0 j)) (fun j => x4 (ix2 0 j)) (fun j k => x1 (ix2 j k)) k := by
  pointwise [val_main_v19, val_main_v18]
  simp only [h_apply]
  rfl

/-- What the run of the reference leaves. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i, r.2.mem ((c.tc : Thread nD τ).loc main_v19) i = Step.If.p (fun j => m ((c.tc : Thread nD τ).loc main_arg0) (ix2 (i 0) j))
          (fun j => m ((c.tc : Thread nD τ).loc main_arg2) (ix2 0 j)) (fun j => m ((c.tc : Thread nD τ).loc main_arg3) (ix2 0 j))
          (fun j => m ((c.tc : Thread nD τ).loc main_arg4) (ix2 0 j)) (fun j k => m ((c.tc : Thread nD τ).loc main_arg1) (ix2 j k)) (i 1))
      ∧ ∀ i, r.2.mem ((c.tc : Thread nD τ).loc main_v20) i = Step.If.h (fun j => m ((c.tc : Thread nD τ).loc main_arg0) (ix2 (i 0) j))
          (fun j => m ((c.tc : Thread nD τ).loc main_arg2) (ix2 0 j)) (fun j => m ((c.tc : Thread nD τ).loc main_arg3) (ix2 0 j))
          (fun j => m ((c.tc : Thread nD τ).loc main_arg4) (ix2 0 j)) (i 1) :=
  (θ_run defs _ _).mono (fun r h c => ⟨fun i => by
      rw [(h c).1, val_main_v19_eq, ← ix2_eta i]
      exact p_apply _ _ _ _ _ _ _, fun i => by
      rw [(h c).2.1, val_main_v20_eq, ← ix2_eta i]
      exact hb_apply _ _ _ _ _ _⟩) (Cert.IfReferenceIdeal.Value.run m ρ)

end Cert.IfReferenceIdeal

end
-- ==== Proof.If.Claims.lean ====
module

public import proofs.«01_k».proof.Defs
public import proofs.«01_k».proof.Proof.Gen.IfKernel
public import proofs.«01_k».proof.Proof.If.KVal
public import proofs.«01_k».proof.Proof.If.RVal
public import Idealize.ShloMosaic.Lib.Quiescent

@[expose] public section

set_option maxRecDepth 16384

noncomputable section

/-! # The claims about the normed, modulated and projected input -/

namespace Cert.Proof.If

open Idealize.ShloMosaic Idealize.ShloMosaic.TcCoe Idealize.ShloMosaic.Tactic Idealize.SL.Sem

/-- The two printed programs are the same text. -/
theorem defs_eq : Cert.IfKernel.defs (F := Bits) = Cert.IfKernelIdeal.defs (F := Bits) := by sl_kernel_rfl

theorem main_eq : Cert.IfKernel.main (F := Bits) = Cert.IfKernelIdeal.main (F := Bits) := by sl_kernel_rfl

theorem frame_kernel : Cert.quiescent_IfKernel := fun m ρ _ => by
  have h := Cert.IfKernelIdeal.Gen.frame (F := Bits) m ρ
  rw [← defs_eq, ← main_eq] at h
  exact h

theorem frame_ideal : Cert.quiescent_IfKernelIdeal := fun m ρ _ => Cert.IfKernelIdeal.Gen.frame m ρ

theorem frame_reference : Cert.quiescent_IfReferenceIdeal := fun m ρ _ =>
  (θ_run Cert.IfReferenceIdeal.defs _ _).mono
    (fun r h => ⟨fun c => (h c).2.2, sem_eq_zero_of_no_sems (by decide) r.2⟩)
    (Cert.IfReferenceIdeal.Value.run (F := Ideal) m ρ)

theorem algebraic : Cert.algebraic_IfKernelIdeal_IfReferenceIdeal := by
  intro m ρ m' ρ' _ hagree
  refine ⟨fun c => Cert.IfKernelIdeal.pArr m c, fun c => Cert.IfKernelIdeal.hArr m c, ?_, ?_⟩
  · exact (θ_run _ _ _).mono (fun r h c => ⟨(h.1 c).1, (h.1 c).2, h.2.1 c⟩)
      (θ_run_and (Cert.IfKernelIdeal.run_values m ρ) (Cert.IfKernelIdeal.Gen.frame m ρ))
  · refine (θ_run _ _ _).mono (fun r h c => ?_) (θ_run_and (Cert.IfReferenceIdeal.run_values m' ρ') (Cert.IfReferenceIdeal.Value.run (F := Ideal) m' ρ'))
    obtain ⟨e0, e1, e2, e3, e4⟩ := hagree c
    refine ⟨?_, ?_, (h.2 c).2.2⟩
    · funext i
      rw [(h.1 c).1 i, e0, e1, e2, e3, e4]
      rfl
    · funext i
      rw [(h.1 c).2 i, e0, e2, e3, e4]
      rfl

end Cert.Proof.If

end
-- ==== Proof.lean ====
module

public import proofs.«01_k».proof.Defs
public import proofs.«01_k».proof.Proof.Gen.InReferenceIdeal.Run
public import proofs.«01_k».proof.Proof.Gen.InReferenceIdeal.Read
public import proofs.«01_k».proof.Proof.Gen.InKernel
public import proofs.«01_k».proof.Proof.Gen.InKernelIdeal
public import proofs.«01_k».proof.Proof.Gen.InReferenceIdeal
public import proofs.«01_k».proof.Proof.Gen.BReferenceIdeal.Run
public import proofs.«01_k».proof.Proof.Gen.BReferenceIdeal.Read
public import proofs.«01_k».proof.Proof.Gen.BKernel
public import proofs.«01_k».proof.Proof.Gen.BKernelIdeal
public import proofs.«01_k».proof.Proof.Gen.BReferenceIdeal
public import proofs.«01_k».proof.Proof.Gen.Pre_b_finite
public import proofs.«01_k».proof.Proof.Gen.OutReferenceIdeal.Run
public import proofs.«01_k».proof.Proof.Gen.OutReferenceIdeal.Read
public import proofs.«01_k».proof.Proof.Gen.OutKernel
public import proofs.«01_k».proof.Proof.Gen.OutKernelIdeal
public import proofs.«01_k».proof.Proof.Gen.OutReferenceIdeal
public import proofs.«01_k».proof.Proof.Gen.OutKernelIdeal.Value
public import proofs.«01_k».proof.Proof.Gen.On_gate_columns
public import proofs.«01_k».proof.Proof.Gen.BfKernel
public import proofs.«01_k».proof.Proof.Gen.BfKernelIdeal
public import proofs.«01_k».proof.Proof.Gen.BfReferenceIdeal
public import proofs.«01_k».proof.Proof.Gen.BfReferenceIdeal.Run
public import proofs.«01_k».proof.Proof.Gen.BfReferenceIdeal.Read
public import proofs.«01_k».proof.Proof.Gen.BfKernelIdeal.Loops
public import proofs.«01_k».proof.Proof.Gen.Pre_a_finite
public import proofs.«01_k».proof.Proof.Gen.AbKernel
public import proofs.«01_k».proof.Proof.Gen.AbKernelIdeal
public import proofs.«01_k».proof.Proof.Gen.AbKernelIdeal.Frame
public import proofs.«01_k».proof.Proof.Gen.AbReferenceIdeal
public import proofs.«01_k».proof.Proof.Gen.AbReferenceIdeal.Run
public import proofs.«01_k».proof.Proof.Gen.AbReferenceIdeal.Read
public import proofs.«01_k».proof.Proof.Gen.AfKernel
public import proofs.«01_k».proof.Proof.Gen.AfKernelIdeal
public import proofs.«01_k».proof.Proof.Gen.AfKernelIdeal.Frame
public import proofs.«01_k».proof.Proof.Gen.AfReferenceIdeal
public import proofs.«01_k».proof.Proof.Gen.AfReferenceIdeal.Run
public import proofs.«01_k».proof.Proof.Gen.AfReferenceIdeal.Read
public import proofs.«01_k».proof.Proof.Gen.IfKernel
public import proofs.«01_k».proof.Proof.Gen.IfKernelIdeal
public import proofs.«01_k».proof.Proof.Gen.IfKernelIdeal.Frame
public import proofs.«01_k».proof.Proof.Gen.IfKernelIdeal.Value
public import proofs.«01_k».proof.Proof.Gen.IfReferenceIdeal
public import proofs.«01_k».proof.Proof.Gen.IfReferenceIdeal.Run
public import proofs.«01_k».proof.Proof.Gen.IfReferenceIdeal.Read
public import proofs.«01_k».proof.Proof.In.Claims
public import proofs.«01_k».proof.Proof.B.Claims
public import proofs.«01_k».proof.Proof.Out.Claims
public import proofs.«01_k».proof.Proof.Bf.Claims
public import proofs.«01_k».proof.Proof.Ab.Claims
public import proofs.«01_k».proof.Proof.Af.Claims
public import proofs.«01_k».proof.Proof.If.Claims

@[expose] public section

noncomputable section

namespace Cert.Proof

theorem claim : Cert.Claim :=
  ⟨Cert.InKernel.Gen.facts, Cert.InKernelIdeal.Gen.facts, Cert.InReferenceIdeal.Gen.facts,
    Cert.BKernel.Gen.facts, Cert.BKernelIdeal.Gen.facts, Cert.BReferenceIdeal.Gen.facts,
    Cert.OutKernel.Gen.facts, Cert.OutKernelIdeal.Gen.facts, Cert.OutReferenceIdeal.Gen.facts,
    Cert.BfKernel.Gen.facts, Cert.BfKernelIdeal.Gen.facts, Cert.BfReferenceIdeal.Gen.facts,
    Cert.AbKernel.Gen.facts, Cert.AbKernelIdeal.Gen.facts, Cert.AbReferenceIdeal.Gen.facts,
    Cert.AfKernel.Gen.facts, Cert.AfKernelIdeal.Gen.facts, Cert.AfReferenceIdeal.Gen.facts,
    Cert.IfKernel.Gen.facts, Cert.IfKernelIdeal.Gen.facts, Cert.IfReferenceIdeal.Gen.facts,
    Cert.Pre_b_finite.Gen.facts, Cert.Pre_a_finite.Gen.facts, Cert.On_gate_columns.Gen.facts,
    In.frame_kernel, In.frame_ideal, In.frame_reference,
    B.frame_kernel, B.frame_ideal, B.frame_ideal_finite, B.frame_reference, B.frame_reference_finite,
    Out.frame_kernel, Out.frame_ideal, Out.frame_reference,
    Bf.frame_kernel, Bf.frame_ideal, Bf.frame_reference,
    Ab.frame_kernel, Ab.frame_ideal, Ab.frame_ideal_finite, Ab.frame_reference, Ab.frame_reference_finite,
    Af.frame_kernel, Af.frame_ideal, Af.frame_reference,
    If.frame_kernel, If.frame_ideal, If.frame_reference,
    trivial, In.algebraic, B.preserves, B.algebraic, trivial, Out.algebraic, Bf.preserves, Bf.algebraic, trivial, Ab.algebraic, trivial, Af.algebraic, trivial, If.algebraic⟩

end Cert.Proof

end
